-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Kernel16Ideal_finite_fwd [hPre_finite_fwd : Cert.Pre_finite_fwd.Facts] (m : (ℓ : Loc Cert.Kernel16Ideal.nD Cert.Kernel16Ideal.τ Cert.Kernel16Ideal.sig) → Buf (Elt Ideal) ℓ) : Prop :=
  ∀ c : Dev Cert.Kernel16Ideal.nD,
    (Cert.Pre_finite_fwd.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3))) = (fun _ => 1#1)

def Pre_Reference16Ideal (m : (ℓ : Loc Cert.Reference16Ideal.nD Cert.Reference16Ideal.τ Cert.Reference16Ideal.sig) → Buf (Elt Ideal) ℓ) : Prop :=
  True

def Pre_Reference16Ideal_finite_fwd [hPre_finite_fwd : Cert.Pre_finite_fwd.Facts] (m : (ℓ : Loc Cert.Reference16Ideal.nD Cert.Reference16Ideal.τ Cert.Reference16Ideal.sig) → Buf (Elt Ideal) ℓ) : Prop :=
  ∀ c : Dev Cert.Reference16Ideal.nD,
    (Cert.Pre_finite_fwd.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3))) = (fun _ => 1#1)

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Kernel16Ideal_pre_finite_fwd [hKernel16Ideal : Cert.Kernel16Ideal.Facts] [hPre_finite_fwd : Cert.Pre_finite_fwd.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal_finite_fwd m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Reference16Ideal_pre_finite_fwd [hReference16Ideal : Cert.Reference16Ideal.Facts] [hPre_finite_fwd : Cert.Pre_finite_fwd.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal_finite_fwd m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3)
      ∧ r.2.mem ((c.tc : Thread Cert.Kernel28.nD Cert.Kernel28.τ).loc Cert.Kernel28.main_arg4) = m ((c.tc : Thread Cert.Kernel28.nD Cert.Kernel28.τ).loc Cert.Kernel28.main_arg4)
      ∧ r.2.mem ((c.tc : Thread Cert.Kernel28.nD Cert.Kernel28.τ).loc Cert.Kernel28.main_arg5) = m ((c.tc : Thread Cert.Kernel28.nD Cert.Kernel28.τ).loc Cert.Kernel28.main_arg5))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
      ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
      ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4)
      ∧ r.2.mem ((c.tc : Thread Cert.Reference28Ideal.nD Cert.Reference28Ideal.τ).loc Cert.Reference28Ideal.main_arg5) = m ((c.tc : Thread Cert.Reference28Ideal.nD Cert.Reference28Ideal.τ).loc Cert.Reference28Ideal.main_arg5))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v135)) (v1 : (c : Dev Cert.KernelIdeal.nD) → Buf (Elt Ideal) ((c.tc : Thread Cert.KernelIdeal.nD Cert.KernelIdeal.τ).loc Cert.KernelIdeal.main_v137)) (v2 : (c : Dev Cert.KernelIdeal.nD) → Buf (Elt Ideal) ((c.tc : Thread Cert.KernelIdeal.nD Cert.KernelIdeal.τ).loc Cert.KernelIdeal.main_v139)) (v3 : (c : Dev Cert.KernelIdeal.nD) → Buf (Elt Ideal) ((c.tc : Thread Cert.KernelIdeal.nD Cert.KernelIdeal.τ).loc Cert.KernelIdeal.main_v131)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v135) = v0 c
          ∧ r.2.mem ((c.tc : Thread Cert.KernelIdeal.nD Cert.KernelIdeal.τ).loc Cert.KernelIdeal.main_v137) = v1 c
          ∧ r.2.mem ((c.tc : Thread Cert.KernelIdeal.nD Cert.KernelIdeal.τ).loc Cert.KernelIdeal.main_v139) = v2 c
          ∧ r.2.mem ((c.tc : Thread Cert.KernelIdeal.nD Cert.KernelIdeal.τ).loc Cert.KernelIdeal.main_v131) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_v56) = v2 c
          ∧ r.2.mem ((c.tc : Thread Cert.ReferenceIdeal.nD Cert.ReferenceIdeal.τ).loc Cert.ReferenceIdeal.main_v78) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v9) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v9) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v9) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v8) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  IdealRules.named_const.Statement Cert.Kernel16Ideal.κ "mask" .f32 0xF149F2CA#32 ⊥

def algebraic_Kernel16Ideal_Reference16Ideal_pre_finite_fwd [hKernel16Ideal : Cert.Kernel16Ideal.Facts] [hReference16Ideal : Cert.Reference16Ideal.Facts] [hPre_finite_fwd : Cert.Pre_finite_fwd.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal_finite_fwd m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v54)) (v1 : (c : Dev Cert.Kernel16Ideal.nD) → Buf (Elt Ideal) ((c.tc : Thread Cert.Kernel16Ideal.nD Cert.Kernel16Ideal.τ).loc Cert.Kernel16Ideal.main_v56)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v54) = v0 c
          ∧ r.2.mem ((c.tc : Thread Cert.Kernel16Ideal.nD Cert.Kernel16Ideal.τ).loc Cert.Kernel16Ideal.main_v56) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v31) = v0 c
          ∧ r.2.mem ((c.tc : Thread Cert.Reference16Ideal.nD Cert.Reference16Ideal.τ).loc Cert.Reference16Ideal.main_v34) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v51) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v8) = v0 c
          ∧ r.2.mem ((c.tc : Thread Cert.Reference18Ideal.nD Cert.Reference18Ideal.τ).loc Cert.Reference18Ideal.main_v7) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v60) = v0 c
          ∧ r.2.mem ((c.tc : Thread Cert.Reference19Ideal.nD Cert.Reference19Ideal.τ).loc Cert.Reference19Ideal.main_v57) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v9) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v4) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v2) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v3) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v45) = v0 c
          ∧ r.2.mem ((c.tc : Thread Cert.Reference24Ideal.nD Cert.Reference24Ideal.τ).loc Cert.Reference24Ideal.main_v46) = v1 c
          ∧ r.2.mem ((c.tc : Thread Cert.Reference24Ideal.nD Cert.Reference24Ideal.τ).loc Cert.Reference24Ideal.main_v47) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v35) = v0 c
          ∧ r.2.mem ((c.tc : Thread Cert.Reference25Ideal.nD Cert.Reference25Ideal.τ).loc Cert.Reference25Ideal.main_v18) = v1 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v12) = v0 c
          ∧ r.2.mem ((c.tc : Thread Cert.Reference26Ideal.nD Cert.Reference26Ideal.τ).loc Cert.Reference26Ideal.main_v13) = v1 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_arg3) = v0 c
          ∧ r.2.mem ((c.tc : Thread Cert.Reference27Ideal.nD Cert.Reference27Ideal.τ).loc Cert.Reference27Ideal.main_v37) = v1 c
          ∧ r.2.mem ((c.tc : Thread Cert.Reference27Ideal.nD Cert.Reference27Ideal.τ).loc Cert.Reference27Ideal.main_v20) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)
      ∧ m' ((c.tc : Thread Cert.Reference28Ideal.nD Cert.Reference28Ideal.τ).loc Cert.Reference28Ideal.main_arg4) = m ((c.tc : Thread Cert.Kernel28Ideal.nD Cert.Kernel28Ideal.τ).loc Cert.Kernel28Ideal.main_arg4)
      ∧ m' ((c.tc : Thread Cert.Reference28Ideal.nD Cert.Reference28Ideal.τ).loc Cert.Reference28Ideal.main_arg5) = m ((c.tc : Thread Cert.Kernel28Ideal.nD Cert.Kernel28Ideal.τ).loc Cert.Kernel28Ideal.main_arg5)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)) (v3 : (c : Dev Cert.Kernel28Ideal.nD) → Buf (Elt Ideal) ((c.tc : Thread Cert.Kernel28Ideal.nD Cert.Kernel28Ideal.τ).loc Cert.Kernel28Ideal.main_v0_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_v0_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
          ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
          ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v52) = v0 c
          ∧ r.2.mem ((c.tc : Thread Cert.Reference28Ideal.nD Cert.Reference28Ideal.τ).loc Cert.Reference28Ideal.main_v73) = v1 c
          ∧ r.2.mem ((c.tc : Thread Cert.Reference28Ideal.nD Cert.Reference28Ideal.τ).loc Cert.Reference28Ideal.main_v56) = v2 c
          ∧ r.2.mem ((c.tc : Thread Cert.Reference28Ideal.nD Cert.Reference28Ideal.τ).loc Cert.Reference28Ideal.main_v35) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3)
          ∧ r.2.mem ((c.tc : Thread Cert.Reference28Ideal.nD Cert.Reference28Ideal.τ).loc Cert.Reference28Ideal.main_arg4) = m' ((c.tc : Thread Cert.Reference28Ideal.nD Cert.Reference28Ideal.τ).loc Cert.Reference28Ideal.main_arg4)
          ∧ r.2.mem ((c.tc : Thread Cert.Reference28Ideal.nD Cert.Reference28Ideal.τ).loc Cert.Reference28Ideal.main_arg5) = m' ((c.tc : Thread Cert.Reference28Ideal.nD Cert.Reference28Ideal.τ).loc Cert.Reference28Ideal.main_arg5))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v13) = v0 c
          ∧ r.2.mem ((c.tc : Thread Cert.Reference29Ideal.nD Cert.Reference29Ideal.τ).loc Cert.Reference29Ideal.main_v26) = v1 c
          ∧ r.2.mem ((c.tc : Thread Cert.Reference29Ideal.nD Cert.Reference29Ideal.τ).loc Cert.Reference29Ideal.main_v27) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v13) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hPre_finite : Cert.Pre_finite.Facts) (hPre_finite_fwd : Cert.Pre_finite_fwd.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Kernel16Ideal_pre_finite_fwd (hKernel16Ideal := hKernel16Ideal) (hPre_finite_fwd := hPre_finite_fwd)
    ∧ quiescent_Reference16Ideal (hReference16Ideal := hReference16Ideal)
    ∧ quiescent_Reference16Ideal_pre_finite_fwd (hReference16Ideal := hReference16Ideal) (hPre_finite_fwd := hPre_finite_fwd)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal_pre_finite_fwd (hKernel16Ideal := hKernel16Ideal) (hReference16Ideal := hReference16Ideal) (hPre_finite_fwd := hPre_finite_fwd)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
-- ==== Pre_finite.lean ====
abbrev S8208x1024 : Shape := ⟨2, ![8208, 1024]⟩
abbrev S8208x16 : Shape := ⟨2, ![8208, 16]⟩
abbrev S_ : Shape := ⟨0, ![]⟩

class Facts : Prop where
  bcast_S_S8208x1024 : S_.BroadcastsInDim S8208x1024 (![] : Fin 0 → Fin S8208x1024.rank)
  reducesTo_S8208x1024_S_d0_1 : S8208x1024.ReducesTo [0, 1] S_
  h_S_ : 0 < S_.numel
  bcast_S_S8208x16 : S_.BroadcastsInDim S8208x16 (![] : Fin 0 → Fin S8208x16.rank)
  reducesTo_S8208x16_S_d0_1 : S8208x16.ReducesTo [0, 1] S_

variable [Facts]

def fn_part1 {F : FTy → Type} [FloatOps F] (main_arg4 : FVec F S8208x1024 .f32) (main_v13 : IVec S_ 1) (main_v16 : IVec S8208x16 1) : IVec S_ 1 :=
  let main_c_5 : IVec S_ 1 := constantI S_ 1 1#1
  let main_v17 : IVec S_ 1 := (fun x v => Host.reduce IntOp.andi x v reducesTo_S8208x16_S_d0_1 h_S_) main_v16 main_c_5
  let main_v18 : IVec S_ 1 := andi main_v13 main_v17
  let main_v19 : FVec F S8208x1024 .f32 := Host.absf main_arg4
  let main_cst_6 : FVec F S_ .f32 := constant S_ .f32 0x7F800000#32
  let main_v20 : FVec F S8208x1024 .f32 := broadcastInDim S8208x1024 ![] bcast_S_S8208x1024 main_cst_6
  let main_v21 : IVec S8208x1024 1 := cmpf .olt main_v19 main_v20
  let main_c_7 : IVec S_ 1 := constantI S_ 1 1#1
  let main_v22 : IVec S_ 1 := (fun x v => Host.reduce IntOp.andi x v reducesTo_S8208x1024_S_d0_1 h_S_) main_v21 main_c_7
  let main_v23 : IVec S_ 1 := andi main_v18 main_v22
  main_v23

def fn {F : FTy → Type} [FloatOps F] (main_arg0 : FVec F S8208x1024 .f32) (main_arg1 : FVec F S8208x1024 .f32) (main_arg2 : FVec F S8208x1024 .f32) (main_arg3 : FVec F S8208x16 .f32) (main_arg4 : FVec F S8208x1024 .f32) : IVec S_ 1 :=
  let main_v0 : FVec F S8208x1024 .f32 := Host.absf main_arg0
  let main_cst : FVec F S_ .f32 := constant S_ .f32 0x7F800000#32
  let main_v1 : FVec F S8208x1024 .f32 := broadcastInDim S8208x1024 ![] bcast_S_S8208x1024 main_cst
  let main_v2 : IVec S8208x1024 1 := cmpf .olt main_v0 main_v1
  let main_c : IVec S_ 1 := constantI S_ 1 1#1
  let main_v3 : IVec S_ 1 := (fun x v => Host.reduce IntOp.andi x v reducesTo_S8208x1024_S_d0_1 h_S_) main_v2 main_c
  let main_v4 : FVec F S8208x1024 .f32 := Host.absf main_arg1
  let main_cst_0 : FVec F S_ .f32 := constant S_ .f32 0x7F800000#32
  let main_v5 : FVec F S8208x1024 .f32 := broadcastInDim S8208x1024 ![] bcast_S_S8208x1024 main_cst_0
  let main_v6 : IVec S8208x1024 1 := cmpf .olt main_v4 main_v5
  let main_c_1 : IVec S_ 1 := constantI S_ 1 1#1
  let main_v7 : IVec S_ 1 := (fun x v => Host.reduce IntOp.andi x v reducesTo_S8208x1024_S_d0_1 h_S_) main_v6 main_c_1
  let main_v8 : IVec S_ 1 := andi main_v3 main_v7
  let main_v9 : FVec F S8208x1024 .f32 := Host.absf main_arg2
  let main_cst_2 : FVec F S_ .f32 := constant S_ .f32 0x7F800000#32
  let main_v10 : FVec F S8208x1024 .f32 := broadcastInDim S8208x1024 ![] bcast_S_S8208x1024 main_cst_2
  let main_v11 : IVec S8208x1024 1 := cmpf .olt main_v9 main_v10
  let main_c_3 : IVec S_ 1 := constantI S_ 1 1#1
  let main_v12 : IVec S_ 1 := (fun x v => Host.reduce IntOp.andi x v reducesTo_S8208x1024_S_d0_1 h_S_) main_v11 main_c_3
  let main_v13 : IVec S_ 1 := andi main_v8 main_v12
  let main_v14 : FVec F S8208x16 .f32 := Host.absf main_arg3
  let main_cst_4 : FVec F S_ .f32 := constant S_ .f32 0x7F800000#32
  let main_v15 : FVec F S8208x16 .f32 := broadcastInDim S8208x16 ![] bcast_S_S8208x16 main_cst_4
  let main_v16 : IVec S8208x16 1 := cmpf .olt main_v14 main_v15
  fn_part1 (F := F) main_arg4 main_v13 main_v16
-- ==== Pre_finite_fwd.lean ====
abbrev S8208x1024 : Shape := ⟨2, ![8208, 1024]⟩
abbrev S8208x16 : Shape := ⟨2, ![8208, 16]⟩
abbrev S_ : Shape := ⟨0, ![]⟩

class Facts : Prop where
  bcast_S_S8208x1024 : S_.BroadcastsInDim S8208x1024 (![] : Fin 0 → Fin S8208x1024.rank)
  reducesTo_S8208x1024_S_d0_1 : S8208x1024.ReducesTo [0, 1] S_
  h_S_ : 0 < S_.numel
  bcast_S_S8208x16 : S_.BroadcastsInDim S8208x16 (![] : Fin 0 → Fin S8208x16.rank)
  reducesTo_S8208x16_S_d0_1 : S8208x16.ReducesTo [0, 1] S_

variable [Facts]

def fn_part1 {F : FTy → Type} [FloatOps F] (main_v13 : IVec S_ 1) (main_v16 : IVec S8208x16 1) : IVec S_ 1 :=
  let main_c_5 : IVec S_ 1 := constantI S_ 1 1#1
  let main_v17 : IVec S_ 1 := (fun x v => Host.reduce IntOp.andi x v reducesTo_S8208x16_S_d0_1 h_S_) main_v16 main_c_5
  let main_v18 : IVec S_ 1 := andi main_v13 main_v17
  main_v18

def fn {F : FTy → Type} [FloatOps F] (main_arg0 : FVec F S8208x1024 .f32) (main_arg1 : FVec F S8208x1024 .f32) (main_arg2 : FVec F S8208x1024 .f32) (main_arg3 : FVec F S8208x16 .f32) : IVec S_ 1 :=
  let main_v0 : FVec F S8208x1024 .f32 := Host.absf main_arg0
  let main_cst : FVec F S_ .f32 := constant S_ .f32 0x7F800000#32
  let main_v1 : FVec F S8208x1024 .f32 := broadcastInDim S8208x1024 ![] bcast_S_S8208x1024 main_cst
  let main_v2 : IVec S8208x1024 1 := cmpf .olt main_v0 main_v1
  let main_c : IVec S_ 1 := constantI S_ 1 1#1
  let main_v3 : IVec S_ 1 := (fun x v => Host.reduce IntOp.andi x v reducesTo_S8208x1024_S_d0_1 h_S_) main_v2 main_c
  let main_v4 : FVec F S8208x1024 .f32 := Host.absf main_arg1
  let main_cst_0 : FVec F S_ .f32 := constant S_ .f32 0x7F800000#32
  let main_v5 : FVec F S8208x1024 .f32 := broadcastInDim S8208x1024 ![] bcast_S_S8208x1024 main_cst_0
  let main_v6 : IVec S8208x1024 1 := cmpf .olt main_v4 main_v5
  let main_c_1 : IVec S_ 1 := constantI S_ 1 1#1
  let main_v7 : IVec S_ 1 := (fun x v => Host.reduce IntOp.andi x v reducesTo_S8208x1024_S_d0_1 h_S_) main_v6 main_c_1
  let main_v8 : IVec S_ 1 := andi main_v3 main_v7
  let main_v9 : FVec F S8208x1024 .f32 := Host.absf main_arg2
  let main_cst_2 : FVec F S_ .f32 := constant S_ .f32 0x7F800000#32
  let main_v10 : FVec F S8208x1024 .f32 := broadcastInDim S8208x1024 ![] bcast_S_S8208x1024 main_cst_2
  let main_v11 : IVec S8208x1024 1 := cmpf .olt main_v9 main_v10
  let main_c_3 : IVec S_ 1 := constantI S_ 1 1#1
  let main_v12 : IVec S_ 1 := (fun x v => Host.reduce IntOp.andi x v reducesTo_S8208x1024_S_d0_1 h_S_) main_v11 main_c_3
  let main_v13 : IVec S_ 1 := andi main_v8 main_v12
  let main_v14 : FVec F S8208x16 .f32 := Host.absf main_arg3
  let main_cst_4 : FVec F S_ .f32 := constant S_ .f32 0x7F800000#32
  let main_v15 : FVec F S8208x16 .f32 := broadcastInDim S8208x16 ![] bcast_S_S8208x16 main_cst_4
  let main_v16 : IVec S8208x16 1 := cmpf .olt main_v14 main_v15
  fn_part1 (F := F) main_v13 main_v16
-- ==== Kernel.lean ====
abbrev S8208x1024 : Shape := ⟨2, ![8208, 1024]⟩
abbrev S8208x16 : Shape := ⟨2, ![8208, 16]⟩
abbrev S8208x16x64 : Shape := ⟨3, ![8208, 16, 64]⟩
abbrev S16x8208x8208 : Shape := ⟨3, ![16, 8208, 8208]⟩
abbrev S_ : Shape := ⟨0, ![]⟩
abbrev S16x8208 : Shape := ⟨2, ![16, 8208]⟩
abbrev S16x8208x1 : Shape := ⟨3, ![16, 8208, 1]⟩
abbrev S16x1x8208 : Shape := ⟨3, ![16, 1, 8208]⟩
abbrev S8208 : Shape := ⟨1, ![8208]⟩
abbrev S1x8208 : Shape := ⟨2, ![1, 8208]⟩
abbrev S8208x1 : Shape := ⟨2, ![8208, 1]⟩
abbrev S8208x8208 : Shape := ⟨2, ![8208, 8208]⟩
abbrev S16x64x8208 : Shape := ⟨3, ![16, 64, 8208]⟩
abbrev S8320x1024 : Shape := ⟨2, ![8320, 1024]⟩
abbrev S8320x16 : Shape := ⟨2, ![8320, 16]⟩
abbrev S8320x16x64 : Shape := ⟨3, ![8320, 16, 64]⟩
abbrev S8320x16x1 : Shape := ⟨3, ![8320, 16, 1]⟩
abbrev S8320x16x55 : Shape := ⟨3, ![8320, 16, 55]⟩
abbrev S8320x16x128 : Shape := ⟨3, ![8320, 16, 128]⟩
abbrev S8320x2048 : Shape := ⟨2, ![8320, 2048]⟩
abbrev S8320x16x61 : Shape := ⟨3, ![8320, 16, 61]⟩
abbrev S8320x128 : Shape := ⟨2, ![8320, 128]⟩
abbrev S640x128 : Shape := ⟨2, ![640, 128]⟩
abbrev S640x640 : Shape := ⟨2, ![640, 640]⟩
abbrev S8208x16x128 : Shape := ⟨3, ![8208, 16, 128]⟩
abbrev S8208x16x1 : Shape := ⟨3, ![8208, 16, 1]⟩

abbrev nBuf : Space → Nat
  | .hbm => 187
  | .vmem => 14
  | .smem => 0
  | _ => 0

abbrev hbmTy0_0 (i : Nat) : BufTy := match i % 128 with
  | 0 => ⟨S8208x1024, .f32⟩
  | 1 => ⟨S8208x1024, .f32⟩
  | 2 => ⟨S8208x1024, .f32⟩
  | 3 => ⟨S8208x16, .f32⟩
  | 4 => ⟨S8208x1024, .f32⟩
  | 5 => ⟨S8208x16x64, .f32⟩
  | 6 => ⟨S8208x16x64, .f32⟩
  | 7 => ⟨S16x8208x8208, .f32⟩
  | 8 => ⟨S_, .f32⟩
  | 9 => ⟨S16x8208x8208, .f32⟩
  | 10 => ⟨S16x8208x8208, .f32⟩
  | 11 => ⟨S16x8208, .f32⟩
  | 12 => ⟨S16x8208x1, .f32⟩
  | 13 => ⟨S16x8208x8208, .f32⟩
  | 14 => ⟨S16x8208x8208, .f32⟩
  | 15 => ⟨S16x1x8208, .f32⟩
  | 16 => ⟨S16x8208x8208, .f32⟩
  | 17 => ⟨S16x8208x8208, .f32⟩
  | 18 => ⟨S8208, .i32⟩
  | 19 => ⟨S1x8208, .i32⟩
  | 20 => ⟨S8208x1, .i32⟩
  | 21 => ⟨S8208x8208, .i32⟩
  | 22 => ⟨S8208x8208, .i32⟩
  | 23 => ⟨S8208x8208, .i1⟩
  | 24 => ⟨S_, .f32⟩
  | 25 => ⟨S_, .f32⟩
  | 26 => ⟨S16x8208x8208, .i1⟩
  | 27 => ⟨S16x8208x8208, .f32⟩
  | 28 => ⟨S16x8208x8208, .f32⟩
  | 29 => ⟨S_, .f32⟩
  | 30 => ⟨S16x8208, .f32⟩
  | 31 => ⟨S16x8208x1, .f32⟩
  | 32 => ⟨S16x8208x8208, .f32⟩
  | 33 => ⟨S16x8208x8208, .f32⟩
  | 34 => ⟨S16x8208x8208, .f32⟩
  | 35 => ⟨S_, .f32⟩
  | 36 => ⟨S16x8208, .f32⟩
  | 37 => ⟨S16x8208x1, .f32⟩
  | 38 => ⟨S16x8208x8208, .f32⟩
  | 39 => ⟨S16x8208x8208, .f32⟩
  | 40 => ⟨S8208x16x64, .f32⟩
  | 41 => ⟨S16x64x8208, .f32⟩
  | 42 => ⟨S8208x16x64, .f32⟩
  | 43 => ⟨S8208x1024, .f32⟩
  | 44 => ⟨S16x8208, .f32⟩
  | 45 => ⟨S16x8208, .f32⟩
  | 46 => ⟨S8208x16, .f32⟩
  | 47 => ⟨S8208x1024, .f32⟩
  | 48 => ⟨S8208x16x64, .f32⟩
  | 49 => ⟨S_, .f32⟩
  | 50 => ⟨S8208x16, .f32⟩
  | 51 => ⟨S_, .i32⟩
  | 52 => ⟨S_, .f32⟩
  | 53 => ⟨S8320x1024, .f32⟩
  | 54 => ⟨S_, .i32⟩
  | 55 => ⟨S_, .f32⟩
  | 56 => ⟨S8320x1024, .f32⟩
  | 57 => ⟨S_, .i32⟩
  | 58 => ⟨S_, .f32⟩
  | 59 => ⟨S8320x1024, .f32⟩
  | 60 => ⟨S_, .i32⟩
  | 61 => ⟨S_, .f32⟩
  | 62 => ⟨S8320x16, .f32⟩
  | 63 => ⟨S_, .i32⟩
  | 64 => ⟨S_, .f32⟩
  | 65 => ⟨S8320x1024, .f32⟩
  | 66 => ⟨S_, .i32⟩
  | 67 => ⟨S_, .f32⟩
  | 68 => ⟨S8320x16, .f32⟩
  | 69 => ⟨S_, .i32⟩
  | 70 => ⟨S_, .f32⟩
  | 71 => ⟨S8320x16, .f32⟩
  | 72 => ⟨S8320x16, .bf16⟩
  | 73 => ⟨S8320x16, .f32⟩
  | 74 => ⟨S8320x16, .f32⟩
  | 75 => ⟨S8320x16, .bf16⟩
  | 76 => ⟨S8320x16, .f32⟩
  | 77 => ⟨S8320x16, .f32⟩
  | 78 => ⟨S8320x16, .bf16⟩
  | 79 => ⟨S8320x16, .f32⟩
  | 80 => ⟨S8320x16, .f32⟩
  | 81 => ⟨S8320x16, .bf16⟩
  | 82 => ⟨S8320x16, .f32⟩
  | 83 => ⟨S8320x16, .f32⟩
  | 84 => ⟨S8320x16, .bf16⟩
  | 85 => ⟨S8320x16, .f32⟩
  | 86 => ⟨S8320x16, .f32⟩
  | 87 => ⟨S8320x16, .bf16⟩
  | 88 => ⟨S8320x16, .f32⟩
  | 89 => ⟨S8320x16, .f32⟩
  | 90 => ⟨S8320x16, .bf16⟩
  | 91 => ⟨S8320x16, .f32⟩
  | 92 => ⟨S8320x16, .f32⟩
  | 93 => ⟨S8320x16, .bf16⟩
  | 94 => ⟨S8320x16, .f32⟩
  | 95 => ⟨S8320x16, .f32⟩
  | 96 => ⟨S8320x16, .bf16⟩
  | 97 => ⟨S8320x16, .f32⟩
  | 98 => ⟨S_, .f32⟩
  | 99 => ⟨S8320x1024, .f32⟩
  | 100 => ⟨S8320x1024, .f32⟩
  | 101 => ⟨S8320x16x64, .f32⟩
  | 102 => ⟨S8320x16x1, .f32⟩
  | 103 => ⟨S8320x16x1, .f32⟩
  | 104 => ⟨S8320x16x1, .f32⟩
  | 105 => ⟨S_, .f32⟩
  | 106 => ⟨S8320x16x1, .f32⟩
  | 107 => ⟨S_, .f32⟩
  | 108 => ⟨S8320x16x1, .f32⟩
  | 109 => ⟨S_, .f32⟩
  | 110 => ⟨S8320x16x1, .f32⟩
  | 111 => ⟨S8320x16x1, .f32⟩
  | 112 => ⟨S8320x16x1, .f32⟩
  | 113 => ⟨S8320x16x1, .f32⟩
  | 114 => ⟨S_, .f32⟩
  | 115 => ⟨S8320x16x55, .f32⟩
  | 116 => ⟨S8320x16x128, .f32⟩
  | 117 => ⟨S8320x2048, .f32⟩
  | 118 => ⟨S8320x2048, .bf16⟩
  | 119 => ⟨S8320x16, .f32⟩
  | 120 => ⟨S8320x16, .f32⟩
  | 121 => ⟨S8320x16, .f32⟩
  | 122 => ⟨S8320x16x64, .f32⟩
  | 123 => ⟨S_, .f32⟩
  | 124 => ⟨S8320x16x1, .f32⟩
  | 125 => ⟨S_, .f32⟩
  | 126 => ⟨S8320x16x1, .f32⟩
  | 127 => ⟨S_, .f32⟩
  | _ => ⟨S8208x1024, .f32⟩

abbrev hbmTy0_1 (i : Nat) : BufTy := match i % 128 with
  | 0 => ⟨S8320x16x1, .f32⟩
  | 1 => ⟨S8320x16x1, .f32⟩
  | 2 => ⟨S8320x16x1, .f32⟩
  | 3 => ⟨S8320x16x1, .f32⟩
  | 4 => ⟨S_, .f32⟩
  | 5 => ⟨S8320x16x1, .f32⟩
  | 6 => ⟨S_, .f32⟩
  | 7 => ⟨S8320x16x1, .f32⟩
  | 8 => ⟨S_, .f32⟩
  | 9 => ⟨S8320x16x1, .f32⟩
  | 10 => ⟨S_, .f32⟩
  | 11 => ⟨S8320x16x55, .f32⟩
  | 12 => ⟨S8320x16x128, .f32⟩
  | 13 => ⟨S8320x2048, .f32⟩
  | 14 => ⟨S8320x2048, .bf16⟩
  | 15 => ⟨S8320x16x64, .f32⟩
  | 16 => ⟨S_, .f32⟩
  | 17 => ⟨S8320x16x1, .f32⟩
  | 18 => ⟨S_, .f32⟩
  | 19 => ⟨S8320x16x1, .f32⟩
  | 20 => ⟨S_, .f32⟩
  | 21 => ⟨S8320x16x1, .f32⟩
  | 22 => ⟨S_, .f32⟩
  | 23 => ⟨S8320x16x61, .f32⟩
  | 24 => ⟨S8320x16x128, .f32⟩
  | 25 => ⟨S8320x2048, .f32⟩
  | 26 => ⟨S8320x2048, .bf16⟩
  | 27 => ⟨S8320x16x64, .f32⟩
  | 28 => ⟨S8320x16x1, .f32⟩
  | 29 => ⟨S8320x16x1, .f32⟩
  | 30 => ⟨S8320x16x1, .f32⟩
  | 31 => ⟨S_, .f32⟩
  | 32 => ⟨S8320x16x61, .f32⟩
  | 33 => ⟨S8320x16x128, .f32⟩
  | 34 => ⟨S8320x2048, .f32⟩
  | 35 => ⟨S8320x2048, .bf16⟩
  | 36 => ⟨S8320x2048, .f32⟩
  | 37 => ⟨S8320x2048, .f32⟩
  | 38 => ⟨S8320x2048, .f32⟩
  | 39 => ⟨S8320x16x128, .f32⟩
  | 40 => ⟨S8208x16x128, .f32⟩
  | 41 => ⟨S8320x16x128, .f32⟩
  | 42 => ⟨S8208x16x128, .f32⟩
  | 43 => ⟨S8320x16x128, .f32⟩
  | 44 => ⟨S8208x16x128, .f32⟩
  | 45 => ⟨S8208x16x1, .f32⟩
  | 46 => ⟨S8208x16, .f32⟩
  | 47 => ⟨S8208x16x1, .f32⟩
  | 48 => ⟨S8208x16, .f32⟩
  | 49 => ⟨S8208x16, .f32⟩
  | 50 => ⟨S8208x16x64, .f32⟩
  | 51 => ⟨S8208x1024, .f32⟩
  | 52 => ⟨S_, .f32⟩
  | 53 => ⟨S8208x1024, .f32⟩
  | 54 => ⟨S8208x1024, .f32⟩
  | 55 => ⟨S8208x16x64, .f32⟩
  | 56 => ⟨S8208x1024, .f32⟩
  | 57 => ⟨S8208x16x64, .f32⟩
  | 58 => ⟨S8208x1024, .f32⟩
  | _ => ⟨S8208x1024, .f32⟩

abbrev hbmTy (i : Nat) : BufTy := match i / 128 with
  | 0 => hbmTy0_0 i
  | 1 => hbmTy0_1 i
  | _ => ⟨S8208x1024, .f32⟩

abbrev bufTy : (tb : Table) → Fin (tcTables nBuf tb) → BufTy
  | .hbm, ⟨i, _⟩ => hbmTy i
  | .local _ .vmem, ⟨0, _⟩ => ⟨S8320x128, .bf16⟩
  | .local _ .vmem, ⟨1, _⟩ => ⟨S8320x128, .bf16⟩
  | .local _ .vmem, ⟨2, _⟩ => ⟨S8320x128, .bf16⟩
  | .local _ .vmem, ⟨3, _⟩ => ⟨S8320x128, .bf16⟩
  | .local _ .vmem, ⟨4, _⟩ => ⟨S640x128, .bf16⟩
  | .local _ .vmem, ⟨5, _⟩ => ⟨S640x128, .bf16⟩
  | .local _ .vmem, ⟨6, _⟩ => ⟨S640x128, .bf16⟩
  | .local _ .vmem, ⟨7, _⟩ => ⟨S640x128, .bf16⟩
  | .local _ .vmem, ⟨8, _⟩ => ⟨S8320x128, .f32⟩
  | .local _ .vmem, ⟨9, _⟩ => ⟨S8320x128, .f32⟩
  | .local _ .vmem, ⟨10, _⟩ => ⟨S640x128, .f32⟩
  | .local _ .vmem, ⟨11, _⟩ => ⟨S640x128, .f32⟩
  | .local _ .vmem, ⟨12, _⟩ => ⟨S640x128, .f32⟩
  | .local _ .vmem, ⟨13, _⟩ => ⟨S640x128, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_3 : Ref sig .tc := ⟨.hbm, 49, rfl⟩
abbrev main_v37 : Ref sig .tc := ⟨.hbm, 50, rfl⟩
abbrev main_c : Ref sig .tc := ⟨.hbm, 51, rfl⟩
abbrev main_call1_v0 : Ref sig .tc := ⟨.hbm, 52, rfl⟩
abbrev main_v38 : Ref sig .tc := ⟨.hbm, 53, rfl⟩
abbrev main_c_4 : Ref sig .tc := ⟨.hbm, 54, rfl⟩
abbrev main_call2_v0 : Ref sig .tc := ⟨.hbm, 55, rfl⟩
abbrev main_v39 : Ref sig .tc := ⟨.hbm, 56, rfl⟩
abbrev main_c_5 : Ref sig .tc := ⟨.hbm, 57, rfl⟩
abbrev main_call3_v0 : Ref sig .tc := ⟨.hbm, 58, rfl⟩
abbrev main_v40 : Ref sig .tc := ⟨.hbm, 59, rfl⟩
abbrev main_c_6 : Ref sig .tc := ⟨.hbm, 60, rfl⟩
abbrev main_call4_v0 : Ref sig .tc := ⟨.hbm, 61, rfl⟩
abbrev main_v41 : Ref sig .tc := ⟨.hbm, 62, rfl⟩
abbrev main_c_7 : Ref sig .tc := ⟨.hbm, 63, rfl⟩
abbrev main_call5_v0 : Ref sig .tc := ⟨.hbm, 64, rfl⟩
abbrev main_v42 : Ref sig .tc := ⟨.hbm, 65, rfl⟩
abbrev main_c_8 : Ref sig .tc := ⟨.hbm, 66, rfl⟩
abbrev main_call6_v0 : Ref sig .tc := ⟨.hbm, 67, rfl⟩
abbrev main_v43 : Ref sig .tc := ⟨.hbm, 68, rfl⟩
abbrev main_c_9 : Ref sig .tc := ⟨.hbm, 69, rfl⟩
abbrev main_call7_v0 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_10 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_11 : Ref sig .tc := ⟨.hbm, 105, rfl⟩
abbrev main_v77 : Ref sig .tc := ⟨.hbm, 106, rfl⟩
abbrev main_cst_12 : Ref sig .tc := ⟨.hbm, 107, rfl⟩
abbrev main_v78 : Ref sig .tc := ⟨.hbm, 108, rfl⟩
abbrev main_cst_13 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_14 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_15 : Ref sig .tc := ⟨.hbm, 123, rfl⟩
abbrev main_v91 : Ref sig .tc := ⟨.hbm, 124, rfl⟩
abbrev main_cst_16 : Ref sig .tc := ⟨.hbm, 125, rfl⟩
abbrev main_v92 : Ref sig .tc := ⟨.hbm, 126, rfl⟩
abbrev main_cst_17 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_cst_18 : Ref sig .tc := ⟨.hbm, 132, rfl⟩
abbrev main_v97 : Ref sig .tc := ⟨.hbm, 133, rfl⟩
abbrev main_cst_19 : Ref sig .tc := ⟨.hbm, 134, rfl⟩
abbrev main_v98 : Ref sig .tc := ⟨.hbm, 135, rfl⟩
abbrev main_cst_20 : Ref sig .tc := ⟨.hbm, 136, rfl⟩
abbrev main_v99 : Ref sig .tc := ⟨.hbm, 137, rfl⟩
abbrev main_cst_21 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_cst_22 : Ref sig .tc := ⟨.hbm, 144, rfl⟩
abbrev main_v105 : Ref sig .tc := ⟨.hbm, 145, rfl⟩
abbrev main_cst_23 : Ref sig .tc := ⟨.hbm, 146, rfl⟩
abbrev main_v106 : Ref sig .tc := ⟨.hbm, 147, rfl⟩
abbrev main_cst_24 : Ref sig .tc := ⟨.hbm, 148, rfl⟩
abbrev main_v107 : Ref sig .tc := ⟨.hbm, 149, rfl⟩
abbrev main_cst_25 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_cst_26 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120_0 : Ref sig .tc := ⟨.hbm, 164, rfl⟩
abbrev main_v120_1 : Ref sig .tc := ⟨.hbm, 165, rfl⟩
abbrev main_v120_2 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_cst_27 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 13], ![false, false]⟩

def k0_mult1 (i : grid0.Coords) : BitVec 32 :=
  let arg1 : BitVec 32 := BitVec.ofNat 32 (i 1).val
  let c640_i32 : BitVec 32 := 640#32
  let v9 : BitVec 32 := Scalar.muli arg1 c640_i32
  v9
def k0_off1 (i : grid0.Coords) : Fin 2 → Nat :=
  let arg1 : BitVec 32 := BitVec.ofNat 32 (i 1).val
  let c640_i32 : BitVec 32 := 640#32
  let v9 : BitVec 32 := Scalar.muli arg1 c640_i32
  let v10 : BitVec 32 := v9
  let v11 : Index := Scalar.indexCast v10
  let c0_5 : Index := 0#32
  ![v11.toNat, 0]
@[reducible] def k0_t1_loop (i : grid0.Coords) : Scf.Loop 32 :=
  let arg1 : BitVec 32 := BitVec.ofNat 32 (i 1).val
  let c1_i32 : BitVec 32 := 1#32
  let v39 : BitVec 32 := Scalar.addi arg1 c1_i32
  let c13_i32 : BitVec 32 := 13#32
  let v40 : BitVec 32 := Scalar.subi c13_i32 v39
  let c1_i32_15 : BitVec 32 := 1#32
  let v42 : BitVec 32 := Scalar.divsi v40 c1_i32_15
  let v43 : BitVec 32 := Scalar.muli v42 c1_i32_15
  let v44 : BitVec 32 := Scalar.addi v39 v43
  let c1_i32_16 : BitVec 32 := 1#32
  ⟨v39, v44, c1_i32_16⟩
def k0_mult2 (i : grid0.Coords) (k0_t1 : Fin (k0_t1_loop i).trips) : BitVec 32 :=
  let arg1 : BitVec 32 := BitVec.ofNat 32 (i 1).val
  let c1_i32 : BitVec 32 := 1#32
  let v39 : BitVec 32 := Scalar.addi arg1 c1_i32
  let c1_i32_16 : BitVec 32 := 1#32
  let arg9 : BitVec 32 := Scf.iv v39 c1_i32_16 k0_t1
  let c640_i32_22 : BitVec 32 := 640#32
  let v49 : BitVec 32 := Scalar.muli arg9 c640_i32_22
  v49
def k0_off2 (i : grid0.Coords) (k0_t1 : Fin (k0_t1_loop i).trips) : Fin 2 → Nat :=
  let arg1 : BitVec 32 := BitVec.ofNat 32 (i 1).val
  let c1_i32 : BitVec 32 := 1#32
  let v39 : BitVec 32 := Scalar.addi arg1 c1_i32
  let c1_i32_16 : BitVec 32 := 1#32
  let arg9 : BitVec 32 := Scf.iv v39 c1_i32_16 k0_t1
  let c640_i32_22 : BitVec 32 := 640#32
  let v49 : BitVec 32 := Scalar.muli arg9 c640_i32_22
  let v50 : BitVec 32 := v49
  let v51 : Index := Scalar.indexCast v50
  let c0_23 : Index := 0#32
  ![v51.toNat, 0]
@[reducible] def k0_t2_loop (i : grid0.Coords) : Scf.Loop 32 :=
  let arg1 : BitVec 32 := BitVec.ofNat 32 (i 1).val
  let c1_i32 : BitVec 32 := 1#32
  let v39 : BitVec 32 := Scalar.addi arg1 c1_i32
  let c13_i32 : BitVec 32 := 13#32
  let v40 : BitVec 32 := Scalar.subi c13_i32 v39
  let c1_i32_15 : BitVec 32 := 1#32
  let v42 : BitVec 32 := Scalar.divsi v40 c1_i32_15
  let v43 : BitVec 32 := Scalar.muli v42 c1_i32_15
  let v44 : BitVec 32 := Scalar.addi v39 v43
  let v41 : BitVec 32 := Scalar.addi v39 v40
  let c1_i32_17 : BitVec 32 := 1#32
  ⟨v44, v41, c1_i32_17⟩
def k0_mult3 (i : grid0.Coords) (k0_t2 : Fin (k0_t2_loop i).trips) : BitVec 32 :=
  let arg1 : BitVec 32 := BitVec.ofNat 32 (i 1).val
  let c1_i32 : BitVec 32 := 1#32
  let v39 : BitVec 32 := Scalar.addi arg1 c1_i32
  let c13_i32 : BitVec 32 := 13#32
  let v40 : BitVec 32 := Scalar.subi c13_i32 v39
  let c1_i32_15 : BitVec 32 := 1#32
  let v42 : BitVec 32 := Scalar.divsi v40 c1_i32_15
  let v43 : BitVec 32 := Scalar.muli v42 c1_i32_15
  let v44 : BitVec 32 := Scalar.addi v39 v43
  let c1_i32_17 : BitVec 32 := 1#32
  let arg9 : BitVec 32 := Scf.iv v44 c1_i32_17 k0_t2
  let c640_i32_22 : BitVec 32 := 640#32
  let v49 : BitVec 32 := Scalar.muli arg9 c640_i32_22
  v49
def k0_off3 (i : grid0.Coords) (k0_t2 : Fin (k0_t2_loop i).trips) : Fin 2 → Nat :=
  let arg1 : BitVec 32 := BitVec.ofNat 32 (i 1).val
  let c1_i32 : BitVec 32 := 1#32
  let v39 : BitVec 32 := Scalar.addi arg1 c1_i32
  let c13_i32 : BitVec 32 := 13#32
  let v40 : BitVec 32 := Scalar.subi c13_i32 v39
  let c1_i32_15 : BitVec 32 := 1#32
  let v42 : BitVec 32 := Scalar.divsi v40 c1_i32_15
  let v43 : BitVec 32 := Scalar.muli v42 c1_i32_15
  let v44 : BitVec 32 := Scalar.addi v39 v43
  let c1_i32_17 : BitVec 32 := 1#32
  let arg9 : BitVec 32 := Scf.iv v44 c1_i32_17 k0_t2
  let c640_i32_22 : BitVec 32 := 640#32
  let v49 : BitVec 32 := Scalar.muli arg9 c640_i32_22
  let v50 : BitVec 32 := v49
  let v51 : Index := Scalar.indexCast v50
  let c0_23 : Index := 0#32
  ![v51.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8320x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8320x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S640x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S640x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8320x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S640x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S640x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8208x1024 : Shape := ⟨2, ![8208, 1024]⟩
abbrev S8208x16 : Shape := ⟨2, ![8208, 16]⟩
abbrev S8208x16x64 : Shape := ⟨3, ![8208, 16, 64]⟩
abbrev S16x8208x8208 : Shape := ⟨3, ![16, 8208, 8208]⟩
abbrev S_ : Shape := ⟨0, ![]⟩
abbrev S16x8208 : Shape := ⟨2, ![16, 8208]⟩
abbrev S16x8208x1 : Shape := ⟨3, ![16, 8208, 1]⟩
abbrev S16x1x8208 : Shape := ⟨3, ![16, 1, 8208]⟩
abbrev S8208 : Shape := ⟨1, ![8208]⟩
abbrev S1x8208 : Shape := ⟨2, ![1, 8208]⟩
abbrev S8208x1 : Shape := ⟨2, ![8208, 1]⟩
abbrev S8208x8208 : Shape := ⟨2, ![8208, 8208]⟩
abbrev S16x64x8208 : Shape := ⟨3, ![16, 64, 8208]⟩
abbrev S16x8208x64 : Shape := ⟨3, ![16, 8208, 64]⟩

abbrev nBuf : Space → Nat
  | .hbm => 118
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S8208x1024, .f32⟩
  | .hbm, ⟨2, _⟩ => ⟨S8208x1024, .f32⟩
  | .hbm, ⟨3, _⟩ => ⟨S8208x16, .f32⟩
  | .hbm, ⟨4, _⟩ => ⟨S8208x1024, .f32⟩
  | .hbm, ⟨5, _⟩ => ⟨S8208x16x64, .f32⟩
  | .hbm, ⟨6, _⟩ => ⟨S8208x16x64, .f32⟩
  | .hbm, ⟨7, _⟩ => ⟨S16x8208x8208, .f32⟩
  | .hbm, ⟨8, _⟩ => ⟨S_, .f32⟩
  | .hbm, ⟨9, _⟩ => ⟨S16x8208x8208, .f32⟩
  | .hbm, ⟨10, _⟩ => ⟨S16x8208x8208, .f32⟩
  | .hbm, ⟨11, _⟩ => ⟨S16x8208, .f32⟩
  | .hbm, ⟨12, _⟩ => ⟨S16x8208x1, .f32⟩
  | .hbm, ⟨13, _⟩ => ⟨S16x8208x8208, .f32⟩
  | .hbm, ⟨14, _⟩ => ⟨S16x8208x8208, .f32⟩
  | .hbm, ⟨15, _⟩ => ⟨S16x1x8208, .f32⟩
  | .hbm, ⟨16, _⟩ => ⟨S16x8208x8208, .f32⟩
  | .hbm, ⟨17, _⟩ => ⟨S16x8208x8208, .f32⟩
  | .hbm, ⟨18, _⟩ => ⟨S8208, .i32⟩
  | .hbm, ⟨19, _⟩ => ⟨S1x8208, .i32⟩
  | .hbm, ⟨20, _⟩ => ⟨S8208x1, .i32⟩
  | .hbm, ⟨21, _⟩ => ⟨S8208x8208, .i32⟩
  | .hbm, ⟨22, _⟩ => ⟨S8208x8208, .i32⟩
  | .hbm, ⟨23, _⟩ => ⟨S8208x8208, .i1⟩
  | .hbm, ⟨24, _⟩ => ⟨S_, .f32⟩
  | .hbm, ⟨25, _⟩ => ⟨S_, .f32⟩
  | .hbm, ⟨26, _⟩ => ⟨S16x8208x8208, .i1⟩
  | .hbm, ⟨27, _⟩ => ⟨S16x8208x8208, .f32⟩
  | .hbm, ⟨28, _⟩ => ⟨S16x8208x8208, .f32⟩
  | .hbm, ⟨29, _⟩ => ⟨S_, .f32⟩
  | .hbm, ⟨30, _⟩ => ⟨S16x8208x8208, .f32⟩
  | .hbm, ⟨31, _⟩ => ⟨S_, .f32⟩
  | .hbm, ⟨32, _⟩ => ⟨S16x8208, .f32⟩
  | .hbm, ⟨33, _⟩ => ⟨S16x8208x1, .f32⟩
  | .hbm, ⟨34, _⟩ => ⟨S16x8208x8208, .f32⟩
  | .hbm, ⟨35, _⟩ => ⟨S16x8208x8208, .i1⟩
  | .hbm, ⟨36, _⟩ => ⟨S16x8208x8208, .f32⟩
  | .hbm, ⟨37, _⟩ => ⟨S_, .f32⟩
  | .hbm, ⟨38, _⟩ => ⟨S16x8208, .f32⟩
  | .hbm, ⟨39, _⟩ => ⟨S_, .f32⟩
  | .hbm, ⟨40, _⟩ => ⟨S16x8208, .f32⟩
  | .hbm, ⟨41, _⟩ => ⟨S16x8208, .f32⟩
  | .hbm, ⟨42, _⟩ => ⟨S_, .f32⟩
  | .hbm, ⟨43, _⟩ => ⟨S16x8208, .f32⟩
  | .hbm, ⟨44, _⟩ => ⟨S16x8208, .i1⟩
  | .hbm, ⟨45, _⟩ => ⟨S_, .f32⟩
  | .hbm, ⟨46, _⟩ => ⟨S16x8208, .f32⟩
  | .hbm, ⟨47, _⟩ => ⟨S16x8208, .i1⟩
  | .hbm, ⟨48, _⟩ => ⟨S_, .f32⟩
  | .hbm, ⟨49, _⟩ => ⟨S16x8208, .f32⟩
  | .hbm, ⟨50, _⟩ => ⟨S_, .f32⟩
  | .hbm, ⟨51, _⟩ => ⟨S16x8208, .f32⟩
  | .hbm, ⟨52, _⟩ => ⟨S_, .f32⟩
  | .hbm, ⟨53, _⟩ => ⟨S16x8208, .f32⟩
  | .hbm, ⟨54, _⟩ => ⟨S16x8208, .f32⟩
  | .hbm, ⟨55, _⟩ => ⟨S16x8208, .f32⟩
  | .hbm, ⟨56, _⟩ => ⟨S16x8208x1, .f32⟩
  | .hbm, ⟨57, _⟩ => ⟨S16x8208x8208, .f32⟩
  | .hbm, ⟨58, _⟩ => ⟨S16x8208x8208, .f32⟩
  | .hbm, ⟨59, _⟩ => ⟨S16x8208x8208, .f32⟩
  | .hbm, ⟨60, _⟩ => ⟨S_, .f32⟩
  | .hbm, ⟨61, _⟩ => ⟨S16x8208, .f32⟩
  | .hbm, ⟨62, _⟩ => ⟨S16x8208x1, .f32⟩
  | .hbm, ⟨63, _⟩ => ⟨S16x8208x8208, .f32⟩
  | .hbm, ⟨64, _⟩ => ⟨S16x8208x8208, .f32⟩
  | .hbm, ⟨65, _⟩ => ⟨S16x8208x1, .f32⟩
  | .hbm, ⟨66, _⟩ => ⟨S_, .f32⟩
  | .hbm, ⟨67, _⟩ => ⟨S16x8208x1, .f32⟩
  | .hbm, ⟨68, _⟩ => ⟨S16x8208x1, .f32⟩
  | .hbm, ⟨69, _⟩ => ⟨S8208x16x64, .f32⟩
  | .hbm, ⟨70, _⟩ => ⟨S16x64x8208, .f32⟩
  | .hbm, ⟨71, _⟩ => ⟨S8208x16x64, .f32⟩
  | .hbm, ⟨72, _⟩ => ⟨S8208x1024, .f32⟩
  | .hbm, ⟨73, _⟩ => ⟨S8208x16x64, .f32⟩
  | .hbm, ⟨74, _⟩ => ⟨S16x64x8208, .f32⟩
  | .hbm, ⟨75, _⟩ => ⟨S16x8208x8208, .f32⟩
  | .hbm, ⟨76, _⟩ => ⟨S16x64x8208, .f32⟩
  | .hbm, ⟨77, _⟩ => ⟨S8208x16x64, .f32⟩
  | .hbm, ⟨78, _⟩ => ⟨S8208x1024, .f32⟩
  | .hbm, ⟨79, _⟩ => ⟨S16x8208x8208, .f32⟩
  | .hbm, ⟨80, _⟩ => ⟨S16x8208x8208, .f32⟩
  | .hbm, ⟨81, _⟩ => ⟨S16x8208x8208, .f32⟩
  | .hbm, ⟨82, _⟩ => ⟨S_, .f32⟩
  | .hbm, ⟨83, _⟩ => ⟨S16x8208, .f32⟩
  | .hbm, ⟨84, _⟩ => ⟨S16x8208x1, .f32⟩
  | .hbm, ⟨85, _⟩ => ⟨S16x8208x1, .f32⟩
  | .hbm, ⟨86, _⟩ => ⟨S16x8208x8208, .f32⟩
  | .hbm, ⟨87, _⟩ => ⟨S16x8208x8208, .f32⟩
  | .hbm, ⟨88, _⟩ => ⟨S_, .f32⟩
  | .hbm, ⟨89, _⟩ => ⟨S16x8208, .f32⟩
  | .hbm, ⟨90, _⟩ => ⟨S16x8208x8208, .f32⟩
  | .hbm, ⟨91, _⟩ => ⟨S16x8208x8208, .f32⟩
  | .hbm, ⟨92, _⟩ => ⟨S16x8208x8208, .f32⟩
  | .hbm, ⟨93, _⟩ => ⟨S_, .f32⟩
  | .hbm, ⟨94, _⟩ => ⟨S16x8208x8208, .f32⟩
  | .hbm, ⟨95, _⟩ => ⟨S16x8208x8208, .f32⟩
  | .hbm, ⟨96, _⟩ => ⟨S16x8208x8208, .f32⟩
  | .hbm, ⟨97, _⟩ => ⟨S_, .f32⟩
  | .hbm, ⟨98, _⟩ => ⟨S16x8208, .f32⟩
  | .hbm, ⟨99, _⟩ => ⟨S16x1x8208, .f32⟩
  | .hbm, ⟨100, _⟩ => ⟨S_, .f32⟩
  | .hbm, ⟨101, _⟩ => ⟨S16x8208, .f32⟩
  | .hbm, ⟨102, _⟩ => ⟨S_, .f32⟩
  | .hbm, ⟨103, _⟩ => ⟨S16x8208, .f32⟩
  | .hbm, ⟨104, _⟩ => ⟨S16x8208x1, .f32⟩
  | .hbm, ⟨105, _⟩ => ⟨S_, .f32⟩
  | .hbm, ⟨106, _⟩ => ⟨S16x8208, .f32⟩
  | .hbm, ⟨107, _⟩ => ⟨S16x8208, .f32⟩
  | .hbm, ⟨108, _⟩ => ⟨S8208x16, .f32⟩
  | .hbm, ⟨109, _⟩ => ⟨S_, .f32⟩
  | .hbm, ⟨110, _⟩ => ⟨S16x8208x8208, .f32⟩
  | .hbm, ⟨111, _⟩ => ⟨S16x8208x8208, .f32⟩
  | .hbm, ⟨112, _⟩ => ⟨S16x8208x64, .f32⟩
  | .hbm, ⟨113, _⟩ => ⟨S8208x16x64, .f32⟩
  | .hbm, ⟨114, _⟩ => ⟨S16x8208x64, .f32⟩
  | .hbm, ⟨115, _⟩ => ⟨S8208x16x64, .f32⟩
  | .hbm, ⟨116, _⟩ => ⟨S8208x1024, .f32⟩
  | .hbm, ⟨117, _⟩ => ⟨S8208x1024, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_call0_v0 : Ref sig .tc := ⟨.hbm, 25, rfl⟩
abbrev main_v18_1 : Ref sig .tc := ⟨.hbm, 26, rfl⟩
abbrev main_call0_v2 : Ref sig .tc := ⟨.hbm, 27, rfl⟩
abbrev main_v18_0 : Ref sig .tc := ⟨.hbm, 28, rfl⟩
abbrev main_call0_cst : Ref sig .tc := ⟨.hbm, 29, rfl⟩
abbrev main_v18_2 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_cst_8 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_10 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_12 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_call1_cst : Ref sig .tc := ⟨.hbm, 93, rfl⟩
abbrev main_call1_v0 : Ref sig .tc := ⟨.hbm, 94, rfl⟩
abbrev main_v69 : Ref sig .tc := ⟨.hbm, 95, rfl⟩
abbrev main_v70 : Ref sig .tc := ⟨.hbm, 96, rfl⟩
abbrev main_cst_13 : Ref sig .tc := ⟨.hbm, 97, rfl⟩
abbrev main_v71 : Ref sig .tc := ⟨.hbm, 98, rfl⟩
abbrev main_v72 : Ref sig .tc := ⟨.hbm, 99, rfl⟩
abbrev main_cst_14 : Ref sig .tc := ⟨.hbm, 100, rfl⟩
abbrev main_v73 : Ref sig .tc := ⟨.hbm, 101, rfl⟩
abbrev main_cst_15 : Ref sig .tc := ⟨.hbm, 102, rfl⟩
abbrev main_v74 : Ref sig .tc := ⟨.hbm, 103, rfl⟩
abbrev main_v75 : Ref sig .tc := ⟨.hbm, 104, rfl⟩
abbrev main_cst_16 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_17 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩

abbrev nD : Nat := 1
abbrev τ : Topo := Topo.v7x

variable {F : FTy → Type} [FloatOps F]

def κ : String → Option EReal := fun
  | "mask" => some ⊥
  | _ => none
-- ==== Kernel2.lean ====
abbrev S2816x8320 : Shape := ⟨2, ![2816, 8320]⟩
abbrev S8320x1024 : Shape := ⟨2, ![8320, 1024]⟩
abbrev S2816x1024 : Shape := ⟨2, ![2816, 1024]⟩
abbrev S1408x1664 : Shape := ⟨2, ![1408, 1664]⟩
abbrev S1664x1024 : Shape := ⟨2, ![1664, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2816x8320, .bf16⟩
  | .hbm, ⟨1, _⟩ => ⟨S8320x1024, .bf16⟩
  | .hbm, ⟨2, _⟩ => ⟨S2816x1024, .bf16⟩
  | .local _ .vmem, ⟨0, _⟩ => ⟨S1408x1664, .bf16⟩
  | .local _ .vmem, ⟨1, _⟩ => ⟨S1408x1664, .bf16⟩
  | .local _ .vmem, ⟨2, _⟩ => ⟨S1664x1024, .bf16⟩
  | .local _ .vmem, ⟨3, _⟩ => ⟨S1664x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S2816x8320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 5], ![false, false, false]⟩

def k0_cond3 (i : grid0.Coords) : BitVec 1 :=
  let arg2 : BitVec 32 := BitVec.ofNat 32 (i 2).val
  let c4_i32 : BitVec 32 := 4#32
  let v9 : BitVec 1 := Scalar.cmpi .eq arg2 c4_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2816x8320 : Shape := ⟨2, ![2816, 8320]⟩
abbrev S8320x1024 : Shape := ⟨2, ![8320, 1024]⟩
abbrev S8320x2816 : Shape := ⟨2, ![8320, 2816]⟩
abbrev S_ : Shape := ⟨0, ![]⟩
abbrev S2816x1024 : Shape := ⟨2, ![2816, 1024]⟩
abbrev S1024x2816 : Shape := ⟨2, ![1024, 2816]⟩

abbrev nBuf : Space → Nat
  | .hbm => 13
  | .vmem => 0
  | .smem => 0
  | _ => 0

abbrev bufTy : (tb : Table) → Fin (tcTables nBuf tb) → BufTy
  | .hbm, ⟨0, _⟩ => ⟨S2816x8320, .bf16⟩
  | .hbm, ⟨1, _⟩ => ⟨S8320x1024, .bf16⟩
  | .hbm, ⟨2, _⟩ => ⟨S8320x2816, .bf16⟩
  | .hbm, ⟨3, _⟩ => ⟨S_, .f32⟩
  | .hbm, ⟨4, _⟩ => ⟨S2816x1024, .f32⟩
  | .hbm, ⟨5, _⟩ => ⟨S8320x2816, .f32⟩
  | .hbm, ⟨6, _⟩ => ⟨S8320x1024, .f32⟩
  | .hbm, ⟨7, _⟩ => ⟨S8320x1024, .f32⟩
  | .hbm, ⟨8, _⟩ => ⟨S1024x2816, .f32⟩
  | .hbm, ⟨9, _⟩ => ⟨S2816x1024, .f32⟩
  | .hbm, ⟨10, _⟩ => ⟨S8320x2816, .f32⟩
  | .hbm, ⟨11, _⟩ => ⟨S8320x2816, .bf16⟩
  | .hbm, ⟨12, _⟩ => ⟨S2816x1024, .bf16⟩
  | _, _ => ⟨S2816x8320, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel3.lean ====
abbrev S1024x8320 : Shape := ⟨2, ![1024, 8320]⟩
abbrev S8320x5632 : Shape := ⟨2, ![8320, 5632]⟩
abbrev S1024x5632 : Shape := ⟨2, ![1024, 5632]⟩
abbrev S1024x1664 : Shape := ⟨2, ![1024, 1664]⟩
abbrev S1664x1408 : Shape := ⟨2, ![1664, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S1024x8320, .bf16⟩
  | .hbm, ⟨1, _⟩ => ⟨S8320x5632, .bf16⟩
  | .hbm, ⟨2, _⟩ => ⟨S1024x5632, .bf16⟩
  | .local _ .vmem, ⟨0, _⟩ => ⟨S1024x1664, .bf16⟩
  | .local _ .vmem, ⟨1, _⟩ => ⟨S1024x1664, .bf16⟩
  | .local _ .vmem, ⟨2, _⟩ => ⟨S1664x1408, .bf16⟩
  | .local _ .vmem, ⟨3, _⟩ => ⟨S1664x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S1024x8320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 5], ![false, false, false]⟩

def k0_cond3 (i : grid0.Coords) : BitVec 1 :=
  let arg2 : BitVec 32 := BitVec.ofNat 32 (i 2).val
  let c4_i32 : BitVec 32 := 4#32
  let v9 : BitVec 1 := Scalar.cmpi .eq arg2 c4_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S1024x8320 : Shape := ⟨2, ![1024, 8320]⟩
abbrev S8320x5632 : Shape := ⟨2, ![8320, 5632]⟩
abbrev S8320x1024 : Shape := ⟨2, ![8320, 1024]⟩
abbrev S_ : Shape := ⟨0, ![]⟩
abbrev S1024x5632 : Shape := ⟨2, ![1024, 5632]⟩
abbrev S5632x1024 : Shape := ⟨2, ![5632, 1024]⟩

abbrev nBuf : Space → Nat
  | .hbm => 13
  | .vmem => 0
  | .smem => 0
  | _ => 0

abbrev bufTy : (tb : Table) → Fin (tcTables nBuf tb) → BufTy
  | .hbm, ⟨0, _⟩ => ⟨S1024x8320, .bf16⟩
  | .hbm, ⟨1, _⟩ => ⟨S8320x5632, .bf16⟩
  | .hbm, ⟨2, _⟩ => ⟨S8320x1024, .bf16⟩
  | .hbm, ⟨3, _⟩ => ⟨S_, .f32⟩
  | .hbm, ⟨4, _⟩ => ⟨S1024x5632, .f32⟩
  | .hbm, ⟨5, _⟩ => ⟨S8320x1024, .f32⟩
  | .hbm, ⟨6, _⟩ => ⟨S8320x5632, .f32⟩
  | .hbm, ⟨7, _⟩ => ⟨S8320x5632, .f32⟩
  | .hbm, ⟨8, _⟩ => ⟨S5632x1024, .f32⟩
  | .hbm, ⟨9, _⟩ => ⟨S1024x5632, .f32⟩
  | .hbm, ⟨10, _⟩ => ⟨S8320x1024, .f32⟩
  | .hbm, ⟨11, _⟩ => ⟨S8320x1024, .bf16⟩
  | .hbm, ⟨12, _⟩ => ⟨S1024x5632, .bf16⟩
  | _, _ => ⟨S1024x8320, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel4.lean ====
abbrev S8320x1024 : Shape := ⟨2, ![8320, 1024]⟩
abbrev S4x2816x1024 : Shape := ⟨3, ![4, 2816, 1024]⟩
abbrev S8320x2816 : Shape := ⟨2, ![8320, 2816]⟩
abbrev S1664x1024 : Shape := ⟨2, ![1664, 1024]⟩
abbrev S1x1408x1024 : Shape := ⟨3, ![1, 1408, 1024]⟩
abbrev S1664x1408 : Shape := ⟨2, ![1664, 1408]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x1024, .bf16⟩
  | .hbm, ⟨1, _⟩ => ⟨S4x2816x1024, .bf16⟩
  | .hbm, ⟨2, _⟩ => ⟨S8320x2816, .bf16⟩
  | .local _ .vmem, ⟨0, _⟩ => ⟨S1664x1024, .bf16⟩
  | .local _ .vmem, ⟨1, _⟩ => ⟨S1664x1024, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S1664x1408, .bf16⟩
  | .local _ .vmem, ⟨5, _⟩ => ⟨S1664x1408, .bf16⟩
  | .local _ .vmem, ⟨6, _⟩ => ⟨S1664x1408, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 2, 1], ![false, false, false]⟩

def k0_cond3 (i : grid0.Coords) : BitVec 1 :=
  let arg2 : BitVec 32 := BitVec.ofNat 32 (i 2).val
  let c0_i32_7 : BitVec 32 := 0#32
  let v10 : BitVec 1 := Scalar.cmpi .eq arg2 c0_i32_7
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8320x1024 : Shape := ⟨2, ![8320, 1024]⟩
abbrev S4x2816x1024 : Shape := ⟨3, ![4, 2816, 1024]⟩
abbrev S_ : Shape := ⟨0, ![]⟩
abbrev S8320x2816 : Shape := ⟨2, ![8320, 2816]⟩
abbrev S1x2816x1024 : Shape := ⟨3, ![1, 2816, 1024]⟩
abbrev S2816x1024 : Shape := ⟨2, ![2816, 1024]⟩
abbrev S1024x2816 : Shape := ⟨2, ![1024, 2816]⟩

abbrev nBuf : Space → Nat
  | .hbm => 14
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S4x2816x1024, .bf16⟩
  | .hbm, ⟨2, _⟩ => ⟨S_, .f32⟩
  | .hbm, ⟨3, _⟩ => ⟨S8320x2816, .f32⟩
  | .hbm, ⟨4, _⟩ => ⟨S1x2816x1024, .bf16⟩
  | .hbm, ⟨5, _⟩ => ⟨S2816x1024, .bf16⟩
  | .hbm, ⟨6, _⟩ => ⟨S2816x1024, .f32⟩
  | .hbm, ⟨7, _⟩ => ⟨S8320x1024, .f32⟩
  | .hbm, ⟨8, _⟩ => ⟨S8320x1024, .f32⟩
  | .hbm, ⟨9, _⟩ => ⟨S1024x2816, .f32⟩
  | .hbm, ⟨10, _⟩ => ⟨S2816x1024, .f32⟩
  | .hbm, ⟨11, _⟩ => ⟨S8320x2816, .f32⟩
  | .hbm, ⟨12, _⟩ => ⟨S8320x2816, .bf16⟩
  | .hbm, ⟨13, _⟩ => ⟨S2816x1024, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel5.lean ====
abbrev S8320x5632 : Shape := ⟨2, ![8320, 5632]⟩
abbrev S4x1024x5632 : Shape := ⟨3, ![4, 1024, 5632]⟩
abbrev S8320x1024 : Shape := ⟨2, ![8320, 1024]⟩
abbrev S1664x1408 : Shape := ⟨2, ![1664, 1408]⟩
abbrev S1x1024x1408 : Shape := ⟨3, ![1, 1024, 1408]⟩
abbrev S1664x1024 : Shape := ⟨2, ![1664, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8320x5632, .bf16⟩
  | .hbm, ⟨1, _⟩ => ⟨S4x1024x5632, .bf16⟩
  | .hbm, ⟨2, _⟩ => ⟨S8320x1024, .bf16⟩
  | .local _ .vmem, ⟨0, _⟩ => ⟨S1664x1408, .bf16⟩
  | .local _ .vmem, ⟨1, _⟩ => ⟨S1664x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1664x1024, .bf16⟩
  | .local _ .vmem, ⟨5, _⟩ => ⟨S1664x1024, .bf16⟩
  | .local _ .vmem, ⟨6, _⟩ => ⟨S1664x1024, .f32⟩
  | _, _ => ⟨S8320x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8320x5632 : Shape := ⟨2, ![8320, 5632]⟩
abbrev S4x1024x5632 : Shape := ⟨3, ![4, 1024, 5632]⟩
abbrev S_ : Shape := ⟨0, ![]⟩
abbrev S8320x1024 : Shape := ⟨2, ![8320, 1024]⟩
abbrev S1x1024x5632 : Shape := ⟨3, ![1, 1024, 5632]⟩
abbrev S1024x5632 : Shape := ⟨2, ![1024, 5632]⟩
abbrev S5632x1024 : Shape := ⟨2, ![5632, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8320x5632, .bf16⟩
  | .hbm, ⟨1, _⟩ => ⟨S4x1024x5632, .bf16⟩
  | .hbm, ⟨2, _⟩ => ⟨S_, .f32⟩
  | .hbm, ⟨3, _⟩ => ⟨S8320x1024, .f32⟩
  | .hbm, ⟨4, _⟩ => ⟨S1x1024x5632, .bf16⟩
  | .hbm, ⟨5, _⟩ => ⟨S1024x5632, .bf16⟩
  | .hbm, ⟨6, _⟩ => ⟨S1024x5632, .f32⟩
  | .hbm, ⟨7, _⟩ => ⟨S8320x5632, .f32⟩
  | .hbm, ⟨8, _⟩ => ⟨S8320x5632, .f32⟩
  | .hbm, ⟨9, _⟩ => ⟨S5632x1024, .f32⟩
  | .hbm, ⟨10, _⟩ => ⟨S1024x5632, .f32⟩
  | .hbm, ⟨11, _⟩ => ⟨S8320x1024, .f32⟩
  | .hbm, ⟨12, _⟩ => ⟨S8320x1024, .bf16⟩
  | .hbm, ⟨13, _⟩ => ⟨S1024x5632, .bf16⟩
  | _, _ => ⟨S8320x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel6.lean ====
abbrev S1024x8320 : Shape := ⟨2, ![1024, 8320]⟩
abbrev S8320x4096 : Shape := ⟨2, ![8320, 4096]⟩
abbrev S1024x4096 : Shape := ⟨2, ![1024, 4096]⟩
abbrev S1024x1664 : Shape := ⟨2, ![1024, 1664]⟩
abbrev S1664x1024 : Shape := ⟨2, ![1664, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S1024x8320, .bf16⟩
  | .hbm, ⟨1, _⟩ => ⟨S8320x4096, .bf16⟩
  | .hbm, ⟨2, _⟩ => ⟨S1024x4096, .bf16⟩
  | .local _ .vmem, ⟨0, _⟩ => ⟨S1024x1664, .bf16⟩
  | .local _ .vmem, ⟨1, _⟩ => ⟨S1024x1664, .bf16⟩
  | .local _ .vmem, ⟨2, _⟩ => ⟨S1664x1024, .bf16⟩
  | .local _ .vmem, ⟨3, _⟩ => ⟨S1664x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S1024x8320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 5], ![false, false, false]⟩

def k0_cond3 (i : grid0.Coords) : BitVec 1 :=
  let arg2 : BitVec 32 := BitVec.ofNat 32 (i 2).val
  let c4_i32 : BitVec 32 := 4#32
  let v9 : BitVec 1 := Scalar.cmpi .eq arg2 c4_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S1024x8320 : Shape := ⟨2, ![1024, 8320]⟩
abbrev S8320x4096 : Shape := ⟨2, ![8320, 4096]⟩
abbrev S8320x1024 : Shape := ⟨2, ![8320, 1024]⟩
abbrev S_ : Shape := ⟨0, ![]⟩
abbrev S1024x4096 : Shape := ⟨2, ![1024, 4096]⟩
abbrev S4096x1024 : Shape := ⟨2, ![4096, 1024]⟩

abbrev nBuf : Space → Nat
  | .hbm => 13
  | .vmem => 0
  | .smem => 0
  | _ => 0

abbrev bufTy : (tb : Table) → Fin (tcTables nBuf tb) → BufTy
  | .hbm, ⟨0, _⟩ => ⟨S1024x8320, .bf16⟩
  | .hbm, ⟨1, _⟩ => ⟨S8320x4096, .bf16⟩
  | .hbm, ⟨2, _⟩ => ⟨S8320x1024, .bf16⟩
  | .hbm, ⟨3, _⟩ => ⟨S_, .f32⟩
  | .hbm, ⟨4, _⟩ => ⟨S1024x4096, .f32⟩
  | .hbm, ⟨5, _⟩ => ⟨S8320x1024, .f32⟩
  | .hbm, ⟨6, _⟩ => ⟨S8320x4096, .f32⟩
  | .hbm, ⟨7, _⟩ => ⟨S8320x4096, .f32⟩
  | .hbm, ⟨8, _⟩ => ⟨S4096x1024, .f32⟩
  | .hbm, ⟨9, _⟩ => ⟨S1024x4096, .f32⟩
  | .hbm, ⟨10, _⟩ => ⟨S8320x1024, .f32⟩
  | .hbm, ⟨11, _⟩ => ⟨S8320x1024, .bf16⟩
  | .hbm, ⟨12, _⟩ => ⟨S1024x4096, .bf16⟩
  | _, _ => ⟨S1024x8320, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel7.lean ====
abbrev S8320x4096 : Shape := ⟨2, ![8320, 4096]⟩
abbrev S1x1024x4112 : Shape := ⟨3, ![1, 1024, 4112]⟩
abbrev S8320x1024 : Shape := ⟨2, ![8320, 1024]⟩
abbrev S1664x1024 : Shape := ⟨2, ![1664, 1024]⟩
abbrev S1x1024x1024 : Shape := ⟨3, ![1, 1024, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8320x4096, .bf16⟩
  | .hbm, ⟨1, _⟩ => ⟨S1x1024x4112, .bf16⟩
  | .hbm, ⟨2, _⟩ => ⟨S8320x1024, .f32⟩
  | .hbm, ⟨3, _⟩ => ⟨S8320x1024, .bf16⟩
  | .local _ .vmem, ⟨0, _⟩ => ⟨S1664x1024, .bf16⟩
  | .local _ .vmem, ⟨1, _⟩ => ⟨S1664x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1664x1024, .f32⟩
  | .local _ .vmem, ⟨5, _⟩ => ⟨S1664x1024, .f32⟩
  | .local _ .vmem, ⟨6, _⟩ => ⟨S1664x1024, .bf16⟩
  | .local _ .vmem, ⟨7, _⟩ => ⟨S1664x1024, .bf16⟩
  | .local _ .vmem, ⟨8, _⟩ => ⟨S1664x1024, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![5, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1664x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Kernel7Ideal.lean ====
abbrev S1x1024x4112 : Shape := ⟨3, ![1, 1024, 4112]⟩
  | .hbm, ⟨1, _⟩ => ⟨S1x1024x4112, .bf16⟩
-- ==== Reference7Ideal.lean ====
abbrev S8320x4096 : Shape := ⟨2, ![8320, 4096]⟩
abbrev S1x1024x4112 : Shape := ⟨3, ![1, 1024, 4112]⟩
abbrev S8320x1024 : Shape := ⟨2, ![8320, 1024]⟩
abbrev S1x1024x4096 : Shape := ⟨3, ![1, 1024, 4096]⟩
abbrev S1024x4096 : Shape := ⟨2, ![1024, 4096]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S1x1024x4112, .bf16⟩
  | .hbm, ⟨2, _⟩ => ⟨S8320x1024, .f32⟩
  | .hbm, ⟨3, _⟩ => ⟨S1x1024x4096, .bf16⟩
  | .hbm, ⟨4, _⟩ => ⟨S1024x4096, .bf16⟩
  | .hbm, ⟨5, _⟩ => ⟨S1024x4096, .f32⟩
  | .hbm, ⟨6, _⟩ => ⟨S_, .f32⟩
  | .hbm, ⟨7, _⟩ => ⟨S8320x1024, .f32⟩
  | .hbm, ⟨8, _⟩ => ⟨S8320x4096, .f32⟩
  | .hbm, ⟨9, _⟩ => ⟨S8320x4096, .f32⟩
  | .hbm, ⟨10, _⟩ => ⟨S8320x1024, .f32⟩
  | .hbm, ⟨11, _⟩ => ⟨S8320x1024, .f32⟩
  | .hbm, ⟨12, _⟩ => ⟨S8320x1024, .bf16⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel8.lean ====
abbrev S8320x1024 : Shape := ⟨2, ![8320, 1024]⟩
abbrev S2x1024x1024 : Shape := ⟨3, ![2, 1024, 1024]⟩
abbrev S1664x1024 : Shape := ⟨2, ![1664, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S2x1024x1024, .bf16⟩
  | .hbm, ⟨2, _⟩ => ⟨S8320x1024, .bf16⟩
  | .local _ .vmem, ⟨0, _⟩ => ⟨S1664x1024, .bf16⟩
  | .local _ .vmem, ⟨1, _⟩ => ⟨S1664x1024, .bf16⟩
  | .local _ .vmem, ⟨2, _⟩ => ⟨S1x1024x1024, .bf16⟩
  | .local _ .vmem, ⟨3, _⟩ => ⟨S1664x1024, .bf16⟩
  | .local _ .vmem, ⟨4, _⟩ => ⟨S1664x1024, .bf16⟩
  | .local _ .vmem, ⟨5, _⟩ => ⟨S1664x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![5, 1, 1], ![false, false, false]⟩

def k0_cond3 (i : grid0.Coords) : BitVec 1 :=
  let arg2 : BitVec 32 := BitVec.ofNat 32 (i 2).val
  let c0_i32_7 : BitVec 32 := 0#32
  let v10 : BitVec 1 := Scalar.cmpi .eq arg2 c0_i32_7
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1664x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8320x1024 : Shape := ⟨2, ![8320, 1024]⟩
abbrev S2x1024x1024 : Shape := ⟨3, ![2, 1024, 1024]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S2x1024x1024, .bf16⟩
  | .hbm, ⟨2, _⟩ => ⟨S_, .f32⟩
  | .hbm, ⟨3, _⟩ => ⟨S8320x1024, .f32⟩
  | .hbm, ⟨4, _⟩ => ⟨S1x1024x1024, .bf16⟩
  | .hbm, ⟨5, _⟩ => ⟨S1024x1024, .bf16⟩
  | .hbm, ⟨6, _⟩ => ⟨S1024x1024, .f32⟩
  | .hbm, ⟨7, _⟩ => ⟨S8320x1024, .f32⟩
  | .hbm, ⟨8, _⟩ => ⟨S8320x1024, .f32⟩
  | .hbm, ⟨9, _⟩ => ⟨S1024x1024, .f32⟩
  | .hbm, ⟨10, _⟩ => ⟨S1024x1024, .f32⟩
  | .hbm, ⟨11, _⟩ => ⟨S8320x1024, .f32⟩
  | .hbm, ⟨12, _⟩ => ⟨S8320x1024, .bf16⟩
  | .hbm, ⟨13, _⟩ => ⟨S1024x1024, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel9.lean ====
abbrev S1024x8320 : Shape := ⟨2, ![1024, 8320]⟩
abbrev S8320x1024 : Shape := ⟨2, ![8320, 1024]⟩
abbrev S1024x1024 : Shape := ⟨2, ![1024, 1024]⟩
abbrev S1024x1664 : Shape := ⟨2, ![1024, 1664]⟩
abbrev S1664x1024 : Shape := ⟨2, ![1664, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1024x8320, .bf16⟩
  | .hbm, ⟨1, _⟩ => ⟨S8320x1024, .bf16⟩
  | .hbm, ⟨2, _⟩ => ⟨S1024x1024, .bf16⟩
  | .local _ .vmem, ⟨0, _⟩ => ⟨S1024x1664, .bf16⟩
  | .local _ .vmem, ⟨1, _⟩ => ⟨S1024x1664, .bf16⟩
  | .local _ .vmem, ⟨2, _⟩ => ⟨S1664x1024, .bf16⟩
  | .local _ .vmem, ⟨3, _⟩ => ⟨S1664x1024, .bf16⟩
  | .local _ .vmem, ⟨4, _⟩ => ⟨S1024x1024, .bf16⟩
  | .local _ .vmem, ⟨5, _⟩ => ⟨S1024x1024, .f32⟩
  | _, _ => ⟨S1024x8320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 5], ![false, false, false]⟩

def k0_cond3 (i : grid0.Coords) : BitVec 1 :=
  let arg2 : BitVec 32 := BitVec.ofNat 32 (i 2).val
  let c4_i32 : BitVec 32 := 4#32
  let v9 : BitVec 1 := Scalar.cmpi .eq arg2 c4_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S1024x8320 : Shape := ⟨2, ![1024, 8320]⟩
abbrev S8320x1024 : Shape := ⟨2, ![8320, 1024]⟩
abbrev S_ : Shape := ⟨0, ![]⟩
abbrev S1024x1024 : Shape := ⟨2, ![1024, 1024]⟩

abbrev nBuf : Space → Nat
  | .hbm => 13
  | .vmem => 0
  | .smem => 0
  | _ => 0

abbrev bufTy : (tb : Table) → Fin (tcTables nBuf tb) → BufTy
  | .hbm, ⟨0, _⟩ => ⟨S1024x8320, .bf16⟩
  | .hbm, ⟨1, _⟩ => ⟨S8320x1024, .bf16⟩
  | .hbm, ⟨2, _⟩ => ⟨S8320x1024, .bf16⟩
  | .hbm, ⟨3, _⟩ => ⟨S_, .f32⟩
  | .hbm, ⟨4, _⟩ => ⟨S1024x1024, .f32⟩
  | .hbm, ⟨5, _⟩ => ⟨S8320x1024, .f32⟩
  | .hbm, ⟨6, _⟩ => ⟨S8320x1024, .f32⟩
  | .hbm, ⟨7, _⟩ => ⟨S8320x1024, .f32⟩
  | .hbm, ⟨8, _⟩ => ⟨S1024x1024, .f32⟩
  | .hbm, ⟨9, _⟩ => ⟨S1024x1024, .f32⟩
  | .hbm, ⟨10, _⟩ => ⟨S8320x1024, .f32⟩
  | .hbm, ⟨11, _⟩ => ⟨S8320x1024, .bf16⟩
  | .hbm, ⟨12, _⟩ => ⟨S1024x1024, .bf16⟩
  | _, _ => ⟨S1024x8320, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel10.lean ====
abbrev S8320x1024 : Shape := ⟨2, ![8320, 1024]⟩
abbrev S4x1024x5632 : Shape := ⟨3, ![4, 1024, 5632]⟩
abbrev S8320x5632 : Shape := ⟨2, ![8320, 5632]⟩
abbrev S1664x1024 : Shape := ⟨2, ![1664, 1024]⟩
abbrev S1x1024x1408 : Shape := ⟨3, ![1, 1024, 1408]⟩
abbrev S1664x1408 : Shape := ⟨2, ![1664, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8320x1024, .bf16⟩
  | .hbm, ⟨1, _⟩ => ⟨S4x1024x5632, .bf16⟩
  | .hbm, ⟨2, _⟩ => ⟨S8320x5632, .bf16⟩
  | .local _ .vmem, ⟨0, _⟩ => ⟨S1664x1024, .bf16⟩
  | .local _ .vmem, ⟨1, _⟩ => ⟨S1664x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1664x1408, .bf16⟩
  | .local _ .vmem, ⟨5, _⟩ => ⟨S1664x1408, .bf16⟩
  | .local _ .vmem, ⟨6, _⟩ => ⟨S1664x1408, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 4, 1], ![false, false, false]⟩

def k0_cond3 (i : grid0.Coords) : BitVec 1 :=
  let arg2 : BitVec 32 := BitVec.ofNat 32 (i 2).val
  let c0_i32_7 : BitVec 32 := 0#32
  let v10 : BitVec 1 := Scalar.cmpi .eq arg2 c0_i32_7
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8320x1024 : Shape := ⟨2, ![8320, 1024]⟩
abbrev S4x1024x5632 : Shape := ⟨3, ![4, 1024, 5632]⟩
abbrev S1x1024x5632 : Shape := ⟨3, ![1, 1024, 5632]⟩
abbrev S1024x5632 : Shape := ⟨2, ![1024, 5632]⟩
abbrev S8320x5632 : Shape := ⟨2, ![8320, 5632]⟩

abbrev nBuf : Space → Nat
  | .hbm => 8
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S4x1024x5632, .bf16⟩
  | .hbm, ⟨2, _⟩ => ⟨S1x1024x5632, .bf16⟩
  | .hbm, ⟨3, _⟩ => ⟨S1024x5632, .bf16⟩
  | .hbm, ⟨4, _⟩ => ⟨S8320x1024, .f32⟩
  | .hbm, ⟨5, _⟩ => ⟨S1024x5632, .f32⟩
  | .hbm, ⟨6, _⟩ => ⟨S8320x5632, .f32⟩
  | .hbm, ⟨7, _⟩ => ⟨S8320x5632, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel11.lean ====
abbrev S8320x2816 : Shape := ⟨2, ![8320, 2816]⟩
abbrev S4x2816x1024 : Shape := ⟨3, ![4, 2816, 1024]⟩
abbrev S8320x1024 : Shape := ⟨2, ![8320, 1024]⟩
abbrev S1664x1408 : Shape := ⟨2, ![1664, 1408]⟩
abbrev S1x1408x1024 : Shape := ⟨3, ![1, 1408, 1024]⟩
abbrev S1664x1024 : Shape := ⟨2, ![1664, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x2816, .bf16⟩
  | .hbm, ⟨1, _⟩ => ⟨S4x2816x1024, .bf16⟩
  | .hbm, ⟨2, _⟩ => ⟨S8320x1024, .bf16⟩
  | .local _ .vmem, ⟨0, _⟩ => ⟨S1664x1408, .bf16⟩
  | .local _ .vmem, ⟨1, _⟩ => ⟨S1664x1408, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S1664x1024, .bf16⟩
  | .local _ .vmem, ⟨5, _⟩ => ⟨S1664x1024, .bf16⟩
  | .local _ .vmem, ⟨6, _⟩ => ⟨S1664x1024, .f32⟩
  | _, _ => ⟨S8320x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8320x2816 : Shape := ⟨2, ![8320, 2816]⟩
abbrev S4x2816x1024 : Shape := ⟨3, ![4, 2816, 1024]⟩
abbrev S1x2816x1024 : Shape := ⟨3, ![1, 2816, 1024]⟩
abbrev S2816x1024 : Shape := ⟨2, ![2816, 1024]⟩
abbrev S8320x1024 : Shape := ⟨2, ![8320, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8320x2816, .bf16⟩
  | .hbm, ⟨1, _⟩ => ⟨S4x2816x1024, .bf16⟩
  | .hbm, ⟨2, _⟩ => ⟨S1x2816x1024, .bf16⟩
  | .hbm, ⟨3, _⟩ => ⟨S2816x1024, .bf16⟩
  | .hbm, ⟨4, _⟩ => ⟨S8320x2816, .f32⟩
  | .hbm, ⟨5, _⟩ => ⟨S2816x1024, .f32⟩
  | .hbm, ⟨6, _⟩ => ⟨S8320x1024, .f32⟩
  | .hbm, ⟨7, _⟩ => ⟨S8320x1024, .bf16⟩
  | _, _ => ⟨S8320x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel12.lean ====
abbrev S8320x1024 : Shape := ⟨2, ![8320, 1024]⟩
abbrev S1x1024x4112 : Shape := ⟨3, ![1, 1024, 4112]⟩
abbrev S8320x4096 : Shape := ⟨2, ![8320, 4096]⟩
abbrev S1664x1024 : Shape := ⟨2, ![1664, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x1024, .bf16⟩
  | .hbm, ⟨1, _⟩ => ⟨S1x1024x4112, .bf16⟩
  | .hbm, ⟨2, _⟩ => ⟨S8320x4096, .bf16⟩
  | .local _ .vmem, ⟨0, _⟩ => ⟨S1664x1024, .bf16⟩
  | .local _ .vmem, ⟨1, _⟩ => ⟨S1664x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1664x1024, .bf16⟩
  | .local _ .vmem, ⟨5, _⟩ => ⟨S1664x1024, .bf16⟩
  | .local _ .vmem, ⟨6, _⟩ => ⟨S1664x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 4, 1], ![false, false, false]⟩

def k0_cond3 (i : grid0.Coords) : BitVec 1 :=
  let arg2 : BitVec 32 := BitVec.ofNat 32 (i 2).val
  let c0_i32_7 : BitVec 32 := 0#32
  let v10 : BitVec 1 := Scalar.cmpi .eq arg2 c0_i32_7
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel12Ideal.lean ====
abbrev S1x1024x4112 : Shape := ⟨3, ![1, 1024, 4112]⟩
  | .hbm, ⟨1, _⟩ => ⟨S1x1024x4112, .bf16⟩
-- ==== Reference12Ideal.lean ====
abbrev S8320x1024 : Shape := ⟨2, ![8320, 1024]⟩
abbrev S1x1024x4112 : Shape := ⟨3, ![1, 1024, 4112]⟩
abbrev S1x1024x4096 : Shape := ⟨3, ![1, 1024, 4096]⟩
abbrev S1024x4096 : Shape := ⟨2, ![1024, 4096]⟩
abbrev S8320x4096 : Shape := ⟨2, ![8320, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1x1024x4112, .bf16⟩
  | .hbm, ⟨2, _⟩ => ⟨S1x1024x4096, .bf16⟩
  | .hbm, ⟨3, _⟩ => ⟨S1024x4096, .bf16⟩
  | .hbm, ⟨4, _⟩ => ⟨S8320x1024, .f32⟩
  | .hbm, ⟨5, _⟩ => ⟨S1024x4096, .f32⟩
  | .hbm, ⟨6, _⟩ => ⟨S8320x4096, .f32⟩
  | .hbm, ⟨7, _⟩ => ⟨S8320x4096, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel13.lean ====
abbrev S8320x1024 : Shape := ⟨2, ![8320, 1024]⟩
abbrev S2x1024x1024 : Shape := ⟨3, ![2, 1024, 1024]⟩
abbrev S1664x1024 : Shape := ⟨2, ![1664, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S2x1024x1024, .bf16⟩
  | .hbm, ⟨2, _⟩ => ⟨S8320x1024, .bf16⟩
  | .local _ .vmem, ⟨0, _⟩ => ⟨S1664x1024, .bf16⟩
  | .local _ .vmem, ⟨1, _⟩ => ⟨S1664x1024, .bf16⟩
  | .local _ .vmem, ⟨2, _⟩ => ⟨S1x1024x1024, .bf16⟩
  | .local _ .vmem, ⟨3, _⟩ => ⟨S1664x1024, .bf16⟩
  | .local _ .vmem, ⟨4, _⟩ => ⟨S1664x1024, .bf16⟩
  | .local _ .vmem, ⟨5, _⟩ => ⟨S1664x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![5, 1, 1], ![false, false, false]⟩

def k0_cond3 (i : grid0.Coords) : BitVec 1 :=
  let arg2 : BitVec 32 := BitVec.ofNat 32 (i 2).val
  let c0_i32_7 : BitVec 32 := 0#32
  let v10 : BitVec 1 := Scalar.cmpi .eq arg2 c0_i32_7
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1664x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8320x1024 : Shape := ⟨2, ![8320, 1024]⟩
abbrev S2x1024x1024 : Shape := ⟨3, ![2, 1024, 1024]⟩
abbrev S1x1024x1024 : Shape := ⟨3, ![1, 1024, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S2x1024x1024, .bf16⟩
  | .hbm, ⟨2, _⟩ => ⟨S1x1024x1024, .bf16⟩
  | .hbm, ⟨3, _⟩ => ⟨S1024x1024, .bf16⟩
  | .hbm, ⟨4, _⟩ => ⟨S8320x1024, .f32⟩
  | .hbm, ⟨5, _⟩ => ⟨S1024x1024, .f32⟩
  | .hbm, ⟨6, _⟩ => ⟨S8320x1024, .f32⟩
  | .hbm, ⟨7, _⟩ => ⟨S8320x1024, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel14.lean ====
abbrev S8320x4096 : Shape := ⟨2, ![8320, 4096]⟩
abbrev S2x1024x4112 : Shape := ⟨3, ![2, 1024, 4112]⟩
abbrev S8320x1024 : Shape := ⟨2, ![8320, 1024]⟩
abbrev S1664x1024 : Shape := ⟨2, ![1664, 1024]⟩
abbrev S1x1024x1024 : Shape := ⟨3, ![1, 1024, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8320x4096, .bf16⟩
  | .hbm, ⟨1, _⟩ => ⟨S2x1024x4112, .bf16⟩
  | .hbm, ⟨2, _⟩ => ⟨S8320x1024, .f32⟩
  | .hbm, ⟨3, _⟩ => ⟨S8320x1024, .bf16⟩
  | .local _ .vmem, ⟨0, _⟩ => ⟨S1664x1024, .bf16⟩
  | .local _ .vmem, ⟨1, _⟩ => ⟨S1664x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1664x1024, .f32⟩
  | .local _ .vmem, ⟨5, _⟩ => ⟨S1664x1024, .f32⟩
  | .local _ .vmem, ⟨6, _⟩ => ⟨S1664x1024, .bf16⟩
  | .local _ .vmem, ⟨7, _⟩ => ⟨S1664x1024, .bf16⟩
  | .local _ .vmem, ⟨8, _⟩ => ⟨S1664x1024, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![5, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1664x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference14Ideal.lean ====
abbrev S8320x4096 : Shape := ⟨2, ![8320, 4096]⟩
abbrev S2x1024x4112 : Shape := ⟨3, ![2, 1024, 4112]⟩
abbrev S8320x1024 : Shape := ⟨2, ![8320, 1024]⟩
abbrev S1x1024x4096 : Shape := ⟨3, ![1, 1024, 4096]⟩
abbrev S1024x4096 : Shape := ⟨2, ![1024, 4096]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S2x1024x4112, .bf16⟩
  | .hbm, ⟨2, _⟩ => ⟨S8320x1024, .f32⟩
  | .hbm, ⟨3, _⟩ => ⟨S1x1024x4096, .bf16⟩
  | .hbm, ⟨4, _⟩ => ⟨S1024x4096, .bf16⟩
  | .hbm, ⟨5, _⟩ => ⟨S1024x4096, .f32⟩
  | .hbm, ⟨6, _⟩ => ⟨S_, .f32⟩
  | .hbm, ⟨7, _⟩ => ⟨S8320x1024, .f32⟩
  | .hbm, ⟨8, _⟩ => ⟨S8320x4096, .f32⟩
  | .hbm, ⟨9, _⟩ => ⟨S8320x4096, .f32⟩
  | .hbm, ⟨10, _⟩ => ⟨S8320x1024, .f32⟩
  | .hbm, ⟨11, _⟩ => ⟨S8320x1024, .f32⟩
  | .hbm, ⟨12, _⟩ => ⟨S8320x1024, .bf16⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel15.lean ====
abbrev S8320x1024 : Shape := ⟨2, ![8320, 1024]⟩
abbrev S2x1024x4112 : Shape := ⟨3, ![2, 1024, 4112]⟩
abbrev S8320x4096 : Shape := ⟨2, ![8320, 4096]⟩
abbrev S1664x1024 : Shape := ⟨2, ![1664, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x1024, .bf16⟩
  | .hbm, ⟨1, _⟩ => ⟨S2x1024x4112, .bf16⟩
  | .hbm, ⟨2, _⟩ => ⟨S8320x4096, .bf16⟩
  | .local _ .vmem, ⟨0, _⟩ => ⟨S1664x1024, .bf16⟩
  | .local _ .vmem, ⟨1, _⟩ => ⟨S1664x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1664x1024, .bf16⟩
  | .local _ .vmem, ⟨5, _⟩ => ⟨S1664x1024, .bf16⟩
  | .local _ .vmem, ⟨6, _⟩ => ⟨S1664x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 4, 1], ![false, false, false]⟩

def k0_cond3 (i : grid0.Coords) : BitVec 1 :=
  let arg2 : BitVec 32 := BitVec.ofNat 32 (i 2).val
  let c0_i32_7 : BitVec 32 := 0#32
  let v10 : BitVec 1 := Scalar.cmpi .eq arg2 c0_i32_7
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8320x1024 : Shape := ⟨2, ![8320, 1024]⟩
abbrev S2x1024x4112 : Shape := ⟨3, ![2, 1024, 4112]⟩
abbrev S1x1024x4096 : Shape := ⟨3, ![1, 1024, 4096]⟩
abbrev S1024x4096 : Shape := ⟨2, ![1024, 4096]⟩
abbrev S8320x4096 : Shape := ⟨2, ![8320, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S2x1024x4112, .bf16⟩
  | .hbm, ⟨2, _⟩ => ⟨S1x1024x4096, .bf16⟩
  | .hbm, ⟨3, _⟩ => ⟨S1024x4096, .bf16⟩
  | .hbm, ⟨4, _⟩ => ⟨S8320x1024, .f32⟩
  | .hbm, ⟨5, _⟩ => ⟨S1024x4096, .f32⟩
  | .hbm, ⟨6, _⟩ => ⟨S8320x4096, .f32⟩
  | .hbm, ⟨7, _⟩ => ⟨S8320x4096, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel16.lean ====
abbrev S8208x1024 : Shape := ⟨2, ![8208, 1024]⟩
abbrev S8208x16 : Shape := ⟨2, ![8208, 16]⟩
abbrev S_ : Shape := ⟨0, ![]⟩
abbrev S8320x1024 : Shape := ⟨2, ![8320, 1024]⟩
abbrev S8320x16 : Shape := ⟨2, ![8320, 16]⟩
abbrev S8320x16x64 : Shape := ⟨3, ![8320, 16, 64]⟩
abbrev S8320x16x1 : Shape := ⟨3, ![8320, 16, 1]⟩
abbrev S8320x16x58 : Shape := ⟨3, ![8320, 16, 58]⟩
abbrev S8320x16x128 : Shape := ⟨3, ![8320, 16, 128]⟩
abbrev S8320x2048 : Shape := ⟨2, ![8320, 2048]⟩
abbrev S8320x16x55 : Shape := ⟨3, ![8320, 16, 55]⟩
abbrev S8320x16x61 : Shape := ⟨3, ![8320, 16, 61]⟩
abbrev S640x128 : Shape := ⟨2, ![640, 128]⟩
abbrev S8320x128 : Shape := ⟨2, ![8320, 128]⟩
abbrev S640x1 : Shape := ⟨2, ![640, 1]⟩
abbrev S640x640 : Shape := ⟨2, ![640, 640]⟩
abbrev S640 : Shape := ⟨1, ![640]⟩
abbrev S8208x16x128 : Shape := ⟨3, ![8208, 16, 128]⟩
abbrev S8208x16x64 : Shape := ⟨3, ![8208, 16, 64]⟩
abbrev S8208x16x1 : Shape := ⟨3, ![8208, 16, 1]⟩

abbrev nBuf : Space → Nat
  | .hbm => 85
  | .vmem => 8
  | .smem => 0
  | _ => 0

abbrev bufTy : (tb : Table) → Fin (tcTables nBuf tb) → BufTy
  | .hbm, ⟨0, _⟩ => ⟨S8208x1024, .f32⟩
  | .hbm, ⟨1, _⟩ => ⟨S8208x1024, .f32⟩
  | .hbm, ⟨2, _⟩ => ⟨S8208x1024, .f32⟩
  | .hbm, ⟨3, _⟩ => ⟨S8208x16, .f32⟩
  | .hbm, ⟨4, _⟩ => ⟨S_, .i32⟩
  | .hbm, ⟨5, _⟩ => ⟨S_, .f32⟩
  | .hbm, ⟨6, _⟩ => ⟨S8320x1024, .f32⟩
  | .hbm, ⟨7, _⟩ => ⟨S_, .i32⟩
  | .hbm, ⟨8, _⟩ => ⟨S_, .f32⟩
  | .hbm, ⟨9, _⟩ => ⟨S8320x1024, .f32⟩
  | .hbm, ⟨10, _⟩ => ⟨S_, .i32⟩
  | .hbm, ⟨11, _⟩ => ⟨S_, .f32⟩
  | .hbm, ⟨12, _⟩ => ⟨S8320x1024, .f32⟩
  | .hbm, ⟨13, _⟩ => ⟨S_, .i32⟩
  | .hbm, ⟨14, _⟩ => ⟨S_, .f32⟩
  | .hbm, ⟨15, _⟩ => ⟨S8320x16, .f32⟩
  | .hbm, ⟨16, _⟩ => ⟨S8320x16, .bf16⟩
  | .hbm, ⟨17, _⟩ => ⟨S8320x16, .f32⟩
  | .hbm, ⟨18, _⟩ => ⟨S8320x16, .f32⟩
  | .hbm, ⟨19, _⟩ => ⟨S8320x16, .bf16⟩
  | .hbm, ⟨20, _⟩ => ⟨S8320x16, .f32⟩
  | .hbm, ⟨21, _⟩ => ⟨S8320x16, .f32⟩
  | .hbm, ⟨22, _⟩ => ⟨S8320x16, .bf16⟩
  | .hbm, ⟨23, _⟩ => ⟨S8320x16, .f32⟩
  | .hbm, ⟨24, _⟩ => ⟨S_, .f32⟩
  | .hbm, ⟨25, _⟩ => ⟨S8320x1024, .f32⟩
  | .hbm, ⟨26, _⟩ => ⟨S8320x1024, .f32⟩
  | .hbm, ⟨27, _⟩ => ⟨S8320x16x64, .f32⟩
  | .hbm, ⟨28, _⟩ => ⟨S8320x16x1, .f32⟩
  | .hbm, ⟨29, _⟩ => ⟨S8320x16x1, .f32⟩
  | .hbm, ⟨30, _⟩ => ⟨S8320x16x1, .f32⟩
  | .hbm, ⟨31, _⟩ => ⟨S_, .f32⟩
  | .hbm, ⟨32, _⟩ => ⟨S8320x16x1, .f32⟩
  | .hbm, ⟨33, _⟩ => ⟨S_, .f32⟩
  | .hbm, ⟨34, _⟩ => ⟨S8320x16x1, .f32⟩
  | .hbm, ⟨35, _⟩ => ⟨S_, .f32⟩
  | .hbm, ⟨36, _⟩ => ⟨S8320x16x1, .f32⟩
  | .hbm, ⟨37, _⟩ => ⟨S_, .f32⟩
  | .hbm, ⟨38, _⟩ => ⟨S8320x16x58, .f32⟩
  | .hbm, ⟨39, _⟩ => ⟨S8320x16x128, .f32⟩
  | .hbm, ⟨40, _⟩ => ⟨S8320x2048, .f32⟩
  | .hbm, ⟨41, _⟩ => ⟨S8320x2048, .bf16⟩
  | .hbm, ⟨42, _⟩ => ⟨S8320x16, .f32⟩
  | .hbm, ⟨43, _⟩ => ⟨S8320x16, .f32⟩
  | .hbm, ⟨44, _⟩ => ⟨S8320x16, .f32⟩
  | .hbm, ⟨45, _⟩ => ⟨S8320x16x64, .f32⟩
  | .hbm, ⟨46, _⟩ => ⟨S_, .f32⟩
  | .hbm, ⟨47, _⟩ => ⟨S8320x16x1, .f32⟩
  | .hbm, ⟨48, _⟩ => ⟨S_, .f32⟩
  | .hbm, ⟨49, _⟩ => ⟨S8320x16x1, .f32⟩
  | .hbm, ⟨50, _⟩ => ⟨S_, .f32⟩
  | .hbm, ⟨51, _⟩ => ⟨S8320x16x1, .f32⟩
  | .hbm, ⟨52, _⟩ => ⟨S8320x16x1, .f32⟩
  | .hbm, ⟨53, _⟩ => ⟨S8320x16x1, .f32⟩
  | .hbm, ⟨54, _⟩ => ⟨S8320x16x1, .f32⟩
  | .hbm, ⟨55, _⟩ => ⟨S_, .f32⟩
  | .hbm, ⟨56, _⟩ => ⟨S8320x16x1, .f32⟩
  | .hbm, ⟨57, _⟩ => ⟨S_, .f32⟩
  | .hbm, ⟨58, _⟩ => ⟨S8320x16x1, .f32⟩
  | .hbm, ⟨59, _⟩ => ⟨S_, .f32⟩
  | .hbm, ⟨60, _⟩ => ⟨S8320x16x1, .f32⟩
  | .hbm, ⟨61, _⟩ => ⟨S_, .f32⟩
  | .hbm, ⟨62, _⟩ => ⟨S8320x16x55, .f32⟩
  | .hbm, ⟨63, _⟩ => ⟨S8320x16x128, .f32⟩
  | .hbm, ⟨64, _⟩ => ⟨S8320x2048, .f32⟩
  | .hbm, ⟨65, _⟩ => ⟨S8320x2048, .bf16⟩
  | .hbm, ⟨66, _⟩ => ⟨S8320x16x64, .f32⟩
  | .hbm, ⟨67, _⟩ => ⟨S_, .f32⟩
  | .hbm, ⟨68, _⟩ => ⟨S8320x16x1, .f32⟩
  | .hbm, ⟨69, _⟩ => ⟨S_, .f32⟩
  | .hbm, ⟨70, _⟩ => ⟨S8320x16x1, .f32⟩
  | .hbm, ⟨71, _⟩ => ⟨S_, .f32⟩
  | .hbm, ⟨72, _⟩ => ⟨S8320x16x1, .f32⟩
  | .hbm, ⟨73, _⟩ => ⟨S_, .f32⟩
  | .hbm, ⟨74, _⟩ => ⟨S8320x16x61, .f32⟩
  | .hbm, ⟨75, _⟩ => ⟨S8320x16x128, .f32⟩
  | .hbm, ⟨76, _⟩ => ⟨S8320x2048, .f32⟩
  | .hbm, ⟨77, _⟩ => ⟨S8320x2048, .bf16⟩
  | .hbm, ⟨78, _⟩ => ⟨S8320x2048, .f32⟩
  | .hbm, ⟨79, _⟩ => ⟨S8320x16x128, .f32⟩
  | .hbm, ⟨80, _⟩ => ⟨S8208x16x128, .f32⟩
  | .hbm, ⟨81, _⟩ => ⟨S8208x16x64, .f32⟩
  | .hbm, ⟨82, _⟩ => ⟨S8208x1024, .f32⟩
  | .hbm, ⟨83, _⟩ => ⟨S8208x16x1, .f32⟩
  | .hbm, ⟨84, _⟩ => ⟨S8208x16, .f32⟩
  | .local _ .vmem, ⟨0, _⟩ => ⟨S640x128, .bf16⟩
  | .local _ .vmem, ⟨1, _⟩ => ⟨S640x128, .bf16⟩
  | .local _ .vmem, ⟨2, _⟩ => ⟨S8320x128, .bf16⟩
  | .local _ .vmem, ⟨3, _⟩ => ⟨S8320x128, .bf16⟩
  | .local _ .vmem, ⟨4, _⟩ => ⟨S8320x128, .bf16⟩
  | .local _ .vmem, ⟨5, _⟩ => ⟨S8320x128, .bf16⟩
  | .local _ .vmem, ⟨6, _⟩ => ⟨S640x128, .f32⟩
  | .local _ .vmem, ⟨7, _⟩ => ⟨S640x128, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_c_1 : Ref sig .tc := ⟨.hbm, 10, rfl⟩
abbrev main_call2_v0 : Ref sig .tc := ⟨.hbm, 11, rfl⟩
abbrev main_v2 : Ref sig .tc := ⟨.hbm, 12, rfl⟩
abbrev main_c_2 : Ref sig .tc := ⟨.hbm, 13, rfl⟩
abbrev main_call3_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_cst_8 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_10 : Ref sig .tc := ⟨.hbm, 55, rfl⟩
abbrev main_v35 : Ref sig .tc := ⟨.hbm, 56, rfl⟩
abbrev main_cst_11 : Ref sig .tc := ⟨.hbm, 57, rfl⟩
abbrev main_v36 : Ref sig .tc := ⟨.hbm, 58, rfl⟩
abbrev main_cst_12 : Ref sig .tc := ⟨.hbm, 59, rfl⟩
abbrev main_v37 : Ref sig .tc := ⟨.hbm, 60, rfl⟩
abbrev main_cst_13 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_14 : Ref sig .tc := ⟨.hbm, 67, rfl⟩
abbrev main_v43 : Ref sig .tc := ⟨.hbm, 68, rfl⟩
abbrev main_cst_15 : Ref sig .tc := ⟨.hbm, 69, rfl⟩
abbrev main_v44 : Ref sig .tc := ⟨.hbm, 70, rfl⟩
abbrev main_cst_16 : Ref sig .tc := ⟨.hbm, 71, rfl⟩
abbrev main_v45 : Ref sig .tc := ⟨.hbm, 72, rfl⟩
abbrev main_cst_17 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 13], ![false, false]⟩

def k0_mult1 : BitVec 32 :=
  let c0_i32 : BitVec 32 := 0#32
  c0_i32
@[reducible] def k0_t1_loop (i : grid0.Coords) : Scf.Loop 32 :=
  let c0_i32_4 : BitVec 32 := 0#32
  let arg1 : BitVec 32 := BitVec.ofNat 32 (i 1).val
  let v9 : BitVec 32 := Scalar.subi arg1 c0_i32_4
  let c1_i32 : BitVec 32 := 1#32
  let v11 : BitVec 32 := Scalar.divsi v9 c1_i32
  let v12 : BitVec 32 := Scalar.muli v11 c1_i32
  let v13 : BitVec 32 := Scalar.addi c0_i32_4 v12
  let c1_i32_5 : BitVec 32 := 1#32
  ⟨c0_i32_4, v13, c1_i32_5⟩
def k0_mult2 (i : grid0.Coords) (k0_t1 : Fin (k0_t1_loop i).trips) : BitVec 32 :=
  let c0_i32_4 : BitVec 32 := 0#32
  let c1_i32_5 : BitVec 32 := 1#32
  let arg6 : BitVec 32 := Scf.iv c0_i32_4 c1_i32_5 k0_t1
  let c1_i32_13 : BitVec 32 := 1#32
  let v51 : BitVec 32 := Scalar.addi arg6 c1_i32_13
  let c640_i32_14 : BitVec 32 := 640#32
  let v52 : BitVec 32 := Scalar.muli v51 c640_i32_14
  v52
def k0_off1 (i : grid0.Coords) (k0_t1 : Fin (k0_t1_loop i).trips) : Fin 2 → Nat :=
  let c0_i32_4 : BitVec 32 := 0#32
  let c1_i32_5 : BitVec 32 := 1#32
  let arg6 : BitVec 32 := Scf.iv c0_i32_4 c1_i32_5 k0_t1
  let c1_i32_13 : BitVec 32 := 1#32
  let v51 : BitVec 32 := Scalar.addi arg6 c1_i32_13
  let c640_i32_14 : BitVec 32 := 640#32
  let v52 : BitVec 32 := Scalar.muli v51 c640_i32_14
  let v53 : BitVec 32 := v52
  let v54 : Index := Scalar.indexCast v53
  let c0_15 : Index := 0#32
  ![v54.toNat, 0]
def k0_mult3 (i : grid0.Coords) (k0_t1 : Fin (k0_t1_loop i).trips) : BitVec 32 :=
  let c0_i32_4 : BitVec 32 := 0#32
  let c1_i32_5 : BitVec 32 := 1#32
  let arg6 : BitVec 32 := Scf.iv c0_i32_4 c1_i32_5 k0_t1
  let c640_i32_18 : BitVec 32 := 640#32
  let v69 : BitVec 32 := Scalar.muli arg6 c640_i32_18
  v69
def k0_off2 (i : grid0.Coords) (k0_t1 : Fin (k0_t1_loop i).trips) : Fin 2 → Nat :=
  let c0_i32_4 : BitVec 32 := 0#32
  let c1_i32_5 : BitVec 32 := 1#32
  let arg6 : BitVec 32 := Scf.iv c0_i32_4 c1_i32_5 k0_t1
  let c640_i32_18 : BitVec 32 := 640#32
  let v69 : BitVec 32 := Scalar.muli arg6 c640_i32_18
  let v70 : BitVec 32 := v69
  let v71 : Index := Scalar.indexCast v70
  let c0_19 : Index := 0#32
  ![v71.toNat, 0]
@[reducible] def k0_t2_loop (i : grid0.Coords) : Scf.Loop 32 :=
  let c0_i32_4 : BitVec 32 := 0#32
  let arg1 : BitVec 32 := BitVec.ofNat 32 (i 1).val
  let v9 : BitVec 32 := Scalar.subi arg1 c0_i32_4
  let c1_i32 : BitVec 32 := 1#32
  let v11 : BitVec 32 := Scalar.divsi v9 c1_i32
  let v12 : BitVec 32 := Scalar.muli v11 c1_i32
  let v13 : BitVec 32 := Scalar.addi c0_i32_4 v12
  let v10 : BitVec 32 := Scalar.addi c0_i32_4 v9
  let c1_i32_6 : BitVec 32 := 1#32
  ⟨v13, v10, c1_i32_6⟩
def k0_mult4 (i : grid0.Coords) (k0_t2 : Fin (k0_t2_loop i).trips) : BitVec 32 :=
  let c0_i32_4 : BitVec 32 := 0#32
  let arg1 : BitVec 32 := BitVec.ofNat 32 (i 1).val
  let v9 : BitVec 32 := Scalar.subi arg1 c0_i32_4
  let c1_i32 : BitVec 32 := 1#32
  let v11 : BitVec 32 := Scalar.divsi v9 c1_i32
  let v12 : BitVec 32 := Scalar.muli v11 c1_i32
  let v13 : BitVec 32 := Scalar.addi c0_i32_4 v12
  let c1_i32_6 : BitVec 32 := 1#32
  let arg6 : BitVec 32 := Scf.iv v13 c1_i32_6 k0_t2
  let c1_i32_13 : BitVec 32 := 1#32
  let v51 : BitVec 32 := Scalar.addi arg6 c1_i32_13
  let c640_i32_14 : BitVec 32 := 640#32
  let v52 : BitVec 32 := Scalar.muli v51 c640_i32_14
  v52
def k0_off3 (i : grid0.Coords) (k0_t2 : Fin (k0_t2_loop i).trips) : Fin 2 → Nat :=
  let c0_i32_4 : BitVec 32 := 0#32
  let arg1 : BitVec 32 := BitVec.ofNat 32 (i 1).val
  let v9 : BitVec 32 := Scalar.subi arg1 c0_i32_4
  let c1_i32 : BitVec 32 := 1#32
  let v11 : BitVec 32 := Scalar.divsi v9 c1_i32
  let v12 : BitVec 32 := Scalar.muli v11 c1_i32
  let v13 : BitVec 32 := Scalar.addi c0_i32_4 v12
  let c1_i32_6 : BitVec 32 := 1#32
  let arg6 : BitVec 32 := Scf.iv v13 c1_i32_6 k0_t2
  let c1_i32_13 : BitVec 32 := 1#32
  let v51 : BitVec 32 := Scalar.addi arg6 c1_i32_13
  let c640_i32_14 : BitVec 32 := 640#32
  let v52 : BitVec 32 := Scalar.muli v51 c640_i32_14
  let v53 : BitVec 32 := v52
  let v54 : Index := Scalar.indexCast v53
  let c0_15 : Index := 0#32
  ![v54.toNat, 0]
def k0_mult5 (i : grid0.Coords) (k0_t2 : Fin (k0_t2_loop i).trips) : BitVec 32 :=
  let c0_i32_4 : BitVec 32 := 0#32
  let arg1 : BitVec 32 := BitVec.ofNat 32 (i 1).val
  let v9 : BitVec 32 := Scalar.subi arg1 c0_i32_4
  let c1_i32 : BitVec 32 := 1#32
  let v11 : BitVec 32 := Scalar.divsi v9 c1_i32
  let v12 : BitVec 32 := Scalar.muli v11 c1_i32
  let v13 : BitVec 32 := Scalar.addi c0_i32_4 v12
  let c1_i32_6 : BitVec 32 := 1#32
  let arg6 : BitVec 32 := Scf.iv v13 c1_i32_6 k0_t2
  let c640_i32_18 : BitVec 32 := 640#32
  let v69 : BitVec 32 := Scalar.muli arg6 c640_i32_18
  v69
def k0_off4 (i : grid0.Coords) (k0_t2 : Fin (k0_t2_loop i).trips) : Fin 2 → Nat :=
  let c0_i32_4 : BitVec 32 := 0#32
  let arg1 : BitVec 32 := BitVec.ofNat 32 (i 1).val
  let v9 : BitVec 32 := Scalar.subi arg1 c0_i32_4
  let c1_i32 : BitVec 32 := 1#32
  let v11 : BitVec 32 := Scalar.divsi v9 c1_i32
  let v12 : BitVec 32 := Scalar.muli v11 c1_i32
  let v13 : BitVec 32 := Scalar.addi c0_i32_4 v12
  let c1_i32_6 : BitVec 32 := 1#32
  let arg6 : BitVec 32 := Scf.iv v13 c1_i32_6 k0_t2
  let c640_i32_18 : BitVec 32 := 640#32
  let v69 : BitVec 32 := Scalar.muli arg6 c640_i32_18
  let v70 : BitVec 32 := v69
  let v71 : Index := Scalar.indexCast v70
  let c0_19 : Index := 0#32
  ![v71.toNat, 0]
def k0_mult6 (i : grid0.Coords) : BitVec 32 :=
  let arg1 : BitVec 32 := BitVec.ofNat 32 (i 1).val
  let c640_i32 : BitVec 32 := 640#32
  let v32 : BitVec 32 := Scalar.muli arg1 c640_i32
  v32
def k0_off5 (i : grid0.Coords) : Fin 2 → Nat :=
  let arg1 : BitVec 32 := BitVec.ofNat 32 (i 1).val
  let c640_i32 : BitVec 32 := 640#32
  let v32 : BitVec 32 := Scalar.muli arg1 c640_i32
  let v33 : BitVec 32 := v32
  let v34 : Index := Scalar.indexCast v33
  let c0_9 : Index := 0#32
  ![v34.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8320x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8320x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S640x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel16Ideal.lean ====
variable {F : FTy → Type} [FloatOps F] [Named F]
def κ : String → Option EReal := fun
  | "mask" => some ⊥
  | _ => none
-- ==== Reference16Ideal.lean ====
abbrev S8208x1024 : Shape := ⟨2, ![8208, 1024]⟩
abbrev S8208x16 : Shape := ⟨2, ![8208, 16]⟩
abbrev S8208x16x64 : Shape := ⟨3, ![8208, 16, 64]⟩
abbrev S16x8208x8208 : Shape := ⟨3, ![16, 8208, 8208]⟩
abbrev S_ : Shape := ⟨0, ![]⟩
abbrev S16x8208 : Shape := ⟨2, ![16, 8208]⟩
abbrev S16x8208x1 : Shape := ⟨3, ![16, 8208, 1]⟩
abbrev S16x1x8208 : Shape := ⟨3, ![16, 1, 8208]⟩
abbrev S8208 : Shape := ⟨1, ![8208]⟩
abbrev S1x8208 : Shape := ⟨2, ![1, 8208]⟩
abbrev S8208x1 : Shape := ⟨2, ![8208, 1]⟩
abbrev S8208x8208 : Shape := ⟨2, ![8208, 8208]⟩
abbrev S16x64x8208 : Shape := ⟨3, ![16, 64, 8208]⟩

abbrev nBuf : Space → Nat
  | .hbm => 46
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S8208x1024, .f32⟩
  | .hbm, ⟨2, _⟩ => ⟨S8208x1024, .f32⟩
  | .hbm, ⟨3, _⟩ => ⟨S8208x16, .f32⟩
  | .hbm, ⟨4, _⟩ => ⟨S8208x16x64, .f32⟩
  | .hbm, ⟨5, _⟩ => ⟨S8208x16x64, .f32⟩
  | .hbm, ⟨6, _⟩ => ⟨S16x8208x8208, .f32⟩
  | .hbm, ⟨7, _⟩ => ⟨S_, .f32⟩
  | .hbm, ⟨8, _⟩ => ⟨S16x8208x8208, .f32⟩
  | .hbm, ⟨9, _⟩ => ⟨S16x8208x8208, .f32⟩
  | .hbm, ⟨10, _⟩ => ⟨S16x8208, .f32⟩
  | .hbm, ⟨11, _⟩ => ⟨S16x8208x1, .f32⟩
  | .hbm, ⟨12, _⟩ => ⟨S16x8208x8208, .f32⟩
  | .hbm, ⟨13, _⟩ => ⟨S16x8208x8208, .f32⟩
  | .hbm, ⟨14, _⟩ => ⟨S16x1x8208, .f32⟩
  | .hbm, ⟨15, _⟩ => ⟨S16x8208x8208, .f32⟩
  | .hbm, ⟨16, _⟩ => ⟨S16x8208x8208, .f32⟩
  | .hbm, ⟨17, _⟩ => ⟨S8208, .i32⟩
  | .hbm, ⟨18, _⟩ => ⟨S1x8208, .i32⟩
  | .hbm, ⟨19, _⟩ => ⟨S8208x1, .i32⟩
  | .hbm, ⟨20, _⟩ => ⟨S8208x8208, .i32⟩
  | .hbm, ⟨21, _⟩ => ⟨S8208x8208, .i32⟩
  | .hbm, ⟨22, _⟩ => ⟨S8208x8208, .i1⟩
  | .hbm, ⟨23, _⟩ => ⟨S_, .f32⟩
  | .hbm, ⟨24, _⟩ => ⟨S_, .f32⟩
  | .hbm, ⟨25, _⟩ => ⟨S16x8208x8208, .i1⟩
  | .hbm, ⟨26, _⟩ => ⟨S16x8208x8208, .f32⟩
  | .hbm, ⟨27, _⟩ => ⟨S16x8208x8208, .f32⟩
  | .hbm, ⟨28, _⟩ => ⟨S_, .f32⟩
  | .hbm, ⟨29, _⟩ => ⟨S16x8208, .f32⟩
  | .hbm, ⟨30, _⟩ => ⟨S16x8208x1, .f32⟩
  | .hbm, ⟨31, _⟩ => ⟨S16x8208x8208, .f32⟩
  | .hbm, ⟨32, _⟩ => ⟨S16x8208x8208, .f32⟩
  | .hbm, ⟨33, _⟩ => ⟨S16x8208x8208, .f32⟩
  | .hbm, ⟨34, _⟩ => ⟨S_, .f32⟩
  | .hbm, ⟨35, _⟩ => ⟨S16x8208, .f32⟩
  | .hbm, ⟨36, _⟩ => ⟨S16x8208x1, .f32⟩
  | .hbm, ⟨37, _⟩ => ⟨S16x8208x8208, .f32⟩
  | .hbm, ⟨38, _⟩ => ⟨S16x8208x8208, .f32⟩
  | .hbm, ⟨39, _⟩ => ⟨S8208x16x64, .f32⟩
  | .hbm, ⟨40, _⟩ => ⟨S16x64x8208, .f32⟩
  | .hbm, ⟨41, _⟩ => ⟨S8208x16x64, .f32⟩
  | .hbm, ⟨42, _⟩ => ⟨S8208x1024, .f32⟩
  | .hbm, ⟨43, _⟩ => ⟨S16x8208, .f32⟩
  | .hbm, ⟨44, _⟩ => ⟨S16x8208, .f32⟩
  | .hbm, ⟨45, _⟩ => ⟨S8208x16, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]

def κ : String → Option EReal := fun
  | "mask" => some ⊥
  | _ => none
-- ==== Kernel17.lean ====
abbrev S8320x5632 : Shape := ⟨2, ![8320, 5632]⟩
abbrev S8320x2816 : Shape := ⟨2, ![8320, 2816]⟩
abbrev S1664x512 : Shape := ⟨2, ![1664, 512]⟩
abbrev S1664x256 : Shape := ⟨2, ![1664, 256]⟩

abbrev nBuf : Space → Nat
  | .hbm => 3
  | .vmem => 6
  | .smem => 0
  | _ => 0

abbrev bufTy : (tb : Table) → Fin (tcTables nBuf tb) → BufTy
  | .hbm, ⟨0, _⟩ => ⟨S8320x5632, .bf16⟩
  | .hbm, ⟨1, _⟩ => ⟨S8320x2816, .bf16⟩
  | .hbm, ⟨2, _⟩ => ⟨S8320x5632, .bf16⟩
  | .local _ .vmem, ⟨0, _⟩ => ⟨S1664x512, .bf16⟩
  | .local _ .vmem, ⟨1, _⟩ => ⟨S1664x512, .bf16⟩
  | .local _ .vmem, ⟨2, _⟩ => ⟨S1664x256, .bf16⟩
  | .local _ .vmem, ⟨3, _⟩ => ⟨S1664x256, .bf16⟩
  | .local _ .vmem, ⟨4, _⟩ => ⟨S1664x512, .bf16⟩
  | .local _ .vmem, ⟨5, _⟩ => ⟨S1664x512, .bf16⟩
  | _, _ => ⟨S8320x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 11], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg1
  let c0_i32 : BitVec 32 := 0#32
  let v1 : BitVec 32 := Scalar.addi c0_i32 v0
  let c0_i32_0 : BitVec 32 := 0#32
  ![arg0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1664x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1664x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1664x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference17Ideal.lean ====
abbrev S8320x5632 : Shape := ⟨2, ![8320, 5632]⟩
abbrev S8320x2816 : Shape := ⟨2, ![8320, 2816]⟩
abbrev S8320x11x2x256 : Shape := ⟨4, ![8320, 11, 2, 256]⟩
abbrev S8320x11x1x256 : Shape := ⟨4, ![8320, 11, 1, 256]⟩
abbrev S8320x11x256 : Shape := ⟨3, ![8320, 11, 256]⟩
abbrev S_ : Shape := ⟨0, ![]⟩

abbrev nBuf : Space → Nat
  | .hbm => 66
  | .vmem => 0
  | .smem => 0
  | _ => 0

abbrev bufTy : (tb : Table) → Fin (tcTables nBuf tb) → BufTy
  | .hbm, ⟨0, _⟩ => ⟨S8320x5632, .bf16⟩
  | .hbm, ⟨1, _⟩ => ⟨S8320x2816, .bf16⟩
  | .hbm, ⟨2, _⟩ => ⟨S8320x5632, .f32⟩
  | .hbm, ⟨3, _⟩ => ⟨S8320x11x2x256, .f32⟩
  | .hbm, ⟨4, _⟩ => ⟨S8320x11x1x256, .f32⟩
  | .hbm, ⟨5, _⟩ => ⟨S8320x11x256, .f32⟩
  | .hbm, ⟨6, _⟩ => ⟨S8320x11x1x256, .f32⟩
  | .hbm, ⟨7, _⟩ => ⟨S8320x11x256, .f32⟩
  | .hbm, ⟨8, _⟩ => ⟨S8320x11x256, .f32⟩
  | .hbm, ⟨9, _⟩ => ⟨S8320x11x256, .f32⟩
  | .hbm, ⟨10, _⟩ => ⟨S8320x11x256, .f32⟩
  | .hbm, ⟨11, _⟩ => ⟨S_, .f32⟩
  | .hbm, ⟨12, _⟩ => ⟨S8320x11x256, .f32⟩
  | .hbm, ⟨13, _⟩ => ⟨S8320x11x256, .f32⟩
  | .hbm, ⟨14, _⟩ => ⟨S_, .f32⟩
  | .hbm, ⟨15, _⟩ => ⟨S8320x11x256, .f32⟩
  | .hbm, ⟨16, _⟩ => ⟨S8320x11x256, .f32⟩
  | .hbm, ⟨17, _⟩ => ⟨S8320x11x256, .f32⟩
  | .hbm, ⟨18, _⟩ => ⟨S_, .f32⟩
  | .hbm, ⟨19, _⟩ => ⟨S8320x11x256, .f32⟩
  | .hbm, ⟨20, _⟩ => ⟨S8320x11x256, .f32⟩
  | .hbm, ⟨21, _⟩ => ⟨S8320x11x256, .f32⟩
  | .hbm, ⟨22, _⟩ => ⟨S_, .f32⟩
  | .hbm, ⟨23, _⟩ => ⟨S8320x11x256, .f32⟩
  | .hbm, ⟨24, _⟩ => ⟨S8320x11x256, .f32⟩
  | .hbm, ⟨25, _⟩ => ⟨S_, .f32⟩
  | .hbm, ⟨26, _⟩ => ⟨S8320x11x256, .f32⟩
  | .hbm, ⟨27, _⟩ => ⟨S8320x11x256, .f32⟩
  | .hbm, ⟨28, _⟩ => ⟨S8320x11x256, .f32⟩
  | .hbm, ⟨29, _⟩ => ⟨S_, .f32⟩
  | .hbm, ⟨30, _⟩ => ⟨S8320x11x256, .f32⟩
  | .hbm, ⟨31, _⟩ => ⟨S8320x11x256, .f32⟩
  | .hbm, ⟨32, _⟩ => ⟨S_, .f32⟩
  | .hbm, ⟨33, _⟩ => ⟨S8320x11x256, .f32⟩
  | .hbm, ⟨34, _⟩ => ⟨S8320x11x256, .f32⟩
  | .hbm, ⟨35, _⟩ => ⟨S8320x11x256, .f32⟩
  | .hbm, ⟨36, _⟩ => ⟨S8320x11x256, .f32⟩
  | .hbm, ⟨37, _⟩ => ⟨S8320x2816, .f32⟩
  | .hbm, ⟨38, _⟩ => ⟨S8320x2816, .f32⟩
  | .hbm, ⟨39, _⟩ => ⟨S8320x11x256, .f32⟩
  | .hbm, ⟨40, _⟩ => ⟨S8320x11x256, .f32⟩
  | .hbm, ⟨41, _⟩ => ⟨S8320x11x256, .f32⟩
  | .hbm, ⟨42, _⟩ => ⟨S8320x11x256, .f32⟩
  | .hbm, ⟨43, _⟩ => ⟨S8320x11x256, .f32⟩
  | .hbm, ⟨44, _⟩ => ⟨S_, .f32⟩
  | .hbm, ⟨45, _⟩ => ⟨S8320x11x256, .f32⟩
  | .hbm, ⟨46, _⟩ => ⟨S8320x11x256, .f32⟩
  | .hbm, ⟨47, _⟩ => ⟨S8320x11x256, .f32⟩
  | .hbm, ⟨48, _⟩ => ⟨S_, .f32⟩
  | .hbm, ⟨49, _⟩ => ⟨S8320x11x256, .f32⟩
  | .hbm, ⟨50, _⟩ => ⟨S8320x11x256, .f32⟩
  | .hbm, ⟨51, _⟩ => ⟨S8320x11x256, .f32⟩
  | .hbm, ⟨52, _⟩ => ⟨S_, .f32⟩
  | .hbm, ⟨53, _⟩ => ⟨S8320x11x256, .f32⟩
  | .hbm, ⟨54, _⟩ => ⟨S8320x11x256, .f32⟩
  | .hbm, ⟨55, _⟩ => ⟨S8320x11x256, .f32⟩
  | .hbm, ⟨56, _⟩ => ⟨S8320x11x256, .f32⟩
  | .hbm, ⟨57, _⟩ => ⟨S8320x11x1x256, .f32⟩
  | .hbm, ⟨58, _⟩ => ⟨S_, .f32⟩
  | .hbm, ⟨59, _⟩ => ⟨S8320x11x2x256, .f32⟩
  | .hbm, ⟨60, _⟩ => ⟨S8320x11x1x256, .f32⟩
  | .hbm, ⟨61, _⟩ => ⟨S_, .f32⟩
  | .hbm, ⟨62, _⟩ => ⟨S8320x11x2x256, .f32⟩
  | .hbm, ⟨63, _⟩ => ⟨S8320x11x2x256, .f32⟩
  | .hbm, ⟨64, _⟩ => ⟨S8320x5632, .f32⟩
  | .hbm, ⟨65, _⟩ => ⟨S8320x5632, .bf16⟩
  | _, _ => ⟨S8320x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_6 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_7 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_8 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_9 : Ref sig .tc := ⟨.hbm, 58, rfl⟩
abbrev main_v46 : Ref sig .tc := ⟨.hbm, 59, rfl⟩
abbrev main_v47 : Ref sig .tc := ⟨.hbm, 60, rfl⟩
abbrev main_cst_10 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩

abbrev nD : Nat := 1
abbrev τ : Topo := Topo.v7x

variable {F : FTy → Type} [FloatOps F]
-- ==== Kernel18.lean ====
abbrev S8320x128 : Shape := ⟨2, ![8320, 128]⟩
abbrev S1x128 : Shape := ⟨2, ![1, 128]⟩
abbrev S640x128 : Shape := ⟨2, ![640, 128]⟩
abbrev S640x640 : Shape := ⟨2, ![640, 640]⟩
abbrev S128 : Shape := ⟨1, ![128]⟩

abbrev nBuf : Space → Nat
  | .hbm => 5
  | .vmem => 9
  | .smem => 0
  | _ => 0

abbrev bufTy : (tb : Table) → Fin (tcTables nBuf tb) → BufTy
  | .hbm, ⟨0, _⟩ => ⟨S8320x128, .f32⟩
  | .hbm, ⟨1, _⟩ => ⟨S8320x128, .f32⟩
  | .hbm, ⟨2, _⟩ => ⟨S1x128, .f32⟩
  | .hbm, ⟨3, _⟩ => ⟨S8320x128, .bf16⟩
  | .hbm, ⟨4, _⟩ => ⟨S1x128, .f32⟩
  | .local _ .vmem, ⟨0, _⟩ => ⟨S640x128, .f32⟩
  | .local _ .vmem, ⟨1, _⟩ => ⟨S640x128, .f32⟩
  | .local _ .vmem, ⟨2, _⟩ => ⟨S640x128, .f32⟩
  | .local _ .vmem, ⟨3, _⟩ => ⟨S640x128, .f32⟩
  | .local _ .vmem, ⟨4, _⟩ => ⟨S1x128, .f32⟩
  | .local _ .vmem, ⟨5, _⟩ => ⟨S640x128, .bf16⟩
  | .local _ .vmem, ⟨6, _⟩ => ⟨S640x128, .bf16⟩
  | .local _ .vmem, ⟨7, _⟩ => ⟨S1x128, .f32⟩
  | .local _ .vmem, ⟨8, _⟩ => ⟨S1x128, .f32⟩
  | _, _ => ⟨S8320x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![13], ![false]⟩

def k0_cond2 (i : grid0.Coords) : BitVec 1 :=
  let arg0 : BitVec 32 := BitVec.ofNat 32 (i 0).val
  let c0_i32_16 : BitVec 32 := 0#32
  let v30 : BitVec 1 := Scalar.cmpi .eq arg0 c0_i32_16
  let v31 : BitVec 32 := Scalar.extui v30
  let c0_i32_17 : BitVec 32 := 0#32
  let v32 : BitVec 1 := Scalar.cmpi .ne v31 c0_i32_17
  v32

def k0_cond3 (i : grid0.Coords) : BitVec 1 :=
  let arg0 : BitVec 32 := BitVec.ofNat 32 (i 0).val
  let c0_i32_18 : BitVec 32 := 0#32
  let v33 : BitVec 1 := Scalar.cmpi .sgt arg0 c0_i32_18
  let v34 : BitVec 32 := Scalar.extui v33
  let c0_i32_19 : BitVec 32 := 0#32
  let v35 : BitVec 1 := Scalar.cmpi .ne v34 c0_i32_19
  v35

def cc0_transform_0 (i : grid0.Coords) : Fin 2 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S640x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference18Ideal.lean ====
abbrev S8320x128 : Shape := ⟨2, ![8320, 128]⟩
abbrev S1x128 : Shape := ⟨2, ![1, 128]⟩
abbrev S_ : Shape := ⟨0, ![]⟩
abbrev S128 : Shape := ⟨1, ![128]⟩

abbrev nBuf : Space → Nat
  | .hbm => 66
  | .vmem => 0
  | .smem => 0
  | _ => 0

abbrev bufTy : (tb : Table) → Fin (tcTables nBuf tb) → BufTy
  | .hbm, ⟨0, _⟩ => ⟨S8320x128, .f32⟩
  | .hbm, ⟨1, _⟩ => ⟨S8320x128, .f32⟩
  | .hbm, ⟨2, _⟩ => ⟨S1x128, .f32⟩
  | .hbm, ⟨3, _⟩ => ⟨S8320x128, .f32⟩
  | .hbm, ⟨4, _⟩ => ⟨S8320x128, .f32⟩
  | .hbm, ⟨5, _⟩ => ⟨S8320x128, .f32⟩
  | .hbm, ⟨6, _⟩ => ⟨S_, .f32⟩
  | .hbm, ⟨7, _⟩ => ⟨S8320x128, .f32⟩
  | .hbm, ⟨8, _⟩ => ⟨S8320x128, .f32⟩
  | .hbm, ⟨9, _⟩ => ⟨S8320x128, .f32⟩
  | .hbm, ⟨10, _⟩ => ⟨S8320x128, .f32⟩
  | .hbm, ⟨11, _⟩ => ⟨S8320x128, .i1⟩
  | .hbm, ⟨12, _⟩ => ⟨S8320x128, .f32⟩
  | .hbm, ⟨13, _⟩ => ⟨S8320x128, .f32⟩
  | .hbm, ⟨14, _⟩ => ⟨S8320x128, .f32⟩
  | .hbm, ⟨15, _⟩ => ⟨S8320x128, .f32⟩
  | .hbm, ⟨16, _⟩ => ⟨S8320x128, .f32⟩
  | .hbm, ⟨17, _⟩ => ⟨S8320x128, .f32⟩
  | .hbm, ⟨18, _⟩ => ⟨S8320x128, .f32⟩
  | .hbm, ⟨19, _⟩ => ⟨S8320x128, .f32⟩
  | .hbm, ⟨20, _⟩ => ⟨S_, .f32⟩
  | .hbm, ⟨21, _⟩ => ⟨S8320x128, .f32⟩
  | .hbm, ⟨22, _⟩ => ⟨S8320x128, .i1⟩
  | .hbm, ⟨23, _⟩ => ⟨S_, .f32⟩
  | .hbm, ⟨24, _⟩ => ⟨S8320x128, .f32⟩
  | .hbm, ⟨25, _⟩ => ⟨S8320x128, .f32⟩
  | .hbm, ⟨26, _⟩ => ⟨S_, .f32⟩
  | .hbm, ⟨27, _⟩ => ⟨S8320x128, .f32⟩
  | .hbm, ⟨28, _⟩ => ⟨S8320x128, .i1⟩
  | .hbm, ⟨29, _⟩ => ⟨S_, .f32⟩
  | .hbm, ⟨30, _⟩ => ⟨S8320x128, .f32⟩
  | .hbm, ⟨31, _⟩ => ⟨S8320x128, .f32⟩
  | .hbm, ⟨32, _⟩ => ⟨S8320x128, .f32⟩
  | .hbm, ⟨33, _⟩ => ⟨S8320x128, .f32⟩
  | .hbm, ⟨34, _⟩ => ⟨S_, .f32⟩
  | .hbm, ⟨35, _⟩ => ⟨S_, .f32⟩
  | .hbm, ⟨36, _⟩ => ⟨S_, .i1⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8320x128, .f32⟩
  | .hbm, ⟨42, _⟩ => ⟨S8320x128, .i1⟩
  | .hbm, ⟨43, _⟩ => ⟨S_, .f32⟩
  | .hbm, ⟨44, _⟩ => ⟨S8320x128, .f32⟩
  | .hbm, ⟨45, _⟩ => ⟨S8320x128, .f32⟩
  | .hbm, ⟨46, _⟩ => ⟨S8320x128, .f32⟩
  | .hbm, ⟨47, _⟩ => ⟨S8320x128, .f32⟩
  | .hbm, ⟨48, _⟩ => ⟨S8320x128, .f32⟩
  | .hbm, ⟨49, _⟩ => ⟨S_, .f32⟩
  | .hbm, ⟨50, _⟩ => ⟨S8320x128, .f32⟩
  | .hbm, ⟨51, _⟩ => ⟨S8320x128, .f32⟩
  | .hbm, ⟨52, _⟩ => ⟨S8320x128, .f32⟩
  | .hbm, ⟨53, _⟩ => ⟨S_, .f32⟩
  | .hbm, ⟨54, _⟩ => ⟨S_, .f32⟩
  | .hbm, ⟨55, _⟩ => ⟨S8320x128, .f32⟩
  | .hbm, ⟨56, _⟩ => ⟨S_, .f32⟩
  | .hbm, ⟨57, _⟩ => ⟨S_, .f32⟩
  | .hbm, ⟨58, _⟩ => ⟨S8320x128, .f32⟩
  | .hbm, ⟨59, _⟩ => ⟨S8320x128, .f32⟩
  | .hbm, ⟨60, _⟩ => ⟨S8320x128, .f32⟩
  | .hbm, ⟨61, _⟩ => ⟨S8320x128, .f32⟩
  | .hbm, ⟨62, _⟩ => ⟨S_, .f32⟩
  | .hbm, ⟨63, _⟩ => ⟨S128, .f32⟩
  | .hbm, ⟨64, _⟩ => ⟨S1x128, .f32⟩
  | .hbm, ⟨65, _⟩ => ⟨S8320x128, .bf16⟩
  | _, _ => ⟨S8320x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_call0_v5 : Ref sig .tc := ⟨.hbm, 12, rfl⟩
abbrev main_call0_call0_v6 : Ref sig .tc := ⟨.hbm, 13, rfl⟩
abbrev main_call0_call0_v7 : Ref sig .tc := ⟨.hbm, 14, rfl⟩
abbrev main_call0_call0_v8 : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_v11 : Ref sig .tc := ⟨.hbm, 18, rfl⟩
abbrev main_call0_v1_0 : Ref sig .tc := ⟨.hbm, 19, rfl⟩
abbrev main_call0_call0_cst_0 : Ref sig .tc := ⟨.hbm, 20, rfl⟩
abbrev main_call0_call0_v13 : Ref sig .tc := ⟨.hbm, 21, rfl⟩
abbrev main_call0_call0_v14 : Ref sig .tc := ⟨.hbm, 22, rfl⟩
abbrev main_call0_call0_cst_1 : Ref sig .tc := ⟨.hbm, 23, rfl⟩
abbrev main_call0_call0_v15 : Ref sig .tc := ⟨.hbm, 24, rfl⟩
abbrev main_call0_call0_v16 : Ref sig .tc := ⟨.hbm, 25, rfl⟩
abbrev main_call0_call0_cst_2 : Ref sig .tc := ⟨.hbm, 26, rfl⟩
abbrev main_call0_call0_v17 : Ref sig .tc := ⟨.hbm, 27, rfl⟩
abbrev main_call0_call0_v18 : Ref sig .tc := ⟨.hbm, 28, rfl⟩
abbrev main_call0_call0_cst_3 : Ref sig .tc := ⟨.hbm, 29, rfl⟩
abbrev main_call0_call0_v19 : Ref sig .tc := ⟨.hbm, 30, rfl⟩
abbrev main_call0_call0_v20 : Ref sig .tc := ⟨.hbm, 31, rfl⟩
abbrev main_call0_call0_v21 : Ref sig .tc := ⟨.hbm, 32, rfl⟩
abbrev main_v2_1 : Ref sig .tc := ⟨.hbm, 33, rfl⟩
abbrev main_call0_call0_cst_4 : Ref sig .tc := ⟨.hbm, 34, rfl⟩
abbrev main_call0_call0_cst_5 : Ref sig .tc := ⟨.hbm, 35, rfl⟩
abbrev main_call0_call0_v23 : Ref sig .tc := ⟨.hbm, 36, rfl⟩
abbrev main_call0_call0_cst_6 : Ref sig .tc := ⟨.hbm, 37, rfl⟩
abbrev main_call0_call0_cst_7 : Ref sig .tc := ⟨.hbm, 38, rfl⟩
abbrev main_call0_call0_v24 : Ref sig .tc := ⟨.hbm, 39, rfl⟩
abbrev main_call0_call0_cst_8 : Ref sig .tc := ⟨.hbm, 40, rfl⟩
abbrev main_call0_call0_v25 : Ref sig .tc := ⟨.hbm, 41, rfl⟩
abbrev main_call0_call0_v26 : Ref sig .tc := ⟨.hbm, 42, rfl⟩
abbrev main_call0_call0_cst_9 : Ref sig .tc := ⟨.hbm, 43, rfl⟩
abbrev main_call0_call0_v27 : Ref sig .tc := ⟨.hbm, 44, rfl⟩
abbrev main_call0_call0_v28 : Ref sig .tc := ⟨.hbm, 45, rfl⟩
abbrev main_call0_call0_v29 : Ref sig .tc := ⟨.hbm, 46, rfl⟩
abbrev main_call0_call0_v30 : Ref sig .tc := ⟨.hbm, 47, rfl⟩
abbrev main_call0_call0_v31 : Ref sig .tc := ⟨.hbm, 48, rfl⟩
abbrev main_call0_call0_cst_10 : Ref sig .tc := ⟨.hbm, 49, rfl⟩
abbrev main_call0_call0_v32 : Ref sig .tc := ⟨.hbm, 50, rfl⟩
abbrev main_v2_2 : Ref sig .tc := ⟨.hbm, 51, rfl⟩
abbrev main_v2_0 : Ref sig .tc := ⟨.hbm, 52, rfl⟩
abbrev main_call1_call0_cst : Ref sig .tc := ⟨.hbm, 53, rfl⟩
abbrev main_call1_call0_v0 : Ref sig .tc := ⟨.hbm, 54, rfl⟩
abbrev main_v3 : Ref sig .tc := ⟨.hbm, 55, rfl⟩
abbrev main_call2_call0_cst : Ref sig .tc := ⟨.hbm, 56, rfl⟩
abbrev main_call2_call0_v0 : Ref sig .tc := ⟨.hbm, 57, rfl⟩
abbrev main_v4 : Ref sig .tc := ⟨.hbm, 58, rfl⟩
abbrev main_call3_v0 : Ref sig .tc := ⟨.hbm, 59, rfl⟩
abbrev main_call3_v1 : Ref sig .tc := ⟨.hbm, 60, rfl⟩
abbrev main_v5 : Ref sig .tc := ⟨.hbm, 61, rfl⟩
abbrev main_cst : Ref sig .tc := ⟨.hbm, 62, rfl⟩
abbrev main_v6 : Ref sig .tc := ⟨.hbm, 63, rfl⟩
abbrev main_v7 : Ref sig .tc := ⟨.hbm, 64, rfl⟩
abbrev main_v8 : Ref sig .tc := ⟨.hbm, 65, rfl⟩

abbrev nD : Nat := 1
abbrev τ : Topo := Topo.v7x

variable {F : FTy → Type} [FloatOps F]
-- ==== Kernel19.lean ====
abbrev S8320x5632 : Shape := ⟨2, ![8320, 5632]⟩
abbrev S3x5632 : Shape := ⟨2, ![3, 5632]⟩
abbrev S1664x512 : Shape := ⟨2, ![1664, 512]⟩
abbrev S8x512 : Shape := ⟨2, ![8, 512]⟩
abbrev S3x512 : Shape := ⟨2, ![3, 512]⟩
abbrev S1672x512 : Shape := ⟨2, ![1672, 512]⟩
abbrev S24x512 : Shape := ⟨2, ![24, 512]⟩
abbrev S16x512 : Shape := ⟨2, ![16, 512]⟩
abbrev S1x512 : Shape := ⟨2, ![1, 512]⟩
abbrev S512 : Shape := ⟨1, ![512]⟩

abbrev nBuf : Space → Nat
  | .hbm => 5
  | .vmem => 13
  | .smem => 0
  | _ => 0

abbrev bufTy : (tb : Table) → Fin (tcTables nBuf tb) → BufTy
  | .hbm, ⟨0, _⟩ => ⟨S8320x5632, .bf16⟩
  | .hbm, ⟨1, _⟩ => ⟨S8320x5632, .bf16⟩
  | .hbm, ⟨2, _⟩ => ⟨S3x5632, .f32⟩
  | .hbm, ⟨3, _⟩ => ⟨S8320x5632, .bf16⟩
  | .hbm, ⟨4, _⟩ => ⟨S3x5632, .f32⟩
  | .local _ .vmem, ⟨0, _⟩ => ⟨S1664x512, .bf16⟩
  | .local _ .vmem, ⟨1, _⟩ => ⟨S1664x512, .bf16⟩
  | .local _ .vmem, ⟨2, _⟩ => ⟨S8x512, .bf16⟩
  | .local _ .vmem, ⟨3, _⟩ => ⟨S8x512, .bf16⟩
  | .local _ .vmem, ⟨4, _⟩ => ⟨S1664x512, .bf16⟩
  | .local _ .vmem, ⟨5, _⟩ => ⟨S1664x512, .bf16⟩
  | .local _ .vmem, ⟨6, _⟩ => ⟨S3x512, .f32⟩
  | .local _ .vmem, ⟨7, _⟩ => ⟨S3x512, .f32⟩
  | .local _ .vmem, ⟨8, _⟩ => ⟨S1664x512, .bf16⟩
  | .local _ .vmem, ⟨9, _⟩ => ⟨S1664x512, .bf16⟩
  | .local _ .vmem, ⟨10, _⟩ => ⟨S3x512, .f32⟩
  | .local _ .vmem, ⟨11, _⟩ => ⟨S3x512, .f32⟩
  | .local _ .vmem, ⟨12, _⟩ => ⟨S1672x512, .f32⟩
  | _, _ => ⟨S8320x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![11, 5], ![false, false]⟩

@[reducible] def k0_t1_loop : Scf.Loop 32 :=
  let c0_i32 : BitVec 32 := 0#32
  let c104_i32 : BitVec 32 := 104#32
  let v17 : BitVec 32 := Scalar.addi c0_i32 c104_i32
  let c1_i32 : BitVec 32 := 1#32
  ⟨c0_i32, v17, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c16_i32 : BitVec 32 := 16#32
  let v32 : BitVec 32 := Scalar.muli arg9 c16_i32
  v32
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c16_i32 : BitVec 32 := 16#32
  let v32 : BitVec 32 := Scalar.muli arg9 c16_i32
  let v33 : BitVec 32 := v32
  let v34 : Index := Scalar.indexCast v33
  let c0_19 : Index := 0#32
  ![v34.toNat, 0]
def k0_off2 (k0_t1 : Fin k0_t1_loop.trips) : Fin 2 → Nat :=
  let c0_i32 : BitVec 32 := 0#32
  let c1_i32 : BitVec 32 := 1#32
  let arg9 : BitVec 32 := Scf.iv c0_i32 c1_i32 k0_t1
  let c16_i32 : BitVec 32 := 16#32
  let v32 : BitVec 32 := Scalar.muli arg9 c16_i32
  let v33 : BitVec 32 := v32
  let v36 : Index := Scalar.indexCast v33
  let c0_20 : Index := 0#32
  ![v36.toNat, 0]
def k0_cond1 (i : grid0.Coords) : BitVec 1 :=
  let arg1 : BitVec 32 := BitVec.ofNat 32 (i 1).val
  let c0_i32_15 : BitVec 32 := 0#32
  let v26 : BitVec 1 := Scalar.cmpi .eq arg1 c0_i32_15
  let v27 : BitVec 32 := Scalar.extui v26
  let c0_i32_16 : BitVec 32 := 0#32
  let v28 : BitVec 1 := Scalar.cmpi .ne v27 c0_i32_16
  v28

def k0_cond2 (i : grid0.Coords) : BitVec 1 :=
  let arg1 : BitVec 32 := BitVec.ofNat 32 (i 1).val
  let c0_i32_17 : BitVec 32 := 0#32
  let v29 : BitVec 1 := Scalar.cmpi .sgt arg1 c0_i32_17
  let v30 : BitVec 32 := Scalar.extui v29
  let c0_i32_18 : BitVec 32 := 0#32
  let v31 : BitVec 1 := Scalar.cmpi .ne v30 c0_i32_18
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c208_i32 : BitVec 32 := 208#32
  let v1 : BitVec 32 := Scalar.muli v0 c208_i32
  let c1039_i32 : BitVec 32 := 1039#32
  let v2 : BitVec 32 := Scalar.minsi v1 c1039_i32
  let c0_i32 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1664x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1664x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1664x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference19Ideal.lean ====
abbrev S8320x5632 : Shape := ⟨2, ![8320, 5632]⟩
abbrev S3x5632 : Shape := ⟨2, ![3, 5632]⟩
abbrev S_ : Shape := ⟨0, ![]⟩
abbrev S2x5632 : Shape := ⟨2, ![2, 5632]⟩
abbrev S8322x5632 : Shape := ⟨2, ![8322, 5632]⟩
abbrev S1x5632 : Shape := ⟨2, ![1, 5632]⟩
abbrev S5632 : Shape := ⟨1, ![5632]⟩

abbrev nBuf : Space → Nat
  | .hbm => 79
  | .vmem => 0
  | .smem => 0
  | _ => 0

abbrev bufTy : (tb : Table) → Fin (tcTables nBuf tb) → BufTy
  | .hbm, ⟨0, _⟩ => ⟨S8320x5632, .bf16⟩
  | .hbm, ⟨1, _⟩ => ⟨S8320x5632, .bf16⟩
  | .hbm, ⟨2, _⟩ => ⟨S3x5632, .f32⟩
  | .hbm, ⟨3, _⟩ => ⟨S8320x5632, .f32⟩
  | .hbm, ⟨4, _⟩ => ⟨S_, .f32⟩
  | .hbm, ⟨5, _⟩ => ⟨S2x5632, .f32⟩
  | .hbm, ⟨6, _⟩ => ⟨S8322x5632, .f32⟩
  | .hbm, ⟨7, _⟩ => ⟨S_, .f32⟩
  | .hbm, ⟨8, _⟩ => ⟨S2x5632, .f32⟩
  | .hbm, ⟨9, _⟩ => ⟨S1x5632, .f32⟩
  | .hbm, ⟨10, _⟩ => ⟨S5632, .f32⟩
  | .hbm, ⟨11, _⟩ => ⟨S8320x5632, .f32⟩
  | .hbm, ⟨12, _⟩ => ⟨S1x5632, .f32⟩
  | .hbm, ⟨13, _⟩ => ⟨S8320x5632, .f32⟩
  | .hbm, ⟨14, _⟩ => ⟨S8320x5632, .f32⟩
  | .hbm, ⟨15, _⟩ => ⟨S_, .f32⟩
  | .hbm, ⟨16, _⟩ => ⟨S8320x5632, .f32⟩
  | .hbm, ⟨17, _⟩ => ⟨S8320x5632, .f32⟩
  | .hbm, ⟨18, _⟩ => ⟨S1x5632, .f32⟩
  | .hbm, ⟨19, _⟩ => ⟨S5632, .f32⟩
  | .hbm, ⟨20, _⟩ => ⟨S8320x5632, .f32⟩
  | .hbm, ⟨21, _⟩ => ⟨S1x5632, .f32⟩
  | .hbm, ⟨22, _⟩ => ⟨S8320x5632, .f32⟩
  | .hbm, ⟨23, _⟩ => ⟨S8320x5632, .f32⟩
  | .hbm, ⟨24, _⟩ => ⟨S8320x5632, .f32⟩
  | .hbm, ⟨25, _⟩ => ⟨S1x5632, .f32⟩
  | .hbm, ⟨26, _⟩ => ⟨S5632, .f32⟩
  | .hbm, ⟨27, _⟩ => ⟨S8320x5632, .f32⟩
  | .hbm, ⟨28, _⟩ => ⟨S1x5632, .f32⟩
  | .hbm, ⟨29, _⟩ => ⟨S8320x5632, .f32⟩
  | .hbm, ⟨30, _⟩ => ⟨S8320x5632, .f32⟩
  | .hbm, ⟨31, _⟩ => ⟨S8320x5632, .f32⟩
  | .hbm, ⟨32, _⟩ => ⟨S8320x5632, .f32⟩
  | .hbm, ⟨33, _⟩ => ⟨S8320x5632, .f32⟩
  | .hbm, ⟨34, _⟩ => ⟨S8320x5632, .f32⟩
  | .hbm, ⟨35, _⟩ => ⟨S8320x5632, .f32⟩
  | .hbm, ⟨36, _⟩ => ⟨S_, .f32⟩
  | .hbm, ⟨37, _⟩ => ⟨S5632, .f32⟩
  | .hbm, ⟨38, _⟩ => ⟨S1x5632, .f32⟩
  | .hbm, ⟨39, _⟩ => ⟨S_, .f32⟩
  | .hbm, ⟨40, _⟩ => ⟨S5632, .f32⟩
  | .hbm, ⟨41, _⟩ => ⟨S_, .f32⟩
  | .hbm, ⟨42, _⟩ => ⟨S8322x5632, .f32⟩
  | .hbm, ⟨43, _⟩ => ⟨S1x5632, .f32⟩
  | .hbm, ⟨44, _⟩ => ⟨S_, .f32⟩
  | .hbm, ⟨45, _⟩ => ⟨S3x5632, .f32⟩
  | .hbm, ⟨46, _⟩ => ⟨S8320x5632, .f32⟩
  | .hbm, ⟨47, _⟩ => ⟨S8320x5632, .f32⟩
  | .hbm, ⟨48, _⟩ => ⟨S8320x5632, .f32⟩
  | .hbm, ⟨49, _⟩ => ⟨S_, .f32⟩
  | .hbm, ⟨50, _⟩ => ⟨S5632, .f32⟩
  | .hbm, ⟨51, _⟩ => ⟨S1x5632, .f32⟩
  | .hbm, ⟨52, _⟩ => ⟨S_, .f32⟩
  | .hbm, ⟨53, _⟩ => ⟨S5632, .f32⟩
  | .hbm, ⟨54, _⟩ => ⟨S_, .f32⟩
  | .hbm, ⟨55, _⟩ => ⟨S8322x5632, .f32⟩
  | .hbm, ⟨56, _⟩ => ⟨S8322x5632, .f32⟩
  | .hbm, ⟨57, _⟩ => ⟨S1x5632, .f32⟩
  | .hbm, ⟨58, _⟩ => ⟨S_, .f32⟩
  | .hbm, ⟨59, _⟩ => ⟨S3x5632, .f32⟩
  | .hbm, ⟨60, _⟩ => ⟨S3x5632, .f32⟩
  | .hbm, ⟨61, _⟩ => ⟨S8320x5632, .f32⟩
  | .hbm, ⟨62, _⟩ => ⟨S8320x5632, .f32⟩
  | .hbm, ⟨63, _⟩ => ⟨S8320x5632, .f32⟩
  | .hbm, ⟨64, _⟩ => ⟨S_, .f32⟩
  | .hbm, ⟨65, _⟩ => ⟨S5632, .f32⟩
  | .hbm, ⟨66, _⟩ => ⟨S1x5632, .f32⟩
  | .hbm, ⟨67, _⟩ => ⟨S_, .f32⟩
  | .hbm, ⟨68, _⟩ => ⟨S5632, .f32⟩
  | .hbm, ⟨69, _⟩ => ⟨S_, .f32⟩
  | .hbm, ⟨70, _⟩ => ⟨S8322x5632, .f32⟩
  | .hbm, ⟨71, _⟩ => ⟨S8322x5632, .f32⟩
  | .hbm, ⟨72, _⟩ => ⟨S1x5632, .f32⟩
  | .hbm, ⟨73, _⟩ => ⟨S_, .f32⟩
  | .hbm, ⟨74, _⟩ => ⟨S3x5632, .f32⟩
  | .hbm, ⟨75, _⟩ => ⟨S3x5632, .f32⟩
  | .hbm, ⟨76, _⟩ => ⟨S2x5632, .f32⟩
  | .hbm, ⟨77, _⟩ => ⟨S8320x5632, .f32⟩
  | .hbm, ⟨78, _⟩ => ⟨S8320x5632, .bf16⟩
  | _, _ => ⟨S8320x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_2 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_cst_4 : Ref sig .tc := ⟨.hbm, 41, rfl⟩
abbrev main_v33 : Ref sig .tc := ⟨.hbm, 42, rfl⟩
abbrev main_v34 : Ref sig .tc := ⟨.hbm, 43, rfl⟩
abbrev main_cst_5 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_6 : Ref sig .tc := ⟨.hbm, 49, rfl⟩
abbrev main_v39 : Ref sig .tc := ⟨.hbm, 50, rfl⟩
abbrev main_v40 : Ref sig .tc := ⟨.hbm, 51, rfl⟩
abbrev main_cst_7 : Ref sig .tc := ⟨.hbm, 52, rfl⟩
abbrev main_v41 : Ref sig .tc := ⟨.hbm, 53, rfl⟩
abbrev main_cst_8 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_9 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_cst_11 : Ref sig .tc := ⟨.hbm, 67, rfl⟩
abbrev main_v52 : Ref sig .tc := ⟨.hbm, 68, rfl⟩
abbrev main_cst_12 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_13 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩

abbrev nD : Nat := 1
abbrev τ : Topo := Topo.v7x

variable {F : FTy → Type} [FloatOps F]
-- ==== Kernel20.lean ====
abbrev S1024x8320 : Shape := ⟨2, ![1024, 8320]⟩
abbrev S8320x128 : Shape := ⟨2, ![8320, 128]⟩
abbrev S1024x128 : Shape := ⟨2, ![1024, 128]⟩
abbrev S1024x1664 : Shape := ⟨2, ![1024, 1664]⟩
abbrev S1664x128 : Shape := ⟨2, ![1664, 128]⟩

abbrev nBuf : Space → Nat
  | .hbm => 3
  | .vmem => 6
  | .smem => 0
  | _ => 0

abbrev bufTy : (tb : Table) → Fin (tcTables nBuf tb) → BufTy
  | .hbm, ⟨0, _⟩ => ⟨S1024x8320, .bf16⟩
  | .hbm, ⟨1, _⟩ => ⟨S8320x128, .bf16⟩
  | .hbm, ⟨2, _⟩ => ⟨S1024x128, .bf16⟩
  | .local _ .vmem, ⟨0, _⟩ => ⟨S1024x1664, .bf16⟩
  | .local _ .vmem, ⟨1, _⟩ => ⟨S1024x1664, .bf16⟩
  | .local _ .vmem, ⟨2, _⟩ => ⟨S1664x128, .bf16⟩
  | .local _ .vmem, ⟨3, _⟩ => ⟨S1664x128, .bf16⟩
  | .local _ .vmem, ⟨4, _⟩ => ⟨S1024x128, .bf16⟩
  | .local _ .vmem, ⟨5, _⟩ => ⟨S1024x128, .f32⟩
  | _, _ => ⟨S1024x8320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 5], ![false, false, false]⟩

def k0_cond3 (i : grid0.Coords) : BitVec 1 :=
  let arg2 : BitVec 32 := BitVec.ofNat 32 (i 2).val
  let c4_i32 : BitVec 32 := 4#32
  let v9 : BitVec 1 := Scalar.cmpi .eq arg2 c4_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference20Ideal.lean ====
abbrev S1024x8320 : Shape := ⟨2, ![1024, 8320]⟩
abbrev S8320x128 : Shape := ⟨2, ![8320, 128]⟩
abbrev S8320x1024 : Shape := ⟨2, ![8320, 1024]⟩
abbrev S_ : Shape := ⟨0, ![]⟩
abbrev S1024x128 : Shape := ⟨2, ![1024, 128]⟩
abbrev S128x1024 : Shape := ⟨2, ![128, 1024]⟩

abbrev nBuf : Space → Nat
  | .hbm => 13
  | .vmem => 0
  | .smem => 0
  | _ => 0

abbrev bufTy : (tb : Table) → Fin (tcTables nBuf tb) → BufTy
  | .hbm, ⟨0, _⟩ => ⟨S1024x8320, .bf16⟩
  | .hbm, ⟨1, _⟩ => ⟨S8320x128, .bf16⟩
  | .hbm, ⟨2, _⟩ => ⟨S8320x1024, .bf16⟩
  | .hbm, ⟨3, _⟩ => ⟨S_, .f32⟩
  | .hbm, ⟨4, _⟩ => ⟨S1024x128, .f32⟩
  | .hbm, ⟨5, _⟩ => ⟨S8320x1024, .f32⟩
  | .hbm, ⟨6, _⟩ => ⟨S8320x128, .f32⟩
  | .hbm, ⟨7, _⟩ => ⟨S8320x128, .f32⟩
  | .hbm, ⟨8, _⟩ => ⟨S128x1024, .f32⟩
  | .hbm, ⟨9, _⟩ => ⟨S1024x128, .f32⟩
  | .hbm, ⟨10, _⟩ => ⟨S8320x1024, .f32⟩
  | .hbm, ⟨11, _⟩ => ⟨S8320x1024, .bf16⟩
  | .hbm, ⟨12, _⟩ => ⟨S1024x128, .bf16⟩
  | _, _ => ⟨S1024x8320, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel21.lean ====
abbrev S8320x128 : Shape := ⟨2, ![8320, 128]⟩
abbrev S1024x128 : Shape := ⟨2, ![1024, 128]⟩
abbrev S8320x1024 : Shape := ⟨2, ![8320, 1024]⟩
abbrev S1664x128 : Shape := ⟨2, ![1664, 128]⟩
abbrev S1664x1024 : Shape := ⟨2, ![1664, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x128, .bf16⟩
  | .hbm, ⟨1, _⟩ => ⟨S1024x128, .bf16⟩
  | .hbm, ⟨2, _⟩ => ⟨S8320x1024, .f32⟩
  | .local _ .vmem, ⟨0, _⟩ => ⟨S1664x128, .bf16⟩
  | .local _ .vmem, ⟨1, _⟩ => ⟨S1664x128, .bf16⟩
  | .local _ .vmem, ⟨2, _⟩ => ⟨S1024x128, .bf16⟩
  | .local _ .vmem, ⟨3, _⟩ => ⟨S1664x1024, .f32⟩
  | .local _ .vmem, ⟨4, _⟩ => ⟨S1664x1024, .f32⟩
  | .local _ .vmem, ⟨5, _⟩ => ⟨S1664x1024, .f32⟩
  | _, _ => ⟨S8320x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![5, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1664x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S8320x128 : Shape := ⟨2, ![8320, 128]⟩
abbrev S1024x128 : Shape := ⟨2, ![1024, 128]⟩
abbrev S_ : Shape := ⟨0, ![]⟩
abbrev S8320x1024 : Shape := ⟨2, ![8320, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8320x128, .bf16⟩
  | .hbm, ⟨1, _⟩ => ⟨S1024x128, .bf16⟩
  | .hbm, ⟨2, _⟩ => ⟨S1024x128, .f32⟩
  | .hbm, ⟨3, _⟩ => ⟨S_, .f32⟩
  | .hbm, ⟨4, _⟩ => ⟨S8320x1024, .f32⟩
  | .hbm, ⟨5, _⟩ => ⟨S8320x128, .f32⟩
  | .hbm, ⟨6, _⟩ => ⟨S8320x128, .f32⟩
  | .hbm, ⟨7, _⟩ => ⟨S8320x1024, .f32⟩
  | _, _ => ⟨S8320x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel22.lean ====
abbrev S8320x1024 : Shape := ⟨2, ![8320, 1024]⟩
abbrev S1024x128 : Shape := ⟨2, ![1024, 128]⟩
abbrev S8320x128 : Shape := ⟨2, ![8320, 128]⟩
abbrev S1664x1024 : Shape := ⟨2, ![1664, 1024]⟩
abbrev S1664x128 : Shape := ⟨2, ![1664, 128]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S1024x128, .bf16⟩
  | .hbm, ⟨2, _⟩ => ⟨S8320x128, .f32⟩
  | .local _ .vmem, ⟨0, _⟩ => ⟨S1664x1024, .bf16⟩
  | .local _ .vmem, ⟨1, _⟩ => ⟨S1664x1024, .bf16⟩
  | .local _ .vmem, ⟨2, _⟩ => ⟨S1024x128, .bf16⟩
  | .local _ .vmem, ⟨3, _⟩ => ⟨S1664x128, .f32⟩
  | .local _ .vmem, ⟨4, _⟩ => ⟨S1664x128, .f32⟩
  | .local _ .vmem, ⟨5, _⟩ => ⟨S1664x128, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![5, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1664x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S8320x1024 : Shape := ⟨2, ![8320, 1024]⟩
abbrev S1024x128 : Shape := ⟨2, ![1024, 128]⟩
abbrev S8320x128 : Shape := ⟨2, ![8320, 128]⟩

abbrev nBuf : Space → Nat
  | .hbm => 5
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x128, .bf16⟩
  | .hbm, ⟨2, _⟩ => ⟨S8320x1024, .f32⟩
  | .hbm, ⟨3, _⟩ => ⟨S1024x128, .f32⟩
  | .hbm, ⟨4, _⟩ => ⟨S8320x128, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel23.lean ====
abbrev S8320x128 : Shape := ⟨2, ![8320, 128]⟩
abbrev S1x128 : Shape := ⟨2, ![1, 128]⟩
abbrev S640x128 : Shape := ⟨2, ![640, 128]⟩
abbrev S640x640 : Shape := ⟨2, ![640, 640]⟩

abbrev nBuf : Space → Nat
  | .hbm => 3
  | .vmem => 6
  | .smem => 0
  | _ => 0

abbrev bufTy : (tb : Table) → Fin (tcTables nBuf tb) → BufTy
  | .hbm, ⟨0, _⟩ => ⟨S8320x128, .f32⟩
  | .hbm, ⟨1, _⟩ => ⟨S1x128, .f32⟩
  | .hbm, ⟨2, _⟩ => ⟨S8320x128, .f32⟩
  | .local _ .vmem, ⟨0, _⟩ => ⟨S640x128, .f32⟩
  | .local _ .vmem, ⟨1, _⟩ => ⟨S640x128, .f32⟩
  | .local _ .vmem, ⟨2, _⟩ => ⟨S1x128, .f32⟩
  | .local _ .vmem, ⟨3, _⟩ => ⟨S640x128, .f32⟩
  | .local _ .vmem, ⟨4, _⟩ => ⟨S640x128, .f32⟩
  | .local _ .vmem, ⟨5, _⟩ => ⟨S1x128, .f32⟩
  | _, _ => ⟨S8320x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference23Ideal.lean ====
abbrev S8320x128 : Shape := ⟨2, ![8320, 128]⟩
abbrev S1x128 : Shape := ⟨2, ![1, 128]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8320x128, .f32⟩
  | .hbm, ⟨1, _⟩ => ⟨S1x128, .f32⟩
  | .hbm, ⟨2, _⟩ => ⟨S8320x128, .f32⟩
  | .hbm, ⟨3, _⟩ => ⟨S8320x128, .f32⟩
  | .hbm, ⟨4, _⟩ => ⟨S8320x128, .f32⟩
  | .hbm, ⟨5, _⟩ => ⟨S_, .f32⟩
  | .hbm, ⟨6, _⟩ => ⟨S8320x128, .f32⟩
  | .hbm, ⟨7, _⟩ => ⟨S8320x128, .f32⟩
  | .hbm, ⟨8, _⟩ => ⟨S8320x128, .f32⟩
  | .hbm, ⟨9, _⟩ => ⟨S8320x128, .f32⟩
  | .hbm, ⟨10, _⟩ => ⟨S8320x128, .i1⟩
  | .hbm, ⟨11, _⟩ => ⟨S8320x128, .f32⟩
  | .hbm, ⟨12, _⟩ => ⟨S8320x128, .f32⟩
  | .hbm, ⟨13, _⟩ => ⟨S8320x128, .f32⟩
  | .hbm, ⟨14, _⟩ => ⟨S8320x128, .f32⟩
  | .hbm, ⟨15, _⟩ => ⟨S8320x128, .f32⟩
  | .hbm, ⟨16, _⟩ => ⟨S8320x128, .f32⟩
  | .hbm, ⟨17, _⟩ => ⟨S8320x128, .f32⟩
  | .hbm, ⟨18, _⟩ => ⟨S8320x128, .f32⟩
  | .hbm, ⟨19, _⟩ => ⟨S8320x128, .f32⟩
  | .hbm, ⟨20, _⟩ => ⟨S_, .f32⟩
  | .hbm, ⟨21, _⟩ => ⟨S_, .f32⟩
  | .hbm, ⟨22, _⟩ => ⟨S8320x128, .f32⟩
  | _, _ => ⟨S8320x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_call0_cst : Ref sig .tc := ⟨.hbm, 5, rfl⟩
abbrev main_call0_call0_v0 : Ref sig .tc := ⟨.hbm, 6, rfl⟩
abbrev main_call0_call0_v1 : Ref sig .tc := ⟨.hbm, 7, rfl⟩
abbrev main_call0_call0_v2 : Ref sig .tc := ⟨.hbm, 8, rfl⟩
abbrev main_call0_call0_v3 : Ref sig .tc := ⟨.hbm, 9, rfl⟩
abbrev main_call0_call0_v4 : Ref sig .tc := ⟨.hbm, 10, rfl⟩
abbrev main_call0_call0_v5 : Ref sig .tc := ⟨.hbm, 11, rfl⟩
abbrev main_call0_call0_v6 : Ref sig .tc := ⟨.hbm, 12, rfl⟩
abbrev main_call0_call0_v7 : Ref sig .tc := ⟨.hbm, 13, rfl⟩
abbrev main_call0_call0_v8 : Ref sig .tc := ⟨.hbm, 14, rfl⟩
abbrev main_call0_call0_v9 : Ref sig .tc := ⟨.hbm, 15, rfl⟩
abbrev main_call0_call0_v10 : Ref sig .tc := ⟨.hbm, 16, rfl⟩
abbrev main_call0_call0_v11 : Ref sig .tc := ⟨.hbm, 17, rfl⟩
abbrev main_call0_v1 : Ref sig .tc := ⟨.hbm, 18, rfl⟩
abbrev main_v2 : Ref sig .tc := ⟨.hbm, 19, rfl⟩
abbrev main_call1_call0_cst : Ref sig .tc := ⟨.hbm, 20, rfl⟩
abbrev main_call1_call0_v0 : Ref sig .tc := ⟨.hbm, 21, rfl⟩
abbrev main_v3 : Ref sig .tc := ⟨.hbm, 22, rfl⟩

abbrev nD : Nat := 1
abbrev τ : Topo := Topo.v7x

variable {F : FTy → Type} [FloatOps F]
-- ==== Kernel24.lean ====
abbrev S8320x5632 : Shape := ⟨2, ![8320, 5632]⟩
abbrev S3x5632 : Shape := ⟨2, ![3, 5632]⟩
abbrev S8320x2816 : Shape := ⟨2, ![8320, 2816]⟩
abbrev S2816x8320 : Shape := ⟨2, ![2816, 8320]⟩
abbrev S1664x512 : Shape := ⟨2, ![1664, 512]⟩
abbrev S8x512 : Shape := ⟨2, ![8, 512]⟩
abbrev S3x512 : Shape := ⟨2, ![3, 512]⟩
abbrev S1664x256 : Shape := ⟨2, ![1664, 256]⟩
abbrev S256x1664 : Shape := ⟨2, ![256, 1664]⟩
abbrev S1672x512 : Shape := ⟨2, ![1672, 512]⟩
abbrev S1x512 : Shape := ⟨2, ![1, 512]⟩

abbrev nBuf : Space → Nat
  | .hbm => 5
  | .vmem => 13
  | .smem => 0
  | _ => 0

abbrev bufTy : (tb : Table) → Fin (tcTables nBuf tb) → BufTy
  | .hbm, ⟨0, _⟩ => ⟨S8320x5632, .bf16⟩
  | .hbm, ⟨1, _⟩ => ⟨S3x5632, .f32⟩
  | .hbm, ⟨2, _⟩ => ⟨S8320x2816, .bf16⟩
  | .hbm, ⟨3, _⟩ => ⟨S8320x5632, .bf16⟩
  | .hbm, ⟨4, _⟩ => ⟨S2816x8320, .bf16⟩
  | .local _ .vmem, ⟨0, _⟩ => ⟨S1664x512, .bf16⟩
  | .local _ .vmem, ⟨1, _⟩ => ⟨S1664x512, .bf16⟩
  | .local _ .vmem, ⟨2, _⟩ => ⟨S8x512, .bf16⟩
  | .local _ .vmem, ⟨3, _⟩ => ⟨S8x512, .bf16⟩
  | .local _ .vmem, ⟨4, _⟩ => ⟨S3x512, .f32⟩
  | .local _ .vmem, ⟨5, _⟩ => ⟨S3x512, .f32⟩
  | .local _ .vmem, ⟨6, _⟩ => ⟨S1664x256, .bf16⟩
  | .local _ .vmem, ⟨7, _⟩ => ⟨S1664x256, .bf16⟩
  | .local _ .vmem, ⟨8, _⟩ => ⟨S1664x512, .bf16⟩
  | .local _ .vmem, ⟨9, _⟩ => ⟨S1664x512, .bf16⟩
  | .local _ .vmem, ⟨10, _⟩ => ⟨S256x1664, .bf16⟩
  | .local _ .vmem, ⟨11, _⟩ => ⟨S256x1664, .bf16⟩
  | .local _ .vmem, ⟨12, _⟩ => ⟨S1672x512, .f32⟩
  | _, _ => ⟨S8320x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![5, 11], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg1
  let c0_i32 : BitVec 32 := 0#32
  let v1 : BitVec 32 := Scalar.addi c0_i32 v0
  let c0_i32_0 : BitVec 32 := 0#32
  ![arg0.toNat, v1.toNat]

def cc0_transform_1 (i : grid0.Coords) : Fin 2 → Nat :=
  let arg0 : BitVec 32 := BitVec.ofNat 32 (i 0).val
  let arg1 : BitVec 32 := BitVec.ofNat 32 (i 1).val
  let c208_i32 : BitVec 32 := 208#32
  let v0 : BitVec 32 := Scalar.muli arg0 c208_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 arg1
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1664x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1664x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1664x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1664 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference24Ideal.lean ====
abbrev S8320x5632 : Shape := ⟨2, ![8320, 5632]⟩
abbrev S3x5632 : Shape := ⟨2, ![3, 5632]⟩
abbrev S_ : Shape := ⟨0, ![]⟩
abbrev S2x5632 : Shape := ⟨2, ![2, 5632]⟩
abbrev S8322x5632 : Shape := ⟨2, ![8322, 5632]⟩
abbrev S1x5632 : Shape := ⟨2, ![1, 5632]⟩
abbrev S5632 : Shape := ⟨1, ![5632]⟩
abbrev S8320x11x2x256 : Shape := ⟨4, ![8320, 11, 2, 256]⟩
abbrev S8320x11x1x256 : Shape := ⟨4, ![8320, 11, 1, 256]⟩
abbrev S8320x11x256 : Shape := ⟨3, ![8320, 11, 256]⟩
abbrev S8320x2816 : Shape := ⟨2, ![8320, 2816]⟩
abbrev S2816x8320 : Shape := ⟨2, ![2816, 8320]⟩

abbrev nBuf : Space → Nat
  | .hbm => 56
  | .vmem => 0
  | .smem => 0
  | _ => 0

abbrev bufTy : (tb : Table) → Fin (tcTables nBuf tb) → BufTy
  | .hbm, ⟨0, _⟩ => ⟨S8320x5632, .bf16⟩
  | .hbm, ⟨1, _⟩ => ⟨S3x5632, .f32⟩
  | .hbm, ⟨2, _⟩ => ⟨S8320x5632, .f32⟩
  | .hbm, ⟨3, _⟩ => ⟨S_, .f32⟩
  | .hbm, ⟨4, _⟩ => ⟨S2x5632, .f32⟩
  | .hbm, ⟨5, _⟩ => ⟨S8322x5632, .f32⟩
  | .hbm, ⟨6, _⟩ => ⟨S1x5632, .f32⟩
  | .hbm, ⟨7, _⟩ => ⟨S5632, .f32⟩
  | .hbm, ⟨8, _⟩ => ⟨S8320x5632, .f32⟩
  | .hbm, ⟨9, _⟩ => ⟨S1x5632, .f32⟩
  | .hbm, ⟨10, _⟩ => ⟨S8320x5632, .f32⟩
  | .hbm, ⟨11, _⟩ => ⟨S8320x5632, .f32⟩
  | .hbm, ⟨12, _⟩ => ⟨S_, .f32⟩
  | .hbm, ⟨13, _⟩ => ⟨S8320x5632, .f32⟩
  | .hbm, ⟨14, _⟩ => ⟨S8320x5632, .f32⟩
  | .hbm, ⟨15, _⟩ => ⟨S1x5632, .f32⟩
  | .hbm, ⟨16, _⟩ => ⟨S5632, .f32⟩
  | .hbm, ⟨17, _⟩ => ⟨S8320x5632, .f32⟩
  | .hbm, ⟨18, _⟩ => ⟨S1x5632, .f32⟩
  | .hbm, ⟨19, _⟩ => ⟨S8320x5632, .f32⟩
  | .hbm, ⟨20, _⟩ => ⟨S8320x5632, .f32⟩
  | .hbm, ⟨21, _⟩ => ⟨S8320x5632, .f32⟩
  | .hbm, ⟨22, _⟩ => ⟨S1x5632, .f32⟩
  | .hbm, ⟨23, _⟩ => ⟨S5632, .f32⟩
  | .hbm, ⟨24, _⟩ => ⟨S8320x5632, .f32⟩
  | .hbm, ⟨25, _⟩ => ⟨S1x5632, .f32⟩
  | .hbm, ⟨26, _⟩ => ⟨S8320x5632, .f32⟩
  | .hbm, ⟨27, _⟩ => ⟨S8320x5632, .f32⟩
  | .hbm, ⟨28, _⟩ => ⟨S8320x5632, .f32⟩
  | .hbm, ⟨29, _⟩ => ⟨S8320x11x2x256, .f32⟩
  | .hbm, ⟨30, _⟩ => ⟨S8320x11x1x256, .f32⟩
  | .hbm, ⟨31, _⟩ => ⟨S8320x11x256, .f32⟩
  | .hbm, ⟨32, _⟩ => ⟨S8320x11x1x256, .f32⟩
  | .hbm, ⟨33, _⟩ => ⟨S8320x11x256, .f32⟩
  | .hbm, ⟨34, _⟩ => ⟨S8320x11x256, .f32⟩
  | .hbm, ⟨35, _⟩ => ⟨S8320x11x256, .f32⟩
  | .hbm, ⟨36, _⟩ => ⟨S_, .f32⟩
  | .hbm, ⟨37, _⟩ => ⟨S8320x11x256, .f32⟩
  | .hbm, ⟨38, _⟩ => ⟨S8320x11x256, .f32⟩
  | .hbm, ⟨39, _⟩ => ⟨S8320x11x256, .f32⟩
  | .hbm, ⟨40, _⟩ => ⟨S_, .f32⟩
  | .hbm, ⟨41, _⟩ => ⟨S8320x11x256, .f32⟩
  | .hbm, ⟨42, _⟩ => ⟨S8320x11x256, .f32⟩
  | .hbm, ⟨43, _⟩ => ⟨S8320x11x256, .f32⟩
  | .hbm, ⟨44, _⟩ => ⟨S_, .f32⟩
  | .hbm, ⟨45, _⟩ => ⟨S8320x11x256, .f32⟩
  | .hbm, ⟨46, _⟩ => ⟨S8320x11x256, .f32⟩
  | .hbm, ⟨47, _⟩ => ⟨S_, .f32⟩
  | .hbm, ⟨48, _⟩ => ⟨S8320x11x256, .f32⟩
  | .hbm, ⟨49, _⟩ => ⟨S8320x11x256, .f32⟩
  | .hbm, ⟨50, _⟩ => ⟨S8320x11x256, .f32⟩
  | .hbm, ⟨51, _⟩ => ⟨S8320x11x256, .f32⟩
  | .hbm, ⟨52, _⟩ => ⟨S8320x2816, .f32⟩
  | .hbm, ⟨53, _⟩ => ⟨S8320x2816, .bf16⟩
  | .hbm, ⟨54, _⟩ => ⟨S8320x5632, .bf16⟩
  | .hbm, ⟨55, _⟩ => ⟨S2816x8320, .bf16⟩
  | _, _ => ⟨S8320x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_cst_1 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_cst_2 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_3 : Ref sig .tc := ⟨.hbm, 44, rfl⟩
abbrev main_v38 : Ref sig .tc := ⟨.hbm, 45, rfl⟩
abbrev main_v39 : Ref sig .tc := ⟨.hbm, 46, rfl⟩
abbrev main_cst_4 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩

abbrev nD : Nat := 1
abbrev τ : Topo := Topo.v7x

variable {F : FTy → Type} [FloatOps F]
-- ==== Kernel25.lean ====
abbrev S8320x1024 : Shape := ⟨2, ![8320, 1024]⟩
abbrev S1x1024 : Shape := ⟨2, ![1, 1024]⟩
abbrev S640x1024 : Shape := ⟨2, ![640, 1024]⟩
abbrev S640 : Shape := ⟨1, ![640]⟩
abbrev S640x1 : Shape := ⟨2, ![640, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S8320x1024, .f32⟩
  | .hbm, ⟨3, _⟩ => ⟨S8320x1024, .bf16⟩
  | .hbm, ⟨4, _⟩ => ⟨S8320x1024, .f32⟩
  | .hbm, ⟨5, _⟩ => ⟨S1x1024, .f32⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S640x1024, .f32⟩
  | .local _ .vmem, ⟨4, _⟩ => ⟨S640x1024, .f32⟩
  | .local _ .vmem, ⟨5, _⟩ => ⟨S640x1024, .bf16⟩
  | .local _ .vmem, ⟨6, _⟩ => ⟨S640x1024, .bf16⟩
  | .local _ .vmem, ⟨7, _⟩ => ⟨S640x1024, .f32⟩
  | .local _ .vmem, ⟨8, _⟩ => ⟨S640x1024, .f32⟩
  | .local _ .vmem, ⟨9, _⟩ => ⟨S1x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![13, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v43 : BitVec 32 := Scalar.extui v2
  let c0_i32_17 : BitVec 32 := 0#32
  let v44 : BitVec 1 := Scalar.cmpi .ne v43 c0_i32_17
  v44

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v_true : BitVec 1 := 1#1
  let v45 : BitVec 1 := Scalar.xori v2 v_true
  let v46 : BitVec 32 := Scalar.extui v45
  let c0_i32_18 : BitVec 32 := 0#32
  let v47 : BitVec 1 := Scalar.cmpi .ne v46 c0_i32_18
  v47

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg1
  let c0_i32 : BitVec 32 := 0#32
  let v1 : BitVec 32 := Scalar.addi c0_i32 v0
  let c0_i32_0 : BitVec 32 := 0#32
  ![arg0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S640x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S640x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== Reference25Ideal.lean ====
abbrev S8320x1024 : Shape := ⟨2, ![8320, 1024]⟩
abbrev S1x1024 : Shape := ⟨2, ![1, 1024]⟩
abbrev S_ : Shape := ⟨0, ![]⟩
abbrev S8320 : Shape := ⟨1, ![8320]⟩
abbrev S8320x1 : Shape := ⟨2, ![8320, 1]⟩
abbrev S1024 : Shape := ⟨1, ![1024]⟩

abbrev nBuf : Space → Nat
  | .hbm => 48
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S8320x1024, .f32⟩
  | .hbm, ⟨3, _⟩ => ⟨S8320x1024, .bf16⟩
  | .hbm, ⟨4, _⟩ => ⟨S8320x1024, .f32⟩
  | .hbm, ⟨5, _⟩ => ⟨S_, .f32⟩
  | .hbm, ⟨6, _⟩ => ⟨S8320, .f32⟩
  | .hbm, ⟨7, _⟩ => ⟨S8320x1, .f32⟩
  | .hbm, ⟨8, _⟩ => ⟨S_, .f32⟩
  | .hbm, ⟨9, _⟩ => ⟨S8320x1, .f32⟩
  | .hbm, ⟨10, _⟩ => ⟨S8320x1, .f32⟩
  | .hbm, ⟨11, _⟩ => ⟨S_, .f32⟩
  | .hbm, ⟨12, _⟩ => ⟨S8320x1, .f32⟩
  | .hbm, ⟨13, _⟩ => ⟨S8320x1, .f32⟩
  | .hbm, ⟨14, _⟩ => ⟨S8320x1, .f32⟩
  | .hbm, ⟨15, _⟩ => ⟨S8320x1, .f32⟩
  | .hbm, ⟨16, _⟩ => ⟨S_, .f32⟩
  | .hbm, ⟨17, _⟩ => ⟨S8320x1, .f32⟩
  | .hbm, ⟨18, _⟩ => ⟨S8320x1, .f32⟩
  | .hbm, ⟨19, _⟩ => ⟨S8320x1024, .f32⟩
  | .hbm, ⟨20, _⟩ => ⟨S8320x1024, .f32⟩
  | .hbm, ⟨21, _⟩ => ⟨S8320x1024, .f32⟩
  | .hbm, ⟨22, _⟩ => ⟨S8320x1024, .f32⟩
  | .hbm, ⟨23, _⟩ => ⟨S8320x1024, .f32⟩
  | .hbm, ⟨24, _⟩ => ⟨S8320x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S8320x1024, .f32⟩
  | .hbm, ⟨29, _⟩ => ⟨S8320x1024, .f32⟩
  | .hbm, ⟨30, _⟩ => ⟨S8320x1024, .f32⟩
  | .hbm, ⟨31, _⟩ => ⟨S_, .f32⟩
  | .hbm, ⟨32, _⟩ => ⟨S8320, .f32⟩
  | .hbm, ⟨33, _⟩ => ⟨S8320x1, .f32⟩
  | .hbm, ⟨34, _⟩ => ⟨S8320x1024, .f32⟩
  | .hbm, ⟨35, _⟩ => ⟨S8320x1024, .f32⟩
  | .hbm, ⟨36, _⟩ => ⟨S8320x1, .f32⟩
  | .hbm, ⟨37, _⟩ => ⟨S_, .f32⟩
  | .hbm, ⟨38, _⟩ => ⟨S8320x1, .f32⟩
  | .hbm, ⟨39, _⟩ => ⟨S8320x1, .f32⟩
  | .hbm, ⟨40, _⟩ => ⟨S_, .f32⟩
  | .hbm, ⟨41, _⟩ => ⟨S8320, .f32⟩
  | .hbm, ⟨42, _⟩ => ⟨S8320x1024, .f32⟩
  | .hbm, ⟨43, _⟩ => ⟨S8320x1024, .f32⟩
  | .hbm, ⟨44, _⟩ => ⟨S8320x1024, .f32⟩
  | .hbm, ⟨45, _⟩ => ⟨S8320x1024, .f32⟩
  | .hbm, ⟨46, _⟩ => ⟨S8320x1024, .f32⟩
  | .hbm, ⟨47, _⟩ => ⟨S8320x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel26.lean ====
abbrev S8320x1024 : Shape := ⟨2, ![8320, 1024]⟩
abbrev S1x1024 : Shape := ⟨2, ![1, 1024]⟩
abbrev S1024x8320 : Shape := ⟨2, ![1024, 8320]⟩
abbrev S640x1024 : Shape := ⟨2, ![640, 1024]⟩
abbrev S1024x640 : Shape := ⟨2, ![1024, 640]⟩
abbrev S640 : Shape := ⟨1, ![640]⟩
abbrev S640x1 : Shape := ⟨2, ![640, 1]⟩

abbrev nBuf : Space → Nat
  | .hbm => 4
  | .vmem => 7
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S8320x1024, .bf16⟩
  | .hbm, ⟨3, _⟩ => ⟨S1024x8320, .bf16⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S640x1024, .bf16⟩
  | .local _ .vmem, ⟨4, _⟩ => ⟨S640x1024, .bf16⟩
  | .local _ .vmem, ⟨5, _⟩ => ⟨S1024x640, .bf16⟩
  | .local _ .vmem, ⟨6, _⟩ => ⟨S1024x640, .bf16⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![13, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg1
  let c0_i32 : BitVec 32 := 0#32
  let v1 : BitVec 32 := Scalar.addi c0_i32 v0
  let c0_i32_0 : BitVec 32 := 0#32
  ![arg0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference26Ideal.lean ====
abbrev S8320x1024 : Shape := ⟨2, ![8320, 1024]⟩
abbrev S1x1024 : Shape := ⟨2, ![1, 1024]⟩
abbrev S_ : Shape := ⟨0, ![]⟩
abbrev S8320 : Shape := ⟨1, ![8320]⟩
abbrev S8320x1 : Shape := ⟨2, ![8320, 1]⟩
abbrev S1024x8320 : Shape := ⟨2, ![1024, 8320]⟩

abbrev nBuf : Space → Nat
  | .hbm => 19
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S8320x1024, .f32⟩
  | .hbm, ⟨3, _⟩ => ⟨S_, .f32⟩
  | .hbm, ⟨4, _⟩ => ⟨S8320, .f32⟩
  | .hbm, ⟨5, _⟩ => ⟨S8320x1, .f32⟩
  | .hbm, ⟨6, _⟩ => ⟨S_, .f32⟩
  | .hbm, ⟨7, _⟩ => ⟨S8320x1, .f32⟩
  | .hbm, ⟨8, _⟩ => ⟨S8320x1, .f32⟩
  | .hbm, ⟨9, _⟩ => ⟨S_, .f32⟩
  | .hbm, ⟨10, _⟩ => ⟨S8320x1, .f32⟩
  | .hbm, ⟨11, _⟩ => ⟨S8320x1, .f32⟩
  | .hbm, ⟨12, _⟩ => ⟨S8320x1, .f32⟩
  | .hbm, ⟨13, _⟩ => ⟨S8320x1024, .f32⟩
  | .hbm, ⟨14, _⟩ => ⟨S8320x1024, .f32⟩
  | .hbm, ⟨15, _⟩ => ⟨S8320x1024, .f32⟩
  | .hbm, ⟨16, _⟩ => ⟨S8320x1024, .f32⟩
  | .hbm, ⟨17, _⟩ => ⟨S8320x1024, .bf16⟩
  | .hbm, ⟨18, _⟩ => ⟨S1024x8320, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel27.lean ====
abbrev S8320x1024 : Shape := ⟨2, ![8320, 1024]⟩
abbrev S1x1024 : Shape := ⟨2, ![1, 1024]⟩
abbrev S640x1024 : Shape := ⟨2, ![640, 1024]⟩
abbrev S640 : Shape := ⟨1, ![640]⟩
abbrev S640x1 : Shape := ⟨2, ![640, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S8320x1024, .f32⟩
  | .hbm, ⟨1, _⟩ => ⟨S8320x1024, .bf16⟩
  | .hbm, ⟨2, _⟩ => ⟨S1x1024, .f32⟩
  | .hbm, ⟨3, _⟩ => ⟨S8320x1024, .f32⟩
  | .hbm, ⟨4, _⟩ => ⟨S8320x1024, .f32⟩
  | .hbm, ⟨5, _⟩ => ⟨S8320x1024, .bf16⟩
  | .hbm, ⟨6, _⟩ => ⟨S1x1024, .f32⟩
  | .local _ .vmem, ⟨0, _⟩ => ⟨S640x1024, .f32⟩
  | .local _ .vmem, ⟨1, _⟩ => ⟨S640x1024, .f32⟩
  | .local _ .vmem, ⟨2, _⟩ => ⟨S640x1024, .bf16⟩
  | .local _ .vmem, ⟨3, _⟩ => ⟨S640x1024, .bf16⟩
  | .local _ .vmem, ⟨4, _⟩ => ⟨S1x1024, .f32⟩
  | .local _ .vmem, ⟨5, _⟩ => ⟨S640x1024, .f32⟩
  | .local _ .vmem, ⟨6, _⟩ => ⟨S640x1024, .f32⟩
  | .local _ .vmem, ⟨7, _⟩ => ⟨S640x1024, .f32⟩
  | .local _ .vmem, ⟨8, _⟩ => ⟨S640x1024, .f32⟩
  | .local _ .vmem, ⟨9, _⟩ => ⟨S640x1024, .bf16⟩
  | .local _ .vmem, ⟨10, _⟩ => ⟨S640x1024, .bf16⟩
  | .local _ .vmem, ⟨11, _⟩ => ⟨S1x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![13, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v44 : BitVec 32 := Scalar.extui v2
  let c0_i32_17 : BitVec 32 := 0#32
  let v45 : BitVec 1 := Scalar.cmpi .ne v44 c0_i32_17
  v45

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v_true : BitVec 1 := 1#1
  let v46 : BitVec 1 := Scalar.xori v2 v_true
  let v47 : BitVec 32 := Scalar.extui v46
  let c0_i32_18 : BitVec 32 := 0#32
  let v48 : BitVec 1 := Scalar.cmpi .ne v47 c0_i32_18
  v48

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg1
  let c0_i32 : BitVec 32 := 0#32
  let v1 : BitVec 32 := Scalar.addi c0_i32 v0
  let c0_i32_0 : BitVec 32 := 0#32
  ![arg0.toNat, v1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg1
  let c0_i32 : BitVec 32 := 0#32
  let v1 : BitVec 32 := Scalar.addi c0_i32 v0
  let c0_i32_0 : BitVec 32 := 0#32
  ![arg0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S640x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S640x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S640x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference27Ideal.lean ====
abbrev S8320x1024 : Shape := ⟨2, ![8320, 1024]⟩
abbrev S1x1024 : Shape := ⟨2, ![1, 1024]⟩
abbrev S_ : Shape := ⟨0, ![]⟩
abbrev S8320 : Shape := ⟨1, ![8320]⟩
abbrev S8320x1 : Shape := ⟨2, ![8320, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S8320x1024, .bf16⟩
  | .hbm, ⟨2, _⟩ => ⟨S1x1024, .f32⟩
  | .hbm, ⟨3, _⟩ => ⟨S8320x1024, .f32⟩
  | .hbm, ⟨4, _⟩ => ⟨S8320x1024, .f32⟩
  | .hbm, ⟨5, _⟩ => ⟨S8320x1024, .f32⟩
  | .hbm, ⟨6, _⟩ => ⟨S_, .f32⟩
  | .hbm, ⟨7, _⟩ => ⟨S8320, .f32⟩
  | .hbm, ⟨8, _⟩ => ⟨S8320x1, .f32⟩
  | .hbm, ⟨9, _⟩ => ⟨S_, .f32⟩
  | .hbm, ⟨10, _⟩ => ⟨S8320x1, .f32⟩
  | .hbm, ⟨11, _⟩ => ⟨S8320x1, .f32⟩
  | .hbm, ⟨12, _⟩ => ⟨S_, .f32⟩
  | .hbm, ⟨13, _⟩ => ⟨S8320x1, .f32⟩
  | .hbm, ⟨14, _⟩ => ⟨S8320x1, .f32⟩
  | .hbm, ⟨15, _⟩ => ⟨S8320x1, .f32⟩
  | .hbm, ⟨16, _⟩ => ⟨S8320x1, .f32⟩
  | .hbm, ⟨17, _⟩ => ⟨S_, .f32⟩
  | .hbm, ⟨18, _⟩ => ⟨S8320x1, .f32⟩
  | .hbm, ⟨19, _⟩ => ⟨S8320x1, .f32⟩
  | .hbm, ⟨20, _⟩ => ⟨S8320x1024, .f32⟩
  | .hbm, ⟨21, _⟩ => ⟨S8320x1024, .f32⟩
  | .hbm, ⟨22, _⟩ => ⟨S8320x1024, .f32⟩
  | .hbm, ⟨23, _⟩ => ⟨S8320x1024, .f32⟩
  | .hbm, ⟨24, _⟩ => ⟨S8320x1024, .f32⟩
  | .hbm, ⟨25, _⟩ => ⟨S8320x1024, .f32⟩
  | .hbm, ⟨26, _⟩ => ⟨S8320x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S8320x1024, .f32⟩
  | .hbm, ⟨31, _⟩ => ⟨S8320x1024, .f32⟩
  | .hbm, ⟨32, _⟩ => ⟨S8320x1024, .f32⟩
  | .hbm, ⟨33, _⟩ => ⟨S_, .f32⟩
  | .hbm, ⟨34, _⟩ => ⟨S8320, .f32⟩
  | .hbm, ⟨35, _⟩ => ⟨S8320x1, .f32⟩
  | .hbm, ⟨36, _⟩ => ⟨S8320x1024, .f32⟩
  | .hbm, ⟨37, _⟩ => ⟨S8320x1024, .f32⟩
  | .hbm, ⟨38, _⟩ => ⟨S8320x1, .f32⟩
  | .hbm, ⟨39, _⟩ => ⟨S_, .f32⟩
  | .hbm, ⟨40, _⟩ => ⟨S8320x1, .f32⟩
  | .hbm, ⟨41, _⟩ => ⟨S8320x1, .f32⟩
  | .hbm, ⟨42, _⟩ => ⟨S_, .f32⟩
  | .hbm, ⟨43, _⟩ => ⟨S8320, .f32⟩
  | .hbm, ⟨44, _⟩ => ⟨S8320x1024, .f32⟩
  | .hbm, ⟨45, _⟩ => ⟨S8320x1024, .f32⟩
  | .hbm, ⟨46, _⟩ => ⟨S8320x1024, .f32⟩
  | .hbm, ⟨47, _⟩ => ⟨S8320x1024, .f32⟩
  | .hbm, ⟨48, _⟩ => ⟨S8320x1024, .f32⟩
  | .hbm, ⟨49, _⟩ => ⟨S8320x1024, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Kernel28.lean ====
abbrev S8320x1024 : Shape := ⟨2, ![8320, 1024]⟩
abbrev S1x1024 : Shape := ⟨2, ![1, 1024]⟩
abbrev S640x1024 : Shape := ⟨2, ![640, 1024]⟩
abbrev S640 : Shape := ⟨1, ![640]⟩
abbrev S640x1 : Shape := ⟨2, ![640, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S8320x1024, .f32⟩
  | .hbm, ⟨1, _⟩ => ⟨S8320x1024, .bf16⟩
  | .hbm, ⟨2, _⟩ => ⟨S1x1024, .f32⟩
  | .hbm, ⟨3, _⟩ => ⟨S1x1024, .f32⟩
  | .hbm, ⟨4, _⟩ => ⟨S8320x1024, .f32⟩
  | .hbm, ⟨5, _⟩ => ⟨S8320x1024, .bf16⟩
  | .hbm, ⟨6, _⟩ => ⟨S8320x1024, .f32⟩
  | .hbm, ⟨7, _⟩ => ⟨S8320x1024, .bf16⟩
  | .hbm, ⟨8, _⟩ => ⟨S1x1024, .f32⟩
  | .hbm, ⟨9, _⟩ => ⟨S1x1024, .f32⟩
  | .local _ .vmem, ⟨0, _⟩ => ⟨S640x1024, .f32⟩
  | .local _ .vmem, ⟨1, _⟩ => ⟨S640x1024, .f32⟩
  | .local _ .vmem, ⟨2, _⟩ => ⟨S640x1024, .bf16⟩
  | .local _ .vmem, ⟨3, _⟩ => ⟨S640x1024, .bf16⟩
  | .local _ .vmem, ⟨4, _⟩ => ⟨S1x1024, .f32⟩
  | .local _ .vmem, ⟨5, _⟩ => ⟨S1x1024, .f32⟩
  | .local _ .vmem, ⟨6, _⟩ => ⟨S640x1024, .f32⟩
  | .local _ .vmem, ⟨7, _⟩ => ⟨S640x1024, .f32⟩
  | .local _ .vmem, ⟨8, _⟩ => ⟨S640x1024, .bf16⟩
  | .local _ .vmem, ⟨9, _⟩ => ⟨S640x1024, .bf16⟩
  | .local _ .vmem, ⟨10, _⟩ => ⟨S640x1024, .f32⟩
  | .local _ .vmem, ⟨11, _⟩ => ⟨S640x1024, .f32⟩
  | .local _ .vmem, ⟨12, _⟩ => ⟨S640x1024, .bf16⟩
  | .local _ .vmem, ⟨13, _⟩ => ⟨S640x1024, .bf16⟩
  | .local _ .vmem, ⟨14, _⟩ => ⟨S1x1024, .f32⟩
  | .local _ .vmem, ⟨15, _⟩ => ⟨S1x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨2, ![13, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v85 : BitVec 32 := Scalar.extui v2
  let c0_i32_31 : BitVec 32 := 0#32
  let v86 : BitVec 1 := Scalar.cmpi .ne v85 c0_i32_31
  v86

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v_true : BitVec 1 := 1#1
  let v87 : BitVec 1 := Scalar.xori v2 v_true
  let v88 : BitVec 32 := Scalar.extui v87
  let c0_i32_32 : BitVec 32 := 0#32
  let v89 : BitVec 1 := Scalar.cmpi .ne v88 c0_i32_32
  v89

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v90 : BitVec 32 := Scalar.extui v2
  let c0_i32_33 : BitVec 32 := 0#32
  let v91 : BitVec 1 := Scalar.cmpi .ne v90 c0_i32_33
  v91

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let true_34 : BitVec 1 := 1#1
  let v92 : BitVec 1 := Scalar.xori v2 true_34
  let v93 : BitVec 32 := Scalar.extui v92
  let c0_i32_35 : BitVec 32 := 0#32
  let v94 : BitVec 1 := Scalar.cmpi .ne v93 c0_i32_35
  v94

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg1
  let c0_i32 : BitVec 32 := 0#32
  let v1 : BitVec 32 := Scalar.addi c0_i32 v0
  let c0_i32_0 : BitVec 32 := 0#32
  ![arg0.toNat, v1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg1
  let c0_i32 : BitVec 32 := 0#32
  let v1 : BitVec 32 := Scalar.addi c0_i32 v0
  let c0_i32_0 : BitVec 32 := 0#32
  ![arg0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S640x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S640x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S640x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S640x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S640x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== Reference28Ideal.lean ====
abbrev S8320x1024 : Shape := ⟨2, ![8320, 1024]⟩
abbrev S1x1024 : Shape := ⟨2, ![1, 1024]⟩
abbrev S_ : Shape := ⟨0, ![]⟩
abbrev S8320 : Shape := ⟨1, ![8320]⟩
abbrev S8320x1 : Shape := ⟨2, ![8320, 1]⟩
abbrev S1024 : Shape := ⟨1, ![1024]⟩

abbrev nBuf : Space → Nat
  | .hbm => 96
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S8320x1024, .bf16⟩
  | .hbm, ⟨2, _⟩ => ⟨S1x1024, .f32⟩
  | .hbm, ⟨3, _⟩ => ⟨S1x1024, .f32⟩
  | .hbm, ⟨4, _⟩ => ⟨S8320x1024, .f32⟩
  | .hbm, ⟨5, _⟩ => ⟨S8320x1024, .bf16⟩
  | .hbm, ⟨6, _⟩ => ⟨S8320x1024, .f32⟩
  | .hbm, ⟨7, _⟩ => ⟨S8320x1024, .f32⟩
  | .hbm, ⟨8, _⟩ => ⟨S_, .f32⟩
  | .hbm, ⟨9, _⟩ => ⟨S8320, .f32⟩
  | .hbm, ⟨10, _⟩ => ⟨S8320x1, .f32⟩
  | .hbm, ⟨11, _⟩ => ⟨S_, .f32⟩
  | .hbm, ⟨12, _⟩ => ⟨S8320x1, .f32⟩
  | .hbm, ⟨13, _⟩ => ⟨S8320x1, .f32⟩
  | .hbm, ⟨14, _⟩ => ⟨S_, .f32⟩
  | .hbm, ⟨15, _⟩ => ⟨S8320x1, .f32⟩
  | .hbm, ⟨16, _⟩ => ⟨S8320x1, .f32⟩
  | .hbm, ⟨17, _⟩ => ⟨S8320x1, .f32⟩
  | .hbm, ⟨18, _⟩ => ⟨S8320x1, .f32⟩
  | .hbm, ⟨19, _⟩ => ⟨S_, .f32⟩
  | .hbm, ⟨20, _⟩ => ⟨S8320x1, .f32⟩
  | .hbm, ⟨21, _⟩ => ⟨S8320x1, .f32⟩
  | .hbm, ⟨22, _⟩ => ⟨S8320x1024, .f32⟩
  | .hbm, ⟨23, _⟩ => ⟨S8320x1024, .f32⟩
  | .hbm, ⟨24, _⟩ => ⟨S8320x1024, .f32⟩
  | .hbm, ⟨25, _⟩ => ⟨S8320x1024, .f32⟩
  | .hbm, ⟨26, _⟩ => ⟨S8320x1024, .f32⟩
  | .hbm, ⟨27, _⟩ => ⟨S8320x1024, .f32⟩
  | .hbm, ⟨28, _⟩ => ⟨S_, .f32⟩
  | .hbm, ⟨29, _⟩ => ⟨S8320, .f32⟩
  | .hbm, ⟨30, _⟩ => ⟨S8320x1, .f32⟩
  | .hbm, ⟨31, _⟩ => ⟨S_, .f32⟩
  | .hbm, ⟨32, _⟩ => ⟨S8320x1, .f32⟩
  | .hbm, ⟨33, _⟩ => ⟨S8320x1, .f32⟩
  | .hbm, ⟨34, _⟩ => ⟨S_, .f32⟩
  | .hbm, ⟨35, _⟩ => ⟨S8320x1, .f32⟩
  | .hbm, ⟨36, _⟩ => ⟨S8320x1, .f32⟩
  | .hbm, ⟨37, _⟩ => ⟨S8320x1, .f32⟩
  | .hbm, ⟨38, _⟩ => ⟨S8320x1, .f32⟩
  | .hbm, ⟨39, _⟩ => ⟨S_, .f32⟩
  | .hbm, ⟨40, _⟩ => ⟨S8320x1, .f32⟩
  | .hbm, ⟨41, _⟩ => ⟨S8320x1, .f32⟩
  | .hbm, ⟨42, _⟩ => ⟨S8320x1024, .f32⟩
  | .hbm, ⟨43, _⟩ => ⟨S8320x1024, .f32⟩
  | .hbm, ⟨44, _⟩ => ⟨S8320x1024, .f32⟩
  | .hbm, ⟨45, _⟩ => ⟨S8320x1024, .f32⟩
  | .hbm, ⟨46, _⟩ => ⟨S8320x1024, .f32⟩
  | .hbm, ⟨47, _⟩ => ⟨S8320x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8320x1024, .f32⟩
  | .hbm, ⟨52, _⟩ => ⟨S8320x1024, .f32⟩
  | .hbm, ⟨53, _⟩ => ⟨S8320x1024, .f32⟩
  | .hbm, ⟨54, _⟩ => ⟨S_, .f32⟩
  | .hbm, ⟨55, _⟩ => ⟨S8320, .f32⟩
  | .hbm, ⟨56, _⟩ => ⟨S8320x1, .f32⟩
  | .hbm, ⟨57, _⟩ => ⟨S8320x1024, .f32⟩
  | .hbm, ⟨58, _⟩ => ⟨S8320x1024, .f32⟩
  | .hbm, ⟨59, _⟩ => ⟨S8320x1024, .f32⟩
  | .hbm, ⟨60, _⟩ => ⟨S8320x1, .f32⟩
  | .hbm, ⟨61, _⟩ => ⟨S_, .f32⟩
  | .hbm, ⟨62, _⟩ => ⟨S8320x1, .f32⟩
  | .hbm, ⟨63, _⟩ => ⟨S8320x1, .f32⟩
  | .hbm, ⟨64, _⟩ => ⟨S_, .f32⟩
  | .hbm, ⟨65, _⟩ => ⟨S8320, .f32⟩
  | .hbm, ⟨66, _⟩ => ⟨S8320x1024, .f32⟩
  | .hbm, ⟨67, _⟩ => ⟨S8320x1024, .f32⟩
  | .hbm, ⟨68, _⟩ => ⟨S8320x1024, .f32⟩
  | .hbm, ⟨69, _⟩ => ⟨S8320x1024, .f32⟩
  | .hbm, ⟨70, _⟩ => ⟨S8320x1024, .f32⟩
  | .hbm, ⟨71, _⟩ => ⟨S8320x1024, .f32⟩
  | .hbm, ⟨72, _⟩ => ⟨S8320x1024, .f32⟩
  | .hbm, ⟨73, _⟩ => ⟨S_, .f32⟩
  | .hbm, ⟨74, _⟩ => ⟨S1024, .f32⟩
  | .hbm, ⟨75, _⟩ => ⟨S1x1024, .f32⟩
  | .hbm, ⟨76, _⟩ => ⟨S8320x1024, .f32⟩
  | .hbm, ⟨77, _⟩ => ⟨S8320x1024, .f32⟩
  | .hbm, ⟨78, _⟩ => ⟨S8320x1024, .f32⟩
  | .hbm, ⟨79, _⟩ => ⟨S_, .f32⟩
  | .hbm, ⟨80, _⟩ => ⟨S8320, .f32⟩
  | .hbm, ⟨81, _⟩ => ⟨S8320x1, .f32⟩
  | .hbm, ⟨82, _⟩ => ⟨S8320x1024, .f32⟩
  | .hbm, ⟨83, _⟩ => ⟨S8320x1024, .f32⟩
  | .hbm, ⟨84, _⟩ => ⟨S8320x1, .f32⟩
  | .hbm, ⟨85, _⟩ => ⟨S_, .f32⟩
  | .hbm, ⟨86, _⟩ => ⟨S8320x1, .f32⟩
  | .hbm, ⟨87, _⟩ => ⟨S8320x1, .f32⟩
  | .hbm, ⟨88, _⟩ => ⟨S_, .f32⟩
  | .hbm, ⟨89, _⟩ => ⟨S8320, .f32⟩
  | .hbm, ⟨90, _⟩ => ⟨S8320x1024, .f32⟩
  | .hbm, ⟨91, _⟩ => ⟨S8320x1024, .f32⟩
  | .hbm, ⟨92, _⟩ => ⟨S8320x1024, .f32⟩
  | .hbm, ⟨93, _⟩ => ⟨S8320x1024, .f32⟩
  | .hbm, ⟨94, _⟩ => ⟨S8320x1024, .f32⟩
  | .hbm, ⟨95, _⟩ => ⟨S8320x1024, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_11 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_12 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_13 : Ref sig .tc := ⟨.hbm, 85, rfl⟩
abbrev main_v65 : Ref sig .tc := ⟨.hbm, 86, rfl⟩
abbrev main_v66 : Ref sig .tc := ⟨.hbm, 87, rfl⟩
abbrev main_cst_14 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩

abbrev nD : Nat := 1
abbrev τ : Topo := Topo.v7x

variable {F : FTy → Type} [FloatOps F]
-- ==== Kernel29.lean ====
abbrev S8320x1024 : Shape := ⟨2, ![8320, 1024]⟩
abbrev S1x1024 : Shape := ⟨2, ![1, 1024]⟩
abbrev S1024x8320 : Shape := ⟨2, ![1024, 8320]⟩
abbrev S640x1024 : Shape := ⟨2, ![640, 1024]⟩
abbrev S1024x640 : Shape := ⟨2, ![1024, 640]⟩
abbrev S640 : Shape := ⟨1, ![640]⟩
abbrev S640x1 : Shape := ⟨2, ![640, 1]⟩

abbrev nBuf : Space → Nat
  | .hbm => 7
  | .vmem => 12
  | .smem => 0
  | _ => 0

abbrev bufTy : (tb : Table) → Fin (tcTables nBuf tb) → BufTy
  | .hbm, ⟨0, _⟩ => ⟨S8320x1024, .f32⟩
  | .hbm, ⟨1, _⟩ => ⟨S8320x1024, .bf16⟩
  | .hbm, ⟨2, _⟩ => ⟨S1x1024, .f32⟩
  | .hbm, ⟨3, _⟩ => ⟨S1x1024, .f32⟩
  | .hbm, ⟨4, _⟩ => ⟨S8320x1024, .f32⟩
  | .hbm, ⟨5, _⟩ => ⟨S8320x1024, .bf16⟩
  | .hbm, ⟨6, _⟩ => ⟨S1024x8320, .bf16⟩
  | .local _ .vmem, ⟨0, _⟩ => ⟨S640x1024, .f32⟩
  | .local _ .vmem, ⟨1, _⟩ => ⟨S640x1024, .f32⟩
  | .local _ .vmem, ⟨2, _⟩ => ⟨S640x1024, .bf16⟩
  | .local _ .vmem, ⟨3, _⟩ => ⟨S640x1024, .bf16⟩
  | .local _ .vmem, ⟨4, _⟩ => ⟨S1x1024, .f32⟩
  | .local _ .vmem, ⟨5, _⟩ => ⟨S1x1024, .f32⟩
  | .local _ .vmem, ⟨6, _⟩ => ⟨S640x1024, .f32⟩
  | .local _ .vmem, ⟨7, _⟩ => ⟨S640x1024, .f32⟩
  | .local _ .vmem, ⟨8, _⟩ => ⟨S640x1024, .bf16⟩
  | .local _ .vmem, ⟨9, _⟩ => ⟨S640x1024, .bf16⟩
  | .local _ .vmem, ⟨10, _⟩ => ⟨S1024x640, .bf16⟩
  | .local _ .vmem, ⟨11, _⟩ => ⟨S1024x640, .bf16⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![13, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg1
  let c0_i32 : BitVec 32 := 0#32
  let v1 : BitVec 32 := Scalar.addi c0_i32 v0
  let c0_i32_0 : BitVec 32 := 0#32
  ![arg0.toNat, v1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg1
  let c0_i32 : BitVec 32 := 0#32
  let v1 : BitVec 32 := Scalar.addi c0_i32 v0
  let c0_i32_0 : BitVec 32 := 0#32
  ![arg0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S640x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S640x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S640x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x640 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference29Ideal.lean ====
abbrev S8320x1024 : Shape := ⟨2, ![8320, 1024]⟩
abbrev S1x1024 : Shape := ⟨2, ![1, 1024]⟩
abbrev S_ : Shape := ⟨0, ![]⟩
abbrev S8320 : Shape := ⟨1, ![8320]⟩
abbrev S8320x1 : Shape := ⟨2, ![8320, 1]⟩
abbrev S1024x8320 : Shape := ⟨2, ![1024, 8320]⟩

abbrev nBuf : Space → Nat
  | .hbm => 38
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S8320x1024, .bf16⟩
  | .hbm, ⟨2, _⟩ => ⟨S1x1024, .f32⟩
  | .hbm, ⟨3, _⟩ => ⟨S1x1024, .f32⟩
  | .hbm, ⟨4, _⟩ => ⟨S8320x1024, .f32⟩
  | .hbm, ⟨5, _⟩ => ⟨S8320x1024, .f32⟩
  | .hbm, ⟨6, _⟩ => ⟨S_, .f32⟩
  | .hbm, ⟨7, _⟩ => ⟨S8320, .f32⟩
  | .hbm, ⟨8, _⟩ => ⟨S8320x1, .f32⟩
  | .hbm, ⟨9, _⟩ => ⟨S_, .f32⟩
  | .hbm, ⟨10, _⟩ => ⟨S8320x1, .f32⟩
  | .hbm, ⟨11, _⟩ => ⟨S8320x1, .f32⟩
  | .hbm, ⟨12, _⟩ => ⟨S_, .f32⟩
  | .hbm, ⟨13, _⟩ => ⟨S8320x1, .f32⟩
  | .hbm, ⟨14, _⟩ => ⟨S8320x1, .f32⟩
  | .hbm, ⟨15, _⟩ => ⟨S8320x1, .f32⟩
  | .hbm, ⟨16, _⟩ => ⟨S8320x1024, .f32⟩
  | .hbm, ⟨17, _⟩ => ⟨S8320x1024, .f32⟩
  | .hbm, ⟨18, _⟩ => ⟨S8320x1024, .f32⟩
  | .hbm, ⟨19, _⟩ => ⟨S8320x1024, .f32⟩
  | .hbm, ⟨20, _⟩ => ⟨S8320x1024, .f32⟩
  | .hbm, ⟨21, _⟩ => ⟨S8320x1024, .f32⟩
  | .hbm, ⟨22, _⟩ => ⟨S_, .f32⟩
  | .hbm, ⟨23, _⟩ => ⟨S8320, .f32⟩
  | .hbm, ⟨24, _⟩ => ⟨S8320x1, .f32⟩
  | .hbm, ⟨25, _⟩ => ⟨S_, .f32⟩
  | .hbm, ⟨26, _⟩ => ⟨S8320x1, .f32⟩
  | .hbm, ⟨27, _⟩ => ⟨S8320x1, .f32⟩
  | .hbm, ⟨28, _⟩ => ⟨S_, .f32⟩
  | .hbm, ⟨29, _⟩ => ⟨S8320x1, .f32⟩
  | .hbm, ⟨30, _⟩ => ⟨S8320x1, .f32⟩
  | .hbm, ⟨31, _⟩ => ⟨S8320x1, .f32⟩
  | .hbm, ⟨32, _⟩ => ⟨S8320x1024, .f32⟩
  | .hbm, ⟨33, _⟩ => ⟨S8320x1024, .f32⟩
  | .hbm, ⟨34, _⟩ => ⟨S8320x1024, .f32⟩
  | .hbm, ⟨35, _⟩ => ⟨S8320x1024, .f32⟩
  | .hbm, ⟨36, _⟩ => ⟨S8320x1024, .bf16⟩
  | .hbm, ⟨37, _⟩ => ⟨S1024x8320, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Kernel30.lean ====
abbrev S8320x1024 : Shape := ⟨2, ![8320, 1024]⟩
abbrev S1x1024 : Shape := ⟨2, ![1, 1024]⟩
abbrev S640x1024 : Shape := ⟨2, ![640, 1024]⟩
abbrev S640 : Shape := ⟨1, ![640]⟩
abbrev S640x1 : Shape := ⟨2, ![640, 1]⟩

abbrev nBuf : Space → Nat
  | .hbm => 4
  | .vmem => 7
  | .smem => 0
  | _ => 0

abbrev bufTy : (tb : Table) → Fin (tcTables nBuf tb) → BufTy
  | .hbm, ⟨0, _⟩ => ⟨S8320x1024, .f32⟩
  | .hbm, ⟨1, _⟩ => ⟨S8320x1024, .bf16⟩
  | .hbm, ⟨2, _⟩ => ⟨S1x1024, .f32⟩
  | .hbm, ⟨3, _⟩ => ⟨S8320x1024, .f32⟩
  | .local _ .vmem, ⟨0, _⟩ => ⟨S640x1024, .f32⟩
  | .local _ .vmem, ⟨1, _⟩ => ⟨S640x1024, .f32⟩
  | .local _ .vmem, ⟨2, _⟩ => ⟨S640x1024, .bf16⟩
  | .local _ .vmem, ⟨3, _⟩ => ⟨S640x1024, .bf16⟩
  | .local _ .vmem, ⟨4, _⟩ => ⟨S1x1024, .f32⟩
  | .local _ .vmem, ⟨5, _⟩ => ⟨S640x1024, .f32⟩
  | .local _ .vmem, ⟨6, _⟩ => ⟨S640x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![13, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg1
  let c0_i32 : BitVec 32 := 0#32
  let v1 : BitVec 32 := Scalar.addi c0_i32 v0
  let c0_i32_0 : BitVec 32 := 0#32
  ![arg0.toNat, v1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg1
  let c0_i32 : BitVec 32 := 0#32
  let v1 : BitVec 32 := Scalar.addi c0_i32 v0
  let c0_i32_0 : BitVec 32 := 0#32
  ![arg0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S640x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference30Ideal.lean ====
abbrev S8320x1024 : Shape := ⟨2, ![8320, 1024]⟩
abbrev S1x1024 : Shape := ⟨2, ![1, 1024]⟩
abbrev S_ : Shape := ⟨0, ![]⟩
abbrev S8320 : Shape := ⟨1, ![8320]⟩
abbrev S8320x1 : Shape := ⟨2, ![8320, 1]⟩

abbrev nBuf : Space → Nat
  | .hbm => 20
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S8320x1024, .bf16⟩
  | .hbm, ⟨2, _⟩ => ⟨S1x1024, .f32⟩
  | .hbm, ⟨3, _⟩ => ⟨S8320x1024, .f32⟩
  | .hbm, ⟨4, _⟩ => ⟨S8320x1024, .f32⟩
  | .hbm, ⟨5, _⟩ => ⟨S_, .f32⟩
  | .hbm, ⟨6, _⟩ => ⟨S8320, .f32⟩
  | .hbm, ⟨7, _⟩ => ⟨S8320x1, .f32⟩
  | .hbm, ⟨8, _⟩ => ⟨S_, .f32⟩
  | .hbm, ⟨9, _⟩ => ⟨S8320x1, .f32⟩
  | .hbm, ⟨10, _⟩ => ⟨S8320x1, .f32⟩
  | .hbm, ⟨11, _⟩ => ⟨S_, .f32⟩
  | .hbm, ⟨12, _⟩ => ⟨S8320x1, .f32⟩
  | .hbm, ⟨13, _⟩ => ⟨S8320x1, .f32⟩
  | .hbm, ⟨14, _⟩ => ⟨S8320x1, .f32⟩
  | .hbm, ⟨15, _⟩ => ⟨S8320x1024, .f32⟩
  | .hbm, ⟨16, _⟩ => ⟨S8320x1024, .f32⟩
  | .hbm, ⟨17, _⟩ => ⟨S8320x1024, .f32⟩
  | .hbm, ⟨18, _⟩ => ⟨S8320x1024, .f32⟩
  | .hbm, ⟨19, _⟩ => ⟨S8320x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Attn.Walk.lean ====
module

public import proofs.«01_k».proof.Proof.Gen.KernelIdeal.Loops
public import Idealize.ShloMosaic.Lib.VecWindow
public import Idealize.ShloMosaic.Lib.Pointwise

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

/-! # Where the loops of the attention gradient go: the trips and the rows of each trip -/

/-- The first loop visits the 12 − j row blocks after the j-th. -/
theorem trips1 (i : grid0.Coords) : (k0_t1_loop i).trips = 12 - (i 1).val := by
  have h : (i 1).val < 13 := (i 1).isLt
  unfold k0_t1_loop
  generalize (i 1).val = j at h
  interval_cases j <;> decide

/-- The remainder loop never runs. -/
theorem trips2 (i : grid0.Coords) : (k0_t2_loop i).trips = 0 := by
  have h : (i 1).val < 13 := (i 1).isLt
  unfold k0_t2_loop
  generalize (i 1).val = j at h
  interval_cases j <;> decide

/-- The diagonal block's rows start at row 640 j. -/
theorem off1 (i : grid0.Coords) : k0_off1 i = ![640 * (i 1).val, 0] := by
  have h : (i 1).val < 13 := (i 1).isLt
  unfold k0_off1
  generalize (i 1).val = j at h
  interval_cases j <;> decide

/-- The rows of trip `k` start at row 640 (j + 1 + k). -/
theorem off2 (i : grid0.Coords) (k : Fin (k0_t1_loop i).trips) : k0_off2 i k = ![640 * ((i 1).val + 1 + k.val), 0] := by
  have h : (i 1).val < 13 := (i 1).isLt
  have hk : k.val < 12 - (i 1).val := lt_of_lt_of_eq k.isLt (trips1 i)
  unfold k0_off2
  generalize k.val = kk at hk
  generalize (i 1).val = j at h hk
  interval_cases j <;> interval_cases kk <;> decide

/-! ## What one grid point leaves, as a function of the blocks it reads -/

variable {F : FTy → Type} [FloatOps F] [Named F]

/-- Rows 640 b … 640 b + 639 of a block of 8320 rows. -/
def rowsAt {α : Type} (X : S8320x128.Idx → α) (b : ℕ) : S640x128.Idx → α :=
  fun y => X (ix2 ⟨(640 * b + (y 0).val) % 8320, Nat.mod_lt _ (by decide)⟩ (y 1))

/-- A block of 8320 rows with `w` over rows 640 b … 640 b + 639. -/
def putRows {α : Type} (X : S8320x128.Idx → α) (b : ℕ) (w : S640x128.Idx → α) : S8320x128.Idx → α :=
  VecWindow.put X ![640 * b, 0] S640x128.size w

/-- The carried pair (dk, dv) and the dq block. -/
abbrev St (F : FTy → Type) := (FVec F S640x128 .f32 × FVec F S640x128 .f32) × FVec F S8320x128 .f32

/-- One trip of the loop at row block `b`. -/
def trip (k v : FVec F S640x128 .bf16) (Q D : FVec F S8320x128 .bf16) (b : ℕ) (s : St F) : St F :=
  ((k0_pay6 k v s.1.1 (rowsAt Q b) (rowsAt D b), k0_pay5 k s.1.2 (rowsAt Q b) (rowsAt D b)),
    putRows s.2 b (k0_pay7 k v (rowsAt Q b) (rowsAt D b) (rowsAt s.2 b)))

/-- The state after `n` trips from row block `b0`. -/
def trips (k v : FVec F S640x128 .bf16) (Q D : FVec F S8320x128 .bf16) (b0 : ℕ) (s : St F) : ℕ → St F
  | 0 => s
  | n + 1 => trip k v Q D (b0 + n) (trips k v Q D b0 s n)

/-- The state after the diagonal block of point `j`, from the dq block `z`. -/
def diag (k v : FVec F S640x128 .bf16) (Q D : FVec F S8320x128 .bf16) (j : ℕ) (z : FVec F S8320x128 .f32) : St F :=
  ((k0_pay23 k v (rowsAt Q j) (rowsAt D j), k0_pay22 k (rowsAt Q j) (rowsAt D j)),
    putRows z j (k0_pay24 k v (rowsAt Q j) (rowsAt D j) (rowsAt z j)))

/-- What point `j` leaves: ((dk, dv), dq), from the dq block `z`. -/
def point (Q D : FVec F S8320x128 .bf16) (k v : FVec F S640x128 .bf16) (j : ℕ) (z : FVec F S8320x128 .f32) : St F :=
  trips (k0_pay15 k) (k0_pay16 v) Q D (j + 1) (diag k v Q D j z) (12 - j)

/-- A load of a row block reads those rows of what the buffer reads. -/
theorem readAt_rows {e : EltTy} {sp : Space} (a : Memref sig .tc sp S8320x128 e) (f : BufTy.Contents (Elt F) a.view.ty)
    {off : Fin 2 → ℕ} (b : ℕ) (h : off = ![640 * b, 0]) (inb : ∀ x, off x + S640x128.size x ≤ S8320x128.size x) :
    a.view.readAt (Elt F) (Rect.unit (s := S8320x128) off S640x128.size inb).toLoadRect f = rowsAt (a.view.read (Elt F) f) b := by
  subst h
  funext y
  have hb : 640 * b + 640 ≤ 8320 := inb 0
  have hy : (y 0).val < 640 := (y 0).isLt
  refine congrArg (a.view.read (Elt F) f) ?_
  funext x
  refine Fin.ext ?_
  match x with
  | 0 =>
    show 640 * b + 1 * (y 0).val = (640 * b + (y 0).val) % 8320
    omega
  | 1 =>
    show 0 + 1 * (y 1).val = (y 1).val
    omega

/-- The trip's run, read off: the next carried pair, -/
theorem tripR_eq (𝒱 : Variants) (c : Dev nD) (bd : Option 𝒱.V) (i : grid0.Coords) (arg2 : Memref sig .tc .vmem S8320x128 .bf16) (harg2 : arg2.IsWhole) (arg3 : Memref sig .tc .vmem S8320x128 .bf16) (harg3 : arg3.IsWhole) (arg4 : Memref sig .tc .vmem S640x128 .bf16) (harg4 : arg4.IsWhole) (arg5 : Memref sig .tc .vmem S640x128 .bf16) (harg5 : arg5.IsWhole) (arg6 : Memref sig .tc .vmem S8320x128 .f32) (harg6 : arg6.IsWhole) (arg7 : Memref sig .tc .vmem S640x128 .f32) (harg7 : arg7.IsWhole) (arg8 : Memref sig .tc .vmem S640x128 .f32) (harg8 : arg8.IsWhole) (v1 v3 : FVec F S640x128 .bf16) (X2 : BufTy.Contents (Elt F) arg2.view.ty) (X3 : BufTy.Contents (Elt F) arg3.view.ty) (k : Fin (k0_t1_loop i).trips) (acc : FVec F S640x128 .f32 × FVec F S640x128 .f32) (f : BufTy.Contents (Elt F) arg6.view.ty) :
    tripR_k0_t1 (F := F) 𝒱 c bd i arg2 harg2 arg3 harg3 arg4 harg4 arg5 harg5 arg6 harg6 arg7 harg7 arg8 harg8 v1 v3 X2 X3 k acc f
      = (trip v1 v3 (arg2.view.read (Elt F) X2) (arg3.view.read (Elt F) X3) ((i 1).val + 1 + k.val) (acc, arg6.view.read (Elt F) f)).1 := by
  unfold tripR_k0_t1 trip_k0_t1
  dsimp only [trip]
  rw [← readAt_rows arg2 X2 _ (off2 i k) (k0_off2_inb i k), ← readAt_rows arg3 X3 _ (off2 i k) (k0_off2_inb i k)]

/-- and the dq block. -/
theorem tripL_eq (𝒱 : Variants) (c : Dev nD) (bd : Option 𝒱.V) (i : grid0.Coords) (arg2 : Memref sig .tc .vmem S8320x128 .bf16) (harg2 : arg2.IsWhole) (arg3 : Memref sig .tc .vmem S8320x128 .bf16) (harg3 : arg3.IsWhole) (arg4 : Memref sig .tc .vmem S640x128 .bf16) (harg4 : arg4.IsWhole) (arg5 : Memref sig .tc .vmem S640x128 .bf16) (harg5 : arg5.IsWhole) (arg6 : Memref sig .tc .vmem S8320x128 .f32) (harg6 : arg6.IsWhole) (arg7 : Memref sig .tc .vmem S640x128 .f32) (harg7 : arg7.IsWhole) (arg8 : Memref sig .tc .vmem S640x128 .f32) (harg8 : arg8.IsWhole) (v1 v3 : FVec F S640x128 .bf16) (X2 : BufTy.Contents (Elt F) arg2.view.ty) (X3 : BufTy.Contents (Elt F) arg3.view.ty) (k : Fin (k0_t1_loop i).trips) (acc : FVec F S640x128 .f32 × FVec F S640x128 .f32) (f : BufTy.Contents (Elt F) arg6.view.ty) :
    arg6.view.read (Elt F) (arg6.view.writes (Elt F) f (tripL_k0_t1 (F := F) 𝒱 c bd i arg2 harg2 arg3 harg3 arg4 harg4 arg5 harg5 arg6 harg6 arg7 harg7 arg8 harg8 v1 v3 X2 X3 k acc f))
      = (trip v1 v3 (arg2.view.read (Elt F) X2) (arg3.view.read (Elt F) X3) ((i 1).val + 1 + k.val) (acc, arg6.view.read (Elt F) f)).2 := by
  unfold tripL_k0_t1 trip_k0_t1
  dsimp only [trip, putRows]
  rw [View.read_writes_cons_put _ _ _ _ _ (off2 i k), ← readAt_rows arg2 X2 _ (off2 i k) (k0_off2_inb i k), ← readAt_rows arg3 X3 _ (off2 i k) (k0_off2_inb i k), ← readAt_rows arg6 f _ (off2 i k) (k0_off2_inb i k)]
  rfl

/-- The generated loop state after `n` trips is `trips`. -/
theorem st_eq (𝒱 : Variants) (c : Dev nD) (bd : Option 𝒱.V) (i : grid0.Coords) (arg2 : Memref sig .tc .vmem S8320x128 .bf16) (harg2 : arg2.IsWhole) (arg3 : Memref sig .tc .vmem S8320x128 .bf16) (harg3 : arg3.IsWhole) (arg4 : Memref sig .tc .vmem S640x128 .bf16) (harg4 : arg4.IsWhole) (arg5 : Memref sig .tc .vmem S640x128 .bf16) (harg5 : arg5.IsWhole) (arg6 : Memref sig .tc .vmem S8320x128 .f32) (harg6 : arg6.IsWhole) (arg7 : Memref sig .tc .vmem S640x128 .f32) (harg7 : arg7.IsWhole) (arg8 : Memref sig .tc .vmem S640x128 .f32) (harg8 : arg8.IsWhole) (v1 v3 : FVec F S640x128 .bf16) (X2 : BufTy.Contents (Elt F) arg2.view.ty) (X3 : BufTy.Contents (Elt F) arg3.view.ty) (G : BufTy.Contents (Elt F) arg6.view.ty) (init : FVec F S640x128 .f32 × FVec F S640x128 .f32) (n : ℕ) (hn : n ≤ (k0_t1_loop i).trips) :
    ((st_k0_t1 (F := F) 𝒱 c bd i arg2 harg2 arg3 harg3 arg4 harg4 arg5 harg5 arg6 harg6 arg7 harg7 arg8 harg8 v1 v3 X2 X3 G init n).1, arg6.view.read (Elt F) (arg6.view.writes (Elt F) G (st_k0_t1 (F := F) 𝒱 c bd i arg2 harg2 arg3 harg3 arg4 harg4 arg5 harg5 arg6 harg6 arg7 harg7 arg8 harg8 v1 v3 X2 X3 G init n).2))
      = trips v1 v3 (arg2.view.read (Elt F) X2) (arg3.view.read (Elt F) X3) ((i 1).val + 1) (init, arg6.view.read (Elt F) G) n := by
  induction n with
  | zero => rfl
  | succ n ih =>
    have ih := ih (by omega)
    have e := st_k0_t1_succ (F := F) 𝒱 c bd i arg2 harg2 arg3 harg3 arg4 harg4 arg5 harg5 arg6 harg6 arg7 harg7 arg8 harg8 v1 v3 X2 X3 G init ⟨n, hn⟩
    dsimp only at e
    rw [e]
    dsimp only
    rw [View.writes_append, tripL_eq, tripR_eq, ih]
    rfl

end Cert.KernelIdeal.Attn
-- ==== Proof.Attn.Body.lean ====
module

public import proofs.«01_k».proof.Proof.Attn.Walk
public import proofs.«01_k».proof.Proof.Gen.KernelIdeal.Frame

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The branch that zeroes dq is taken. -/
abbrev isFirst (i : grid0.Coords) : Prop := (Scalar.cmpi .ne (Scalar.extui (Scalar.cmpi .eq (BitVec.ofNat 32 (i 1).val) 0#32)) 0#32) = 1#1

/-- It is taken at the first row block of a head, and there alone. -/
theorem isFirst_iff (i : grid0.Coords) : isFirst i ↔ (i 1).val = 0 := by
  have h : (i 1).val < 13 := (i 1).isLt
  unfold isFirst
  generalize (i 1).val = j at h
  interval_cases j <;> decide

/-- A load of a whole block of 640 rows reads what the buffer reads. -/
theorem readAt_tile {e : EltTy} {sp : Space} (a : Memref sig .tc sp S640x128 e) (f : BufTy.Contents (Elt F) a.view.ty)
    (inb : ∀ x, (![0, 0] : Fin 2 → ℕ) x + (![640, 128] : Fin 2 → ℕ) x ≤ S640x128.size x) :
    a.view.readAt (Elt F) (Rect.unit (s := S640x128) ![0, 0] ![640, 128] inb).toLoadRect f = a.view.read (Elt F) f :=
  View.readAt_full ..

/-- After a store of a whole block of 8320 rows the buffer reads what was stored. -/
theorem read_writes_block {e : EltTy} {sp : Space} (a : Memref sig .tc sp S8320x128 e) (f : BufTy.Contents (Elt F) a.view.ty)
    (inb : ∀ x, (![0, 0] : Fin 2 → ℕ) x + (![8320, 128] : Fin 2 → ℕ) x ≤ S8320x128.size x) (w : S8320x128.Idx → Elt F e) (L : List (View.Piece (Elt F) S8320x128 e)) :
    a.view.read (Elt F) (a.view.writes (Elt F) f (⟨Rect.unit (s := S8320x128) ![0, 0] ![8320, 128] inb, w⟩ :: L)) = w :=
  View.read_writes_full ..

/-- The remainder loop leaves its carried pair and its list of stores as they were. -/
theorem rest_eq (c : Dev nD) (i : grid0.Coords) (arg2 : Memref sig .tc .vmem S8320x128 .bf16) (harg2 : arg2.IsWhole) (arg3 : Memref sig .tc .vmem S8320x128 .bf16) (harg3 : arg3.IsWhole) (arg4 : Memref sig .tc .vmem S640x128 .bf16) (harg4 : arg4.IsWhole) (arg5 : Memref sig .tc .vmem S640x128 .bf16) (harg5 : arg5.IsWhole) (arg6 : Memref sig .tc .vmem S8320x128 .f32) (harg6 : arg6.IsWhole) (arg7 : Memref sig .tc .vmem S640x128 .f32) (harg7 : arg7.IsWhole) (arg8 : Memref sig .tc .vmem S640x128 .f32) (harg8 : arg8.IsWhole) (v1 v3 : FVec F S640x128 .bf16) (X2 : BufTy.Contents (Elt F) arg2.view.ty) (X3 : BufTy.Contents (Elt F) arg3.view.ty) (G : BufTy.Contents (Elt F) arg6.view.ty) (init : FVec F S640x128 .f32 × FVec F S640x128 .f32) :
    st_k0_t2 (F := F) Variants.none c none i arg2 harg2 arg3 harg3 arg4 harg4 arg5 harg5 arg6 harg6 arg7 harg7 arg8 harg8 v1 v3 X2 X3 G init (Scf.trips (k0_t2_loop i).lb (k0_t2_loop i).ub (k0_t2_loop i).st) = (init, []) := by
  rw [show Scf.trips (k0_t2_loop i).lb (k0_t2_loop i).ub (k0_t2_loop i).st = 0 from trips2 i]; rfl

/-- What the first loop leaves, entered with the state after the diagonal block: what `point` says. -/
theorem loops_eq (c : Dev nD) (i : grid0.Coords) (arg2 : Memref sig .tc .vmem S8320x128 .bf16) (harg2 : arg2.IsWhole) (arg3 : Memref sig .tc .vmem S8320x128 .bf16) (harg3 : arg3.IsWhole) (arg4 : Memref sig .tc .vmem S640x128 .bf16) (harg4 : arg4.IsWhole) (arg5 : Memref sig .tc .vmem S640x128 .bf16) (harg5 : arg5.IsWhole) (arg6 : Memref sig .tc .vmem S8320x128 .f32) (harg6 : arg6.IsWhole) (arg7 : Memref sig .tc .vmem S640x128 .f32) (harg7 : arg7.IsWhole) (arg8 : Memref sig .tc .vmem S640x128 .f32) (harg8 : arg8.IsWhole) (v1 v3 : FVec F S640x128 .bf16) (X2 : BufTy.Contents (Elt F) arg2.view.ty) (X3 : BufTy.Contents (Elt F) arg3.view.ty) (G : BufTy.Contents (Elt F) arg6.view.ty) (init : FVec F S640x128 .f32 × FVec F S640x128 .f32)
    (x0 x1 : Vec F S8320x128 .bf16) (x2 x3 : Vec F S640x128 .bf16) (z : Vec F S8320x128 .f32) (h1 : v1 = k0_pay15 x2) (h3 : v3 = k0_pay16 x3)
    (h0 : arg2.view.read (Elt F) X2 = x0) (hd : arg3.view.read (Elt F) X3 = x1) (he : (init, arg6.view.read (Elt F) G) = diag x2 x3 x0 x1 (i 1).val z) :
    ((st_k0_t1 (F := F) Variants.none c none i arg2 harg2 arg3 harg3 arg4 harg4 arg5 harg5 arg6 harg6 arg7 harg7 arg8 harg8 v1 v3 X2 X3 G init (Scf.trips (k0_t1_loop i).lb (k0_t1_loop i).ub (k0_t1_loop i).st)).1, arg6.view.read (Elt F) (arg6.view.writes (Elt F) G (st_k0_t1 (F := F) Variants.none c none i arg2 harg2 arg3 harg3 arg4 harg4 arg5 harg5 arg6 harg6 arg7 harg7 arg8 harg8 v1 v3 X2 X3 G init (Scf.trips (k0_t1_loop i).lb (k0_t1_loop i).ub (k0_t1_loop i).st)).2))
      = point x0 x1 x2 x3 (i 1).val z := by
  subst h1 h3 h0 hd
  unfold point
  rw [← he, ← trips1 i]
  exact st_eq _ _ _ _ _ _ _ _ _ _ _ _ _ _ _ _ _ _ _ _ _ _ _ _ _ le_rfl

set_option maxHeartbeats 1000000 in
/-- At the first row block of a head: dq is zeroed and the point runs from there. -/
theorem body_first (c : Dev nD) (i : grid0.Coords) (arg2 : Memref sig .tc .vmem S8320x128 .bf16) (harg2 : arg2.IsWhole) (arg3 : Memref sig .tc .vmem S8320x128 .bf16) (harg3 : arg3.IsWhole) (arg4 : Memref sig .tc .vmem S640x128 .bf16) (harg4 : arg4.IsWhole) (arg5 : Memref sig .tc .vmem S640x128 .bf16) (harg5 : arg5.IsWhole) (arg6 : Memref sig .tc .vmem S8320x128 .f32) (harg6 : arg6.IsWhole) (arg7 : Memref sig .tc .vmem S640x128 .f32) (harg7 : arg7.IsWhole) (arg8 : Memref sig .tc .vmem S640x128 .f32) (harg8 : arg8.IsWhole) (hc0 : isFirst i)
    (x0 x1 : Vec F S8320x128 .bf16) (x2 x3 : Vec F S640x128 .bf16) (z : Vec F S8320x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare z ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (point x0 x1 x2 x3 (i 1).val (k0_pay17 (F := F))).2 ∗ owns (c : Thread nD τ) arg7 fullShare (point x0 x1 x2 x3 (i 1).val (k0_pay17 (F := F))).1.1 ∗ owns (c : Thread nD τ) arg8 fullShare (point x0 x1 x2 x3 (i 1).val (k0_pay17 (F := F))).1.2) -∗ K ⟨⟩))
      ⊢ wp frame (wpE (defs₀ (F := F)) Variants.none c none) E (cc0_flashb i arg2 harg2 arg3 harg3 arg4 harg4 arg5 harg5 arg6 harg6 arg7 harg7 arg8 harg8) K := by
  simp only [cc0_flashb_eq_skeleton]; unfold cc0_flashb_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec (disch := first | sl_exact hc0)
  sl_step
  have key := loops_eq c i arg2 harg2 arg3 harg3 arg4 harg4 arg5 harg5 arg6 harg6 arg7 harg7 arg8 harg8 (body_first.sl.r c arg4 f2) (body_first.sl.r_1 c arg5 f3) f0 f1 (arg6.view.writes (Elt F) arg6.view.junk (⟨Rect.unit (k0_off1 i) ![640, 128] (k0_off1_inb i), body_first.sl.r_4 c i arg2 arg3 arg4 arg5 arg6 f0 f1 f2 f3⟩ :: body_first.sl.H4_1)) (body_first.sl.r_3 c i arg2 arg3 arg4 arg5 f0 f1 f2 f3, body_first.sl.r_2 c i arg2 arg3 arg4 f0 f1 f2)
    _ _ (arg4.view.read (Elt F) f2) (arg5.view.read (Elt F) f3) (k0_pay17 (F := F))
    (by unfold body_first.sl.r; exact congrArg _ (View.readAt_full ..)) (by unfold body_first.sl.r_1; exact congrArg _ (View.readAt_full ..)) rfl rfl
    (by
      dsimp only [diag, putRows]
      rw [View.read_writes_cons_put _ _ _ _ _ (off1 i)]
      unfold body_first.sl.r_2 body_first.sl.r_3 body_first.sl.r_4
      simp only [readAt_tile, readAt_rows _ _ _ (off1 i)]
      unfold body_first.sl.H4_1; simp only [View.readCov, readAt_rows _ _ _ (off1 i), read_writes_block])
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; swap; · iexact H4
    ipureintro
    rw [rest_eq, List.nil_append, View.writes_append]
    exact congrArg Prod.snd key
  isplitl [H5]
  · iexists _; isplitr; swap; · iexact H5
    ipureintro
    rw [View.read_writes_full, rest_eq]
    exact congrArg (fun s => s.1.1) key
  iexists _; isplitr; swap; · iexact H6
  ipureintro
  rw [View.read_writes_full, rest_eq]
  exact congrArg (fun s => s.1.2) key

set_option maxHeartbeats 1000000 in
/-- At a later row block: the point runs from the dq block that it finds. -/
theorem body_later (c : Dev nD) (i : grid0.Coords) (arg2 : Memref sig .tc .vmem S8320x128 .bf16) (harg2 : arg2.IsWhole) (arg3 : Memref sig .tc .vmem S8320x128 .bf16) (harg3 : arg3.IsWhole) (arg4 : Memref sig .tc .vmem S640x128 .bf16) (harg4 : arg4.IsWhole) (arg5 : Memref sig .tc .vmem S640x128 .bf16) (harg5 : arg5.IsWhole) (arg6 : Memref sig .tc .vmem S8320x128 .f32) (harg6 : arg6.IsWhole) (arg7 : Memref sig .tc .vmem S640x128 .f32) (harg7 : arg7.IsWhole) (arg8 : Memref sig .tc .vmem S640x128 .f32) (harg8 : arg8.IsWhole) (hc0 : ¬isFirst i)
    (x0 x1 : Vec F S8320x128 .bf16) (x2 x3 : Vec F S640x128 .bf16) (z : Vec F S8320x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare z ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (point x0 x1 x2 x3 (i 1).val (z)).2 ∗ owns (c : Thread nD τ) arg7 fullShare (point x0 x1 x2 x3 (i 1).val (z)).1.1 ∗ owns (c : Thread nD τ) arg8 fullShare (point x0 x1 x2 x3 (i 1).val (z)).1.2) -∗ K ⟨⟩))
      ⊢ wp frame (wpE (defs₀ (F := F)) Variants.none c none) E (cc0_flashb i arg2 harg2 arg3 harg3 arg4 harg4 arg5 harg5 arg6 harg6 arg7 harg7 arg8 harg8) K := by
  simp only [cc0_flashb_eq_skeleton]; unfold cc0_flashb_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec (disch := first | sl_exact hc0)
  sl_step
  have key := loops_eq c i arg2 harg2 arg3 harg3 arg4 harg4 arg5 harg5 arg6 harg6 arg7 harg7 arg8 harg8 (body_later.sl.r c arg4 f2) (body_later.sl.r_1 c arg5 f3) f0 f1 (arg6.view.writes (Elt F) f4 [⟨Rect.unit (k0_off1 i) ![640, 128] (k0_off1_inb i), body_later.sl.r_4 c i arg2 arg3 arg4 arg5 arg6 f0 f1 f2 f3 f4⟩]) (body_later.sl.r_3 c i arg2 arg3 arg4 arg5 f0 f1 f2 f3, body_later.sl.r_2 c i arg2 arg3 arg4 f0 f1 f2)
    _ _ (arg4.view.read (Elt F) f2) (arg5.view.read (Elt F) f3) (arg6.view.read (Elt F) f4)
    (by unfold body_later.sl.r; exact congrArg _ (View.readAt_full ..)) (by unfold body_later.sl.r_1; exact congrArg _ (View.readAt_full ..)) rfl rfl
    (by
      dsimp only [diag, putRows]
      rw [View.read_writes_cons_put _ _ _ _ _ (off1 i)]
      unfold body_later.sl.r_2 body_later.sl.r_3 body_later.sl.r_4
      simp only [readAt_tile, readAt_rows _ _ _ (off1 i)]
      rfl)
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; swap; · iexact H4
    ipureintro
    rw [rest_eq, List.nil_append, View.writes_append]
    exact congrArg Prod.snd key
  isplitl [H5]
  · iexists _; isplitr; swap; · iexact H5
    ipureintro
    rw [View.read_writes_full, rest_eq]
    exact congrArg (fun s => s.1.1) key
  iexists _; isplitr; swap; · iexact H6
  ipureintro
  rw [View.read_writes_full, rest_eq]
  exact congrArg (fun s => s.1.2) key

end Cert.KernelIdeal.Attn
-- ==== Proof.Attn.Run.lean ====
module

public import proofs.«01_k».proof.Proof.Attn.Body
public import Idealize.ShloMosaic.Lib.Claim
public import Idealize.ShloMosaic.Lib.Pipeline.FrameBody

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The row block of a grid point. -/
theorem coord1 (t : Fin cfg0.N) : (grid0.coords t 1).val = t.val % 13 := by
  have h : (grid0.coords t 1).val = t.val / 1 % 13 := Pipeline.Grid.coords_val t 1 (by decide) rfl
  rw [h, Nat.div_one]

/-! ## What the grid points leave -/

/-- What point `t` leaves, ((dk, dv), dq), from the dq block `z`. -/
def leaves (c : Dev nD) (t : Fin cfg0.N) (z : FVec F S8320x128 .f32) : St F :=
  point (iblk m c 0 t) (iblk m c 1 t) (iblk m c 2 t) (iblk m c 3 t) (t.val % 13) z

/-- The dq block after point `n`: zeroed at the first row block of a head and carried on from there. -/
def dqAt (c : Dev nD) : (n : ℕ) → n < cfg0.N → FVec F S8320x128 .f32
  | 0, h => (leaves m c ⟨0, h⟩ (k0_pay17 (F := F))).2
  | n + 1, h => (leaves m c ⟨n + 1, h⟩ (if (n + 1) % 13 = 0 then k0_pay17 (F := F) else dqAt c n (Nat.lt_of_succ_lt h))).2

theorem dqAt_first (c : Dev nD) (t : Fin cfg0.N) (h : t.val % 13 = 0) : dqAt m c t.val t.isLt = (leaves m c t (k0_pay17 (F := F))).2 := by
  obtain ⟨n, hn⟩ := t
  match n, hn, h with
  | 0, _, _ => rfl
  | n + 1, hn, h => rw [dqAt, if_pos h]

theorem dqAt_later (c : Dev nD) (t : Fin cfg0.N) (h : t.val % 13 ≠ 0) :
    dqAt m c t.val t.isLt = (leaves m c t (dqAt m c (t.val - 1) (Nat.lt_of_le_of_lt (Nat.sub_le _ _) t.isLt))).2 := by
  obtain ⟨n, hn⟩ := t
  match n, hn, h with
  | n + 1, hn, h => rw [dqAt, if_neg h]; rfl

/-! ## The pipeline's proof data -/

/-- The arrays as the region finds them; after point `t` each input's buffer at its block, dq at the running sum and dk, dv at what the point computes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => dqAt m c t.val t.isLt
    | ⟨5, _⟩ => (leaves m c t (k0_pay17 (F := F))).1.1
    | ⟨6, _⟩ => (leaves m c t (k0_pay17 (F := F))).1.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = dqAt m c t.val t.isLt := by dsimp only [dats]
theorem after5 (c : Dev nD) (t : Fin cfg0.N) : (dats m 0 c).after 5 t = (leaves m c t (k0_pay17 (F := F))).1.1 := by dsimp only [dats]
theorem after6 (c : Dev nD) (t : Fin cfg0.N) : (dats m 0 c).after 6 t = (leaves m c t (k0_pay17 (F := F))).1.2 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- At a later row block the dq buffer holds what the point before left. -/
theorem before4 (c : Dev nD) (t : Fin cfg0.N) (h : t.val % 13 ≠ 0) (d) :
    (dats m 0 c).before 4 t d = dqAt m c (t.val - 1) (Nat.lt_of_le_of_lt (Nat.sub_le _ _) t.isLt) := by
  have ht : t.val ≠ 0 := fun e => h (by rw [e])
  have hfl : (cfg0.win 4).flush ⟨t.val - 1, Nat.lt_of_le_of_lt (Nat.sub_le _ _) t.isLt⟩ = false := by
    rw [Bool.eq_false_iff]; intro hc
    have := (flush0_4 _).mp hc
    dsimp only at this
    omega
  rw [(dats m 0 c).before_out_kept 4 rfl t ht hfl (fun _ => rfl) (fun _ _ => rfl) d, after4]

/-- The trips carry dk and dv without reading dq. -/
theorem trips_fst (k v : FVec F S640x128 .bf16) (Q D : FVec F S8320x128 .bf16) (b0 : ℕ) (s s' : St F) (h : s.1 = s'.1) (n : ℕ) :
    (trips k v Q D b0 s n).1 = (trips k v Q D b0 s' n).1 := by
  induction n with
  | zero => exact h
  | succ n ih => dsimp only [trips, trip]; rw [ih]

/-- What a point leaves of dk and dv does not depend on the dq block that it finds. -/
theorem leaves_fst (c : Dev nD) (t : Fin cfg0.N) (z z' : FVec F S8320x128 .f32) : (leaves m c t z).1 = (leaves m c t z').1 :=
  by unfold leaves point; exact trips_fst _ _ _ _ _ (diag _ _ _ _ _ z) (diag _ _ _ _ _ z') rfl _

/-! ## The body at a grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t))

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4, after5, after6]
  by_cases h0 : t.val % 13 = 0
  · rw [dqAt_first m c t h0]
    unfold leaves
    rw [← coord1 t]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (body_first c (grid0.coords t) _ _ _ _ _ _ _ _ _ _ _ _ _ _ ((isFirst_iff _).mpr ((coord1 t).trans h0)) (iblk m c 0 t) (iblk m c 1 t) (iblk m c 2 t) (iblk m c 3 t) _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [dqAt_later m c t h0, leaves_fst m c t _ (dqAt m c (t.val - 1) (Nat.lt_of_le_of_lt (Nat.sub_le _ _) t.isLt))]
    simp only [before4 m c t h0]
    unfold leaves
    rw [← coord1 t]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (body_later c (grid0.coords t) _ _ _ _ _ _ _ _ _ _ _ _ _ _ (fun h => h0 ((coord1 t).symm.trans ((isFirst_iff _).mp h))) (iblk m c 0 t) (iblk m c 1 t) (iblk m c 2 t) (iblk m c 3 t) _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The launch: the arrays at the write-backs' contents, the rest as the host lines after the region leave it, every counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame of the ideal kernel, at any float values: the arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Attn
-- ==== Proof.Ref.Ops.lean ====
module

public import proofs.«01_k».proof.Proof.Gen.ReferenceIdeal
public import Idealize.ShloMosaic.Lib.StableHlo.Run
public import Idealize.ShloMosaic.Lib.Claim

@[expose] public section

set_option maxRecDepth 8192

noncomputable section

namespace Cert.ReferenceIdeal.Attn

open Cert.ReferenceIdeal Cert.ReferenceIdeal.Gen Idealize.ShloMosaic Idealize.ShloMosaic.TcCoe Idealize.SL.Sem Idealize.ShloMosaic.StableHlo

/-! # The reference's operations, cut where its proof reads it, and its run -/

variable {F : FTy → Type} [FloatOps F]

/-- Operations: the masked scores. -/
abbrev opsScores : List (HloOp τ sig (Elt F)) :=
  [ reshape main_arg0 main_v0 (rfl : (.f32 : EltTy) = .f32) shapeCasts_S8208x1024_S8208x16x64,
    reshape main_arg1 main_v1 (rfl : (.f32 : EltTy) = .f32) shapeCasts_S8208x1024_S8208x16x64,
    binary main_v0 main_v1 main_v2 ((fun l r => Host.dotGeneral dot_S8208x16x64_S8208x16x64_S16x8208x8208_2_2_0_0_1_1 none l r) : (⟨S8208x16x64, .f32⟩ : BufTy).Contents (Elt F) → (⟨S8208x16x64, .f32⟩ : BufTy).Contents (Elt F) → (⟨S16x8208x8208, .f32⟩ : BufTy).Contents (Elt F)),
    nullary main_cst (constant S_ .f32 0x3E000000#32),
    unary main_cst main_v3 (broadcastInDim S16x8208x8208 ![] bcast_S_S16x8208x8208 : (⟨S_, .f32⟩ : BufTy).Contents (Elt F) → (⟨S16x8208x8208, .f32⟩ : BufTy).Contents (Elt F)),
    binary main_v2 main_v3 main_v4 (mulf : (⟨S16x8208x8208, .f32⟩ : BufTy).Contents (Elt F) → (⟨S16x8208x8208, .f32⟩ : BufTy).Contents (Elt F) → (⟨S16x8208x8208, .f32⟩ : BufTy).Contents (Elt F)),
    unary main_arg3 main_v5 ((transpose S16x8208 [1, 0] · transposes_S8208x16_S16x8208_1_0) : (⟨S8208x16, .f32⟩ : BufTy).Contents (Elt F) → (⟨S16x8208, .f32⟩ : BufTy).Contents (Elt F)),
    unary main_v5 main_v6 (broadcastInDim S16x8208x1 ![0, 1] bcast_S16x8208_S16x8208x1_0_1 : (⟨S16x8208, .f32⟩ : BufTy).Contents (Elt F) → (⟨S16x8208x1, .f32⟩ : BufTy).Contents (Elt F)),
    unary main_v6 main_v7 (broadcastInDim S16x8208x8208 ![0, 1, 2] bcast_S16x8208x1_S16x8208x8208_0_1_2 : (⟨S16x8208x1, .f32⟩ : BufTy).Contents (Elt F) → (⟨S16x8208x8208, .f32⟩ : BufTy).Contents (Elt F)),
    binary main_v4 main_v7 main_v8 (addf : (⟨S16x8208x8208, .f32⟩ : BufTy).Contents (Elt F) → (⟨S16x8208x8208, .f32⟩ : BufTy).Contents (Elt F) → (⟨S16x8208x8208, .f32⟩ : BufTy).Contents (Elt F)),
    unary main_v5 main_v9 (broadcastInDim S16x1x8208 ![0, 2] bcast_S16x8208_S16x1x8208_0_2 : (⟨S16x8208, .f32⟩ : BufTy).Contents (Elt F) → (⟨S16x1x8208, .f32⟩ : BufTy).Contents (Elt F)),
    unary main_v9 main_v10 (broadcastInDim S16x8208x8208 ![0, 1, 2] bcast_S16x1x8208_S16x8208x8208_0_1_2 : (⟨S16x1x8208, .f32⟩ : BufTy).Contents (Elt F) → (⟨S16x8208x8208, .f32⟩ : BufTy).Contents (Elt F)),
    binary main_v8 main_v10 main_v11 (subf : (⟨S16x8208x8208, .f32⟩ : BufTy).Contents (Elt F) → (⟨S16x8208x8208, .f32⟩ : BufTy).Contents (Elt F) → (⟨S16x8208x8208, .f32⟩ : BufTy).Contents (Elt F)),
    nullary main_v12 (iotaInDim S8208 32 0),
    unary main_v12 main_v13 (broadcastInDim S1x8208 ![1] bcast_S8208_S1x8208_1 : (⟨S8208, .i32⟩ : BufTy).Contents (Elt F) → (⟨S1x8208, .i32⟩ : BufTy).Contents (Elt F)),
    unary main_v12 main_v14 (broadcastInDim S8208x1 ![0] bcast_S8208_S8208x1_0 : (⟨S8208, .i32⟩ : BufTy).Contents (Elt F) → (⟨S8208x1, .i32⟩ : BufTy).Contents (Elt F)),
    unary main_v13 main_v15 (broadcastInDim S8208x8208 ![0, 1] bcast_S1x8208_S8208x8208_0_1 : (⟨S1x8208, .i32⟩ : BufTy).Contents (Elt F) → (⟨S8208x8208, .i32⟩ : BufTy).Contents (Elt F)),
    unary main_v14 main_v16 (broadcastInDim S8208x8208 ![0, 1] bcast_S8208x1_S8208x8208_0_1 : (⟨S8208x1, .i32⟩ : BufTy).Contents (Elt F) → (⟨S8208x8208, .i32⟩ : BufTy).Contents (Elt F)),
    binary main_v15 main_v16 main_v17 (cmpi .sle : (⟨S8208x8208, .i32⟩ : BufTy).Contents (Elt F) → (⟨S8208x8208, .i32⟩ : BufTy).Contents (Elt F) → (⟨S8208x8208, .i1⟩ : BufTy).Contents (Elt F)),
    nullary main_cst_0 (constant S_ .f32 0xFF800000#32),
    TRef.unary (TRef.of (T := ⟨S_, .f32⟩) main_cst_0) (TRef.of (T := ⟨S_, .f32⟩) main_call0_v0) id,
    TRef.unary (TRef.of (T := ⟨S8208x8208, .i1⟩) main_v17) (TRef.of (T := ⟨S16x8208x8208, .i1⟩) main_v18_1) (broadcastInDim S16x8208x8208 ![1, 2] bcast_S8208x8208_S16x8208x8208_1_2),
    TRef.unary (TRef.of (T := ⟨S_, .f32⟩) main_call0_v0) (TRef.of (T := ⟨S16x8208x8208, .f32⟩) main_call0_v2) (broadcastInDim S16x8208x8208 ![] bcast_S_S16x8208x8208),
    TRef.ternary (TRef.of (T := ⟨S16x8208x8208, .i1⟩) main_v18_1) (TRef.of (T := ⟨S16x8208x8208, .f32⟩) main_v11) (TRef.of (T := ⟨S16x8208x8208, .f32⟩) main_call0_v2) (TRef.of (T := ⟨S16x8208x8208, .f32⟩) main_v18_0) select,
    TRef.nullary (TRef.of (T := ⟨S_, .f32⟩) main_call0_cst) (constant S_ .f32 0x00000000#32),
    TRef.unary (TRef.of (T := ⟨S_, .f32⟩) main_call0_cst) (TRef.of (T := ⟨S16x8208x8208, .f32⟩) main_v18_2) (broadcastInDim S16x8208x8208 ![] bcast_S_S16x8208x8208) ]

/-- Operations: their row maxima (and the mask of where they are reached). -/
abbrev opsTop : List (HloOp τ sig (Elt F)) :=
  [ nullary main_cst_1 (constant S_ .f32 0xFF800000#32),
    binary main_v18_0 main_cst_1 main_v19 ((fun x v => Host.reduce FloatOps.maximumf x v reducesTo_S16x8208x8208_S16x8208_d2 h_S_) : (⟨S16x8208x8208, .f32⟩ : BufTy).Contents (Elt F) → (⟨S_, .f32⟩ : BufTy).Contents (Elt F) → (⟨S16x8208, .f32⟩ : BufTy).Contents (Elt F)),
    reshape main_v19 main_v20 (rfl : (.f32 : EltTy) = .f32) shapeCasts_S16x8208_S16x8208x1,
    unary main_v20 main_v21 (broadcastInDim S16x8208x8208 ![0, 1, 2] bcast_S16x8208x1_S16x8208x8208_0_1_2 : (⟨S16x8208x1, .f32⟩ : BufTy).Contents (Elt F) → (⟨S16x8208x8208, .f32⟩ : BufTy).Contents (Elt F)),
    binary main_v18_0 main_v21 main_v22 (cmpf .oeq : (⟨S16x8208x8208, .f32⟩ : BufTy).Contents (Elt F) → (⟨S16x8208x8208, .f32⟩ : BufTy).Contents (Elt F) → (⟨S16x8208x8208, .i1⟩ : BufTy).Contents (Elt F)),
    unary main_v22 main_v23 (uitofp .f32 : (⟨S16x8208x8208, .i1⟩ : BufTy).Contents (Elt F) → (⟨S16x8208x8208, .f32⟩ : BufTy).Contents (Elt F)),
    nullary main_cst_2 (constant S_ .f32 0x00000000#32),
    binary main_v23 main_cst_2 main_v24 ((fun x v => Host.reduceAdd x v reducesTo_S16x8208x8208_S16x8208_d2 h_S_) : (⟨S16x8208x8208, .f32⟩ : BufTy).Contents (Elt F) → (⟨S_, .f32⟩ : BufTy).Contents (Elt F) → (⟨S16x8208, .f32⟩ : BufTy).Contents (Elt F)),
    nullary main_cst_3 (constant S_ .f32 0xFF800000#32),
    unary main_cst_3 main_v25 (broadcastInDim S16x8208 ![] bcast_S_S16x8208 : (⟨S_, .f32⟩ : BufTy).Contents (Elt F) → (⟨S16x8208, .f32⟩ : BufTy).Contents (Elt F)),
    binary main_v25 main_v19 main_v26 (maximumf : (⟨S16x8208, .f32⟩ : BufTy).Contents (Elt F) → (⟨S16x8208, .f32⟩ : BufTy).Contents (Elt F) → (⟨S16x8208, .f32⟩ : BufTy).Contents (Elt F)) ]

/-- Operations: the weights of the maximum, which no result reads. -/
abbrev opsDead : List (HloOp τ sig (Elt F)) :=
  [ nullary main_cst_4 (constant S_ .f32 0xFF800000#32),
    unary main_cst_4 main_v27 (broadcastInDim S16x8208 ![] bcast_S_S16x8208 : (⟨S_, .f32⟩ : BufTy).Contents (Elt F) → (⟨S16x8208, .f32⟩ : BufTy).Contents (Elt F)),
    binary main_v19 main_v27 main_v28 (cmpf .ogt : (⟨S16x8208, .f32⟩ : BufTy).Contents (Elt F) → (⟨S16x8208, .f32⟩ : BufTy).Contents (Elt F) → (⟨S16x8208, .i1⟩ : BufTy).Contents (Elt F)),
    nullary main_cst_5 (constant S_ .f32 0xFF800000#32),
    unary main_cst_5 main_v29 (broadcastInDim S16x8208 ![] bcast_S_S16x8208 : (⟨S_, .f32⟩ : BufTy).Contents (Elt F) → (⟨S16x8208, .f32⟩ : BufTy).Contents (Elt F)),
    binary main_v19 main_v29 main_v30 (cmpf .oeq : (⟨S16x8208, .f32⟩ : BufTy).Contents (Elt F) → (⟨S16x8208, .f32⟩ : BufTy).Contents (Elt F) → (⟨S16x8208, .i1⟩ : BufTy).Contents (Elt F)),
    nullary main_cst_6 (constant S_ .f32 0x3F800000#32),
    unary main_cst_6 main_v31 (broadcastInDim S16x8208 ![] bcast_S_S16x8208 : (⟨S_, .f32⟩ : BufTy).Contents (Elt F) → (⟨S16x8208, .f32⟩ : BufTy).Contents (Elt F)),
    nullary main_cst_7 (constant S_ .f32 0x00000000#32),
    unary main_cst_7 main_v32 (broadcastInDim S16x8208 ![] bcast_S_S16x8208 : (⟨S_, .f32⟩ : BufTy).Contents (Elt F) → (⟨S16x8208, .f32⟩ : BufTy).Contents (Elt F)),
    nullary main_cst_8 (constant S_ .f32 0x3F000000#32),
    unary main_cst_8 main_v33 (broadcastInDim S16x8208 ![] bcast_S_S16x8208 : (⟨S_, .f32⟩ : BufTy).Contents (Elt F) → (⟨S16x8208, .f32⟩ : BufTy).Contents (Elt F)),
    ternary main_v30 main_v33 main_v32 main_v34 (select : (⟨S16x8208, .i1⟩ : BufTy).Contents (Elt F) → (⟨S16x8208, .f32⟩ : BufTy).Contents (Elt F) → (⟨S16x8208, .f32⟩ : BufTy).Contents (Elt F) → (⟨S16x8208, .f32⟩ : BufTy).Contents (Elt F)),
    ternary main_v28 main_v31 main_v34 main_v35 (select : (⟨S16x8208, .i1⟩ : BufTy).Contents (Elt F) → (⟨S16x8208, .f32⟩ : BufTy).Contents (Elt F) → (⟨S16x8208, .f32⟩ : BufTy).Contents (Elt F) → (⟨S16x8208, .f32⟩ : BufTy).Contents (Elt F)) ]

/-- Operations: the exponentials, their sums and the softmax. -/
abbrev opsSoft : List (HloOp τ sig (Elt F)) :=
  [ unary main_v26 main_v36 (broadcastInDim S16x8208x1 ![0, 1] bcast_S16x8208_S16x8208x1_0_1 : (⟨S16x8208, .f32⟩ : BufTy).Contents (Elt F) → (⟨S16x8208x1, .f32⟩ : BufTy).Contents (Elt F)),
    unary main_v36 main_v37 (broadcastInDim S16x8208x8208 ![0, 1, 2] bcast_S16x8208x1_S16x8208x8208_0_1_2 : (⟨S16x8208x1, .f32⟩ : BufTy).Contents (Elt F) → (⟨S16x8208x8208, .f32⟩ : BufTy).Contents (Elt F)),
    binary main_v18_0 main_v37 main_v38 (subf : (⟨S16x8208x8208, .f32⟩ : BufTy).Contents (Elt F) → (⟨S16x8208x8208, .f32⟩ : BufTy).Contents (Elt F) → (⟨S16x8208x8208, .f32⟩ : BufTy).Contents (Elt F)),
    unary main_v38 main_v39 (Host.exp : (⟨S16x8208x8208, .f32⟩ : BufTy).Contents (Elt F) → (⟨S16x8208x8208, .f32⟩ : BufTy).Contents (Elt F)),
    nullary main_cst_9 (constant S_ .f32 0x00000000#32),
    binary main_v39 main_cst_9 main_v40 ((fun x v => Host.reduceAdd x v reducesTo_S16x8208x8208_S16x8208_d2 h_S_) : (⟨S16x8208x8208, .f32⟩ : BufTy).Contents (Elt F) → (⟨S_, .f32⟩ : BufTy).Contents (Elt F) → (⟨S16x8208, .f32⟩ : BufTy).Contents (Elt F)),
    unary main_v40 main_v41 (broadcastInDim S16x8208x1 ![0, 1] bcast_S16x8208_S16x8208x1_0_1 : (⟨S16x8208, .f32⟩ : BufTy).Contents (Elt F) → (⟨S16x8208x1, .f32⟩ : BufTy).Contents (Elt F)),
    unary main_v41 main_v42 (broadcastInDim S16x8208x8208 ![0, 1, 2] bcast_S16x8208x1_S16x8208x8208_0_1_2 : (⟨S16x8208x1, .f32⟩ : BufTy).Contents (Elt F) → (⟨S16x8208x8208, .f32⟩ : BufTy).Contents (Elt F)),
    binary main_v39 main_v42 main_v43 (Host.divf : (⟨S16x8208x8208, .f32⟩ : BufTy).Contents (Elt F) → (⟨S16x8208x8208, .f32⟩ : BufTy).Contents (Elt F) → (⟨S16x8208x8208, .f32⟩ : BufTy).Contents (Elt F)),
    binary main_v41 main_v41 main_v44 (mulf : (⟨S16x8208x1, .f32⟩ : BufTy).Contents (Elt F) → (⟨S16x8208x1, .f32⟩ : BufTy).Contents (Elt F) → (⟨S16x8208x1, .f32⟩ : BufTy).Contents (Elt F)),
    nullary main_cst_10 (constant S_ .f32 0x3F800000#32),
    unary main_cst_10 main_v45 (broadcastInDim S16x8208x1 ![] bcast_S_S16x8208x1 : (⟨S_, .f32⟩ : BufTy).Contents (Elt F) → (⟨S16x8208x1, .f32⟩ : BufTy).Contents (Elt F)),
    binary main_v45 main_v44 main_v46 (Host.divf : (⟨S16x8208x1, .f32⟩ : BufTy).Contents (Elt F) → (⟨S16x8208x1, .f32⟩ : BufTy).Contents (Elt F) → (⟨S16x8208x1, .f32⟩ : BufTy).Contents (Elt F)),
    reshape main_arg2 main_v47 (rfl : (.f32 : EltTy) = .f32) shapeCasts_S8208x1024_S8208x16x64 ]

/-- Operations: the gradient of the masked scores' softmax. -/
abbrev opsGrad : List (HloOp τ sig (Elt F)) :=
  [ binary main_v47 main_v43 main_v48 ((fun l r => Host.dotGeneral dot_S8208x16x64_S16x8208x8208_S16x64x8208_0_2_2_1_1_0 none l r) : (⟨S8208x16x64, .f32⟩ : BufTy).Contents (Elt F) → (⟨S16x8208x8208, .f32⟩ : BufTy).Contents (Elt F) → (⟨S16x64x8208, .f32⟩ : BufTy).Contents (Elt F)),
    unary main_v48 main_v49 ((transpose S8208x16x64 [2, 0, 1] · transposes_S16x64x8208_S8208x16x64_2_0_1) : (⟨S16x64x8208, .f32⟩ : BufTy).Contents (Elt F) → (⟨S8208x16x64, .f32⟩ : BufTy).Contents (Elt F)),
    reshape main_v49 main_v50 (rfl : (.f32 : EltTy) = .f32) shapeCasts_S8208x16x64_S8208x1024,
    reshape main_arg4 main_v51 (rfl : (.f32 : EltTy) = .f32) shapeCasts_S8208x1024_S8208x16x64,
    unary main_v51 main_v52 ((transpose S16x64x8208 [1, 2, 0] · transposes_S8208x16x64_S16x64x8208_1_2_0) : (⟨S8208x16x64, .f32⟩ : BufTy).Contents (Elt F) → (⟨S16x64x8208, .f32⟩ : BufTy).Contents (Elt F)),
    binary main_v52 main_v47 main_v53 ((fun l r => Host.dotGeneral dot_S16x64x8208_S8208x16x64_S16x8208x8208_1_2_2_0_0_1 none l r) : (⟨S16x64x8208, .f32⟩ : BufTy).Contents (Elt F) → (⟨S8208x16x64, .f32⟩ : BufTy).Contents (Elt F) → (⟨S16x8208x8208, .f32⟩ : BufTy).Contents (Elt F)),
    binary main_v52 main_v43 main_v54 ((fun l r => Host.dotGeneral dot_S16x64x8208_S16x8208x8208_S16x64x8208_2_1_1_2_0_0 none l r) : (⟨S16x64x8208, .f32⟩ : BufTy).Contents (Elt F) → (⟨S16x8208x8208, .f32⟩ : BufTy).Contents (Elt F) → (⟨S16x64x8208, .f32⟩ : BufTy).Contents (Elt F)),
    unary main_v54 main_v55 ((transpose S8208x16x64 [2, 0, 1] · transposes_S16x64x8208_S8208x16x64_2_0_1) : (⟨S16x64x8208, .f32⟩ : BufTy).Contents (Elt F) → (⟨S8208x16x64, .f32⟩ : BufTy).Contents (Elt F)),
    reshape main_v55 main_v56 (rfl : (.f32 : EltTy) = .f32) shapeCasts_S8208x16x64_S8208x1024,
    unary main_v46 main_v57 (broadcastInDim S16x8208x8208 ![0, 1, 2] bcast_S16x8208x1_S16x8208x8208_0_1_2 : (⟨S16x8208x1, .f32⟩ : BufTy).Contents (Elt F) → (⟨S16x8208x8208, .f32⟩ : BufTy).Contents (Elt F)),
    binary main_v53 main_v57 main_v58 (mulf : (⟨S16x8208x8208, .f32⟩ : BufTy).Contents (Elt F) → (⟨S16x8208x8208, .f32⟩ : BufTy).Contents (Elt F) → (⟨S16x8208x8208, .f32⟩ : BufTy).Contents (Elt F)),
    binary main_v58 main_v39 main_v59 (mulf : (⟨S16x8208x8208, .f32⟩ : BufTy).Contents (Elt F) → (⟨S16x8208x8208, .f32⟩ : BufTy).Contents (Elt F) → (⟨S16x8208x8208, .f32⟩ : BufTy).Contents (Elt F)),
    nullary main_cst_11 (constant S_ .f32 0x00000000#32),
    binary main_v59 main_cst_11 main_v60 ((fun x v => Host.reduceAdd x v reducesTo_S16x8208x8208_S16x8208_d2 h_S_) : (⟨S16x8208x8208, .f32⟩ : BufTy).Contents (Elt F) → (⟨S_, .f32⟩ : BufTy).Contents (Elt F) → (⟨S16x8208, .f32⟩ : BufTy).Contents (Elt F)),
    reshape main_v60 main_v61 (rfl : (.f32 : EltTy) = .f32) shapeCasts_S16x8208_S16x8208x1,
    unary main_v61 main_v62 (Host.negf : (⟨S16x8208x1, .f32⟩ : BufTy).Contents (Elt F) → (⟨S16x8208x1, .f32⟩ : BufTy).Contents (Elt F)),
    unary main_v41 main_v63 (broadcastInDim S16x8208x8208 ![0, 1, 2] bcast_S16x8208x1_S16x8208x8208_0_1_2 : (⟨S16x8208x1, .f32⟩ : BufTy).Contents (Elt F) → (⟨S16x8208x8208, .f32⟩ : BufTy).Contents (Elt F)),
    binary main_v53 main_v63 main_v64 (Host.divf : (⟨S16x8208x8208, .f32⟩ : BufTy).Contents (Elt F) → (⟨S16x8208x8208, .f32⟩ : BufTy).Contents (Elt F) → (⟨S16x8208x8208, .f32⟩ : BufTy).Contents (Elt F)),
    nullary main_cst_12 (constant S_ .f32 0x00000000#32),
    binary main_v62 main_cst_12 main_v65 ((fun x v => Host.reduceAdd x v reducesTo_S16x8208x1_S16x8208_d2 h_S_) : (⟨S16x8208x1, .f32⟩ : BufTy).Contents (Elt F) → (⟨S_, .f32⟩ : BufTy).Contents (Elt F) → (⟨S16x8208, .f32⟩ : BufTy).Contents (Elt F)),
    unary main_v65 main_v66 (broadcastInDim S16x8208x8208 ![0, 1] bcast_S16x8208_S16x8208x8208_0_1 : (⟨S16x8208, .f32⟩ : BufTy).Contents (Elt F) → (⟨S16x8208x8208, .f32⟩ : BufTy).Contents (Elt F)),
    binary main_v64 main_v66 main_v67 (addf : (⟨S16x8208x8208, .f32⟩ : BufTy).Contents (Elt F) → (⟨S16x8208x8208, .f32⟩ : BufTy).Contents (Elt F) → (⟨S16x8208x8208, .f32⟩ : BufTy).Contents (Elt F)),
    binary main_v67 main_v39 main_v68 (mulf : (⟨S16x8208x8208, .f32⟩ : BufTy).Contents (Elt F) → (⟨S16x8208x8208, .f32⟩ : BufTy).Contents (Elt F) → (⟨S16x8208x8208, .f32⟩ : BufTy).Contents (Elt F)) ]

/-- Operations: the mask applied to it. -/
abbrev opsMask : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S16x8208x8208, .f32⟩) main_call1_v0) (broadcastInDim S16x8208x8208 ![] bcast_S_S16x8208x8208),
    TRef.ternary (TRef.of (T := ⟨S16x8208x8208, .i1⟩) main_v18_1) (TRef.of (T := ⟨S16x8208x8208, .f32⟩) main_v68) (TRef.of (T := ⟨S16x8208x8208, .f32⟩) main_call1_v0) (TRef.of (T := ⟨S16x8208x8208, .f32⟩) main_v69) select ]

/-- Operations: the four results. -/
abbrev opsOut : List (HloOp τ sig (Elt F)) :=
  [ unary main_v69 main_v70 (Host.negf : (⟨S16x8208x8208, .f32⟩ : BufTy).Contents (Elt F) → (⟨S16x8208x8208, .f32⟩ : BufTy).Contents (Elt F)),
    nullary main_cst_13 (constant S_ .f32 0x00000000#32),
    binary main_v70 main_cst_13 main_v71 ((fun x v => Host.reduceAdd x v reducesTo_S16x8208x8208_S16x8208_d1 h_S_) : (⟨S16x8208x8208, .f32⟩ : BufTy).Contents (Elt F) → (⟨S_, .f32⟩ : BufTy).Contents (Elt F) → (⟨S16x8208, .f32⟩ : BufTy).Contents (Elt F)),
    reshape main_v71 main_v72 (rfl : (.f32 : EltTy) = .f32) shapeCasts_S16x8208_S16x1x8208,
    nullary main_cst_14 (constant S_ .f32 0x00000000#32),
    binary main_v72 main_cst_14 main_v73 ((fun x v => Host.reduceAdd x v reducesTo_S16x1x8208_S16x8208_d1 h_S_) : (⟨S16x1x8208, .f32⟩ : BufTy).Contents (Elt F) → (⟨S_, .f32⟩ : BufTy).Contents (Elt F) → (⟨S16x8208, .f32⟩ : BufTy).Contents (Elt F)),
    nullary main_cst_15 (constant S_ .f32 0x00000000#32),
    binary main_v69 main_cst_15 main_v74 ((fun x v => Host.reduceAdd x v reducesTo_S16x8208x8208_S16x8208_d2 h_S_) : (⟨S16x8208x8208, .f32⟩ : BufTy).Contents (Elt F) → (⟨S_, .f32⟩ : BufTy).Contents (Elt F) → (⟨S16x8208, .f32⟩ : BufTy).Contents (Elt F)),
    reshape main_v74 main_v75 (rfl : (.f32 : EltTy) = .f32) shapeCasts_S16x8208_S16x8208x1,
    nullary main_cst_16 (constant S_ .f32 0x00000000#32),
    binary main_v75 main_cst_16 main_v76 ((fun x v => Host.reduceAdd x v reducesTo_S16x8208x1_S16x8208_d2 h_S_) : (⟨S16x8208x1, .f32⟩ : BufTy).Contents (Elt F) → (⟨S_, .f32⟩ : BufTy).Contents (Elt F) → (⟨S16x8208, .f32⟩ : BufTy).Contents (Elt F)),
    binary main_v73 main_v76 main_v77 (addf : (⟨S16x8208, .f32⟩ : BufTy).Contents (Elt F) → (⟨S16x8208, .f32⟩ : BufTy).Contents (Elt F) → (⟨S16x8208, .f32⟩ : BufTy).Contents (Elt F)),
    unary main_v77 main_v78 ((transpose S8208x16 [1, 0] · transposes_S16x8208_S8208x16_1_0) : (⟨S16x8208, .f32⟩ : BufTy).Contents (Elt F) → (⟨S8208x16, .f32⟩ : BufTy).Contents (Elt F)),
    nullary main_cst_17 (constant S_ .f32 0x3E000000#32),
    unary main_cst_17 main_v79 (broadcastInDim S16x8208x8208 ![] bcast_S_S16x8208x8208 : (⟨S_, .f32⟩ : BufTy).Contents (Elt F) → (⟨S16x8208x8208, .f32⟩ : BufTy).Contents (Elt F)),
    binary main_v69 main_v79 main_v80 (mulf : (⟨S16x8208x8208, .f32⟩ : BufTy).Contents (Elt F) → (⟨S16x8208x8208, .f32⟩ : BufTy).Contents (Elt F) → (⟨S16x8208x8208, .f32⟩ : BufTy).Contents (Elt F)),
    binary main_v80 main_v0 main_v81 ((fun l r => Host.dotGeneral dot_S16x8208x8208_S8208x16x64_S16x8208x64_1_0_2_2_0_1 none l r) : (⟨S16x8208x8208, .f32⟩ : BufTy).Contents (Elt F) → (⟨S8208x16x64, .f32⟩ : BufTy).Contents (Elt F) → (⟨S16x8208x64, .f32⟩ : BufTy).Contents (Elt F)),
    unary main_v81 main_v82 ((transpose S8208x16x64 [1, 0, 2] · transposes_S16x8208x64_S8208x16x64_1_0_2) : (⟨S16x8208x64, .f32⟩ : BufTy).Contents (Elt F) → (⟨S8208x16x64, .f32⟩ : BufTy).Contents (Elt F)),
    binary main_v80 main_v1 main_v83 ((fun l r => Host.dotGeneral dot_S16x8208x8208_S8208x16x64_S16x8208x64_2_0_1_2_0_1 none l r) : (⟨S16x8208x8208, .f32⟩ : BufTy).Contents (Elt F) → (⟨S8208x16x64, .f32⟩ : BufTy).Contents (Elt F) → (⟨S16x8208x64, .f32⟩ : BufTy).Contents (Elt F)),
    unary main_v83 main_v84 ((transpose S8208x16x64 [1, 0, 2] · transposes_S16x8208x64_S8208x16x64_1_0_2) : (⟨S16x8208x64, .f32⟩ : BufTy).Contents (Elt F) → (⟨S8208x16x64, .f32⟩ : BufTy).Contents (Elt F)),
    reshape main_v82 main_v85 (rfl : (.f32 : EltTy) = .f32) shapeCasts_S8208x16x64_S8208x1024,
    reshape main_v84 main_v86 (rfl : (.f32 : EltTy) = .f32) shapeCasts_S8208x16x64_S8208x1024 ]

/-- The first window of @main, and the second. -/
abbrev ops0 : List (HloOp τ sig (Elt F)) := opsScores ++ (opsTop ++ (opsDead ++ opsSoft))
abbrev ops1 : List (HloOp τ sig (Elt F)) := opsGrad ++ (opsMask ++ opsOut)

set_option maxHeartbeats 4000000 in
theorem part0_eq (c : Dev nD) : main_part0 (F := F) c = seq ops0 := rfl

set_option maxHeartbeats 4000000 in
theorem part1_eq (c : Dev nD) : main_part1 (F := F) c = seq ops1 := rfl

theorem main_eq (c : Dev nD) : main (F := F) c = seq (ops0 ++ ops1) := by
  rw [seq_append, ← part0_eq c, ← part1_eq c]
  rfl

end Cert.ReferenceIdeal.Attn
-- ==== Proof.Ref.Run.lean ====
module

public import proofs.«01_k».proof.Proof.Ref.Ops
public import Idealize.ShloMosaic.Lib.StableHlo.RunRead
public import Idealize.ShloMosaic.Lib.Quiescent

@[expose] public section

set_option maxRecDepth 8192

noncomputable section

namespace Cert.ReferenceIdeal.Attn

open Cert.ReferenceIdeal Cert.ReferenceIdeal.Gen Idealize.ShloMosaic Idealize.ShloMosaic.TcCoe Idealize.SL.Sem Idealize.ShloMosaic.StableHlo

/-! # The reference's run: what each buffer holds at its end, and its frame -/

variable {F : FTy → Type} [FloatOps F]

theorem scopedRefs_eq : (Finset.univ.filter fun b : Ref sig .tc => b.isScoped) = ∅ := by decide
theorem scopedSems_eq : (Finset.univ.filter fun sm : SemLoc sig => sm.isScoped .tc) = ∅ := by decide

/-- Two lists of operations one after the other. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih _

theorem opsScores_sub : (opsScores : List (HloOp τ sig (Elt F))).Forall fun op => op.bufs ⊆ tcRefs τ sig :=
  ⟨reshape_bufs_sub .., reshape_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., unary_bufs_sub .., unary_bufs_sub .., unary_bufs_sub .., binary_bufs_sub .., nullary_bufs_sub .., unary_bufs_sub .., unary_bufs_sub .., unary_bufs_sub .., ternary_bufs_sub .., nullary_bufs_sub .., unary_bufs_sub ..⟩
theorem opsScores_fresh : ∀ op ∈ (opsScores : List (HloOp τ sig (Elt F))), op.fresh = ∅ := by
  intro _ h; (repeat (cases h with | head => rfl | tail _ h => ?_)); exact nomatch h
/-- These operations write the listed buffers and leave the others. -/
theorem opsScores_keeps {r : Ref sig .tc} (hr : r ∉ [main_v0, main_v1, main_v2, main_cst, main_v3, main_v4, main_v5, main_v6, main_v7, main_v8, main_v9, main_v10, main_v11, main_v12, main_v13, main_v14, main_v15, main_v16, main_v17, main_cst_0, main_call0_v0, main_v18_1, main_call0_v2, main_v18_0, main_call0_cst, main_v18_2]) (V : Valuation τ sig (Elt F)) :
    after opsScores V (Proc.devRef .tc r) = V (Proc.devRef .tc r) := after_unwritten _ rfl hr V

theorem opsTop_sub : (opsTop : List (HloOp τ sig (Elt F))).Forall fun op => op.bufs ⊆ tcRefs τ sig :=
  ⟨nullary_bufs_sub .., binary_bufs_sub .., reshape_bufs_sub .., unary_bufs_sub .., binary_bufs_sub .., unary_bufs_sub .., nullary_bufs_sub .., binary_bufs_sub .., nullary_bufs_sub .., unary_bufs_sub .., binary_bufs_sub ..⟩
theorem opsTop_fresh : ∀ op ∈ (opsTop : List (HloOp τ sig (Elt F))), op.fresh = ∅ := by
  intro _ h; (repeat (cases h with | head => rfl | tail _ h => ?_)); exact nomatch h
/-- These operations write the listed buffers and leave the others. -/
theorem opsTop_keeps {r : Ref sig .tc} (hr : r ∉ [main_cst_1, main_v19, main_v20, main_v21, main_v22, main_v23, main_cst_2, main_v24, main_cst_3, main_v25, main_v26]) (V : Valuation τ sig (Elt F)) :
    after opsTop V (Proc.devRef .tc r) = V (Proc.devRef .tc r) := after_unwritten _ rfl hr V

theorem opsDead_sub : (opsDead : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., nullary_bufs_sub .., unary_bufs_sub .., nullary_bufs_sub .., unary_bufs_sub .., ternary_bufs_sub .., ternary_bufs_sub ..⟩
theorem opsDead_fresh : ∀ op ∈ (opsDead : List (HloOp τ sig (Elt F))), op.fresh = ∅ := by
  intro _ h; (repeat (cases h with | head => rfl | tail _ h => ?_)); exact nomatch h
/-- These operations write the listed buffers and leave the others. -/
theorem opsDead_keeps {r : Ref sig .tc} (hr : r ∉ [main_cst_4, main_v27, main_v28, main_cst_5, main_v29, main_v30, main_cst_6, main_v31, main_cst_7, main_v32, main_cst_8, main_v33, main_v34, main_v35]) (V : Valuation τ sig (Elt F)) :
    after opsDead V (Proc.devRef .tc r) = V (Proc.devRef .tc r) := after_unwritten _ rfl hr V

theorem opsSoft_sub : (opsSoft : List (HloOp τ sig (Elt F))).Forall fun op => op.bufs ⊆ tcRefs τ sig :=
  ⟨unary_bufs_sub .., unary_bufs_sub .., binary_bufs_sub .., unary_bufs_sub .., nullary_bufs_sub .., binary_bufs_sub .., unary_bufs_sub .., unary_bufs_sub .., binary_bufs_sub .., binary_bufs_sub .., nullary_bufs_sub .., unary_bufs_sub .., binary_bufs_sub .., reshape_bufs_sub ..⟩
theorem opsSoft_fresh : ∀ op ∈ (opsSoft : List (HloOp τ sig (Elt F))), op.fresh = ∅ := by
  intro _ h; (repeat (cases h with | head => rfl | tail _ h => ?_)); exact nomatch h
/-- These operations write the listed buffers and leave the others. -/
theorem opsSoft_keeps {r : Ref sig .tc} (hr : r ∉ [main_v36, main_v37, main_v38, main_v39, main_cst_9, main_v40, main_v41, main_v42, main_v43, main_v44, main_cst_10, main_v45, main_v46, main_v47]) (V : Valuation τ sig (Elt F)) :
    after opsSoft V (Proc.devRef .tc r) = V (Proc.devRef .tc r) := after_unwritten _ rfl hr V

theorem opsGrad_sub : (opsGrad : List (HloOp τ sig (Elt F))).Forall fun op => op.bufs ⊆ tcRefs τ sig :=
  ⟨binary_bufs_sub .., unary_bufs_sub .., reshape_bufs_sub .., reshape_bufs_sub .., unary_bufs_sub .., binary_bufs_sub .., binary_bufs_sub .., unary_bufs_sub .., reshape_bufs_sub .., unary_bufs_sub .., binary_bufs_sub .., binary_bufs_sub .., nullary_bufs_sub .., binary_bufs_sub .., reshape_bufs_sub .., unary_bufs_sub .., unary_bufs_sub .., binary_bufs_sub .., nullary_bufs_sub .., binary_bufs_sub .., unary_bufs_sub .., binary_bufs_sub .., binary_bufs_sub ..⟩
theorem opsGrad_fresh : ∀ op ∈ (opsGrad : List (HloOp τ sig (Elt F))), op.fresh = ∅ := by
  intro _ h; (repeat (cases h with | head => rfl | tail _ h => ?_)); exact nomatch h
/-- These operations write the listed buffers and leave the others. -/
theorem opsGrad_keeps {r : Ref sig .tc} (hr : r ∉ [main_v48, main_v49, main_v50, main_v51, main_v52, main_v53, main_v54, main_v55, main_v56, main_v57, main_v58, main_v59, main_cst_11, main_v60, main_v61, main_v62, main_v63, main_v64, main_cst_12, main_v65, main_v66, main_v67, main_v68]) (V : Valuation τ sig (Elt F)) :
    after opsGrad V (Proc.devRef .tc r) = V (Proc.devRef .tc r) := after_unwritten _ rfl hr V

theorem opsMask_sub : (opsMask : List (HloOp τ sig (Elt F))).Forall fun op => op.bufs ⊆ tcRefs τ sig :=
  ⟨nullary_bufs_sub .., unary_bufs_sub .., ternary_bufs_sub ..⟩
theorem opsMask_fresh : ∀ op ∈ (opsMask : List (HloOp τ sig (Elt F))), op.fresh = ∅ := by
  intro _ h; (repeat (cases h with | head => rfl | tail _ h => ?_)); exact nomatch h
/-- These operations write the listed buffers and leave the others. -/
theorem opsMask_keeps {r : Ref sig .tc} (hr : r ∉ [main_call1_cst, main_call1_v0, main_v69]) (V : Valuation τ sig (Elt F)) :
    after opsMask V (Proc.devRef .tc r) = V (Proc.devRef .tc r) := after_unwritten _ rfl hr V

theorem opsOut_sub : (opsOut : List (HloOp τ sig (Elt F))).Forall fun op => op.bufs ⊆ tcRefs τ sig :=
  ⟨unary_bufs_sub .., nullary_bufs_sub .., binary_bufs_sub .., reshape_bufs_sub .., nullary_bufs_sub .., binary_bufs_sub .., nullary_bufs_sub .., binary_bufs_sub .., reshape_bufs_sub .., nullary_bufs_sub .., binary_bufs_sub .., binary_bufs_sub .., unary_bufs_sub .., nullary_bufs_sub .., unary_bufs_sub .., binary_bufs_sub .., binary_bufs_sub .., unary_bufs_sub .., binary_bufs_sub .., unary_bufs_sub .., reshape_bufs_sub .., reshape_bufs_sub ..⟩
theorem opsOut_fresh : ∀ op ∈ (opsOut : List (HloOp τ sig (Elt F))), op.fresh = ∅ := by
  intro _ h; (repeat (cases h with | head => rfl | tail _ h => ?_)); exact nomatch h
/-- These operations write the listed buffers and leave the others. -/
theorem opsOut_keeps {r : Ref sig .tc} (hr : r ∉ [main_v70, main_cst_13, main_v71, main_v72, main_cst_14, main_v73, main_cst_15, main_v74, main_v75, main_cst_16, main_v76, main_v77, main_v78, main_cst_17, main_v79, main_v80, main_v81, main_v82, main_v83, main_v84, main_v85, main_v86]) (V : Valuation τ sig (Elt F)) :
    after opsOut V (Proc.devRef .tc r) = V (Proc.devRef .tc r) := after_unwritten _ rfl hr V

theorem forall_app {p : HloOp τ sig (Elt F) → Prop} {l₁ l₂ : List (HloOp τ sig (Elt F))} (h₁ : l₁.Forall p) (h₂ : l₂.Forall p) :
    (l₁ ++ l₂).Forall p := List.forall_append.mpr ⟨h₁, h₂⟩

theorem ops_sub : (ops0 ++ ops1 : List (HloOp τ sig (Elt F))).Forall fun op => op.bufs ⊆ tcRefs τ sig :=
  forall_app (forall_app opsScores_sub (forall_app opsTop_sub (forall_app opsDead_sub opsSoft_sub)))
    (forall_app opsGrad_sub (forall_app opsMask_sub opsOut_sub))

theorem ops_fresh : ∀ op ∈ (ops0 ++ ops1 : List (HloOp τ sig (Elt F))), op.fresh = ∅ := by
  intro op h
  simp only [ops0, ops1, List.mem_append] at h
  rcases h with (h | h | h | h) | h | h | h
  exacts [opsScores_fresh op h, opsTop_fresh op h, opsDead_fresh op h, opsSoft_fresh op h, opsGrad_fresh op h, opsMask_fresh op h, opsOut_fresh op h]

variable (m : (ℓ : Loc nD τ sig) → Buf (Elt F) ℓ) (ρ : Dev nD → PrngReg)

/-- The contents after each stretch of operations. -/
abbrev σ0 (c : Dev nD) : Valuation τ sig (Elt F) := launchContents m c
abbrev σ1 (c : Dev nD) : Valuation τ sig (Elt F) := after opsScores (σ0 m c)
abbrev σ2 (c : Dev nD) : Valuation τ sig (Elt F) := after opsDead (after opsTop (σ1 m c))
abbrev σ3 (c : Dev nD) : Valuation τ sig (Elt F) := after opsSoft (σ2 m c)
abbrev σ4 (c : Dev nD) : Valuation τ sig (Elt F) := after opsMask (after opsGrad (σ3 m c))
abbrev σ5 (c : Dev nD) : Valuation τ sig (Elt F) := after opsOut (σ4 m c)

theorem after_all (c : Dev nD) : after (ops0 ++ ops1) (σ0 m c) = σ5 m c := by
  simp only [ops0, ops1, after_app]

/-- Every execution ends with each buffer at what the operations in order leave there. -/
theorem run : θ_run defs (onTc (τ := τ) (main (F := F))) ⟨m, fun _ => 0, ρ⟩ fun r =>
    ∀ (c : Dev nD) (b : Ref sig .tc), r.2.mem ((c.tc : Thread nD τ).loc b) = σ5 m c (Proc.devRef .tc b) :=
  (θ_run defs _ _).mono (fun _ h c b => (h c b).trans (congrFun (after_all m c) _))
    (run_seq scopedRefs_eq scopedSems_eq defs main (fun _ => ops0 ++ ops1) main_eq (fun _ => ops_sub) m ρ (fun _ => ops_fresh))

/-- The arguments keep their contents. -/
theorem arg_kept (c : Dev nD) {r : Ref sig .tc} (hr : r ∈ [main_arg0, main_arg1, main_arg2, main_arg3, main_arg4]) :
    σ5 m c (Proc.devRef .tc r) = m ((c.tc : Thread nD τ).loc r) := by
  have hr' : r = main_arg0 ∨ r = main_arg1 ∨ r = main_arg2 ∨ r = main_arg3 ∨ r = main_arg4 := by simpa using hr
  rcases hr' with rfl | rfl | rfl | rfl | rfl <;>
  · show after opsOut (after opsMask (after opsGrad (after opsSoft (after opsDead (after opsTop (after opsScores (σ0 m c))))))) _ = _
    rw [opsOut_keeps (by decide), opsMask_keeps (by decide), opsGrad_keeps (by decide), opsSoft_keeps (by decide),
      opsDead_keeps (by decide), opsTop_keeps (by decide), opsScores_keeps (by decide)]

/-- The frame of the reference: the arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨(h c _).trans (arg_kept m c (by decide)), (h c _).trans (arg_kept m c (by decide)),
    (h c _).trans (arg_kept m c (by decide)), (h c _).trans (arg_kept m c (by decide)), (h c _).trans (arg_kept m c (by decide))⟩,
    sem_eq_zero_of_no_sems (by decide) r.2⟩) (run m ρ)

end Cert.ReferenceIdeal.Attn
-- ==== Proof.Attn.Spec.lean ====
module

public import Idealize.ShloMosaic.PureOps.Ideal
public import Mathlib.Analysis.SpecialFunctions.Log.Basic

@[expose] public section

noncomputable section

namespace Cert.Spec

open Idealize.ShloMosaic

/-! # The gradient of the forgetting attention, over real numbers

No program occurs here: this is the mathematics that both programs compute. -/

/-- Lane `d` of head `h` among the 1024 columns of q, k, v and their gradients. -/
def col (h : Fin 16) (d : Fin 64) : Fin 1024 := ⟨h.val * 64 + d.val, by omega⟩

/-- The head of a column and its lane there. -/
def hd (y : Fin 1024) : Fin 16 := ⟨y.val / 64, by omega⟩
def ld (y : Fin 1024) : Fin 64 := ⟨y.val % 64, by omega⟩

/-- Finite operands: normalized q and k, v, the cumulative log-forget c, and the cotangent `w` of the attention's output. -/
structure Args where
  q : Fin 8208 → Fin 1024 → ℝ
  k : Fin 8208 → Fin 1024 → ℝ
  v : Fin 8208 → Fin 1024 → ℝ
  c : Fin 8208 → Fin 16 → ℝ
  w : Fin 8208 → Fin 1024 → ℝ

variable (A : Args) (h : Fin 16) (i j : Fin 8208)

/-- The score of query `i` with key `j`. -/
def s : ℝ := (∑ d : Fin 64, A.q i (col h d) * A.k j (col h d)) * (1 / 8) + A.c i h - A.c j h

/-- The softmax's denominator of query `i`, and its weight on key `j`; a key after the query has weight zero. -/
def Z : ℝ := ∑ j : Fin 8208, if j.val ≤ i.val then Real.exp (s A h i j) else 0
def p : ℝ := if j.val ≤ i.val then Real.exp (s A h i j) / Z A h i else 0

/-- The gradient of the weight, its mean under the weights, and the gradient of the score. -/
def dp : ℝ := ∑ d : Fin 64, A.w i (col h d) * A.v j (col h d)
def dl : ℝ := ∑ j : Fin 8208, p A h i j * dp A h i j
def ds : ℝ := p A h i j * (dp A h i j - dl A h i)

/-- The four gradients. -/
def dq (d : Fin 64) : ℝ := ∑ j : Fin 8208, ds A h i j * (1 / 8) * A.k j (col h d)
def dk (d : Fin 64) : ℝ := ∑ i : Fin 8208, ds A h i j * (1 / 8) * A.q i (col h d)
def dv (d : Fin 64) : ℝ := ∑ i : Fin 8208, A.w i (col h d) * p A h i j
def dc : ℝ := (∑ i' : Fin 8208, -ds A h i' i) + ∑ j : Fin 8208, ds A h i j

/-! ## The softmax by any shift of its scores -/

/-- The exponential of the score less a number `M`, zero for a key after the query; and its sum over the keys. -/
def e (M : ℝ) : ℝ := if j.val ≤ i.val then Real.exp (s A h i j - M) else 0
def T (M : ℝ) : ℝ := ∑ j : Fin 8208, e A h i j M

theorem Z_pos : 0 < Z A h i := by
  have h0 : ∀ j ∈ Finset.univ, (0 : ℝ) ≤ if j.val ≤ i.val then Real.exp (s A h i j) else 0 := fun j _ => by
    split
    · exact (Real.exp_pos _).le
    · exact le_rfl
  refine lt_of_lt_of_le ?_ (Finset.single_le_sum h0 (Finset.mem_univ i))
  rw [if_pos le_rfl]
  exact Real.exp_pos _

theorem e_eq (M : ℝ) : e A h i j M = (if j.val ≤ i.val then Real.exp (s A h i j) else 0) * Real.exp (-M) := by
  unfold e
  split
  · rw [← Real.exp_add, sub_eq_add_neg]
  · rw [zero_mul]

theorem T_eq (M : ℝ) : T A h i M = Z A h i * Real.exp (-M) := by
  unfold T Z
  rw [Finset.sum_mul]
  exact Finset.sum_congr rfl fun j _ => e_eq A h i j M

theorem T_pos (M : ℝ) : 0 < T A h i M := by
  rw [T_eq]; exact mul_pos (Z_pos A h i) (Real.exp_pos _)

/-- The weight is the shifted exponential over its sum. -/
theorem e_div_T (M : ℝ) : e A h i j M / T A h i M = p A h i j := by
  rw [e_eq, T_eq, mul_div_mul_right _ _ (Real.exp_pos _).ne']
  unfold p
  split
  · rfl
  · rw [zero_div]

/-- The shift plus the logarithm of the shifted sum is the logarithm of the denominator. -/
theorem shift_log (M : ℝ) : M + Real.log (T A h i M) = Real.log (Z A h i) := by
  rw [T_eq, Real.log_mul (Z_pos A h i).ne' (Real.exp_pos _).ne', Real.log_exp]
  ring

/-- The weight from the score less the logarithm of the denominator. -/
theorem exp_sub_log (hj : j.val ≤ i.val) : Real.exp (s A h i j - Real.log (Z A h i)) = p A h i j := by
  rw [Real.exp_sub, Real.exp_log (Z_pos A h i), p, if_pos hj]

theorem p_late (hj : ¬ j.val ≤ i.val) : p A h i j = 0 := if_neg hj

/-- The mean gradient of a query's weights is its output's product with the cotangent. -/
theorem dl_eq : dl A h i = ∑ d : Fin 64, A.w i (col h d) * ∑ j : Fin 8208, p A h i j * A.v j (col h d) := by
  simp only [dl, dp, Finset.mul_sum]
  rw [Finset.sum_comm]
  exact Finset.sum_congr rfl fun d _ => Finset.sum_congr rfl fun j _ => by ring

/-- The gradient of the score as differentiation of the quotient writes it. -/
theorem ds_quotient (M : ℝ) (hj : j.val ≤ i.val) :
    (dp A h i j / T A h i M + -∑ k : Fin 8208, dp A h i k * (1 / (T A h i M * T A h i M)) * e A h i k M) * e A h i j M
      = ds A h i j := by
  have hT := (T_pos A h i M).ne'
  have h1 : ∑ k : Fin 8208, dp A h i k * (1 / (T A h i M * T A h i M)) * e A h i k M = dl A h i / T A h i M := by
    rw [dl, Finset.sum_div]
    refine Finset.sum_congr rfl fun k _ => ?_
    rw [← e_div_T A h i k M]
    field_simp
  rw [h1, ds, ← e_div_T A h i j M]
  field_simp
  ring

theorem ds_late (hj : ¬ j.val ≤ i.val) : ds A h i j = 0 := by rw [ds, p_late A h i j hj, zero_mul]

/-! ## Sums of reals among the extended reals -/

theorem coe_sum {ι : Type} (S : Finset ι) (f : ι → ℝ) : ∑ x ∈ S, (f x : EReal) = ((∑ x ∈ S, f x : ℝ) : EReal) := by
  classical
  induction S using Finset.induction_on with
  | empty => simp
  | insert a S ha ih => rw [Finset.sum_insert ha, Finset.sum_insert ha, ih, EReal.coe_add]

/-- A maximum of numbers that are real or −∞, one of them real, starting from −∞, is real. -/
theorem fold_max_real {n : ℕ} (f : Fin n → EReal) (hf : ∀ x, f x ≠ ⊤) (x₀ : Fin n) (h₀ : f x₀ ≠ ⊥) :
    ∃ M : ℝ, Finset.fold max ⊥ f Finset.univ = (M : EReal) := by
  have hb : Finset.fold max ⊥ f Finset.univ ≠ ⊥ := fun hh => h₀ (le_bot_iff.mp (hh ▸ (Finset.le_fold_max (f x₀)).mpr (Or.inr ⟨x₀, Finset.mem_univ _, le_rfl⟩)))
  have ht : Finset.fold max ⊥ f Finset.univ < ⊤ :=
    (Finset.fold_max_lt ⊤).mpr ⟨bot_lt_top, fun x _ => lt_top_iff_ne_top.mpr (hf x)⟩
  exact ⟨_, (EReal.coe_toReal ht.ne hb).symm⟩

end Cert.Spec
-- ==== Proof.Ref.Value.lean ====
module

public import proofs.«01_k».proof.Proof.Ref.Run
public import proofs.«01_k».proof.Proof.Attn.Spec
public import Idealize.ShloMosaic.Lib.StableHlo.ReadAt
public import Idealize.ShloMosaic.Lib.WordCmp
public import Idealize.ShloMosaic.Lib.Pointwise
public import Idealize.ShloMosaic.Lib.IdealHost

@[expose] public section

set_option maxRecDepth 16384

noncomputable section

namespace Cert.ReferenceIdeal.Attn

open Cert.ReferenceIdeal Cert.ReferenceIdeal.Gen Idealize.ShloMosaic Idealize.ShloMosaic.TcCoe Idealize.SL.Sem Idealize.ShloMosaic.StableHlo Idealize.ShloMosaic.Tactic
open Cert.Spec (Args col coe_sum)

/-! # What the reference computes, over the extended reals, on finite arguments -/

theorem eighth : Ideal.ofBits .f32 1040187392#32 = ((1 / 8 : ℝ) : EReal) := by
  simp [Ideal.ofBits, Ideal.ieee, -EReal.coe_mul]; norm_num

theorem negInf : Ideal.ofBits .f32 4286578688#32 = ⊥ := by
  simp [Ideal.ofBits, Ideal.ieee]

/-- The arguments hold the real numbers of `A`. -/
structure Holds (A : Args) (V : Valuation τ sig (Elt Ideal)) : Prop where
  q : ∀ i y, (show FVec Ideal S8208x1024 .f32 from V (Proc.devRef .tc main_arg0)) (ix2 i y) = (A.q i y : EReal)
  k : ∀ i y, (show FVec Ideal S8208x1024 .f32 from V (Proc.devRef .tc main_arg1)) (ix2 i y) = (A.k i y : EReal)
  v : ∀ i y, (show FVec Ideal S8208x1024 .f32 from V (Proc.devRef .tc main_arg2)) (ix2 i y) = (A.v i y : EReal)
  c : ∀ i h, (show FVec Ideal S8208x16 .f32 from V (Proc.devRef .tc main_arg3)) (ix2 i h) = (A.c i h : EReal)
  w : ∀ i y, (show FVec Ideal S8208x1024 .f32 from V (Proc.devRef .tc main_arg4)) (ix2 i y) = (A.w i y : EReal)

section Stages
variable (V : Valuation τ sig (Elt Ideal))

/-! ## Each stretch of operations, from the contents before it -/

theorem scores_at (A : Args) (hV : Holds A V) (h : Fin 16) (i j : Fin 8208) :
    (show FVec Ideal S16x8208x8208 .f32 from after opsScores V (Proc.devRef .tc main_v18_0)) (ix3 h i j)
      = if j.val ≤ i.val then (Spec.s A h i j : EReal) else ⊥ := by
  have hq := hV.q; have hk := hV.k; have hc := hV.c
  after_reads_at
  word_cmp
  split
  · simp only [show ∀ i y, V (Proc.devRef .tc main_arg0) (ix2 i y) = _ from hq, show ∀ i y, V (Proc.devRef .tc main_arg1) (ix2 i y) = _ from hk,
      show ∀ i y, V (Proc.devRef .tc main_arg3) (ix2 i y) = _ from hc, eighth]
    simp only [← EReal.coe_mul, coe_sum, ← EReal.coe_add, ← EReal.coe_sub]
    rfl
  · exact negInf

theorem mask_at (h : Fin 16) (i j : Fin 8208) :
    (show IVec S16x8208x8208 1 from after opsScores V (Proc.devRef .tc main_v18_1)) (ix3 h i j) = if j.val ≤ i.val then 1#1 else 0#1 := by
  after_reads_at
  word_cmp
  by_cases hj : j.val ≤ i.val <;> simp [hj]

theorem q_at (i : Fin 8208) (h : Fin 16) (d : Fin 64) :
    (show FVec Ideal S8208x16x64 .f32 from after opsScores V (Proc.devRef .tc main_v0)) (ix3 i h d)
      = (show FVec Ideal S8208x1024 .f32 from V (Proc.devRef .tc main_arg0)) (ix2 i (col h d)) := by
  after_reads_at
  rfl

theorem k_at (i : Fin 8208) (h : Fin 16) (d : Fin 64) :
    (show FVec Ideal S8208x16x64 .f32 from after opsScores V (Proc.devRef .tc main_v1)) (ix3 i h d)
      = (show FVec Ideal S8208x1024 .f32 from V (Proc.devRef .tc main_arg1)) (ix2 i (col h d)) := by
  after_reads_at
  rfl

theorem v_at (i : Fin 8208) (h : Fin 16) (d : Fin 64) :
    (show FVec Ideal S8208x16x64 .f32 from after opsSoft V (Proc.devRef .tc main_v47)) (ix3 i h d)
      = (show FVec Ideal S8208x1024 .f32 from V (Proc.devRef .tc main_arg2)) (ix2 i (col h d)) := by
  after_reads_at
  rfl

theorem rowmax_at (x : FVec Ideal S16x8208x8208 .f32) (h : Fin 16) (i : Fin 8208) :
    (Host.reduce FloatOps.maximumf x (constant S_ .f32 0xFF800000#32) reducesTo_S16x8208x8208_S16x8208_d2 h_S_ : FVec Ideal S16x8208 .f32) (ix2 h i)
      = Finset.fold max (Ideal.ofBits FTy.f32 4286578688#32) (fun j => x (ix3 h i j)) Finset.univ := by
  pointwise

theorem maximumf_at {S : Shape} (a b : FVec Ideal S .f32) (y : S.Idx) : maximumf a b y = max (a y) (b y) := rfl

theorem top_at (x : FVec Ideal S16x8208x8208 .f32) (h : Fin 16) (i : Fin 8208) :
    (maximumf (broadcastInDim S16x8208 ![] bcast_S_S16x8208 (constant S_ .f32 0xFF800000#32 : FVec Ideal S_ .f32))
        (Host.reduce FloatOps.maximumf x (constant S_ .f32 0xFF800000#32) reducesTo_S16x8208x8208_S16x8208_d2 h_S_ : FVec Ideal S16x8208 .f32)) (ix2 h i)
      = max (Ideal.ofBits FTy.f32 4286578688#32) (Finset.fold max (Ideal.ofBits FTy.f32 4286578688#32) (fun j => x (ix3 h i j)) Finset.univ) := by
  rw [maximumf_at, rowmax_at]
  refine congrArg (fun t => max t _) ?_
  pointwise

theorem top_eq : after opsTop V (Proc.devRef .tc main_v26)
    = (maximumf (broadcastInDim S16x8208 ![] bcast_S_S16x8208 (constant S_ .f32 0xFF800000#32 : FVec Ideal S_ .f32))
        (Host.reduce FloatOps.maximumf (V (Proc.devRef .tc main_v18_0)) (constant S_ .f32 0xFF800000#32) reducesTo_S16x8208x8208_S16x8208_d2 h_S_ : FVec Ideal S16x8208 .f32)) := by
  after_reads_simp

theorem max_real (A : Args) (x : FVec Ideal S16x8208x8208 .f32)
    (hs : ∀ (h : Fin 16) (i j : Fin 8208), x (ix3 h i j) = if j.val ≤ i.val then (Spec.s A h i j : EReal) else ⊥) (h : Fin 16) (i : Fin 8208) :
    ∃ M : ℝ, max (Ideal.ofBits FTy.f32 4286578688#32) (Finset.fold max (Ideal.ofBits FTy.f32 4286578688#32) (fun j => x (ix3 h i j)) Finset.univ) = (M : EReal) := by
  obtain ⟨M, hM⟩ := Spec.fold_max_real (fun j => x (ix3 h i j))
    (fun j => by rw [hs]; split; exact EReal.coe_ne_top _; exact bot_ne_top) i (by rw [hs, if_pos le_rfl]; exact EReal.coe_ne_bot _)
  exact ⟨M, by rw [negInf, hM, max_eq_right bot_le]⟩

/-- The row maximum is real. -/
theorem top_real (A : Args) (hs : ∀ (h : Fin 16) (i j : Fin 8208),
      (show FVec Ideal S16x8208x8208 .f32 from V (Proc.devRef .tc main_v18_0)) (ix3 h i j) = if j.val ≤ i.val then (Spec.s A h i j : EReal) else ⊥)
    (h : Fin 16) (i : Fin 8208) :
    ∃ M : ℝ, (show FVec Ideal S16x8208 .f32 from after opsTop V (Proc.devRef .tc main_v26)) (ix2 h i) = (M : EReal) := by
  obtain ⟨M, hM⟩ := max_real A _ hs h i
  exact ⟨M, (congrFun (top_eq V) (ix2 h i)).trans ((top_at _ h i).trans hM)⟩

/-- The scores, and a real shift of each row. -/
def HasScores (A : Args) (V : Valuation τ sig (Elt Ideal)) : Prop := ∀ (h : Fin 16) (i j : Fin 8208),
  (show FVec Ideal S16x8208x8208 .f32 from V (Proc.devRef .tc main_v18_0)) (ix3 h i j) = if j.val ≤ i.val then (Spec.s A h i j : EReal) else ⊥
def HasShift (M : Fin 16 → Fin 8208 → ℝ) (V : Valuation τ sig (Elt Ideal)) : Prop := ∀ (h : Fin 16) (i : Fin 8208),
  (show FVec Ideal S16x8208 .f32 from V (Proc.devRef .tc main_v26)) (ix2 h i) = (M h i : EReal)

theorem exp_shift (A : Args) (h : Fin 16) (i j : Fin 8208) (M : ℝ) :
    Ideal.exp ((if j.val ≤ i.val then (Spec.s A h i j : EReal) else ⊥) - (M : EReal)) = (Spec.e A h i j M : EReal) := by
  unfold Spec.e
  split
  · rw [← EReal.coe_sub, Ideal.exp_coe]
  · rw [EReal.bot_sub, Ideal.exp_bot, EReal.coe_zero]

theorem div_real (a b : ℝ) (hb : b ≠ 0) : Ideal.div (a : EReal) (b : EReal) = ((a / b : ℝ) : EReal) := by
  rw [Ideal.div_coe hb, ← EReal.coe_mul, mul_one_div]

variable (A : Args) (M : Fin 16 → Fin 8208 → ℝ)

theorem e_at (hs : HasScores A V) (hM : HasShift M V) (h : Fin 16) (i j : Fin 8208) :
    (show FVec Ideal S16x8208x8208 .f32 from after opsSoft V (Proc.devRef .tc main_v39)) (ix3 h i j) = (Spec.e A h i j (M h i) : EReal) := by
  after_reads_at
  exact (congrArg Ideal.exp (congrArg₂ (· - ·) (hs h i j) (hM h i))).trans (exp_shift A h i j _)

theorem sum_e (hs : HasScores A V) (hM : HasShift M V) (h : Fin 16) (i : Fin 8208) :
    ∑ x : Fin 8208, Ideal.exp ((show FVec Ideal S16x8208x8208 .f32 from V (Proc.devRef .tc main_v18_0)) (ix3 h i x) - (show FVec Ideal S16x8208 .f32 from V (Proc.devRef .tc main_v26)) (ix2 h i))
      = (Spec.T A h i (M h i) : EReal) := by
  rw [Spec.T, ← coe_sum]
  exact Finset.sum_congr rfl fun x _ => (congrArg Ideal.exp (congrArg₂ (· - ·) (hs h i x) (hM h i))).trans (exp_shift A h i x _)

theorem T_at (hs : HasScores A V) (hM : HasShift M V) (h : Fin 16) (i : Fin 8208) :
    (show FVec Ideal S16x8208x1 .f32 from after opsSoft V (Proc.devRef .tc main_v41)) (ix3 h i 0) = (Spec.T A h i (M h i) : EReal) := by
  after_reads_at
  exact sum_e V A M hs hM h i

theorem p_at (hs : HasScores A V) (hM : HasShift M V) (h : Fin 16) (i j : Fin 8208) :
    (show FVec Ideal S16x8208x8208 .f32 from after opsSoft V (Proc.devRef .tc main_v43)) (ix3 h i j) = (Spec.p A h i j : EReal) := by
  after_reads_at
  refine (congrArg₂ Ideal.div ((congrArg Ideal.exp (congrArg₂ (· - ·) (hs h i j) (hM h i))).trans (exp_shift A h i j _)) (sum_e V A M hs hM h i)).trans ?_
  rw [div_real _ _ (Spec.T_pos A h i _).ne', Spec.e_div_T]

theorem sq_at (hs : HasScores A V) (hM : HasShift M V) (h : Fin 16) (i : Fin 8208) :
    (show FVec Ideal S16x8208x1 .f32 from after opsSoft V (Proc.devRef .tc main_v46)) (ix3 h i 0)
      = ((1 / (Spec.T A h i (M h i) * Spec.T A h i (M h i)) : ℝ) : EReal) := by
  after_reads_at
  refine (congrArg₂ Ideal.div (EReal.coe_one).symm (congrArg₂ (· * ·) (sum_e V A M hs hM h i) (sum_e V A M hs hM h i))).trans ?_
  rw [← EReal.coe_mul, div_real _ _ (mul_pos (Spec.T_pos A h i _) (Spec.T_pos A h i _)).ne']

/-- What the gradient's operations read. -/
structure HasSoft (V : Valuation τ sig (Elt Ideal)) : Prop where
  w : ∀ i y, (show FVec Ideal S8208x1024 .f32 from V (Proc.devRef .tc main_arg4)) (ix2 i y) = (A.w i y : EReal)
  v : ∀ i h d, (show FVec Ideal S8208x16x64 .f32 from V (Proc.devRef .tc main_v47)) (ix3 i h d) = (A.v i (col h d) : EReal)
  e : ∀ h i j, (show FVec Ideal S16x8208x8208 .f32 from V (Proc.devRef .tc main_v39)) (ix3 h i j) = (Spec.e A h i j (M h i) : EReal)
  T : ∀ h i, (show FVec Ideal S16x8208x1 .f32 from V (Proc.devRef .tc main_v41)) (ix3 h i 0) = (Spec.T A h i (M h i) : EReal)
  p : ∀ h i j, (show FVec Ideal S16x8208x8208 .f32 from V (Proc.devRef .tc main_v43)) (ix3 h i j) = (Spec.p A h i j : EReal)
  sq : ∀ h i, (show FVec Ideal S16x8208x1 .f32 from V (Proc.devRef .tc main_v46)) (ix3 h i 0)
      = ((1 / (Spec.T A h i (M h i) * Spec.T A h i (M h i)) : ℝ) : EReal)

theorem dv_at (hV : HasSoft A M V) (j : Fin 8208) (y : Fin 1024) :
    (show FVec Ideal S8208x1024 .f32 from after opsGrad V (Proc.devRef .tc main_v56)) (ix2 j y) = (Spec.dv A (Spec.hd y) j (Spec.ld y) : EReal) := by
  after_reads_at
  refine Eq.trans (Finset.sum_congr rfl fun x _ => ?_) (coe_sum _ fun x => A.w x (col (Spec.hd y) (Spec.ld y)) * Spec.p A (Spec.hd y) x j)
  exact (congrArg₂ (· * ·) (hV.w x _) (hV.p _ x j)).trans (EReal.coe_mul _ _).symm

theorem dp_at (hV : HasSoft A M V) (h : Fin 16) (i j : Fin 8208) :
    ∑ x : Fin 64, (show FVec Ideal S8208x1024 .f32 from V (Proc.devRef .tc main_arg4)) (ix2 i (col h x)) * (show FVec Ideal S8208x16x64 .f32 from V (Proc.devRef .tc main_v47)) (ix3 j h x)
      = (Spec.dp A h i j : EReal) := by
  rw [Spec.dp, ← coe_sum]
  refine Finset.sum_congr rfl fun x _ => ?_
  rw [EReal.coe_mul]
  exact congrArg₂ (· * ·) (hV.w i _) (hV.v j h x)

theorem raw_at (hV : HasSoft A M V) (h : Fin 16) (i j : Fin 8208) :
    (show FVec Ideal S16x8208x8208 .f32 from after opsGrad V (Proc.devRef .tc main_v68)) (ix3 h i j)
      = (((Spec.dp A h i j / Spec.T A h i (M h i) + -∑ k : Fin 8208, Spec.dp A h i k * (1 / (Spec.T A h i (M h i) * Spec.T A h i (M h i))) * Spec.e A h i k (M h i)) * Spec.e A h i j (M h i) : ℝ) : EReal) := by
  after_reads_at
  rw [EReal.coe_mul, EReal.coe_add, EReal.coe_neg, ← coe_sum, ← div_real _ _ (Spec.T_pos A h i _).ne']
  refine congrArg₂ (· * ·) (congrArg₂ (· + ·) (congrArg₂ Ideal.div (dp_at V A M hV h i j) (hV.T h i)) ?_) (hV.e h i j)
  rw [Fin.sum_univ_one]
  refine congrArg Neg.neg (Finset.sum_congr rfl fun k _ => ?_)
  rw [EReal.coe_mul, EReal.coe_mul]
  exact congrArg₂ (· * ·) (congrArg₂ (· * ·) (dp_at V A M hV h i k) (hV.sq h i)) (hV.e h i k)

/-- The gradient of the score, masked. -/
theorem ds_at (h : Fin 16) (i j : Fin 8208)
    (hm : (show IVec S16x8208x8208 1 from V (Proc.devRef .tc main_v18_1)) (ix3 h i j) = if j.val ≤ i.val then 1#1 else 0#1)
    (hr : (show FVec Ideal S16x8208x8208 .f32 from V (Proc.devRef .tc main_v68)) (ix3 h i j)
      = (((Spec.dp A h i j / Spec.T A h i (M h i) + -∑ k : Fin 8208, Spec.dp A h i k * (1 / (Spec.T A h i (M h i) * Spec.T A h i (M h i))) * Spec.e A h i k (M h i)) * Spec.e A h i j (M h i) : ℝ) : EReal)) :
    (show FVec Ideal S16x8208x8208 .f32 from after opsMask V (Proc.devRef .tc main_v69)) (ix3 h i j) = (Spec.ds A h i j : EReal) := by
  after_reads_at
  refine (congrArg₂ (fun b t => Scalar.select b t (0 : EReal)) hm hr).trans ?_
  by_cases hj : j.val ≤ i.val
  · rw [if_pos hj, Spec.ds_quotient A h i j _ hj]; rfl
  · rw [if_neg hj, Spec.ds_late A h i j hj]; rfl

theorem dq_at (hd : ∀ h i j, (show FVec Ideal S16x8208x8208 .f32 from V (Proc.devRef .tc main_v69)) (ix3 h i j) = (Spec.ds A h i j : EReal))
    (hk : ∀ i h d, (show FVec Ideal S8208x16x64 .f32 from V (Proc.devRef .tc main_v1)) (ix3 i h d) = (A.k i (col h d) : EReal))
    (i : Fin 8208) (y : Fin 1024) :
    (show FVec Ideal S8208x1024 .f32 from after opsOut V (Proc.devRef .tc main_v86)) (ix2 i y) = (Spec.dq A (Spec.hd y) i (Spec.ld y) : EReal) := by
  after_reads_at
  rw [Spec.dq, ← coe_sum]
  refine Finset.sum_congr rfl fun x _ => ?_
  rw [EReal.coe_mul, EReal.coe_mul]
  exact congrArg₂ (· * ·) (congrArg₂ (· * ·) (hd _ i x) eighth) (hk x _ _)

theorem dk_at (hd : ∀ h i j, (show FVec Ideal S16x8208x8208 .f32 from V (Proc.devRef .tc main_v69)) (ix3 h i j) = (Spec.ds A h i j : EReal))
    (hq : ∀ i h d, (show FVec Ideal S8208x16x64 .f32 from V (Proc.devRef .tc main_v0)) (ix3 i h d) = (A.q i (col h d) : EReal))
    (j : Fin 8208) (y : Fin 1024) :
    (show FVec Ideal S8208x1024 .f32 from after opsOut V (Proc.devRef .tc main_v85)) (ix2 j y) = (Spec.dk A (Spec.hd y) j (Spec.ld y) : EReal) := by
  after_reads_at
  rw [Spec.dk, ← coe_sum]
  refine Finset.sum_congr rfl fun x _ => ?_
  rw [EReal.coe_mul, EReal.coe_mul]
  exact congrArg₂ (· * ·) (congrArg₂ (· * ·) (hd _ x j) eighth) (hq x _ _)

theorem dc_at (hd : ∀ h i j, (show FVec Ideal S16x8208x8208 .f32 from V (Proc.devRef .tc main_v69)) (ix3 h i j) = (Spec.ds A h i j : EReal))
    (i : Fin 8208) (h : Fin 16) :
    (show FVec Ideal S8208x16 .f32 from after opsOut V (Proc.devRef .tc main_v78)) (ix2 i h) = (Spec.dc A h i : EReal) := by
  after_reads_at
  rw [Spec.dc, EReal.coe_add, ← coe_sum, ← coe_sum, Fin.sum_univ_one, Fin.sum_univ_one]
  refine congrArg₂ (· + ·) (Finset.sum_congr rfl fun x _ => ?_) (Finset.sum_congr rfl fun x _ => hd h i x)
  rw [EReal.coe_neg]
  exact congrArg Neg.neg (hd h x i)

end Stages

/-! ## The run's four results -/

variable (m : (ℓ : Loc nD τ sig) → Buf (Elt Ideal) ℓ) (c : Dev nD) (A : Args)

/-- On finite arguments the scores, the shift and the softmax's arrays are what their names say. -/
theorem soft (hA : Holds A (σ0 m c)) : ∃ M, HasSoft A M (σ3 m c) ∧ (∀ h i j, (show IVec S16x8208x8208 1 from σ3 m c (Proc.devRef .tc main_v18_1)) (ix3 h i j) = if j.val ≤ i.val then 1#1 else 0#1) := by
  have hs1 : HasScores A (σ1 m c) := scores_at (σ0 m c) A hA
  choose M hM using top_real (σ1 m c) A hs1
  have hs2 : HasScores A (σ2 m c) := fun h i j => by
    show (show FVec Ideal S16x8208x8208 .f32 from σ2 m c (Proc.devRef .tc main_v18_0)) (ix3 h i j) = _
    unfold σ2
    rw [opsDead_keeps (by decide), opsTop_keeps (by decide)]
    exact hs1 h i j
  have hM2 : HasShift M (σ2 m c) := fun h i => by
    unfold σ2
    rw [opsDead_keeps (by decide)]
    exact hM h i
  refine ⟨M, ⟨fun i y => ?_, fun i h d => ?_, e_at _ A M hs2 hM2, T_at _ A M hs2 hM2, p_at _ A M hs2 hM2, sq_at _ A M hs2 hM2⟩, fun h i j => ?_⟩
  · unfold σ3 σ2 σ1
    rw [opsSoft_keeps (by decide), opsDead_keeps (by decide), opsTop_keeps (by decide), opsScores_keeps (by decide)]
    exact hA.w i y
  · refine (v_at (σ2 m c) i h d).trans ?_
    unfold σ2 σ1
    rw [opsDead_keeps (by decide), opsTop_keeps (by decide), opsScores_keeps (by decide)]
    exact hA.v i _
  · unfold σ3 σ2
    rw [opsSoft_keeps (by decide), opsDead_keeps (by decide), opsTop_keeps (by decide)]
    exact mask_at (σ0 m c) h i j

theorem v69 (hA : Holds A (σ0 m c)) (h : Fin 16) (i j : Fin 8208) :
    (show FVec Ideal S16x8208x8208 .f32 from σ4 m c (Proc.devRef .tc main_v69)) (ix3 h i j) = (Spec.ds A h i j : EReal) := by
  obtain ⟨M, hS, hm⟩ := soft m c A hA
  refine ds_at (after opsGrad (σ3 m c)) A M h i j ?_ (raw_at (σ3 m c) A M hS h i j)
  rw [opsGrad_keeps (by decide)]
  exact hm h i j

theorem res_dv (hA : Holds A (σ0 m c)) (j : Fin 8208) (y : Fin 1024) :
    (show FVec Ideal S8208x1024 .f32 from σ5 m c (Proc.devRef .tc main_v56)) (ix2 j y) = (Spec.dv A (Spec.hd y) j (Spec.ld y) : EReal) := by
  obtain ⟨M, hS, hm⟩ := soft m c A hA
  unfold σ5 σ4
  rw [opsOut_keeps (by decide), opsMask_keeps (by decide)]
  exact dv_at (σ3 m c) A M hS j y

theorem res_dq (hA : Holds A (σ0 m c)) (i : Fin 8208) (y : Fin 1024) :
    (show FVec Ideal S8208x1024 .f32 from σ5 m c (Proc.devRef .tc main_v86)) (ix2 i y) = (Spec.dq A (Spec.hd y) i (Spec.ld y) : EReal) := by
  refine dq_at (σ4 m c) A (v69 m c A hA) (fun i h d => ?_) i y
  unfold σ4 σ3 σ2
  rw [opsMask_keeps (by decide), opsGrad_keeps (by decide), opsSoft_keeps (by decide), opsDead_keeps (by decide), opsTop_keeps (by decide)]
  exact (k_at (σ0 m c) i h d).trans (hA.k i _)

theorem res_dk (hA : Holds A (σ0 m c)) (j : Fin 8208) (y : Fin 1024) :
    (show FVec Ideal S8208x1024 .f32 from σ5 m c (Proc.devRef .tc main_v85)) (ix2 j y) = (Spec.dk A (Spec.hd y) j (Spec.ld y) : EReal) := by
  refine dk_at (σ4 m c) A (v69 m c A hA) (fun i h d => ?_) j y
  unfold σ4 σ3 σ2
  rw [opsMask_keeps (by decide), opsGrad_keeps (by decide), opsSoft_keeps (by decide), opsDead_keeps (by decide), opsTop_keeps (by decide)]
  exact (q_at (σ0 m c) i h d).trans (hA.q i _)

theorem res_dc (hA : Holds A (σ0 m c)) (i : Fin 8208) (h : Fin 16) :
    (show FVec Ideal S8208x16 .f32 from σ5 m c (Proc.devRef .tc main_v78)) (ix2 i h) = (Spec.dc A h i : EReal) :=
  dc_at (σ4 m c) A (v69 m c A hA) i h

end Cert.ReferenceIdeal.Attn
-- ==== Proof.Attn.Tile.lean ====
module

public import proofs.«01_k».proof.Proof.Attn.Walk
public import Idealize.ShloMosaic.PureOps.IdealRules
public import Idealize.ShloMosaic.Lib.WordCmp

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

/-! # What one grid point of the attention gradient computes, over the extended reals

A point holds 640 keys (blocks `k` and `v`, 128 lanes) and one head's 8320 queries (`Q` and `D`, 128 lanes).
-/

/-- The scores' exponentials of a block, off the diagonal: key row `r`, query row `c`. -/
theorem pay3_at (k q : FVec Ideal S640x128 .bf16) (r c : Fin 640) :
    k0_pay3 (F := Ideal) k q (ix2 r c) = Ideal.exp (∑ l : Fin 128, k (ix2 r l) * q (ix2 c l)) := by
  pointwise [k0_pay3, k0_pay1]

/-- The blocks of keys are read as they are. -/
theorem pay15_eq (k : FVec Ideal S640x128 .bf16) : k0_pay15 (F := Ideal) k = k := by
  funext y
  idx_vars y
  pointwise [k0_pay15]

theorem pay16_eq (k : FVec Ideal S640x128 .bf16) : k0_pay16 (F := Ideal) k = k := by
  funext y
  idx_vars y
  pointwise [k0_pay16]

/-- The mask's constant stands for −∞. -/
theorem mask_eq : Named.named (F := Ideal) (φ := .f32) κ "mask" 0xF149F2CA#32 = (⊥ : EReal) :=
  (IdealRules.named_const.statement KernelIdeal.κ "mask" .f32 0xF149F2CA#32 ⊥ rfl).2.2

/-- The diagonal block masks the queries before the key. -/
theorem pay20_at (k q : FVec Ideal S640x128 .bf16) (r c : Fin 640) :
    k0_pay20 (F := Ideal) k q (ix2 r c) = if r ≤ c then Ideal.exp (∑ l : Fin 128, k (ix2 r l) * q (ix2 c l)) else 0 := by
  pointwise [k0_pay20, k0_pay18, pay15_eq, mask_eq]
  word_cmp
  rw [apply_ite Ideal.exp, Ideal.exp_bot]
  rfl
/-- The gradient of the scores, off the diagonal, -/
theorem pay4_at (k v q d : FVec Ideal S640x128 .bf16) (r c : Fin 640) :
    k0_pay4 (F := Ideal) k v q d (ix2 r c) = k0_pay3 (F := Ideal) k q (ix2 r c) * (∑ l : Fin 128, v (ix2 r l) * d (ix2 c l)) := by
  pointwise [k0_pay4, k0_pay2]
/-- and on the diagonal. -/
theorem pay21_at (k v q d : FVec Ideal S640x128 .bf16) (r c : Fin 640) :
    k0_pay21 (F := Ideal) k v q d (ix2 r c) = k0_pay20 (F := Ideal) k q (ix2 r c) * (∑ l : Fin 128, v (ix2 r l) * d (ix2 c l)) := by
  pointwise [k0_pay21, k0_pay19, k0_pay16]
/-- The accumulator of the gradient of v, -/
theorem pay5_at (k a q d) (r : Fin 640) (l : Fin 128) :
    k0_pay5 (F := Ideal) k a q d (ix2 r l) = a (ix2 r l) + ∑ c : Fin 640, k0_pay3 (F := Ideal) k q (ix2 r c) * d (ix2 c l) := by
  pointwise [k0_pay5, k0_pay2]
/-- of k, -/
theorem pay6_at (k v a q d) (r : Fin 640) (l : Fin 128) :
    k0_pay6 (F := Ideal) k v a q d (ix2 r l) = a (ix2 r l) + ∑ c : Fin 640, k0_pay4 (F := Ideal) k v q d (ix2 r c) * q (ix2 c l) := by
  pointwise [k0_pay6, k0_pay1]
/-- and of q. -/
theorem pay7_at (k v q d a) (c : Fin 640) (l : Fin 128) :
    k0_pay7 (F := Ideal) k v q d a (ix2 c l) = a (ix2 c l) + ∑ r : Fin 640, k0_pay4 (F := Ideal) k v q d (ix2 r c) * k (ix2 r l) := by
  pointwise [k0_pay7]
/-- The same three from the diagonal block: v, -/
theorem pay22_at (k q d) (r : Fin 640) (l : Fin 128) :
    k0_pay22 (F := Ideal) k q d (ix2 r l) = ∑ c : Fin 640, k0_pay20 (F := Ideal) k q (ix2 r c) * d (ix2 c l) := by
  pointwise [k0_pay22, k0_pay19]
/-- k, -/
theorem pay23_at (k v q d) (r : Fin 640) (l : Fin 128) :
    k0_pay23 (F := Ideal) k v q d (ix2 r l) = ∑ c : Fin 640, k0_pay21 (F := Ideal) k v q d (ix2 r c) * q (ix2 c l) := by
  pointwise [k0_pay23, k0_pay18]
/-- and q. -/
theorem pay24_at (k v q d a) (c : Fin 640) (l : Fin 128) :
    k0_pay24 (F := Ideal) k v q d a (ix2 c l) = a (ix2 c l) + ∑ r : Fin 640, k0_pay21 (F := Ideal) k v q d (ix2 r c) * k (ix2 r l) := by
  pointwise [k0_pay24, k0_pay15]

/-! ## The closed forms -/

/-- Row `c` of the row block `b`, as a row of the whole. -/
def rowOf (b : ℕ) (c : Fin 640) : Fin 8320 := ⟨(640 * b + c.val) % 8320, Nat.mod_lt _ (by decide)⟩

/-- The exponential of the score of key row `r` of block `j` with query `i`, zero for a query before the key. -/
def pr (Q : FVec Ideal S8320x128 .bf16) (k : FVec Ideal S640x128 .bf16) (j : ℕ) (r : Fin 640) (i : Fin 8320) : EReal :=
  if 640 * j + r.val ≤ i.val then Ideal.exp (∑ l : Fin 128, k (ix2 r l) * Q (ix2 i l)) else 0

/-- The gradient of that score. -/
def gr (Q D : FVec Ideal S8320x128 .bf16) (k v : FVec Ideal S640x128 .bf16) (j : ℕ) (r : Fin 640) (i : Fin 8320) : EReal :=
  pr Q k j r i * ∑ l : Fin 128, v (ix2 r l) * D (ix2 i l)

theorem rowsAt_at {α : Type} (X : S8320x128.Idx → α) (b : ℕ) (c : Fin 640) (l : Fin 128) : rowsAt X b (ix2 c l) = X (ix2 (rowOf b c) l) := rfl

theorem putRows_at {α : Type} (X : S8320x128.Idx → α) (b : ℕ) (w : S640x128.Idx → α) (i : Fin 8320) (l : Fin 128) :
    putRows X b w (ix2 i l) = if i.val / 640 = b then w (ix2 ⟨i.val % 640, Nat.mod_lt _ (by decide)⟩ l) else X (ix2 i l) := by
  unfold putRows VecWindow.put
  by_cases h : i.val / 640 = b
  · rw [if_pos h, dif_pos]
    · refine congrArg w ?_
      funext x
      refine Fin.ext ?_
      match x with
      | 0 =>
        show i.val - 640 * b = i.val % 640
        omega
      | 1 =>
        show l.val - 0 = l.val
        omega
    · intro x
      match x with
      | 0 =>
        show 640 * b ≤ i.val ∧ i.val < 640 * b + 640
        omega
      | 1 =>
        show 0 ≤ l.val ∧ l.val < 0 + 128
        omega
  · rw [if_neg h, dif_neg]
    intro hall
    have h0 : 640 * b ≤ i.val ∧ i.val < 640 * b + 640 := hall 0
    omega

variable (Q D : FVec Ideal S8320x128 .bf16) (k v : FVec Ideal S640x128 .bf16)

theorem rowOf_val {b : ℕ} (hb : b < 13) (c : Fin 640) : (rowOf b c).val = 640 * b + c.val := by
  unfold rowOf
  show (640 * b + c.val) % 8320 = _
  omega

/-- Off the diagonal nothing is masked. -/
theorem pay3_pr {j b : ℕ} (hj : j < b) (hb : b < 13) (r c : Fin 640) :
    k0_pay3 (F := Ideal) k (rowsAt Q b) (ix2 r c) = pr Q k j r (rowOf b c) := by
  rw [pay3_at, pr, if_pos (by rw [rowOf_val hb]; omega)]
  rfl

theorem pay4_gr {j b : ℕ} (hj : j < b) (hb : b < 13) (r c : Fin 640) :
    k0_pay4 (F := Ideal) k v (rowsAt Q b) (rowsAt D b) (ix2 r c) = gr Q D k v j r (rowOf b c) := by
  rw [pay4_at, pay3_pr Q k hj hb]
  rfl

theorem pay20_pr {j : ℕ} (hj : j < 13) (r c : Fin 640) :
    k0_pay20 (F := Ideal) k (rowsAt Q j) (ix2 r c) = pr Q k j r (rowOf j c) := by
  rw [pay20_at, pr]
  refine if_congr ?_ rfl rfl
  rw [rowOf_val hj, Fin.le_def]
  omega

theorem pay21_gr {j : ℕ} (hj : j < 13) (r c : Fin 640) :
    k0_pay21 (F := Ideal) k v (rowsAt Q j) (rowsAt D j) (ix2 r c) = gr Q D k v j r (rowOf j c) := by
  rw [pay21_at, pay20_pr Q k hj]
  rfl

theorem rowOf_div (i : Fin 8320) : rowOf (i.val / 640) ⟨i.val % 640, Nat.mod_lt _ (by decide)⟩ = i := by
  refine Fin.ext ?_
  show (640 * (i.val / 640) + i.val % 640) % 8320 = i.val
  omega

/-- After the diagonal block and `n` further ones: the partial sums. -/
theorem trips_at {j : ℕ} (z : FVec Ideal S8320x128 .f32) (n : ℕ) (hn : j + n < 13) :
    (∀ (r : Fin 640) (l : Fin 128), (trips (F := Ideal) k v Q D (j + 1) (diag k v Q D j z) n).1.1 (ix2 r l)
        = ∑ b ∈ Finset.range (n + 1), ∑ c : Fin 640, gr Q D k v j r (rowOf (j + b) c) * Q (ix2 (rowOf (j + b) c) l))
      ∧ (∀ (r : Fin 640) (l : Fin 128), (trips (F := Ideal) k v Q D (j + 1) (diag k v Q D j z) n).1.2 (ix2 r l)
        = ∑ b ∈ Finset.range (n + 1), ∑ c : Fin 640, pr Q k j r (rowOf (j + b) c) * D (ix2 (rowOf (j + b) c) l))
      ∧ (∀ (i : Fin 8320) (l : Fin 128), (trips (F := Ideal) k v Q D (j + 1) (diag k v Q D j z) n).2 (ix2 i l)
        = if j ≤ i.val / 640 ∧ i.val / 640 ≤ j + n then (z (ix2 i l) + ∑ r : Fin 640, gr Q D k v j r i * k (ix2 r l) : EReal) else z (ix2 i l)) := by
  induction n with
  | zero =>
    have hj : j < 13 := hn
    refine ⟨fun r l => ?_, fun r l => ?_, fun i l => ?_⟩
    · show k0_pay23 (F := Ideal) k v (rowsAt Q j) (rowsAt D j) (ix2 r l) = _
      rw [pay23_at, Finset.sum_range_one]
      refine Finset.sum_congr rfl fun c _ => ?_
      rw [pay21_gr Q D k v hj]
      rfl
    · show k0_pay22 (F := Ideal) k (rowsAt Q j) (rowsAt D j) (ix2 r l) = _
      rw [pay22_at, Finset.sum_range_one]
      refine Finset.sum_congr rfl fun c _ => ?_
      rw [pay20_pr Q k hj]
      rfl
    · show putRows z j (k0_pay24 (F := Ideal) k v (rowsAt Q j) (rowsAt D j) (rowsAt z j)) (ix2 i l) = _
      rw [putRows_at]
      by_cases h : i.val / 640 = j
      · rw [if_pos h, if_pos (by omega), pay24_at, rowsAt_at]
        subst h
        rw [rowOf_div]
        refine congrArg _ (Finset.sum_congr rfl fun r _ => ?_)
        rw [pay21_gr Q D k v hj, rowOf_div]
      · rw [if_neg h, if_neg (by omega)]
  | succ n ih =>
    obtain ⟨ih1, ih2, ih3⟩ := ih (by omega)
    have hb : j + 1 + n < 13 := by omega
    have e : j + (n + 1) = j + 1 + n := by omega
    refine ⟨fun r l => ?_, fun r l => ?_, fun i l => ?_⟩
    · rw [Finset.sum_range_succ, ← ih1 r l, e]
      show k0_pay6 (F := Ideal) k v _ (rowsAt Q (j + 1 + n)) (rowsAt D (j + 1 + n)) (ix2 r l) = _
      rw [pay6_at]
      refine congrArg _ (Finset.sum_congr rfl fun c _ => ?_)
      rw [pay4_gr Q D k v (j := j) (by omega) hb]
      rfl
    · rw [Finset.sum_range_succ, ← ih2 r l, e]
      show k0_pay5 (F := Ideal) k _ (rowsAt Q (j + 1 + n)) (rowsAt D (j + 1 + n)) (ix2 r l) = _
      rw [pay5_at]
      refine congrArg _ (Finset.sum_congr rfl fun c _ => ?_)
      rw [pay3_pr Q k (j := j) (by omega) hb]
      rfl
    · rw [e]
      show putRows (trips (F := Ideal) k v Q D (j + 1) (diag k v Q D j z) n).2 (j + 1 + n) (k0_pay7 (F := Ideal) k v (rowsAt Q (j + 1 + n)) (rowsAt D (j + 1 + n)) (rowsAt (trips (F := Ideal) k v Q D (j + 1) (diag k v Q D j z) n).2 (j + 1 + n))) (ix2 i l) = _
      rw [putRows_at]
      by_cases h : i.val / 640 = j + 1 + n
      · rw [if_pos h, if_pos (by omega), pay7_at, rowsAt_at, ← h, rowOf_div, ih3, if_neg (by omega)]
        refine congrArg _ (Finset.sum_congr rfl fun r _ => ?_)
        rw [pay4_gr Q D k v (j := j) (by omega) (by omega), rowOf_div]
      · rw [if_neg h, ih3]
        refine if_congr ?_ rfl rfl
        omega

theorem pr_zero {j : ℕ} {r : Fin 640} {i : Fin 8320} (h : i.val < 640 * j + r.val) : pr Q k j r i = 0 := if_neg (by omega)

theorem gr_zero {j : ℕ} {r : Fin 640} {i : Fin 8320} (h : i.val < 640 * j + r.val) : gr Q D k v j r i = 0 := by
  rw [gr, pr_zero Q k h, zero_mul]

/-- A sum over all queries from one over the blocks after the `j`-th, where the earlier ones give nothing. -/
theorem sum_blocks {j : ℕ} (hj : j < 13) (f : Fin 8320 → EReal) (hf : ∀ i : Fin 8320, i.val < 640 * j → f i = 0) :
    ∑ b ∈ Finset.range (12 - j + 1), ∑ c : Fin 640, f (rowOf (j + b) c) = ∑ i, f i := by
  rw [Fin.sum_univ_tiles 13 640 rfl f, Finset.sum_fin_eq_sum_range]
  have e : 13 = j + (12 - j + 1) := by omega
  have e' : ∀ b ∈ Finset.range 13, (if h : b < 13 then ∑ t : Fin 640, f ⟨(⟨b, h⟩ : Fin 13).val * 640 + t.val, by simp only; omega⟩ else 0) = ∑ c : Fin 640, f (rowOf b c) := by
    intro b hb
    have hb := Finset.mem_range.mp hb
    rw [dif_pos hb]
    refine Finset.sum_congr rfl fun c _ => congrArg f (Fin.ext ?_)
    rw [rowOf_val hb]
    simp only
    omega
  refine Eq.trans ?_ (Finset.sum_congr rfl e').symm
  rw [e, Finset.sum_range_add _ j (12 - j + 1), Finset.sum_eq_zero (s := Finset.range j), zero_add]
  intro b hb
  have hb := Finset.mem_range.mp hb
  refine Finset.sum_eq_zero fun c _ => hf _ ?_
  rw [rowOf_val (by omega)]
  omega

/-- Point `j` leaves as dk the scores' gradients times the queries, -/
theorem point_dk {j : ℕ} (hj : j < 13) (z : FVec Ideal S8320x128 .f32) (r : Fin 640) (l : Fin 128) :
    (point (F := Ideal) Q D k v j z).1.1 (ix2 r l) = ∑ i : Fin 8320, gr Q D k v j r i * Q (ix2 i l) := by
  unfold point
  rw [pay15_eq, pay16_eq, (trips_at Q D k v z (12 - j) (by omega)).1]
  refine sum_blocks hj (fun i => gr Q D k v j r i * Q (ix2 i l)) fun i hi => ?_
  rw [gr_zero Q D k v (by omega), zero_mul]

/-- as dv the exponentials times the output's gradient, -/
theorem point_dv {j : ℕ} (hj : j < 13) (z : FVec Ideal S8320x128 .f32) (r : Fin 640) (l : Fin 128) :
    (point (F := Ideal) Q D k v j z).1.2 (ix2 r l) = ∑ i : Fin 8320, pr Q k j r i * D (ix2 i l) := by
  unfold point
  rw [pay15_eq, pay16_eq, (trips_at Q D k v z (12 - j) (by omega)).2.1]
  refine sum_blocks hj (fun i => pr Q k j r i * D (ix2 i l)) fun i hi => ?_
  rw [pr_zero Q k (by omega), zero_mul]

/-- and adds to dq the scores' gradients times the keys. -/
theorem point_dq {j : ℕ} (hj : j < 13) (z : FVec Ideal S8320x128 .f32) (i : Fin 8320) (l : Fin 128) :
    (point (F := Ideal) Q D k v j z).2 (ix2 i l) = z (ix2 i l) + ∑ r : Fin 640, gr Q D k v j r i * k (ix2 r l) := by
  unfold point
  rw [pay15_eq, pay16_eq, (trips_at Q D k v z (12 - j) (by omega)).2.2]
  by_cases h : j ≤ i.val / 640
  · rw [if_pos (by omega)]
  · rw [if_neg (by omega), Finset.sum_eq_zero, add_zero]
    intro r _
    rw [gr_zero Q D k v (by omega), zero_mul]

end Cert.KernelIdeal.Attn
-- ==== Proof.Attn.Arrays.lean ====
module

public import proofs.«01_k».proof.Proof.Attn.Run
public import proofs.«01_k».proof.Proof.Attn.Tile
public import Idealize.ShloMosaic.Lib.Pipeline.ValueKit

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.ShloMosaic.Pipeline (Dat Cfg Window)

/-! # What the three result arrays of the attention gradient hold, over the extended reals -/

/-- Lane `l` of head `h`. -/
def lane (h : Fin 16) (l : Fin 128) : Fin 2048 := ⟨128 * h.val + l.val, by omega⟩

/-- The head of a lane and the lane in it. -/
def headOf (y : Fin 2048) : Fin 16 := ⟨y.val / 128, by omega⟩
def laneOf (y : Fin 2048) : Fin 128 := ⟨y.val % 128, by omega⟩

theorem lane_head (y : Fin 2048) : lane (headOf y) (laneOf y) = y := Fin.ext (Nat.div_add_mod _ _)

section
variable (Qa Da Ka Va : FVec Ideal S8320x2048 .bf16)

/-- The exponential of the score of key `j` with query `i` in head `h`, zero for a query before the key. -/
def PR (h : Fin 16) (j i : Fin 8320) : EReal :=
  if j.val ≤ i.val then Ideal.exp (∑ l : Fin 128, Ka (ix2 j (lane h l)) * Qa (ix2 i (lane h l))) else 0

/-- The gradient of that score. -/
def GR (h : Fin 16) (j i : Fin 8320) : EReal :=
  PR Qa Ka h j i * ∑ l : Fin 128, Va (ix2 j (lane h l)) * Da (ix2 i (lane h l))

end

variable (m : (ℓ : Loc nD τ sig) → Buf (Elt Ideal) ℓ)

/-- The four operands as the call finds them. -/
abbrev Qa (c : Dev nD) : FVec Ideal S8320x2048 .bf16 := V m c main_v86
abbrev Da (c : Dev nD) : FVec Ideal S8320x2048 .bf16 := V m c main_v119
abbrev Ka (c : Dev nD) : FVec Ideal S8320x2048 .bf16 := V m c main_v103
abbrev Va (c : Dev nD) : FVec Ideal S8320x2048 .bf16 := V m c main_v111

theorem idx0 : ∀ t : Fin cfg0.N, win0_0.index t = ![0, t.val / 13] := (by decide +kernel : ∀ t : Fin grid0.N, _)
theorem idx1 : ∀ t : Fin cfg0.N, win0_1.index t = ![0, t.val / 13] := (by decide +kernel : ∀ t : Fin grid0.N, _)
theorem idx2 : ∀ t : Fin cfg0.N, win0_2.index t = ![t.val % 13, t.val / 13] := (by decide +kernel : ∀ t : Fin grid0.N, _)
theorem idx3 : ∀ t : Fin cfg0.N, win0_3.index t = ![t.val % 13, t.val / 13] := (by decide +kernel : ∀ t : Fin grid0.N, _)
theorem idx4 : ∀ t : Fin cfg0.N, win0_4.index t = ![0, t.val / 13] := (by decide +kernel : ∀ t : Fin grid0.N, _)
theorem idx5 : ∀ t : Fin cfg0.N, win0_5.index t = ![t.val % 13, t.val / 13] := (by decide +kernel : ∀ t : Fin grid0.N, _)
theorem idx6 : ∀ t : Fin cfg0.N, win0_6.index t = ![t.val % 13, t.val / 13] := (by decide +kernel : ∀ t : Fin grid0.N, _)

/-- The head and the row block of a point. -/
def hd (t : Fin cfg0.N) : Fin 16 := ⟨t.val / 13, by have := lt_of_lt_of_eq t.isLt N_0; omega⟩

theorem blk0 (c : Dev nD) (t : Fin cfg0.N) (i : Fin 8320) (l : Fin 128) :
    (show FVec Ideal S8320x128 .bf16 from iblk m c 0 t) (ix2 i l) = Qa m c (ix2 i (lane (hd t) l)) := by
  have := lt_of_lt_of_eq t.isLt N_0
  unfold lane hd
  blk_ext [iblk, idx0 t]
theorem blk1 (c : Dev nD) (t : Fin cfg0.N) (i : Fin 8320) (l : Fin 128) :
    (show FVec Ideal S8320x128 .bf16 from iblk m c 1 t) (ix2 i l) = Da m c (ix2 i (lane (hd t) l)) := by
  have := lt_of_lt_of_eq t.isLt N_0
  unfold lane hd
  blk_ext [iblk, idx1 t]
theorem blk2 (c : Dev nD) (t : Fin cfg0.N) (r : Fin 640) (l : Fin 128) :
    (show FVec Ideal S640x128 .bf16 from iblk m c 2 t) (ix2 r l) = Ka m c (ix2 (rowOf (t.val % 13) r) (lane (hd t) l)) := by
  have := lt_of_lt_of_eq t.isLt N_0
  unfold lane hd rowOf
  blk_ext [iblk, idx2 t]
theorem blk3 (c : Dev nD) (t : Fin cfg0.N) (r : Fin 640) (l : Fin 128) :
    (show FVec Ideal S640x128 .bf16 from iblk m c 3 t) (ix2 r l) = Va m c (ix2 (rowOf (t.val % 13) r) (lane (hd t) l)) := by
  have := lt_of_lt_of_eq t.isLt N_0
  unfold lane hd rowOf
  blk_ext [iblk, idx3 t]

theorem pr_PR (c : Dev nD) (t : Fin cfg0.N) (r : Fin 640) (i : Fin 8320) :
    pr (iblk m c 0 t) (iblk m c 2 t) (t.val % 13) r i = PR (Qa m c) (Ka m c) (hd t) (rowOf (t.val % 13) r) i := by
  unfold pr PR
  rw [rowOf_val (Nat.mod_lt _ (by decide))]
  simp only [blk0, blk2]

theorem gr_GR (c : Dev nD) (t : Fin cfg0.N) (r : Fin 640) (i : Fin 8320) :
    gr (iblk m c 0 t) (iblk m c 1 t) (iblk m c 2 t) (iblk m c 3 t) (t.val % 13) r i
      = GR (Qa m c) (Da m c) (Ka m c) (Va m c) (hd t) (rowOf (t.val % 13) r) i := by
  unfold gr GR
  rw [pr_PR]
  simp only [blk1, blk3]

/-- What a point adds to dq, -/
theorem leaves_dq (c : Dev nD) (t : Fin cfg0.N) (z : FVec Ideal S8320x128 .f32) (i : Fin 8320) (l : Fin 128) :
    (leaves m c t z).2 (ix2 i l) = z (ix2 i l) + ∑ r : Fin 640,
      GR (Qa m c) (Da m c) (Ka m c) (Va m c) (hd t) (rowOf (t.val % 13) r) i * Ka m c (ix2 (rowOf (t.val % 13) r) (lane (hd t) l)) := by
  unfold leaves
  rw [point_dq _ _ _ _ (Nat.mod_lt _ (by decide))]
  refine congrArg _ (Finset.sum_congr rfl fun r _ => ?_)
  rw [gr_GR]
  exact congrArg _ (blk2 m c t r l)

/-- and what it leaves in dk -/
theorem leaves_dk (c : Dev nD) (t : Fin cfg0.N) (z : FVec Ideal S8320x128 .f32) (r : Fin 640) (l : Fin 128) :
    (leaves m c t z).1.1 (ix2 r l) = ∑ i : Fin 8320,
      GR (Qa m c) (Da m c) (Ka m c) (Va m c) (hd t) (rowOf (t.val % 13) r) i * Qa m c (ix2 i (lane (hd t) l)) := by
  unfold leaves
  rw [point_dk _ _ _ _ (Nat.mod_lt _ (by decide))]
  refine Finset.sum_congr rfl fun i _ => ?_
  rw [gr_GR]
  exact congrArg _ (blk0 m c t i l)

/-- and in dv. -/
theorem leaves_dv (c : Dev nD) (t : Fin cfg0.N) (z : FVec Ideal S8320x128 .f32) (r : Fin 640) (l : Fin 128) :
    (leaves m c t z).1.2 (ix2 r l) = ∑ i : Fin 8320,
      PR (Qa m c) (Ka m c) (hd t) (rowOf (t.val % 13) r) i * Da m c (ix2 i (lane (hd t) l)) := by
  unfold leaves
  rw [point_dv _ _ _ _ (Nat.mod_lt _ (by decide))]
  refine Finset.sum_congr rfl fun i _ => ?_
  rw [pr_PR]
  exact congrArg _ (blk1 m c t i l)

/-- The running sum of dq after a point: over the row blocks of keys visited so far. -/
theorem dqAt_at (c : Dev nD) (n : ℕ) (hn : n < cfg0.N) (i : Fin 8320) (l : Fin 128) :
    dqAt m c n hn (ix2 i l) = ∑ b ∈ Finset.range (n % 13 + 1), ∑ r : Fin 640,
      GR (Qa m c) (Da m c) (Ka m c) (Va m c) (hd ⟨n, hn⟩) (rowOf b r) i * Ka m c (ix2 (rowOf b r) (lane (hd ⟨n, hn⟩) l)) := by
  have hz : k0_pay17 (F := Ideal) (ix2 i l) = 0 := by pointwise [k0_pay17]
  induction n with
  | zero =>
    rw [dqAt_first m c ⟨0, hn⟩ rfl, leaves_dq, hz, zero_add, Finset.sum_range_one]
    rfl
  | succ n ih =>
    have ht : n + 1 < 208 := lt_of_lt_of_eq hn N_0
    by_cases h : (n + 1) % 13 = 0
    · rw [dqAt_first m c ⟨n + 1, hn⟩ h, leaves_dq, hz, zero_add, h, Finset.sum_range_one]
    · rw [dqAt_later m c ⟨n + 1, hn⟩ h, leaves_dq]
      have e : (n + 1) % 13 = n % 13 + 1 := by omega
      have eh : hd ⟨n + 1, hn⟩ = hd ⟨n, Nat.lt_of_succ_lt hn⟩ := Fin.ext (by show (n + 1) / 13 = n / 13; omega)
      rw [e, Finset.sum_range_succ, eh]
      exact Ideal.add_congr (ih (Nat.lt_of_succ_lt hn)) rfl

/-- After the last row block it is the sum over all keys. -/
theorem dqAt_last (c : Dev nD) (t : Fin cfg0.N) (h : t.val % 13 = 12) (i : Fin 8320) (l : Fin 128) :
    dqAt m c t.val t.isLt (ix2 i l) = ∑ j : Fin 8320,
      GR (Qa m c) (Da m c) (Ka m c) (Va m c) (hd t) j i * Ka m c (ix2 j (lane (hd t) l)) := by
  rw [dqAt_at, h, ← sum_blocks (j := 0) (by decide) (fun j => GR (Qa m c) (Da m c) (Ka m c) (Va m c) (hd t) j i * Ka m c (ix2 j (lane (hd t) l))) fun i hi => absurd hi (by omega)]
  rw [Nat.sub_zero]
  refine Finset.sum_congr rfl fun b _ => ?_
  rw [Nat.zero_add]

/-- The gradient of the queries. -/
def DQ (c : Dev nD) : FVec Ideal S8320x2048 .f32 := fun y =>
  ∑ j : Fin 8320, GR (Qa m c) (Da m c) (Ka m c) (Va m c) (headOf (y 1)) j (y 0) * Ka m c (ix2 j (y 1))
/-- The gradient of the keys. -/
def DK (c : Dev nD) : FVec Ideal S8320x2048 .f32 := fun y =>
  ∑ i : Fin 8320, GR (Qa m c) (Da m c) (Ka m c) (Va m c) (headOf (y 1)) (y 0) i * Qa m c (ix2 i (y 1))
/-- The gradient of the values. -/
def DV (c : Dev nD) : FVec Ideal S8320x2048 .f32 := fun y =>
  ∑ i : Fin 8320, PR (Qa m c) (Ka m c) (headOf (y 1)) (y 0) i * Da m c (ix2 i (y 1))

theorem headOf_lane (h : Fin 16) (l : Fin 128) : headOf (lane h l) = h := Fin.ext (by show (128 * h.val + l.val) / 128 = h.val; omega)

/-- The arrays' elements under the blocks of a point. -/
theorem emb4 (t : Fin cfg0.N) (i : Fin 8320) (l : Fin 128) : (win0_4.blk t).view.emb (ix2 i l) = (ix2 i (lane (hd t) l) : S8320x2048.Idx) := by
  have := lt_of_lt_of_eq t.isLt N_0
  unfold lane hd
  blk_ext [idx4 t]
theorem emb5 (t : Fin cfg0.N) (r : Fin 640) (l : Fin 128) : (win0_5.blk t).view.emb (ix2 r l) = (ix2 (rowOf (t.val % 13) r) (lane (hd t) l) : S8320x2048.Idx) := by
  have := lt_of_lt_of_eq t.isLt N_0
  unfold lane hd rowOf
  blk_ext [idx5 t]
theorem emb6 (t : Fin cfg0.N) (r : Fin 640) (l : Fin 128) : (win0_6.blk t).view.emb (ix2 r l) = (ix2 (rowOf (t.val % 13) r) (lane (hd t) l) : S8320x2048.Idx) := by
  have := lt_of_lt_of_eq t.isLt N_0
  unfold lane hd rowOf
  blk_ext [idx6 t]

/-- The first result array holds the gradient of the queries, -/
theorem final_dq (c : Dev nD) : (dats m 0 c).arrAt 4 cfg0.N = DQ m c := by
  refine (dats m 0 c).arrAt_eq_of_covers 4 (DQ m c) (by decide +kernel) fun t hf y => ?_
  rw [after4]
  have h12 : t.val % 13 = 12 := (flush0_4 t).mp hf
  blk_simp
  obtain ⟨i, l, rfl⟩ : ∃ (i : Fin 8320) (l : Fin 128), y = ix2 i l := ⟨y 0, y 1, eq_ix2 y⟩
  rw [emb4, dqAt_last m c t h12]
  unfold DQ
  rw [ix2_0, ix2_1, headOf_lane]

/-- the second of the keys, -/
theorem final_dk (c : Dev nD) : (dats m 0 c).arrAt 5 cfg0.N = DK m c := by
  refine (dats m 0 c).arrAt_eq_of_covers 5 (DK m c) (by decide +kernel) fun t hf y => ?_
  rw [after5]
  blk_simp
  obtain ⟨r, l, rfl⟩ : ∃ (r : Fin 640) (l : Fin 128), y = ix2 r l := ⟨y 0, y 1, eq_ix2 y⟩
  rw [emb5, leaves_dk]
  unfold DK
  rw [ix2_0, ix2_1, headOf_lane]

/-- and the third of the values. -/
theorem final_dv (c : Dev nD) : (dats m 0 c).arrAt 6 cfg0.N = DV m c := by
  refine (dats m 0 c).arrAt_eq_of_covers 6 (DV m c) (by decide +kernel) fun t hf y => ?_
  rw [after6]
  blk_simp
  obtain ⟨r, l, rfl⟩ : ∃ (r : Fin 640) (l : Fin 128), y = ix2 r l := ⟨y 0, y 1, eq_ix2 y⟩
  rw [emb6, leaves_dv]
  unfold DV
  rw [ix2_0, ix2_1, headOf_lane]

end Cert.KernelIdeal.Attn
-- ==== Proof.Attn.Lanes.lean ====
module

public import proofs.«01_k».proof.Proof.Attn.Arrays
public import proofs.«01_k».proof.Proof.Attn.Spec
public import Idealize.ShloMosaic.Lib.StableHlo.ReadAt
public import Idealize.ShloMosaic.Lib.Pointwise

@[expose] public section

set_option maxRecDepth 16384

noncomputable section

namespace Cert.KernelIdeal.Attn

open Cert.KernelIdeal Cert.KernelIdeal.Gen Idealize.ShloMosaic Idealize.ShloMosaic.TcCoe Idealize.SL.Sem Idealize.ShloMosaic.StableHlo Idealize.ShloMosaic.Tactic
open Cert.Spec (col coe_sum)

/-! # The kernel's four operands: a head's 64 lanes, a few extra columns, zeros -/

/-- Lanes `0 … 63` hold `f`, the nine after them `e`, the rest zero. -/
def aug (f : Fin 64 → ℝ) (e : Fin 9 → ℝ) (l : Fin 128) : ℝ :=
  if h : l.val < 64 then f ⟨l.val, h⟩ else if h : l.val - 64 < 9 then e ⟨l.val - 64, h⟩ else 0

/-- The inner product of two such rows. -/
theorem sum_aug (f f' : Fin 64 → ℝ) (e e' : Fin 9 → ℝ) :
    ∑ l : Fin 128, aug f e l * aug f' e' l = (∑ d : Fin 64, f d * f' d) + ∑ x : Fin 9, e x * e' x := by
  rw [show (∑ l : Fin 128, aug f e l * aug f' e' l) = (∑ d : Fin 64, aug f e (Fin.castAdd 64 d) * aug f' e' (Fin.castAdd 64 d))
      + ∑ d : Fin 64, aug f e (Fin.natAdd 64 d) * aug f' e' (Fin.natAdd 64 d) from Fin.sum_univ_add (a := 64) (b := 64) _]
  refine congrArg₂ (· + ·) (Finset.sum_congr rfl fun d _ => ?_) ?_
  · simp only [aug, Fin.val_castAdd, d.isLt, ↓reduceDIte]
  · rw [show (∑ d : Fin 64, aug f e (Fin.natAdd 64 d) * aug f' e' (Fin.natAdd 64 d))
        = (∑ x : Fin 9, aug f e (Fin.natAdd 64 (Fin.castAdd 55 x : Fin 64)) * aug f' e' (Fin.natAdd 64 (Fin.castAdd 55 x : Fin 64)))
        + ∑ x : Fin 55, aug f e (Fin.natAdd 64 (Fin.natAdd 9 x : Fin 64)) * aug f' e' (Fin.natAdd 64 (Fin.natAdd 9 x : Fin 64)) from Fin.sum_univ_add (a := 9) (b := 55) _]
    refine (congrArg₂ (· + ·) (Finset.sum_congr rfl fun x _ => ?_) (Finset.sum_eq_zero fun x _ => ?_)).trans (add_zero _)
    · simp [aug]
    · simp [aug]

/-! ## The arrays laid together -/

theorem flat_at (x : FVec Ideal S8320x16x128 .f32) (h : Fin 16) (i : Fin 8320) (l : Fin 128) :
    (truncf .bf16 (shapeCast S8320x2048 x shapeCasts_S8320x16x128_S8320x2048) bitsLt_bf16_f32 : FVec Ideal S8320x2048 .bf16) (ix2 i (lane h l)) = x (ix3 i h l) := by
  unfold lane
  pointwise

/-- Eleven pieces: the head's lanes, nine columns, zeros. -/
def cat11 (a0 : FVec Ideal S8320x16x64 .f32) (a1 a2 a3 a4 a5 a6 a7 a8 a9 : FVec Ideal S8320x16x1 .f32) (a10 : FVec Ideal S8320x16x55 .f32) :
    FVec Ideal S8320x2048 .bf16 :=
  truncf .bf16 (shapeCast S8320x2048 (concatenate S8320x16x128 2 [⟨S8320x16x64, a0⟩, ⟨S8320x16x1, a1⟩, ⟨S8320x16x1, a2⟩, ⟨S8320x16x1, a3⟩, ⟨S8320x16x1, a4⟩,
      ⟨S8320x16x1, a5⟩, ⟨S8320x16x1, a6⟩, ⟨S8320x16x1, a7⟩, ⟨S8320x16x1, a8⟩, ⟨S8320x16x1, a9⟩, ⟨S8320x16x55, a10⟩]
      concatenates_S8320x16x64_S8320x16x1_S8320x16x1_S8320x16x1_S8320x16x1_S8320x16x1_S8320x16x1_S8320x16x1_S8320x16x1_S8320x16x1_S8320x16x55_S8320x16x128_d2 : FVec Ideal S8320x16x128 .f32)
    shapeCasts_S8320x16x128_S8320x2048) bitsLt_bf16_f32

/-- Five pieces: the head's lanes, three columns, zeros. -/
def cat5 (a0 : FVec Ideal S8320x16x64 .f32) (a1 a2 a3 : FVec Ideal S8320x16x1 .f32) (a4 : FVec Ideal S8320x16x61 .f32) : FVec Ideal S8320x2048 .bf16 :=
  truncf .bf16 (shapeCast S8320x2048 (concatenate S8320x16x128 2 [⟨S8320x16x64, a0⟩, ⟨S8320x16x1, a1⟩, ⟨S8320x16x1, a2⟩, ⟨S8320x16x1, a3⟩, ⟨S8320x16x61, a4⟩]
      concatenates_S8320x16x64_S8320x16x1_S8320x16x1_S8320x16x1_S8320x16x61_S8320x16x128_d2 : FVec Ideal S8320x16x128 .f32)
    shapeCasts_S8320x16x128_S8320x2048) bitsLt_bf16_f32

theorem cat11_at (a0 : FVec Ideal S8320x16x64 .f32) (a1 a2 a3 a4 a5 a6 a7 a8 a9 : FVec Ideal S8320x16x1 .f32) (a10 : FVec Ideal S8320x16x55 .f32)
    (h : Fin 16) (i : Fin 8320) (f : Fin 64 → ℝ) (e : Fin 9 → ℝ) (h0 : ∀ d, a0 (ix3 i h d) = (f d : EReal))
    (h1 : a1 (ix3 i h 0) = (e 0 : EReal)) (h2 : a2 (ix3 i h 0) = (e 1 : EReal)) (h3 : a3 (ix3 i h 0) = (e 2 : EReal))
    (h4 : a4 (ix3 i h 0) = (e 3 : EReal)) (h5 : a5 (ix3 i h 0) = (e 4 : EReal)) (h6 : a6 (ix3 i h 0) = (e 5 : EReal))
    (h7 : a7 (ix3 i h 0) = (e 6 : EReal)) (h8 : a8 (ix3 i h 0) = (e 7 : EReal)) (h9 : a9 (ix3 i h 0) = (e 8 : EReal))
    (h10 : ∀ x, a10 (ix3 i h x) = 0) (l : Fin 128) :
    cat11 a0 a1 a2 a3 a4 a5 a6 a7 a8 a9 a10 (ix2 i (lane h l)) = (aug f e l : EReal) := by
  unfold cat11
  rw [flat_at]
  pointwise
  unfold aug
  by_cases hl : l.val < 64
  · rw [dif_pos hl, dif_pos hl]; exact h0 _
  · rw [dif_neg hl, dif_neg hl]
    by_cases hr : l.val - 64 < 9
    · rw [dif_pos hr]
      obtain ⟨x, hx⟩ : ∃ x : Fin 9, l.val - 64 = x.val := ⟨⟨_, hr⟩, rfl⟩
      simp only [hx]
      fin_cases x <;> simp only [Nat.reduceSub, Nat.reduceLT, ↓reduceDIte]
      · exact h1
      · exact h2
      · exact h3
      · exact h4
      · exact h5
      · exact h6
      · exact h7
      · exact h8
      · exact h9
    · rw [dif_neg hr, EReal.coe_zero]
      rw [dif_neg (by omega), dif_neg (by omega), dif_neg (by omega), dif_neg (by omega), dif_neg (by omega), dif_neg (by omega), dif_neg (by omega), dif_neg (by omega), dif_neg (by omega)]
      exact h10 _

theorem cat5_at (a0 : FVec Ideal S8320x16x64 .f32) (a1 a2 a3 : FVec Ideal S8320x16x1 .f32) (a4 : FVec Ideal S8320x16x61 .f32)
    (h : Fin 16) (i : Fin 8320) (f : Fin 64 → ℝ) (e : Fin 9 → ℝ) (h0 : ∀ d, a0 (ix3 i h d) = (f d : EReal))
    (h1 : a1 (ix3 i h 0) = (e 0 : EReal)) (h2 : a2 (ix3 i h 0) = (e 1 : EReal)) (h3 : a3 (ix3 i h 0) = (e 2 : EReal))
    (h4 : ∀ x, a4 (ix3 i h x) = 0) (he : ∀ x : Fin 9, 3 ≤ x.val → e x = 0) (l : Fin 128) :
    cat5 a0 a1 a2 a3 a4 (ix2 i (lane h l)) = (aug f e l : EReal) := by
  unfold cat5
  rw [flat_at]
  pointwise
  unfold aug
  by_cases hl : l.val < 64
  · rw [dif_pos hl, dif_pos hl]; exact h0 _
  · rw [dif_neg hl, dif_neg hl]
    by_cases hr : l.val - 64 < 3
    · rw [dif_pos (show l.val - 64 < 9 by omega)]
      obtain ⟨x, hx⟩ : ∃ x : Fin 3, l.val - 64 = x.val := ⟨⟨_, hr⟩, rfl⟩
      simp only [hx]
      fin_cases x <;> simp only [Nat.reduceSub, Nat.reduceLT, ↓reduceDIte]
      · exact h1
      · exact h2
      · exact h3
    · rw [dif_neg (by omega), dif_neg (by omega), dif_neg (by omega), h4]
      split
      · rw [he _ (by simp only; omega), EReal.coe_zero]
      · exact EReal.coe_zero.symm

end Cert.KernelIdeal.Attn
-- ==== Proof.Attn.Host.lean ====
module

public import proofs.«01_k».proof.Proof.Attn.Lanes
public import Idealize.ShloMosaic.Lib.WordCmp
public import Idealize.ShloMosaic.Lib.IdealHost

@[expose] public section

set_option maxRecDepth 16384

noncomputable section

namespace Cert.KernelIdeal.Attn

open Cert.KernelIdeal Cert.KernelIdeal.Gen Idealize.ShloMosaic Idealize.ShloMosaic.TcCoe Idealize.SL.Sem Idealize.ShloMosaic.StableHlo Idealize.ShloMosaic.Tactic
open Cert.Spec (Args col coe_sum)

/-! # What the kernel's host lines hand the launch, on finite arguments -/

theorem eighth : Ideal.ofBits .f32 1040187392#32 = ((1 / 8 : ℝ) : EReal) := by
  simp [Ideal.ofBits, Ideal.ieee, -EReal.coe_mul]; norm_num

theorem negInf : Ideal.ofBits .f32 4286578688#32 = ⊥ := by
  simp [Ideal.ofBits, Ideal.ieee]

/-- The arguments hold the real numbers of `A`. -/
structure Holds (A : Args) (V : Valuation τ sig (Elt Ideal)) : Prop where
  q : ∀ i y, (show FVec Ideal S8208x1024 .f32 from V (Proc.devRef .tc main_arg0)) (ix2 i y) = (A.q i y : EReal)
  k : ∀ i y, (show FVec Ideal S8208x1024 .f32 from V (Proc.devRef .tc main_arg1)) (ix2 i y) = (A.k i y : EReal)
  v : ∀ i y, (show FVec Ideal S8208x1024 .f32 from V (Proc.devRef .tc main_arg2)) (ix2 i y) = (A.v i y : EReal)
  c : ∀ i h, (show FVec Ideal S8208x16 .f32 from V (Proc.devRef .tc main_arg3)) (ix2 i h) = (A.c i h : EReal)
  w : ∀ i y, (show FVec Ideal S8208x1024 .f32 from V (Proc.devRef .tc main_arg4)) (ix2 i y) = (A.w i y : EReal)

/-- The host lines in four stretches: scores, softmax with its statistics, padding; `hostOps0_16` lays the operands out. -/
abbrev scoreOps : List (HloOp τ sig (Elt Ideal)) := List.flatten [hostOps0, hostOps0_1]
abbrev padOps : List (HloOp τ sig (Elt Ideal)) :=
  List.flatten [hostOps0_3, hostOps0_4, hostOps0_5, hostOps0_6, hostOps0_7, hostOps0_8, hostOps0_9, hostOps0_10, hostOps0_11, hostOps0_12, hostOps0_13, hostOps0_14, hostOps0_15]

section Stages
variable (V : Valuation τ sig (Elt Ideal)) (A : Args)

/-! ## The softmax's statistics -/

theorem scores_at (hV : Holds A V) (h : Fin 16) (i j : Fin 8208) :
    (show FVec Ideal S16x8208x8208 .f32 from after scoreOps V (Proc.devRef .tc main_v18)) (ix3 h i j)
      = if j.val ≤ i.val then (Spec.s A h i j : EReal) else ⊥ := by
  have hq := hV.q; have hk := hV.k; have hc := hV.c
  after_reads_at
  word_cmp
  split
  · simp only [show ∀ i y, V (Proc.devRef .tc main_arg0) (ix2 i y) = _ from hq, show ∀ i y, V (Proc.devRef .tc main_arg1) (ix2 i y) = _ from hk,
      show ∀ i y, V (Proc.devRef .tc main_arg3) (ix2 i y) = _ from hc, eighth]
    simp only [← EReal.coe_mul, coe_sum, ← EReal.coe_add, ← EReal.coe_sub]
    rfl
  · exact negInf

theorem top_at (x : FVec Ideal S16x8208x8208 .f32) (h : Fin 16) (i : Fin 8208) :
    (Host.reduce FloatOps.maximumf x (constant S_ .f32 0xFF800000#32) reducesTo_S16x8208x8208_S16x8208_d2 h_S_ : FVec Ideal S16x8208 .f32) (ix2 h i)
      = Finset.fold max (Ideal.ofBits FTy.f32 4286578688#32) (fun j => x (ix3 h i j)) Finset.univ := by
  pointwise

/-- The softmax's arrays, as terms of the scores and their row maxima. -/
def expOf (x : FVec Ideal S16x8208x8208 .f32) (t : FVec Ideal S16x8208 .f32) : FVec Ideal S16x8208x8208 .f32 :=
  Host.exp (subf x (broadcastInDim S16x8208x8208 ![0, 1, 2] bcast_S16x8208x1_S16x8208x8208_0_1_2 (broadcastInDim S16x8208x1 ![0, 1] bcast_S16x8208_S16x8208x1_0_1 t)))
def totOf (e : FVec Ideal S16x8208x8208 .f32) : FVec Ideal S16x8208 .f32 :=
  Host.reduceAdd e (constant S_ .f32 0x00000000#32) reducesTo_S16x8208x8208_S16x8208_d2 h_S_
def lseOf (t s : FVec Ideal S16x8208 .f32) : FVec Ideal S8208x16 .f32 :=
  transpose S8208x16 [1, 0] (addf t (Host.log s)) transposes_S16x8208_S8208x16_1_0
def deltaOf (w v : FVec Ideal S8208x1024 .f32) (e : FVec Ideal S16x8208x8208 .f32) (s : FVec Ideal S16x8208 .f32) : FVec Ideal S8208x16 .f32 :=
  Host.reduceAdd (shapeCast S8208x16x64 (mulf w (shapeCast S8208x1024 (transpose S8208x16x64 [2, 0, 1]
    (Host.dotGeneral dot_S8208x16x64_S16x8208x8208_S16x64x8208_0_2_2_1_1_0 none (shapeCast S8208x16x64 v shapeCasts_S8208x1024_S8208x16x64)
      (Host.divf e (broadcastInDim S16x8208x8208 ![0, 1, 2] bcast_S16x8208x1_S16x8208x8208_0_1_2 (broadcastInDim S16x8208x1 ![0, 1] bcast_S16x8208_S16x8208x1_0_1 s))))
    transposes_S16x64x8208_S8208x16x64_2_0_1) shapeCasts_S8208x16x64_S8208x1024)) shapeCasts_S8208x1024_S8208x16x64)
    (constant S_ .f32 0x00000000#32) reducesTo_S8208x16x64_S8208x16_d2 h_S_

/-- The row maxima. -/
def topOf (x : FVec Ideal S16x8208x8208 .f32) : FVec Ideal S16x8208 .f32 :=
  Host.reduce FloatOps.maximumf x (constant S_ .f32 0xFF800000#32) reducesTo_S16x8208x8208_S16x8208_d2 h_S_

theorem lse_eq : after hostOps0_2 V (Proc.devRef .tc main_v34)
    = lseOf (topOf (V (Proc.devRef .tc main_v18))) (totOf (expOf (V (Proc.devRef .tc main_v18)) (topOf (V (Proc.devRef .tc main_v18))))) := by
  unfold lseOf totOf expOf topOf
  after_reads_simp

theorem delta_eq : after hostOps0_2 V (Proc.devRef .tc main_v37)
    = deltaOf (V (Proc.devRef .tc main_arg4)) (V (Proc.devRef .tc main_arg2)) (expOf (V (Proc.devRef .tc main_v18)) (topOf (V (Proc.devRef .tc main_v18))))
        (totOf (expOf (V (Proc.devRef .tc main_v18)) (topOf (V (Proc.devRef .tc main_v18))))) := by
  unfold deltaOf totOf expOf topOf
  after_reads_simp
  rfl

theorem expOf_at (x : FVec Ideal S16x8208x8208 .f32) (t : FVec Ideal S16x8208 .f32) (h : Fin 16) (i j : Fin 8208) :
    expOf x t (ix3 h i j) = Ideal.exp (x (ix3 h i j) - t (ix2 h i)) := by
  unfold expOf
  pointwise

theorem totOf_at (e : FVec Ideal S16x8208x8208 .f32) (h : Fin 16) (i : Fin 8208) : totOf e (ix2 h i) = ∑ j : Fin 8208, e (ix3 h i j) := by
  unfold totOf
  pointwise

theorem lseOf_at (t s : FVec Ideal S16x8208 .f32) (i : Fin 8208) (h : Fin 16) : lseOf t s (ix2 i h) = t (ix2 h i) + Ideal.log (s (ix2 h i)) := by
  unfold lseOf
  pointwise

theorem deltaOf_at (w v : FVec Ideal S8208x1024 .f32) (e : FVec Ideal S16x8208x8208 .f32) (s : FVec Ideal S16x8208 .f32) (i : Fin 8208) (h : Fin 16) :
    deltaOf w v e s (ix2 i h) = ∑ d : Fin 64, w (ix2 i (col h d)) * ∑ j : Fin 8208, v (ix2 j (col h d)) * Ideal.div (e (ix3 h i j)) (s (ix2 h i)) := by
  unfold deltaOf
  pointwise
  rfl

theorem exp_shift (h : Fin 16) (i j : Fin 8208) (M : ℝ) :
    Ideal.exp ((if j.val ≤ i.val then (Spec.s A h i j : EReal) else ⊥) - (M : EReal)) = (Spec.e A h i j M : EReal) := by
  unfold Spec.e
  split
  · rw [← EReal.coe_sub, Ideal.exp_coe]
  · rw [EReal.bot_sub, Ideal.exp_bot, EReal.coe_zero]

/-- The masked scores. -/
def Scores (x : FVec Ideal S16x8208x8208 .f32) : Prop :=
  ∀ (h : Fin 16) (i j : Fin 8208), x (ix3 h i j) = if j.val ≤ i.val then (Spec.s A h i j : EReal) else ⊥

variable (x : FVec Ideal S16x8208x8208 .f32) (hs : Scores A x)
include hs

theorem topOf_real (h : Fin 16) (i : Fin 8208) : ∃ M : ℝ, topOf x (ix2 h i) = (M : EReal) := by
  obtain ⟨M, hM⟩ := Spec.fold_max_real (fun j => x (ix3 h i j))
    (fun j => by rw [hs]; split; exact EReal.coe_ne_top _; exact bot_ne_top) i (by rw [hs, if_pos le_rfl]; exact EReal.coe_ne_bot _)
  refine ⟨M, ?_⟩
  unfold topOf
  rw [top_at, negInf, hM]

theorem expOf_real (h : Fin 16) (i : Fin 8208) (M : ℝ) (hM : topOf x (ix2 h i) = (M : EReal)) (j : Fin 8208) :
    expOf x (topOf x) (ix3 h i j) = (Spec.e A h i j M : EReal) := by
  rw [expOf_at, hM, hs, exp_shift]

theorem totOf_real (h : Fin 16) (i : Fin 8208) (M : ℝ) (hM : topOf x (ix2 h i) = (M : EReal)) :
    totOf (expOf x (topOf x)) (ix2 h i) = (Spec.T A h i M : EReal) := by
  rw [totOf_at, Spec.T, ← coe_sum]
  exact Finset.sum_congr rfl fun j _ => expOf_real A x hs h i M hM j

/-- The log of the softmax's denominator. -/
theorem lse_real (i : Fin 8208) (h : Fin 16) :
    lseOf (topOf x) (totOf (expOf x (topOf x))) (ix2 i h) = (Real.log (Spec.Z A h i) : EReal) := by
  obtain ⟨M, hM⟩ := topOf_real A x hs h i
  rw [lseOf_at, totOf_real A x hs h i M hM, hM, Ideal.log_coe, if_neg (Spec.T_pos A h i M).not_ge, ← EReal.coe_add, Spec.shift_log]

/-- The output's product with its cotangent. -/
theorem delta_real (w v : FVec Ideal S8208x1024 .f32) (hw : ∀ i y, w (ix2 i y) = (A.w i y : EReal)) (hv : ∀ i y, v (ix2 i y) = (A.v i y : EReal))
    (i : Fin 8208) (h : Fin 16) :
    deltaOf w v (expOf x (topOf x)) (totOf (expOf x (topOf x))) (ix2 i h) = (Spec.dl A h i : EReal) := by
  obtain ⟨M, hM⟩ := topOf_real A x hs h i
  rw [deltaOf_at, Spec.dl_eq, ← coe_sum]
  refine Finset.sum_congr rfl fun d _ => ?_
  rw [EReal.coe_mul, ← coe_sum, hw]
  refine congrArg₂ (· * ·) rfl (Finset.sum_congr rfl fun j _ => ?_)
  rw [hv, expOf_real A x hs h i M hM, totOf_real A x hs h i M hM, Ideal.div_coe (Spec.T_pos A h i M).ne', ← EReal.coe_mul, ← EReal.coe_mul,
    ← Spec.e_div_T A h i j M]
  refine congrArg (fun r : ℝ => (r : EReal)) ?_
  ring

omit hs

/-! ## Padding -/

/-- Rows past the last token are zero. -/
def ext (f : Fin 8208 → ℝ) (i : Fin 8320) : ℝ := if h : i.val < 8208 then f ⟨i.val, h⟩ else 0

theorem ext_of (x : Fin 8208 → EReal) (f : Fin 8208 → ℝ) (hx : ∀ i, x i = (f i : EReal)) (z : EReal) (hz : z = 0) (i : Fin 8320) :
    (if h : i.val < 8208 then x ⟨i.val, h⟩ else z) = (ext f i : EReal) := by
  unfold ext
  split
  · exact hx _
  · rw [hz, EReal.coe_zero]

theorem pad_zero : (FloatOps.sitofp FTy.f32 0#32 : Ideal .f32) = 0 := by
  show (((0#32).toInt : ℝ) : EReal) = 0
  simp

/-- What the operands are laid out from. -/
structure HasPads (V : Valuation τ sig (Elt Ideal)) : Prop where
  q : ∀ i y, (show FVec Ideal S8320x1024 .f32 from V (Proc.devRef .tc main_v38)) (ix2 i y) = (ext (A.q · y) i : EReal)
  k : ∀ i y, (show FVec Ideal S8320x1024 .f32 from V (Proc.devRef .tc main_v39)) (ix2 i y) = (ext (A.k · y) i : EReal)
  v : ∀ i y, (show FVec Ideal S8320x1024 .f32 from V (Proc.devRef .tc main_v40)) (ix2 i y) = (ext (A.v · y) i : EReal)
  c : ∀ i h, (show FVec Ideal S8320x16 .f32 from V (Proc.devRef .tc main_v41)) (ix2 i h) = (ext (A.c · h) i : EReal)
  w : ∀ i y, (show FVec Ideal S8320x1024 .f32 from V (Proc.devRef .tc main_v42)) (ix2 i y) = (ext (A.w · y) i : EReal)
  lse : ∀ i h, (show FVec Ideal S8320x16 .f32 from V (Proc.devRef .tc main_v43)) (ix2 i h) = (ext (fun i => Real.log (Spec.Z A h i)) i : EReal)
  dl : ∀ i h, (show FVec Ideal S8320x16 .f32 from V (Proc.devRef .tc main_v44)) (ix2 i h) = (ext (Spec.dl A h) i : EReal)

theorem pads_at (hV : Holds A V) (hz : (show IVec S_ 32 from V (Proc.devRef .tc main_c)) = constantI S_ 32 0#32)
    (hl : ∀ i h, (show FVec Ideal S8208x16 .f32 from V (Proc.devRef .tc main_v34)) (ix2 i h) = (Real.log (Spec.Z A h i) : EReal))
    (hd : ∀ i h, (show FVec Ideal S8208x16 .f32 from V (Proc.devRef .tc main_v37)) (ix2 i h) = (Spec.dl A h i : EReal)) :
    HasPads A (after padOps V) where
  q i y := by after_reads_at; exact ext_of _ _ (fun i => hV.q i y) _ ((congrArg (fun z : IVec S_ 32 => (FloatOps.sitofp FTy.f32 (z (Shape.Idx.first h_S_)) : Ideal .f32)) hz).trans pad_zero) i
  k i y := by after_reads_at; exact ext_of _ _ (fun i => hV.k i y) _ pad_zero i
  v i y := by after_reads_at; exact ext_of _ _ (fun i => hV.v i y) _ pad_zero i
  c i h := by after_reads_at; exact ext_of _ _ (fun i => hV.c i h) _ pad_zero i
  w i y := by after_reads_at; exact ext_of _ _ (fun i => hV.w i y) _ pad_zero i
  lse i h := by after_reads_at; exact ext_of _ _ (fun i => hl i h) _ pad_zero i
  dl i h := by after_reads_at; exact ext_of _ _ (fun i => hd i h) _ pad_zero i

/-! ## The operands -/

theorem sub_real (a : ℝ) (x : EReal) (hx : x = (a : EReal)) : x - x = ((0 : ℝ) : EReal) := by
  rw [hx, ← EReal.coe_sub, sub_self]

theorem sub_sub_real (a : ℝ) (x : EReal) (hx : x = (a : EReal)) : x - x - (x - x) = ((0 : ℝ) : EReal) := by
  rw [hx, ← EReal.coe_sub, ← EReal.coe_sub, sub_self]

theorem neg_real (a : ℝ) (x : EReal) (hx : x = (a : EReal)) : -x = ((-a : ℝ) : EReal) := by rw [hx, EReal.coe_neg]

theorem neg_zero_real (x : EReal) (hx : x = ((0 : ℝ) : EReal)) : -x = ((0 : ℝ) : EReal) := by rw [hx, ← EReal.coe_neg, neg_zero]

/-- The rows of the four operands. -/
def qRow (h : Fin 16) (i : Fin 8320) : Fin 128 → ℝ :=
  aug (fun d => ext (A.q · (col h d)) i * (1 / 8)) ![ext (A.c · h) i, 0, 0, 1, 1, 1, -ext (fun i => Real.log (Spec.Z A h i)) i, 0, 0]
def kRow (h : Fin 16) (j : Fin 8320) : Fin 128 → ℝ :=
  aug (fun d => ext (A.k · (col h d)) j) ![1, 1, 1, -ext (A.c · h) j, 0, 0, 1, 1, 1]
def vRow (h : Fin 16) (j : Fin 8320) : Fin 128 → ℝ :=
  aug (fun d => ext (A.v · (col h d)) j) ![1, 1, 1, 0, 0, 0, 0, 0, 0]
def wRow (h : Fin 16) (i : Fin 8320) : Fin 128 → ℝ :=
  aug (fun d => ext (A.w · (col h d)) i) ![-ext (Spec.dl A h) i, 0, 0, 0, 0, 0, 0, 0, 0]

theorem one_real : (1 : EReal) = ((1 : ℝ) : EReal) := EReal.coe_one.symm

theorem q_at (hV : HasPads A V) (h : Fin 16) (i : Fin 8320) (l : Fin 128) :
    (show FVec Ideal S8320x2048 .bf16 from after hostOps0_16 V (Proc.devRef .tc main_v86)) (ix2 i (lane h l)) = (qRow A h i l : EReal) := by
  have e : ∀ X : FVec Ideal S8320x2048 .bf16, X = cat11 (upto hostOps0_16 V 44 (Proc.devRef .tc main_v73)) (upto hostOps0_16 V 44 (Proc.devRef .tc main_v74)) (upto hostOps0_16 V 44 (Proc.devRef .tc main_v75))
        (upto hostOps0_16 V 44 (Proc.devRef .tc main_v76)) (upto hostOps0_16 V 44 (Proc.devRef .tc main_v77)) (upto hostOps0_16 V 44 (Proc.devRef .tc main_v78))
        (upto hostOps0_16 V 44 (Proc.devRef .tc main_v79)) (upto hostOps0_16 V 44 (Proc.devRef .tc main_v80)) (upto hostOps0_16 V 44 (Proc.devRef .tc main_v81))
        (upto hostOps0_16 V 44 (Proc.devRef .tc main_v82)) (upto hostOps0_16 V 44 (Proc.devRef .tc main_v83)) → after hostOps0_16 V (Proc.devRef .tc main_v86) = X := by
    intro X hX
    after_reads_simp
    exact hX.symm
  refine (congrFun (e _ rfl) _).trans (cat11_at _ _ _ _ _ _ _ _ _ _ _ h i _ _ (fun d => ?_) ?_ ?_ ?_ ?_ ?_ ?_ ?_ ?_ ?_ (fun x => ?_) l)
  · refine Eq.trans ?_ (EReal.coe_mul _ _).symm
    after_reads_at
    exact congrArg₂ (· * ·) (hV.q i _) eighth
  · after_reads_at; exact hV.c i h
  · after_reads_at; exact sub_real _ _ (hV.c i h)
  · after_reads_at; exact sub_sub_real _ _ (hV.c i h)
  · after_reads_at; exact one_real
  · after_reads_at; exact one_real
  · after_reads_at; exact one_real
  · after_reads_at; exact neg_real _ _ (hV.lse i h)
  · after_reads_at; exact sub_real _ _ (neg_real _ _ (hV.lse i h))
  · after_reads_at; exact sub_sub_real _ _ (neg_real _ _ (hV.lse i h))
  · after_reads_at

theorem k_at (hV : HasPads A V) (h : Fin 16) (i : Fin 8320) (l : Fin 128) :
    (show FVec Ideal S8320x2048 .bf16 from after hostOps0_16 V (Proc.devRef .tc main_v103)) (ix2 i (lane h l)) = (kRow A h i l : EReal) := by
  have e : ∀ X : FVec Ideal S8320x2048 .bf16, X = cat11 (upto hostOps0_16 V 68 (Proc.devRef .tc main_v90)) (upto hostOps0_16 V 68 (Proc.devRef .tc main_v91)) (upto hostOps0_16 V 68 (Proc.devRef .tc main_v92))
        (upto hostOps0_16 V 68 (Proc.devRef .tc main_v93)) (upto hostOps0_16 V 68 (Proc.devRef .tc main_v94)) (upto hostOps0_16 V 68 (Proc.devRef .tc main_v95))
        (upto hostOps0_16 V 68 (Proc.devRef .tc main_v96)) (upto hostOps0_16 V 68 (Proc.devRef .tc main_v97)) (upto hostOps0_16 V 68 (Proc.devRef .tc main_v98))
        (upto hostOps0_16 V 68 (Proc.devRef .tc main_v99)) (upto hostOps0_16 V 68 (Proc.devRef .tc main_v100)) → after hostOps0_16 V (Proc.devRef .tc main_v103) = X := by
    intro X hX
    after_reads_simp
    exact hX.symm
  refine (congrFun (e _ rfl) _).trans (cat11_at _ _ _ _ _ _ _ _ _ _ _ h i _ _ (fun d => ?_) ?_ ?_ ?_ ?_ ?_ ?_ ?_ ?_ ?_ (fun x => ?_) l)
  · after_reads_at; exact hV.k i _
  · after_reads_at; exact one_real
  · after_reads_at; exact one_real
  · after_reads_at; exact one_real
  · after_reads_at; exact neg_real _ _ (hV.c i h)
  · after_reads_at; exact neg_zero_real _ (sub_real _ _ (hV.c i h))
  · after_reads_at; exact neg_zero_real _ (sub_sub_real _ _ (hV.c i h))
  · after_reads_at; exact one_real
  · after_reads_at; exact one_real
  · after_reads_at; exact one_real
  · after_reads_at

theorem v_at (hV : HasPads A V) (h : Fin 16) (i : Fin 8320) (l : Fin 128) :
    (show FVec Ideal S8320x2048 .bf16 from after hostOps0_16 V (Proc.devRef .tc main_v111)) (ix2 i (lane h l)) = (vRow A h i l : EReal) := by
  have e : ∀ X : FVec Ideal S8320x2048 .bf16, X = cat5 (upto hostOps0_16 V 80 (Proc.devRef .tc main_v104)) (upto hostOps0_16 V 80 (Proc.devRef .tc main_v105)) (upto hostOps0_16 V 80 (Proc.devRef .tc main_v106))
        (upto hostOps0_16 V 80 (Proc.devRef .tc main_v107)) (upto hostOps0_16 V 80 (Proc.devRef .tc main_v108)) → after hostOps0_16 V (Proc.devRef .tc main_v111) = X := by
    intro X hX
    after_reads_simp
    exact hX.symm
  refine (congrFun (e _ rfl) _).trans (cat5_at _ _ _ _ _ h i _ _ (fun d => ?_) ?_ ?_ ?_ (fun x => ?_) (fun x hx => ?_) l)
  · after_reads_at; exact hV.v i _
  · after_reads_at; exact one_real
  · after_reads_at; exact one_real
  · after_reads_at; exact one_real
  · after_reads_at
  · fin_cases x <;> first | rfl | exact absurd hx (by decide)

theorem w_at (hV : HasPads A V) (h : Fin 16) (i : Fin 8320) (l : Fin 128) :
    (show FVec Ideal S8320x2048 .bf16 from after hostOps0_16 V (Proc.devRef .tc main_v119)) (ix2 i (lane h l)) = (wRow A h i l : EReal) := by
  have e : ∀ X : FVec Ideal S8320x2048 .bf16, X = cat5 (upto hostOps0_16 V 89 (Proc.devRef .tc main_v112)) (upto hostOps0_16 V 89 (Proc.devRef .tc main_v113)) (upto hostOps0_16 V 89 (Proc.devRef .tc main_v114))
        (upto hostOps0_16 V 89 (Proc.devRef .tc main_v115)) (upto hostOps0_16 V 89 (Proc.devRef .tc main_v116)) → after hostOps0_16 V (Proc.devRef .tc main_v119) = X := by
    intro X hX
    after_reads_simp
    exact hX.symm
  refine (congrFun (e _ rfl) _).trans (cat5_at _ _ _ _ _ h i _ _ (fun d => ?_) ?_ ?_ ?_ (fun x => ?_) (fun x hx => ?_) l)
  · after_reads_at; exact hV.w i _
  · after_reads_at; exact neg_real _ _ (hV.dl i h)
  · after_reads_at; exact sub_real _ _ (neg_real _ _ (hV.dl i h))
  · after_reads_at; exact sub_sub_real _ _ (neg_real _ _ (hV.dl i h))
  · after_reads_at
  · fin_cases x <;> first | rfl | exact absurd hx (by decide)

end Stages

/-! ## The launch's operands -/

variable (m : (ℓ : Loc nD τ sig) → Buf (Elt Ideal) ℓ) (c : Dev nD) (A : Args)

/-- The contents the program is launched on. -/
abbrev launched : Valuation τ sig (Elt Ideal) := fun b => m (c, b)

theorem after_app (l₁ l₂ : List (HloOp τ sig (Elt Ideal))) (V : Valuation τ sig (Elt Ideal)) : after (l₁ ++ l₂) V = after l₂ (after l₁ V) := by
  induction l₁ generalizing V with
  | nil => rfl
  | cons op l ih => exact ih _

theorem V0_eq : V0 m c = after hostOps0_16 (after padOps (after hostOps0_2 (after scoreOps (launched m c)))) := by
  simp only [V0, List.flatten_cons, List.flatten_nil, List.append_nil, after_app, padOps, scoreOps]

theorem held (hA : Holds A (launched m c)) : HasPads A (after padOps (after hostOps0_2 (after scoreOps (launched m c)))) := by
  have hs : Scores A (after scoreOps (launched m c) (Proc.devRef .tc main_v18)) := scores_at (launched m c) A hA
  refine pads_at _ A ⟨fun i y => ?_, fun i y => ?_, fun i y => ?_, fun i h => ?_, fun i y => ?_⟩ ?_ (fun i h => ?_) (fun i h => ?_)
  · after_reads_simp; exact hA.q i y
  · after_reads_simp; exact hA.k i y
  · after_reads_simp; exact hA.v i y
  · after_reads_simp; exact hA.c i h
  · after_reads_simp; exact hA.w i y
  · after_reads_simp
  · exact (congrFun (lse_eq _) _).trans (lse_real A _ hs i h)
  · refine (congrFun (delta_eq _) _).trans (delta_real A _ hs _ _ (fun i y => ?_) (fun i y => ?_) i h)
    · after_reads_simp; exact hA.w i y
    · after_reads_simp; exact hA.v i y

theorem Qa_at (hA : Holds A (launched m c)) (h : Fin 16) (i : Fin 8320) (l : Fin 128) : Qa m c (ix2 i (lane h l)) = (qRow A h i l : EReal) := by
  unfold Qa V
  rw [V0_eq]
  exact q_at _ A (held m c A hA) h i l

theorem Ka_at (hA : Holds A (launched m c)) (h : Fin 16) (i : Fin 8320) (l : Fin 128) : Ka m c (ix2 i (lane h l)) = (kRow A h i l : EReal) := by
  unfold Ka V
  rw [V0_eq]
  exact k_at _ A (held m c A hA) h i l

theorem Va_at (hA : Holds A (launched m c)) (h : Fin 16) (i : Fin 8320) (l : Fin 128) : Va m c (ix2 i (lane h l)) = (vRow A h i l : EReal) := by
  unfold Va V
  rw [V0_eq]
  exact v_at _ A (held m c A hA) h i l

theorem Da_at (hA : Holds A (launched m c)) (h : Fin 16) (i : Fin 8320) (l : Fin 128) : Da m c (ix2 i (lane h l)) = (wRow A h i l : EReal) := by
  unfold Da V
  rw [V0_eq]
  exact w_at _ A (held m c A hA) h i l

end Cert.KernelIdeal.Attn
-- ==== Proof.Attn.Value.lean ====
module

public import proofs.«01_k».proof.Proof.Attn.Host

@[expose] public section

set_option maxRecDepth 16384

noncomputable section

namespace Cert.KernelIdeal.Attn

open Cert.KernelIdeal Cert.KernelIdeal.Gen Idealize.ShloMosaic Idealize.ShloMosaic.TcCoe Idealize.SL.Sem Idealize.ShloMosaic.StableHlo Idealize.ShloMosaic.Tactic
open Cert.Spec (Args col coe_sum)

/-! # What the kernel computes, over the extended reals, on finite arguments -/

section Reals
variable (A : Args) (h : Fin 16)

/-- A token as a row of the padded arrays; the rows past the last token. -/
def tok (i : Fin 8208) : Fin 8320 := Fin.castAdd 112 i
def past (i : Fin 112) : Fin 8320 := Fin.natAdd 8208 i

theorem ext_tok (f : Fin 8208 → ℝ) (i : Fin 8208) : ext f (tok i) = f i := by
  unfold ext tok
  rw [dif_pos (show (Fin.castAdd 112 i).val < 8208 from i.isLt)]
  rfl

theorem ext_past (f : Fin 8208 → ℝ) (i : Fin 112) : ext f (past i) = 0 := by
  unfold ext past
  rw [dif_neg (by simp)]

/-- A sum over the padded rows whose terms past the last token vanish. -/
theorem sum_rows (F : Fin 8320 → ℝ) (hF : ∀ i, F (past i) = 0) : ∑ i, F i = ∑ i : Fin 8208, F (tok i) := by
  refine (Fin.sum_univ_add (a := 8208) (b := 112) F).trans ?_
  rw [show (∑ i : Fin 112, F (Fin.natAdd 8208 i)) = 0 from Finset.sum_eq_zero fun i _ => hF i, add_zero]
  rfl

/-- The weights and the scores' gradients as the tiles compute them. -/
def pT (j i : Fin 8320) : ℝ := if j.val ≤ i.val then Real.exp (∑ l : Fin 128, kRow A h j l * qRow A h i l) else 0
def gT (j i : Fin 8320) : ℝ := pT A h j i * ∑ l : Fin 128, vRow A h j l * wRow A h i l

theorem sum_nine (f : Fin 9 → ℝ) : ∑ x, f x = f 0 + f 1 + f 2 + f 3 + f 4 + f 5 + f 6 + f 7 + f 8 := by
  rw [Fin.sum_univ_castSucc, Fin.sum_univ_eight]
  rfl

theorem dot_kq (i j : Fin 8208) : ∑ l : Fin 128, kRow A h (tok j) l * qRow A h (tok i) l = Spec.s A h i j - Real.log (Spec.Z A h i) := by
  unfold kRow qRow
  rw [sum_aug, sum_nine, Spec.s, Finset.sum_mul]
  simp only [ext_tok]
  rw [show (∑ d : Fin 64, A.k j (col h d) * (A.q i (col h d) * (1 / 8))) = ∑ d : Fin 64, A.q i (col h d) * A.k j (col h d) * (1 / 8)
    from Finset.sum_congr rfl fun d _ => by ring]
  generalize (∑ d : Fin 64, A.q i (col h d) * A.k j (col h d) * (1 / 8)) = x
  show x + (1 * A.c i h + 1 * 0 + 1 * 0 + -A.c j h * 1 + 0 * 1 + 0 * 1 + 1 * -Real.log (Spec.Z A h i) + 1 * 0 + 1 * 0) = _
  ring

theorem dot_vw (i j : Fin 8208) : ∑ l : Fin 128, vRow A h (tok j) l * wRow A h (tok i) l = Spec.dp A h i j - Spec.dl A h i := by
  unfold vRow wRow
  rw [sum_aug, sum_nine, Spec.dp]
  simp only [ext_tok]
  rw [show (∑ d : Fin 64, A.v j (col h d) * A.w i (col h d)) = ∑ d : Fin 64, A.w i (col h d) * A.v j (col h d)
    from Finset.sum_congr rfl fun d _ => mul_comm _ _]
  generalize (∑ d : Fin 64, A.w i (col h d) * A.v j (col h d)) = x
  show x + (1 * -Spec.dl A h i + 1 * 0 + 1 * 0 + 0 * 0 + 0 * 0 + 0 * 0 + 0 * 0 + 0 * 0 + 0 * 0) = _
  ring

theorem pT_tok (i j : Fin 8208) : pT A h (tok j) (tok i) = Spec.p A h i j := by
  unfold pT
  rw [dot_kq, show (tok j).val = j.val from rfl, show (tok i).val = i.val from rfl]
  split
  · exact Spec.exp_sub_log A h i j ‹_›
  · exact (Spec.p_late A h i j ‹_›).symm

theorem gT_tok (i j : Fin 8208) : gT A h (tok j) (tok i) = Spec.ds A h i j := by
  unfold gT
  rw [pT_tok, dot_vw, Spec.ds]

/-- Rows past the last token come after every query and carry no cotangent. -/
theorem pT_past (i : Fin 8208) (j : Fin 112) : pT A h (past j) (tok i) = 0 :=
  if_neg (by show ¬ (8208 + j.val ≤ i.val); omega)

theorem gT_past (i : Fin 8208) (j : Fin 112) : gT A h (past j) (tok i) = 0 := by rw [gT, pT_past, zero_mul]

theorem wRow_past (i : Fin 112) (l : Fin 128) : wRow A h (past i) l = 0 := by
  unfold wRow aug
  simp only [ext_past]
  split
  · rfl
  · split
    · rename_i hx
      generalize (⟨l.val - 64, hx⟩ : Fin 9) = x
      fin_cases x <;> simp
    · rfl

theorem gT_query_past (j : Fin 8320) (i : Fin 112) : gT A h j (past i) = 0 := by
  rw [gT, Finset.sum_eq_zero (fun l _ => by rw [wRow_past, mul_zero]), mul_zero]

/-- A head's lane, and the two columns read for the gradient of c. -/
def main (d : Fin 64) : Fin 128 := Fin.castAdd 64 d

theorem aug_main (f : Fin 64 → ℝ) (e : Fin 9 → ℝ) (d : Fin 64) : aug f e (main d) = f d := by
  unfold aug main
  rw [dif_pos (show (Fin.castAdd 64 d).val < 64 from d.isLt)]
  rfl

theorem dq_main (i : Fin 8208) (d : Fin 64) : (∑ j, gT A h j (tok i) * kRow A h j (main d)) * (1 / 8) = Spec.dq A h i d := by
  rw [sum_rows _ (fun j => by rw [gT_past, zero_mul]), Spec.dq, Finset.sum_mul]
  refine Finset.sum_congr rfl fun j _ => ?_
  unfold kRow
  rw [gT_tok, aug_main, ext_tok]
  ring

theorem dk_main (j : Fin 8208) (d : Fin 64) : ∑ i, gT A h (tok j) i * qRow A h i (main d) = Spec.dk A h j d := by
  rw [sum_rows _ (fun i => by rw [gT_query_past, zero_mul]), Spec.dk]
  refine Finset.sum_congr rfl fun i _ => ?_
  unfold qRow
  rw [gT_tok, aug_main, ext_tok]
  ring

theorem dv_main (j : Fin 8208) (d : Fin 64) : ∑ i, pT A h (tok j) i * wRow A h i (main d) = Spec.dv A h j d := by
  rw [sum_rows _ (fun i => by rw [wRow_past, mul_zero]), Spec.dv]
  refine Finset.sum_congr rfl fun i _ => ?_
  unfold wRow
  rw [pT_tok, aug_main, ext_tok]
  ring

theorem dc_main (i : Fin 8208) :
    (∑ j, gT A h j (tok i) * kRow A h j 64) - ∑ i', gT A h (tok i) i' * qRow A h i' 67 = Spec.dc A h i := by
  rw [sum_rows _ (fun j => by rw [gT_past, zero_mul]), sum_rows _ (fun j => by rw [gT_query_past, zero_mul]), Spec.dc, Finset.sum_neg_distrib,
    show (∑ j : Fin 8208, gT A h (tok j) (tok i) * kRow A h (tok j) 64) = ∑ j : Fin 8208, Spec.ds A h i j
      from Finset.sum_congr rfl fun j _ => by rw [gT_tok, show kRow A h (tok j) 64 = 1 from rfl, mul_one],
    show (∑ j : Fin 8208, gT A h (tok i) (tok j) * qRow A h (tok j) 67) = ∑ j : Fin 8208, Spec.ds A h j i
      from Finset.sum_congr rfl fun j _ => by rw [gT_tok, show qRow A h (tok j) 67 = 1 from rfl, mul_one]]
  ring

end Reals

/-! ## The arrays the launch leaves -/

variable (m : (ℓ : Loc nD τ sig) → Buf (Elt Ideal) ℓ) (c : Dev nD) (A : Args) (hA : Holds A (launched m c))
include hA

theorem PR_real (h : Fin 16) (j i : Fin 8320) : PR (Qa m c) (Ka m c) h j i = (pT A h j i : EReal) := by
  unfold PR pT
  split
  · rw [← Ideal.exp_coe, ← coe_sum]
    refine congrArg Ideal.exp (Finset.sum_congr rfl fun l _ => ?_)
    rw [Ka_at m c A hA, Qa_at m c A hA, EReal.coe_mul]
  · exact EReal.coe_zero.symm

theorem GR_real (h : Fin 16) (j i : Fin 8320) : GR (Qa m c) (Da m c) (Ka m c) (Va m c) h j i = (gT A h j i : EReal) := by
  unfold GR gT
  rw [PR_real m c A hA, EReal.coe_mul, ← coe_sum]
  refine congrArg₂ (· * ·) rfl (Finset.sum_congr rfl fun l _ => ?_)
  rw [Va_at m c A hA, Da_at m c A hA, EReal.coe_mul]

theorem DQ_real (h : Fin 16) (i : Fin 8320) (l : Fin 128) : DQ m c (ix2 i (lane h l)) = ((∑ j, gT A h j i * kRow A h j l : ℝ) : EReal) := by
  show ∑ j, GR (Qa m c) (Da m c) (Ka m c) (Va m c) (headOf (lane h l)) j i * Ka m c (ix2 j (lane h l)) = _
  rw [headOf_lane, ← coe_sum]
  refine Finset.sum_congr rfl fun j _ => ?_
  rw [GR_real m c A hA, Ka_at m c A hA, EReal.coe_mul]

theorem DK_real (h : Fin 16) (j : Fin 8320) (l : Fin 128) : DK m c (ix2 j (lane h l)) = ((∑ i, gT A h j i * qRow A h i l : ℝ) : EReal) := by
  show ∑ i, GR (Qa m c) (Da m c) (Ka m c) (Va m c) (headOf (lane h l)) j i * Qa m c (ix2 i (lane h l)) = _
  rw [headOf_lane, ← coe_sum]
  refine Finset.sum_congr rfl fun i _ => ?_
  rw [GR_real m c A hA, Qa_at m c A hA, EReal.coe_mul]

theorem DV_real (h : Fin 16) (j : Fin 8320) (l : Fin 128) : DV m c (ix2 j (lane h l)) = ((∑ i, pT A h j i * wRow A h i l : ℝ) : EReal) := by
  show ∑ i, PR (Qa m c) (Ka m c) (headOf (lane h l)) j i * Da m c (ix2 i (lane h l)) = _
  rw [headOf_lane, ← coe_sum]
  refine Finset.sum_congr rfl fun i _ => ?_
  rw [PR_real m c A hA, Da_at m c A hA, EReal.coe_mul]

omit hA

/-! ## The results -/

/-- What the lines after the launch read. -/
abbrev left : Valuation τ sig (Elt Ideal) := Pipeline.withArrays spec0 c (V0 m c) fun w => (dats m 0 c).arrAt w cfg0.N

theorem arrays_ne : ∀ w w' : Fin 7, w ≠ w' → Pipeline.arrRef spec0 w ≠ Pipeline.arrRef spec0 w' := by decide

theorem left_at (w : Fin 7) : left m c (Proc.devRef .tc (Pipeline.arrRef spec0 w)) = (dats m 0 c).arrAt w cfg0.N :=
  Pipeline.withArrays_arr_shared spec0 c (V0 m c) _ (fun w w' hne e => absurd e (arrays_ne w w' hne)) w

theorem left_dq : left m c (Proc.devRef .tc main_v120_0) = DQ m c := (left_at m c 4).trans (final_dq m c)
theorem left_dk : left m c (Proc.devRef .tc main_v120_1) = DK m c := (left_at m c 5).trans (final_dk m c)
theorem left_dv : left m c (Proc.devRef .tc main_v120_2) = DV m c := (left_at m c 6).trans (final_dv m c)

section Tail
variable (V : Valuation τ sig (Elt Ideal))

theorem tail_dq (i : Fin 8208) (y : Fin 1024) :
    (show FVec Ideal S8208x1024 .f32 from after hostOps1 V (Proc.devRef .tc main_v135)) (ix2 i y)
      = (show FVec Ideal S8320x2048 .f32 from V (Proc.devRef .tc main_v120_0)) (ix2 (tok i) (lane (Spec.hd y) (main (Spec.ld y)))) * ((1 / 8 : ℝ) : EReal) := by
  after_reads_at
  refine congrArg₂ (· * ·) (congrArg (fun z => (show FVec Ideal S8320x2048 .f32 from V (Proc.devRef .tc main_v120_0)) (ix2 (tok i) z)) (Fin.ext ?_)) eighth
  exact congrArg (· + y.val % 64) (mul_comm _ _)

theorem tail_dk (i : Fin 8208) (y : Fin 1024) :
    (show FVec Ideal S8208x1024 .f32 from after hostOps1 V (Proc.devRef .tc main_v137)) (ix2 i y)
      = (show FVec Ideal S8320x2048 .f32 from V (Proc.devRef .tc main_v120_1)) (ix2 (tok i) (lane (Spec.hd y) (main (Spec.ld y)))) := by
  after_reads_at
  refine congrArg (fun z => (show FVec Ideal S8320x2048 .f32 from V (Proc.devRef .tc main_v120_1)) (ix2 (tok i) z)) (Fin.ext ?_)
  exact congrArg (· + y.val % 64) (mul_comm _ _)

theorem tail_dv (i : Fin 8208) (y : Fin 1024) :
    (show FVec Ideal S8208x1024 .f32 from after hostOps1 V (Proc.devRef .tc main_v139)) (ix2 i y)
      = (show FVec Ideal S8320x2048 .f32 from V (Proc.devRef .tc main_v120_2)) (ix2 (tok i) (lane (Spec.hd y) (main (Spec.ld y)))) := by
  after_reads_at
  refine congrArg (fun z => (show FVec Ideal S8320x2048 .f32 from V (Proc.devRef .tc main_v120_2)) (ix2 (tok i) z)) (Fin.ext ?_)
  exact congrArg (· + y.val % 64) (mul_comm _ _)

theorem tail_dc (i : Fin 8208) (h : Fin 16) :
    (show FVec Ideal S8208x16 .f32 from after hostOps1 V (Proc.devRef .tc main_v131)) (ix2 i h)
      = (show FVec Ideal S8320x2048 .f32 from V (Proc.devRef .tc main_v120_0)) (ix2 (tok i) (lane h 64))
        - (show FVec Ideal S8320x2048 .f32 from V (Proc.devRef .tc main_v120_1)) (ix2 (tok i) (lane h 67)) := by
  after_reads_at
  refine congrArg₂ (fun z z' => (show FVec Ideal S8320x2048 .f32 from V (Proc.devRef .tc main_v120_0)) (ix2 (tok i) z)
    - (show FVec Ideal S8320x2048 .f32 from V (Proc.devRef .tc main_v120_1)) (ix2 (tok i) z')) (Fin.ext ?_) (Fin.ext ?_)
  · exact congrArg (· + 64) (mul_comm _ _)
  · exact congrArg (· + 67) (mul_comm _ _)

end Tail

include hA

theorem res_dq (i : Fin 8208) (y : Fin 1024) :
    (show FVec Ideal S8208x1024 .f32 from after hostOps1 (left m c) (Proc.devRef .tc main_v135)) (ix2 i y) = (Spec.dq A (Spec.hd y) i (Spec.ld y) : EReal) := by
  refine (tail_dq _ i y).trans ?_
  rw [left_dq]
  refine (congrArg (· * ((1 / 8 : ℝ) : EReal)) (DQ_real m c A hA _ _ _)).trans ?_
  rw [← EReal.coe_mul, dq_main]

theorem res_dk (i : Fin 8208) (y : Fin 1024) :
    (show FVec Ideal S8208x1024 .f32 from after hostOps1 (left m c) (Proc.devRef .tc main_v137)) (ix2 i y) = (Spec.dk A (Spec.hd y) i (Spec.ld y) : EReal) := by
  refine (tail_dk _ i y).trans ?_
  rw [left_dk]
  exact (DK_real m c A hA _ _ _).trans (congrArg _ (dk_main A _ i _))

theorem res_dv (i : Fin 8208) (y : Fin 1024) :
    (show FVec Ideal S8208x1024 .f32 from after hostOps1 (left m c) (Proc.devRef .tc main_v139)) (ix2 i y) = (Spec.dv A (Spec.hd y) i (Spec.ld y) : EReal) := by
  refine (tail_dv _ i y).trans ?_
  rw [left_dv]
  exact (DV_real m c A hA _ _ _).trans (congrArg _ (dv_main A _ i _))

theorem res_dc (i : Fin 8208) (h : Fin 16) :
    (show FVec Ideal S8208x16 .f32 from after hostOps1 (left m c) (Proc.devRef .tc main_v131)) (ix2 i h) = (Spec.dc A h i : EReal) := by
  refine (tail_dc _ i h).trans ?_
  rw [left_dq, left_dk]
  refine (congrArg₂ (· - ·) (DQ_real m c A hA _ _ _) (DK_real m c A hA _ _ _)).trans ?_
  rw [← EReal.coe_sub, dc_main]

omit hA in
/-- Every execution ends with each buffer the launch does not write at what the last lines leave there. -/
theorem run_results (ρ : Dev nD → PrngReg) : θ_run (KernelIdeal.defs (F := Ideal)) (onTc (τ := τ) (KernelIdeal.main (F := Ideal))) ⟨m, fun _ => 0, ρ⟩ fun r =>
    ∀ c : Dev nD, r.2.mem ((c.tc : Thread nD τ).loc main_v135) = after hostOps1 (left m c) (Proc.devRef .tc main_v135)
      ∧ r.2.mem ((c.tc : Thread nD τ).loc main_v137) = after hostOps1 (left m c) (Proc.devRef .tc main_v137)
      ∧ r.2.mem ((c.tc : Thread nD τ).loc main_v139) = after hostOps1 (left m c) (Proc.devRef .tc main_v139)
      ∧ r.2.mem ((c.tc : Thread nD τ).loc main_v131) = after hostOps1 (left m c) (Proc.devRef .tc main_v131) :=
  (θ_run defs _ _).mono (fun _ h c =>
    ⟨(h c).2 main_v135 (Pipeline.mem_restRefs_of main_v135 (by decide) (by decide)), (h c).2 main_v137 (Pipeline.mem_restRefs_of main_v137 (by decide) (by decide)),
      (h c).2 main_v139 (Pipeline.mem_restRefs_of main_v139 (by decide) (by decide)), (h c).2 main_v131 (Pipeline.mem_restRefs_of main_v131 (by decide) (by decide))⟩)
    (run_main m ρ)

end Cert.KernelIdeal.Attn
-- ==== Proof.Attn.Finite.lean ====
module

public import proofs.«01_k».proof.Pre_finite
public import proofs.«01_k».proof.Proof.Gen.Pre_finite
public import proofs.«01_k».proof.Proof.Attn.Spec
public import Idealize.ShloMosaic.Lib.ReduceAll
public import Idealize.ShloMosaic.Lib.Pointwise
public import Idealize.ShloMosaic.Lib.WordCmp

@[expose] public section

set_option maxRecDepth 16384

noncomputable section

namespace Cert.Pre_finite

open Idealize.ShloMosaic Idealize.ShloMosaic.Tactic
open Cert.Spec (Args)

/-! # The precondition read back: the arguments hold real numbers -/

theorem infinity : Ideal.ofBits .f32 2139095040#32 = ⊤ := by
  simp [Ideal.ofBits, Ideal.ieee]

/-- A number whose absolute value is below infinity is real. -/
theorem real_of_abs (x : EReal) (h : max x (-x) < ⊤) : x = (x.toReal : EReal) := by
  have h₁ : x ≠ ⊤ := fun e => by rw [e] at h; simp at h
  have h₂ : x ≠ ⊥ := fun e => by rw [e] at h; simp at h
  exact (EReal.coe_toReal h₁ h₂).symm

theorem real_of_cmp (x : EReal) (h : Ideal.cmp .olt (max x (-x)) (Ideal.ofBits .f32 2139095040#32) = 1#1) : x = (x.toReal : EReal) := by
  rw [infinity] at h
  refine real_of_abs x ?_
  by_contra hn
  simp [Ideal.cmp, hn] at h

instance : Subsingleton S_.Idx := ⟨fun a b => funext fun i => absurd i.isLt (Nat.not_lt_zero _)⟩

/-- `all(|x| < inf)` says that every element is real. -/
theorem real_of_all {s : Shape} {axes : List (Fin s.rank)} (x : FVec Ideal s .f32) (hb : S_.BroadcastsInDim s (![] : Fin 0 → Fin s.rank)) (hr : s.ReducesTo axes S_)
    (h : Host.reduce IntOp.andi (cmpf .olt (Host.absf x) (broadcastInDim s ![] hb (constant S_ .f32 0x7F800000#32 : FVec Ideal S_ .f32))) (constantI S_ 1 1#1) hr Gen.facts.h_S_ ix0 = 1#1)
    (i : s.Idx) : x i = ((show EReal from x i).toReal : EReal) :=
  real_of_cmp _ (Host.reduce_andi_all _ _ _ _ _ h i)

theorem both (a b : IVec S_ 1) (h : andi a b ix0 = 1#1) : a ix0 = 1#1 ∧ b ix0 = 1#1 := IntOp.andi_eq_one.1 h

/-- The arguments as real numbers. -/
def args (q k v : FVec Ideal S8208x1024 .f32) (c : FVec Ideal S8208x16 .f32) (w : FVec Ideal S8208x1024 .f32) : Args where
  q i y := EReal.toReal (q (ix2 i y))
  k i y := EReal.toReal (k (ix2 i y))
  v i y := EReal.toReal (v (ix2 i y))
  c i h := EReal.toReal (c (ix2 i h))
  w i y := EReal.toReal (w (ix2 i y))

theorem real_args (q k v : FVec Ideal S8208x1024 .f32) (c : FVec Ideal S8208x16 .f32) (w : FVec Ideal S8208x1024 .f32)
    (h : fn (F := Ideal) q k v c w = fun _ => 1#1) :
    (∀ i, q i = ((show EReal from q i).toReal : EReal)) ∧ (∀ i, k i = ((show EReal from k i).toReal : EReal)) ∧ (∀ i, v i = ((show EReal from v i).toReal : EReal))
      ∧ (∀ i, c i = ((show EReal from c i).toReal : EReal)) ∧ (∀ i, w i = ((show EReal from w i).toReal : EReal)) := by
  have h0 := congrFun h ix0
  dsimp only [fn, fn_part1] at h0
  obtain ⟨h1, hw⟩ := both _ _ h0
  obtain ⟨h2, hc⟩ := both _ _ h1
  obtain ⟨h3, hv⟩ := both _ _ h2
  obtain ⟨hq, hk⟩ := both _ _ h3
  exact ⟨real_of_all q _ _ hq, real_of_all k _ _ hk, real_of_all v _ _ hv, real_of_all c _ _ hc, real_of_all w _ _ hw⟩

end Cert.Pre_finite
-- ==== Proof.Prod.Common.lean ====
module

public import Idealize.ShloMosaic.Lib.Pipeline.ValueKit

@[expose] public section

noncomputable section

namespace Cert.Prod

open Idealize.ShloMosaic

/-! # What the products of the step share: a tile of the result is summed over the blocks of the contracted axis -/

variable {N nk tk K : ℕ} [NeZero nk] {ι : Type}

/-- Lane `k` of the block of the contracted axis that a point works on. -/
def mid (hK : K = nk * tk) (t : Fin N) (k : Fin tk) : Fin K :=
  ⟨t.val % nk * tk + k.val, Fin.mul_add_lt_of_eq_mul hK ⟨t.val % nk, Nat.mod_lt _ (NeZero.pos nk)⟩ k⟩

theorem mid_val (hK : K = nk * tk) (t : Fin N) (k : Fin tk) : (mid hK t k).val = t.val % nk * tk + k.val := rfl

/-- An accumulator that a run of `nk` points starts afresh, each point adding the products of its block, holds after the
    run's last point the sum over the whole contracted axis. `g t k` is the product at place `k` of that axis, for the
    tile that point `t` belongs to. -/
theorem accumulated (hK : K = nk * tk) (f : (n : ℕ) → n < N → ι → EReal) (g : Fin N → Fin K → ι → EReal)
    (hg : ∀ t t' : Fin N, t.val / nk = t'.val / nk → g t = g t')
    (h0 : ∀ t : Fin N, t.val % nk = 0 → ∀ y, f t.val t.isLt y = ∑ k : Fin tk, g t (mid hK t k) y)
    (hs : ∀ t : Fin N, ¬t.val % nk = 0 → ∀ y,
      f t.val t.isLt y = f (t.val - 1) (Nat.lt_of_le_of_lt (Nat.sub_le _ _) t.isLt) y + ∑ k : Fin tk, g t (mid hK t k) y)
    (t : Fin N) (hr : t.val % nk = nk - 1) (y : ι) : f t.val t.isLt y = ∑ k : Fin K, g t k y := by
  rw [Pipeline.eq_sum_fin_of_reset_step_apply_of_flush f nk (fun _ => (0 : EReal)) (fun t y => ∑ k : Fin tk, g t (mid hK t k) y)
    (fun t h y => (h0 t h y).trans (zero_add _).symm) hs t hr y, zero_add]
  refine Fin.sum_mul_add_congr (fun s k hl => ?_) hK
  have hd : (nk * (t.val / nk) + s.val) / nk = t.val / nk := by
    rw [Nat.mul_add_div (NeZero.pos nk), Nat.div_eq_of_lt s.isLt, Nat.add_zero]
  have hm : (nk * (t.val / nk) + s.val) % nk = s.val := by
    rw [Nat.mul_add_mod, Nat.mod_eq_of_lt s.isLt]
  rw [hg ⟨nk * (t.val / nk) + s.val, Pipeline.run_point_lt_of_flush t hr s⟩ t hd]
  exact congrArg (fun k => g t k y) (Fin.ext (by rw [mid_val]; show _ % nk * tk + k.val = _; rw [hm]))

end Cert.Prod
-- ==== Proof.Prod.DWDown.lean ====
module

public import proofs.«01_k».proof.Defs
public import proofs.«01_k».proof.Proof.Gen.Kernel2Ideal.Value
public import proofs.«01_k».proof.Proof.Gen.Reference2Ideal.Read
public import proofs.«01_k».proof.Proof.Prod.Common
public import Idealize.ShloMosaic.Lib.Quiescent
public import Idealize.ShloMosaic.Lib.Tactic

@[expose] public section

set_option maxRecDepth 16384

noncomputable section

namespace Cert.Kernel2Ideal.Prod

open Cert.Kernel2Ideal Cert.Kernel2Ideal.Gen
open Idealize.ShloMosaic Idealize.ShloMosaic.TcCoe Idealize.ShloMosaic.Tactic
open Idealize.ShloMosaic.Pipeline (Dat Cfg Window)

/-! # What the gradient of the down projection's weights holds, over the extended reals -/

/-- One block's product at a place of the tile. -/
theorem pay1_apply (v0 : Vec Ideal S1408x1664 .bf16) (v1 : Vec Ideal S1664x1024 .bf16) (i : Fin 1408) (j : Fin 1024) :
    k0_pay1 v0 v1 (ix2 i j) = ∑ k : Fin 1664, (show FVec Ideal S1408x1664 .bf16 from v0) (ix2 i k) * (show FVec Ideal S1664x1024 .bf16 from v1) (ix2 k j) := by
  unfold k0_pay1
  pointwise

/-- A later point adds its product to the accumulator. -/
theorem pay3_apply (v0 : Vec Ideal S1408x1664 .bf16) (v1 : Vec Ideal S1664x1024 .bf16) (w : Vec Ideal S1408x1024 .f32) (y : S1408x1024.Idx) :
    k0_pay3 v0 v1 w y = (w y + k0_pay1 v0 v1 y : EReal) := by
  unfold k0_pay3
  rw [shapeCast_self]
  rfl

variable (m : (ℓ : Loc nD τ sig) → Buf (Elt Ideal) ℓ)

/-- The two operands. -/
abbrev A (c : Dev nD) : FVec Ideal S2816x8320 .bf16 := m ((c : Thread nD τ).loc main_arg0)
abbrev B (c : Dev nD) : FVec Ideal S8320x1024 .bf16 := m ((c : Thread nD τ).loc main_arg1)

theorem idx0 : ∀ t : Fin cfg0.N, win0_0.index t = ![t.val / 5, t.val % 5] := (by decide +kernel : ∀ t : Fin grid0.N, _)
theorem idx1 : ∀ t : Fin cfg0.N, win0_1.index t = ![t.val % 5, 0] := (by decide +kernel : ∀ t : Fin grid0.N, _)
theorem idx2 : ∀ t : Fin cfg0.N, win0_2.index t = ![t.val / 5, 0] := (by decide +kernel : ∀ t : Fin grid0.N, _)

/-- The row and the column of the result, and the place on the contracted axis, that the lanes of a point's tiles stand for. -/
def row (t : Fin cfg0.N) (i : Fin 1408) : Fin 2816 := ⟨t.val / 5 * 1408 + i.val, by have := lt_of_lt_of_eq t.isLt N_0; omega⟩
def col (t : Fin cfg0.N) (j : Fin 1024) : Fin 1024 := j
abbrev mid (t : Fin cfg0.N) (k : Fin 1664) : Fin 8320 := Cert.Prod.mid (nk := 5) rfl t k

theorem blk0 (c : Dev nD) (t : Fin cfg0.N) (i : Fin 1408) (k : Fin 1664) :
    (show FVec Ideal S1408x1664 .bf16 from iblk m c 0 t) (ix2 i k) = A m c (ix2 (row t i) (mid t k)) := by
  have := lt_of_lt_of_eq t.isLt N_0
  unfold row mid Cert.Prod.mid
  blk_ext [iblk, V, idx0 t]

theorem blk1 (c : Dev nD) (t : Fin cfg0.N) (k : Fin 1664) (j : Fin 1024) :
    (show FVec Ideal S1664x1024 .bf16 from iblk m c 1 t) (ix2 k j) = B m c (ix2 (mid t k) (col t j)) := by
  have := lt_of_lt_of_eq t.isLt N_0
  unfold col mid Cert.Prod.mid
  blk_ext [iblk, V, idx1 t]

theorem emb2 (t : Fin cfg0.N) (i : Fin 1408) (j : Fin 1024) : (win0_2.blk t).view.emb (ix2 i j) = (ix2 (row t i) (col t j) : S2816x1024.Idx) := by
  have := lt_of_lt_of_eq t.isLt N_0
  unfold row col
  blk_ext [idx2 t]

/-- The product at place `k` of the contracted axis, for a lane of a point's tile. -/
def term (c : Dev nD) (t : Fin cfg0.N) (k : Fin 8320) (y : S1408x1024.Idx) : EReal := A m c (ix2 (row t (y 0)) k) * B m c (ix2 k (col t (y 1)))

theorem pay1_term (c : Dev nD) (t : Fin cfg0.N) (y : S1408x1024.Idx) :
    k0_pay1 (iblk m c 0 t) (iblk m c 1 t) y = (∑ k : Fin 1664, term m c t (mid t k) y : EReal) := by
  obtain ⟨i, j, rfl⟩ : ∃ (i : Fin 1408) (j : Fin 1024), y = ix2 i j := ⟨y 0, y 1, eq_ix2 y⟩
  rw [pay1_apply]
  exact Finset.sum_congr rfl fun k _ => by rw [blk0, blk1]; rfl

/-- The accumulator after the first point of a run, -/
theorem scratch_first (c : Dev nD) (t : Fin cfg0.N) (h : t.val % 5 = 0) (y : S1408x1024.Idx) :
    (outsAt0 m c t.val t.isLt).2 y = (∑ k : Fin 1664, term m c t (mid t k) y : EReal) := by
  rw [outsAt0_A m c t h (by omega) (by omega), ← pay1_term]
  frame_out
  unfold k0_pay2
  rw [shapeCast_self]

/-- after a later one, -/
theorem scratch_next (c : Dev nD) (t : Fin cfg0.N) (h : ¬t.val % 5 = 0) (y : S1408x1024.Idx) :
    (outsAt0 m c t.val t.isLt).2 y
      = (outsAt0 m c (t.val - 1) (Nat.lt_of_le_of_lt (Nat.sub_le _ _) t.isLt)).2 y + (∑ k : Fin 1664, term m c t (mid t k) y : EReal) := by
  rw [← pay1_term]
  by_cases h4 : t.val % 5 = 4
  · rw [outsAt0_C m c t h (by omega) h4]
    frame_out
    rw [pay3_apply, (Memref.isWhole_whole _ : scM0_0.IsWhole).read_unread]
  · rw [outsAt0_B m c t h (by omega) h4]
    frame_out
    rw [pay3_apply, (Memref.isWhole_whole _ : scM0_0.IsWhole).read_unread]

/-- and what the last point writes back is the accumulator. -/
theorem written (c : Dev nD) (t : Fin cfg0.N) (h : t.val % 5 = 4) (y : S1408x1024.Idx) :
    (outsAt0 m c t.val t.isLt).1 y = (outsAt0 m c t.val t.isLt).2 y := by
  rw [outsAt0_C m c t (by omega) (by omega) h]
  frame_out
  rfl

/-- A tile's points share its row and its column. -/
theorem term_run (c : Dev nD) (t t' : Fin cfg0.N) (h : t.val / 5 = t'.val / 5) : term m c t = term m c t' := by
  unfold term row col
  simp only [h]

theorem summed (c : Dev nD) (t : Fin cfg0.N) (h : t.val % 5 = 4) (y : S1408x1024.Idx) :
    (outsAt0 m c t.val t.isLt).2 y = (∑ k : Fin 8320, term m c t k y : EReal) :=
  Cert.Prod.accumulated (ι := S1408x1024.Idx) (nk := 5) (tk := 1664) (K := 8320) (N := cfg0.N) (by decide)
    (fun n h y => (show EReal from (outsAt0 m c n h).2 y)) (term m c) (term_run m c)
    (fun t h y => scratch_first m c t h y) (fun t h y => scratch_next m c t h y) t h y

/-- The product. -/
def G (c : Dev nD) : FVec Ideal S2816x1024 .bf16 := fun y => ∑ k : Fin 8320, A m c (ix2 (y 0) k) * B m c (ix2 k (y 1))

/-- The result array holds it. -/
theorem final (c : Dev nD) : (dats m 0 c).arrAt 2 cfg0.N = G m c := by
  refine (dats m 0 c).arrAt_eq_of_covers 2 (G m c) (by decide +kernel) fun t hf y => ?_
  rw [after0_2]
  have h4 : t.val % 5 = 4 := (flush0_2 t).mp hf
  blk_simp
  obtain ⟨i, j, rfl⟩ : ∃ (i : Fin 1408) (j : Fin 1024), y = ix2 i j := ⟨y 0, y 1, eq_ix2 y⟩
  rw [emb2, written m c t h4]
  rw [summed m c t h4]
  rfl

end Cert.Kernel2Ideal.Prod

namespace Cert.Reference2Ideal.Prod

open Cert.Reference2Ideal Cert.Reference2Ideal.Gen
open Idealize.ShloMosaic Idealize.ShloMosaic.TcCoe Idealize.SL.Sem

/-- The reference's result is the same sum. -/
theorem value (x0 : FVec Ideal S2816x8320 .bf16) (x1 : FVec Ideal S8320x1024 .bf16) (y : S2816x1024.Idx) :
    Read.val_main_v9 (F := Ideal) x0 x1 y = ∑ k : Fin 8320, x0 (ix2 (y 0) k) * x1 (ix2 k (y 1)) := by
  rw [Read.val_main_v9_apply, Read.val_main_v6_apply]
  show (Read.val_main_v5 (F := Ideal) x0 x1 _ : EReal) = _
  rw [Read.val_main_v5_apply]
  refine Finset.sum_congr rfl fun k _ => ?_
  rw [Read.val_main_v4_apply, Read.val_main_v2_apply, Read.val_main_v0_apply]
  have e0 : Read.idx_main_v0 (Read.ridx_main_v5 (Read.idx_main_v6 y) k) = ix2 (y 0) k := funext fun a => match a with
    | ⟨0, _⟩ => rfl
    | ⟨1, _⟩ => rfl
  have e1 : Read.lidx_main_v5 (Read.idx_main_v6 y) k = ix2 k (y 1) := funext fun a => match a with
    | ⟨0, _⟩ => rfl
    | ⟨1, _⟩ => rfl
  rw [e0, e1]
  exact mul_comm (G := EReal) _ _

end Cert.Reference2Ideal.Prod

namespace Cert.Proof

open Idealize.ShloMosaic Idealize.ShloMosaic.TcCoe Idealize.SL.Sem

theorem dwdown : Cert.algebraic_Kernel2Ideal_Reference2Ideal (hKernel2Ideal := Kernel2Ideal.Gen.facts)
    (hReference2Ideal := Reference2Ideal.Gen.facts) := by
  intro m g m' g' _ hargs
  refine ⟨Kernel2Ideal.Prod.G m, ?_, ?_⟩
  · exact (θ_run _ _ _).mono (fun r h c => ⟨((h c).1.trans (Kernel2Ideal.Prod.final m c)), (h c).2⟩)
      (Kernel2Ideal.Value.run_blocks m g)
  · refine (θ_run _ _ _).mono (fun r h c => ⟨((h c).1.trans ?_), (h c).2⟩) (Reference2Ideal.Value.run m' g')
    rw [(hargs c).1, (hargs c).2]
    exact funext fun y => Reference2Ideal.Prod.value _ _ y

end Cert.Proof
-- ==== Proof.Prod.DWUp.lean ====
module

public import proofs.«01_k».proof.Defs
public import proofs.«01_k».proof.Proof.Gen.Kernel3Ideal.Value
public import proofs.«01_k».proof.Proof.Gen.Reference3Ideal.Read
public import proofs.«01_k».proof.Proof.Prod.Common
public import Idealize.ShloMosaic.Lib.Quiescent
public import Idealize.ShloMosaic.Lib.Tactic

@[expose] public section

set_option maxRecDepth 16384

noncomputable section

namespace Cert.Kernel3Ideal.Prod

open Cert.Kernel3Ideal Cert.Kernel3Ideal.Gen
open Idealize.ShloMosaic Idealize.ShloMosaic.TcCoe Idealize.ShloMosaic.Tactic
open Idealize.ShloMosaic.Pipeline (Dat Cfg Window)

/-! # What the gradient of the up projection's weights holds, over the extended reals -/

/-- One block's product at a place of the tile. -/
theorem pay1_apply (v0 : Vec Ideal S1024x1664 .bf16) (v1 : Vec Ideal S1664x1408 .bf16) (i : Fin 1024) (j : Fin 1408) :
    k0_pay1 v0 v1 (ix2 i j) = ∑ k : Fin 1664, (show FVec Ideal S1024x1664 .bf16 from v0) (ix2 i k) * (show FVec Ideal S1664x1408 .bf16 from v1) (ix2 k j) := by
  unfold k0_pay1
  pointwise

/-- A later point adds its product to the accumulator. -/
theorem pay3_apply (v0 : Vec Ideal S1024x1664 .bf16) (v1 : Vec Ideal S1664x1408 .bf16) (w : Vec Ideal S1024x1408 .f32) (y : S1024x1408.Idx) :
    k0_pay3 v0 v1 w y = (w y + k0_pay1 v0 v1 y : EReal) := by
  unfold k0_pay3
  rw [shapeCast_self]
  rfl

variable (m : (ℓ : Loc nD τ sig) → Buf (Elt Ideal) ℓ)

/-- The two operands. -/
abbrev A (c : Dev nD) : FVec Ideal S1024x8320 .bf16 := m ((c : Thread nD τ).loc main_arg0)
abbrev B (c : Dev nD) : FVec Ideal S8320x5632 .bf16 := m ((c : Thread nD τ).loc main_arg1)

theorem idx0 : ∀ t : Fin cfg0.N, win0_0.index t = ![0, t.val % 5] := (by decide +kernel : ∀ t : Fin grid0.N, _)
theorem idx1 : ∀ t : Fin cfg0.N, win0_1.index t = ![t.val % 5, t.val / 5] := (by decide +kernel : ∀ t : Fin grid0.N, _)
theorem idx2 : ∀ t : Fin cfg0.N, win0_2.index t = ![0, t.val / 5] := (by decide +kernel : ∀ t : Fin grid0.N, _)

/-- The row and the column of the result, and the place on the contracted axis, that the lanes of a point's tiles stand for. -/
def row (t : Fin cfg0.N) (i : Fin 1024) : Fin 1024 := i
def col (t : Fin cfg0.N) (j : Fin 1408) : Fin 5632 := ⟨t.val / 5 * 1408 + j.val, by have := lt_of_lt_of_eq t.isLt N_0; omega⟩
abbrev mid (t : Fin cfg0.N) (k : Fin 1664) : Fin 8320 := Cert.Prod.mid (nk := 5) rfl t k

theorem blk0 (c : Dev nD) (t : Fin cfg0.N) (i : Fin 1024) (k : Fin 1664) :
    (show FVec Ideal S1024x1664 .bf16 from iblk m c 0 t) (ix2 i k) = A m c (ix2 (row t i) (mid t k)) := by
  have := lt_of_lt_of_eq t.isLt N_0
  unfold row mid Cert.Prod.mid
  blk_ext [iblk, V, idx0 t]

theorem blk1 (c : Dev nD) (t : Fin cfg0.N) (k : Fin 1664) (j : Fin 1408) :
    (show FVec Ideal S1664x1408 .bf16 from iblk m c 1 t) (ix2 k j) = B m c (ix2 (mid t k) (col t j)) := by
  have := lt_of_lt_of_eq t.isLt N_0
  unfold col mid Cert.Prod.mid
  blk_ext [iblk, V, idx1 t]

theorem emb2 (t : Fin cfg0.N) (i : Fin 1024) (j : Fin 1408) : (win0_2.blk t).view.emb (ix2 i j) = (ix2 (row t i) (col t j) : S1024x5632.Idx) := by
  have := lt_of_lt_of_eq t.isLt N_0
  unfold row col
  blk_ext [idx2 t]

/-- The product at place `k` of the contracted axis, for a lane of a point's tile. -/
def term (c : Dev nD) (t : Fin cfg0.N) (k : Fin 8320) (y : S1024x1408.Idx) : EReal := A m c (ix2 (row t (y 0)) k) * B m c (ix2 k (col t (y 1)))

theorem pay1_term (c : Dev nD) (t : Fin cfg0.N) (y : S1024x1408.Idx) :
    k0_pay1 (iblk m c 0 t) (iblk m c 1 t) y = (∑ k : Fin 1664, term m c t (mid t k) y : EReal) := by
  obtain ⟨i, j, rfl⟩ : ∃ (i : Fin 1024) (j : Fin 1408), y = ix2 i j := ⟨y 0, y 1, eq_ix2 y⟩
  rw [pay1_apply]
  exact Finset.sum_congr rfl fun k _ => by rw [blk0, blk1]; rfl

/-- The accumulator after the first point of a run, -/
theorem scratch_first (c : Dev nD) (t : Fin cfg0.N) (h : t.val % 5 = 0) (y : S1024x1408.Idx) :
    (outsAt0 m c t.val t.isLt).2 y = (∑ k : Fin 1664, term m c t (mid t k) y : EReal) := by
  rw [outsAt0_A m c t h (by omega) (by omega), ← pay1_term]
  frame_out
  unfold k0_pay2
  rw [shapeCast_self]

/-- after a later one, -/
theorem scratch_next (c : Dev nD) (t : Fin cfg0.N) (h : ¬t.val % 5 = 0) (y : S1024x1408.Idx) :
    (outsAt0 m c t.val t.isLt).2 y
      = (outsAt0 m c (t.val - 1) (Nat.lt_of_le_of_lt (Nat.sub_le _ _) t.isLt)).2 y + (∑ k : Fin 1664, term m c t (mid t k) y : EReal) := by
  rw [← pay1_term]
  by_cases h4 : t.val % 5 = 4
  · rw [outsAt0_C m c t h (by omega) h4]
    frame_out
    rw [pay3_apply, (Memref.isWhole_whole _ : scM0_0.IsWhole).read_unread]
  · rw [outsAt0_B m c t h (by omega) h4]
    frame_out
    rw [pay3_apply, (Memref.isWhole_whole _ : scM0_0.IsWhole).read_unread]

/-- and what the last point writes back is the accumulator. -/
theorem written (c : Dev nD) (t : Fin cfg0.N) (h : t.val % 5 = 4) (y : S1024x1408.Idx) :
    (outsAt0 m c t.val t.isLt).1 y = (outsAt0 m c t.val t.isLt).2 y := by
  rw [outsAt0_C m c t (by omega) (by omega) h]
  frame_out
  rfl

/-- A tile's points share its row and its column. -/
theorem term_run (c : Dev nD) (t t' : Fin cfg0.N) (h : t.val / 5 = t'.val / 5) : term m c t = term m c t' := by
  unfold term row col
  simp only [h]

theorem summed (c : Dev nD) (t : Fin cfg0.N) (h : t.val % 5 = 4) (y : S1024x1408.Idx) :
    (outsAt0 m c t.val t.isLt).2 y = (∑ k : Fin 8320, term m c t k y : EReal) :=
  Cert.Prod.accumulated (ι := S1024x1408.Idx) (nk := 5) (tk := 1664) (K := 8320) (N := cfg0.N) (by decide)
    (fun n h y => (show EReal from (outsAt0 m c n h).2 y)) (term m c) (term_run m c)
    (fun t h y => scratch_first m c t h y) (fun t h y => scratch_next m c t h y) t h y

/-- The product. -/
def G (c : Dev nD) : FVec Ideal S1024x5632 .bf16 := fun y => ∑ k : Fin 8320, A m c (ix2 (y 0) k) * B m c (ix2 k (y 1))

/-- The result array holds it. -/
theorem final (c : Dev nD) : (dats m 0 c).arrAt 2 cfg0.N = G m c := by
  refine (dats m 0 c).arrAt_eq_of_covers 2 (G m c) (by decide +kernel) fun t hf y => ?_
  rw [after0_2]
  have h4 : t.val % 5 = 4 := (flush0_2 t).mp hf
  blk_simp
  obtain ⟨i, j, rfl⟩ : ∃ (i : Fin 1024) (j : Fin 1408), y = ix2 i j := ⟨y 0, y 1, eq_ix2 y⟩
  rw [emb2, written m c t h4]
  rw [summed m c t h4]
  rfl

end Cert.Kernel3Ideal.Prod

namespace Cert.Reference3Ideal.Prod

open Cert.Reference3Ideal Cert.Reference3Ideal.Gen
open Idealize.ShloMosaic Idealize.ShloMosaic.TcCoe Idealize.SL.Sem

/-- The reference's result is the same sum. -/
theorem value (x0 : FVec Ideal S1024x8320 .bf16) (x1 : FVec Ideal S8320x5632 .bf16) (y : S1024x5632.Idx) :
    Read.val_main_v9 (F := Ideal) x0 x1 y = ∑ k : Fin 8320, x0 (ix2 (y 0) k) * x1 (ix2 k (y 1)) := by
  rw [Read.val_main_v9_apply, Read.val_main_v6_apply]
  show (Read.val_main_v5 (F := Ideal) x0 x1 _ : EReal) = _
  rw [Read.val_main_v5_apply]
  refine Finset.sum_congr rfl fun k _ => ?_
  rw [Read.val_main_v4_apply, Read.val_main_v2_apply, Read.val_main_v0_apply]
  have e0 : Read.idx_main_v0 (Read.ridx_main_v5 (Read.idx_main_v6 y) k) = ix2 (y 0) k := funext fun a => match a with
    | ⟨0, _⟩ => rfl
    | ⟨1, _⟩ => rfl
  have e1 : Read.lidx_main_v5 (Read.idx_main_v6 y) k = ix2 k (y 1) := funext fun a => match a with
    | ⟨0, _⟩ => rfl
    | ⟨1, _⟩ => rfl
  rw [e0, e1]
  exact mul_comm (G := EReal) _ _

end Cert.Reference3Ideal.Prod

namespace Cert.Proof

open Idealize.ShloMosaic Idealize.ShloMosaic.TcCoe Idealize.SL.Sem

theorem dwup : Cert.algebraic_Kernel3Ideal_Reference3Ideal (hKernel3Ideal := Kernel3Ideal.Gen.facts)
    (hReference3Ideal := Reference3Ideal.Gen.facts) := by
  intro m g m' g' _ hargs
  refine ⟨Kernel3Ideal.Prod.G m, ?_, ?_⟩
  · exact (θ_run _ _ _).mono (fun r h c => ⟨((h c).1.trans (Kernel3Ideal.Prod.final m c)), (h c).2⟩)
      (Kernel3Ideal.Value.run_blocks m g)
  · refine (θ_run _ _ _).mono (fun r h c => ⟨((h c).1.trans ?_), (h c).2⟩) (Reference3Ideal.Value.run m' g')
    rw [(hargs c).1, (hargs c).2]
    exact funext fun y => Reference3Ideal.Prod.value _ _ y

end Cert.Proof
-- ==== Proof.Prod.DAct.lean ====
module

public import proofs.«01_k».proof.Defs
public import proofs.«01_k».proof.Proof.Gen.Kernel4Ideal.Value
public import proofs.«01_k».proof.Proof.Gen.Reference4Ideal.Read
public import proofs.«01_k».proof.Proof.Prod.Common
public import Idealize.ShloMosaic.Lib.Quiescent
public import Idealize.ShloMosaic.Lib.Tactic

@[expose] public section

set_option maxRecDepth 16384

noncomputable section

namespace Cert.Kernel4Ideal.Prod

open Cert.Kernel4Ideal Cert.Kernel4Ideal.Gen
open Idealize.ShloMosaic Idealize.ShloMosaic.TcCoe Idealize.ShloMosaic.Tactic
open Idealize.ShloMosaic.Pipeline (Dat Cfg Window)

/-! # What the gradient of the down projection's input holds, over the extended reals -/

/-- One block's product at a place of the tile. -/
theorem pay1_apply (v0 : Vec Ideal S1664x1024 .bf16) (v1 : Vec Ideal S1x1408x1024 .bf16) (i : Fin 1664) (j : Fin 1408) :
    k0_pay1 v0 v1 (ix2 i j) = ∑ k : Fin 1024, (show FVec Ideal S1664x1024 .bf16 from v0) (ix2 i k) * (show FVec Ideal S1x1408x1024 .bf16 from v1) (ix3 0 j k) := by
  unfold k0_pay1
  pointwise

variable (m : (ℓ : Loc nD τ sig) → Buf (Elt Ideal) ℓ)

/-- The two operands. -/
abbrev A (c : Dev nD) : FVec Ideal S8320x1024 .bf16 := m ((c : Thread nD τ).loc main_arg0)
abbrev B (c : Dev nD) : FVec Ideal S4x2816x1024 .bf16 := m ((c : Thread nD τ).loc main_arg1)

theorem idx0 : ∀ t : Fin cfg0.N, win0_0.index t = ![t.val / 2, 0] := (by decide +kernel : ∀ t : Fin grid0.N, _)
theorem idx1 : ∀ t : Fin cfg0.N, win0_1.index t = ![0, t.val % 2, 0] := (by decide +kernel : ∀ t : Fin grid0.N, _)
theorem idx2 : ∀ t : Fin cfg0.N, win0_2.index t = ![t.val / 2, t.val % 2] := (by decide +kernel : ∀ t : Fin grid0.N, _)

/-- The row and the column of the resultthat the lanes of a point's tiles stand for. -/
def row (t : Fin cfg0.N) (i : Fin 1664) : Fin 8320 := ⟨t.val / 2 * 1664 + i.val, by have := lt_of_lt_of_eq t.isLt N_0; omega⟩
def col (t : Fin cfg0.N) (j : Fin 1408) : Fin 2816 := ⟨t.val % 2 * 1408 + j.val, by omega⟩

theorem blk0 (c : Dev nD) (t : Fin cfg0.N) (i : Fin 1664) (k : Fin 1024) :
    (show FVec Ideal S1664x1024 .bf16 from iblk m c 0 t) (ix2 i k) = A m c (ix2 (row t i) k) := by
  have := lt_of_lt_of_eq t.isLt N_0
  unfold row
  blk_ext [iblk, V, idx0 t]

theorem blk1 (c : Dev nD) (t : Fin cfg0.N) (k : Fin 1024) (j : Fin 1408) :
    (show FVec Ideal S1x1408x1024 .bf16 from iblk m c 1 t) (ix3 0 j k) = B m c (ix3 0 (col t j) k) := by
  have := lt_of_lt_of_eq t.isLt N_0
  unfold col
  blk_ext [iblk, V, idx1 t]

theorem emb2 (t : Fin cfg0.N) (i : Fin 1664) (j : Fin 1408) : (win0_2.blk t).view.emb (ix2 i j) = (ix2 (row t i) (col t j) : S8320x2816.Idx) := by
  have := lt_of_lt_of_eq t.isLt N_0
  unfold row col
  blk_ext [idx2 t]

/-- The product at place `k` of the contracted axis, for a lane of a point's tile. -/
def term (c : Dev nD) (t : Fin cfg0.N) (k : Fin 1024) (y : S1664x1408.Idx) : EReal := A m c (ix2 (row t (y 0)) k) * B m c (ix3 0 (col t (y 1)) k)

theorem pay1_term (c : Dev nD) (t : Fin cfg0.N) (y : S1664x1408.Idx) :
    k0_pay1 (iblk m c 0 t) (iblk m c 1 t) y = (∑ k : Fin 1024, term m c t k y : EReal) := by
  obtain ⟨i, j, rfl⟩ : ∃ (i : Fin 1664) (j : Fin 1408), y = ix2 i j := ⟨y 0, y 1, eq_ix2 y⟩
  rw [pay1_apply]
  exact Finset.sum_congr rfl fun k _ => by rw [blk0, blk1]; rfl

/-- What a point writes back. -/
theorem written (c : Dev nD) (t : Fin cfg0.N) (y : S1664x1408.Idx) :
    outsAt0 m c t y = (∑ k : Fin 1024, term m c t k y : EReal) := by
  rw [← pay1_term]
  unfold outsAt0
  frame_out
  show k0_pay2 (F := Ideal) (iblk m c 0 t) (iblk m c 1 t) y = _
  unfold k0_pay2
  rw [shapeCast_self]

/-- The product. -/
def G (c : Dev nD) : FVec Ideal S8320x2816 .bf16 := fun y => ∑ k : Fin 1024, A m c (ix2 (y 0) k) * B m c (ix3 0 (y 1) k)

/-- The result array holds it. -/
theorem final (c : Dev nD) : (dats m 0 c).arrAt 2 cfg0.N = G m c := by
  refine (dats m 0 c).arrAt_eq_of_covers 2 (G m c) (by decide +kernel) fun t hf y => ?_
  rw [after0_2]
  blk_simp
  obtain ⟨i, j, rfl⟩ : ∃ (i : Fin 1664) (j : Fin 1408), y = ix2 i j := ⟨y 0, y 1, eq_ix2 y⟩
  rw [emb2, written m c t]
  rfl

end Cert.Kernel4Ideal.Prod

namespace Cert.Reference4Ideal.Prod

open Cert.Reference4Ideal Cert.Reference4Ideal.Gen
open Idealize.ShloMosaic Idealize.ShloMosaic.TcCoe Idealize.SL.Sem

/-- The reference's result is the same sum. -/
theorem value (x0 : FVec Ideal S8320x1024 .bf16) (x1 : FVec Ideal S4x2816x1024 .bf16) (y : S8320x2816.Idx) :
    Read.val_main_v9 (F := Ideal) x0 x1 y = ∑ k : Fin 1024, x0 (ix2 (y 0) k) * x1 (ix3 0 (y 1) k) := by
  rw [Read.val_main_v9_apply]
  show (Read.val_main_v8 (F := Ideal) x0 x1 y : EReal) = _
  rw [Read.val_main_v8_apply]
  refine Finset.sum_congr rfl fun k _ => ?_
  rw [Read.val_main_v5_apply, Read.val_main_v3_apply, Read.val_main_v2_apply, Read.val_main_v1_apply]
  have e0 : Read.lidx_main_v8 y k = ix2 (y 0) k := funext fun a => match a with
    | ⟨0, _⟩ => rfl
    | ⟨1, _⟩ => rfl
  have hj : (y 1).val < 2816 := (y 1).isLt
  have hk : k.val < 1024 := k.isLt
  have e1 : Read.idx_main_v1 (Read.idx_main_v2 (Read.ridx_main_v8 y k)) = ix3 0 (y 1) k := funext fun a => match a with
    | ⟨0, _⟩ => rfl
    | ⟨1, _⟩ => Fin.ext (by show ((y 1).val * 1024 + k.val) / 1024 % 2816 = (y 1).val; omega)
    | ⟨2, _⟩ => Fin.ext (by show ((y 1).val * 1024 + k.val) % 1024 = k.val; omega)
  rw [e0, e1]
  rfl

end Cert.Reference4Ideal.Prod

namespace Cert.Proof

open Idealize.ShloMosaic Idealize.ShloMosaic.TcCoe Idealize.SL.Sem

theorem dact : Cert.algebraic_Kernel4Ideal_Reference4Ideal (hKernel4Ideal := Kernel4Ideal.Gen.facts)
    (hReference4Ideal := Reference4Ideal.Gen.facts) := by
  intro m g m' g' _ hargs
  refine ⟨Kernel4Ideal.Prod.G m, ?_, ?_⟩
  · exact (θ_run _ _ _).mono (fun r h c => ⟨((h c).1.trans (Kernel4Ideal.Prod.final m c)), (h c).2⟩)
      (Kernel4Ideal.Value.run_blocks m g)
  · refine (θ_run _ _ _).mono (fun r h c => ⟨((h c).1.trans ?_), (h c).2⟩) (Reference4Ideal.Value.run m' g')
    rw [(hargs c).1, (hargs c).2]
    exact funext fun y => Reference4Ideal.Prod.value _ _ y

end Cert.Proof
-- ==== Proof.Prod.DB.lean ====
module

public import proofs.«01_k».proof.Defs
public import proofs.«01_k».proof.Proof.Gen.Kernel5Ideal.Value
public import proofs.«01_k».proof.Proof.Gen.Reference5Ideal.Read
public import proofs.«01_k».proof.Proof.Prod.Common
public import Idealize.ShloMosaic.Lib.Quiescent
public import Idealize.ShloMosaic.Lib.Tactic

@[expose] public section

set_option maxRecDepth 16384

noncomputable section

namespace Cert.Kernel5Ideal.Prod

open Cert.Kernel5Ideal Cert.Kernel5Ideal.Gen
open Idealize.ShloMosaic Idealize.ShloMosaic.TcCoe Idealize.ShloMosaic.Tactic
open Idealize.ShloMosaic.Pipeline (Dat Cfg Window)

/-! # What the gradient of the up projection's input holds, over the extended reals -/

/-- One block's product at a place of the tile. -/
theorem pay1_apply (v0 : Vec Ideal S1664x1408 .bf16) (v1 : Vec Ideal S1x1024x1408 .bf16) (i : Fin 1664) (j : Fin 1024) :
    k0_pay1 v0 v1 (ix2 i j) = ∑ k : Fin 1408, (show FVec Ideal S1664x1408 .bf16 from v0) (ix2 i k) * (show FVec Ideal S1x1024x1408 .bf16 from v1) (ix3 0 j k) := by
  unfold k0_pay1
  pointwise

/-- A later point adds its product to the accumulator. -/
theorem pay3_apply (v0 : Vec Ideal S1664x1408 .bf16) (v1 : Vec Ideal S1x1024x1408 .bf16) (w : Vec Ideal S1664x1024 .f32) (y : S1664x1024.Idx) :
    k0_pay3 v0 v1 w y = (w y + k0_pay1 v0 v1 y : EReal) := by
  unfold k0_pay3
  rw [shapeCast_self]
  rfl

variable (m : (ℓ : Loc nD τ sig) → Buf (Elt Ideal) ℓ)

/-- The two operands. -/
abbrev A (c : Dev nD) : FVec Ideal S8320x5632 .bf16 := m ((c : Thread nD τ).loc main_arg0)
abbrev B (c : Dev nD) : FVec Ideal S4x1024x5632 .bf16 := m ((c : Thread nD τ).loc main_arg1)

theorem idx0 : ∀ t : Fin cfg0.N, win0_0.index t = ![t.val / 4, t.val % 4] := (by decide +kernel : ∀ t : Fin grid0.N, _)
theorem idx1 : ∀ t : Fin cfg0.N, win0_1.index t = ![0, 0, t.val % 4] := (by decide +kernel : ∀ t : Fin grid0.N, _)
theorem idx2 : ∀ t : Fin cfg0.N, win0_2.index t = ![t.val / 4, 0] := (by decide +kernel : ∀ t : Fin grid0.N, _)

/-- The row and the column of the result, and the place on the contracted axis, that the lanes of a point's tiles stand for. -/
def row (t : Fin cfg0.N) (i : Fin 1664) : Fin 8320 := ⟨t.val / 4 * 1664 + i.val, by have := lt_of_lt_of_eq t.isLt N_0; omega⟩
def col (t : Fin cfg0.N) (j : Fin 1024) : Fin 1024 := j
abbrev mid (t : Fin cfg0.N) (k : Fin 1408) : Fin 5632 := Cert.Prod.mid (nk := 4) rfl t k

theorem blk0 (c : Dev nD) (t : Fin cfg0.N) (i : Fin 1664) (k : Fin 1408) :
    (show FVec Ideal S1664x1408 .bf16 from iblk m c 0 t) (ix2 i k) = A m c (ix2 (row t i) (mid t k)) := by
  have := lt_of_lt_of_eq t.isLt N_0
  unfold row mid Cert.Prod.mid
  blk_ext [iblk, V, idx0 t]

theorem blk1 (c : Dev nD) (t : Fin cfg0.N) (k : Fin 1408) (j : Fin 1024) :
    (show FVec Ideal S1x1024x1408 .bf16 from iblk m c 1 t) (ix3 0 j k) = B m c (ix3 0 (col t j) (mid t k)) := by
  have := lt_of_lt_of_eq t.isLt N_0
  unfold col mid Cert.Prod.mid
  blk_ext [iblk, V, idx1 t]

theorem emb2 (t : Fin cfg0.N) (i : Fin 1664) (j : Fin 1024) : (win0_2.blk t).view.emb (ix2 i j) = (ix2 (row t i) (col t j) : S8320x1024.Idx) := by
  have := lt_of_lt_of_eq t.isLt N_0
  unfold row col
  blk_ext [idx2 t]

/-- The product at place `k` of the contracted axis, for a lane of a point's tile. -/
def term (c : Dev nD) (t : Fin cfg0.N) (k : Fin 5632) (y : S1664x1024.Idx) : EReal := A m c (ix2 (row t (y 0)) k) * B m c (ix3 0 (col t (y 1)) k)

theorem pay1_term (c : Dev nD) (t : Fin cfg0.N) (y : S1664x1024.Idx) :
    k0_pay1 (iblk m c 0 t) (iblk m c 1 t) y = (∑ k : Fin 1408, term m c t (mid t k) y : EReal) := by
  obtain ⟨i, j, rfl⟩ : ∃ (i : Fin 1664) (j : Fin 1024), y = ix2 i j := ⟨y 0, y 1, eq_ix2 y⟩
  rw [pay1_apply]
  exact Finset.sum_congr rfl fun k _ => by rw [blk0, blk1]; rfl

/-- The accumulator after the first point of a run, -/
theorem scratch_first (c : Dev nD) (t : Fin cfg0.N) (h : t.val % 4 = 0) (y : S1664x1024.Idx) :
    (outsAt0 m c t.val t.isLt).2 y = (∑ k : Fin 1408, term m c t (mid t k) y : EReal) := by
  rw [outsAt0_A m c t h (by omega) (by omega), ← pay1_term]
  frame_out
  unfold k0_pay2
  rw [shapeCast_self]

/-- after a later one, -/
theorem scratch_next (c : Dev nD) (t : Fin cfg0.N) (h : ¬t.val % 4 = 0) (y : S1664x1024.Idx) :
    (outsAt0 m c t.val t.isLt).2 y
      = (outsAt0 m c (t.val - 1) (Nat.lt_of_le_of_lt (Nat.sub_le _ _) t.isLt)).2 y + (∑ k : Fin 1408, term m c t (mid t k) y : EReal) := by
  rw [← pay1_term]
  by_cases h3 : t.val % 4 = 3
  · rw [outsAt0_C m c t h (by omega) h3]
    frame_out
    rw [pay3_apply, (Memref.isWhole_whole _ : scM0_0.IsWhole).read_unread]
  · rw [outsAt0_B m c t h (by omega) h3]
    frame_out
    rw [pay3_apply, (Memref.isWhole_whole _ : scM0_0.IsWhole).read_unread]

/-- and what the last point writes back is the accumulator. -/
theorem written (c : Dev nD) (t : Fin cfg0.N) (h : t.val % 4 = 3) (y : S1664x1024.Idx) :
    (outsAt0 m c t.val t.isLt).1 y = (outsAt0 m c t.val t.isLt).2 y := by
  rw [outsAt0_C m c t (by omega) (by omega) h]
  frame_out
  rfl

/-- A tile's points share its row and its column. -/
theorem term_run (c : Dev nD) (t t' : Fin cfg0.N) (h : t.val / 4 = t'.val / 4) : term m c t = term m c t' := by
  unfold term row col
  simp only [h]

theorem summed (c : Dev nD) (t : Fin cfg0.N) (h : t.val % 4 = 3) (y : S1664x1024.Idx) :
    (outsAt0 m c t.val t.isLt).2 y = (∑ k : Fin 5632, term m c t k y : EReal) :=
  Cert.Prod.accumulated (ι := S1664x1024.Idx) (nk := 4) (tk := 1408) (K := 5632) (N := cfg0.N) (by decide)
    (fun n h y => (show EReal from (outsAt0 m c n h).2 y)) (term m c) (term_run m c)
    (fun t h y => scratch_first m c t h y) (fun t h y => scratch_next m c t h y) t h y

/-- The product. -/
def G (c : Dev nD) : FVec Ideal S8320x1024 .bf16 := fun y => ∑ k : Fin 5632, A m c (ix2 (y 0) k) * B m c (ix3 0 (y 1) k)

/-- The result array holds it. -/
theorem final (c : Dev nD) : (dats m 0 c).arrAt 2 cfg0.N = G m c := by
  refine (dats m 0 c).arrAt_eq_of_covers 2 (G m c) (by decide +kernel) fun t hf y => ?_
  rw [after0_2]
  have h3 : t.val % 4 = 3 := (flush0_2 t).mp hf
  blk_simp
  obtain ⟨i, j, rfl⟩ : ∃ (i : Fin 1664) (j : Fin 1024), y = ix2 i j := ⟨y 0, y 1, eq_ix2 y⟩
  rw [emb2, written m c t h3]
  rw [summed m c t h3]
  rfl

end Cert.Kernel5Ideal.Prod

namespace Cert.Reference5Ideal.Prod

open Cert.Reference5Ideal Cert.Reference5Ideal.Gen
open Idealize.ShloMosaic Idealize.ShloMosaic.TcCoe Idealize.SL.Sem

/-- The reference's result is the same sum. -/
theorem value (x0 : FVec Ideal S8320x5632 .bf16) (x1 : FVec Ideal S4x1024x5632 .bf16) (y : S8320x1024.Idx) :
    Read.val_main_v9 (F := Ideal) x0 x1 y = ∑ k : Fin 5632, x0 (ix2 (y 0) k) * x1 (ix3 0 (y 1) k) := by
  rw [Read.val_main_v9_apply]
  show (Read.val_main_v8 (F := Ideal) x0 x1 y : EReal) = _
  rw [Read.val_main_v8_apply]
  refine Finset.sum_congr rfl fun k _ => ?_
  rw [Read.val_main_v5_apply, Read.val_main_v3_apply, Read.val_main_v2_apply, Read.val_main_v1_apply]
  have e0 : Read.lidx_main_v8 y k = ix2 (y 0) k := funext fun a => match a with
    | ⟨0, _⟩ => rfl
    | ⟨1, _⟩ => rfl
  have hj : (y 1).val < 1024 := (y 1).isLt
  have hk : k.val < 5632 := k.isLt
  have e1 : Read.idx_main_v1 (Read.idx_main_v2 (Read.ridx_main_v8 y k)) = ix3 0 (y 1) k := funext fun a => match a with
    | ⟨0, _⟩ => rfl
    | ⟨1, _⟩ => Fin.ext (by show ((y 1).val * 5632 + k.val) / 5632 % 1024 = (y 1).val; omega)
    | ⟨2, _⟩ => Fin.ext (by show ((y 1).val * 5632 + k.val) % 5632 = k.val; omega)
  rw [e0, e1]
  rfl

end Cert.Reference5Ideal.Prod

namespace Cert.Proof

open Idealize.ShloMosaic Idealize.ShloMosaic.TcCoe Idealize.SL.Sem

theorem db : Cert.algebraic_Kernel5Ideal_Reference5Ideal (hKernel5Ideal := Kernel5Ideal.Gen.facts)
    (hReference5Ideal := Reference5Ideal.Gen.facts) := by
  intro m g m' g' _ hargs
  refine ⟨Kernel5Ideal.Prod.G m, ?_, ?_⟩
  · exact (θ_run _ _ _).mono (fun r h c => ⟨((h c).1.trans (Kernel5Ideal.Prod.final m c)), (h c).2⟩)
      (Kernel5Ideal.Value.run_blocks m g)
  · refine (θ_run _ _ _).mono (fun r h c => ⟨((h c).1.trans ?_), (h c).2⟩) (Reference5Ideal.Value.run m' g')
    rw [(hargs c).1, (hargs c).2]
    exact funext fun y => Reference5Ideal.Prod.value _ _ y

end Cert.Proof
-- ==== Proof.Prod.DW.lean ====
module

public import proofs.«01_k».proof.Defs
public import proofs.«01_k».proof.Proof.Gen.Kernel6Ideal.Value
public import proofs.«01_k».proof.Proof.Gen.Reference6Ideal.Read
public import proofs.«01_k».proof.Proof.Prod.Common
public import Idealize.ShloMosaic.Lib.Quiescent
public import Idealize.ShloMosaic.Lib.Tactic

@[expose] public section

set_option maxRecDepth 16384

noncomputable section

namespace Cert.Kernel6Ideal.Prod

open Cert.Kernel6Ideal Cert.Kernel6Ideal.Gen
open Idealize.ShloMosaic Idealize.ShloMosaic.TcCoe Idealize.ShloMosaic.Tactic
open Idealize.ShloMosaic.Pipeline (Dat Cfg Window)

/-! # What the gradient of the mixers' first weights holds, over the extended reals -/

/-- One block's product at a place of the tile. -/
theorem pay1_apply (v0 : Vec Ideal S1024x1664 .bf16) (v1 : Vec Ideal S1664x1024 .bf16) (i : Fin 1024) (j : Fin 1024) :
    k0_pay1 v0 v1 (ix2 i j) = ∑ k : Fin 1664, (show FVec Ideal S1024x1664 .bf16 from v0) (ix2 i k) * (show FVec Ideal S1664x1024 .bf16 from v1) (ix2 k j) := by
  unfold k0_pay1
  pointwise

/-- A later point adds its product to the accumulator. -/
theorem pay3_apply (v0 : Vec Ideal S1024x1664 .bf16) (v1 : Vec Ideal S1664x1024 .bf16) (w : Vec Ideal S1024x1024 .f32) (y : S1024x1024.Idx) :
    k0_pay3 v0 v1 w y = (w y + k0_pay1 v0 v1 y : EReal) := by
  unfold k0_pay3
  rw [shapeCast_self]
  rfl

variable (m : (ℓ : Loc nD τ sig) → Buf (Elt Ideal) ℓ)

/-- The two operands. -/
abbrev A (c : Dev nD) : FVec Ideal S1024x8320 .bf16 := m ((c : Thread nD τ).loc main_arg0)
abbrev B (c : Dev nD) : FVec Ideal S8320x4096 .bf16 := m ((c : Thread nD τ).loc main_arg1)

theorem idx0 : ∀ t : Fin cfg0.N, win0_0.index t = ![0, t.val % 5] := (by decide +kernel : ∀ t : Fin grid0.N, _)
theorem idx1 : ∀ t : Fin cfg0.N, win0_1.index t = ![t.val % 5, t.val / 5] := (by decide +kernel : ∀ t : Fin grid0.N, _)
theorem idx2 : ∀ t : Fin cfg0.N, win0_2.index t = ![0, t.val / 5] := (by decide +kernel : ∀ t : Fin grid0.N, _)

/-- The row and the column of the result, and the place on the contracted axis, that the lanes of a point's tiles stand for. -/
def row (t : Fin cfg0.N) (i : Fin 1024) : Fin 1024 := i
def col (t : Fin cfg0.N) (j : Fin 1024) : Fin 4096 := ⟨t.val / 5 * 1024 + j.val, by have := lt_of_lt_of_eq t.isLt N_0; omega⟩
abbrev mid (t : Fin cfg0.N) (k : Fin 1664) : Fin 8320 := Cert.Prod.mid (nk := 5) rfl t k

theorem blk0 (c : Dev nD) (t : Fin cfg0.N) (i : Fin 1024) (k : Fin 1664) :
    (show FVec Ideal S1024x1664 .bf16 from iblk m c 0 t) (ix2 i k) = A m c (ix2 (row t i) (mid t k)) := by
  have := lt_of_lt_of_eq t.isLt N_0
  unfold row mid Cert.Prod.mid
  blk_ext [iblk, V, idx0 t]

theorem blk1 (c : Dev nD) (t : Fin cfg0.N) (k : Fin 1664) (j : Fin 1024) :
    (show FVec Ideal S1664x1024 .bf16 from iblk m c 1 t) (ix2 k j) = B m c (ix2 (mid t k) (col t j)) := by
  have := lt_of_lt_of_eq t.isLt N_0
  unfold col mid Cert.Prod.mid
  blk_ext [iblk, V, idx1 t]

theorem emb2 (t : Fin cfg0.N) (i : Fin 1024) (j : Fin 1024) : (win0_2.blk t).view.emb (ix2 i j) = (ix2 (row t i) (col t j) : S1024x4096.Idx) := by
  have := lt_of_lt_of_eq t.isLt N_0
  unfold row col
  blk_ext [idx2 t]

/-- The product at place `k` of the contracted axis, for a lane of a point's tile. -/
def term (c : Dev nD) (t : Fin cfg0.N) (k : Fin 8320) (y : S1024x1024.Idx) : EReal := A m c (ix2 (row t (y 0)) k) * B m c (ix2 k (col t (y 1)))

theorem pay1_term (c : Dev nD) (t : Fin cfg0.N) (y : S1024x1024.Idx) :
    k0_pay1 (iblk m c 0 t) (iblk m c 1 t) y = (∑ k : Fin 1664, term m c t (mid t k) y : EReal) := by
  obtain ⟨i, j, rfl⟩ : ∃ (i : Fin 1024) (j : Fin 1024), y = ix2 i j := ⟨y 0, y 1, eq_ix2 y⟩
  rw [pay1_apply]
  exact Finset.sum_congr rfl fun k _ => by rw [blk0, blk1]; rfl

/-- The accumulator after the first point of a run, -/
theorem scratch_first (c : Dev nD) (t : Fin cfg0.N) (h : t.val % 5 = 0) (y : S1024x1024.Idx) :
    (outsAt0 m c t.val t.isLt).2 y = (∑ k : Fin 1664, term m c t (mid t k) y : EReal) := by
  rw [outsAt0_A m c t h (by omega) (by omega), ← pay1_term]
  frame_out
  unfold k0_pay2
  rw [shapeCast_self]

/-- after a later one, -/
theorem scratch_next (c : Dev nD) (t : Fin cfg0.N) (h : ¬t.val % 5 = 0) (y : S1024x1024.Idx) :
    (outsAt0 m c t.val t.isLt).2 y
      = (outsAt0 m c (t.val - 1) (Nat.lt_of_le_of_lt (Nat.sub_le _ _) t.isLt)).2 y + (∑ k : Fin 1664, term m c t (mid t k) y : EReal) := by
  rw [← pay1_term]
  by_cases h4 : t.val % 5 = 4
  · rw [outsAt0_C m c t h (by omega) h4]
    frame_out
    rw [pay3_apply, (Memref.isWhole_whole _ : scM0_0.IsWhole).read_unread]
  · rw [outsAt0_B m c t h (by omega) h4]
    frame_out
    rw [pay3_apply, (Memref.isWhole_whole _ : scM0_0.IsWhole).read_unread]

/-- and what the last point writes back is the accumulator. -/
theorem written (c : Dev nD) (t : Fin cfg0.N) (h : t.val % 5 = 4) (y : S1024x1024.Idx) :
    (outsAt0 m c t.val t.isLt).1 y = (outsAt0 m c t.val t.isLt).2 y := by
  rw [outsAt0_C m c t (by omega) (by omega) h]
  frame_out
  rfl

/-- A tile's points share its row and its column. -/
theorem term_run (c : Dev nD) (t t' : Fin cfg0.N) (h : t.val / 5 = t'.val / 5) : term m c t = term m c t' := by
  unfold term row col
  simp only [h]

theorem summed (c : Dev nD) (t : Fin cfg0.N) (h : t.val % 5 = 4) (y : S1024x1024.Idx) :
    (outsAt0 m c t.val t.isLt).2 y = (∑ k : Fin 8320, term m c t k y : EReal) :=
  Cert.Prod.accumulated (ι := S1024x1024.Idx) (nk := 5) (tk := 1664) (K := 8320) (N := cfg0.N) (by decide)
    (fun n h y => (show EReal from (outsAt0 m c n h).2 y)) (term m c) (term_run m c)
    (fun t h y => scratch_first m c t h y) (fun t h y => scratch_next m c t h y) t h y

/-- The product. -/
def G (c : Dev nD) : FVec Ideal S1024x4096 .bf16 := fun y => ∑ k : Fin 8320, A m c (ix2 (y 0) k) * B m c (ix2 k (y 1))

/-- The result array holds it. -/
theorem final (c : Dev nD) : (dats m 0 c).arrAt 2 cfg0.N = G m c := by
  refine (dats m 0 c).arrAt_eq_of_covers 2 (G m c) (by decide +kernel) fun t hf y => ?_
  rw [after0_2]
  have h4 : t.val % 5 = 4 := (flush0_2 t).mp hf
  blk_simp
  obtain ⟨i, j, rfl⟩ : ∃ (i : Fin 1024) (j : Fin 1024), y = ix2 i j := ⟨y 0, y 1, eq_ix2 y⟩
  rw [emb2, written m c t h4]
  rw [summed m c t h4]
  rfl

end Cert.Kernel6Ideal.Prod

namespace Cert.Reference6Ideal.Prod

open Cert.Reference6Ideal Cert.Reference6Ideal.Gen
open Idealize.ShloMosaic Idealize.ShloMosaic.TcCoe Idealize.SL.Sem

/-- The reference's result is the same sum. -/
theorem value (x0 : FVec Ideal S1024x8320 .bf16) (x1 : FVec Ideal S8320x4096 .bf16) (y : S1024x4096.Idx) :
    Read.val_main_v9 (F := Ideal) x0 x1 y = ∑ k : Fin 8320, x0 (ix2 (y 0) k) * x1 (ix2 k (y 1)) := by
  rw [Read.val_main_v9_apply, Read.val_main_v6_apply]
  show (Read.val_main_v5 (F := Ideal) x0 x1 _ : EReal) = _
  rw [Read.val_main_v5_apply]
  refine Finset.sum_congr rfl fun k _ => ?_
  rw [Read.val_main_v4_apply, Read.val_main_v2_apply, Read.val_main_v0_apply]
  have e0 : Read.idx_main_v0 (Read.ridx_main_v5 (Read.idx_main_v6 y) k) = ix2 (y 0) k := funext fun a => match a with
    | ⟨0, _⟩ => rfl
    | ⟨1, _⟩ => rfl
  have e1 : Read.lidx_main_v5 (Read.idx_main_v6 y) k = ix2 k (y 1) := funext fun a => match a with
    | ⟨0, _⟩ => rfl
    | ⟨1, _⟩ => rfl
  rw [e0, e1]
  exact mul_comm (G := EReal) _ _

end Cert.Reference6Ideal.Prod

namespace Cert.Proof

open Idealize.ShloMosaic Idealize.ShloMosaic.TcCoe Idealize.SL.Sem

theorem dw : Cert.algebraic_Kernel6Ideal_Reference6Ideal (hKernel6Ideal := Kernel6Ideal.Gen.facts)
    (hReference6Ideal := Reference6Ideal.Gen.facts) := by
  intro m g m' g' _ hargs
  refine ⟨Kernel6Ideal.Prod.G m, ?_, ?_⟩
  · exact (θ_run _ _ _).mono (fun r h c => ⟨((h c).1.trans (Kernel6Ideal.Prod.final m c)), (h c).2⟩)
      (Kernel6Ideal.Value.run_blocks m g)
  · refine (θ_run _ _ _).mono (fun r h c => ⟨((h c).1.trans ?_), (h c).2⟩) (Reference6Ideal.Value.run m' g')
    rw [(hargs c).1, (hargs c).2]
    exact funext fun y => Reference6Ideal.Prod.value _ _ y

end Cert.Proof
-- ==== Proof.Prod.DA.lean ====
module

public import proofs.«01_k».proof.Defs
public import proofs.«01_k».proof.Proof.Gen.Kernel7Ideal.Value
public import proofs.«01_k».proof.Proof.Gen.Reference7Ideal.Read
public import proofs.«01_k».proof.Proof.Prod.Common
public import Idealize.ShloMosaic.Lib.Quiescent
public import Idealize.ShloMosaic.Lib.Tactic

@[expose] public section

set_option maxRecDepth 16384

noncomputable section

namespace Cert.Kernel7Ideal.Prod

open Cert.Kernel7Ideal Cert.Kernel7Ideal.Gen
open Idealize.ShloMosaic Idealize.ShloMosaic.TcCoe Idealize.ShloMosaic.Tactic
open Idealize.ShloMosaic.Pipeline (Dat Cfg Window)

/-! # What the gradient of the attention's input holds, over the extended reals -/

/-- One block's product at a place of the tile. -/
theorem pay1_apply (v0 : Vec Ideal S1664x1024 .bf16) (v1 : Vec Ideal S1x1024x1024 .bf16) (i : Fin 1664) (j : Fin 1024) :
    k0_pay1 v0 v1 (ix2 i j) = ∑ k : Fin 1024, (show FVec Ideal S1664x1024 .bf16 from v0) (ix2 i k) * (show FVec Ideal S1x1024x1024 .bf16 from v1) (ix3 0 j k) := by
  unfold k0_pay1
  pointwise

/-- A later point adds its product to the accumulator. -/
theorem pay3_apply (v0 : Vec Ideal S1664x1024 .bf16) (v1 : Vec Ideal S1x1024x1024 .bf16) (w : Vec Ideal S1664x1024 .f32) (y : S1664x1024.Idx) :
    k0_pay3 v0 v1 w y = (w y + k0_pay1 v0 v1 y : EReal) := by
  unfold k0_pay3
  rw [shapeCast_self]
  rfl

variable (m : (ℓ : Loc nD τ sig) → Buf (Elt Ideal) ℓ)

/-- The two operands and what is added to their product. -/
abbrev A (c : Dev nD) : FVec Ideal S8320x4096 .bf16 := m ((c : Thread nD τ).loc main_arg0)
abbrev B (c : Dev nD) : FVec Ideal S1x1024x4112 .bf16 := m ((c : Thread nD τ).loc main_arg1)
abbrev D (c : Dev nD) : FVec Ideal S8320x1024 .f32 := m ((c : Thread nD τ).loc main_arg2)

theorem idx0 : ∀ t : Fin cfg0.N, win0_0.index t = ![t.val / 4, t.val % 4] := (by decide +kernel : ∀ t : Fin grid0.N, _)
theorem idx1 : ∀ t : Fin cfg0.N, win0_1.index t = ![0, 0, t.val % 4] := (by decide +kernel : ∀ t : Fin grid0.N, _)
theorem idx2 : ∀ t : Fin cfg0.N, win0_2.index t = ![t.val / 4, 0] := (by decide +kernel : ∀ t : Fin grid0.N, _)
theorem idx3 : ∀ t : Fin cfg0.N, win0_3.index t = ![t.val / 4, 0] := (by decide +kernel : ∀ t : Fin grid0.N, _)

/-- The weights have further columns, which this product does not read. -/
abbrev wide (j : Fin 4096) : Fin 4112 := ⟨j.val, by omega⟩

/-- The row and the column of the result, and the place on the contracted axis, that the lanes of a point's tiles stand for. -/
def row (t : Fin cfg0.N) (i : Fin 1664) : Fin 8320 := ⟨t.val / 4 * 1664 + i.val, by have := lt_of_lt_of_eq t.isLt N_0; omega⟩
def col (t : Fin cfg0.N) (j : Fin 1024) : Fin 1024 := j
abbrev mid (t : Fin cfg0.N) (k : Fin 1024) : Fin 4096 := Cert.Prod.mid (nk := 4) rfl t k

theorem blk0 (c : Dev nD) (t : Fin cfg0.N) (i : Fin 1664) (k : Fin 1024) :
    (show FVec Ideal S1664x1024 .bf16 from iblk m c 0 t) (ix2 i k) = A m c (ix2 (row t i) (mid t k)) := by
  have := lt_of_lt_of_eq t.isLt N_0
  unfold row mid Cert.Prod.mid
  blk_ext [iblk, V, idx0 t]

theorem blk1 (c : Dev nD) (t : Fin cfg0.N) (k : Fin 1024) (j : Fin 1024) :
    (show FVec Ideal S1x1024x1024 .bf16 from X0_1 m c t) (ix3 0 j k) = B m c (ix3 0 (col t j) (wide (mid t k))) := by
  have := lt_of_lt_of_eq t.isLt N_0
  refine (dif_pos (moved0_1 t (ix3 0 j k))).trans ?_
  unfold col mid Cert.Prod.mid
  blk_ext [iblk, V, idx1 t]

theorem blk2 (c : Dev nD) (t : Fin cfg0.N) (i : Fin 1664) (j : Fin 1024) :
    (show FVec Ideal S1664x1024 .f32 from iblk m c 2 t) (ix2 i j) = D m c (ix2 (row t i) (col t j)) := by
  have := lt_of_lt_of_eq t.isLt N_0
  unfold row col
  blk_ext [iblk, V, idx2 t]

theorem emb3 (t : Fin cfg0.N) (i : Fin 1664) (j : Fin 1024) : (win0_3.blk t).view.emb (ix2 i j) = (ix2 (row t i) (col t j) : S8320x1024.Idx) := by
  have := lt_of_lt_of_eq t.isLt N_0
  unfold row col
  blk_ext [idx3 t]

/-- The product at place `k` of the contracted axis, for a lane of a point's tile. -/
def term (c : Dev nD) (t : Fin cfg0.N) (k : Fin 4096) (y : S1664x1024.Idx) : EReal := A m c (ix2 (row t (y 0)) k) * B m c (ix3 0 (col t (y 1)) (wide k))

theorem pay1_term (c : Dev nD) (t : Fin cfg0.N) (y : S1664x1024.Idx) :
    k0_pay1 (iblk m c 0 t) (X0_1 m c t) y = (∑ k : Fin 1024, term m c t (mid t k) y : EReal) := by
  obtain ⟨i, j, rfl⟩ : ∃ (i : Fin 1664) (j : Fin 1024), y = ix2 i j := ⟨y 0, y 1, eq_ix2 y⟩
  rw [pay1_apply]
  exact Finset.sum_congr rfl fun k _ => by rw [blk0, blk1]; rfl

/-- The accumulator after the first point of a run, -/
theorem scratch_first (c : Dev nD) (t : Fin cfg0.N) (h : t.val % 4 = 0) (y : S1664x1024.Idx) :
    (outsAt0 m c t.val t.isLt).2 y = (∑ k : Fin 1024, term m c t (mid t k) y : EReal) := by
  rw [outsAt0_A m c t h (by omega) (by omega), ← pay1_term]
  frame_out
  unfold k0_pay2
  rw [shapeCast_self]

/-- after a later one, -/
theorem scratch_next (c : Dev nD) (t : Fin cfg0.N) (h : ¬t.val % 4 = 0) (y : S1664x1024.Idx) :
    (outsAt0 m c t.val t.isLt).2 y
      = (outsAt0 m c (t.val - 1) (Nat.lt_of_le_of_lt (Nat.sub_le _ _) t.isLt)).2 y + (∑ k : Fin 1024, term m c t (mid t k) y : EReal) := by
  rw [← pay1_term]
  by_cases h3 : t.val % 4 = 3
  · rw [outsAt0_C m c t h (by omega) h3]
    frame_out
    rw [pay3_apply, (Memref.isWhole_whole _ : scM0_0.IsWhole).read_unread]
  · rw [outsAt0_B m c t h (by omega) h3]
    frame_out
    rw [pay3_apply, (Memref.isWhole_whole _ : scM0_0.IsWhole).read_unread]

/-- and what the last point writes back is the accumulator and the addend. -/
theorem written (c : Dev nD) (t : Fin cfg0.N) (h : t.val % 4 = 3) (y : S1664x1024.Idx) :
    (outsAt0 m c t.val t.isLt).1 y = ((outsAt0 m c t.val t.isLt).2 y + (show FVec Ideal S1664x1024 .f32 from iblk m c 2 t) y : EReal) := by
  rw [outsAt0_C m c t (by omega) (by omega) h]
  frame_out
  rfl

/-- A tile's points share its row and its column. -/
theorem term_run (c : Dev nD) (t t' : Fin cfg0.N) (h : t.val / 4 = t'.val / 4) : term m c t = term m c t' := by
  unfold term row col
  simp only [h]

theorem summed (c : Dev nD) (t : Fin cfg0.N) (h : t.val % 4 = 3) (y : S1664x1024.Idx) :
    (outsAt0 m c t.val t.isLt).2 y = (∑ k : Fin 4096, term m c t k y : EReal) :=
  Cert.Prod.accumulated (ι := S1664x1024.Idx) (nk := 4) (tk := 1024) (K := 4096) (N := cfg0.N) (by decide)
    (fun n h y => (show EReal from (outsAt0 m c n h).2 y)) (term m c) (term_run m c)
    (fun t h y => scratch_first m c t h y) (fun t h y => scratch_next m c t h y) t h y

/-- The product and the addend. -/
def G (c : Dev nD) : FVec Ideal S8320x1024 .bf16 := fun y => (∑ k : Fin 4096, A m c (ix2 (y 0) k) * B m c (ix3 0 (y 1) (wide k)) : EReal) + D m c y

/-- The result array holds it. -/
theorem final (c : Dev nD) : (dats m 0 c).arrAt 3 cfg0.N = G m c := by
  refine (dats m 0 c).arrAt_eq_of_covers 3 (G m c) (by decide +kernel) fun t hf y => ?_
  rw [after0_3]
  have h3 : t.val % 4 = 3 := (flush0_3 t).mp hf
  blk_simp
  obtain ⟨i, j, rfl⟩ : ∃ (i : Fin 1664) (j : Fin 1024), y = ix2 i j := ⟨y 0, y 1, eq_ix2 y⟩
  rw [emb3, written m c t h3]
  rw [summed m c t h3, blk2]
  rfl

end Cert.Kernel7Ideal.Prod

namespace Cert.Reference7Ideal.Prod

open Cert.Reference7Ideal Cert.Reference7Ideal.Gen
open Cert.Kernel7Ideal.Prod (wide)
open Idealize.ShloMosaic Idealize.ShloMosaic.TcCoe Idealize.SL.Sem

/-- The reference's result is the same sum. -/
theorem value (x0 : FVec Ideal S8320x4096 .bf16) (x1 : FVec Ideal S1x1024x4112 .bf16) (x2 : FVec Ideal S8320x1024 .f32) (y : S8320x1024.Idx) :
    Read.val_main_v8 (F := Ideal) x0 x1 x2 y = (∑ k : Fin 4096, x0 (ix2 (y 0) k) * x1 (ix3 0 (y 1) (wide k)) : EReal) + x2 y := by
  rw [Read.val_main_v8_apply]
  show (Read.val_main_v7 (F := Ideal) x0 x1 x2 y : EReal) = _
  rw [Read.val_main_v7_apply]
  show (Read.val_main_v6 (F := Ideal) x0 x1 y + x2 y : EReal) = _
  refine congrArg (· + (x2 y : EReal)) ?_
  rw [Read.val_main_v6_apply]
  refine Finset.sum_congr rfl fun k _ => ?_
  rw [Read.val_main_v5_apply, Read.val_main_v2_apply, Read.val_main_v1_apply, Read.val_main_v0_apply]
  have e0 : Read.lidx_main_v6 y k = ix2 (y 0) k := funext fun a => match a with
    | ⟨0, _⟩ => rfl
    | ⟨1, _⟩ => rfl
  have hj : (y 1).val < 1024 := (y 1).isLt
  have hk : k.val < 4096 := k.isLt
  have e1 : Read.idx_main_v0 (Read.idx_main_v1 (Read.ridx_main_v6 y k)) = ix3 0 (y 1) (wide k) := funext fun a => match a with
    | ⟨0, _⟩ => rfl
    | ⟨1, _⟩ => Fin.ext (by show ((y 1).val * 4096 + k.val) / 4096 % 1024 = (y 1).val; omega)
    | ⟨2, _⟩ => Fin.ext (by show ((y 1).val * 4096 + k.val) % 4096 = k.val; omega)
  rw [e0, e1]
  rfl

end Cert.Reference7Ideal.Prod

namespace Cert.Proof

open Idealize.ShloMosaic Idealize.ShloMosaic.TcCoe Idealize.SL.Sem

theorem da : Cert.algebraic_Kernel7Ideal_Reference7Ideal (hKernel7Ideal := Kernel7Ideal.Gen.facts)
    (hReference7Ideal := Reference7Ideal.Gen.facts) := by
  intro m g m' g' _ hargs
  refine ⟨Kernel7Ideal.Prod.G m, ?_, ?_⟩
  · exact (θ_run _ _ _).mono (fun r h c => ⟨((h c).1.trans (Kernel7Ideal.Prod.final m c)), (h c).2⟩)
      (Kernel7Ideal.Value.run_blocks m g)
  · refine (θ_run _ _ _).mono (fun r h c => ⟨((h c).1.trans ?_), (h c).2⟩) (Reference7Ideal.Value.run m' g')
    rw [(hargs c).1, (hargs c).2.1, (hargs c).2.2]
    exact funext fun y => Reference7Ideal.Prod.value _ _ _ y

end Cert.Proof
-- ==== Proof.Prod.DGo.lean ====
module

public import proofs.«01_k».proof.Defs
public import proofs.«01_k».proof.Proof.Gen.Kernel8Ideal.Value
public import proofs.«01_k».proof.Proof.Gen.Reference8Ideal.Read
public import proofs.«01_k».proof.Proof.Prod.Common
public import Idealize.ShloMosaic.Lib.Quiescent
public import Idealize.ShloMosaic.Lib.Tactic

@[expose] public section

set_option maxRecDepth 16384

noncomputable section

namespace Cert.Kernel8Ideal.Prod

open Cert.Kernel8Ideal Cert.Kernel8Ideal.Gen
open Idealize.ShloMosaic Idealize.ShloMosaic.TcCoe Idealize.ShloMosaic.Tactic
open Idealize.ShloMosaic.Pipeline (Dat Cfg Window)

/-! # What the gradient of the mixers' second product's input holds, over the extended reals -/

/-- One block's product at a place of the tile. -/
theorem pay1_apply (v0 : Vec Ideal S1664x1024 .bf16) (v1 : Vec Ideal S1x1024x1024 .bf16) (i : Fin 1664) (j : Fin 1024) :
    k0_pay1 v0 v1 (ix2 i j) = ∑ k : Fin 1024, (show FVec Ideal S1664x1024 .bf16 from v0) (ix2 i k) * (show FVec Ideal S1x1024x1024 .bf16 from v1) (ix3 0 j k) := by
  unfold k0_pay1
  pointwise

variable (m : (ℓ : Loc nD τ sig) → Buf (Elt Ideal) ℓ)

/-- The two operands. -/
abbrev A (c : Dev nD) : FVec Ideal S8320x1024 .bf16 := m ((c : Thread nD τ).loc main_arg0)
abbrev B (c : Dev nD) : FVec Ideal S2x1024x1024 .bf16 := m ((c : Thread nD τ).loc main_arg1)

theorem idx0 : ∀ t : Fin cfg0.N, win0_0.index t = ![t.val, 0] := (by decide +kernel : ∀ t : Fin grid0.N, _)
theorem idx1 : ∀ t : Fin cfg0.N, win0_1.index t = ![0, 0, 0] := (by decide +kernel : ∀ t : Fin grid0.N, _)
theorem idx2 : ∀ t : Fin cfg0.N, win0_2.index t = ![t.val, 0] := (by decide +kernel : ∀ t : Fin grid0.N, _)

/-- The row and the column of the resultthat the lanes of a point's tiles stand for. -/
def row (t : Fin cfg0.N) (i : Fin 1664) : Fin 8320 := ⟨t.val * 1664 + i.val, by have := lt_of_lt_of_eq t.isLt N_0; omega⟩
def col (t : Fin cfg0.N) (j : Fin 1024) : Fin 1024 := j

theorem blk0 (c : Dev nD) (t : Fin cfg0.N) (i : Fin 1664) (k : Fin 1024) :
    (show FVec Ideal S1664x1024 .bf16 from iblk m c 0 t) (ix2 i k) = A m c (ix2 (row t i) k) := by
  have := lt_of_lt_of_eq t.isLt N_0
  unfold row
  blk_ext [iblk, V, idx0 t]

theorem blk1 (c : Dev nD) (t : Fin cfg0.N) (k : Fin 1024) (j : Fin 1024) :
    (show FVec Ideal S1x1024x1024 .bf16 from iblk m c 1 t) (ix3 0 j k) = B m c (ix3 0 (col t j) k) := by
  have := lt_of_lt_of_eq t.isLt N_0
  unfold col
  blk_ext [iblk, V, idx1 t]

theorem emb2 (t : Fin cfg0.N) (i : Fin 1664) (j : Fin 1024) : (win0_2.blk t).view.emb (ix2 i j) = (ix2 (row t i) (col t j) : S8320x1024.Idx) := by
  have := lt_of_lt_of_eq t.isLt N_0
  unfold row col
  blk_ext [idx2 t]

/-- The product at place `k` of the contracted axis, for a lane of a point's tile. -/
def term (c : Dev nD) (t : Fin cfg0.N) (k : Fin 1024) (y : S1664x1024.Idx) : EReal := A m c (ix2 (row t (y 0)) k) * B m c (ix3 0 (col t (y 1)) k)

theorem pay1_term (c : Dev nD) (t : Fin cfg0.N) (y : S1664x1024.Idx) :
    k0_pay1 (iblk m c 0 t) (iblk m c 1 t) y = (∑ k : Fin 1024, term m c t k y : EReal) := by
  obtain ⟨i, j, rfl⟩ : ∃ (i : Fin 1664) (j : Fin 1024), y = ix2 i j := ⟨y 0, y 1, eq_ix2 y⟩
  rw [pay1_apply]
  exact Finset.sum_congr rfl fun k _ => by rw [blk0, blk1]; rfl

/-- What a point writes back. -/
theorem written (c : Dev nD) (t : Fin cfg0.N) (y : S1664x1024.Idx) :
    outsAt0 m c t y = (∑ k : Fin 1024, term m c t k y : EReal) := by
  rw [← pay1_term]
  unfold outsAt0
  frame_out
  show k0_pay2 (F := Ideal) (iblk m c 0 t) (iblk m c 1 t) y = _
  unfold k0_pay2
  rw [shapeCast_self]

/-- The product. -/
def G (c : Dev nD) : FVec Ideal S8320x1024 .bf16 := fun y => ∑ k : Fin 1024, A m c (ix2 (y 0) k) * B m c (ix3 0 (y 1) k)

/-- The result array holds it. -/
theorem final (c : Dev nD) : (dats m 0 c).arrAt 2 cfg0.N = G m c := by
  refine (dats m 0 c).arrAt_eq_of_covers 2 (G m c) (by decide +kernel) fun t hf y => ?_
  rw [after0_2]
  blk_simp
  obtain ⟨i, j, rfl⟩ : ∃ (i : Fin 1664) (j : Fin 1024), y = ix2 i j := ⟨y 0, y 1, eq_ix2 y⟩
  rw [emb2, written m c t]
  rfl

end Cert.Kernel8Ideal.Prod

namespace Cert.Reference8Ideal.Prod

open Cert.Reference8Ideal Cert.Reference8Ideal.Gen
open Idealize.ShloMosaic Idealize.ShloMosaic.TcCoe Idealize.SL.Sem

/-- The reference's result is the same sum. -/
theorem value (x0 : FVec Ideal S8320x1024 .bf16) (x1 : FVec Ideal S2x1024x1024 .bf16) (y : S8320x1024.Idx) :
    Read.val_main_v9 (F := Ideal) x0 x1 y = ∑ k : Fin 1024, x0 (ix2 (y 0) k) * x1 (ix3 0 (y 1) k) := by
  rw [Read.val_main_v9_apply]
  show (Read.val_main_v8 (F := Ideal) x0 x1 y : EReal) = _
  rw [Read.val_main_v8_apply]
  refine Finset.sum_congr rfl fun k _ => ?_
  rw [Read.val_main_v5_apply, Read.val_main_v3_apply, Read.val_main_v2_apply, Read.val_main_v1_apply]
  have e0 : Read.lidx_main_v8 y k = ix2 (y 0) k := funext fun a => match a with
    | ⟨0, _⟩ => rfl
    | ⟨1, _⟩ => rfl
  have hj : (y 1).val < 1024 := (y 1).isLt
  have hk : k.val < 1024 := k.isLt
  have e1 : Read.idx_main_v1 (Read.idx_main_v2 (Read.ridx_main_v8 y k)) = ix3 0 (y 1) k := funext fun a => match a with
    | ⟨0, _⟩ => rfl
    | ⟨1, _⟩ => Fin.ext (by show ((y 1).val * 1024 + k.val) / 1024 % 1024 = (y 1).val; omega)
    | ⟨2, _⟩ => Fin.ext (by show ((y 1).val * 1024 + k.val) % 1024 = k.val; omega)
  rw [e0, e1]
  rfl

end Cert.Reference8Ideal.Prod

namespace Cert.Proof

open Idealize.ShloMosaic Idealize.ShloMosaic.TcCoe Idealize.SL.Sem

theorem dgo : Cert.algebraic_Kernel8Ideal_Reference8Ideal (hKernel8Ideal := Kernel8Ideal.Gen.facts)
    (hReference8Ideal := Reference8Ideal.Gen.facts) := by
  intro m g m' g' _ hargs
  refine ⟨Kernel8Ideal.Prod.G m, ?_, ?_⟩
  · exact (θ_run _ _ _).mono (fun r h c => ⟨((h c).1.trans (Kernel8Ideal.Prod.final m c)), (h c).2⟩)
      (Kernel8Ideal.Value.run_blocks m g)
  · refine (θ_run _ _ _).mono (fun r h c => ⟨((h c).1.trans ?_), (h c).2⟩) (Reference8Ideal.Value.run m' g')
    rw [(hargs c).1, (hargs c).2]
    exact funext fun y => Reference8Ideal.Prod.value _ _ y

end Cert.Proof
-- ==== Proof.Prod.DWOut.lean ====
module

public import proofs.«01_k».proof.Defs
public import proofs.«01_k».proof.Proof.Gen.Kernel9Ideal.Value
public import proofs.«01_k».proof.Proof.Gen.Reference9Ideal.Read
public import proofs.«01_k».proof.Proof.Prod.Common
public import Idealize.ShloMosaic.Lib.Quiescent
public import Idealize.ShloMosaic.Lib.Tactic

@[expose] public section

set_option maxRecDepth 16384

noncomputable section

namespace Cert.Kernel9Ideal.Prod

open Cert.Kernel9Ideal Cert.Kernel9Ideal.Gen
open Idealize.ShloMosaic Idealize.ShloMosaic.TcCoe Idealize.ShloMosaic.Tactic
open Idealize.ShloMosaic.Pipeline (Dat Cfg Window)

/-! # What the gradient of the mixers' second weights holds, over the extended reals -/

/-- One block's product at a place of the tile. -/
theorem pay1_apply (v0 : Vec Ideal S1024x1664 .bf16) (v1 : Vec Ideal S1664x1024 .bf16) (i : Fin 1024) (j : Fin 1024) :
    k0_pay1 v0 v1 (ix2 i j) = ∑ k : Fin 1664, (show FVec Ideal S1024x1664 .bf16 from v0) (ix2 i k) * (show FVec Ideal S1664x1024 .bf16 from v1) (ix2 k j) := by
  unfold k0_pay1
  pointwise

/-- A later point adds its product to the accumulator. -/
theorem pay3_apply (v0 : Vec Ideal S1024x1664 .bf16) (v1 : Vec Ideal S1664x1024 .bf16) (w : Vec Ideal S1024x1024 .f32) (y : S1024x1024.Idx) :
    k0_pay3 v0 v1 w y = (w y + k0_pay1 v0 v1 y : EReal) := by
  unfold k0_pay3
  rw [shapeCast_self]
  rfl

variable (m : (ℓ : Loc nD τ sig) → Buf (Elt Ideal) ℓ)

/-- The two operands. -/
abbrev A (c : Dev nD) : FVec Ideal S1024x8320 .bf16 := m ((c : Thread nD τ).loc main_arg0)
abbrev B (c : Dev nD) : FVec Ideal S8320x1024 .bf16 := m ((c : Thread nD τ).loc main_arg1)

theorem idx0 : ∀ t : Fin cfg0.N, win0_0.index t = ![0, t.val % 5] := (by decide +kernel : ∀ t : Fin grid0.N, _)
theorem idx1 : ∀ t : Fin cfg0.N, win0_1.index t = ![t.val % 5, 0] := (by decide +kernel : ∀ t : Fin grid0.N, _)
theorem idx2 : ∀ t : Fin cfg0.N, win0_2.index t = ![0, 0] := (by decide +kernel : ∀ t : Fin grid0.N, _)

/-- The row and the column of the result, and the place on the contracted axis, that the lanes of a point's tiles stand for. -/
def row (t : Fin cfg0.N) (i : Fin 1024) : Fin 1024 := i
def col (t : Fin cfg0.N) (j : Fin 1024) : Fin 1024 := j
abbrev mid (t : Fin cfg0.N) (k : Fin 1664) : Fin 8320 := Cert.Prod.mid (nk := 5) rfl t k

theorem blk0 (c : Dev nD) (t : Fin cfg0.N) (i : Fin 1024) (k : Fin 1664) :
    (show FVec Ideal S1024x1664 .bf16 from iblk m c 0 t) (ix2 i k) = A m c (ix2 (row t i) (mid t k)) := by
  have := lt_of_lt_of_eq t.isLt N_0
  unfold row mid Cert.Prod.mid
  blk_ext [iblk, V, idx0 t]

theorem blk1 (c : Dev nD) (t : Fin cfg0.N) (k : Fin 1664) (j : Fin 1024) :
    (show FVec Ideal S1664x1024 .bf16 from iblk m c 1 t) (ix2 k j) = B m c (ix2 (mid t k) (col t j)) := by
  have := lt_of_lt_of_eq t.isLt N_0
  unfold col mid Cert.Prod.mid
  blk_ext [iblk, V, idx1 t]

theorem emb2 (t : Fin cfg0.N) (i : Fin 1024) (j : Fin 1024) : (win0_2.blk t).view.emb (ix2 i j) = (ix2 (row t i) (col t j) : S1024x1024.Idx) := by
  have := lt_of_lt_of_eq t.isLt N_0
  unfold row col
  blk_ext [idx2 t]

/-- The product at place `k` of the contracted axis, for a lane of a point's tile. -/
def term (c : Dev nD) (t : Fin cfg0.N) (k : Fin 8320) (y : S1024x1024.Idx) : EReal := A m c (ix2 (row t (y 0)) k) * B m c (ix2 k (col t (y 1)))

theorem pay1_term (c : Dev nD) (t : Fin cfg0.N) (y : S1024x1024.Idx) :
    k0_pay1 (iblk m c 0 t) (iblk m c 1 t) y = (∑ k : Fin 1664, term m c t (mid t k) y : EReal) := by
  obtain ⟨i, j, rfl⟩ : ∃ (i : Fin 1024) (j : Fin 1024), y = ix2 i j := ⟨y 0, y 1, eq_ix2 y⟩
  rw [pay1_apply]
  exact Finset.sum_congr rfl fun k _ => by rw [blk0, blk1]; rfl

/-- The accumulator after the first point of a run, -/
theorem scratch_first (c : Dev nD) (t : Fin cfg0.N) (h : t.val % 5 = 0) (y : S1024x1024.Idx) :
    (outsAt0 m c t.val t.isLt).2 y = (∑ k : Fin 1664, term m c t (mid t k) y : EReal) := by
  have := lt_of_lt_of_eq t.isLt N_0
  rw [outsAt0_A m c t h (by omega) (by omega), ← pay1_term]
  frame_out
  unfold k0_pay2
  rw [shapeCast_self]

/-- after a later one, -/
theorem scratch_next (c : Dev nD) (t : Fin cfg0.N) (h : ¬t.val % 5 = 0) (y : S1024x1024.Idx) :
    (outsAt0 m c t.val t.isLt).2 y
      = (outsAt0 m c (t.val - 1) (Nat.lt_of_le_of_lt (Nat.sub_le _ _) t.isLt)).2 y + (∑ k : Fin 1664, term m c t (mid t k) y : EReal) := by
  rw [← pay1_term]
  by_cases h4 : t.val % 5 = 4
  · rw [outsAt0_C m c t h (by omega) h4]
    frame_out
    rw [pay3_apply, (Memref.isWhole_whole _ : scM0_0.IsWhole).read_unread]
  · rw [outsAt0_B m c t h (by omega) h4]
    frame_out
    rw [pay3_apply, (Memref.isWhole_whole _ : scM0_0.IsWhole).read_unread]

/-- and what the last point writes back is the accumulator. -/
theorem written (c : Dev nD) (t : Fin cfg0.N) (h : t.val % 5 = 4) (y : S1024x1024.Idx) :
    (outsAt0 m c t.val t.isLt).1 y = (outsAt0 m c t.val t.isLt).2 y := by
  rw [outsAt0_C m c t (by omega) (by omega) h]
  frame_out
  rfl

/-- A tile's points share its row and its column. -/
theorem term_run (c : Dev nD) (t t' : Fin cfg0.N) (h : t.val / 5 = t'.val / 5) : term m c t = term m c t' := by
  unfold term row col
  simp only [h]

theorem summed (c : Dev nD) (t : Fin cfg0.N) (h : t.val % 5 = 4) (y : S1024x1024.Idx) :
    (outsAt0 m c t.val t.isLt).2 y = (∑ k : Fin 8320, term m c t k y : EReal) :=
  Cert.Prod.accumulated (ι := S1024x1024.Idx) (nk := 5) (tk := 1664) (K := 8320) (N := cfg0.N) (by decide)
    (fun n h y => (show EReal from (outsAt0 m c n h).2 y)) (term m c) (term_run m c)
    (fun t h y => scratch_first m c t h y) (fun t h y => scratch_next m c t h y) t h y

/-- The product. -/
def G (c : Dev nD) : FVec Ideal S1024x1024 .bf16 := fun y => ∑ k : Fin 8320, A m c (ix2 (y 0) k) * B m c (ix2 k (y 1))

/-- The result array holds it. -/
theorem final (c : Dev nD) : (dats m 0 c).arrAt 2 cfg0.N = G m c := by
  refine (dats m 0 c).arrAt_eq_of_covers 2 (G m c) (by decide +kernel) fun t hf y => ?_
  rw [after0_2]
  have h4 : t.val % 5 = 4 := (flush0_2 t).mp hf
  blk_simp
  obtain ⟨i, j, rfl⟩ : ∃ (i : Fin 1024) (j : Fin 1024), y = ix2 i j := ⟨y 0, y 1, eq_ix2 y⟩
  rw [emb2, written m c t h4]
  rw [summed m c t h4]
  rfl

end Cert.Kernel9Ideal.Prod

namespace Cert.Reference9Ideal.Prod

open Cert.Reference9Ideal Cert.Reference9Ideal.Gen
open Idealize.ShloMosaic Idealize.ShloMosaic.TcCoe Idealize.SL.Sem

/-- The reference's result is the same sum. -/
theorem value (x0 : FVec Ideal S1024x8320 .bf16) (x1 : FVec Ideal S8320x1024 .bf16) (y : S1024x1024.Idx) :
    Read.val_main_v9 (F := Ideal) x0 x1 y = ∑ k : Fin 8320, x0 (ix2 (y 0) k) * x1 (ix2 k (y 1)) := by
  rw [Read.val_main_v9_apply, Read.val_main_v6_apply]
  show (Read.val_main_v5 (F := Ideal) x0 x1 _ : EReal) = _
  rw [Read.val_main_v5_apply]
  refine Finset.sum_congr rfl fun k _ => ?_
  rw [Read.val_main_v4_apply, Read.val_main_v2_apply, Read.val_main_v0_apply]
  have e0 : Read.idx_main_v0 (Read.ridx_main_v5 (Read.idx_main_v6 y) k) = ix2 (y 0) k := funext fun a => match a with
    | ⟨0, _⟩ => rfl
    | ⟨1, _⟩ => rfl
  have e1 : Read.lidx_main_v5 (Read.idx_main_v6 y) k = ix2 k (y 1) := funext fun a => match a with
    | ⟨0, _⟩ => rfl
    | ⟨1, _⟩ => rfl
  rw [e0, e1]
  exact mul_comm (G := EReal) _ _

end Cert.Reference9Ideal.Prod

namespace Cert.Proof

open Idealize.ShloMosaic Idealize.ShloMosaic.TcCoe Idealize.SL.Sem

theorem dwout : Cert.algebraic_Kernel9Ideal_Reference9Ideal (hKernel9Ideal := Kernel9Ideal.Gen.facts)
    (hReference9Ideal := Reference9Ideal.Gen.facts) := by
  intro m g m' g' _ hargs
  refine ⟨Kernel9Ideal.Prod.G m, ?_, ?_⟩
  · exact (θ_run _ _ _).mono (fun r h c => ⟨((h c).1.trans (Kernel9Ideal.Prod.final m c)), (h c).2⟩)
      (Kernel9Ideal.Value.run_blocks m g)
  · refine (θ_run _ _ _).mono (fun r h c => ⟨((h c).1.trans ?_), (h c).2⟩) (Reference9Ideal.Value.run m' g')
    rw [(hargs c).1, (hargs c).2]
    exact funext fun y => Reference9Ideal.Prod.value _ _ y

end Cert.Proof
-- ==== Proof.Prod.Up.lean ====
module

public import proofs.«01_k».proof.Defs
public import proofs.«01_k».proof.Proof.Gen.Kernel10Ideal.Value
public import proofs.«01_k».proof.Proof.Gen.Reference10Ideal.Read
public import proofs.«01_k».proof.Proof.Prod.Common
public import Idealize.ShloMosaic.Lib.Quiescent
public import Idealize.ShloMosaic.Lib.Tactic

@[expose] public section

set_option maxRecDepth 16384

noncomputable section

namespace Cert.Kernel10Ideal.Prod

open Cert.Kernel10Ideal Cert.Kernel10Ideal.Gen
open Idealize.ShloMosaic Idealize.ShloMosaic.TcCoe Idealize.ShloMosaic.Tactic
open Idealize.ShloMosaic.Pipeline (Dat Cfg Window)

/-! # What the up projection holds, over the extended reals -/

/-- One block's product at a place of the tile. -/
theorem pay1_apply (v0 : Vec Ideal S1664x1024 .bf16) (v1 : Vec Ideal S1x1024x1408 .bf16) (i : Fin 1664) (j : Fin 1408) :
    k0_pay1 v0 v1 (ix2 i j) = ∑ k : Fin 1024, (show FVec Ideal S1664x1024 .bf16 from v0) (ix2 i k) * (show FVec Ideal S1x1024x1408 .bf16 from v1) (ix3 0 k j) := by
  unfold k0_pay1
  pointwise

variable (m : (ℓ : Loc nD τ sig) → Buf (Elt Ideal) ℓ)

/-- The two operands. -/
abbrev A (c : Dev nD) : FVec Ideal S8320x1024 .bf16 := m ((c : Thread nD τ).loc main_arg0)
abbrev B (c : Dev nD) : FVec Ideal S4x1024x5632 .bf16 := m ((c : Thread nD τ).loc main_arg1)

theorem idx0 : ∀ t : Fin cfg0.N, win0_0.index t = ![t.val / 4, 0] := (by decide +kernel : ∀ t : Fin grid0.N, _)
theorem idx1 : ∀ t : Fin cfg0.N, win0_1.index t = ![0, 0, t.val % 4] := (by decide +kernel : ∀ t : Fin grid0.N, _)
theorem idx2 : ∀ t : Fin cfg0.N, win0_2.index t = ![t.val / 4, t.val % 4] := (by decide +kernel : ∀ t : Fin grid0.N, _)

/-- The row and the column of the resultthat the lanes of a point's tiles stand for. -/
def row (t : Fin cfg0.N) (i : Fin 1664) : Fin 8320 := ⟨t.val / 4 * 1664 + i.val, by have := lt_of_lt_of_eq t.isLt N_0; omega⟩
def col (t : Fin cfg0.N) (j : Fin 1408) : Fin 5632 := ⟨t.val % 4 * 1408 + j.val, by omega⟩

theorem blk0 (c : Dev nD) (t : Fin cfg0.N) (i : Fin 1664) (k : Fin 1024) :
    (show FVec Ideal S1664x1024 .bf16 from iblk m c 0 t) (ix2 i k) = A m c (ix2 (row t i) k) := by
  have := lt_of_lt_of_eq t.isLt N_0
  unfold row
  blk_ext [iblk, V, idx0 t]

theorem blk1 (c : Dev nD) (t : Fin cfg0.N) (k : Fin 1024) (j : Fin 1408) :
    (show FVec Ideal S1x1024x1408 .bf16 from iblk m c 1 t) (ix3 0 k j) = B m c (ix3 0 k (col t j)) := by
  have := lt_of_lt_of_eq t.isLt N_0
  unfold col
  blk_ext [iblk, V, idx1 t]

theorem emb2 (t : Fin cfg0.N) (i : Fin 1664) (j : Fin 1408) : (win0_2.blk t).view.emb (ix2 i j) = (ix2 (row t i) (col t j) : S8320x5632.Idx) := by
  have := lt_of_lt_of_eq t.isLt N_0
  unfold row col
  blk_ext [idx2 t]

/-- The product at place `k` of the contracted axis, for a lane of a point's tile. -/
def term (c : Dev nD) (t : Fin cfg0.N) (k : Fin 1024) (y : S1664x1408.Idx) : EReal := A m c (ix2 (row t (y 0)) k) * B m c (ix3 0 k (col t (y 1)))

theorem pay1_term (c : Dev nD) (t : Fin cfg0.N) (y : S1664x1408.Idx) :
    k0_pay1 (iblk m c 0 t) (iblk m c 1 t) y = (∑ k : Fin 1024, term m c t k y : EReal) := by
  obtain ⟨i, j, rfl⟩ : ∃ (i : Fin 1664) (j : Fin 1408), y = ix2 i j := ⟨y 0, y 1, eq_ix2 y⟩
  rw [pay1_apply]
  exact Finset.sum_congr rfl fun k _ => by rw [blk0, blk1]; rfl

/-- What a point writes back. -/
theorem written (c : Dev nD) (t : Fin cfg0.N) (y : S1664x1408.Idx) :
    outsAt0 m c t y = (∑ k : Fin 1024, term m c t k y : EReal) := by
  rw [← pay1_term]
  unfold outsAt0
  frame_out
  show k0_pay2 (F := Ideal) (iblk m c 0 t) (iblk m c 1 t) y = _
  unfold k0_pay2
  rw [shapeCast_self]

/-- The product. -/
def G (c : Dev nD) : FVec Ideal S8320x5632 .bf16 := fun y => ∑ k : Fin 1024, A m c (ix2 (y 0) k) * B m c (ix3 0 k (y 1))

/-- The result array holds it. -/
theorem final (c : Dev nD) : (dats m 0 c).arrAt 2 cfg0.N = G m c := by
  refine (dats m 0 c).arrAt_eq_of_covers 2 (G m c) (by decide +kernel) fun t hf y => ?_
  rw [after0_2]
  blk_simp
  obtain ⟨i, j, rfl⟩ : ∃ (i : Fin 1664) (j : Fin 1408), y = ix2 i j := ⟨y 0, y 1, eq_ix2 y⟩
  rw [emb2, written m c t]
  rfl

end Cert.Kernel10Ideal.Prod

namespace Cert.Reference10Ideal.Prod

open Cert.Reference10Ideal Cert.Reference10Ideal.Gen
open Idealize.ShloMosaic Idealize.ShloMosaic.TcCoe Idealize.SL.Sem

/-- The reference's result is the same sum. -/
theorem value (x0 : FVec Ideal S8320x1024 .bf16) (x1 : FVec Ideal S4x1024x5632 .bf16) (y : S8320x5632.Idx) :
    Read.val_main_v5 (F := Ideal) x0 x1 y = ∑ k : Fin 1024, x0 (ix2 (y 0) k) * x1 (ix3 0 k (y 1)) := by
  rw [Read.val_main_v5_apply]
  show (Read.val_main_v4 (F := Ideal) x0 x1 y : EReal) = _
  rw [Read.val_main_v4_apply]
  refine Finset.sum_congr rfl fun k _ => ?_
  rw [Read.val_main_v2_apply, Read.val_main_v3_apply, Read.val_main_v1_apply, Read.val_main_v0_apply]
  have e0 : Read.lidx_main_v4 y k = ix2 (y 0) k := funext fun a => match a with
    | ⟨0, _⟩ => rfl
    | ⟨1, _⟩ => rfl
  have hj : (y 1).val < 5632 := (y 1).isLt
  have hk : k.val < 1024 := k.isLt
  have e1 : Read.idx_main_v0 (Read.idx_main_v1 (Read.ridx_main_v4 y k)) = ix3 0 k (y 1) := funext fun a => match a with
    | ⟨0, _⟩ => rfl
    | ⟨1, _⟩ => Fin.ext (by show (k.val * 5632 + (y 1).val) / 5632 % 1024 = k.val; omega)
    | ⟨2, _⟩ => Fin.ext (by show (k.val * 5632 + (y 1).val) % 5632 = (y 1).val; omega)
  rw [e0, e1]
  rfl

end Cert.Reference10Ideal.Prod

namespace Cert.Proof

open Idealize.ShloMosaic Idealize.ShloMosaic.TcCoe Idealize.SL.Sem

theorem up : Cert.algebraic_Kernel10Ideal_Reference10Ideal (hKernel10Ideal := Kernel10Ideal.Gen.facts)
    (hReference10Ideal := Reference10Ideal.Gen.facts) := by
  intro m g m' g' _ hargs
  refine ⟨Kernel10Ideal.Prod.G m, ?_, ?_⟩
  · exact (θ_run _ _ _).mono (fun r h c => ⟨((h c).1.trans (Kernel10Ideal.Prod.final m c)), (h c).2⟩)
      (Kernel10Ideal.Value.run_blocks m g)
  · refine (θ_run _ _ _).mono (fun r h c => ⟨((h c).1.trans ?_), (h c).2⟩) (Reference10Ideal.Value.run m' g')
    rw [(hargs c).1, (hargs c).2]
    exact funext fun y => Reference10Ideal.Prod.value _ _ y

end Cert.Proof
-- ==== Proof.Prod.Down.lean ====
module

public import proofs.«01_k».proof.Defs
public import proofs.«01_k».proof.Proof.Gen.Kernel11Ideal.Value
public import proofs.«01_k».proof.Proof.Gen.Reference11Ideal.Read
public import proofs.«01_k».proof.Proof.Prod.Common
public import Idealize.ShloMosaic.Lib.Quiescent
public import Idealize.ShloMosaic.Lib.Tactic

@[expose] public section

set_option maxRecDepth 16384

noncomputable section

namespace Cert.Kernel11Ideal.Prod

open Cert.Kernel11Ideal Cert.Kernel11Ideal.Gen
open Idealize.ShloMosaic Idealize.ShloMosaic.TcCoe Idealize.ShloMosaic.Tactic
open Idealize.ShloMosaic.Pipeline (Dat Cfg Window)

/-! # What the down projection holds, over the extended reals -/

/-- One block's product at a place of the tile. -/
theorem pay1_apply (v0 : Vec Ideal S1664x1408 .bf16) (v1 : Vec Ideal S1x1408x1024 .bf16) (i : Fin 1664) (j : Fin 1024) :
    k0_pay1 v0 v1 (ix2 i j) = ∑ k : Fin 1408, (show FVec Ideal S1664x1408 .bf16 from v0) (ix2 i k) * (show FVec Ideal S1x1408x1024 .bf16 from v1) (ix3 0 k j) := by
  unfold k0_pay1
  pointwise

/-- A later point adds its product to the accumulator. -/
theorem pay3_apply (v0 : Vec Ideal S1664x1408 .bf16) (v1 : Vec Ideal S1x1408x1024 .bf16) (w : Vec Ideal S1664x1024 .f32) (y : S1664x1024.Idx) :
    k0_pay3 v0 v1 w y = (w y + k0_pay1 v0 v1 y : EReal) := by
  unfold k0_pay3
  rw [shapeCast_self]
  rfl

variable (m : (ℓ : Loc nD τ sig) → Buf (Elt Ideal) ℓ)

/-- The two operands. -/
abbrev A (c : Dev nD) : FVec Ideal S8320x2816 .bf16 := m ((c : Thread nD τ).loc main_arg0)
abbrev B (c : Dev nD) : FVec Ideal S4x2816x1024 .bf16 := m ((c : Thread nD τ).loc main_arg1)

theorem idx0 : ∀ t : Fin cfg0.N, win0_0.index t = ![t.val / 2, t.val % 2] := (by decide +kernel : ∀ t : Fin grid0.N, _)
theorem idx1 : ∀ t : Fin cfg0.N, win0_1.index t = ![0, t.val % 2, 0] := (by decide +kernel : ∀ t : Fin grid0.N, _)
theorem idx2 : ∀ t : Fin cfg0.N, win0_2.index t = ![t.val / 2, 0] := (by decide +kernel : ∀ t : Fin grid0.N, _)

/-- The row and the column of the result, and the place on the contracted axis, that the lanes of a point's tiles stand for. -/
def row (t : Fin cfg0.N) (i : Fin 1664) : Fin 8320 := ⟨t.val / 2 * 1664 + i.val, by have := lt_of_lt_of_eq t.isLt N_0; omega⟩
def col (t : Fin cfg0.N) (j : Fin 1024) : Fin 1024 := j
abbrev mid (t : Fin cfg0.N) (k : Fin 1408) : Fin 2816 := Cert.Prod.mid (nk := 2) rfl t k

theorem blk0 (c : Dev nD) (t : Fin cfg0.N) (i : Fin 1664) (k : Fin 1408) :
    (show FVec Ideal S1664x1408 .bf16 from iblk m c 0 t) (ix2 i k) = A m c (ix2 (row t i) (mid t k)) := by
  have := lt_of_lt_of_eq t.isLt N_0
  unfold row mid Cert.Prod.mid
  blk_ext [iblk, V, idx0 t]

theorem blk1 (c : Dev nD) (t : Fin cfg0.N) (k : Fin 1408) (j : Fin 1024) :
    (show FVec Ideal S1x1408x1024 .bf16 from iblk m c 1 t) (ix3 0 k j) = B m c (ix3 0 (mid t k) (col t j)) := by
  have := lt_of_lt_of_eq t.isLt N_0
  unfold col mid Cert.Prod.mid
  blk_ext [iblk, V, idx1 t]

theorem emb2 (t : Fin cfg0.N) (i : Fin 1664) (j : Fin 1024) : (win0_2.blk t).view.emb (ix2 i j) = (ix2 (row t i) (col t j) : S8320x1024.Idx) := by
  have := lt_of_lt_of_eq t.isLt N_0
  unfold row col
  blk_ext [idx2 t]

/-- The product at place `k` of the contracted axis, for a lane of a point's tile. -/
def term (c : Dev nD) (t : Fin cfg0.N) (k : Fin 2816) (y : S1664x1024.Idx) : EReal := A m c (ix2 (row t (y 0)) k) * B m c (ix3 0 k (col t (y 1)))

theorem pay1_term (c : Dev nD) (t : Fin cfg0.N) (y : S1664x1024.Idx) :
    k0_pay1 (iblk m c 0 t) (iblk m c 1 t) y = (∑ k : Fin 1408, term m c t (mid t k) y : EReal) := by
  obtain ⟨i, j, rfl⟩ : ∃ (i : Fin 1664) (j : Fin 1024), y = ix2 i j := ⟨y 0, y 1, eq_ix2 y⟩
  rw [pay1_apply]
  exact Finset.sum_congr rfl fun k _ => by rw [blk0, blk1]; rfl

/-- The accumulator after the first point of a run, -/
theorem scratch_first (c : Dev nD) (t : Fin cfg0.N) (h : t.val % 2 = 0) (y : S1664x1024.Idx) :
    (outsAt0 m c t.val t.isLt).2 y = (∑ k : Fin 1408, term m c t (mid t k) y : EReal) := by
  rw [outsAt0_A m c t h (by omega) (by omega), ← pay1_term]
  frame_out
  unfold k0_pay2
  rw [shapeCast_self]

/-- after a later one, -/
theorem scratch_next (c : Dev nD) (t : Fin cfg0.N) (h : ¬t.val % 2 = 0) (y : S1664x1024.Idx) :
    (outsAt0 m c t.val t.isLt).2 y
      = (outsAt0 m c (t.val - 1) (Nat.lt_of_le_of_lt (Nat.sub_le _ _) t.isLt)).2 y + (∑ k : Fin 1408, term m c t (mid t k) y : EReal) := by
  rw [← pay1_term]
  rw [outsAt0_B m c t h (by omega) (by omega)]
  frame_out
  rw [pay3_apply, (Memref.isWhole_whole _ : scM0_0.IsWhole).read_unread]

/-- and what the last point writes back is the accumulator. -/
theorem written (c : Dev nD) (t : Fin cfg0.N) (h : t.val % 2 = 1) (y : S1664x1024.Idx) :
    (outsAt0 m c t.val t.isLt).1 y = (outsAt0 m c t.val t.isLt).2 y := by
  rw [outsAt0_B m c t (by omega) (by omega) h]
  frame_out
  rfl

/-- A tile's points share its row and its column. -/
theorem term_run (c : Dev nD) (t t' : Fin cfg0.N) (h : t.val / 2 = t'.val / 2) : term m c t = term m c t' := by
  unfold term row col
  simp only [h]

theorem summed (c : Dev nD) (t : Fin cfg0.N) (h : t.val % 2 = 1) (y : S1664x1024.Idx) :
    (outsAt0 m c t.val t.isLt).2 y = (∑ k : Fin 2816, term m c t k y : EReal) :=
  Cert.Prod.accumulated (ι := S1664x1024.Idx) (nk := 2) (tk := 1408) (K := 2816) (N := cfg0.N) (by decide)
    (fun n h y => (show EReal from (outsAt0 m c n h).2 y)) (term m c) (term_run m c)
    (fun t h y => scratch_first m c t h y) (fun t h y => scratch_next m c t h y) t h y

/-- The product. -/
def G (c : Dev nD) : FVec Ideal S8320x1024 .bf16 := fun y => ∑ k : Fin 2816, A m c (ix2 (y 0) k) * B m c (ix3 0 k (y 1))

/-- The result array holds it. -/
theorem final (c : Dev nD) : (dats m 0 c).arrAt 2 cfg0.N = G m c := by
  refine (dats m 0 c).arrAt_eq_of_covers 2 (G m c) (by decide +kernel) fun t hf y => ?_
  rw [after0_2]
  have h1 : t.val % 2 = 1 := (flush0_2 t).mp hf
  blk_simp
  obtain ⟨i, j, rfl⟩ : ∃ (i : Fin 1664) (j : Fin 1024), y = ix2 i j := ⟨y 0, y 1, eq_ix2 y⟩
  rw [emb2, written m c t h1]
  rw [summed m c t h1]
  rfl

end Cert.Kernel11Ideal.Prod

namespace Cert.Reference11Ideal.Prod

open Cert.Reference11Ideal Cert.Reference11Ideal.Gen
open Idealize.ShloMosaic Idealize.ShloMosaic.TcCoe Idealize.SL.Sem

/-- The reference's result is the same sum. -/
theorem value (x0 : FVec Ideal S8320x2816 .bf16) (x1 : FVec Ideal S4x2816x1024 .bf16) (y : S8320x1024.Idx) :
    Read.val_main_v5 (F := Ideal) x0 x1 y = ∑ k : Fin 2816, x0 (ix2 (y 0) k) * x1 (ix3 0 k (y 1)) := by
  rw [Read.val_main_v5_apply]
  show (Read.val_main_v4 (F := Ideal) x0 x1 y : EReal) = _
  rw [Read.val_main_v4_apply]
  refine Finset.sum_congr rfl fun k _ => ?_
  rw [Read.val_main_v2_apply, Read.val_main_v3_apply, Read.val_main_v1_apply, Read.val_main_v0_apply]
  have e0 : Read.lidx_main_v4 y k = ix2 (y 0) k := funext fun a => match a with
    | ⟨0, _⟩ => rfl
    | ⟨1, _⟩ => rfl
  have hj : (y 1).val < 1024 := (y 1).isLt
  have hk : k.val < 2816 := k.isLt
  have e1 : Read.idx_main_v0 (Read.idx_main_v1 (Read.ridx_main_v4 y k)) = ix3 0 k (y 1) := funext fun a => match a with
    | ⟨0, _⟩ => rfl
    | ⟨1, _⟩ => Fin.ext (by show (k.val * 1024 + (y 1).val) / 1024 % 2816 = k.val; omega)
    | ⟨2, _⟩ => Fin.ext (by show (k.val * 1024 + (y 1).val) % 1024 = (y 1).val; omega)
  rw [e0, e1]
  rfl

end Cert.Reference11Ideal.Prod

namespace Cert.Proof

open Idealize.ShloMosaic Idealize.ShloMosaic.TcCoe Idealize.SL.Sem

theorem down : Cert.algebraic_Kernel11Ideal_Reference11Ideal (hKernel11Ideal := Kernel11Ideal.Gen.facts)
    (hReference11Ideal := Reference11Ideal.Gen.facts) := by
  intro m g m' g' _ hargs
  refine ⟨Kernel11Ideal.Prod.G m, ?_, ?_⟩
  · exact (θ_run _ _ _).mono (fun r h c => ⟨((h c).1.trans (Kernel11Ideal.Prod.final m c)), (h c).2⟩)
      (Kernel11Ideal.Value.run_blocks m g)
  · refine (θ_run _ _ _).mono (fun r h c => ⟨((h c).1.trans ?_), (h c).2⟩) (Reference11Ideal.Value.run m' g')
    rw [(hargs c).1, (hargs c).2]
    exact funext fun y => Reference11Ideal.Prod.value _ _ y

end Cert.Proof
-- ==== Proof.Prod.Proj.lean ====
module

public import proofs.«01_k».proof.Defs
public import proofs.«01_k».proof.Proof.Gen.Kernel12Ideal.Value
public import proofs.«01_k».proof.Proof.Gen.Reference12Ideal.Read
public import proofs.«01_k».proof.Proof.Prod.Common
public import Idealize.ShloMosaic.Lib.Quiescent
public import Idealize.ShloMosaic.Lib.Tactic

@[expose] public section

set_option maxRecDepth 16384

noncomputable section

namespace Cert.Kernel12Ideal.Prod

open Cert.Kernel12Ideal Cert.Kernel12Ideal.Gen
open Idealize.ShloMosaic Idealize.ShloMosaic.TcCoe Idealize.ShloMosaic.Tactic
open Idealize.ShloMosaic.Pipeline (Dat Cfg Window)

/-! # What the attention's first product holds, over the extended reals -/

/-- One block's product at a place of the tile. -/
theorem pay1_apply (v0 : Vec Ideal S1664x1024 .bf16) (v1 : Vec Ideal S1x1024x1024 .bf16) (i : Fin 1664) (j : Fin 1024) :
    k0_pay1 v0 v1 (ix2 i j) = ∑ k : Fin 1024, (show FVec Ideal S1664x1024 .bf16 from v0) (ix2 i k) * (show FVec Ideal S1x1024x1024 .bf16 from v1) (ix3 0 k j) := by
  unfold k0_pay1
  pointwise

variable (m : (ℓ : Loc nD τ sig) → Buf (Elt Ideal) ℓ)

/-- The two operands. -/
abbrev A (c : Dev nD) : FVec Ideal S8320x1024 .bf16 := m ((c : Thread nD τ).loc main_arg0)
abbrev B (c : Dev nD) : FVec Ideal S1x1024x4112 .bf16 := m ((c : Thread nD τ).loc main_arg1)

theorem idx0 : ∀ t : Fin cfg0.N, win0_0.index t = ![t.val / 4, 0] := (by decide +kernel : ∀ t : Fin grid0.N, _)
theorem idx1 : ∀ t : Fin cfg0.N, win0_1.index t = ![0, 0, t.val % 4] := (by decide +kernel : ∀ t : Fin grid0.N, _)
theorem idx2 : ∀ t : Fin cfg0.N, win0_2.index t = ![t.val / 4, t.val % 4] := (by decide +kernel : ∀ t : Fin grid0.N, _)

/-- The weights have further columns, which this product does not read. -/
abbrev wide (j : Fin 4096) : Fin 4112 := ⟨j.val, by omega⟩

/-- The row and the column of the resultthat the lanes of a point's tiles stand for. -/
def row (t : Fin cfg0.N) (i : Fin 1664) : Fin 8320 := ⟨t.val / 4 * 1664 + i.val, by have := lt_of_lt_of_eq t.isLt N_0; omega⟩
def col (t : Fin cfg0.N) (j : Fin 1024) : Fin 4096 := ⟨t.val % 4 * 1024 + j.val, by omega⟩

theorem blk0 (c : Dev nD) (t : Fin cfg0.N) (i : Fin 1664) (k : Fin 1024) :
    (show FVec Ideal S1664x1024 .bf16 from iblk m c 0 t) (ix2 i k) = A m c (ix2 (row t i) k) := by
  have := lt_of_lt_of_eq t.isLt N_0
  unfold row
  blk_ext [iblk, V, idx0 t]

theorem blk1 (c : Dev nD) (t : Fin cfg0.N) (k : Fin 1024) (j : Fin 1024) :
    (show FVec Ideal S1x1024x1024 .bf16 from X0_1 m c t) (ix3 0 k j) = B m c (ix3 0 k (wide (col t j))) := by
  have := lt_of_lt_of_eq t.isLt N_0
  refine (dif_pos (moved0_1 t (ix3 0 k j))).trans ?_
  unfold col
  blk_ext [iblk, V, idx1 t]

theorem emb2 (t : Fin cfg0.N) (i : Fin 1664) (j : Fin 1024) : (win0_2.blk t).view.emb (ix2 i j) = (ix2 (row t i) (col t j) : S8320x4096.Idx) := by
  have := lt_of_lt_of_eq t.isLt N_0
  unfold row col
  blk_ext [idx2 t]

/-- The product at place `k` of the contracted axis, for a lane of a point's tile. -/
def term (c : Dev nD) (t : Fin cfg0.N) (k : Fin 1024) (y : S1664x1024.Idx) : EReal := A m c (ix2 (row t (y 0)) k) * B m c (ix3 0 k (wide (col t (y 1))))

theorem pay1_term (c : Dev nD) (t : Fin cfg0.N) (y : S1664x1024.Idx) :
    k0_pay1 (iblk m c 0 t) (X0_1 m c t) y = (∑ k : Fin 1024, term m c t k y : EReal) := by
  obtain ⟨i, j, rfl⟩ : ∃ (i : Fin 1664) (j : Fin 1024), y = ix2 i j := ⟨y 0, y 1, eq_ix2 y⟩
  rw [pay1_apply]
  exact Finset.sum_congr rfl fun k _ => by rw [blk0, blk1]; rfl

/-- What a point writes back. -/
theorem written (c : Dev nD) (t : Fin cfg0.N) (y : S1664x1024.Idx) :
    outsAt0 m c t y = (∑ k : Fin 1024, term m c t k y : EReal) := by
  rw [← pay1_term]
  unfold outsAt0
  frame_out
  show k0_pay2 (F := Ideal) (iblk m c 0 t) (X0_1 m c t) y = _
  unfold k0_pay2
  rw [shapeCast_self]

/-- The product. -/
def G (c : Dev nD) : FVec Ideal S8320x4096 .bf16 := fun y => ∑ k : Fin 1024, A m c (ix2 (y 0) k) * B m c (ix3 0 k (wide (y 1)))

/-- The result array holds it. -/
theorem final (c : Dev nD) : (dats m 0 c).arrAt 2 cfg0.N = G m c := by
  refine (dats m 0 c).arrAt_eq_of_covers 2 (G m c) (by decide +kernel) fun t hf y => ?_
  rw [after0_2]
  blk_simp
  obtain ⟨i, j, rfl⟩ : ∃ (i : Fin 1664) (j : Fin 1024), y = ix2 i j := ⟨y 0, y 1, eq_ix2 y⟩
  rw [emb2, written m c t]
  rfl

end Cert.Kernel12Ideal.Prod

namespace Cert.Reference12Ideal.Prod

open Cert.Reference12Ideal Cert.Reference12Ideal.Gen
open Cert.Kernel12Ideal.Prod (wide)
open Idealize.ShloMosaic Idealize.ShloMosaic.TcCoe Idealize.SL.Sem

/-- The reference's result is the same sum. -/
theorem value (x0 : FVec Ideal S8320x1024 .bf16) (x1 : FVec Ideal S1x1024x4112 .bf16) (y : S8320x4096.Idx) :
    Read.val_main_v5 (F := Ideal) x0 x1 y = ∑ k : Fin 1024, x0 (ix2 (y 0) k) * x1 (ix3 0 k (wide (y 1))) := by
  rw [Read.val_main_v5_apply]
  show (Read.val_main_v4 (F := Ideal) x0 x1 y : EReal) = _
  rw [Read.val_main_v4_apply]
  refine Finset.sum_congr rfl fun k _ => ?_
  rw [Read.val_main_v2_apply, Read.val_main_v3_apply, Read.val_main_v1_apply, Read.val_main_v0_apply]
  have e0 : Read.lidx_main_v4 y k = ix2 (y 0) k := funext fun a => match a with
    | ⟨0, _⟩ => rfl
    | ⟨1, _⟩ => rfl
  have hj : (y 1).val < 4096 := (y 1).isLt
  have hk : k.val < 1024 := k.isLt
  have e1 : Read.idx_main_v0 (Read.idx_main_v1 (Read.ridx_main_v4 y k)) = ix3 0 k (wide (y 1)) := funext fun a => match a with
    | ⟨0, _⟩ => rfl
    | ⟨1, _⟩ => Fin.ext (by show (k.val * 4096 + (y 1).val) / 4096 % 1024 = k.val; omega)
    | ⟨2, _⟩ => Fin.ext (by show (k.val * 4096 + (y 1).val) % 4096 = (y 1).val; omega)
  rw [e0, e1]
  rfl

end Cert.Reference12Ideal.Prod

namespace Cert.Proof

open Idealize.ShloMosaic Idealize.ShloMosaic.TcCoe Idealize.SL.Sem

theorem proj : Cert.algebraic_Kernel12Ideal_Reference12Ideal (hKernel12Ideal := Kernel12Ideal.Gen.facts)
    (hReference12Ideal := Reference12Ideal.Gen.facts) := by
  intro m g m' g' _ hargs
  refine ⟨Kernel12Ideal.Prod.G m, ?_, ?_⟩
  · exact (θ_run _ _ _).mono (fun r h c => ⟨((h c).1.trans (Kernel12Ideal.Prod.final m c)), (h c).2⟩)
      (Kernel12Ideal.Value.run_blocks m g)
  · refine (θ_run _ _ _).mono (fun r h c => ⟨((h c).1.trans ?_), (h c).2⟩) (Reference12Ideal.Value.run m' g')
    rw [(hargs c).1, (hargs c).2]
    exact funext fun y => Reference12Ideal.Prod.value _ _ y

end Cert.Proof
-- ==== Proof.Prod.Out.lean ====
module

public import proofs.«01_k».proof.Defs
public import proofs.«01_k».proof.Proof.Gen.Kernel13Ideal.Value
public import proofs.«01_k».proof.Proof.Gen.Reference13Ideal.Read
public import proofs.«01_k».proof.Proof.Prod.Common
public import Idealize.ShloMosaic.Lib.Quiescent
public import Idealize.ShloMosaic.Lib.Tactic

@[expose] public section

set_option maxRecDepth 16384

noncomputable section

namespace Cert.Kernel13Ideal.Prod

open Cert.Kernel13Ideal Cert.Kernel13Ideal.Gen
open Idealize.ShloMosaic Idealize.ShloMosaic.TcCoe Idealize.ShloMosaic.Tactic
open Idealize.ShloMosaic.Pipeline (Dat Cfg Window)

/-! # What the mixers' second product holds, over the extended reals -/

/-- One block's product at a place of the tile. -/
theorem pay1_apply (v0 : Vec Ideal S1664x1024 .bf16) (v1 : Vec Ideal S1x1024x1024 .bf16) (i : Fin 1664) (j : Fin 1024) :
    k0_pay1 v0 v1 (ix2 i j) = ∑ k : Fin 1024, (show FVec Ideal S1664x1024 .bf16 from v0) (ix2 i k) * (show FVec Ideal S1x1024x1024 .bf16 from v1) (ix3 0 k j) := by
  unfold k0_pay1
  pointwise

variable (m : (ℓ : Loc nD τ sig) → Buf (Elt Ideal) ℓ)

/-- The two operands. -/
abbrev A (c : Dev nD) : FVec Ideal S8320x1024 .bf16 := m ((c : Thread nD τ).loc main_arg0)
abbrev B (c : Dev nD) : FVec Ideal S2x1024x1024 .bf16 := m ((c : Thread nD τ).loc main_arg1)

theorem idx0 : ∀ t : Fin cfg0.N, win0_0.index t = ![t.val, 0] := (by decide +kernel : ∀ t : Fin grid0.N, _)
theorem idx1 : ∀ t : Fin cfg0.N, win0_1.index t = ![0, 0, 0] := (by decide +kernel : ∀ t : Fin grid0.N, _)
theorem idx2 : ∀ t : Fin cfg0.N, win0_2.index t = ![t.val, 0] := (by decide +kernel : ∀ t : Fin grid0.N, _)

/-- The row and the column of the resultthat the lanes of a point's tiles stand for. -/
def row (t : Fin cfg0.N) (i : Fin 1664) : Fin 8320 := ⟨t.val * 1664 + i.val, by have := lt_of_lt_of_eq t.isLt N_0; omega⟩
def col (t : Fin cfg0.N) (j : Fin 1024) : Fin 1024 := j

theorem blk0 (c : Dev nD) (t : Fin cfg0.N) (i : Fin 1664) (k : Fin 1024) :
    (show FVec Ideal S1664x1024 .bf16 from iblk m c 0 t) (ix2 i k) = A m c (ix2 (row t i) k) := by
  have := lt_of_lt_of_eq t.isLt N_0
  unfold row
  blk_ext [iblk, V, idx0 t]

theorem blk1 (c : Dev nD) (t : Fin cfg0.N) (k : Fin 1024) (j : Fin 1024) :
    (show FVec Ideal S1x1024x1024 .bf16 from iblk m c 1 t) (ix3 0 k j) = B m c (ix3 0 k (col t j)) := by
  have := lt_of_lt_of_eq t.isLt N_0
  unfold col
  blk_ext [iblk, V, idx1 t]

theorem emb2 (t : Fin cfg0.N) (i : Fin 1664) (j : Fin 1024) : (win0_2.blk t).view.emb (ix2 i j) = (ix2 (row t i) (col t j) : S8320x1024.Idx) := by
  have := lt_of_lt_of_eq t.isLt N_0
  unfold row col
  blk_ext [idx2 t]

/-- The product at place `k` of the contracted axis, for a lane of a point's tile. -/
def term (c : Dev nD) (t : Fin cfg0.N) (k : Fin 1024) (y : S1664x1024.Idx) : EReal := A m c (ix2 (row t (y 0)) k) * B m c (ix3 0 k (col t (y 1)))

theorem pay1_term (c : Dev nD) (t : Fin cfg0.N) (y : S1664x1024.Idx) :
    k0_pay1 (iblk m c 0 t) (iblk m c 1 t) y = (∑ k : Fin 1024, term m c t k y : EReal) := by
  obtain ⟨i, j, rfl⟩ : ∃ (i : Fin 1664) (j : Fin 1024), y = ix2 i j := ⟨y 0, y 1, eq_ix2 y⟩
  rw [pay1_apply]
  exact Finset.sum_congr rfl fun k _ => by rw [blk0, blk1]; rfl

/-- What a point writes back. -/
theorem written (c : Dev nD) (t : Fin cfg0.N) (y : S1664x1024.Idx) :
    outsAt0 m c t y = (∑ k : Fin 1024, term m c t k y : EReal) := by
  rw [← pay1_term]
  unfold outsAt0
  frame_out
  show k0_pay2 (F := Ideal) (iblk m c 0 t) (iblk m c 1 t) y = _
  unfold k0_pay2
  rw [shapeCast_self]

/-- The product. -/
def G (c : Dev nD) : FVec Ideal S8320x1024 .bf16 := fun y => ∑ k : Fin 1024, A m c (ix2 (y 0) k) * B m c (ix3 0 k (y 1))

/-- The result array holds it. -/
theorem final (c : Dev nD) : (dats m 0 c).arrAt 2 cfg0.N = G m c := by
  refine (dats m 0 c).arrAt_eq_of_covers 2 (G m c) (by decide +kernel) fun t hf y => ?_
  rw [after0_2]
  blk_simp
  obtain ⟨i, j, rfl⟩ : ∃ (i : Fin 1664) (j : Fin 1024), y = ix2 i j := ⟨y 0, y 1, eq_ix2 y⟩
  rw [emb2, written m c t]
  rfl

end Cert.Kernel13Ideal.Prod

namespace Cert.Reference13Ideal.Prod

open Cert.Reference13Ideal Cert.Reference13Ideal.Gen
open Idealize.ShloMosaic Idealize.ShloMosaic.TcCoe Idealize.SL.Sem

/-- The reference's result is the same sum. -/
theorem value (x0 : FVec Ideal S8320x1024 .bf16) (x1 : FVec Ideal S2x1024x1024 .bf16) (y : S8320x1024.Idx) :
    Read.val_main_v5 (F := Ideal) x0 x1 y = ∑ k : Fin 1024, x0 (ix2 (y 0) k) * x1 (ix3 0 k (y 1)) := by
  rw [Read.val_main_v5_apply]
  show (Read.val_main_v4 (F := Ideal) x0 x1 y : EReal) = _
  rw [Read.val_main_v4_apply]
  refine Finset.sum_congr rfl fun k _ => ?_
  rw [Read.val_main_v2_apply, Read.val_main_v3_apply, Read.val_main_v1_apply, Read.val_main_v0_apply]
  have e0 : Read.lidx_main_v4 y k = ix2 (y 0) k := funext fun a => match a with
    | ⟨0, _⟩ => rfl
    | ⟨1, _⟩ => rfl
  have hj : (y 1).val < 1024 := (y 1).isLt
  have hk : k.val < 1024 := k.isLt
  have e1 : Read.idx_main_v0 (Read.idx_main_v1 (Read.ridx_main_v4 y k)) = ix3 0 k (y 1) := funext fun a => match a with
    | ⟨0, _⟩ => rfl
    | ⟨1, _⟩ => Fin.ext (by show (k.val * 1024 + (y 1).val) / 1024 % 1024 = k.val; omega)
    | ⟨2, _⟩ => Fin.ext (by show (k.val * 1024 + (y 1).val) % 1024 = (y 1).val; omega)
  rw [e0, e1]
  rfl

end Cert.Reference13Ideal.Prod

namespace Cert.Proof

open Idealize.ShloMosaic Idealize.ShloMosaic.TcCoe Idealize.SL.Sem

theorem out : Cert.algebraic_Kernel13Ideal_Reference13Ideal (hKernel13Ideal := Kernel13Ideal.Gen.facts)
    (hReference13Ideal := Reference13Ideal.Gen.facts) := by
  intro m g m' g' _ hargs
  refine ⟨Kernel13Ideal.Prod.G m, ?_, ?_⟩
  · exact (θ_run _ _ _).mono (fun r h c => ⟨((h c).1.trans (Kernel13Ideal.Prod.final m c)), (h c).2⟩)
      (Kernel13Ideal.Value.run_blocks m g)
  · refine (θ_run _ _ _).mono (fun r h c => ⟨((h c).1.trans ?_), (h c).2⟩) (Reference13Ideal.Value.run m' g')
    rw [(hargs c).1, (hargs c).2]
    exact funext fun y => Reference13Ideal.Prod.value _ _ y

end Cert.Proof
-- ==== Proof.Prod.DADelta.lean ====
module

public import proofs.«01_k».proof.Defs
public import proofs.«01_k».proof.Proof.Gen.Kernel14Ideal.Value
public import proofs.«01_k».proof.Proof.Gen.Reference14Ideal.Read
public import proofs.«01_k».proof.Proof.Prod.Common
public import Idealize.ShloMosaic.Lib.Quiescent
public import Idealize.ShloMosaic.Lib.Tactic

@[expose] public section

set_option maxRecDepth 16384

noncomputable section

namespace Cert.Kernel14Ideal.Prod

open Cert.Kernel14Ideal Cert.Kernel14Ideal.Gen
open Idealize.ShloMosaic Idealize.ShloMosaic.TcCoe Idealize.ShloMosaic.Tactic
open Idealize.ShloMosaic.Pipeline (Dat Cfg Window)

/-! # What the gradient of the delta rule's input holds, over the extended reals -/

/-- One block's product at a place of the tile. -/
theorem pay1_apply (v0 : Vec Ideal S1664x1024 .bf16) (v1 : Vec Ideal S1x1024x1024 .bf16) (i : Fin 1664) (j : Fin 1024) :
    k0_pay1 v0 v1 (ix2 i j) = ∑ k : Fin 1024, (show FVec Ideal S1664x1024 .bf16 from v0) (ix2 i k) * (show FVec Ideal S1x1024x1024 .bf16 from v1) (ix3 0 j k) := by
  unfold k0_pay1
  pointwise

/-- A later point adds its product to the accumulator. -/
theorem pay3_apply (v0 : Vec Ideal S1664x1024 .bf16) (v1 : Vec Ideal S1x1024x1024 .bf16) (w : Vec Ideal S1664x1024 .f32) (y : S1664x1024.Idx) :
    k0_pay3 v0 v1 w y = (w y + k0_pay1 v0 v1 y : EReal) := by
  unfold k0_pay3
  rw [shapeCast_self]
  rfl

variable (m : (ℓ : Loc nD τ sig) → Buf (Elt Ideal) ℓ)

/-- The two operands and what is added to their product. -/
abbrev A (c : Dev nD) : FVec Ideal S8320x4096 .bf16 := m ((c : Thread nD τ).loc main_arg0)
abbrev B (c : Dev nD) : FVec Ideal S2x1024x4112 .bf16 := m ((c : Thread nD τ).loc main_arg1)
abbrev D (c : Dev nD) : FVec Ideal S8320x1024 .f32 := m ((c : Thread nD τ).loc main_arg2)

theorem idx0 : ∀ t : Fin cfg0.N, win0_0.index t = ![t.val / 4, t.val % 4] := (by decide +kernel : ∀ t : Fin grid0.N, _)
theorem idx1 : ∀ t : Fin cfg0.N, win0_1.index t = ![0, 0, t.val % 4] := (by decide +kernel : ∀ t : Fin grid0.N, _)
theorem idx2 : ∀ t : Fin cfg0.N, win0_2.index t = ![t.val / 4, 0] := (by decide +kernel : ∀ t : Fin grid0.N, _)
theorem idx3 : ∀ t : Fin cfg0.N, win0_3.index t = ![t.val / 4, 0] := (by decide +kernel : ∀ t : Fin grid0.N, _)

/-- The weights have further columns, which this product does not read. -/
abbrev wide (j : Fin 4096) : Fin 4112 := ⟨j.val, by omega⟩

/-- The row and the column of the result, and the place on the contracted axis, that the lanes of a point's tiles stand for. -/
def row (t : Fin cfg0.N) (i : Fin 1664) : Fin 8320 := ⟨t.val / 4 * 1664 + i.val, by have := lt_of_lt_of_eq t.isLt N_0; omega⟩
def col (t : Fin cfg0.N) (j : Fin 1024) : Fin 1024 := j
abbrev mid (t : Fin cfg0.N) (k : Fin 1024) : Fin 4096 := Cert.Prod.mid (nk := 4) rfl t k

theorem blk0 (c : Dev nD) (t : Fin cfg0.N) (i : Fin 1664) (k : Fin 1024) :
    (show FVec Ideal S1664x1024 .bf16 from iblk m c 0 t) (ix2 i k) = A m c (ix2 (row t i) (mid t k)) := by
  have := lt_of_lt_of_eq t.isLt N_0
  unfold row mid Cert.Prod.mid
  blk_ext [iblk, V, idx0 t]

theorem blk1 (c : Dev nD) (t : Fin cfg0.N) (k : Fin 1024) (j : Fin 1024) :
    (show FVec Ideal S1x1024x1024 .bf16 from X0_1 m c t) (ix3 0 j k) = B m c (ix3 0 (col t j) (wide (mid t k))) := by
  have := lt_of_lt_of_eq t.isLt N_0
  refine (dif_pos (moved0_1 t (ix3 0 j k))).trans ?_
  unfold col mid Cert.Prod.mid
  blk_ext [iblk, V, idx1 t]

theorem blk2 (c : Dev nD) (t : Fin cfg0.N) (i : Fin 1664) (j : Fin 1024) :
    (show FVec Ideal S1664x1024 .f32 from iblk m c 2 t) (ix2 i j) = D m c (ix2 (row t i) (col t j)) := by
  have := lt_of_lt_of_eq t.isLt N_0
  unfold row col
  blk_ext [iblk, V, idx2 t]

theorem emb3 (t : Fin cfg0.N) (i : Fin 1664) (j : Fin 1024) : (win0_3.blk t).view.emb (ix2 i j) = (ix2 (row t i) (col t j) : S8320x1024.Idx) := by
  have := lt_of_lt_of_eq t.isLt N_0
  unfold row col
  blk_ext [idx3 t]

/-- The product at place `k` of the contracted axis, for a lane of a point's tile. -/
def term (c : Dev nD) (t : Fin cfg0.N) (k : Fin 4096) (y : S1664x1024.Idx) : EReal := A m c (ix2 (row t (y 0)) k) * B m c (ix3 0 (col t (y 1)) (wide k))

theorem pay1_term (c : Dev nD) (t : Fin cfg0.N) (y : S1664x1024.Idx) :
    k0_pay1 (iblk m c 0 t) (X0_1 m c t) y = (∑ k : Fin 1024, term m c t (mid t k) y : EReal) := by
  obtain ⟨i, j, rfl⟩ : ∃ (i : Fin 1664) (j : Fin 1024), y = ix2 i j := ⟨y 0, y 1, eq_ix2 y⟩
  rw [pay1_apply]
  exact Finset.sum_congr rfl fun k _ => by rw [blk0, blk1]; rfl

/-- The accumulator after the first point of a run, -/
theorem scratch_first (c : Dev nD) (t : Fin cfg0.N) (h : t.val % 4 = 0) (y : S1664x1024.Idx) :
    (outsAt0 m c t.val t.isLt).2 y = (∑ k : Fin 1024, term m c t (mid t k) y : EReal) := by
  rw [outsAt0_A m c t h (by omega) (by omega), ← pay1_term]
  frame_out
  unfold k0_pay2
  rw [shapeCast_self]

/-- after a later one, -/
theorem scratch_next (c : Dev nD) (t : Fin cfg0.N) (h : ¬t.val % 4 = 0) (y : S1664x1024.Idx) :
    (outsAt0 m c t.val t.isLt).2 y
      = (outsAt0 m c (t.val - 1) (Nat.lt_of_le_of_lt (Nat.sub_le _ _) t.isLt)).2 y + (∑ k : Fin 1024, term m c t (mid t k) y : EReal) := by
  rw [← pay1_term]
  by_cases h3 : t.val % 4 = 3
  · rw [outsAt0_C m c t h (by omega) h3]
    frame_out
    rw [pay3_apply, (Memref.isWhole_whole _ : scM0_0.IsWhole).read_unread]
  · rw [outsAt0_B m c t h (by omega) h3]
    frame_out
    rw [pay3_apply, (Memref.isWhole_whole _ : scM0_0.IsWhole).read_unread]

/-- and what the last point writes back is the accumulator and the addend. -/
theorem written (c : Dev nD) (t : Fin cfg0.N) (h : t.val % 4 = 3) (y : S1664x1024.Idx) :
    (outsAt0 m c t.val t.isLt).1 y = ((outsAt0 m c t.val t.isLt).2 y + (show FVec Ideal S1664x1024 .f32 from iblk m c 2 t) y : EReal) := by
  rw [outsAt0_C m c t (by omega) (by omega) h]
  frame_out
  rfl

/-- A tile's points share its row and its column. -/
theorem term_run (c : Dev nD) (t t' : Fin cfg0.N) (h : t.val / 4 = t'.val / 4) : term m c t = term m c t' := by
  unfold term row col
  simp only [h]

theorem summed (c : Dev nD) (t : Fin cfg0.N) (h : t.val % 4 = 3) (y : S1664x1024.Idx) :
    (outsAt0 m c t.val t.isLt).2 y = (∑ k : Fin 4096, term m c t k y : EReal) :=
  Cert.Prod.accumulated (ι := S1664x1024.Idx) (nk := 4) (tk := 1024) (K := 4096) (N := cfg0.N) (by decide)
    (fun n h y => (show EReal from (outsAt0 m c n h).2 y)) (term m c) (term_run m c)
    (fun t h y => scratch_first m c t h y) (fun t h y => scratch_next m c t h y) t h y

/-- The product and the addend. -/
def G (c : Dev nD) : FVec Ideal S8320x1024 .bf16 := fun y => (∑ k : Fin 4096, A m c (ix2 (y 0) k) * B m c (ix3 0 (y 1) (wide k)) : EReal) + D m c y

/-- The result array holds it. -/
theorem final (c : Dev nD) : (dats m 0 c).arrAt 3 cfg0.N = G m c := by
  refine (dats m 0 c).arrAt_eq_of_covers 3 (G m c) (by decide +kernel) fun t hf y => ?_
  rw [after0_3]
  have h3 : t.val % 4 = 3 := (flush0_3 t).mp hf
  blk_simp
  obtain ⟨i, j, rfl⟩ : ∃ (i : Fin 1664) (j : Fin 1024), y = ix2 i j := ⟨y 0, y 1, eq_ix2 y⟩
  rw [emb3, written m c t h3]
  rw [summed m c t h3, blk2]
  rfl

end Cert.Kernel14Ideal.Prod

namespace Cert.Reference14Ideal.Prod

open Cert.Reference14Ideal Cert.Reference14Ideal.Gen
open Cert.Kernel14Ideal.Prod (wide)
open Idealize.ShloMosaic Idealize.ShloMosaic.TcCoe Idealize.SL.Sem

/-- The reference's result is the same sum. -/
theorem value (x0 : FVec Ideal S8320x4096 .bf16) (x1 : FVec Ideal S2x1024x4112 .bf16) (x2 : FVec Ideal S8320x1024 .f32) (y : S8320x1024.Idx) :
    Read.val_main_v8 (F := Ideal) x0 x1 x2 y = (∑ k : Fin 4096, x0 (ix2 (y 0) k) * x1 (ix3 0 (y 1) (wide k)) : EReal) + x2 y := by
  rw [Read.val_main_v8_apply]
  show (Read.val_main_v7 (F := Ideal) x0 x1 x2 y : EReal) = _
  rw [Read.val_main_v7_apply]
  show (Read.val_main_v6 (F := Ideal) x0 x1 y + x2 y : EReal) = _
  refine congrArg (· + (x2 y : EReal)) ?_
  rw [Read.val_main_v6_apply]
  refine Finset.sum_congr rfl fun k _ => ?_
  rw [Read.val_main_v5_apply, Read.val_main_v2_apply, Read.val_main_v1_apply, Read.val_main_v0_apply]
  have e0 : Read.lidx_main_v6 y k = ix2 (y 0) k := funext fun a => match a with
    | ⟨0, _⟩ => rfl
    | ⟨1, _⟩ => rfl
  have hj : (y 1).val < 1024 := (y 1).isLt
  have hk : k.val < 4096 := k.isLt
  have e1 : Read.idx_main_v0 (Read.idx_main_v1 (Read.ridx_main_v6 y k)) = ix3 0 (y 1) (wide k) := funext fun a => match a with
    | ⟨0, _⟩ => rfl
    | ⟨1, _⟩ => Fin.ext (by show ((y 1).val * 4096 + k.val) / 4096 % 1024 = (y 1).val; omega)
    | ⟨2, _⟩ => Fin.ext (by show ((y 1).val * 4096 + k.val) % 4096 = k.val; omega)
  rw [e0, e1]
  rfl

end Cert.Reference14Ideal.Prod

namespace Cert.Proof

open Idealize.ShloMosaic Idealize.ShloMosaic.TcCoe Idealize.SL.Sem

theorem da_delta : Cert.algebraic_Kernel14Ideal_Reference14Ideal (hKernel14Ideal := Kernel14Ideal.Gen.facts)
    (hReference14Ideal := Reference14Ideal.Gen.facts) := by
  intro m g m' g' _ hargs
  refine ⟨Kernel14Ideal.Prod.G m, ?_, ?_⟩
  · exact (θ_run _ _ _).mono (fun r h c => ⟨((h c).1.trans (Kernel14Ideal.Prod.final m c)), (h c).2⟩)
      (Kernel14Ideal.Value.run_blocks m g)
  · refine (θ_run _ _ _).mono (fun r h c => ⟨((h c).1.trans ?_), (h c).2⟩) (Reference14Ideal.Value.run m' g')
    rw [(hargs c).1, (hargs c).2.1, (hargs c).2.2]
    exact funext fun y => Reference14Ideal.Prod.value _ _ _ y

end Cert.Proof
-- ==== Proof.Prod.ProjDelta.lean ====
module

public import proofs.«01_k».proof.Defs
public import proofs.«01_k».proof.Proof.Gen.Kernel15Ideal.Value
public import proofs.«01_k».proof.Proof.Gen.Reference15Ideal.Read
public import proofs.«01_k».proof.Proof.Prod.Common
public import Idealize.ShloMosaic.Lib.Quiescent
public import Idealize.ShloMosaic.Lib.Tactic

@[expose] public section

set_option maxRecDepth 16384

noncomputable section

namespace Cert.Kernel15Ideal.Prod

open Cert.Kernel15Ideal Cert.Kernel15Ideal.Gen
open Idealize.ShloMosaic Idealize.ShloMosaic.TcCoe Idealize.ShloMosaic.Tactic
open Idealize.ShloMosaic.Pipeline (Dat Cfg Window)

/-! # What the delta rule's first product holds, over the extended reals -/

/-- One block's product at a place of the tile. -/
theorem pay1_apply (v0 : Vec Ideal S1664x1024 .bf16) (v1 : Vec Ideal S1x1024x1024 .bf16) (i : Fin 1664) (j : Fin 1024) :
    k0_pay1 v0 v1 (ix2 i j) = ∑ k : Fin 1024, (show FVec Ideal S1664x1024 .bf16 from v0) (ix2 i k) * (show FVec Ideal S1x1024x1024 .bf16 from v1) (ix3 0 k j) := by
  unfold k0_pay1
  pointwise

variable (m : (ℓ : Loc nD τ sig) → Buf (Elt Ideal) ℓ)

/-- The two operands. -/
abbrev A (c : Dev nD) : FVec Ideal S8320x1024 .bf16 := m ((c : Thread nD τ).loc main_arg0)
abbrev B (c : Dev nD) : FVec Ideal S2x1024x4112 .bf16 := m ((c : Thread nD τ).loc main_arg1)

theorem idx0 : ∀ t : Fin cfg0.N, win0_0.index t = ![t.val / 4, 0] := (by decide +kernel : ∀ t : Fin grid0.N, _)
theorem idx1 : ∀ t : Fin cfg0.N, win0_1.index t = ![0, 0, t.val % 4] := (by decide +kernel : ∀ t : Fin grid0.N, _)
theorem idx2 : ∀ t : Fin cfg0.N, win0_2.index t = ![t.val / 4, t.val % 4] := (by decide +kernel : ∀ t : Fin grid0.N, _)

/-- The weights have further columns, which this product does not read. -/
abbrev wide (j : Fin 4096) : Fin 4112 := ⟨j.val, by omega⟩

/-- The row and the column of the resultthat the lanes of a point's tiles stand for. -/
def row (t : Fin cfg0.N) (i : Fin 1664) : Fin 8320 := ⟨t.val / 4 * 1664 + i.val, by have := lt_of_lt_of_eq t.isLt N_0; omega⟩
def col (t : Fin cfg0.N) (j : Fin 1024) : Fin 4096 := ⟨t.val % 4 * 1024 + j.val, by omega⟩

theorem blk0 (c : Dev nD) (t : Fin cfg0.N) (i : Fin 1664) (k : Fin 1024) :
    (show FVec Ideal S1664x1024 .bf16 from iblk m c 0 t) (ix2 i k) = A m c (ix2 (row t i) k) := by
  have := lt_of_lt_of_eq t.isLt N_0
  unfold row
  blk_ext [iblk, V, idx0 t]

theorem blk1 (c : Dev nD) (t : Fin cfg0.N) (k : Fin 1024) (j : Fin 1024) :
    (show FVec Ideal S1x1024x1024 .bf16 from X0_1 m c t) (ix3 0 k j) = B m c (ix3 0 k (wide (col t j))) := by
  have := lt_of_lt_of_eq t.isLt N_0
  refine (dif_pos (moved0_1 t (ix3 0 k j))).trans ?_
  unfold col
  blk_ext [iblk, V, idx1 t]

theorem emb2 (t : Fin cfg0.N) (i : Fin 1664) (j : Fin 1024) : (win0_2.blk t).view.emb (ix2 i j) = (ix2 (row t i) (col t j) : S8320x4096.Idx) := by
  have := lt_of_lt_of_eq t.isLt N_0
  unfold row col
  blk_ext [idx2 t]

/-- The product at place `k` of the contracted axis, for a lane of a point's tile. -/
def term (c : Dev nD) (t : Fin cfg0.N) (k : Fin 1024) (y : S1664x1024.Idx) : EReal := A m c (ix2 (row t (y 0)) k) * B m c (ix3 0 k (wide (col t (y 1))))

theorem pay1_term (c : Dev nD) (t : Fin cfg0.N) (y : S1664x1024.Idx) :
    k0_pay1 (iblk m c 0 t) (X0_1 m c t) y = (∑ k : Fin 1024, term m c t k y : EReal) := by
  obtain ⟨i, j, rfl⟩ : ∃ (i : Fin 1664) (j : Fin 1024), y = ix2 i j := ⟨y 0, y 1, eq_ix2 y⟩
  rw [pay1_apply]
  exact Finset.sum_congr rfl fun k _ => by rw [blk0, blk1]; rfl

/-- What a point writes back. -/
theorem written (c : Dev nD) (t : Fin cfg0.N) (y : S1664x1024.Idx) :
    outsAt0 m c t y = (∑ k : Fin 1024, term m c t k y : EReal) := by
  rw [← pay1_term]
  unfold outsAt0
  frame_out
  show k0_pay2 (F := Ideal) (iblk m c 0 t) (X0_1 m c t) y = _
  unfold k0_pay2
  rw [shapeCast_self]

/-- The product. -/
def G (c : Dev nD) : FVec Ideal S8320x4096 .bf16 := fun y => ∑ k : Fin 1024, A m c (ix2 (y 0) k) * B m c (ix3 0 k (wide (y 1)))

/-- The result array holds it. -/
theorem final (c : Dev nD) : (dats m 0 c).arrAt 2 cfg0.N = G m c := by
  refine (dats m 0 c).arrAt_eq_of_covers 2 (G m c) (by decide +kernel) fun t hf y => ?_
  rw [after0_2]
  blk_simp
  obtain ⟨i, j, rfl⟩ : ∃ (i : Fin 1664) (j : Fin 1024), y = ix2 i j := ⟨y 0, y 1, eq_ix2 y⟩
  rw [emb2, written m c t]
  rfl

end Cert.Kernel15Ideal.Prod

namespace Cert.Reference15Ideal.Prod

open Cert.Reference15Ideal Cert.Reference15Ideal.Gen
open Cert.Kernel15Ideal.Prod (wide)
open Idealize.ShloMosaic Idealize.ShloMosaic.TcCoe Idealize.SL.Sem

/-- The reference's result is the same sum. -/
theorem value (x0 : FVec Ideal S8320x1024 .bf16) (x1 : FVec Ideal S2x1024x4112 .bf16) (y : S8320x4096.Idx) :
    Read.val_main_v5 (F := Ideal) x0 x1 y = ∑ k : Fin 1024, x0 (ix2 (y 0) k) * x1 (ix3 0 k (wide (y 1))) := by
  rw [Read.val_main_v5_apply]
  show (Read.val_main_v4 (F := Ideal) x0 x1 y : EReal) = _
  rw [Read.val_main_v4_apply]
  refine Finset.sum_congr rfl fun k _ => ?_
  rw [Read.val_main_v2_apply, Read.val_main_v3_apply, Read.val_main_v1_apply, Read.val_main_v0_apply]
  have e0 : Read.lidx_main_v4 y k = ix2 (y 0) k := funext fun a => match a with
    | ⟨0, _⟩ => rfl
    | ⟨1, _⟩ => rfl
  have hj : (y 1).val < 4096 := (y 1).isLt
  have hk : k.val < 1024 := k.isLt
  have e1 : Read.idx_main_v0 (Read.idx_main_v1 (Read.ridx_main_v4 y k)) = ix3 0 k (wide (y 1)) := funext fun a => match a with
    | ⟨0, _⟩ => rfl
    | ⟨1, _⟩ => Fin.ext (by show (k.val * 4096 + (y 1).val) / 4096 % 1024 = k.val; omega)
    | ⟨2, _⟩ => Fin.ext (by show (k.val * 4096 + (y 1).val) % 4096 = (y 1).val; omega)
  rw [e0, e1]
  rfl

end Cert.Reference15Ideal.Prod

namespace Cert.Proof

open Idealize.ShloMosaic Idealize.ShloMosaic.TcCoe Idealize.SL.Sem

theorem proj_delta : Cert.algebraic_Kernel15Ideal_Reference15Ideal (hKernel15Ideal := Kernel15Ideal.Gen.facts)
    (hReference15Ideal := Reference15Ideal.Gen.facts) := by
  intro m g m' g' _ hargs
  refine ⟨Kernel15Ideal.Prod.G m, ?_, ?_⟩
  · exact (θ_run _ _ _).mono (fun r h c => ⟨((h c).1.trans (Kernel15Ideal.Prod.final m c)), (h c).2⟩)
      (Kernel15Ideal.Value.run_blocks m g)
  · refine (θ_run _ _ _).mono (fun r h c => ⟨((h c).1.trans ?_), (h c).2⟩) (Reference15Ideal.Value.run m' g')
    rw [(hargs c).1, (hargs c).2]
    exact funext fun y => Reference15Ideal.Prod.value _ _ y

end Cert.Proof
-- ==== Proof.Gate.Geglu.lean ====
module

public import proofs.«01_k».proof.Defs
public import proofs.«01_k».proof.Proof.Gen.Kernel17Ideal.Value
public import proofs.«01_k».proof.Proof.Gen.Reference17Ideal.Read
public import proofs.«01_k».proof.Proof.Prod.Common
public import Idealize.ShloMosaic.Lib.Quiescent
public import Idealize.ShloMosaic.Lib.KernelVsHost
public import Idealize.ShloMosaic.Lib.Tactic

@[expose] public section

set_option maxRecDepth 16384

noncomputable section

namespace Cert.Gate

open Idealize.ShloMosaic

/-! # The gradient of a gated unit, over the extended reals

`x` is the gate's input, `u` the factor it gates, `d` the gradient of the product. -/

/-- The hyperbolic tangent inside the gate. -/
def bend (x : Ideal .f32) : Ideal .f32 :=
  FloatOps.tanh (FloatOps.mulf (FloatOps.ofBits .f32 0x3F4C422A#32)
    (FloatOps.addf x (FloatOps.mulf (FloatOps.ofBits .f32 0x3D372713#32) (FloatOps.mulf x (FloatOps.mulf x x)))))

/-- One half of one plus it. -/
def half (x : Ideal .f32) : Ideal .f32 :=
  FloatOps.mulf (FloatOps.ofBits .f32 0x3F000000#32) (FloatOps.addf (FloatOps.ofBits .f32 0x3F800000#32) (bend x))

/-- The gradient of the factor. -/
def dFactor (x d : Ideal .f32) : Ideal .f32 := FloatOps.mulf (FloatOps.mulf x (half x)) d

/-- The part of the gate's gradient that goes through the hyperbolic tangent. -/
def through (x s : Ideal .f32) : Ideal .f32 :=
  FloatOps.mulf (FloatOps.ofBits .f32 0x3F4C422A#32)
    (FloatOps.mulf (FloatOps.mulf (FloatOps.ofBits .f32 0x3F000000#32) (FloatOps.mulf x s))
      (FloatOps.mulf (FloatOps.addf (FloatOps.ofBits .f32 0x3F800000#32) (bend x)) (FloatOps.subf (FloatOps.ofBits .f32 0x3F800000#32) (bend x))))

/-- The gradient of the gate's input. -/
def dGate (x u d : Ideal .f32) : Ideal .f32 :=
  FloatOps.addf (FloatOps.addf (FloatOps.mulf (FloatOps.mulf d u) (half x)) (through x (FloatOps.mulf d u)))
    (FloatOps.mulf (FloatOps.mulf (FloatOps.ofBits .f32 0x3D372713#32) (through x (FloatOps.mulf d u)))
      (FloatOps.mulf (FloatOps.ofBits .f32 0x40400000#32) (FloatOps.mulf x x)))

/-- The zero of the format. -/
abbrev nought : Ideal .f32 := FloatOps.ofBits .f32 0x00000000#32

end Cert.Gate

namespace Cert.Kernel17Ideal.Gate

open Cert.Kernel17Ideal Cert.Kernel17Ideal.Gen Cert.Gate
open Idealize.ShloMosaic Idealize.ShloMosaic.TcCoe Idealize.ShloMosaic.Tactic
open Idealize.ShloMosaic.Pipeline (Dat Cfg Window)

/-- The gate's lane and the factor's lane of a block. -/
def lo (j : Fin 256) : Fin 512 := ⟨j.val, by omega⟩
def hi (j : Fin 256) : Fin 512 := ⟨256 + j.val, by omega⟩

theorem pay3_apply (v0 : Vec Ideal S1664x512 .bf16) (i : Fin 1664) (j : Fin 256) :
    k0_pay3 v0 (ix2 i j) = v0 (ix2 i (lo j)) := by
  unfold k0_pay3 k0_pay2 lo
  pointwise

theorem slice_apply (v0 : Vec Ideal S1664x512 .bf16) (i : Fin 1664) (j : Fin 256) :
    extractStridedSlice S1664x256 ![0, 256] (k0_pay2 v0) slices_S1664x512_o0_256_S1664x256 (ix2 i j) = v0 (ix2 i (hi j)) := by
  unfold k0_pay2 hi
  pointwise

theorem pay4_apply (v0 : Vec Ideal S1664x512 .bf16) (i : Fin 1664) (j : Fin 256) :
    k0_pay4 v0 (ix2 i j) = bend (v0 (ix2 i (lo j))) := by
  rw [← pay3_apply v0 i j]
  rfl

theorem pay5_apply (v0 : Vec Ideal S1664x512 .bf16) (i : Fin 1664) (j : Fin 256) :
    k0_pay5 v0 (ix2 i j) = half (v0 (ix2 i (lo j))) := by
  unfold half
  rw [← pay4_apply]
  rfl

theorem pay8_apply (v0 : Vec Ideal S1664x512 .bf16) (v1 : Vec Ideal S1664x256 .bf16) (i : Fin 1664) (j : Fin 256) :
    k0_pay8 v0 v1 (ix2 i j) = dGate (v0 (ix2 i (lo j))) (v0 (ix2 i (hi j))) (v1 (ix2 i j)) := by
  unfold dGate through
  rw [← pay5_apply v0 i j, ← pay4_apply v0 i j, ← slice_apply v0 i j, ← pay3_apply v0 i j]
  rfl

/-- The block a point leaves, at a place of the gate's half. -/
theorem block_lo (v0 : Vec Ideal S1664x512 .bf16) (v1 : Vec Ideal S1664x256 .bf16) (i : Fin 1664) (j : Fin 256) :
    k0_pay1 (k0_pay7 v0 v1) (k0_pay8 v0 v1) (ix2 i (lo j))
      = FloatOps.addf nought (dGate (v0 (ix2 i (lo j))) (v0 (ix2 i (hi j))) (v1 (ix2 i j))) := by
  rw [← pay8_apply]
  have h0 : k0_pay7 v0 v1 (ix2 i (lo j)) = nought := by
    unfold k0_pay7 lo
    pointwise
  have h1 : concatenate S1664x512 1 [⟨S1664x256, k0_pay8 v0 v1⟩, ⟨S1664x256, broadcast S1664x256 nought⟩] concatenates_S1664x256_S1664x256_S1664x512_d1 (ix2 i (lo j)) = k0_pay8 v0 v1 (ix2 i j) := by
    unfold lo
    pointwise
  unfold k0_pay1
  show FloatOps.addf (k0_pay7 v0 v1 (ix2 i (lo j))) (concatenate S1664x512 1 [⟨S1664x256, k0_pay8 v0 v1⟩, ⟨S1664x256, broadcast S1664x256 nought⟩] concatenates_S1664x256_S1664x256_S1664x512_d1 (ix2 i (lo j))) = _
  rw [h0, h1]

/-- The same at a place of the factor's half. -/
theorem block_hi (v0 : Vec Ideal S1664x512 .bf16) (v1 : Vec Ideal S1664x256 .bf16) (i : Fin 1664) (j : Fin 256) :
    k0_pay1 (k0_pay7 v0 v1) (k0_pay8 v0 v1) (ix2 i (hi j))
      = FloatOps.addf (dFactor (v0 (ix2 i (lo j))) (v1 (ix2 i j))) nought := by
  have h0 : k0_pay7 v0 v1 (ix2 i (hi j)) = dFactor (v0 (ix2 i (lo j))) (v1 (ix2 i j)) := by
    unfold dFactor
    rw [← pay5_apply v0 i j, ← pay3_apply v0 i j]
    show _ = mulf (mulf (k0_pay3 v0) (k0_pay5 v0)) (k0_pay6 v1) (ix2 i j)
    unfold k0_pay7
    generalize mulf (mulf (k0_pay3 v0) (k0_pay5 v0)) (k0_pay6 v1) = w
    unfold hi
    pointwise
  have h1 : concatenate S1664x512 1 [⟨S1664x256, k0_pay8 v0 v1⟩, ⟨S1664x256, broadcast S1664x256 nought⟩] concatenates_S1664x256_S1664x256_S1664x512_d1 (ix2 i (hi j)) = nought := by
    generalize k0_pay8 v0 v1 = w
    unfold hi
    pointwise
  unfold k0_pay1
  show FloatOps.addf (k0_pay7 v0 v1 (ix2 i (hi j))) (concatenate S1664x512 1 [⟨S1664x256, k0_pay8 v0 v1⟩, ⟨S1664x256, broadcast S1664x256 nought⟩] concatenates_S1664x256_S1664x256_S1664x512_d1 (ix2 i (hi j))) = _
  rw [h0, h1]

end Cert.Kernel17Ideal.Gate

namespace Cert.Reference17Ideal.Gate

open Cert.Reference17Ideal Cert.Reference17Ideal.Gen Cert.Gate
open Idealize.ShloMosaic Idealize.ShloMosaic.TcCoe Idealize.SL.Sem

/-- Of lane `j` of group `g`: the column of the gate, of the factor, and of the product. -/
def gcol (g : Fin 11) (j : Fin 256) : Fin 5632 := ⟨g.val * 512 + j.val, by omega⟩
def fcol (g : Fin 11) (j : Fin 256) : Fin 5632 := ⟨g.val * 512 + 256 + j.val, by omega⟩
def acol (g : Fin 11) (j : Fin 256) : Fin 2816 := ⟨g.val * 256 + j.val, by omega⟩

variable (x0 : FVec Ideal S8320x5632 .bf16) (x1 : FVec Ideal S8320x2816 .bf16) (r : Fin 8320) (g : Fin 11) (j : Fin 256)

theorem v3_apply : Read.val_main_v3 (F := Ideal) x0 (ix3 r g j) = x0 (ix2 r (gcol g j)) := by
  rw [Read.val_main_v3_apply, Read.val_main_v2_apply, Read.val_main_v1_apply, Read.val_main_v0_apply]
  have e0 : Read.idx_main_v3 (ix3 r g j) = ix4 r g 0 j := funext fun a => match a with
    | ⟨0, _⟩ => Fin.ext (by show ((r.val * 11 + g.val) * 256 + j.val) / 2816 = r.val; omega)
    | ⟨1, _⟩ => Fin.ext (by show ((r.val * 11 + g.val) * 256 + j.val) / 256 % 11 = g.val; omega)
    | ⟨2, _⟩ => rfl
    | ⟨3, _⟩ => Fin.ext (by show ((r.val * 11 + g.val) * 256 + j.val) % 256 = j.val; omega)
  have e1 : Read.idx_main_v1 (Read.idx_main_v2 (ix4 r g 0 j)) = ix2 r (gcol g j) := funext fun a => match a with
    | ⟨0, _⟩ => Fin.ext (by show (((r.val * 11 + g.val) * 2 + 0) * 256 + j.val) / 5632 = r.val; omega)
    | ⟨1, _⟩ => Fin.ext (by show (((r.val * 11 + g.val) * 2 + 0) * 256 + j.val) % 5632 = g.val * 512 + j.val; omega)
  rw [e0, e1]
  rfl

theorem v5_apply : Read.val_main_v5 (F := Ideal) x0 (ix3 r g j) = x0 (ix2 r (fcol g j)) := by
  rw [Read.val_main_v5_apply, Read.val_main_v4_apply, Read.val_main_v1_apply, Read.val_main_v0_apply]
  have e0 : Read.idx_main_v5 (ix3 r g j) = ix4 r g 0 j := funext fun a => match a with
    | ⟨0, _⟩ => Fin.ext (by show ((r.val * 11 + g.val) * 256 + j.val) / 2816 = r.val; omega)
    | ⟨1, _⟩ => Fin.ext (by show ((r.val * 11 + g.val) * 256 + j.val) / 256 % 11 = g.val; omega)
    | ⟨2, _⟩ => rfl
    | ⟨3, _⟩ => Fin.ext (by show ((r.val * 11 + g.val) * 256 + j.val) % 256 = j.val; omega)
  have e1 : Read.idx_main_v1 (Read.idx_main_v4 (ix4 r g 0 j)) = ix2 r (fcol g j) := funext fun a => match a with
    | ⟨0, _⟩ => Fin.ext (by show (((r.val * 11 + g.val) * 2 + 1) * 256 + j.val) / 5632 = r.val; omega)
    | ⟨1, _⟩ => Fin.ext (by show (((r.val * 11 + g.val) * 2 + 1) * 256 + j.val) % 5632 = g.val * 512 + 256 + j.val; omega)
  rw [e0, e1]
  rfl

theorem v30_apply : Read.val_main_v30 (F := Ideal) x1 (ix3 r g j) = x1 (ix2 r (acol g j)) := by
  rw [Read.val_main_v30_apply, Read.val_main_v29_apply]
  have e : Read.idx_main_v30 (ix3 r g j) = ix2 r (acol g j) := funext fun a => match a with
    | ⟨0, _⟩ => Fin.ext (by show ((r.val * 11 + g.val) * 256 + j.val) / 2816 = r.val; omega)
    | ⟨1, _⟩ => Fin.ext (by show ((r.val * 11 + g.val) * 256 + j.val) % 2816 = g.val * 256 + j.val; omega)
  rw [e]
  rfl

theorem v16_apply : Read.val_main_v16 (F := Ideal) x0 (ix3 r g j) = bend (x0 (ix2 r (gcol g j))) := by
  unfold bend
  rw [← v3_apply x0 r g j]
  rw [Read.val_main_v16_apply, Read.val_main_v15_apply, Read.val_main_v14_apply, Read.val_main_cst_1_apply, Read.val_main_v13_apply,
    Read.val_main_v12_apply, Read.val_main_v11_apply, Read.val_main_cst_0_apply, Read.val_main_v7_apply, Read.val_main_v6_apply]
  generalize Read.val_main_v3 (F := Ideal) x0 (ix3 r g j) = x
  have e : FloatOps.mulf (F := Ideal) (φ := .f32) (FloatOps.mulf x x) x = FloatOps.mulf x (FloatOps.mulf x x) := mul_comm ((show EReal from x) * (show EReal from x)) (show EReal from x)
  rw [e]
  rfl

theorem v25_apply : Read.val_main_v25 (F := Ideal) x0 (ix3 r g j) = half (x0 (ix2 r (gcol g j))) := by
  unfold half
  rw [← v16_apply x0 r g j]
  rfl

theorem v31_apply : Read.val_main_v31 (F := Ideal) x0 x1 (ix3 r g j) = dFactor (x0 (ix2 r (gcol g j))) (x1 (ix2 r (acol g j))) := by
  unfold dFactor
  rw [← v25_apply x0 r g j, ← v3_apply x0 r g j, ← v30_apply x1 r g j]
  rfl

theorem v39_apply : Read.val_main_v39 (F := Ideal) x0 x1 (ix3 r g j) = through (x0 (ix2 r (gcol g j))) (FloatOps.mulf (x1 (ix2 r (acol g j))) (x0 (ix2 r (fcol g j)))) := by
  unfold through
  rw [← v16_apply x0 r g j, ← v3_apply x0 r g j, ← v30_apply x1 r g j, ← v5_apply x0 r g j]
  rfl

theorem v44_apply : Read.val_main_v44 (F := Ideal) x0 x1 (ix3 r g j) = dGate (x0 (ix2 r (gcol g j))) (x0 (ix2 r (fcol g j))) (x1 (ix2 r (acol g j))) := by
  unfold dGate
  rw [← v39_apply, ← v25_apply x0 r g j, ← v3_apply x0 r g j, ← v30_apply x1 r g j, ← v5_apply x0 r g j]
  rfl

/-- The two padded halves: the factor's behind, the gate's in front. -/
theorem v46_gate : Read.val_main_v46 (F := Ideal) x0 x1 (ix4 r g 0 j) = nought := by
  unfold Read.val_main_v46
  rw [pad_apply_of_not_inside _ _ _ _ _ _ _ _ (2 : Fin 4) (by show ¬ (1 ≤ 0 ∧ _); omega)]
  rfl

theorem v46_factor : Read.val_main_v46 (F := Ideal) x0 x1 (ix4 r g 1 j) = Read.val_main_v31 (F := Ideal) x0 x1 (ix3 r g j) := by
  unfold Read.val_main_v46
  rw [pad_apply_of_inside _ _ _ _ _ _ _ _ (ix4 r g (0 : Fin 1) j) (fun a => match a with
    | ⟨0, _⟩ => by show r.val = 0 + r.val * 1; omega
    | ⟨1, _⟩ => by show g.val = 0 + g.val * 1; omega
    | ⟨2, _⟩ => rfl
    | ⟨3, _⟩ => by show j.val = 0 + j.val * 1; omega), Read.val_main_v45_apply]
  refine congrArg _ (funext fun a => match a with
    | ⟨0, _⟩ => rfl
    | ⟨1, _⟩ => rfl
    | ⟨2, _⟩ => rfl)

theorem v48_gate : Read.val_main_v48 (F := Ideal) x0 x1 (ix4 r g 0 j) = Read.val_main_v44 (F := Ideal) x0 x1 (ix3 r g j) := by
  unfold Read.val_main_v48
  rw [pad_apply_of_inside _ _ _ _ _ _ _ _ (ix4 r g (0 : Fin 1) j) (fun a => match a with
    | ⟨0, _⟩ => by show r.val = 0 + r.val * 1; omega
    | ⟨1, _⟩ => by show g.val = 0 + g.val * 1; omega
    | ⟨2, _⟩ => rfl
    | ⟨3, _⟩ => by show j.val = 0 + j.val * 1; omega), Read.val_main_v47_apply]
  refine congrArg _ (funext fun a => match a with
    | ⟨0, _⟩ => rfl
    | ⟨1, _⟩ => rfl
    | ⟨2, _⟩ => rfl)

theorem v48_factor : Read.val_main_v48 (F := Ideal) x0 x1 (ix4 r g 1 j) = nought := by
  unfold Read.val_main_v48
  rw [pad_apply_of_not_inside _ _ _ _ _ _ _ _ (2 : Fin 4) (by show ¬ (0 ≤ 1 ∧ _ ∧ 1 / 1 < 1); omega)]
  rfl

/-- The reference's result in a column of a gate and in a column of a factor. -/
theorem value_gate : Read.val_main_v51 (F := Ideal) x0 x1 (ix2 r (gcol g j))
    = FloatOps.addf nought (dGate (x0 (ix2 r (gcol g j))) (x0 (ix2 r (fcol g j))) (x1 (ix2 r (acol g j)))) := by
  rw [Read.val_main_v51_apply, Read.val_main_v50_apply, Read.val_main_v49_apply]
  have e : Read.idx_main_v50 (ix2 r (gcol g j)) = ix4 r g 0 j := funext fun a => match a with
    | ⟨0, _⟩ => Fin.ext (by show (r.val * 5632 + (g.val * 512 + j.val)) / 5632 = r.val; omega)
    | ⟨1, _⟩ => Fin.ext (by show (r.val * 5632 + (g.val * 512 + j.val)) / 512 % 11 = g.val; omega)
    | ⟨2, _⟩ => Fin.ext (by show (r.val * 5632 + (g.val * 512 + j.val)) / 256 % 2 = 0; omega)
    | ⟨3, _⟩ => Fin.ext (by show (r.val * 5632 + (g.val * 512 + j.val)) % 256 = j.val; omega)
  rw [e, v46_gate, v48_gate, v44_apply]
  rfl

theorem value_factor : Read.val_main_v51 (F := Ideal) x0 x1 (ix2 r (fcol g j))
    = FloatOps.addf (dFactor (x0 (ix2 r (gcol g j))) (x1 (ix2 r (acol g j)))) nought := by
  rw [Read.val_main_v51_apply, Read.val_main_v50_apply, Read.val_main_v49_apply]
  have e : Read.idx_main_v50 (ix2 r (fcol g j)) = ix4 r g 1 j := funext fun a => match a with
    | ⟨0, _⟩ => Fin.ext (by show (r.val * 5632 + (g.val * 512 + 256 + j.val)) / 5632 = r.val; omega)
    | ⟨1, _⟩ => Fin.ext (by show (r.val * 5632 + (g.val * 512 + 256 + j.val)) / 512 % 11 = g.val; omega)
    | ⟨2, _⟩ => Fin.ext (by show (r.val * 5632 + (g.val * 512 + 256 + j.val)) / 256 % 2 = 1; omega)
    | ⟨3, _⟩ => Fin.ext (by show (r.val * 5632 + (g.val * 512 + 256 + j.val)) % 256 = j.val; omega)
  rw [e, v46_factor, v48_factor, v31_apply]
  rfl

end Cert.Reference17Ideal.Gate

namespace Cert.Kernel17Ideal.Gate

open Cert.Kernel17Ideal Cert.Kernel17Ideal.Gen Cert.Gate Cert.Reference17Ideal.Gate
open Idealize.ShloMosaic Idealize.ShloMosaic.TcCoe Idealize.ShloMosaic.Tactic
open Idealize.ShloMosaic.Pipeline (Dat Cfg Window)

variable (m : (ℓ : Loc nD τ sig) → Buf (Elt Ideal) ℓ)

/-- The saved input of the gated unit, and the gradient of its output. -/
abbrev U (c : Dev nD) : FVec Ideal S8320x5632 .bf16 := m ((c : Thread nD τ).loc main_arg0)
abbrev D (c : Dev nD) : FVec Ideal S8320x2816 .bf16 := m ((c : Thread nD τ).loc main_arg1)

theorem idx0 : ∀ t : Fin cfg0.N, win0_0.index t = ![t.val / 11, t.val % 11] := (by decide +kernel : ∀ t : Fin grid0.N, _)
theorem idx1 : ∀ t : Fin cfg0.N, win0_1.index t = ![t.val / 11, t.val % 11] := (by decide +kernel : ∀ t : Fin grid0.N, _)
theorem idx2 : ∀ t : Fin cfg0.N, win0_2.index t = ![t.val / 11, t.val % 11] := (by decide +kernel : ∀ t : Fin grid0.N, _)

/-- The row and the group of columns that a point works on. -/
def row (t : Fin cfg0.N) (i : Fin 1664) : Fin 8320 := ⟨t.val / 11 * 1664 + i.val, by have := lt_of_lt_of_eq t.isLt N_0; omega⟩
def grp (t : Fin cfg0.N) : Fin 11 := ⟨t.val % 11, by omega⟩

theorem blk0_lo (c : Dev nD) (t : Fin cfg0.N) (i : Fin 1664) (j : Fin 256) :
    (show FVec Ideal S1664x512 .bf16 from iblk m c 0 t) (ix2 i (lo j)) = U m c (ix2 (row t i) (gcol (grp t) j)) := by
  have := lt_of_lt_of_eq t.isLt N_0
  unfold row gcol grp lo
  blk_ext [iblk, V, idx0 t]

theorem blk0_hi (c : Dev nD) (t : Fin cfg0.N) (i : Fin 1664) (j : Fin 256) :
    (show FVec Ideal S1664x512 .bf16 from iblk m c 0 t) (ix2 i (hi j)) = U m c (ix2 (row t i) (fcol (grp t) j)) := by
  have := lt_of_lt_of_eq t.isLt N_0
  unfold row fcol grp hi
  blk_ext [iblk, V, idx0 t]

theorem blk1 (c : Dev nD) (t : Fin cfg0.N) (i : Fin 1664) (j : Fin 256) :
    (show FVec Ideal S1664x256 .bf16 from iblk m c 1 t) (ix2 i j) = D m c (ix2 (row t i) (acol (grp t) j)) := by
  have := lt_of_lt_of_eq t.isLt N_0
  unfold row acol grp
  blk_ext [iblk, V, idx1 t]

theorem emb_lo (t : Fin cfg0.N) (i : Fin 1664) (j : Fin 256) : (win0_2.blk t).view.emb (ix2 i (lo j)) = (ix2 (row t i) (gcol (grp t) j) : S8320x5632.Idx) := by
  have := lt_of_lt_of_eq t.isLt N_0
  unfold row gcol grp lo
  blk_ext [idx2 t]

theorem emb_hi (t : Fin cfg0.N) (i : Fin 1664) (j : Fin 256) : (win0_2.blk t).view.emb (ix2 i (hi j)) = (ix2 (row t i) (fcol (grp t) j) : S8320x5632.Idx) := by
  have := lt_of_lt_of_eq t.isLt N_0
  unfold row fcol grp hi
  blk_ext [idx2 t]

/-- The gradient: the reference's own. -/
def G (c : Dev nD) : FVec Ideal S8320x5632 .bf16 := Reference17Ideal.Read.val_main_v51 (F := Ideal) (U m c) (D m c)

/-- What a point writes back. -/
theorem written (c : Dev nD) (t : Fin cfg0.N) (y : S1664x512.Idx) :
    out0_2 (F := Ideal) (iblk m c 0 t) (iblk m c 1 t) y = G m c ((win0_2.blk t).view.emb y) := by
  have hb : out0_2 (F := Ideal) (iblk m c 0 t) (iblk m c 1 t) y = k0_pay1 (k0_pay7 (iblk m c 0 t) (iblk m c 1 t)) (k0_pay8 (iblk m c 0 t) (iblk m c 1 t)) y := by
    frame_out
  have hy : (y 1).val < 512 := (y 1).isLt
  rw [hb]
  by_cases h : (y 1).val < 256
  · obtain ⟨i, j, rfl⟩ : ∃ (i : Fin 1664) (j : Fin 256), y = ix2 i (lo j) := ⟨y 0, ⟨(y 1).val, h⟩, eq_ix2 y⟩
    rw [block_lo, emb_lo]
    refine Eq.trans ?_ (value_gate _ _ _ _ _).symm
    rw [← blk0_lo, ← blk0_hi, ← blk1]
  · obtain ⟨i, j, rfl⟩ : ∃ (i : Fin 1664) (j : Fin 256), y = ix2 i (hi j) := ⟨y 0, ⟨(y 1).val - 256, by omega⟩, by
      refine (eq_ix2 y).trans (congrArg (ix2 (y 0)) (Fin.ext ?_))
      show (y 1).val = 256 + ((y 1).val - 256)
      omega⟩
    rw [block_hi, emb_hi]
    refine Eq.trans ?_ (value_factor _ _ _ _ _).symm
    rw [← blk0_lo, ← blk1]

/-- The result array holds it. -/
theorem final (c : Dev nD) : (dats m 0 c).arrAt 2 cfg0.N = G m c := by
  refine (dats m 0 c).arrAt_eq_of_covers 2 (G m c) (by decide +kernel) fun t hf y => ?_
  rw [after0_2]
  blk_simp
  exact written m c t y

end Cert.Kernel17Ideal.Gate

namespace Cert.Proof

open Idealize.ShloMosaic Idealize.ShloMosaic.TcCoe Idealize.SL.Sem

theorem geglu : Cert.algebraic_Kernel17Ideal_Reference17Ideal (hKernel17Ideal := Kernel17Ideal.Gen.facts)
    (hReference17Ideal := Reference17Ideal.Gen.facts) := by
  intro m g m' g' _ hargs
  refine ⟨Kernel17Ideal.Gate.G m, ?_, ?_⟩
  · exact (θ_run _ _ _).mono (fun r h c => ⟨((h c).1.trans (Kernel17Ideal.Gate.final m c)), (h c).2⟩)
      (Kernel17Ideal.Value.run_blocks m g)
  · refine (θ_run _ _ _).mono (fun r h c => ⟨((h c).1.trans ?_), (h c).2⟩) (Reference17Ideal.Value.run m' g')
    rw [Reference17Ideal.Read.val_main_v51_eq, (hargs c).1, (hargs c).2]
    rfl

end Cert.Proof
-- ==== Proof.Gate.Cumsum.lean ====
module

public import proofs.«01_k».proof.Defs
public import proofs.«01_k».proof.Proof.Gen.Kernel18Ideal.Value
public import proofs.«01_k».proof.Proof.Gen.Reference18Ideal.Read
public import proofs.«01_k».proof.Proof.Prod.Common
public import Idealize.ShloMosaic.Lib.Quiescent
public import Idealize.ShloMosaic.Lib.WordCmp
public import Idealize.ShloMosaic.Lib.Tactic

@[expose] public section

set_option maxRecDepth 16384

noncomputable section

namespace Cert.Gate

open Idealize.ShloMosaic

/-! # Sums from a row to the last row -/

/-- A column of a matrix as a function of the row's number, zero past the last row. -/
def colOf {R C : ℕ} (x : (⟨2, ![R, C]⟩ : Shape).Idx → EReal) (c : Fin C) (n : ℕ) : EReal := if h : n < R then x (ix2 ⟨n, h⟩ c) else 0

theorem colOf_at {R C : ℕ} (x : (⟨2, ![R, C]⟩ : Shape).Idx → EReal) (c : Fin C) (k : Fin R) : colOf x c k.val = x (ix2 k c) := dif_pos k.isLt

/-- The sum of a function from `n` up to the last row. -/
def tail (R : ℕ) (f : ℕ → EReal) (n : ℕ) : EReal := ∑ k ∈ Finset.Ico n R, f k

theorem tail_end (R : ℕ) (f : ℕ → EReal) : tail R f R = 0 := by
  unfold tail
  rw [Finset.Ico_self, Finset.sum_empty]

/-- A block's rows from the `i`-th on, and the rows after the block, are the rows from there on. -/
theorem tail_block {R : ℕ} (T : ℕ) (f : ℕ → EReal) (b i : ℕ) (hi : i ≤ T) (hb : b + T ≤ R) :
    (∑ k : Fin T, if i ≤ k.val then f (b + k.val) else 0) + tail R f (b + T) = tail R f (b + i) := by
  unfold tail
  rw [Fin.sum_univ_eq_sum_range (fun k => if i ≤ k then f (b + k) else 0) T, ← Finset.sum_filter,
    show (Finset.range T).filter (fun k => i ≤ k) = Finset.Ico i T from Finset.ext fun k => by
      rw [Finset.mem_filter, Finset.mem_range, Finset.mem_Ico, and_comm],
    Finset.sum_Ico_add f i T b, Nat.add_comm i b, Nat.add_comm T b]
  exact Finset.sum_Ico_consecutive f (by omega) hb

/-- Terms added one after another are their sum. -/
theorem foldl_add {ι : Type} (g : ι → EReal) (l : List ι) : ∀ v : EReal, l.foldl (fun r n => r + g n) v = v + (l.map g).sum := by
  induction l with
  | nil => exact fun v => (add_zero v).symm
  | cons a l ih => exact fun v => by rw [List.foldl_cons, ih, List.map_cons, List.sum_cons, add_assoc]

/-- The places of a window of one column. -/
def places (R : ℕ) : Fin R ≃ (⟨2, ![R, 1]⟩ : Shape).Idx where
  toFun k := ix2 k 0
  invFun w := w 0
  left_inv _ := rfl
  right_inv w := funext fun a => match a with
    | ⟨0, _⟩ => rfl
    | ⟨1, _⟩ => Subsingleton.elim (α := Fin 1) _ _

/-- A sum over a window of the matrix's whole height, which starts at each row in turn, is the sum from that row on. -/
theorem window_sum {R Q C : ℕ} {u : Shape} (x : (⟨2, ![R, C]⟩ : Shape).Idx → EReal) (init : u.Idx → EReal) (hu : 0 < u.numel)
    (h0 : init (Shape.Idx.first hu) = 0) (h : (⟨2, ![R, C]⟩ : Shape).ReduceWindows (![R, 1] : Fin 2 → Nat) ![1, 1] ![0, 0] ![Q, 0] ⟨2, ![R, C]⟩)
    (j : Fin R) (c : Fin C) :
    Host.reduceWindow (· + ·) ![R, 1] ![1, 1] ![0, 0] ![Q, 0] x init h hu (ix2 j c) = tail R (colOf x c) j.val := by
  unfold Host.reduceWindow
  dsimp only
  rw [foldl_add, h0, zero_add, ← Fin.sum_univ_def]
  refine Eq.trans (Fintype.sum_equiv ((places R).trans (⟨2, ![R, 1]⟩ : Shape).rowMajor) (fun k : Fin R => colOf x c (j.val + k.val)) _ (fun k => ?_)).symm ?_
  · have hw : (⟨2, ![R, 1]⟩ : Shape).rowMajor.symm (((places R).trans (⟨2, ![R, 1]⟩ : Shape).rowMajor) k) = places R k := Equiv.symm_apply_apply _ _
    have e0 : j.val * 1 + ((⟨2, ![R, 1]⟩ : Shape).rowMajor.symm (((places R).trans (⟨2, ![R, 1]⟩ : Shape).rowMajor) k) 0).val - 0 = j.val + k.val := by
      rw [hw]; show j.val * 1 + k.val - 0 = _; omega
    have e1 : c.val * 1 + ((⟨2, ![R, 1]⟩ : Shape).rowMajor.symm (((places R).trans (⟨2, ![R, 1]⟩ : Shape).rowMajor) k) 1).val - 0 = c.val := by
      rw [hw]; show c.val * 1 + 0 - 0 = _; omega
    unfold colOf
    by_cases hk : j.val + k.val < R
    · rw [dif_pos hk, dif_pos (fun a => match a with
        | ⟨0, _⟩ => ⟨Nat.zero_le _, lt_of_eq_of_lt e0 hk⟩
        | ⟨1, _⟩ => ⟨Nat.zero_le _, lt_of_eq_of_lt e1 c.isLt⟩)]
      exact congrArg x (funext fun a => match a with
        | ⟨0, _⟩ => Fin.ext e0.symm
        | ⟨1, _⟩ => Fin.ext e1.symm)
    · rw [dif_neg hk, dif_neg (fun hin => hk (lt_of_eq_of_lt e0.symm (hin 0).2))]
  · rw [Fin.sum_univ_eq_sum_range (fun k => colOf x c (j.val + k)) R, Finset.range_eq_Ico, Finset.sum_Ico_add (colOf x c) 0 R j.val,
      ← Finset.sum_Ico_consecutive (colOf x c) (show 0 + j.val ≤ R by have := j.isLt; omega) (show R ≤ R + j.val by omega),
      Finset.sum_eq_zero (s := Finset.Ico R (R + j.val)) (fun n hn => dif_neg (by have := (Finset.mem_Ico.mp hn).1; omega)), add_zero, Nat.zero_add]
    rfl

theorem host_window_sum {R Q C : ℕ} {u : Shape} (x : FVec Ideal ⟨2, ![R, C]⟩ .f32) (init : FVec Ideal u .f32) (hu : 0 < u.numel)
    (h0 : (show EReal from init (Shape.Idx.first hu)) = 0) (h : (⟨2, ![R, C]⟩ : Shape).ReduceWindows (![R, 1] : Fin 2 → Nat) ![1, 1] ![0, 0] ![Q, 0] ⟨2, ![R, C]⟩)
    (j : Fin R) (c : Fin C) :
    (show EReal from Host.reduceWindowAdd (F := Ideal) (s := ⟨2, ![R, C]⟩) ![R, 1] ![1, 1] ![0, 0] ![Q, 0] x init h hu (ix2 j c)) = tail R (colOf (R := R) (C := C) x c) j.val :=
  window_sum (R := R) (Q := Q) (C := C) x init hu h0 h j c

/-- The logarithm of one plus the exponential, in the form that does not overflow. -/
def softplus (x : EReal) : EReal := max x 0 + Ideal.log1p (Ideal.exp (-(max x (-x))))

theorem softplus_coe (r : ℝ) : softplus r = ((max r 0 + Real.log (1 + Real.exp (-|r|)) : ℝ) : EReal) := by
  have hm : max (r : EReal) (-(r : EReal)) = ((|r| : ℝ) : EReal) := by
    rw [← EReal.coe_neg, ← EReal.coe_strictMono.monotone.map_max, abs_eq_max_neg]
  have hp : ¬ (1 + Real.exp (-|r|) ≤ 0) := by have := Real.exp_pos (-|r|); linarith
  unfold softplus Ideal.log1p
  rw [hm, ← EReal.coe_neg, Ideal.exp_coe, ← EReal.coe_one, ← EReal.coe_add, Ideal.log_coe, if_neg hp, ← EReal.coe_zero, ← EReal.coe_strictMono.monotone.map_max, ← EReal.coe_add]

theorem real_share (r : ℝ) : Real.exp (r - (max r 0 + Real.log (1 + Real.exp (-|r|)))) = (1 + Real.exp (-r))⁻¹ := by
  have hp : 0 < 1 + Real.exp (-|r|) := by have := Real.exp_pos (-|r|); linarith
  rcases le_total 0 r with h | h
  · rw [max_eq_left h, sub_add_cancel_left, Real.exp_neg, Real.exp_log hp, abs_of_nonneg h]
  · have hq : 1 + Real.exp (-r) ≠ 0 := by have := Real.exp_pos (-r); linarith
    rw [max_eq_right h, zero_add, Real.exp_sub, Real.exp_log hp, abs_of_nonpos h, neg_neg, Real.exp_neg]
    have := Real.exp_pos r
    field_simp
    ring

/-- The weight that the exponential takes in the sum is the logistic function. -/
theorem share (x : EReal) : Ideal.exp ((if x = ⊤ then 0 else x) - (if softplus x = ⊤ then 0 else softplus x)) = Ideal.logistic x := by
  induction x using EReal.rec with
  | bot =>
    have : softplus ⊥ = 0 := by
      unfold softplus Ideal.log1p
      rw [max_eq_right bot_le, EReal.neg_bot, max_eq_right bot_le, EReal.neg_top, Ideal.exp_bot, add_zero, ← EReal.coe_one, Ideal.log_coe, if_neg (by norm_num), Real.log_one, EReal.coe_zero, add_zero]
    rw [this, if_neg bot_ne_top, if_neg EReal.zero_ne_top, sub_zero, Ideal.exp_bot, Ideal.logistic_bot]
  | top =>
    have : softplus ⊤ = ⊤ := by
      unfold softplus Ideal.log1p
      rw [max_eq_left le_top, EReal.neg_top, max_eq_left le_top, EReal.neg_top, Ideal.exp_bot, add_zero, ← EReal.coe_one, Ideal.log_coe, if_neg (by norm_num), Real.log_one, EReal.coe_zero, add_zero]
    rw [this, if_pos rfl, sub_zero, Ideal.logistic_top, ← EReal.coe_zero, Ideal.exp_coe, Real.exp_zero, EReal.coe_one]
  | coe r =>
    rw [softplus_coe, if_neg (EReal.coe_ne_top _), if_neg (EReal.coe_ne_top _), ← EReal.coe_sub, Ideal.exp_coe, real_share, Ideal.logistic_coe]

end Cert.Gate

namespace Cert.Reference18Ideal.Gate

open Cert.Reference18Ideal Cert.Reference18Ideal.Gen Cert.Gate
open Idealize.ShloMosaic Idealize.ShloMosaic.TcCoe Idealize.SL.Sem

/-! # What the reference's two results hold -/

variable (x0 x1 : FVec Ideal S8320x128 .f32) (x2 : FVec Ideal S1x128 .f32)

/-- The gradient of the logarithms of the forget gates before their bias: the sums from each row on, times the logistic function. -/
def W : (⟨2, ![8320, 128]⟩ : Shape).Idx → EReal := fun y =>
  tail 8320 (colOf (R := 8320) (C := 128) x0 (y 1)) (y 0).val * Ideal.logistic (-(x1 y + x2 (ix2 0 (y 1))))

theorem top_eq : Ideal.ofBits .f32 0x7F800000#32 = (⊤ : EReal) := by simp [Ideal.ofBits, Ideal.ieee]

theorem sums (r : Fin 8320) (j : Fin 128) : (show EReal from Read.val_main_v4 (F := Ideal) x0 (ix2 r j)) = tail 8320 (colOf (R := 8320) (C := 128) x0 j) r.val := by
  unfold Read.val_main_v4
  have h0 : (show EReal from Read.val_main_call2_call0_v0 (F := Ideal) (Shape.Idx.first h_S_)) = 0 := by
    rw [Read.val_main_call2_call0_v0_apply, Read.val_main_call2_call0_cst_apply]
    exact Ideal.ofBits_zero .f32
  exact host_window_sum (R := 8320) (Q := 8319) (C := 128) x0 _ h_S_ h0 reduceWindows_S8320x128_S8320x128_w8320s1p0_8319_w1s1p0_0 r j

theorem arg (y : S8320x128.Idx) : (show EReal from Read.val_main_call0_v0 (F := Ideal) x1 x2 y) = -(x1 y + x2 (ix2 0 (y 1))) := by
  rw [Read.val_main_call0_v0_apply, Read.val_main_v1_apply, Read.val_main_v0_apply]
  have e : Read.idx_main_v0 y = ix2 0 (y 1) := funext fun a => match a with
    | ⟨0, _⟩ => rfl
    | ⟨1, _⟩ => rfl
  rw [e]
  rfl

theorem soft (y : S8320x128.Idx) : (show EReal from Read.val_main_call0_v1_0 (F := Ideal) x1 x2 y) = softplus (-(x1 y + x2 (ix2 0 (y 1)))) := by
  rw [← arg x1 x2 y]
  rw [Read.val_main_call0_v1_0_apply, Read.val_main_call0_call0_v4_apply, Read.val_main_call0_call0_v11_apply, Read.val_main_call0_call0_v10_apply,
    Read.val_main_call0_call0_v9_apply, Read.val_main_call0_call0_v8_apply, Read.val_main_call0_call0_v7_apply, Read.val_main_call0_call0_v3_apply,
    Read.val_main_call0_call0_v1_apply, Read.val_main_call0_call0_v0_apply, Read.val_main_call0_call0_v2_apply, Read.val_main_call0_call0_cst_apply]
  generalize Read.val_main_call0_v0 (F := Ideal) x1 x2 y = x
  have e : (show EReal from x) - Ideal.ofBits .f32 0x00000000#32 = x := by rw [Ideal.ofBits_zero .f32]; exact sub_zero _
  show Scalar.select (Ideal.cmp .une ((show EReal from x) - Ideal.ofBits .f32 0x00000000#32) ((show EReal from x) - Ideal.ofBits .f32 0x00000000#32)) _
    (max (show EReal from x) (Ideal.ofBits .f32 0x00000000#32)
      + Ideal.log1p (Ideal.exp (-(max ((show EReal from x) - Ideal.ofBits .f32 0x00000000#32) (-((show EReal from x) - Ideal.ofBits .f32 0x00000000#32)))))) = _
  rw [e, Ideal.ofBits_zero .f32]
  have hc : Ideal.cmp .une (show EReal from x) (show EReal from x) = 0#1 := by unfold Ideal.cmp; simp
  rw [hc]
  rfl

theorem weight (y : S8320x128.Idx) : (show EReal from Read.val_main_v2_1 (F := Ideal) x1 x2 y) = Ideal.logistic (-(x1 y + x2 (ix2 0 (y 1)))) := by
  rw [← share, ← soft x1 x2 y, ← arg x1 x2 y]
  rw [Read.val_main_v2_1_apply, Read.val_main_call0_call0_v21_apply, Read.val_main_call0_call0_v16_apply, Read.val_main_call0_call0_v20_apply,
    Read.val_main_call0_call0_v14_apply, Read.val_main_call0_call0_v18_apply, Read.val_main_call0_call0_v15_apply, Read.val_main_call0_call0_v19_apply,
    Read.val_main_call0_call0_v13_apply, Read.val_main_call0_call0_v17_apply, Read.val_main_call0_call0_cst_0_apply, Read.val_main_call0_call0_cst_1_apply,
    Read.val_main_call0_call0_cst_2_apply, Read.val_main_call0_call0_cst_3_apply]
  generalize Read.val_main_call0_v0 (F := Ideal) x1 x2 y = x
  generalize Read.val_main_call0_v1_0 (F := Ideal) x1 x2 y = s
  have hs : ∀ z : EReal, Scalar.select (Ideal.cmp .oeq z (Ideal.ofBits .f32 0x7F800000#32)) (Ideal.ofBits .f32 0x00000000#32 : EReal) z = if z = ⊤ then 0 else z := fun z => by
    rw [top_eq, Ideal.ofBits_zero .f32]
    unfold Ideal.cmp
    by_cases h : z = ⊤
    · simp [h, Scalar.select]
    · simp [h, Scalar.select]
  show Ideal.exp (Scalar.select (Ideal.cmp .oeq (show EReal from x) (Ideal.ofBits .f32 0x7F800000#32)) (Ideal.ofBits .f32 0x00000000#32 : EReal) x
    - Scalar.select (Ideal.cmp .oeq (show EReal from s) (Ideal.ofBits .f32 0x7F800000#32)) (Ideal.ofBits .f32 0x00000000#32 : EReal) s) = _
  rw [hs, hs]

theorem product (r : Fin 8320) (j : Fin 128) : (show EReal from Read.val_main_v5 (F := Ideal) x0 x1 x2 (ix2 r j)) = W x0 x1 x2 (ix2 r j) := by
  rw [Read.val_main_v5_apply, Read.val_main_call3_v1_apply, Read.val_main_call3_v0_apply]
  show (-((-(show EReal from Read.val_main_v4 (F := Ideal) x0 (ix2 r j))) * (show EReal from Read.val_main_v2_1 (F := Ideal) x1 x2 (ix2 r j))) : EReal) = _
  rw [sums, weight, EReal.neg_mul, neg_neg]
  rfl

/-- The first result is this gradient, -/
theorem value0 (y : S8320x128.Idx) : (show EReal from Read.val_main_v8 (F := Ideal) x0 x1 x2 y) = W x0 x1 x2 y := by
  obtain ⟨r, j, rfl⟩ : ∃ (r : Fin 8320) (j : Fin 128), y = ix2 r j := ⟨y 0, y 1, eq_ix2 y⟩
  rw [Read.val_main_v8_apply]
  exact product x0 x1 x2 r j

/-- and the second its sum over the rows. -/
theorem value1 (y : S1x128.Idx) : (show EReal from Read.val_main_v7 (F := Ideal) x0 x1 x2 y) = tail 8320 (colOf (R := 8320) (C := 128) (W x0 x1 x2) (y 1)) 0 := by
  rw [Read.val_main_v7_apply, Read.val_main_v6_apply]
  show (Ideal.ofBits .f32 0x00000000#32 : EReal) + _ = _
  rw [Ideal.ofBits_zero .f32, zero_add]
  unfold tail
  rw [← Finset.range_eq_Ico, ← Fin.sum_univ_eq_sum_range (colOf (R := 8320) (C := 128) (W x0 x1 x2) (y 1)) 8320]
  refine Finset.sum_congr rfl fun k _ => ?_
  have hy : (y 0).val = 0 := by have h : (y 0).val < 1 := (y 0).isLt; omega
  have e : Read.idx_main_v6 (Read.idx_main_v7 y) k = ix2 k (y 1) := funext fun a => match a with
    | ⟨0, _⟩ => rfl
    | ⟨1, _⟩ => Fin.ext (by show (y 0).val * 128 + (y 1).val = (y 1).val; omega)
  rw [e]
  exact (product x0 x1 x2 k (y 1)).trans (colOf_at (R := 8320) (C := 128) _ _ k).symm

end Cert.Reference18Ideal.Gate

namespace Cert.Kernel18Ideal.Gate

open Cert.Kernel18Ideal Cert.Kernel18Ideal.Gen Cert.Gate
open Cert.Reference18Ideal.Gate (W)
open Idealize.ShloMosaic Idealize.ShloMosaic.TcCoe Idealize.ShloMosaic.Tactic
open Idealize.ShloMosaic.Pipeline (Dat Cfg Window)

/-! # What the kernel's two results hold

The points go through the blocks of rows from the last to the first and carry the sum of the rows below. -/

/-- A block's sums from each of its rows on: those inside the block, and what is carried. -/
theorem pay3_apply (d : FVec Ideal S640x128 .f32) (v : FVec Ideal S1x128 .f32) (i : Fin 640) (j : Fin 128) :
    k0_pay3 (F := Ideal) d v (ix2 i j) = (∑ k : Fin 640, if i.val ≤ k.val then d (ix2 k j) else 0) + v (ix2 0 j) := by
  pointwise [k0_pay3]
  refine congrArg (· + (v (ix2 0 j) : EReal)) (Finset.sum_congr rfl fun k _ => ?_)
  word_cmp

theorem pay4_apply (d : FVec Ideal S640x128 .f32) (v : FVec Ideal S1x128 .f32) (j : Fin 128) :
    k0_pay4 (F := Ideal) d v (ix2 0 j) = k0_pay3 (F := Ideal) d v (ix2 0 j) := by
  pointwise [k0_pay4]

theorem pay5_apply (d : FVec Ideal S640x128 .f32) (v : FVec Ideal S1x128 .f32) (l : FVec Ideal S640x128 .f32) (b : FVec Ideal S1x128 .f32) (i : Fin 640) (j : Fin 128) :
    k0_pay5 (F := Ideal) d v l b (ix2 i j) = k0_pay3 (F := Ideal) d v (ix2 i j) * Ideal.logistic (-(l (ix2 i j) + b (ix2 0 j))) := by
  pointwise [k0_pay5]
  rw [zero_sub]

theorem pay7_apply (d : FVec Ideal S640x128 .f32) (v : FVec Ideal S1x128 .f32) (l : FVec Ideal S640x128 .f32) (b : FVec Ideal S1x128 .f32) (j : Fin 128) :
    k0_pay7 (F := Ideal) d v l b (ix2 0 j) = ∑ i : Fin 640, k0_pay5 (F := Ideal) d v l b (ix2 i j) := by
  pointwise [k0_pay7]

/-- A later point adds its sum of rows to the result. -/
theorem pay1_apply (s w : FVec Ideal S1x128 .f32) (y : S1x128.Idx) : k0_pay1 (F := Ideal) s w y = (w y + s y : EReal) := by
  unfold k0_pay1
  rw [shapeCast_self]
  rfl

variable (m : (ℓ : Loc nD τ sig) → Buf (Elt Ideal) ℓ)

/-- The gradient of the sums, the forget gates' inputs and their bias. -/
abbrev D (c : Dev nD) : FVec Ideal S8320x128 .f32 := m ((c : Thread nD τ).loc main_arg0)
abbrev L (c : Dev nD) : FVec Ideal S8320x128 .f32 := m ((c : Thread nD τ).loc main_arg1)
abbrev B (c : Dev nD) : FVec Ideal S1x128 .f32 := m ((c : Thread nD τ).loc main_arg2)

theorem idx0 : ∀ t : Fin cfg0.N, win0_0.index t = ![12 - t.val, 0] := (by decide +kernel : ∀ t : Fin grid0.N, _)
theorem idx1 : ∀ t : Fin cfg0.N, win0_1.index t = ![12 - t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![12 - t.val, 0] := (by decide +kernel : ∀ t : Fin grid0.N, _)
theorem idx4 : ∀ t : Fin cfg0.N, win0_4.index t = ![0, 0] := (by decide +kernel : ∀ t : Fin grid0.N, _)

/-- The first row of a point's block, and its further ones. -/
def base (n : ℕ) : ℕ := (12 - n) * 640
def row (t : Fin cfg0.N) (i : Fin 640) : Fin 8320 := ⟨base t.val + i.val, by unfold base; omega⟩

theorem blk0 (c : Dev nD) (t : Fin cfg0.N) (i : Fin 640) (j : Fin 128) :
    (show FVec Ideal S640x128 .f32 from iblk m c 0 t) (ix2 i j) = D m c (ix2 (row t i) j) := by
  have := lt_of_lt_of_eq t.isLt N_0
  unfold row base
  blk_ext [iblk, V, idx0 t]

theorem blk1 (c : Dev nD) (t : Fin cfg0.N) (i : Fin 640) (j : Fin 128) :
    (show FVec Ideal S640x128 .f32 from iblk m c 1 t) (ix2 i j) = L m c (ix2 (row t i) j) := by
  have := lt_of_lt_of_eq t.isLt N_0
  unfold row base
  blk_ext [iblk, V, idx1 t]

theorem blk2 (c : Dev nD) (t : Fin cfg0.N) (j : Fin 128) :
    (show FVec Ideal S1x128 .f32 from iblk m c 2 t) (ix2 0 j) = B m c (ix2 0 j) := by
  have := lt_of_lt_of_eq t.isLt N_0
  blk_ext [iblk, V, idx2 t]

theorem emb3 (t : Fin cfg0.N) (i : Fin 640) (j : Fin 128) : (win0_3.blk t).view.emb (ix2 i j) = (ix2 (row t i) j : S8320x128.Idx) := by
  have := lt_of_lt_of_eq t.isLt N_0
  unfold row base
  blk_ext [idx3 t]

theorem emb4 (t : Fin cfg0.N) (j : Fin 128) : (win0_4.blk t).view.emb (ix2 0 j) = (ix2 0 j : S1x128.Idx) := by
  have := lt_of_lt_of_eq t.isLt N_0
  blk_ext [idx4 t]

/-- The sums from a row on of the first argument's column, and of the gradient's. -/
def S (c : Dev nD) (j : Fin 128) (n : ℕ) : EReal := tail 8320 (colOf (R := 8320) (C := 128) (D m c) j) n
def SW (c : Dev nD) (j : Fin 128) (n : ℕ) : EReal := tail 8320 (colOf (R := 8320) (C := 128) (W (D m c) (L m c) (B m c)) j) n

section Run

variable (c : Dev nD) (t : Fin cfg0.N) (d l : FVec Ideal S640x128 .f32) (b v : FVec Ideal S1x128 .f32)
  (hd : ∀ (i : Fin 640) (j : Fin 128), d (ix2 i j) = D m c (ix2 (row t i) j)) (hl : ∀ (i : Fin 640) (j : Fin 128), l (ix2 i j) = L m c (ix2 (row t i) j))
  (hb : ∀ j : Fin 128, b (ix2 0 j) = B m c (ix2 0 j)) (hv : ∀ j : Fin 128, v (ix2 0 j) = S m c j (base t.val + 640))

include hd hv

/-- Where the carried row holds the sums of the rows after a point's block, the block's sums run to the last row, -/
theorem run3 (i : Fin 640) (j : Fin 128) : k0_pay3 (F := Ideal) d v (ix2 i j) = S m c j (base t.val + i.val) := by
  rw [pay3_apply, hv]
  refine Eq.trans ?_ (tail_block (R := 8320) 640 (colOf (R := 8320) (C := 128) (D m c) j) (base t.val) i.val (by omega) (by unfold base; omega))
  refine congrArg₂ (· + ·) (Finset.sum_congr rfl fun k _ => ?_) rfl
  rw [hd]
  exact congrArg (fun z : EReal => if i.val ≤ k.val then z else 0) (colOf_at (R := 8320) (C := 128) (D m c) j (row t k)).symm

theorem run4 (j : Fin 128) : k0_pay4 (F := Ideal) d v (ix2 0 j) = S m c j (base t.val) := by
  rw [pay4_apply, run3 m c t d v hd hv]
  rfl

include hl hb

/-- its products are the gradient, -/
theorem run5 (i : Fin 640) (j : Fin 128) : k0_pay5 (F := Ideal) d v l b (ix2 i j) = W (D m c) (L m c) (B m c) (ix2 (row t i) j) := by
  rw [pay5_apply, run3 m c t d v hd hv, hl, hb]
  rfl

/-- and their sum, with that of the rows after the block, runs to the last row. -/
theorem run7 (j : Fin 128) : k0_pay7 (F := Ideal) d v l b (ix2 0 j) + SW m c j (base t.val + 640) = SW m c j (base t.val) := by
  rw [pay7_apply]
  refine Eq.trans ?_ (tail_block (R := 8320) 640 (colOf (R := 8320) (C := 128) (W (D m c) (L m c) (B m c)) j) (base t.val) 0 (by omega) (by unfold base; omega))
  refine congrArg₂ (· + ·) (Finset.sum_congr rfl fun k _ => ?_) rfl
  rw [run5 m c t d l b v hd hl hb hv, if_pos (Nat.zero_le _)]
  exact (colOf_at (R := 8320) (C := 128) (W (D m c) (L m c) (B m c)) j (row t k)).symm

end Run

/-- What a point leaves. -/
structure Left (c : Dev nD) (t : Fin cfg0.N) : Prop where
  carried : ∀ j : Fin 128, (outsAt0 m c t.val t.isLt).2.2 (ix2 0 j) = S m c j (base t.val)
  summed : ∀ j : Fin 128, (outsAt0 m c t.val t.isLt).2.1 (ix2 0 j) = SW m c j (base t.val)
  gradient : ∀ (i : Fin 640) (j : Fin 128), (outsAt0 m c t.val t.isLt).1 (ix2 i j) = W (D m c) (L m c) (B m c) (ix2 (row t i) j)

/-- The first point starts from a row of zeros: there are no rows after its block. -/
theorem start (c : Dev nD) (t : Fin cfg0.N) (h : t.val = 0) (j : Fin 128) : (k0_pay2 (F := Ideal)) (ix2 0 j) = S m c j (base t.val + 640) := by
  rw [h]
  pointwise [k0_pay2]
  exact (tail_end 8320 _).symm

theorem first (c : Dev nD) (t : Fin cfg0.N) (h : t.val = 0) : Left m c t := by
  have hv := start m c t h
  refine ⟨fun j => ?_, fun j => ?_, fun i j => ?_⟩
  · rw [outsAt0_A m c t (by omega) (by omega) (by omega), ← run4 m c t _ _ (blk0 m c t) hv j]
    frame_out
  · have r7 := run7 m c t _ _ _ _ (blk0 m c t) (blk1 m c t) (blk2 m c t) hv j
    rw [show SW m c j (base t.val + 640) = 0 from by rw [h]; exact tail_end 8320 _, add_zero] at r7
    rw [outsAt0_A m c t (by omega) (by omega) (by omega), ← r7]
    frame_out
  · rw [outsAt0_A m c t (by omega) (by omega) (by omega), ← run5 m c t _ _ _ _ (blk0 m c t) (blk1 m c t) (blk2 m c t) hv i j]
    frame_out
    rfl

theorem next (c : Dev nD) (t : Fin cfg0.N) (h : t.val ≠ 0) (ih : Left m c ⟨t.val - 1, Nat.lt_of_le_of_lt (Nat.sub_le _ _) t.isLt⟩) : Left m c t := by
  have := lt_of_lt_of_eq t.isLt N_0
  have hb : base (t.val - 1) = base t.val + 640 := by unfold base; omega
  have hv := fun j => (ih.carried j).trans (congrArg (S m c j) hb)
  refine ⟨fun j => ?_, fun j => ?_, fun i j => ?_⟩
  · rw [outsAt0_B m c t (by omega) (by omega) (by omega), ← run4 m c t _ _ (blk0 m c t) hv j]
    frame_out
    rw [(Memref.isWhole_whole _ : scM0_0.IsWhole).read_unread]
  · have r7 := run7 m c t _ _ _ _ (blk0 m c t) (blk1 m c t) (blk2 m c t) hv j
    rw [← (ih.summed j).trans (congrArg (SW m c j) hb)] at r7
    rw [outsAt0_B m c t (by omega) (by omega) (by omega), ← r7]
    frame_out
    rw [(Memref.isWhole_whole _ : scM0_0.IsWhole).read_unread]
    rw [pay1_apply]
    exact add_comm _ _
  · rw [outsAt0_B m c t (by omega) (by omega) (by omega), ← run5 m c t _ _ _ _ (blk0 m c t) (blk1 m c t) (blk2 m c t) hv i j]
    frame_out
    rw [(Memref.isWhole_whole _ : scM0_0.IsWhole).read_unread]
    rfl

theorem left (c : Dev nD) : ∀ (n : ℕ) (h : n < cfg0.N), Left m c ⟨n, h⟩
  | 0, h => first m c ⟨0, h⟩ rfl
  | n + 1, h => next m c ⟨n + 1, h⟩ (Nat.succ_ne_zero n) (left c n (by omega))

/-- The two results. -/
def G0 (c : Dev nD) : FVec Ideal S8320x128 .bf16 := W (D m c) (L m c) (B m c)
def G1 (c : Dev nD) : FVec Ideal S1x128 .f32 := fun y => SW m c (y 1) 0

theorem final3 (c : Dev nD) : (dats m 0 c).arrAt 3 cfg0.N = G0 m c := by
  refine (dats m 0 c).arrAt_eq_of_covers 3 (G0 m c) (by decide +kernel) fun t hf y => ?_
  rw [after0_3]
  blk_simp
  obtain ⟨i, j, rfl⟩ : ∃ (i : Fin 640) (j : Fin 128), y = ix2 i j := ⟨y 0, y 1, eq_ix2 y⟩
  rw [emb3]
  exact (left m c t.val t.isLt).gradient i j

theorem final4 (c : Dev nD) : (dats m 0 c).arrAt 4 cfg0.N = G1 m c := by
  refine (dats m 0 c).arrAt_eq_of_covers 4 (G1 m c) (by decide +kernel) fun t hf y => ?_
  rw [after0_4]
  have h := (flush0_4 t).mp hf
  blk_simp
  obtain ⟨i, j, rfl⟩ : ∃ (i : Fin 1) (j : Fin 128), y = ix2 i j := ⟨y 0, y 1, eq_ix2 y⟩
  obtain rfl : i = 0 := Subsingleton.elim _ _
  rw [emb4]
  have e := (left m c t.val t.isLt).summed j
  have := lt_of_lt_of_eq t.isLt N_0
  rw [show base t.val = 0 from by unfold base; omega] at e
  exact e

end Cert.Kernel18Ideal.Gate

namespace Cert.Proof

open Idealize.ShloMosaic Idealize.ShloMosaic.TcCoe Idealize.SL.Sem

theorem sums : Cert.algebraic_Kernel18Ideal_Reference18Ideal (hKernel18Ideal := Kernel18Ideal.Gen.facts)
    (hReference18Ideal := Reference18Ideal.Gen.facts) := by
  intro m g m' g' _ hargs
  refine ⟨Kernel18Ideal.Gate.G0 m, Kernel18Ideal.Gate.G1 m, ?_, ?_⟩
  · exact (θ_run _ _ _).mono (fun r h c => ⟨((h c).1.trans (Kernel18Ideal.Gate.final3 m c)), ((h c).2.1.trans (Kernel18Ideal.Gate.final4 m c)), (h c).2.2⟩)
      (Kernel18Ideal.Value.run_blocks m g)
  · refine (θ_run _ _ _).mono (fun r h c => ⟨((h c).1.trans ?_), ((h c).2.1.trans ?_), (h c).2.2⟩) (Reference18Ideal.Value.run m' g')
    · rw [(hargs c).1, (hargs c).2.1, (hargs c).2.2]
      exact funext fun y => Reference18Ideal.Gate.value0 _ _ _ y
    · rw [(hargs c).1, (hargs c).2.1, (hargs c).2.2]
      exact funext fun y => Reference18Ideal.Gate.value1 _ _ _ y

end Cert.Proof
-- ==== Proof.Gate.ConvRef.lean ====
module

public import proofs.«01_k».proof.Proof.Gate.Cumsum
public import proofs.«01_k».proof.Proof.Gen.Reference19Ideal.Read
public import Idealize.ShloMosaic.Lib.KernelVsHost

@[expose] public section

set_option maxRecDepth 16384

noncomputable section

namespace Cert.Gate

open Idealize.ShloMosaic

/-! # Sums over rows taken sixteen at a time, and sums against a shifted column -/

/-- Eight running sums, each over two rows of every sixteen, make the sum over all rows. -/
theorem sixteen (f : ℕ → EReal) (K : ℕ) :
    ∑ r ∈ Finset.range 8, ∑ k ∈ Finset.range K, (f (16 * k + r) + f (16 * k + r + 8)) = ∑ n ∈ Finset.range (16 * K), f n := by
  induction K with
  | zero => simp
  | succ K ih =>
    simp_rw [Finset.sum_range_succ (fun k => _) K]
    rw [Finset.sum_add_distrib, ih, show 16 * (K + 1) = 16 * K + 16 by omega, Finset.sum_range_add f (16 * K) 16]
    refine congrArg _ ?_
    simp only [Finset.sum_range_succ, Finset.sum_range_zero, zero_add, add_zero, Nat.add_assoc, Nat.reduceAdd]
    abel

/-- The rows of the tiles before one and the rows of the tile are the rows up to its end. -/
theorem tiles (f : ℕ → EReal) (T i : ℕ) :
    ∑ n ∈ Finset.range (T * i), f n + ∑ n ∈ Finset.range T, f (T * i + n) = ∑ n ∈ Finset.range (T * (i + 1)), f n := by
  rw [Nat.mul_succ, Finset.sum_range_add]

/-- A column which is zero past the last row, read `s` rows on, against another: the same as the column against the other moved `s` rows on. -/
theorem shifted {N s : ℕ} (hs : s ≤ N) (D X : ℕ → EReal) (hD : ∀ n, N ≤ n → D n = 0) :
    ∑ n ∈ Finset.range N, D (n + s) * X n = ∑ n ∈ Finset.range N, D n * (if n < s then 0 else X (n - s)) := by
  obtain ⟨M, rfl⟩ : ∃ M, N = M + s := ⟨N - s, by omega⟩
  rw [Finset.sum_range_add, Finset.sum_eq_zero (s := Finset.range s) (fun n _ => by rw [hD _ (by omega), zero_mul]), add_zero,
    Nat.add_comm M s, Finset.sum_range_add, Finset.sum_eq_zero (s := Finset.range s) (fun n hn => by
      rw [if_pos (Finset.mem_range.mp hn), mul_zero]), zero_add]
  refine Finset.sum_congr rfl fun n _ => ?_
  rw [if_neg (by omega), Nat.add_sub_cancel_left, Nat.add_comm n s]

theorem colOf_end {R C : ℕ} (x : (⟨2, ![R, C]⟩ : Shape).Idx → EReal) (c : Fin C) (n : ℕ) (h : R ≤ n) : colOf x c n = 0 := dif_neg (by omega)

theorem colOf_of {R C : ℕ} (x : (⟨2, ![R, C]⟩ : Shape).Idx → EReal) (c : Fin C) (n : ℕ) (h : n < R) : colOf x c n = x (ix2 ⟨n, h⟩ c) := dif_pos h

/-- Rows of zeros put before and after a matrix: its column, moved. -/
theorem padded {R N C lo hi : ℕ} {u : Shape} (f : (⟨2, ![R, C]⟩ : Shape).Idx → EReal) (v : u.Idx → EReal) (hu : 0 < u.numel)
    (h0 : v (Shape.Idx.first hu) = 0) (h : (⟨2, ![R, C]⟩ : Shape).Pads (![lo, 0] : Fin 2 → ℕ) ![hi, 0] ![0, 0] ⟨2, ![N, C]⟩) (n : Fin N) (c : Fin C) :
    pad (⟨2, ![N, C]⟩ : Shape) ![lo, 0] ![hi, 0] ![0, 0] f v h hu (ix2 n c) = if lo ≤ n.val then colOf f c (n.val - lo) else 0 := by
  by_cases hn : lo ≤ n.val ∧ n.val - lo < R
  · rw [pad_apply_of_inside _ _ _ f v h hu (ix2 n c) (ix2 ⟨n.val - lo, hn.2⟩ c) (fun a => match a with
      | ⟨0, _⟩ => by show n.val = lo + (n.val - lo) * (0 + 1); omega
      | ⟨1, _⟩ => by show c.val = 0 + c.val * (0 + 1); omega), if_pos hn.1, colOf_of f c _ hn.2]
  · rw [pad_apply_of_not_inside _ _ _ f v h hu (ix2 n c) (0 : Fin 2) (fun hh => hn ⟨hh.1, by
      have h3 : (n.val - lo) / (0 + 1) < R := hh.2.2
      rwa [Nat.zero_add, Nat.div_one] at h3⟩), h0]
    split
    · exact (colOf_end f c _ (by omega)).symm
    · rfl

/-- Rows of zeros before a matrix. -/
theorem before {R N P C : ℕ} (f : (⟨2, ![R, C]⟩ : Shape).Idx → EReal) (z : (⟨2, ![P, C]⟩ : Shape).Idx → EReal) (hz : ∀ y, z y = 0)
    (h : Shape.Concatenates [⟨2, ![P, C]⟩, ⟨2, ![R, C]⟩] ⟨2, ![N, C]⟩ (0 : Fin 2)) (n : Fin N) (hN : N ≤ R + P) (c : Fin C) :
    concatenate (⟨2, ![N, C]⟩ : Shape) (0 : Fin 2) [⟨⟨2, ![P, C]⟩, z⟩, ⟨⟨2, ![R, C]⟩, f⟩] h (ix2 n c) = if n.val < P then 0 else colOf f c (n.val - P) := by
  by_cases hn : n.val < P
  · rw [if_pos hn, concatenate_pair_apply_left (0 : Fin 2) z f h (ix2 n c) rfl (ix2 ⟨n.val, hn⟩ c) (fun a => match a with
      | ⟨0, _⟩ => rfl
      | ⟨1, _⟩ => rfl), hz]
  · have := n.isLt
    rw [if_neg hn, colOf_of f c _ (by omega)]
    exact concatenate_pair_apply_right (0 : Fin 2) z f h (ix2 n c) rfl rfl (ix2 ⟨n.val - P, by omega⟩ c) (fun a ha => match a, ha with
      | ⟨0, _⟩, ha => absurd rfl ha
      | ⟨1, _⟩, _ => rfl) (by show n.val - P + P = n.val; omega)

end Cert.Gate

namespace Cert.Reference19Ideal.Gate

open Cert.Reference19Ideal Cert.Reference19Ideal.Gen Cert.Reference19Ideal.Read Cert.Gate
open Idealize.ShloMosaic Idealize.ShloMosaic.TcCoe Idealize.SL.Sem

/-! # What the reference's two results hold -/

variable (x0 x1 : FVec Ideal S8320x5632 .bf16) (x2 : FVec Ideal S3x5632 .f32)

/-- The gradient's column and the input's. -/
abbrev D (J : Fin 5632) (n : ℕ) : EReal := colOf (R := 8320) (C := 5632) x0 J n
abbrev X (J : Fin 5632) (n : ℕ) : EReal := colOf (R := 8320) (C := 5632) x1 J n

/-- The input's gradient: each row takes the gradient's rows it and the two rows after it, with the three weights. -/
def dx : S8320x5632.Idx → EReal := fun y =>
  x2 (ix2 0 (y 1)) * D x0 (y 1) ((y 0).val + 2) + x2 (ix2 1 (y 1)) * D x0 (y 1) ((y 0).val + 1) + x2 (ix2 2 (y 1)) * D x0 (y 1) (y 0).val

/-- The weights' gradient: a weight takes the sum of the rows of the gradient against the rows it met. -/
def dw : S3x5632.Idx → EReal := fun y => ∑ n ∈ Finset.range 8320, D x0 (y 1) (n + (2 - (y 0).val)) * X x1 (y 1) n

theorem weight2 (r : Fin 8320) (J : Fin 5632) : val_main_v27 (F := Ideal) x2 (ix2 r J) = x2 (ix2 2 J) := by
  rw [val_main_v27_apply, val_main_v22_apply, val_main_v20_apply, val_main_v19_apply]
  refine congrArg x2 (funext fun a => match a with
    | ⟨0, _⟩ => Fin.ext rfl
    | ⟨1, _⟩ => Fin.ext (Nat.mod_eq_of_lt J.isLt))

theorem weight1 (r : Fin 8320) (J : Fin 5632) : val_main_v36 (F := Ideal) x2 (ix2 r J) = x2 (ix2 1 J) := by
  rw [val_main_v36_apply, val_main_v15_apply, val_main_v13_apply, val_main_v12_apply]
  refine congrArg x2 (funext fun a => match a with
    | ⟨0, _⟩ => Fin.ext rfl
    | ⟨1, _⟩ => Fin.ext (Nat.mod_eq_of_lt J.isLt))

theorem weight0 (r : Fin 8320) (J : Fin 5632) : val_main_v47 (F := Ideal) x2 (ix2 r J) = x2 (ix2 0 J) := by
  rw [val_main_v47_apply, val_main_v7_apply, val_main_v5_apply, val_main_v4_apply]
  refine congrArg x2 (funext fun a => match a with
    | ⟨0, _⟩ => Fin.ext rfl
    | ⟨1, _⟩ => Fin.ext (Nat.mod_eq_of_lt J.isLt))

/-- A column of a product of a row of weights, the same in each row, is the weight times the column. -/
theorem col_scaled (p : FVec Ideal S8320x5632 .f32) (w : EReal) (J : Fin 5632) (n : ℕ) (h : ∀ r : Fin 8320, (show EReal from p (ix2 r J)) = w * x0 (ix2 r J)) :
    colOf (R := 8320) (C := 5632) p J n = w * D x0 J n := by
  show _ = w * colOf (R := 8320) (C := 5632) x0 J n
  by_cases hn : n < 8320
  · rw [colOf_of (R := 8320) (C := 5632) p J n hn, colOf_of (R := 8320) (C := 5632) x0 J n hn]
    exact h ⟨n, hn⟩
  · rw [colOf_end (R := 8320) (C := 5632) p J n (by omega), colOf_end (R := 8320) (C := 5632) x0 J n (by omega), mul_zero]

theorem value0 (y : S8320x5632.Idx) : val_main_v60 (F := Ideal) x0 x2 y = dx x0 x2 y := by
  obtain ⟨r, J, rfl⟩ : ∃ (r : Fin 8320) (J : Fin 5632), y = ix2 r J := ⟨y 0, y 1, eq_ix2 y⟩
  have e33 : ∀ n : Fin 8322, (show EReal from val_main_v33 (F := Ideal) x0 x2 (ix2 n J)) = if 2 ≤ n.val then x2 (ix2 2 J) * D x0 J (n.val - 2) else 0 := fun n => by
    refine (padded (R := 8320) (N := 8322) (C := 5632) (lo := 2) (hi := 0) (val_main_v28 (F := Ideal) x0 x2) (val_main_cst_4 (F := Ideal)) h_S_ (Ideal.ofBits_zero .f32) pads_S8320x5632_S8322x5632_200_000 n J).trans ?_
    rw [col_scaled x0 (val_main_v28 (F := Ideal) x0 x2) (x2 (ix2 2 J)) J _ (fun r => congrArg (fun z : EReal => z * x0 (ix2 r J)) (weight2 x2 r J))]
  have e42 : ∀ n : Fin 8322, (show EReal from val_main_v42 (F := Ideal) x0 x2 (ix2 n J)) = if 1 ≤ n.val then x2 (ix2 1 J) * D x0 J (n.val - 1) else 0 := fun n => by
    refine (padded (R := 8320) (N := 8322) (C := 5632) (lo := 1) (hi := 1) (val_main_v37 (F := Ideal) x0 x2) (val_main_cst_8 (F := Ideal)) h_S_ (Ideal.ofBits_zero .f32) pads_S8320x5632_S8322x5632_110_000 n J).trans ?_
    rw [col_scaled x0 (val_main_v37 (F := Ideal) x0 x2) (x2 (ix2 1 J)) J _ (fun r => congrArg (fun z : EReal => z * x0 (ix2 r J)) (weight1 x2 r J))]
  have e53 : ∀ n : Fin 8322, (show EReal from val_main_v53 (F := Ideal) x0 x2 (ix2 n J)) = if 0 ≤ n.val then x2 (ix2 0 J) * D x0 J (n.val - 0) else 0 := fun n => by
    refine (padded (R := 8320) (N := 8322) (C := 5632) (lo := 0) (hi := 2) (val_main_v48 (F := Ideal) x0 x2) (val_main_cst_12 (F := Ideal)) h_S_ (Ideal.ofBits_zero .f32) pads_S8320x5632_S8322x5632_020_000 n J).trans ?_
    rw [col_scaled x0 (val_main_v48 (F := Ideal) x0 x2) (x2 (ix2 0 J)) J _ (fun r => congrArg (fun z : EReal => z * x0 (ix2 r J)) (weight0 x2 r J))]
  rw [show val_main_v60 (F := Ideal) x0 x2 (ix2 r J) = val_main_v59 (F := Ideal) x0 x2 (ix2 r J) from rfl, val_main_v59_apply]
  have ei : idx_main_v59 (ix2 r J) = ix2 ⟨2 + r.val, by omega⟩ J := funext fun a => match a with
    | ⟨0, _⟩ => rfl
    | ⟨1, _⟩ => rfl
  rw [ei]
  show ((val_main_v33 (F := Ideal) x0 x2 (ix2 ⟨2 + r.val, _⟩ J) : EReal) + val_main_v42 (F := Ideal) x0 x2 (ix2 ⟨2 + r.val, _⟩ J)) + val_main_v53 (F := Ideal) x0 x2 (ix2 ⟨2 + r.val, _⟩ J)
    = x2 (ix2 0 J) * D x0 J (r.val + 2) + x2 (ix2 1 J) * D x0 J (r.val + 1) + x2 (ix2 2 J) * D x0 J r.val
  refine (congrArg₂ (· + ·) (congrArg₂ (· + ·) (e33 _) (e42 _)) (e53 _)).trans ?_
  dsimp only
  rw [if_pos (by omega), if_pos (by omega), if_pos (by omega), show 2 + r.val - 2 = r.val by omega, show 2 + r.val - 1 = r.val + 1 by omega,
    show 2 + r.val - 0 = r.val + 2 by omega, add_comm (_ + _) (x2 (ix2 0 J) * _), add_comm (x2 (ix2 2 J) * _) _, add_assoc]

/-- The input with two rows of zeros before it. -/
theorem moved (n : Fin 8322) (J : Fin 5632) : (show EReal from val_main_v2 (F := Ideal) x1 (ix2 n J)) = if n.val < 2 then 0 else X x1 J (n.val - 2) := by
  refine (before (R := 8320) (N := 8322) (P := 2) (C := 5632) (val_main_v0 (F := Ideal) x1) (val_main_v1 (F := Ideal)) (fun y => ?_) concatenates_S2x5632_S8320x5632_S8322x5632_d0 n (by omega) J)
  rw [val_main_v1_apply]
  exact Ideal.ofBits_zero .f32

/-- A row of sums, of the gradient's column against a column of the input moved on. -/
theorem summed (s : ℕ) (hs : s ≤ 2) (p : FVec Ideal S8320x5632 .f32) (J : Fin 5632)
    (h : ∀ k : Fin 8320, (show EReal from p (ix2 k J)) = if k.val + (2 - s) < 2 then 0 else X x1 J (k.val + (2 - s) - 2)) :
    ∑ k : Fin 8320, (show EReal from x0 (ix2 k J)) * (show EReal from p (ix2 k J)) = ∑ n ∈ Finset.range 8320, D x0 J (n + s) * X x1 J n := by
  rw [shifted (N := 8320) (s := s) (by omega) (D x0 J) (X x1 J) (fun n hn => colOf_end (R := 8320) (C := 5632) x0 J n hn),
    ← Fin.sum_univ_eq_sum_range (fun n => D x0 J n * (if n < s then 0 else X x1 J (n - s))) 8320]
  refine Finset.sum_congr rfl fun k _ => ?_
  refine congrArg₂ (· * ·) (colOf_at (R := 8320) (C := 5632) x0 J k).symm ((h k).trans ?_)
  by_cases hk : k.val < s
  · rw [if_pos (by omega), if_pos hk]
  · rw [if_neg (by omega), if_neg hk, show k.val + (2 - s) - 2 = k.val - s by omega]

theorem sum2 (J : Fin 5632) : (show EReal from val_main_v34 (F := Ideal) x0 x1 (ix2 0 J)) = ∑ n ∈ Finset.range 8320, D x0 J (n + 0) * X x1 J n := by
  rw [val_main_v34_apply, val_main_v32_apply, Fin.sum_univ_one, val_main_v31_apply, val_main_v30_apply]
  refine (congrArg₂ (· + ·) (Ideal.ofBits_zero .f32) (congrArg₂ (· + ·) (Ideal.ofBits_zero .f32) rfl)).trans ?_
  rw [zero_add, zero_add]
  refine Eq.trans (Finset.sum_congr rfl fun k _ => ?_) (summed x0 x1 0 (by omega) (val_main_v21 (F := Ideal) x1) J fun k => ?_)
  · exact congrArg (fun i => (show EReal from val_main_v29 (F := Ideal) x0 x1 i)) (funext fun a => match a with
      | ⟨0, _⟩ => rfl
      | ⟨1, _⟩ => Fin.ext (by show 0 * 5632 + J.val = J.val; omega))
  · rw [val_main_v21_apply]
    have e : idx_main_v21 (ix2 k J) = ix2 ⟨k.val + 2, by omega⟩ J := funext fun a => match a with
      | ⟨0, _⟩ => Fin.ext (Nat.add_comm 2 k.val)
      | ⟨1, _⟩ => rfl
    rw [e]
    exact moved x1 ⟨k.val + 2, by omega⟩ J

theorem sum1 (J : Fin 5632) : (show EReal from val_main_v44 (F := Ideal) x0 x1 (ix2 0 J)) = ∑ n ∈ Finset.range 8320, D x0 J (n + 1) * X x1 J n := by
  rw [val_main_v44_apply, val_main_v41_apply, Fin.sum_univ_one, val_main_v40_apply, val_main_v39_apply]
  refine (congrArg₂ (· + ·) (Ideal.ofBits_zero .f32) (congrArg₂ (· + ·) (Ideal.ofBits_zero .f32) rfl)).trans ?_
  rw [zero_add, zero_add]
  refine Eq.trans (Finset.sum_congr rfl fun k _ => ?_) (summed x0 x1 1 (by omega) (val_main_v14 (F := Ideal) x1) J fun k => ?_)
  · exact congrArg (fun i => (show EReal from val_main_v38 (F := Ideal) x0 x1 i)) (funext fun a => match a with
      | ⟨0, _⟩ => rfl
      | ⟨1, _⟩ => Fin.ext (by show 0 * 5632 + J.val = J.val; omega))
  · rw [val_main_v14_apply]
    have e : idx_main_v14 (ix2 k J) = ix2 ⟨k.val + 1, by omega⟩ J := funext fun a => match a with
      | ⟨0, _⟩ => Fin.ext (Nat.add_comm 1 k.val)
      | ⟨1, _⟩ => rfl
    rw [e]
    exact moved x1 ⟨k.val + 1, by omega⟩ J

theorem sum0 (J : Fin 5632) : (show EReal from val_main_v55 (F := Ideal) x0 x1 (ix2 0 J)) = ∑ n ∈ Finset.range 8320, D x0 J (n + 2) * X x1 J n := by
  rw [val_main_v55_apply, val_main_v52_apply, Fin.sum_univ_one, val_main_v51_apply, val_main_v50_apply]
  refine (congrArg₂ (· + ·) (Ideal.ofBits_zero .f32) (congrArg₂ (· + ·) (Ideal.ofBits_zero .f32) rfl)).trans ?_
  rw [zero_add, zero_add]
  refine Eq.trans (Finset.sum_congr rfl fun k _ => ?_) (summed x0 x1 2 (by omega) (val_main_v6 (F := Ideal) x1) J fun k => ?_)
  · exact congrArg (fun i => (show EReal from val_main_v49 (F := Ideal) x0 x1 i)) (funext fun a => match a with
      | ⟨0, _⟩ => rfl
      | ⟨1, _⟩ => Fin.ext (by show 0 * 5632 + J.val = J.val; omega))
  · rw [val_main_v6_apply]
    have e : idx_main_v6 (ix2 k J) = ix2 ⟨k.val + 0, by omega⟩ J := funext fun a => match a with
      | ⟨0, _⟩ => rfl
      | ⟨1, _⟩ => rfl
    rw [e]
    exact moved x1 ⟨k.val + 0, by omega⟩ J

theorem value1 (y : S3x5632.Idx) : val_main_v57 (F := Ideal) x0 x1 y = dw x0 x1 y := by
  obtain ⟨a, J, rfl⟩ : ∃ (a : Fin 3) (J : Fin 5632), y = ix2 a J := ⟨y 0, y 1, eq_ix2 y⟩
  have e35 := padded (R := 1) (N := 3) (C := 5632) (lo := 2) (hi := 0) (val_main_v34 (F := Ideal) x0 x1) (val_main_cst_5 (F := Ideal)) h_S_ (Ideal.ofBits_zero .f32) pads_S1x5632_S3x5632_200_000 a J
  have e45 := padded (R := 1) (N := 3) (C := 5632) (lo := 1) (hi := 1) (val_main_v44 (F := Ideal) x0 x1) (val_main_cst_9 (F := Ideal)) h_S_ (Ideal.ofBits_zero .f32) pads_S1x5632_S3x5632_110_000 a J
  have e56 := padded (R := 1) (N := 3) (C := 5632) (lo := 0) (hi := 2) (val_main_v55 (F := Ideal) x0 x1) (val_main_cst_13 (F := Ideal)) h_S_ (Ideal.ofBits_zero .f32) pads_S1x5632_S3x5632_020_000 a J
  show ((val_main_v35 (F := Ideal) x0 x1 (ix2 a J) : EReal) + val_main_v45 (F := Ideal) x0 x1 (ix2 a J)) + val_main_v56 (F := Ideal) x0 x1 (ix2 a J)
    = ∑ n ∈ Finset.range 8320, D x0 J (n + (2 - a.val)) * X x1 J n
  refine (congrArg₂ (· + ·) (congrArg₂ (· + ·) e35 e45) e56).trans ?_
  dsimp only
  have a0 : ∀ f : FVec Ideal S1x5632 .f32, colOf (R := 1) (C := 5632) f J 0 = f (ix2 0 J) := fun f => colOf_at (R := 1) (C := 5632) f J 0
  match a with
  | ⟨0, _⟩ =>
    rw [if_neg (by simp), if_neg (by simp), if_pos (by simp), zero_add, zero_add]
    exact (a0 _).trans (sum0 x0 x1 J)
  | ⟨1, _⟩ =>
    rw [if_neg (by simp), if_pos (by simp), if_pos (by simp), zero_add, colOf_end (R := 1) (C := 5632) (val_main_v55 (F := Ideal) x0 x1) J _ (by simp), add_zero]
    exact (a0 _).trans (sum1 x0 x1 J)
  | ⟨2, _⟩ =>
    rw [if_pos (by simp), if_pos (by simp), if_pos (by simp), colOf_end (R := 1) (C := 5632) (val_main_v44 (F := Ideal) x0 x1) J _ (by simp), add_zero,
      colOf_end (R := 1) (C := 5632) (val_main_v55 (F := Ideal) x0 x1) J _ (by simp), add_zero]
    exact (a0 _).trans (sum2 x0 x1 J)

end Cert.Reference19Ideal.Gate
-- ==== Proof.Gate.ConvWalk.lean ====
module

public import proofs.«01_k».proof.Proof.Prod.Common
public import proofs.«01_k».proof.Proof.Gen.Kernel19Ideal.Frame
public import Idealize.ShloMosaic.Lib.Pipeline.ValueKit
public import Idealize.ShloMosaic.Lib.WritesUnit
public import Idealize.ShloMosaic.Lib.VecWindow

@[expose] public section

set_option maxRecDepth 16384

noncomputable section

namespace Cert.Kernel19Ideal.Conv

open Cert.Kernel19Ideal Cert.Kernel19Ideal.Gen
open Idealize.ShloMosaic Idealize.ShloMosaic.TcCoe Idealize.ShloMosaic.Tactic Idealize.SL.Sem

/-! # Where the convolution's loop goes, and what one grid point leaves

The loop takes sixteen rows a trip: it reads the gradient's rows and the eight after them, writes the sixteen rows of
the input's gradient, and adds to three running sums, one per weight. -/

theorem trips_eq : k0_t1_loop.trips = 104 := by decide +kernel

theorem off1 : ∀ k : Fin k0_t1_loop.trips, k0_off1 k = ![16 * k.val, 0] := by decide +kernel

theorem off2 : ∀ k : Fin k0_t1_loop.trips, k0_off2 k = ![16 * k.val, 0] := by decide +kernel

variable {F : FTy → Type} [FloatOps F]

/-- The three running sums. -/
abbrev St (F : FTy → Type) := FVec F S8x512 .f32 × FVec F S8x512 .f32 × FVec F S8x512 .f32

/-- The gradient's rows a trip reads, -/
def win (E : FVec F S1672x512 .f32) (k : ℕ) : FVec F S24x512 .f32 := fun y =>
  E (ix2 ⟨(16 * k + (y 0).val) % 1672, Nat.mod_lt _ (by omega)⟩ (y 1))

/-- and the input's. -/
def rows (X : FVec F S1664x512 .bf16) (k : ℕ) : FVec F S16x512 .bf16 := fun y =>
  X (ix2 ⟨(16 * k + (y 0).val) % 1664, Nat.mod_lt _ (by omega)⟩ (y 1))

/-- The gradient's rows of a tile, with the eight after it. -/
def both (a : FVec F S1664x512 .f32) (b : FVec F S8x512 .f32) : FVec F S1672x512 .f32 := fun y =>
  if h : (y 0).val < 1664 then a (ix2 ⟨(y 0).val, h⟩ (y 1))
  else b (ix2 ⟨(y 0).val - 1664, by have h0 : (y 0).val < 1672 := (y 0).isLt; omega⟩ (y 1))

/-- One trip's sums, -/
def trip (E : FVec F S1672x512 .f32) (X : FVec F S1664x512 .bf16) (k : ℕ) (s : St F) : St F :=
  (k0_pay9 s.1 (win E k) (rows X k), k0_pay11 s.2.1 (win E k) (rows X k), k0_pay13 s.2.2 (win E k) (rows X k))

/-- those of `n` trips, -/
def trips (E : FVec F S1672x512 .f32) (X : FVec F S1664x512 .bf16) (s : St F) : ℕ → St F
  | 0 => s
  | n + 1 => trip E X n (trips E X s n)

/-- and what a trip writes. -/
def piece (w : FVec F S3x512 .f32) (E : FVec F S1672x512 .f32) (k : Fin k0_t1_loop.trips) : View.Piece (Elt F) S1664x512 .bf16 :=
  ⟨Rect.unit (s := S1664x512) (k0_off2 k) S16x512.size (k0_off2_inb k), k0_pay14 w (win E k.val)⟩

/-- The tile of the input's gradient. -/
def tile (w : FVec F S3x512 .f32) (E : FVec F S1672x512 .f32) : FVec F S1664x512 .bf16 := fun y =>
  k0_pay14 w (win E ((y 0).val / 16)) (ix2 ⟨(y 0).val % 16, Nat.mod_lt _ (by omega)⟩ (y 1))

/-- What the loop's sums come to. -/
def summed (s : St F) : FVec F S3x512 .f32 := k0_pay15 s.1 s.2.1 s.2.2

/-- The sums of a tile. -/
def part (E : FVec F S1672x512 .f32) (X : FVec F S1664x512 .bf16) : FVec F S3x512 .f32 :=
  summed (trips E X (k0_pay4, k0_pay5, k0_pay6) 104)

theorem piece_tile (w : FVec F S3x512 .f32) (E : FVec F S1672x512 .f32) (k : Fin k0_t1_loop.trips) (x : (piece w E k).1.shape.Idx) :
    (piece w E k).2 x = tile w E ((piece w E k).1.emb x) := by
  have h0 : (x 0).val < 16 := (x 0).isLt
  have e : (((piece w E k).1.emb x) 0).val = 16 * k.val + (x 0).val := by
    show k0_off2 k 0 + 1 * (x 0).val = _
    rw [off2 k]
    show 16 * k.val + 1 * (x 0).val = _
    omega
  have e1 : (((piece w E k).1.emb x) 1).val = (x 1).val := by
    show k0_off2 k 1 + 1 * (x 1).val = _
    rw [off2 k]
    show 0 + 1 * (x 1).val = _
    omega
  unfold tile
  rw [show (((piece w E k).1.emb x) 0).val / 16 = k.val by rw [e]; omega]
  refine congrArg (k0_pay14 w (win E k.val)) (funext fun a => ?_)
  match a with
  | ⟨0, _⟩ => exact Fin.ext (by show (x 0).val = (((piece w E k).1.emb x) 0).val % 16; rw [e]; omega)
  | ⟨1, _⟩ => exact Fin.ext (by show (x 1).val = (((piece w E k).1.emb x) 1).val; rw [e1])

/-- A load of a trip's rows reads those rows of what the buffer reads. -/
theorem readAt_win {sp : Space} (a : Memref sig .tc sp S1672x512 .f32) (f : BufTy.Contents (Elt F) a.view.ty)
    {off : Fin 2 → ℕ} (k : ℕ) (h : off = ![16 * k, 0]) (inb : ∀ x, off x + S24x512.size x ≤ S1672x512.size x) :
    a.view.readAt (Elt F) (Rect.unit (s := S1672x512) off S24x512.size inb).toLoadRect f = win (a.view.read (Elt F) f) k := by
  subst h
  funext y
  have hb : 16 * k + 24 ≤ 1672 := inb 0
  have hy : (y 0).val < 24 := (y 0).isLt
  refine congrArg (a.view.read (Elt F) f) (funext fun x => Fin.ext ?_)
  match x with
  | 0 => show 16 * k + 1 * (y 0).val = (16 * k + (y 0).val) % 1672; omega
  | 1 => show 0 + 1 * (y 1).val = (y 1).val; omega

theorem readAt_rows {sp : Space} (a : Memref sig .tc sp S1664x512 .bf16) (f : BufTy.Contents (Elt F) a.view.ty)
    {off : Fin 2 → ℕ} (k : ℕ) (h : off = ![16 * k, 0]) (inb : ∀ x, off x + S16x512.size x ≤ S1664x512.size x) :
    a.view.readAt (Elt F) (Rect.unit (s := S1664x512) off S16x512.size inb).toLoadRect f = rows (a.view.read (Elt F) f) k := by
  subst h
  funext y
  have hb : 16 * k + 16 ≤ 1664 := inb 0
  have hy : (y 0).val < 16 := (y 0).isLt
  refine congrArg (a.view.read (Elt F) f) (funext fun x => Fin.ext ?_)
  match x with
  | 0 => show 16 * k + 1 * (y 0).val = (16 * k + (y 0).val) % 1664; omega
  | 1 => show 0 + 1 * (y 1).val = (y 1).val; omega

variable (c : Dev nD) (i : grid0.Coords) (arg2 : Memref sig .tc .vmem S1664x512 .bf16) (harg2 : arg2.IsWhole)
  (arg3 : Memref sig .tc .vmem S8x512 .bf16) (harg3 : arg3.IsWhole) (arg4 : Memref sig .tc .vmem S1664x512 .bf16) (harg4 : arg4.IsWhole)
  (arg5 : Memref sig .tc .vmem S3x512 .f32) (harg5 : arg5.IsWhole) (arg6 : Memref sig .tc .vmem S1664x512 .bf16) (harg6 : arg6.IsWhole)
  (arg7 : Memref sig .tc .vmem S3x512 .f32) (harg7 : arg7.IsWhole) (arg8 : Memref sig .tc .vmem S1672x512 .f32) (harg8 : arg8.IsWhole)

section Loop

variable (𝒱 : Variants) (bd : Option 𝒱.V) (w : Vec F S3x512 .f32) (X4 : BufTy.Contents (Elt F) arg4.view.ty) (X8 : BufTy.Contents (Elt F) arg8.view.ty)

/-- The trip's run, read off: its sums, -/
theorem tripR_eq (k : Fin k0_t1_loop.trips) (acc : St F) :
    tripR_k0_t1 (F := F) 𝒱 c bd i arg2 harg2 arg3 harg3 arg4 harg4 arg5 harg5 arg6 harg6 arg7 harg7 arg8 harg8 w X4 X8 k acc
      = trip (arg8.view.read (Elt F) X8) (arg4.view.read (Elt F) X4) k.val acc := by
  unfold tripR_k0_t1 trip_k0_t1
  dsimp only [trip]
  rw [← readAt_win arg8 X8 _ (off1 k) (k0_off1_inb k), ← readAt_rows arg4 X4 _ (off2 k) (k0_off2_inb k)]

/-- and what it writes. -/
theorem tripL_eq (k : Fin k0_t1_loop.trips) (acc : St F) :
    tripL_k0_t1 (F := F) 𝒱 c bd i arg2 harg2 arg3 harg3 arg4 harg4 arg5 harg5 arg6 harg6 arg7 harg7 arg8 harg8 w X4 X8 k acc
      = [piece w (arg8.view.read (Elt F) X8) k] := by
  unfold tripL_k0_t1 trip_k0_t1 piece
  dsimp only
  rw [← readAt_win arg8 X8 _ (off1 k) (k0_off1_inb k)]

/-- The generated loop state after `n` trips: the sums are `trips`, the pieces those of the trips. -/
theorem st_eq (init : St F) (n : ℕ) (hn : n ≤ k0_t1_loop.trips) :
    (st_k0_t1 (F := F) 𝒱 c bd i arg2 harg2 arg3 harg3 arg4 harg4 arg5 harg5 arg6 harg6 arg7 harg7 arg8 harg8 w X4 X8 init n).1
      = trips (arg8.view.read (Elt F) X8) (arg4.view.read (Elt F) X4) init n
    ∧ ∀ p ∈ (st_k0_t1 (F := F) 𝒱 c bd i arg2 harg2 arg3 harg3 arg4 harg4 arg5 harg5 arg6 harg6 arg7 harg7 arg8 harg8 w X4 X8 init n).2,
        ∃ k, p = piece w (arg8.view.read (Elt F) X8) k := by
  induction n with
  | zero => exact ⟨rfl, fun p hp => absurd hp List.not_mem_nil⟩
  | succ n ih =>
    have e := st_k0_t1_succ (F := F) 𝒱 c bd i arg2 harg2 arg3 harg3 arg4 harg4 arg5 harg5 arg6 harg6 arg7 harg7 arg8 harg8 w X4 X8 init ⟨n, hn⟩
    dsimp only at e
    obtain ⟨i1, i2⟩ := ih (by omega)
    rw [e, tripR_eq, tripL_eq, i1]
    refine ⟨rfl, fun p hp => ?_⟩
    rcases List.mem_append.mp hp with h | h
    · exact ⟨_, List.mem_singleton.mp h⟩
    · exact i2 p h

/-- After all its trips. -/
theorem loop_eq (init : St F) :
    (st_k0_t1 (F := F) 𝒱 c bd i arg2 harg2 arg3 harg3 arg4 harg4 arg5 harg5 arg6 harg6 arg7 harg7 arg8 harg8 w X4 X8 init (Scf.trips 0#32 (Scalar.addi 0#32 104#32) 1#32)).1
      = trips (arg8.view.read (Elt F) X8) (arg4.view.read (Elt F) X4) init 104 :=
  ((st_eq c i arg2 harg2 arg3 harg3 arg4 harg4 arg5 harg5 arg6 harg6 arg7 harg7 arg8 harg8 𝒱 bd w X4 X8 init _ le_rfl).1).trans (congrArg _ trips_eq)

/-- What the pieces of the loop leave, where they cover. -/
theorem pieces_eq (init : St F) {sp : Space} (a : View sig .tc sp S1664x512 .bf16) (f : BufTy.Contents (Elt F) a.ty) (y : S1664x512.Idx)
    (hy : ∃ p ∈ (st_k0_t1 (F := F) 𝒱 c bd i arg2 harg2 arg3 harg3 arg4 harg4 arg5 harg5 arg6 harg6 arg7 harg7 arg8 harg8 w X4 X8 init (Scf.trips k0_t1_loop.lb k0_t1_loop.ub k0_t1_loop.st)).2, y ∈ p.1.set) :
    a.read (Elt F) (a.writes (Elt F) f (st_k0_t1 (F := F) 𝒱 c bd i arg2 harg2 arg3 harg3 arg4 harg4 arg5 harg5 arg6 harg6 arg7 harg7 arg8 harg8 w X4 X8 init (Scf.trips k0_t1_loop.lb k0_t1_loop.ub k0_t1_loop.st)).2) y
      = tile w (arg8.view.read (Elt F) X8) y := by
  refine View.read_writes_apply_of_pieces a f (tile w (arg8.view.read (Elt F) X8)) _ (fun p hp x => ?_) y hy
  obtain ⟨k, rfl⟩ := (st_eq c i arg2 harg2 arg3 harg3 arg4 harg4 arg5 harg5 arg6 harg6 arg7 harg7 arg8 harg8 𝒱 bd w X4 X8 init _ le_rfl).2 p hp
  exact piece_tile w _ k x

end Loop

/-- The two writes of the gradient's rows, read back. -/
theorem both_eq {sp : Space} (a : View sig .tc sp S1672x512 .f32) (f : BufTy.Contents (Elt F) a.ty) (u : FVec F S1664x512 .f32) (v : FVec F S8x512 .f32) :
    a.read (Elt F) (a.writes (Elt F) f [⟨Rect.unit (s := S1672x512) ![1664, 0] S8x512.size inb_S1672x512_S8x512_1664_0, v⟩, ⟨Rect.unit (s := S1672x512) ![0, 0] S1664x512.size inb_S1672x512_S1664x512_0_0, u⟩])
      = both u v := by
  funext y
  have hy : (y 0).val < 1672 := (y 0).isLt
  unfold both
  by_cases h : (y 0).val < 1664
  · rw [dif_pos h]
    refine (View.read_writes_cons_rows_of_not_mem a f (W := 8) inb_S1672x512_S8x512_1664_0 v _ y rfl rfl (Or.inl h)).trans ?_
    exact View.read_writes_cons_rows_of_mem a f inb_S1672x512_S1664x512_0_0 u _ y (ix2 ⟨(y 0).val, h⟩ (y 1)) rfl (Nat.zero_add _).symm rfl
  · rw [dif_neg h]
    exact View.read_writes_cons_rows_of_mem a f inb_S1672x512_S8x512_1664_0 v _ y (ix2 ⟨(y 0).val - 1664, by omega⟩ (y 1)) rfl (by show (y 0).val = 1664 + ((y 0).val - 1664); omega) rfl

variable (x0 : Vec F S1664x512 .bf16) (x1 : Vec F S8x512 .bf16) (x2 : Vec F S1664x512 .bf16) (x3 xo5 : Vec F S3x512 .f32)

/-- The gradient's rows a point works on. -/
abbrev grad : FVec F S1672x512 .f32 := both (k0_pay2 x0) (k0_pay3 i x1)

/-- A column block's first point leaves the tile and its sums, -/
theorem out_A_4 (hc0 : cond0_0 i) (hc1 : ¬cond0_1 i) :
    out0_A_4 (F := F) c i arg2 harg2 arg3 harg3 arg4 harg4 arg5 harg5 arg6 harg6 arg7 harg7 arg8 harg8 hc0 hc1 x0 x1 x2 x3 = tile x3 (grad i x0 x1) := by
  have h0 : arg2.view.readAt (Elt F) (Rect.unit (s := S1664x512) ![0, 0] S1664x512.size inb_S1664x512_S1664x512_0_0).toLoadRect (harg2.unread x0) = x0 :=
    (View.readAt_full ..).trans (harg2.read_unread x0)
  have h1 : arg3.view.readAt (Elt F) (Rect.unit (s := S8x512) ![0, 0] S8x512.size inb_S8x512_S8x512_0_0).toLoadRect (harg3.unread x1) = x1 :=
    (View.readAt_full ..).trans (harg3.read_unread x1)
  have h3 : arg5.view.readAt (Elt F) (Rect.unit (s := S3x512) ![0, 0] S3x512.size inb_S3x512_S3x512_0_0).toLoadRect (harg5.unread x3) = x3 :=
    (View.readAt_full ..).trans (harg5.read_unread x3)
  funext y
  have hcov := cover0_A_4 (F := F) c i arg2 harg2 arg3 harg3 arg4 harg4 arg5 harg5 arg6 harg6 arg7 harg7 arg8 harg8 hc0 hc1 x0 x1 x2 x3 y
  unfold out0_A_4
  unfold kernelRun0_A at hcov ⊢
  dsimp only at hcov ⊢
  refine (pieces_eq (F := F) c i arg2 harg2 arg3 harg3 arg4 harg4 arg5 harg5 arg6 harg6 arg7 harg7 arg8 harg8 _ _ _ _ _ _ _ _ y hcov).trans ?_
  unfold kernelRun0_A.sl.HS0_2
  rw [both_eq, h0, h1, h3]

theorem out_A_5 (hc0 : cond0_0 i) (hc1 : ¬cond0_1 i) :
    out0_A_5 (F := F) c i arg2 harg2 arg3 harg3 arg4 harg4 arg5 harg5 arg6 harg6 arg7 harg7 arg8 harg8 hc0 hc1 x0 x1 x2 x3 = part (grad i x0 x1) x2 := by
  have h0 : arg2.view.readAt (Elt F) (Rect.unit (s := S1664x512) ![0, 0] S1664x512.size inb_S1664x512_S1664x512_0_0).toLoadRect (harg2.unread x0) = x0 :=
    (View.readAt_full ..).trans (harg2.read_unread x0)
  have h1 : arg3.view.readAt (Elt F) (Rect.unit (s := S8x512) ![0, 0] S8x512.size inb_S8x512_S8x512_0_0).toLoadRect (harg3.unread x1) = x1 :=
    (View.readAt_full ..).trans (harg3.read_unread x1)
  unfold out0_A_5 kernelRun0_A
  dsimp only
  unfold kernelRun0_A.sl.HS0_2
  rw [View.read_writes_full]
  refine (congrArg summed (loop_eq (F := F) c i arg2 harg2 arg3 harg3 arg4 harg4 arg5 harg5 arg6 harg6 arg7 harg7 arg8 harg8 _ _ _ _ _ _)).trans ?_
  rw [both_eq, h0, h1, harg4.read_unread]
  rfl

/-- and a later point the tile and what was there with its sums. -/
theorem out_B_4 (hc0 : ¬cond0_0 i) (hc1 : cond0_1 i) :
    out0_B_4 (F := F) c i arg2 harg2 arg3 harg3 arg4 harg4 arg5 harg5 arg6 harg6 arg7 harg7 arg8 harg8 hc0 hc1 x0 x1 x2 x3 xo5 = tile x3 (grad i x0 x1) := by
  have h0 : arg2.view.readAt (Elt F) (Rect.unit (s := S1664x512) ![0, 0] S1664x512.size inb_S1664x512_S1664x512_0_0).toLoadRect (harg2.unread x0) = x0 :=
    (View.readAt_full ..).trans (harg2.read_unread x0)
  have h1 : arg3.view.readAt (Elt F) (Rect.unit (s := S8x512) ![0, 0] S8x512.size inb_S8x512_S8x512_0_0).toLoadRect (harg3.unread x1) = x1 :=
    (View.readAt_full ..).trans (harg3.read_unread x1)
  have h3 : arg5.view.readAt (Elt F) (Rect.unit (s := S3x512) ![0, 0] S3x512.size inb_S3x512_S3x512_0_0).toLoadRect (harg5.unread x3) = x3 :=
    (View.readAt_full ..).trans (harg5.read_unread x3)
  funext y
  have hcov := cover0_B_4 (F := F) c i arg2 harg2 arg3 harg3 arg4 harg4 arg5 harg5 arg6 harg6 arg7 harg7 arg8 harg8 hc0 hc1 x0 x1 x2 x3 xo5 y
  unfold out0_B_4
  unfold kernelRun0_B at hcov ⊢
  dsimp only at hcov ⊢
  refine (pieces_eq (F := F) c i arg2 harg2 arg3 harg3 arg4 harg4 arg5 harg5 arg6 harg6 arg7 harg7 arg8 harg8 _ _ _ _ _ _ _ _ y hcov).trans ?_
  unfold kernelRun0_B.sl.HS0_2
  rw [both_eq, h0, h1, h3]

theorem out_B_5 (hc0 : ¬cond0_0 i) (hc1 : cond0_1 i) :
    out0_B_5 (F := F) c i arg2 harg2 arg3 harg3 arg4 harg4 arg5 harg5 arg6 harg6 arg7 harg7 arg8 harg8 hc0 hc1 x0 x1 x2 x3 xo5 = k0_pay1 (part (grad i x0 x1) x2) xo5 := by
  have h0 : arg2.view.readAt (Elt F) (Rect.unit (s := S1664x512) ![0, 0] S1664x512.size inb_S1664x512_S1664x512_0_0).toLoadRect (harg2.unread x0) = x0 :=
    (View.readAt_full ..).trans (harg2.read_unread x0)
  have h1 : arg3.view.readAt (Elt F) (Rect.unit (s := S8x512) ![0, 0] S8x512.size inb_S8x512_S8x512_0_0).toLoadRect (harg3.unread x1) = x1 :=
    (View.readAt_full ..).trans (harg3.read_unread x1)
  have h5 : arg7.view.readAt (Elt F) (Rect.unit (s := S3x512) ![0, 0] S3x512.size inb_S3x512_S3x512_0_0).toLoadRect (harg7.unread xo5) = xo5 :=
    (View.readAt_full ..).trans (harg7.read_unread xo5)
  unfold out0_B_5 kernelRun0_B
  unfold kernelRun0_B.sl.r
  dsimp only
  unfold kernelRun0_B.sl.HS0_2
  rw [View.read_writes_full]
  refine (congrArg₂ k0_pay1 (congrArg summed (loop_eq (F := F) c i arg2 harg2 arg3 harg3 arg4 harg4 arg5 harg5 arg6 harg6 arg7 harg7 arg8 harg8 _ _ _ _ _ _)) h5).trans ?_
  rw [both_eq, h0, h1, harg4.read_unread]
  rfl

end Cert.Kernel19Ideal.Conv
-- ==== Proof.Gate.Conv.lean ====
module

public import proofs.«01_k».proof.Proof.Gate.ConvRef
public import proofs.«01_k».proof.Proof.Gate.ConvWalk
public import proofs.«01_k».proof.Proof.Gen.Kernel19Ideal.Value

@[expose] public section

set_option maxRecDepth 16384

noncomputable section

namespace Cert.Kernel19Ideal.Conv

open Cert.Kernel19Ideal Cert.Kernel19Ideal.Gen Cert.Gate
open Cert.Reference19Ideal.Gate (D X dx dw)
open Idealize.ShloMosaic Idealize.ShloMosaic.TcCoe Idealize.ShloMosaic.Tactic
open Idealize.ShloMosaic.Pipeline (Dat Cfg Window)

/-! # What the kernel's two results hold -/

theorem pay8_apply (v : FVec Ideal S24x512 .f32) (r : Fin 16) (c : Fin 512) : k0_pay8 (F := Ideal) v (ix2 r c) = v (ix2 ⟨r.val + 2, by omega⟩ c) := by
  unfold k0_pay8
  dsimp only
  rw [extractStridedSlice_apply ![0, 0] _ slices_S24x512_o0_0_S16x512 (ix2 r c) (ix2 ⟨r.val, by omega⟩ c) (fun a => match a with
    | ⟨0, _⟩ => by show r.val = 0 + r.val; omega
    | ⟨1, _⟩ => by show c.val = 0 + c.val; omega)]
  exact dynamicRotate_apply (s := S24x512) 0 22#32 v rotates_S24x512_d0 _ (ix2 ⟨r.val + 2, by omega⟩ c) (fun b => match b with
    | ⟨0, _⟩ => by show r.val + 2 = (r.val + 24 - 22 % 24) % 24; omega
    | ⟨1, _⟩ => rfl)

theorem pay10_apply (v : FVec Ideal S24x512 .f32) (r : Fin 16) (c : Fin 512) : k0_pay10 (F := Ideal) v (ix2 r c) = v (ix2 ⟨r.val + 1, by omega⟩ c) := by
  unfold k0_pay10
  dsimp only
  rw [extractStridedSlice_apply ![0, 0] _ slices_S24x512_o0_0_S16x512 (ix2 r c) (ix2 ⟨r.val, by omega⟩ c) (fun a => match a with
    | ⟨0, _⟩ => by show r.val = 0 + r.val; omega
    | ⟨1, _⟩ => by show c.val = 0 + c.val; omega)]
  exact dynamicRotate_apply (s := S24x512) 0 23#32 v rotates_S24x512_d0 _ (ix2 ⟨r.val + 1, by omega⟩ c) (fun b => match b with
    | ⟨0, _⟩ => by show r.val + 1 = (r.val + 24 - 23 % 24) % 24; omega
    | ⟨1, _⟩ => rfl)

theorem pay12_apply (v : FVec Ideal S24x512 .f32) (r : Fin 16) (c : Fin 512) : k0_pay12 (F := Ideal) v (ix2 r c) = v (ix2 ⟨r.val, by omega⟩ c) := by
  unfold k0_pay12
  exact extractStridedSlice_apply ![0, 0] v slices_S24x512_o0_0_S16x512 (ix2 r c) (ix2 ⟨r.val, by omega⟩ c) (fun a => match a with
    | ⟨0, _⟩ => by show r.val = 0 + r.val; omega
    | ⟨1, _⟩ => by show c.val = 0 + c.val; omega)

/-- Two rows of a product of sixteen, added to a running sum. -/
theorem pay9_apply (s : FVec Ideal S8x512 .f32) (v : FVec Ideal S24x512 .f32) (x : FVec Ideal S16x512 .bf16) (r : Fin 8) (c : Fin 512) :
    k0_pay9 (F := Ideal) s v x (ix2 r c) = s (ix2 r c) + (k0_pay8 (F := Ideal) v (ix2 ⟨r.val, by omega⟩ c) * x (ix2 ⟨r.val, by omega⟩ c)
      + k0_pay8 (F := Ideal) v (ix2 ⟨8 + r.val, by omega⟩ c) * x (ix2 ⟨8 + r.val, by omega⟩ c)) := by
  pointwise [k0_pay9, k0_pay7]

theorem pay11_apply (s : FVec Ideal S8x512 .f32) (v : FVec Ideal S24x512 .f32) (x : FVec Ideal S16x512 .bf16) (r : Fin 8) (c : Fin 512) :
    k0_pay11 (F := Ideal) s v x (ix2 r c) = s (ix2 r c) + (k0_pay10 (F := Ideal) v (ix2 ⟨r.val, by omega⟩ c) * x (ix2 ⟨r.val, by omega⟩ c)
      + k0_pay10 (F := Ideal) v (ix2 ⟨8 + r.val, by omega⟩ c) * x (ix2 ⟨8 + r.val, by omega⟩ c)) := by
  pointwise [k0_pay11, k0_pay7]

theorem pay13_apply (s : FVec Ideal S8x512 .f32) (v : FVec Ideal S24x512 .f32) (x : FVec Ideal S16x512 .bf16) (r : Fin 8) (c : Fin 512) :
    k0_pay13 (F := Ideal) s v x (ix2 r c) = s (ix2 r c) + (k0_pay12 (F := Ideal) v (ix2 ⟨r.val, by omega⟩ c) * x (ix2 ⟨r.val, by omega⟩ c)
      + k0_pay12 (F := Ideal) v (ix2 ⟨8 + r.val, by omega⟩ c) * x (ix2 ⟨8 + r.val, by omega⟩ c)) := by
  pointwise [k0_pay13, k0_pay7]

theorem pay14_apply (w : FVec Ideal S3x512 .f32) (v : FVec Ideal S24x512 .f32) (r : Fin 16) (c : Fin 512) :
    k0_pay14 (F := Ideal) w v (ix2 r c) = w (ix2 0 c) * k0_pay8 (F := Ideal) v (ix2 r c) + w (ix2 1 c) * k0_pay10 (F := Ideal) v (ix2 r c)
      + w (ix2 2 c) * k0_pay12 (F := Ideal) v (ix2 r c) := by
  pointwise [k0_pay14]

theorem pay15_apply0 (s0 s1 s2 : FVec Ideal S8x512 .f32) (c : Fin 512) : k0_pay15 (F := Ideal) s0 s1 s2 (ix2 0 c) = ∑ r : Fin 8, s0 (ix2 r c) := by
  pointwise [k0_pay15]

theorem pay15_apply1 (s0 s1 s2 : FVec Ideal S8x512 .f32) (c : Fin 512) : k0_pay15 (F := Ideal) s0 s1 s2 (ix2 1 c) = ∑ r : Fin 8, s1 (ix2 r c) := by
  pointwise [k0_pay15]

theorem pay15_apply2 (s0 s1 s2 : FVec Ideal S8x512 .f32) (c : Fin 512) : k0_pay15 (F := Ideal) s0 s1 s2 (ix2 2 c) = ∑ r : Fin 8, s2 (ix2 r c) := by
  pointwise [k0_pay15]

/-- A later point adds its tile's sums to the result. -/
theorem pay1_apply (s w : FVec Ideal S3x512 .f32) (y : S3x512.Idx) : k0_pay1 (F := Ideal) s w y = (w y + s y : EReal) := by
  unfold k0_pay1
  rw [shapeCast_self]
  rfl

theorem pay2_apply (v : FVec Ideal S1664x512 .bf16) (y : S1664x512.Idx) : (show EReal from k0_pay2 (F := Ideal) v y) = v y := by
  unfold k0_pay2
  rw [shapeCast_self]
  rfl

theorem pay3_apply (i : grid0.Coords) (v : FVec Ideal S8x512 .bf16) (y : S8x512.Idx) :
    (show EReal from k0_pay3 (F := Ideal) i v y) = if (i 1).val = 4 then 0 else v y := by
  have h : (i 1).val < 5 := (i 1).isLt
  unfold k0_pay3
  rw [shapeCast_self]
  generalize (i 1).val = j at h
  interval_cases j
  · rfl
  · rfl
  · rfl
  · rfl
  · exact Ideal.ofBits_zero .f32

section Tile

variable (E : FVec Ideal S1672x512 .f32) (x : FVec Ideal S1664x512 .bf16) (w : FVec Ideal S3x512 .f32) (c : Fin 512) (d q : ℕ → EReal)
  (hd : ∀ n : Fin 1672, E (ix2 n c) = d n.val) (hq : ∀ n : Fin 1664, x (ix2 n c) = q n.val)

include hd

theorem win_apply (k : ℕ) (hk : k < 104) (r : Fin 24) : win (F := Ideal) E k (ix2 r c) = d (16 * k + r.val) :=
  (hd ⟨(16 * k + r.val) % 1672, Nat.mod_lt _ (by omega)⟩).trans (congrArg d (Nat.mod_eq_of_lt (by omega)))

/-- The tile of the input's gradient. -/
theorem tile_apply (n : Fin 1664) : (show EReal from tile (F := Ideal) w E (ix2 n c)) = w (ix2 0 c) * d (n.val + 2) + w (ix2 1 c) * d (n.val + 1) + w (ix2 2 c) * d n.val := by
  have hn := n.isLt
  show (show EReal from k0_pay14 (F := Ideal) w (win E (n.val / 16)) (ix2 ⟨n.val % 16, _⟩ c)) = _
  rw [pay14_apply, pay8_apply, pay10_apply, pay12_apply, win_apply E c d hd _ (by omega), win_apply E c d hd _ (by omega), win_apply E c d hd _ (by omega)]
  dsimp only
  rw [show 16 * (n.val / 16) + (n.val % 16 + 2) = n.val + 2 by omega, show 16 * (n.val / 16) + (n.val % 16 + 1) = n.val + 1 by omega,
    show 16 * (n.val / 16) + n.val % 16 = n.val by omega]

include hq

theorem rows_apply (k : ℕ) (hk : k < 104) (r : Fin 16) : rows (F := Ideal) x k (ix2 r c) = q (16 * k + r.val) :=
  (hq ⟨(16 * k + r.val) % 1664, Nat.mod_lt _ (by omega)⟩).trans (congrArg q (Nat.mod_eq_of_lt (by omega)))

/-- A sum's term: the gradient some rows on, against the input. -/
def term (d q : ℕ → EReal) (s n : ℕ) : EReal := d (n + s) * q n

/-- The running sums after some trips. -/
theorem trips_apply (K : ℕ) (hK : K ≤ 104) (r : Fin 8) :
    (show EReal from (trips (F := Ideal) E x (k0_pay4, k0_pay5, k0_pay6) K).1 (ix2 r c)) = ∑ k ∈ Finset.range K, (term d q 2 (16 * k + r.val) + term d q 2 (16 * k + r.val + 8))
    ∧ (show EReal from (trips (F := Ideal) E x (k0_pay4, k0_pay5, k0_pay6) K).2.1 (ix2 r c)) = ∑ k ∈ Finset.range K, (term d q 1 (16 * k + r.val) + term d q 1 (16 * k + r.val + 8))
    ∧ (show EReal from (trips (F := Ideal) E x (k0_pay4, k0_pay5, k0_pay6) K).2.2 (ix2 r c)) = ∑ k ∈ Finset.range K, (term d q 0 (16 * k + r.val) + term d q 0 (16 * k + r.val + 8)) := by
  induction K with
  | zero => exact ⟨Ideal.ofBits_zero .f32, Ideal.ofBits_zero .f32, Ideal.ofBits_zero .f32⟩
  | succ K ih =>
    obtain ⟨i0, i1, i2⟩ := ih (by omega)
    have hk : K < 104 := by omega
    simp only [Finset.sum_range_succ _ K]
    rw [← i0, ← i1, ← i2]
    rw [show trips (F := Ideal) E x (k0_pay4, k0_pay5, k0_pay6) (K + 1) = trip E x K (trips E x (k0_pay4, k0_pay5, k0_pay6) K) from rfl]
    unfold trip
    dsimp only
    rw [pay9_apply, pay11_apply, pay13_apply]
    simp only [pay8_apply, pay10_apply, pay12_apply, win_apply E c d hd K hk, rows_apply E x c d q hd hq K hk]
    refine ⟨?_, ?_, ?_⟩ <;> refine congrArg₂ (· + ·) rfl (congrArg₂ (· + ·) ?_ ?_) <;> (unfold term; refine congrArg₂ (· * ·) (congrArg d ?_) (congrArg q ?_)) <;> omega

/-- The sums of a tile. -/
theorem part_apply (a : Fin 3) : (show EReal from part (F := Ideal) E x (ix2 a c)) = ∑ n ∈ Finset.range 1664, term d q (2 - a.val) n := by
  rw [← sixteen (term d q (2 - a.val)) 104, ← Fin.sum_univ_eq_sum_range (fun r => ∑ k ∈ Finset.range 104, (term d q (2 - a.val) (16 * k + r) + term d q (2 - a.val) (16 * k + r + 8))) 8]
  unfold part summed
  match a with
  | ⟨0, _⟩ => exact (pay15_apply0 _ _ _ c).trans (Finset.sum_congr rfl fun r _ => (trips_apply E x c d q hd hq 104 le_rfl r).1)
  | ⟨1, _⟩ => exact (pay15_apply1 _ _ _ c).trans (Finset.sum_congr rfl fun r _ => (trips_apply E x c d q hd hq 104 le_rfl r).2.1)
  | ⟨2, _⟩ => exact (pay15_apply2 _ _ _ c).trans (Finset.sum_congr rfl fun r _ => (trips_apply E x c d q hd hq 104 le_rfl r).2.2)

end Tile

variable (m : (ℓ : Loc nD τ sig) → Buf (Elt Ideal) ℓ)

/-- The gradient, the input and the weights. -/
abbrev A0 (c : Dev nD) : FVec Ideal S8320x5632 .bf16 := m ((c : Thread nD τ).loc main_arg0)
abbrev A1 (c : Dev nD) : FVec Ideal S8320x5632 .bf16 := m ((c : Thread nD τ).loc main_arg1)
abbrev A2 (c : Dev nD) : FVec Ideal S3x5632 .f32 := m ((c : Thread nD τ).loc main_arg2)

theorem idx0 : ∀ t : Fin cfg0.N, win0_0.index t = ![t.val % 5, t.val / 5] := (by decide +kernel : ∀ t : Fin grid0.N, _)
theorem idx1 : ∀ t : Fin cfg0.N, win0_1.index t = ![min ((t.val % 5 + 1) * 208) 1039, t.val / 5] := (by decide +kernel : ∀ t : Fin grid0.N, _)
theorem idx2 : ∀ t : Fin cfg0.N, win0_2.index t = ![t.val % 5, t.val / 5] := (by decide +kernel : ∀ t : Fin grid0.N, _)
theorem idx3 : ∀ t : Fin cfg0.N, win0_3.index t = ![0, t.val / 5] := (by decide +kernel : ∀ t : Fin grid0.N, _)
theorem idx4 : ∀ t : Fin cfg0.N, win0_4.index t = ![t.val % 5, t.val / 5] := (by decide +kernel : ∀ t : Fin grid0.N, _)
theorem idx5 : ∀ t : Fin cfg0.N, win0_5.index t = ![0, t.val / 5] := (by decide +kernel : ∀ t : Fin grid0.N, _)

theorem coord1 (t : Fin cfg0.N) : (grid0.coords t 1).val = t.val % 5 := (by decide +kernel : ∀ t : Fin grid0.N, (grid0.coords t 1).val = t.val % 5) t

/-- A point's first row, its rows and its columns. -/
def row (t : Fin cfg0.N) (n : Fin 1664) : Fin 8320 := ⟨t.val % 5 * 1664 + n.val, by omega⟩
def halo (t : Fin cfg0.N) (n : Fin 8) : Fin 8320 := ⟨min ((t.val % 5 + 1) * 208) 1039 * 8 + n.val, by omega⟩
def col (t : Fin cfg0.N) (j : Fin 512) : Fin 5632 := ⟨t.val / 5 * 512 + j.val, by have := lt_of_lt_of_eq t.isLt N_0; omega⟩

theorem blk0 (c : Dev nD) (t : Fin cfg0.N) (n : Fin 1664) (j : Fin 512) : (show FVec Ideal S1664x512 .bf16 from iblk m c 0 t) (ix2 n j) = A0 m c (ix2 (row t n) (col t j)) := by
  have := lt_of_lt_of_eq t.isLt N_0
  unfold row col
  blk_ext [iblk, V, idx0 t]

theorem blk1 (c : Dev nD) (t : Fin cfg0.N) (n : Fin 8) (j : Fin 512) : (show FVec Ideal S8x512 .bf16 from iblk m c 1 t) (ix2 n j) = A0 m c (ix2 (halo t n) (col t j)) := by
  have := lt_of_lt_of_eq t.isLt N_0
  unfold halo col
  blk_ext [iblk, V, idx1 t]

theorem blk2 (c : Dev nD) (t : Fin cfg0.N) (n : Fin 1664) (j : Fin 512) : (show FVec Ideal S1664x512 .bf16 from iblk m c 2 t) (ix2 n j) = A1 m c (ix2 (row t n) (col t j)) := by
  have := lt_of_lt_of_eq t.isLt N_0
  unfold row col
  blk_ext [iblk, V, idx2 t]

theorem blk3 (c : Dev nD) (t : Fin cfg0.N) (a : Fin 3) (j : Fin 512) : (show FVec Ideal S3x512 .f32 from iblk m c 3 t) (ix2 a j) = A2 m c (ix2 a (col t j)) := by
  have := lt_of_lt_of_eq t.isLt N_0
  unfold col
  blk_ext [iblk, V, idx3 t]

theorem emb4 (t : Fin cfg0.N) (n : Fin 1664) (j : Fin 512) : (win0_4.blk t).view.emb (ix2 n j) = (ix2 (row t n) (col t j) : S8320x5632.Idx) := by
  have := lt_of_lt_of_eq t.isLt N_0
  unfold row col
  blk_ext [idx4 t]

theorem emb5 (t : Fin cfg0.N) (a : Fin 3) (j : Fin 512) : (win0_5.blk t).view.emb (ix2 a j) = (ix2 a (col t j) : S3x5632.Idx) := by
  have := lt_of_lt_of_eq t.isLt N_0
  unfold col
  blk_ext [idx5 t]

/-- The gradient's rows a point works on, the rows after the last being zero. -/
theorem grad_apply (x0 : FVec Ideal S1664x512 .bf16) (x1 : FVec Ideal S8x512 .bf16) (c : Dev nD) (t : Fin cfg0.N) (j : Fin 512)
    (h0 : ∀ n : Fin 1664, x0 (ix2 n j) = A0 m c (ix2 (row t n) (col t j))) (h1 : ∀ n : Fin 8, x1 (ix2 n j) = A0 m c (ix2 (halo t n) (col t j))) (n : Fin 1672) :
    (show EReal from grad (F := Ideal) (grid0.coords t) x0 x1 (ix2 n j)) = D (A0 m c) (col t j) (t.val % 5 * 1664 + n.val) := by
  have hn := n.isLt
  unfold grad both
  by_cases h : n.val < 1664
  · rw [dif_pos (show ((ix2 n j : S1672x512.Idx) 0).val < 1664 from h)]
    refine (pay2_apply x0 _).trans ((h0 ⟨n.val, h⟩).trans ?_)
    exact (colOf_of (R := 8320) (C := 5632) (A0 m c) (col t j) _ (by omega)).symm
  · rw [dif_neg (show ¬ ((ix2 n j : S1672x512.Idx) 0).val < 1664 from h)]
    refine (pay3_apply (grid0.coords t) x1 _).trans ?_
    rw [coord1 t]
    by_cases h4 : t.val % 5 = 4
    · rw [if_pos h4]
      exact (colOf_end (R := 8320) (C := 5632) (A0 m c) (col t j) _ (by omega)).symm
    · rw [if_neg h4]
      refine (h1 ⟨n.val - 1664, by omega⟩).trans ?_
      refine Eq.trans ?_ (colOf_of (R := 8320) (C := 5632) (A0 m c) (col t j) _ (by omega)).symm
      refine congrArg (fun r => A0 m c (ix2 r (col t j))) (Fin.ext ?_)
      show min ((t.val % 5 + 1) * 208) 1039 * 8 + (n.val - 1664) = t.val % 5 * 1664 + n.val
      omega

theorem input_apply (x2 : FVec Ideal S1664x512 .bf16) (c : Dev nD) (t : Fin cfg0.N) (j : Fin 512)
    (h2 : ∀ n : Fin 1664, x2 (ix2 n j) = A1 m c (ix2 (row t n) (col t j))) (n : Fin 1664) :
    (show EReal from x2 (ix2 n j)) = X (A1 m c) (col t j) (t.val % 5 * 1664 + n.val) :=
  (h2 n).trans (colOf_at (R := 8320) (C := 5632) (A1 m c) (col t j) (row t n)).symm

/-- The sums of the rows before `1664 K`. -/
def S (c : Dev nD) (J : Fin 5632) (a K : ℕ) : EReal := ∑ n ∈ Finset.range (1664 * K), term (D (A0 m c) J) (X (A1 m c) J) (2 - a) n

theorem point_tile (c : Dev nD) (t : Fin cfg0.N) (x0 : FVec Ideal S1664x512 .bf16) (x1 : FVec Ideal S8x512 .bf16) (x3 : FVec Ideal S3x512 .f32)
    (h0 : ∀ (n : Fin 1664) (j : Fin 512), x0 (ix2 n j) = A0 m c (ix2 (row t n) (col t j))) (h1 : ∀ (n : Fin 8) (j : Fin 512), x1 (ix2 n j) = A0 m c (ix2 (halo t n) (col t j)))
    (h3 : ∀ (a : Fin 3) (j : Fin 512), x3 (ix2 a j) = A2 m c (ix2 a (col t j))) (n : Fin 1664) (j : Fin 512) :
    (show EReal from tile (F := Ideal) x3 (grad (grid0.coords t) x0 x1) (ix2 n j)) = dx (A0 m c) (A2 m c) (ix2 (row t n) (col t j)) := by
  rw [tile_apply _ x3 j (fun n => D (A0 m c) (col t j) (t.val % 5 * 1664 + n)) (grad_apply m x0 x1 c t j (fun n => h0 n j) (fun n => h1 n j)) n, h3, h3, h3]
  rfl

theorem point_part (c : Dev nD) (t : Fin cfg0.N) (x0 : FVec Ideal S1664x512 .bf16) (x1 : FVec Ideal S8x512 .bf16) (x2 : FVec Ideal S1664x512 .bf16)
    (h0 : ∀ (n : Fin 1664) (j : Fin 512), x0 (ix2 n j) = A0 m c (ix2 (row t n) (col t j))) (h1 : ∀ (n : Fin 8) (j : Fin 512), x1 (ix2 n j) = A0 m c (ix2 (halo t n) (col t j)))
    (h2 : ∀ (n : Fin 1664) (j : Fin 512), x2 (ix2 n j) = A1 m c (ix2 (row t n) (col t j))) (a : Fin 3) (j : Fin 512) :
    S m c (col t j) a.val (t.val % 5) + (show EReal from part (F := Ideal) (grad (grid0.coords t) x0 x1) x2 (ix2 a j)) = S m c (col t j) a.val (t.val % 5 + 1) := by
  unfold S
  rw [part_apply _ x2 j (fun n => D (A0 m c) (col t j) (t.val % 5 * 1664 + n)) (fun n => X (A1 m c) (col t j) (t.val % 5 * 1664 + n))
    (grad_apply m x0 x1 c t j (fun n => h0 n j) (fun n => h1 n j)) (input_apply m x2 c t j (fun n => h2 n j)) a, ← tiles _ 1664 (t.val % 5), Nat.mul_comm (t.val % 5) 1664]
  unfold term
  simp only [Nat.add_assoc]

/-- What a point leaves. -/
structure Left (c : Dev nD) (t : Fin cfg0.N) : Prop where
  gradient : ∀ (n : Fin 1664) (j : Fin 512), (show EReal from (outsAt0 m c t.val t.isLt).1 (ix2 n j)) = dx (A0 m c) (A2 m c) (ix2 (row t n) (col t j))
  sums : ∀ (a : Fin 3) (j : Fin 512), (show EReal from (outsAt0 m c t.val t.isLt).2 (ix2 a j)) = S m c (col t j) a.val (t.val % 5 + 1)

theorem first (c : Dev nD) (t : Fin cfg0.N) (h : t.val % 5 = 0) : Left m c t := by
  refine ⟨fun n j => ?_, fun a j => ?_⟩
  · rw [outsAt0_A m c t h (by omega)]
    dsimp only
    rw [out_A_4]
    exact point_tile m c t _ _ _ (blk0 m c t) (blk1 m c t) (blk3 m c t) n j
  · rw [outsAt0_A m c t h (by omega)]
    dsimp only
    rw [out_A_5, ← point_part m c t _ _ _ (blk0 m c t) (blk1 m c t) (blk2 m c t) a j, h]
    exact (zero_add _).symm

theorem next (c : Dev nD) (t : Fin cfg0.N) (h : ¬ t.val % 5 = 0) (ih : Left m c ⟨t.val - 1, Nat.lt_of_le_of_lt (Nat.sub_le _ _) t.isLt⟩) : Left m c t := by
  refine ⟨fun n j => ?_, fun a j => ?_⟩
  · rw [outsAt0_B m c t h (by omega)]
    dsimp only
    rw [out_B_4]
    exact point_tile m c t _ _ _ (blk0 m c t) (blk1 m c t) (blk3 m c t) n j
  · rw [outsAt0_B m c t h (by omega)]
    dsimp only
    rw [out_B_5, pay1_apply, ← point_part m c t _ _ _ (blk0 m c t) (blk1 m c t) (blk2 m c t) a j]
    refine congrArg₂ (· + ·) ((ih.sums a j).trans ?_) rfl
    have e : col ⟨t.val - 1, Nat.lt_of_le_of_lt (Nat.sub_le _ _) t.isLt⟩ j = col t j := Fin.ext (by show (t.val - 1) / 5 * 512 + j.val = t.val / 5 * 512 + j.val; omega)
    rw [e]
    exact congrArg (S m c (col t j) a.val) (by show (t.val - 1) % 5 + 1 = t.val % 5; omega)

theorem left (c : Dev nD) : ∀ (n : ℕ) (h : n < cfg0.N), Left m c ⟨n, h⟩
  | 0, h => first m c ⟨0, h⟩ rfl
  | n + 1, h => by
    by_cases h5 : (n + 1) % 5 = 0
    · exact first m c ⟨n + 1, h⟩ h5
    · exact next m c ⟨n + 1, h⟩ h5 (left c n (by omega))

/-- The two results. -/
def G0 (c : Dev nD) : FVec Ideal S8320x5632 .bf16 := dx (A0 m c) (A2 m c)
def G1 (c : Dev nD) : FVec Ideal S3x5632 .f32 := dw (A0 m c) (A1 m c)

theorem final4 (c : Dev nD) : (dats m 0 c).arrAt 4 cfg0.N = G0 m c := by
  refine (dats m 0 c).arrAt_eq_of_covers 4 (G0 m c) (by decide +kernel) fun t hf y => ?_
  rw [after0_4]
  blk_simp
  obtain ⟨n, j, rfl⟩ : ∃ (n : Fin 1664) (j : Fin 512), y = ix2 n j := ⟨y 0, y 1, eq_ix2 y⟩
  rw [emb4]
  exact (left m c t.val t.isLt).gradient n j

theorem final5 (c : Dev nD) : (dats m 0 c).arrAt 5 cfg0.N = G1 m c := by
  refine (dats m 0 c).arrAt_eq_of_covers 5 (G1 m c) (by decide +kernel) fun t hf y => ?_
  rw [after0_5]
  have h := (flush0_5 t).mp hf
  blk_simp
  obtain ⟨a, j, rfl⟩ : ∃ (a : Fin 3) (j : Fin 512), y = ix2 a j := ⟨y 0, y 1, eq_ix2 y⟩
  rw [emb5]
  have e := (left m c t.val t.isLt).sums a j
  rw [h] at e
  exact e

end Cert.Kernel19Ideal.Conv

namespace Cert.Proof

open Idealize.ShloMosaic Idealize.ShloMosaic.TcCoe Idealize.SL.Sem

theorem convolution : Cert.algebraic_Kernel19Ideal_Reference19Ideal (hKernel19Ideal := Kernel19Ideal.Gen.facts)
    (hReference19Ideal := Reference19Ideal.Gen.facts) := by
  intro m g m' g' _ hargs
  refine ⟨Kernel19Ideal.Conv.G0 m, Kernel19Ideal.Conv.G1 m, ?_, ?_⟩
  · exact (θ_run _ _ _).mono (fun r h c => ⟨((h c).1.trans (Kernel19Ideal.Conv.final4 m c)), ((h c).2.1.trans (Kernel19Ideal.Conv.final5 m c)), (h c).2.2⟩)
      (Kernel19Ideal.Value.run_blocks m g)
  · refine (θ_run _ _ _).mono (fun r h c => ⟨((h c).1.trans ?_), ((h c).2.1.trans ?_), (h c).2.2⟩) (Reference19Ideal.Value.run m' g')
    · rw [(hargs c).1, (hargs c).2.2]
      exact funext fun y => Reference19Ideal.Gate.value0 _ _ y
    · rw [(hargs c).1, (hargs c).2.1]
      exact funext fun y => Reference19Ideal.Gate.value1 _ _ y

end Cert.Proof
-- ==== Proof.Prod.DW2.lean ====
module

public import proofs.«01_k».proof.Defs
public import proofs.«01_k».proof.Proof.Gen.Kernel20Ideal.Value
public import proofs.«01_k».proof.Proof.Gen.Reference20Ideal.Read
public import proofs.«01_k».proof.Proof.Prod.Common
public import Idealize.ShloMosaic.Lib.Quiescent
public import Idealize.ShloMosaic.Lib.Tactic

@[expose] public section

set_option maxRecDepth 16384

noncomputable section

namespace Cert.Kernel20Ideal.Prod

open Cert.Kernel20Ideal Cert.Kernel20Ideal.Gen
open Idealize.ShloMosaic Idealize.ShloMosaic.TcCoe Idealize.ShloMosaic.Tactic
open Idealize.ShloMosaic.Pipeline (Dat Cfg Window)

/-! # What the gradient of the gates' columns of the mixers' first weights holds, over the extended reals -/

/-- One block's product at a place of the tile. -/
theorem pay1_apply (v0 : Vec Ideal S1024x1664 .bf16) (v1 : Vec Ideal S1664x128 .bf16) (i : Fin 1024) (j : Fin 128) :
    k0_pay1 v0 v1 (ix2 i j) = ∑ k : Fin 1664, (show FVec Ideal S1024x1664 .bf16 from v0) (ix2 i k) * (show FVec Ideal S1664x128 .bf16 from v1) (ix2 k j) := by
  unfold k0_pay1
  pointwise

/-- A later point adds its product to the accumulator. -/
theorem pay3_apply (v0 : Vec Ideal S1024x1664 .bf16) (v1 : Vec Ideal S1664x128 .bf16) (w : Vec Ideal S1024x128 .f32) (y : S1024x128.Idx) :
    k0_pay3 v0 v1 w y = (w y + k0_pay1 v0 v1 y : EReal) := by
  unfold k0_pay3
  rw [shapeCast_self]
  rfl

variable (m : (ℓ : Loc nD τ sig) → Buf (Elt Ideal) ℓ)

/-- The two operands. -/
abbrev A (c : Dev nD) : FVec Ideal S1024x8320 .bf16 := m ((c : Thread nD τ).loc main_arg0)
abbrev B (c : Dev nD) : FVec Ideal S8320x128 .bf16 := m ((c : Thread nD τ).loc main_arg1)

theorem idx0 : ∀ t : Fin cfg0.N, win0_0.index t = ![0, t.val % 5] := (by decide +kernel : ∀ t : Fin grid0.N, _)
theorem idx1 : ∀ t : Fin cfg0.N, win0_1.index t = ![t.val % 5, 0] := (by decide +kernel : ∀ t : Fin grid0.N, _)
theorem idx2 : ∀ t : Fin cfg0.N, win0_2.index t = ![0, 0] := (by decide +kernel : ∀ t : Fin grid0.N, _)

/-- The row and the column of the result, and the place on the contracted axis, that the lanes of a point's tiles stand for. -/
def row (t : Fin cfg0.N) (i : Fin 1024) : Fin 1024 := i
def col (t : Fin cfg0.N) (j : Fin 128) : Fin 128 := j
abbrev mid (t : Fin cfg0.N) (k : Fin 1664) : Fin 8320 := Cert.Prod.mid (nk := 5) rfl t k

theorem blk0 (c : Dev nD) (t : Fin cfg0.N) (i : Fin 1024) (k : Fin 1664) :
    (show FVec Ideal S1024x1664 .bf16 from iblk m c 0 t) (ix2 i k) = A m c (ix2 (row t i) (mid t k)) := by
  have := lt_of_lt_of_eq t.isLt N_0
  unfold row mid Cert.Prod.mid
  blk_ext [iblk, V, idx0 t]

theorem blk1 (c : Dev nD) (t : Fin cfg0.N) (k : Fin 1664) (j : Fin 128) :
    (show FVec Ideal S1664x128 .bf16 from iblk m c 1 t) (ix2 k j) = B m c (ix2 (mid t k) (col t j)) := by
  have := lt_of_lt_of_eq t.isLt N_0
  unfold col mid Cert.Prod.mid
  blk_ext [iblk, V, idx1 t]

theorem emb2 (t : Fin cfg0.N) (i : Fin 1024) (j : Fin 128) : (win0_2.blk t).view.emb (ix2 i j) = (ix2 (row t i) (col t j) : S1024x128.Idx) := by
  have := lt_of_lt_of_eq t.isLt N_0
  unfold row col
  blk_ext [idx2 t]

/-- The product at place `k` of the contracted axis, for a lane of a point's tile. -/
def term (c : Dev nD) (t : Fin cfg0.N) (k : Fin 8320) (y : S1024x128.Idx) : EReal := A m c (ix2 (row t (y 0)) k) * B m c (ix2 k (col t (y 1)))

theorem pay1_term (c : Dev nD) (t : Fin cfg0.N) (y : S1024x128.Idx) :
    k0_pay1 (iblk m c 0 t) (iblk m c 1 t) y = (∑ k : Fin 1664, term m c t (mid t k) y : EReal) := by
  obtain ⟨i, j, rfl⟩ : ∃ (i : Fin 1024) (j : Fin 128), y = ix2 i j := ⟨y 0, y 1, eq_ix2 y⟩
  rw [pay1_apply]
  exact Finset.sum_congr rfl fun k _ => by rw [blk0, blk1]; rfl

/-- The accumulator after the first point of a run, -/
theorem scratch_first (c : Dev nD) (t : Fin cfg0.N) (h : t.val % 5 = 0) (y : S1024x128.Idx) :
    (outsAt0 m c t.val t.isLt).2 y = (∑ k : Fin 1664, term m c t (mid t k) y : EReal) := by
  have := lt_of_lt_of_eq t.isLt N_0
  rw [outsAt0_A m c t h (by omega) (by omega), ← pay1_term]
  frame_out
  unfold k0_pay2
  rw [shapeCast_self]

/-- after a later one, -/
theorem scratch_next (c : Dev nD) (t : Fin cfg0.N) (h : ¬t.val % 5 = 0) (y : S1024x128.Idx) :
    (outsAt0 m c t.val t.isLt).2 y
      = (outsAt0 m c (t.val - 1) (Nat.lt_of_le_of_lt (Nat.sub_le _ _) t.isLt)).2 y + (∑ k : Fin 1664, term m c t (mid t k) y : EReal) := by
  rw [← pay1_term]
  by_cases h4 : t.val % 5 = 4
  · rw [outsAt0_C m c t h (by omega) h4]
    frame_out
    rw [pay3_apply, (Memref.isWhole_whole _ : scM0_0.IsWhole).read_unread]
  · rw [outsAt0_B m c t h (by omega) h4]
    frame_out
    rw [pay3_apply, (Memref.isWhole_whole _ : scM0_0.IsWhole).read_unread]

/-- and what the last point writes back is the accumulator. -/
theorem written (c : Dev nD) (t : Fin cfg0.N) (h : t.val % 5 = 4) (y : S1024x128.Idx) :
    (outsAt0 m c t.val t.isLt).1 y = (outsAt0 m c t.val t.isLt).2 y := by
  rw [outsAt0_C m c t (by omega) (by omega) h]
  frame_out
  rfl

/-- A tile's points share its row and its column. -/
theorem term_run (c : Dev nD) (t t' : Fin cfg0.N) (h : t.val / 5 = t'.val / 5) : term m c t = term m c t' := by
  unfold term row col
  simp only [h]

theorem summed (c : Dev nD) (t : Fin cfg0.N) (h : t.val % 5 = 4) (y : S1024x128.Idx) :
    (outsAt0 m c t.val t.isLt).2 y = (∑ k : Fin 8320, term m c t k y : EReal) :=
  Cert.Prod.accumulated (ι := S1024x128.Idx) (nk := 5) (tk := 1664) (K := 8320) (N := cfg0.N) (by decide)
    (fun n h y => (show EReal from (outsAt0 m c n h).2 y)) (term m c) (term_run m c)
    (fun t h y => scratch_first m c t h y) (fun t h y => scratch_next m c t h y) t h y

/-- The product. -/
def G (c : Dev nD) : FVec Ideal S1024x128 .bf16 := fun y => ∑ k : Fin 8320, A m c (ix2 (y 0) k) * B m c (ix2 k (y 1))

/-- The result array holds it. -/
theorem final (c : Dev nD) : (dats m 0 c).arrAt 2 cfg0.N = G m c := by
  refine (dats m 0 c).arrAt_eq_of_covers 2 (G m c) (by decide +kernel) fun t hf y => ?_
  rw [after0_2]
  have h4 : t.val % 5 = 4 := (flush0_2 t).mp hf
  blk_simp
  obtain ⟨i, j, rfl⟩ : ∃ (i : Fin 1024) (j : Fin 128), y = ix2 i j := ⟨y 0, y 1, eq_ix2 y⟩
  rw [emb2, written m c t h4]
  rw [summed m c t h4]
  rfl

end Cert.Kernel20Ideal.Prod

namespace Cert.Reference20Ideal.Prod

open Cert.Reference20Ideal Cert.Reference20Ideal.Gen
open Idealize.ShloMosaic Idealize.ShloMosaic.TcCoe Idealize.SL.Sem

/-- The reference's result is the same sum. -/
theorem value (x0 : FVec Ideal S1024x8320 .bf16) (x1 : FVec Ideal S8320x128 .bf16) (y : S1024x128.Idx) :
    Read.val_main_v9 (F := Ideal) x0 x1 y = ∑ k : Fin 8320, x0 (ix2 (y 0) k) * x1 (ix2 k (y 1)) := by
  rw [Read.val_main_v9_apply, Read.val_main_v6_apply]
  show (Read.val_main_v5 (F := Ideal) x0 x1 _ : EReal) = _
  rw [Read.val_main_v5_apply]
  refine Finset.sum_congr rfl fun k _ => ?_
  rw [Read.val_main_v4_apply, Read.val_main_v2_apply, Read.val_main_v0_apply]
  have e0 : Read.idx_main_v0 (Read.ridx_main_v5 (Read.idx_main_v6 y) k) = ix2 (y 0) k := funext fun a => match a with
    | ⟨0, _⟩ => rfl
    | ⟨1, _⟩ => rfl
  have e1 : Read.lidx_main_v5 (Read.idx_main_v6 y) k = ix2 k (y 1) := funext fun a => match a with
    | ⟨0, _⟩ => rfl
    | ⟨1, _⟩ => rfl
  rw [e0, e1]
  exact mul_comm (G := EReal) _ _

end Cert.Reference20Ideal.Prod

namespace Cert.Proof

open Idealize.ShloMosaic Idealize.ShloMosaic.TcCoe Idealize.SL.Sem

theorem dw2 : Cert.algebraic_Kernel20Ideal_Reference20Ideal (hKernel20Ideal := Kernel20Ideal.Gen.facts)
    (hReference20Ideal := Reference20Ideal.Gen.facts) := by
  intro m g m' g' _ hargs
  refine ⟨Kernel20Ideal.Prod.G m, ?_, ?_⟩
  · exact (θ_run _ _ _).mono (fun r h c => ⟨((h c).1.trans (Kernel20Ideal.Prod.final m c)), (h c).2⟩)
      (Kernel20Ideal.Value.run_blocks m g)
  · refine (θ_run _ _ _).mono (fun r h c => ⟨((h c).1.trans ?_), (h c).2⟩) (Reference20Ideal.Value.run m' g')
    rw [(hargs c).1, (hargs c).2]
    exact funext fun y => Reference20Ideal.Prod.value _ _ y

end Cert.Proof
-- ==== Proof.Prod.DA0.lean ====
module

public import proofs.«01_k».proof.Defs
public import proofs.«01_k».proof.Proof.Gen.Kernel21Ideal.Value
public import proofs.«01_k».proof.Proof.Gen.Reference21Ideal.Read
public import proofs.«01_k».proof.Proof.Prod.Common
public import Idealize.ShloMosaic.Lib.Quiescent
public import Idealize.ShloMosaic.Lib.Tactic

@[expose] public section

set_option maxRecDepth 16384

noncomputable section

namespace Cert.Kernel21Ideal.Prod

open Cert.Kernel21Ideal Cert.Kernel21Ideal.Gen
open Idealize.ShloMosaic Idealize.ShloMosaic.TcCoe Idealize.ShloMosaic.Tactic
open Idealize.ShloMosaic.Pipeline (Dat Cfg Window)

/-! # What the part of the mixers' input gradient that comes through the gates' columns holds, over the extended reals -/

/-- One block's product at a place of the tile. -/
theorem pay1_apply (v0 : Vec Ideal S1664x128 .bf16) (v1 : Vec Ideal S1024x128 .bf16) (i : Fin 1664) (j : Fin 1024) :
    k0_pay1 v0 v1 (ix2 i j) = ∑ k : Fin 128, (show FVec Ideal S1664x128 .bf16 from v0) (ix2 i k) * (show FVec Ideal S1024x128 .bf16 from v1) (ix2 j k) := by
  unfold k0_pay1
  pointwise

variable (m : (ℓ : Loc nD τ sig) → Buf (Elt Ideal) ℓ)

/-- The two operands. -/
abbrev A (c : Dev nD) : FVec Ideal S8320x128 .bf16 := m ((c : Thread nD τ).loc main_arg0)
abbrev B (c : Dev nD) : FVec Ideal S1024x128 .bf16 := m ((c : Thread nD τ).loc main_arg1)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- The row and the column of the result that the lanes of a point's tiles stand for. -/
def row (t : Fin cfg0.N) (i : Fin 1664) : Fin 8320 := ⟨t.val * 1664 + i.val, by have := lt_of_lt_of_eq t.isLt N_0; omega⟩
def col (t : Fin cfg0.N) (j : Fin 1024) : Fin 1024 := j

theorem blk0 (c : Dev nD) (t : Fin cfg0.N) (i : Fin 1664) (k : Fin 128) :
    (show FVec Ideal S1664x128 .bf16 from iblk m c 0 t) (ix2 i k) = A m c (ix2 (row t i) k) := by
  have := lt_of_lt_of_eq t.isLt N_0
  unfold row
  blk_ext [iblk, V, idx0 t]

theorem blk1 (c : Dev nD) (t : Fin cfg0.N) (k : Fin 128) (j : Fin 1024) :
    (show FVec Ideal S1024x128 .bf16 from iblk m c 1 t) (ix2 j k) = B m c (ix2 (col t j) k) := by
  have := lt_of_lt_of_eq t.isLt N_0
  unfold col
  blk_ext [iblk, V, idx1 t]

theorem emb2 (t : Fin cfg0.N) (i : Fin 1664) (j : Fin 1024) : (win0_2.blk t).view.emb (ix2 i j) = (ix2 (row t i) (col t j) : S8320x1024.Idx) := by
  have := lt_of_lt_of_eq t.isLt N_0
  unfold row col
  blk_ext [idx2 t]

/-- The product at place `k` of the contracted axis, for a lane of a point's tile. -/
def term (c : Dev nD) (t : Fin cfg0.N) (k : Fin 128) (y : S1664x1024.Idx) : EReal := A m c (ix2 (row t (y 0)) k) * B m c (ix2 (col t (y 1)) k)

theorem pay1_term (c : Dev nD) (t : Fin cfg0.N) (y : S1664x1024.Idx) :
    k0_pay1 (iblk m c 0 t) (iblk m c 1 t) y = (∑ k : Fin 128, term m c t k y : EReal) := by
  obtain ⟨i, j, rfl⟩ : ∃ (i : Fin 1664) (j : Fin 1024), y = ix2 i j := ⟨y 0, y 1, eq_ix2 y⟩
  rw [pay1_apply]
  exact Finset.sum_congr rfl fun k _ => by rw [blk0, blk1]; rfl

/-- What a point writes back. -/
theorem written (c : Dev nD) (t : Fin cfg0.N) (y : S1664x1024.Idx) :
    outsAt0 m c t y = (∑ k : Fin 128, term m c t k y : EReal) := by
  rw [← pay1_term]
  unfold outsAt0
  frame_out
  show k0_pay2 (F := Ideal) (iblk m c 0 t) (iblk m c 1 t) y = _
  unfold k0_pay2
  rw [shapeCast_self]

/-- The product. -/
def G (c : Dev nD) : FVec Ideal S8320x1024 .f32 := fun y => ∑ k : Fin 128, A m c (ix2 (y 0) k) * B m c (ix2 (y 1) k)

/-- The result array holds it. -/
theorem final (c : Dev nD) : (dats m 0 c).arrAt 2 cfg0.N = G m c := by
  refine (dats m 0 c).arrAt_eq_of_covers 2 (G m c) (by decide +kernel) fun t hf y => ?_
  rw [after0_2]
  blk_simp
  obtain ⟨i, j, rfl⟩ : ∃ (i : Fin 1664) (j : Fin 1024), y = ix2 i j := ⟨y 0, y 1, eq_ix2 y⟩
  rw [emb2, written m c t]
  rfl

end Cert.Kernel21Ideal.Prod

namespace Cert.Reference21Ideal.Prod

open Cert.Reference21Ideal Cert.Reference21Ideal.Gen
open Idealize.ShloMosaic Idealize.ShloMosaic.TcCoe Idealize.SL.Sem

/-- The reference's result is the same sum. -/
theorem value (x0 : FVec Ideal S8320x128 .bf16) (x1 : FVec Ideal S1024x128 .bf16) (y : S8320x1024.Idx) :
    Read.val_main_v4 (F := Ideal) x0 x1 y = ∑ k : Fin 128, x0 (ix2 (y 0) k) * x1 (ix2 (y 1) k) := by
  rw [Read.val_main_v4_apply]
  refine Finset.sum_congr rfl fun k _ => ?_
  have e0 : Read.lidx_main_v4 y k = ix2 (y 0) k := funext fun a => match a with
    | ⟨0, _⟩ => rfl
    | ⟨1, _⟩ => rfl
  have e1 : Read.ridx_main_v4 y k = ix2 (y 1) k := funext fun a => match a with
    | ⟨0, _⟩ => rfl
    | ⟨1, _⟩ => rfl
  rw [Read.val_main_v3_apply, Read.val_main_v0_apply, e0, e1]
  rfl

end Cert.Reference21Ideal.Prod

namespace Cert.Proof

open Idealize.ShloMosaic Idealize.ShloMosaic.TcCoe Idealize.SL.Sem

theorem da0 : Cert.algebraic_Kernel21Ideal_Reference21Ideal (hKernel21Ideal := Kernel21Ideal.Gen.facts)
    (hReference21Ideal := Reference21Ideal.Gen.facts) := by
  intro m g m' g' _ hargs
  refine ⟨Kernel21Ideal.Prod.G m, ?_, ?_⟩
  · exact (θ_run _ _ _).mono (fun r h c => ⟨((h c).1.trans (Kernel21Ideal.Prod.final m c)), (h c).2⟩)
      (Kernel21Ideal.Value.run_blocks m g)
  · refine (θ_run _ _ _).mono (fun r h c => ⟨((h c).1.trans ?_), (h c).2⟩) (Reference21Ideal.Value.run m' g')
    rw [(hargs c).1, (hargs c).2]
    exact funext fun y => Reference21Ideal.Prod.value _ _ y

end Cert.Proof
-- ==== Proof.Prod.Fl.lean ====
module

public import proofs.«01_k».proof.Defs
public import proofs.«01_k».proof.Proof.Gen.Kernel22Ideal.Value
public import proofs.«01_k».proof.Proof.Gen.Reference22Ideal.Read
public import proofs.«01_k».proof.Proof.Prod.Common
public import Idealize.ShloMosaic.Lib.Quiescent
public import Idealize.ShloMosaic.Lib.Tactic

@[expose] public section

set_option maxRecDepth 16384

noncomputable section

namespace Cert.Kernel22Ideal.Prod

open Cert.Kernel22Ideal Cert.Kernel22Ideal.Gen
open Idealize.ShloMosaic Idealize.ShloMosaic.TcCoe Idealize.ShloMosaic.Tactic
open Idealize.ShloMosaic.Pipeline (Dat Cfg Window)

/-! # What the product with the gates' columns of the mixers' weights holds, over the extended reals -/

/-- One block's product at a place of the tile. -/
theorem pay1_apply (v0 : Vec Ideal S1664x1024 .bf16) (v1 : Vec Ideal S1024x128 .bf16) (i : Fin 1664) (j : Fin 128) :
    k0_pay1 v0 v1 (ix2 i j) = ∑ k : Fin 1024, (show FVec Ideal S1664x1024 .bf16 from v0) (ix2 i k) * (show FVec Ideal S1024x128 .bf16 from v1) (ix2 k j) := by
  unfold k0_pay1
  pointwise

variable (m : (ℓ : Loc nD τ sig) → Buf (Elt Ideal) ℓ)

/-- The two operands. -/
abbrev A (c : Dev nD) : FVec Ideal S8320x1024 .bf16 := m ((c : Thread nD τ).loc main_arg0)
abbrev B (c : Dev nD) : FVec Ideal S1024x128 .bf16 := m ((c : Thread nD τ).loc main_arg1)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- The row and the column of the result that the lanes of a point's tiles stand for. -/
def row (t : Fin cfg0.N) (i : Fin 1664) : Fin 8320 := ⟨t.val * 1664 + i.val, by have := lt_of_lt_of_eq t.isLt N_0; omega⟩
def col (t : Fin cfg0.N) (j : Fin 128) : Fin 128 := j

theorem blk0 (c : Dev nD) (t : Fin cfg0.N) (i : Fin 1664) (k : Fin 1024) :
    (show FVec Ideal S1664x1024 .bf16 from iblk m c 0 t) (ix2 i k) = A m c (ix2 (row t i) k) := by
  have := lt_of_lt_of_eq t.isLt N_0
  unfold row
  blk_ext [iblk, V, idx0 t]

theorem blk1 (c : Dev nD) (t : Fin cfg0.N) (k : Fin 1024) (j : Fin 128) :
    (show FVec Ideal S1024x128 .bf16 from iblk m c 1 t) (ix2 k j) = B m c (ix2 k (col t j)) := by
  have := lt_of_lt_of_eq t.isLt N_0
  unfold col
  blk_ext [iblk, V, idx1 t]

theorem emb2 (t : Fin cfg0.N) (i : Fin 1664) (j : Fin 128) : (win0_2.blk t).view.emb (ix2 i j) = (ix2 (row t i) (col t j) : S8320x128.Idx) := by
  have := lt_of_lt_of_eq t.isLt N_0
  unfold row col
  blk_ext [idx2 t]

/-- The product at place `k` of the contracted axis, for a lane of a point's tile. -/
def term (c : Dev nD) (t : Fin cfg0.N) (k : Fin 1024) (y : S1664x128.Idx) : EReal := A m c (ix2 (row t (y 0)) k) * B m c (ix2 k (col t (y 1)))

theorem pay1_term (c : Dev nD) (t : Fin cfg0.N) (y : S1664x128.Idx) :
    k0_pay1 (iblk m c 0 t) (iblk m c 1 t) y = (∑ k : Fin 1024, term m c t k y : EReal) := by
  obtain ⟨i, j, rfl⟩ : ∃ (i : Fin 1664) (j : Fin 128), y = ix2 i j := ⟨y 0, y 1, eq_ix2 y⟩
  rw [pay1_apply]
  exact Finset.sum_congr rfl fun k _ => by rw [blk0, blk1]; rfl

/-- What a point writes back. -/
theorem written (c : Dev nD) (t : Fin cfg0.N) (y : S1664x128.Idx) :
    outsAt0 m c t y = (∑ k : Fin 1024, term m c t k y : EReal) := by
  rw [← pay1_term]
  unfold outsAt0
  frame_out
  show k0_pay2 (F := Ideal) (iblk m c 0 t) (iblk m c 1 t) y = _
  unfold k0_pay2
  rw [shapeCast_self]

/-- The product. -/
def G (c : Dev nD) : FVec Ideal S8320x128 .f32 := fun y => ∑ k : Fin 1024, A m c (ix2 (y 0) k) * B m c (ix2 k (y 1))

/-- The result array holds it. -/
theorem final (c : Dev nD) : (dats m 0 c).arrAt 2 cfg0.N = G m c := by
  refine (dats m 0 c).arrAt_eq_of_covers 2 (G m c) (by decide +kernel) fun t hf y => ?_
  rw [after0_2]
  blk_simp
  obtain ⟨i, j, rfl⟩ : ∃ (i : Fin 1664) (j : Fin 128), y = ix2 i j := ⟨y 0, y 1, eq_ix2 y⟩
  rw [emb2, written m c t]
  rfl

end Cert.Kernel22Ideal.Prod

namespace Cert.Reference22Ideal.Prod

open Cert.Reference22Ideal Cert.Reference22Ideal.Gen
open Idealize.ShloMosaic Idealize.ShloMosaic.TcCoe Idealize.SL.Sem

/-- The reference's result is the same sum. -/
theorem value (x0 : FVec Ideal S8320x1024 .bf16) (x1 : FVec Ideal S1024x128 .bf16) (y : S8320x128.Idx) :
    Read.val_main_v2 (F := Ideal) x0 x1 y = ∑ k : Fin 1024, x0 (ix2 (y 0) k) * x1 (ix2 k (y 1)) := by
  rw [Read.val_main_v2_apply]
  refine Finset.sum_congr rfl fun k _ => ?_
  have e0 : Read.lidx_main_v2 y k = ix2 (y 0) k := funext fun a => match a with
    | ⟨0, _⟩ => rfl
    | ⟨1, _⟩ => rfl
  have e1 : Read.ridx_main_v2 y k = ix2 k (y 1) := funext fun a => match a with
    | ⟨0, _⟩ => rfl
    | ⟨1, _⟩ => rfl
  rw [Read.val_main_v0_apply, Read.val_main_v1_apply, e0, e1]
  rfl

end Cert.Reference22Ideal.Prod

namespace Cert.Proof

open Idealize.ShloMosaic Idealize.ShloMosaic.TcCoe Idealize.SL.Sem

theorem fl : Cert.algebraic_Kernel22Ideal_Reference22Ideal (hKernel22Ideal := Kernel22Ideal.Gen.facts)
    (hReference22Ideal := Reference22Ideal.Gen.facts) := by
  intro m g m' g' _ hargs
  refine ⟨Kernel22Ideal.Prod.G m, ?_, ?_⟩
  · exact (θ_run _ _ _).mono (fun r h c => ⟨((h c).1.trans (Kernel22Ideal.Prod.final m c)), (h c).2⟩)
      (Kernel22Ideal.Value.run_blocks m g)
  · refine (θ_run _ _ _).mono (fun r h c => ⟨((h c).1.trans ?_), (h c).2⟩) (Reference22Ideal.Value.run m' g')
    rw [(hargs c).1, (hargs c).2]
    exact funext fun y => Reference22Ideal.Prod.value _ _ y

end Cert.Proof
-- ==== Proof.Gate.CumsumFwd.lean ====
module

public import proofs.«01_k».proof.Proof.Gate.Cumsum
public import proofs.«01_k».proof.Proof.Gen.Kernel23Ideal.Value
public import proofs.«01_k».proof.Proof.Gen.Reference23Ideal.Read

@[expose] public section

set_option maxRecDepth 16384

noncomputable section

namespace Cert.Gate

open Idealize.ShloMosaic

/-! # Sums from the first row to a row -/

/-- The sum of the first `n` values of a function. -/
def upTo (f : ℕ → EReal) (n : ℕ) : EReal := ∑ k ∈ Finset.range n, f k

/-- A block's rows up to the `i`-th, and the rows before the block, are the rows up to there. -/
theorem upTo_block (T : ℕ) (f : ℕ → EReal) (b i : ℕ) (hi : i < T) :
    (∑ k : Fin T, if k.val ≤ i then f (b + k.val) else 0) + upTo f b = upTo f (b + i + 1) := by
  unfold upTo
  rw [Fin.sum_univ_eq_sum_range (fun k => if k ≤ i then f (b + k) else 0) T, ← Finset.sum_filter,
    show (Finset.range T).filter (fun k => k ≤ i) = Finset.range (i + 1) from Finset.ext fun k => by
      rw [Finset.mem_filter, Finset.mem_range, Finset.mem_range]; omega,
    Nat.add_assoc, Finset.sum_range_add f b (i + 1)]
  exact add_comm (∑ k ∈ Finset.range (i + 1), f (b + k)) (∑ k ∈ Finset.range b, f k)

/-- A sum over a window of the matrix's whole height, which ends at each row in turn, is the sum up to that row. -/
theorem window_head {R Q C : ℕ} {u : Shape} (x : (⟨2, ![R, C]⟩ : Shape).Idx → EReal) (init : u.Idx → EReal) (hu : 0 < u.numel)
    (h0 : init (Shape.Idx.first hu) = 0) (hQ : Q + 1 = R) (h : (⟨2, ![R, C]⟩ : Shape).ReduceWindows (![R, 1] : Fin 2 → Nat) ![1, 1] ![Q, 0] ![0, 0] ⟨2, ![R, C]⟩)
    (j : Fin R) (c : Fin C) :
    Host.reduceWindow (· + ·) ![R, 1] ![1, 1] ![Q, 0] ![0, 0] x init h hu (ix2 j c) = upTo (colOf x c) (j.val + 1) := by
  subst hQ
  unfold Host.reduceWindow
  dsimp only
  rw [foldl_add, h0, zero_add, ← Fin.sum_univ_def]
  refine Eq.trans (Fintype.sum_equiv ((places (Q + 1)).trans (⟨2, ![Q + 1, 1]⟩ : Shape).rowMajor)
    (fun k : Fin (Q + 1) => if Q ≤ j.val + k.val then colOf x c (j.val + k.val - Q) else 0) _ (fun k => ?_)).symm ?_
  · have hw : (⟨2, ![Q + 1, 1]⟩ : Shape).rowMajor.symm (((places (Q + 1)).trans (⟨2, ![Q + 1, 1]⟩ : Shape).rowMajor) k) = places (Q + 1) k := Equiv.symm_apply_apply _ _
    have p0 : j.val * 1 + ((⟨2, ![Q + 1, 1]⟩ : Shape).rowMajor.symm (((places (Q + 1)).trans (⟨2, ![Q + 1, 1]⟩ : Shape).rowMajor) k) 0).val = j.val + k.val := by
      rw [hw]; show j.val * 1 + k.val = _; omega
    have e1 : c.val * 1 + ((⟨2, ![Q + 1, 1]⟩ : Shape).rowMajor.symm (((places (Q + 1)).trans (⟨2, ![Q + 1, 1]⟩ : Shape).rowMajor) k) 1).val - 0 = c.val := by
      rw [hw]; show c.val * 1 + 0 - 0 = _; omega
    have e0 := congrArg (· - Q) p0
    dsimp only at e0
    have hj := j.isLt
    have hk := k.isLt
    by_cases hq : Q ≤ j.val + k.val
    · have hlt : j.val + k.val - Q < Q + 1 := by omega
      rw [if_pos hq, colOf, dif_pos hlt, dif_pos (fun a => match a with
        | ⟨0, _⟩ => ⟨le_of_le_of_eq hq p0.symm, lt_of_eq_of_lt e0 hlt⟩
        | ⟨1, _⟩ => ⟨Nat.zero_le _, lt_of_eq_of_lt e1 c.isLt⟩)]
      exact congrArg x (funext fun a => match a with
        | ⟨0, _⟩ => Fin.ext e0.symm
        | ⟨1, _⟩ => Fin.ext e1.symm)
    · rw [if_neg hq, dif_neg (fun hin => hq (le_of_le_of_eq (hin 0).1 p0))]
  · have hj := j.isLt
    rw [Fin.sum_univ_eq_sum_range (fun k => if Q ≤ j.val + k then colOf x c (j.val + k - Q) else 0) (Q + 1),
      show Finset.range (Q + 1) = Finset.range ((Q - j.val) + (j.val + 1)) from congrArg Finset.range (by omega), Finset.sum_range_add,
      Finset.sum_eq_zero (s := Finset.range (Q - j.val)) (fun n hn => if_neg (by have := Finset.mem_range.mp hn; omega)), zero_add]
    unfold upTo
    refine Finset.sum_congr rfl fun n _ => ?_
    rw [if_pos (by omega), show j.val + (Q - j.val + n) - Q = n by omega]

theorem host_window_head {R Q C : ℕ} {u : Shape} (x : FVec Ideal ⟨2, ![R, C]⟩ .f32) (init : FVec Ideal u .f32) (hu : 0 < u.numel)
    (h0 : (show EReal from init (Shape.Idx.first hu)) = 0) (hQ : Q + 1 = R) (h : (⟨2, ![R, C]⟩ : Shape).ReduceWindows (![R, 1] : Fin 2 → Nat) ![1, 1] ![Q, 0] ![0, 0] ⟨2, ![R, C]⟩)
    (j : Fin R) (c : Fin C) :
    (show EReal from Host.reduceWindowAdd (F := Ideal) (s := ⟨2, ![R, C]⟩) ![R, 1] ![1, 1] ![Q, 0] ![0, 0] x init h hu (ix2 j c)) = upTo (colOf (R := R) (C := C) x c) (j.val + 1) :=
  window_head (R := R) (Q := Q) (C := C) x init hu h0 hQ h j c

/-- The chosen branch of a comparison of a number with itself: never the other one. -/
theorem unequal (x a b : EReal) : Scalar.select (Ideal.cmp .une x x) a b = b := by
  have hc : Ideal.cmp .une x x = 0#1 := by unfold Ideal.cmp; simp
  rw [hc]
  rfl

end Cert.Gate

namespace Cert.Reference23Ideal.Gate

open Cert.Reference23Ideal Cert.Reference23Ideal.Gen Cert.Gate
open Idealize.ShloMosaic Idealize.ShloMosaic.TcCoe Idealize.SL.Sem

/-! # What the reference's result holds -/

variable (x0 : FVec Ideal S8320x128 .f32) (x1 : FVec Ideal S1x128 .f32)

/-- The logarithms of the forget gates, and their sums up to each row. -/
def W : (⟨2, ![8320, 128]⟩ : Shape).Idx → EReal := fun y => -softplus (-(x0 y + x1 (ix2 0 (y 1))))
def S (j : Fin 128) (n : ℕ) : EReal := upTo (colOf (R := 8320) (C := 128) (W x0 x1) j) n

theorem arg (y : S8320x128.Idx) : (show EReal from Read.val_main_call0_v0 (F := Ideal) x0 x1 y) = -(x0 y + x1 (ix2 0 (y 1))) := by
  rw [Read.val_main_call0_v0_apply, Read.val_main_v1_apply, Read.val_main_v0_apply]
  have e : Read.idx_main_v0 y = ix2 0 (y 1) := funext fun a => match a with
    | ⟨0, _⟩ => rfl
    | ⟨1, _⟩ => rfl
  rw [e]
  rfl

theorem logs (y : S8320x128.Idx) : (show EReal from Read.val_main_v2 (F := Ideal) x0 x1 y) = W x0 x1 y := by
  unfold W
  rw [← arg x0 x1 y]
  rw [Read.val_main_v2_apply, Read.val_main_call0_v1_apply, Read.val_main_call0_call0_v4_apply, Read.val_main_call0_call0_v11_apply, Read.val_main_call0_call0_v10_apply,
    Read.val_main_call0_call0_v9_apply, Read.val_main_call0_call0_v8_apply, Read.val_main_call0_call0_v7_apply, Read.val_main_call0_call0_v3_apply,
    Read.val_main_call0_call0_v1_apply, Read.val_main_call0_call0_v0_apply, Read.val_main_call0_call0_v2_apply, Read.val_main_call0_call0_cst_apply]
  generalize Read.val_main_call0_v0 (F := Ideal) x0 x1 y = x
  have e : (show EReal from x) - Ideal.ofBits .f32 0x00000000#32 = x := by rw [Ideal.ofBits_zero .f32]; exact sub_zero _
  show -(Scalar.select (Ideal.cmp .une ((show EReal from x) - Ideal.ofBits .f32 0x00000000#32) ((show EReal from x) - Ideal.ofBits .f32 0x00000000#32)) _
    (max (show EReal from x) (Ideal.ofBits .f32 0x00000000#32)
      + Ideal.log1p (Ideal.exp (-(max ((show EReal from x) - Ideal.ofBits .f32 0x00000000#32) (-((show EReal from x) - Ideal.ofBits .f32 0x00000000#32))))))) = _
  rw [e, Ideal.ofBits_zero .f32, unequal]
  rfl

/-- The result is these sums. -/
theorem value (y : S8320x128.Idx) : (show EReal from Read.val_main_v3 (F := Ideal) x0 x1 y) = S x0 x1 (y 1) ((y 0).val + 1) := by
  obtain ⟨r, j, rfl⟩ : ∃ (r : Fin 8320) (j : Fin 128), y = ix2 r j := ⟨y 0, y 1, eq_ix2 y⟩
  unfold Read.val_main_v3
  have h0 : (show EReal from Read.val_main_call1_call0_v0 (F := Ideal) (Shape.Idx.first h_S_)) = 0 := by
    rw [Read.val_main_call1_call0_v0_apply, Read.val_main_call1_call0_cst_apply]
    exact Ideal.ofBits_zero .f32
  refine (host_window_head (R := 8320) (Q := 8319) (C := 128) _ _ h_S_ h0 rfl reduceWindows_S8320x128_S8320x128_w8320s1p8319_0_w1s1p0_0 r j).trans ?_
  exact congrArg (fun w : (⟨2, ![8320, 128]⟩ : Shape).Idx → EReal => upTo (colOf (R := 8320) (C := 128) w j) (r.val + 1)) (funext fun z => logs x0 x1 z)

end Cert.Reference23Ideal.Gate

namespace Cert.Kernel23Ideal.Gate

open Cert.Kernel23Ideal Cert.Kernel23Ideal.Gen Cert.Gate
open Cert.Reference23Ideal.Gate (W S)
open Idealize.ShloMosaic Idealize.ShloMosaic.TcCoe Idealize.ShloMosaic.Tactic
open Idealize.ShloMosaic.Pipeline (Dat Cfg Window)

/-! # What the kernel's result holds

The points go through the blocks of rows and carry the sum of the rows before. -/

/-- A block's sums up to each of its rows: those inside the block, and what is carried. -/
theorem pay3_apply (l : FVec Ideal S640x128 .f32) (b v : FVec Ideal S1x128 .f32) (i : Fin 640) (j : Fin 128) :
    k0_pay3 (F := Ideal) l b v (ix2 i j) = (∑ k : Fin 640, if k.val ≤ i.val then -softplus (-(l (ix2 k j) + b (ix2 0 j))) else 0) + v (ix2 0 j) := by
  pointwise [k0_pay3]
  refine congrArg (· + (v (ix2 0 j) : EReal)) (Finset.sum_congr rfl fun k _ => ?_)
  simp only [zero_sub, sub_zero]
  word_cmp
  simp only [ne_eq, not_true_eq_false, if_false]
  rfl

theorem pay4_apply (l : FVec Ideal S640x128 .f32) (b v : FVec Ideal S1x128 .f32) (j : Fin 128) :
    k0_pay4 (F := Ideal) l b v (ix2 0 j) = k0_pay3 (F := Ideal) l b v (ix2 639 j) := by
  pointwise [k0_pay4]

theorem pay1_eq (v : FVec Ideal S1x128 .f32) : k0_pay1 (F := Ideal) v = v := by
  unfold k0_pay1
  rw [shapeCast_self]

variable (m : (ℓ : Loc nD τ sig) → Buf (Elt Ideal) ℓ)

/-- The forget gates' inputs and their bias. -/
abbrev L (c : Dev nD) : FVec Ideal S8320x128 .f32 := m ((c : Thread nD τ).loc main_arg0)
abbrev B (c : Dev nD) : FVec Ideal S1x128 .f32 := m ((c : Thread nD τ).loc main_arg1)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- The row that a point's block starts at, and its further ones. -/
def row (t : Fin cfg0.N) (i : Fin 640) : Fin 8320 := ⟨t.val * 640 + i.val, by have := lt_of_lt_of_eq t.isLt N_0; omega⟩

theorem blk0 (c : Dev nD) (t : Fin cfg0.N) (i : Fin 640) (j : Fin 128) :
    (show FVec Ideal S640x128 .f32 from iblk m c 0 t) (ix2 i j) = L m c (ix2 (row t i) j) := by
  have := lt_of_lt_of_eq t.isLt N_0
  unfold row
  blk_ext [iblk, V, idx0 t]

theorem blk1 (c : Dev nD) (t : Fin cfg0.N) (j : Fin 128) :
    (show FVec Ideal S1x128 .f32 from iblk m c 1 t) (ix2 0 j) = B m c (ix2 0 j) := by
  have := lt_of_lt_of_eq t.isLt N_0
  blk_ext [iblk, V, idx1 t]

theorem emb2 (t : Fin cfg0.N) (i : Fin 640) (j : Fin 128) : (win0_2.blk t).view.emb (ix2 i j) = (ix2 (row t i) j : S8320x128.Idx) := by
  have := lt_of_lt_of_eq t.isLt N_0
  unfold row
  blk_ext [idx2 t]

section Run

variable (c : Dev nD) (t : Fin cfg0.N) (l : FVec Ideal S640x128 .f32) (b v : FVec Ideal S1x128 .f32)
  (hl : ∀ (i : Fin 640) (j : Fin 128), l (ix2 i j) = L m c (ix2 (row t i) j))
  (hb : ∀ j : Fin 128, b (ix2 0 j) = B m c (ix2 0 j)) (hv : ∀ j : Fin 128, v (ix2 0 j) = S (L m c) (B m c) j (t.val * 640))

include hl hb hv

/-- Where the carried row holds the sums of the rows before a point's block, the block's sums start at the first row. -/
theorem run3 (i : Fin 640) (j : Fin 128) : k0_pay3 (F := Ideal) l b v (ix2 i j) = S (L m c) (B m c) j (t.val * 640 + i.val + 1) := by
  rw [pay3_apply, hv]
  refine Eq.trans ?_ (upTo_block 640 (colOf (R := 8320) (C := 128) (W (L m c) (B m c)) j) (t.val * 640) i.val i.isLt)
  refine congrArg₂ (· + ·) (Finset.sum_congr rfl fun k _ => ?_) rfl
  rw [hl, hb]
  exact congrArg (fun z : EReal => if k.val ≤ i.val then z else 0) (colOf_at (R := 8320) (C := 128) (W (L m c) (B m c)) j (row t k)).symm

theorem run4 (j : Fin 128) : k0_pay4 (F := Ideal) l b v (ix2 0 j) = S (L m c) (B m c) j ((t.val + 1) * 640) := by
  rw [pay4_apply, run3 m c t l b v hl hb hv]
  exact congrArg (S (L m c) (B m c) j) (by show t.val * 640 + 639 + 1 = _; omega)

end Run

/-- What a point leaves. -/
structure Left (c : Dev nD) (t : Fin cfg0.N) : Prop where
  carried : ∀ j : Fin 128, (outsAt0 m c t.val t.isLt).2 (ix2 0 j) = S (L m c) (B m c) j ((t.val + 1) * 640)
  summed : ∀ (i : Fin 640) (j : Fin 128), (outsAt0 m c t.val t.isLt).1 (ix2 i j) = S (L m c) (B m c) j (t.val * 640 + i.val + 1)

/-- The first point starts from a row of zeros: there are no rows before its block. -/
theorem start (c : Dev nD) (t : Fin cfg0.N) (h : t.val = 0) (j : Fin 128) : (k0_pay2 (F := Ideal)) (ix2 0 j) = S (L m c) (B m c) j (t.val * 640) := by
  rw [h]
  pointwise [k0_pay2]
  rfl

theorem first (c : Dev nD) (t : Fin cfg0.N) (h : t.val = 0) : Left m c t := by
  have hv := start m c t h
  refine ⟨fun j => ?_, fun i j => ?_⟩
  · rw [outsAt0_A m c t (by omega), ← run4 m c t _ _ _ (blk0 m c t) (blk1 m c t) hv j]
    frame_out
    rw [pay1_eq]
  · rw [outsAt0_A m c t (by omega), ← run3 m c t _ _ _ (blk0 m c t) (blk1 m c t) hv i j]
    frame_out

theorem next (c : Dev nD) (t : Fin cfg0.N) (h : t.val ≠ 0) (ih : Left m c ⟨t.val - 1, Nat.lt_of_le_of_lt (Nat.sub_le _ _) t.isLt⟩) : Left m c t := by
  have := lt_of_lt_of_eq t.isLt N_0
  have hv := fun j => (ih.carried j).trans (congrArg (S (L m c) (B m c) j) (show (t.val - 1 + 1) * 640 = t.val * 640 by omega))
  refine ⟨fun j => ?_, fun i j => ?_⟩
  · rw [outsAt0_B m c t (by omega), ← run4 m c t _ _ _ (blk0 m c t) (blk1 m c t) hv j]
    frame_out
    rw [(Memref.isWhole_whole _ : scM0_0.IsWhole).read_unread, pay1_eq]
  · rw [outsAt0_B m c t (by omega), ← run3 m c t _ _ _ (blk0 m c t) (blk1 m c t) hv i j]
    frame_out
    rw [(Memref.isWhole_whole _ : scM0_0.IsWhole).read_unread]

theorem left (c : Dev nD) : ∀ (n : ℕ) (h : n < cfg0.N), Left m c ⟨n, h⟩
  | 0, h => first m c ⟨0, h⟩ rfl
  | n + 1, h => next m c ⟨n + 1, h⟩ (Nat.succ_ne_zero n) (left c n (by omega))

/-- The result. -/
def G (c : Dev nD) : FVec Ideal S8320x128 .f32 := fun y => S (L m c) (B m c) (y 1) ((y 0).val + 1)

theorem final (c : Dev nD) : (dats m 0 c).arrAt 2 cfg0.N = G m c := by
  refine (dats m 0 c).arrAt_eq_of_covers 2 (G m c) (by decide +kernel) fun t hf y => ?_
  rw [after0_2]
  blk_simp
  obtain ⟨i, j, rfl⟩ : ∃ (i : Fin 640) (j : Fin 128), y = ix2 i j := ⟨y 0, y 1, eq_ix2 y⟩
  rw [emb2]
  exact (left m c t.val t.isLt).summed i j

end Cert.Kernel23Ideal.Gate

namespace Cert.Proof

open Idealize.ShloMosaic Idealize.ShloMosaic.TcCoe Idealize.SL.Sem

theorem running_sums : Cert.algebraic_Kernel23Ideal_Reference23Ideal (hKernel23Ideal := Kernel23Ideal.Gen.facts)
    (hReference23Ideal := Reference23Ideal.Gen.facts) := by
  intro m g m' g' _ hargs
  refine ⟨Kernel23Ideal.Gate.G m, ?_, ?_⟩
  · exact (θ_run _ _ _).mono (fun r h c => ⟨((h c).1.trans (Kernel23Ideal.Gate.final m c)), (h c).2⟩)
      (Kernel23Ideal.Value.run_blocks m g)
  · refine (θ_run _ _ _).mono (fun r h c => ⟨((h c).1.trans ?_), (h c).2⟩) (Reference23Ideal.Value.run m' g')
    rw [(hargs c).1, (hargs c).2]
    exact funext fun y => Reference23Ideal.Gate.value _ _ y

end Cert.Proof
-- ==== Proof.Gate.Norm.lean ====
module

public import proofs.«01_k».proof.Defs
public import proofs.«01_k».proof.Proof.Gen.Kernel26Ideal.Value
public import proofs.«01_k».proof.Proof.Gen.Reference26Ideal.Read
public import proofs.«01_k».proof.Proof.Prod.Common
public import Idealize.ShloMosaic.Lib.Quiescent
public import Idealize.ShloMosaic.Lib.KernelVsHost
public import Idealize.ShloMosaic.Lib.Tactic

@[expose] public section

set_option maxRecDepth 16384

noncomputable section

namespace Cert.Gate

open Idealize.ShloMosaic

/-! # The norm of a row -/

/-- A row of a matrix. -/
def line {R C : ℕ} (x : (⟨2, ![R, C]⟩ : Shape).Idx → EReal) (r : Fin R) (k : Fin C) : EReal := x (ix2 r k)

/-- The mean of a row's squares, with the small constant added, and the factor that the norm multiplies the row by. -/
def spread (x : Fin 1024 → EReal) : EReal := Ideal.div (∑ k, x k * x k) (Ideal.ofBits .f32 0x44800000#32) + Ideal.ofBits .f32 0x358637BD#32
def scale (x : Fin 1024 → EReal) : EReal := Ideal.rsqrt (spread x)

/-- The row so multiplied, times the gain. -/
def normed (x g : Fin 1024 → EReal) (j : Fin 1024) : EReal := x j * scale x * g j

/-- The same for every row of a matrix, and turned. -/
def norms (x : (⟨2, ![8320, 1024]⟩ : Shape).Idx → EReal) (g : (⟨2, ![1, 1024]⟩ : Shape).Idx → EReal) : (⟨2, ![8320, 1024]⟩ : Shape).Idx → EReal :=
  fun y => normed (line (R := 8320) (C := 1024) x (y 0)) (line (R := 1) (C := 1024) g 0) (y 1)
def turned (x : (⟨2, ![8320, 1024]⟩ : Shape).Idx → EReal) (y : (⟨2, ![1024, 8320]⟩ : Shape).Idx) : EReal := x (ix2 (y 1) (y 0))

end Cert.Gate

namespace Cert.Reference26Ideal.Gate

open Cert.Reference26Ideal Cert.Reference26Ideal.Gen Cert.Gate
open Idealize.ShloMosaic Idealize.ShloMosaic.TcCoe Idealize.SL.Sem

variable (x : FVec Ideal S8320x1024 .f32) (g : FVec Ideal S1x1024 .f32) (r : Fin 8320) (j : Fin 1024)

/-- A row's factor in the reference, -/
theorem v7_apply : (show EReal from Read.val_main_v7 (F := Ideal) x (ix2 r 0)) = scale (line (R := 8320) (C := 1024) x r) := by
  rw [Read.val_main_v7_apply, Read.val_main_v6_apply, Read.val_main_v4_apply, Read.val_main_v5_apply, Read.val_main_v2_apply, Read.val_main_v1_apply,
    Read.val_main_v3_apply, Read.val_main_cst_apply]
  show Ideal.rsqrt (Ideal.div ((Ideal.ofBits .f32 0x00000000#32 : EReal) + _) _ + _) = _
  rw [Ideal.ofBits_zero .f32, zero_add]
  unfold scale spread
  refine congrArg (fun z : EReal => Ideal.rsqrt (Ideal.div z (Ideal.ofBits .f32 0x44800000#32) + Ideal.ofBits .f32 0x358637BD#32)) (Finset.sum_congr rfl fun k _ => ?_)
  have e : Read.idx_main_v1 (Read.idx_main_v2 (ix2 r 0)) k = ix2 r k := funext fun a => match a with
    | ⟨0, _⟩ => rfl
    | ⟨1, _⟩ => rfl
  rw [e]
  rfl

/-- and its normed row. -/
theorem v12_apply : (show EReal from Read.val_main_v12 (F := Ideal) x g (ix2 r j))
    = normed (line (R := 8320) (C := 1024) x r) (line (R := 1) (C := 1024) g 0) j := by
  rw [Read.val_main_v12_apply, Read.val_main_v11_apply, Read.val_main_v10_apply, Read.val_main_v9_apply, Read.val_main_v8_apply]
  have e8 : Read.idx_main_v8 (ix2 r j) = ix2 r 0 := funext fun a => match a with
    | ⟨0, _⟩ => rfl
    | ⟨1, _⟩ => rfl
  have e10 : Read.idx_main_v10 (ix2 r j) = ix2 0 j := funext fun a => match a with
    | ⟨0, _⟩ => rfl
    | ⟨1, _⟩ => rfl
  rw [e8, e10]
  unfold normed
  rw [← v7_apply]
  rfl

theorem v12_eq : Read.val_main_v12 (F := Ideal) x g = norms x g := funext fun (y : S8320x1024.Idx) => by
  obtain ⟨r, j, rfl⟩ : ∃ (r : Fin 8320) (j : Fin 1024), y = ix2 r j := ⟨y 0, y 1, eq_ix2 y⟩
  exact v12_apply _ _ r j

theorem v13_eq : Read.val_main_v13 (F := Ideal) x g = turned (norms x g) := funext fun (y : S1024x8320.Idx) => by
  obtain ⟨j, r, rfl⟩ : ∃ (j : Fin 1024) (r : Fin 8320), y = ix2 j r := ⟨y 0, y 1, eq_ix2 y⟩
  rw [Read.val_main_v13_apply]
  have e : Read.idx_main_v13 (ix2 j r) = ix2 r j := funext fun a => match a with
    | ⟨0, _⟩ => rfl
    | ⟨1, _⟩ => rfl
  rw [e]
  exact v12_apply _ _ r j

end Cert.Reference26Ideal.Gate

namespace Cert.Kernel26Ideal.Gate

open Cert.Kernel26Ideal Cert.Kernel26Ideal.Gen Cert.Gate
open Idealize.ShloMosaic Idealize.ShloMosaic.TcCoe Idealize.ShloMosaic.Tactic
open Idealize.ShloMosaic.Pipeline (Dat Cfg Window)

theorem pay1_apply (x : FVec Ideal S640x1024 .f32) (g : FVec Ideal S1x1024 .f32) (i : Fin 640) (j : Fin 1024) :
    (show EReal from k0_pay1 (F := Ideal) x g (ix2 i j)) = normed (line (R := 640) (C := 1024) x i) (line (R := 1) (C := 1024) g 0) j := by
  unfold normed scale spread line
  pointwise [k0_pay1]

theorem pay3_apply (x : FVec Ideal S640x1024 .f32) (g : FVec Ideal S1x1024 .f32) (i : Fin 640) (j : Fin 1024) :
    (show EReal from k0_pay3 (F := Ideal) x g (ix2 j i)) = k0_pay1 (F := Ideal) x g (ix2 i j) := by
  pointwise [k0_pay3]

variable (m : (ℓ : Loc nD τ sig) → Buf (Elt Ideal) ℓ)

/-- The rows and the gain. -/
abbrev X (c : Dev nD) : FVec Ideal S8320x1024 .f32 := m ((c : Thread nD τ).loc main_arg0)
abbrev A (c : Dev nD) : FVec Ideal S1x1024 .f32 := m ((c : Thread nD τ).loc main_arg1)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, t.val] := (by decide +kernel : ∀ t : Fin grid0.N, _)

/-- The row of the matrix that a row of a point's block is. -/
def row (t : Fin cfg0.N) (i : Fin 640) : Fin 8320 := ⟨t.val * 640 + i.val, by have := lt_of_lt_of_eq t.isLt N_0; omega⟩

theorem blk0 (c : Dev nD) (t : Fin cfg0.N) (i : Fin 640) (j : Fin 1024) :
    (show FVec Ideal S640x1024 .f32 from iblk m c 0 t) (ix2 i j) = X m c (ix2 (row t i) j) := by
  have := lt_of_lt_of_eq t.isLt N_0
  unfold row
  blk_ext [iblk, V, idx0 t]

theorem blk1 (c : Dev nD) (t : Fin cfg0.N) (j : Fin 1024) :
    (show FVec Ideal S1x1024 .f32 from iblk m c 1 t) (ix2 0 j) = A m c (ix2 0 j) := by
  have := lt_of_lt_of_eq t.isLt N_0
  blk_ext [iblk, V, idx1 t]

theorem emb2 (t : Fin cfg0.N) (i : Fin 640) (j : Fin 1024) : (win0_2.blk t).view.emb (ix2 i j) = (ix2 (row t i) j : S8320x1024.Idx) := by
  have := lt_of_lt_of_eq t.isLt N_0
  unfold row
  blk_ext [idx2 t]

theorem emb3 (t : Fin cfg0.N) (i : Fin 640) (j : Fin 1024) : (win0_3.blk t).view.emb (ix2 j i) = (ix2 j (row t i) : S1024x8320.Idx) := by
  have := lt_of_lt_of_eq t.isLt N_0
  unfold row
  blk_ext [idx3 t]

/-- The normed rows, and the same turned. -/
def G2 (c : Dev nD) : FVec Ideal S8320x1024 .bf16 := norms (X m c) (A m c)
def G3 (c : Dev nD) : FVec Ideal S1024x8320 .bf16 := turned (norms (X m c) (A m c))

/-- A point's normed rows are those of the matrix. -/
theorem tile (c : Dev nD) (t : Fin cfg0.N) (i : Fin 640) (j : Fin 1024) :
    (show EReal from k0_pay1 (F := Ideal) (iblk m c 0 t) (iblk m c 1 t) (ix2 i j))
      = normed (line (R := 8320) (C := 1024) (X m c) (row t i)) (line (R := 1) (C := 1024) (A m c) 0) j := by
  refine (pay1_apply _ _ i j).trans ?_
  have e0 : line (R := 640) (C := 1024) (show FVec Ideal S640x1024 .f32 from iblk m c 0 t) i = line (R := 8320) (C := 1024) (X m c) (row t i) :=
    funext fun k => blk0 m c t i k
  have e1 : line (R := 1) (C := 1024) (show FVec Ideal S1x1024 .f32 from iblk m c 1 t) 0 = line (R := 1) (C := 1024) (A m c) 0 := funext fun k => blk1 m c t k
  exact congrArg₂ (fun x g => normed x g j) e0 e1

theorem final2 (c : Dev nD) : (dats m 0 c).arrAt 2 cfg0.N = G2 m c := by
  refine (dats m 0 c).arrAt_eq_of_covers 2 (G2 m c) (by decide +kernel) fun t hf y => ?_
  rw [after0_2]
  blk_simp
  obtain ⟨i, j, rfl⟩ : ∃ (i : Fin 640) (j : Fin 1024), y = ix2 i j := ⟨y 0, y 1, eq_ix2 y⟩
  have hb : out0_2 (F := Ideal) (iblk m c 0 t) (iblk m c 1 t) (ix2 i j) = k0_pay2 (iblk m c 0 t) (iblk m c 1 t) (ix2 i j) := by
    frame_out
  rw [emb2]
  exact hb.trans (tile m c t i j)

theorem final3 (c : Dev nD) : (dats m 0 c).arrAt 3 cfg0.N = G3 m c := by
  refine (dats m 0 c).arrAt_eq_of_covers 3 (G3 m c) (by decide +kernel) fun t hf y => ?_
  rw [after0_3]
  blk_simp
  obtain ⟨j, i, rfl⟩ : ∃ (j : Fin 1024) (i : Fin 640), y = ix2 j i := ⟨y 0, y 1, eq_ix2 y⟩
  have hb : out0_3 (F := Ideal) (iblk m c 0 t) (iblk m c 1 t) (ix2 j i) = k0_pay3 (iblk m c 0 t) (iblk m c 1 t) (ix2 j i) := by
    frame_out
  rw [emb3]
  exact hb.trans ((pay3_apply _ _ i j).trans (tile m c t i j))

end Cert.Kernel26Ideal.Gate

namespace Cert.Proof

open Idealize.ShloMosaic Idealize.ShloMosaic.TcCoe Idealize.SL.Sem

theorem norm : Cert.algebraic_Kernel26Ideal_Reference26Ideal (hKernel26Ideal := Kernel26Ideal.Gen.facts)
    (hReference26Ideal := Reference26Ideal.Gen.facts) := by
  intro m g m' g' _ hargs
  refine ⟨Kernel26Ideal.Gate.G2 m, Kernel26Ideal.Gate.G3 m, ?_, ?_⟩
  · exact (θ_run _ _ _).mono (fun r h c => ⟨((h c).1.trans (Kernel26Ideal.Gate.final2 m c)), ((h c).2.1.trans (Kernel26Ideal.Gate.final3 m c)), (h c).2.2⟩)
      (Kernel26Ideal.Value.run_blocks m g)
  · refine (θ_run _ _ _).mono (fun r h c => ⟨((h c).1.trans ?_), ((h c).2.1.trans ?_), (h c).2.2⟩) (Reference26Ideal.Value.run m' g')
    · rw [Reference26Ideal.Read.val_main_v12_eq, (hargs c).1, (hargs c).2]
      exact Reference26Ideal.Gate.v12_eq _ _
    · rw [Reference26Ideal.Read.val_main_v13_eq, (hargs c).1, (hargs c).2]
      exact Reference26Ideal.Gate.v13_eq _ _

end Cert.Proof
-- ==== Proof.Gate.NormBwd.lean ====
module

public import proofs.«01_k».proof.Proof.Gate.Norm
public import proofs.«01_k».proof.Proof.Gate.CumsumFwd
public import proofs.«01_k».proof.Proof.Gen.Kernel25Ideal.Value
public import proofs.«01_k».proof.Proof.Gen.Reference25Ideal.Read

@[expose] public section

set_option maxRecDepth 16384

noncomputable section

namespace Cert.Gate

open Idealize.ShloMosaic

/-! # The gradient of the norm of a row

`x` is the row, `g` the gain, `a` the gradient of the normed row. -/

/-- What the mean of the squares adds to each lane's gradient, per unit of the lane. -/
def pull (x g a : Fin 1024 → EReal) : EReal :=
  Ideal.div ((∑ k, x k * (a k * g k)) * (Ideal.ofBits .f32 0xBF000000#32 * Ideal.div (scale x) (spread x))) (Ideal.ofBits .f32 0x44800000#32)

/-- The gradient of the row: the mean of the squares counts twice. -/
def dNorm (x g a : Fin 1024 → EReal) (j : Fin 1024) : EReal := a j * g j * scale x + x j * pull x g a + pull x g a * x j

/-- The same added to what comes by the other way (`d`). -/
def dRow (x g a d : Fin 1024 → EReal) (j : Fin 1024) : EReal := d j + dNorm x g a j

/-- A row's part of the gradient of the gain. -/
def dGain (x a : Fin 1024 → EReal) (j : Fin 1024) : EReal := x j * scale x * a j

/-- The same at every place of a matrix of rows. -/
def gains (x a : (⟨2, ![8320, 1024]⟩ : Shape).Idx → EReal) : (⟨2, ![8320, 1024]⟩ : Shape).Idx → EReal :=
  fun y => dGain (line (R := 8320) (C := 1024) x (y 0)) (line (R := 8320) (C := 1024) a (y 0)) (y 1)

/-- The rows before a block and the block's rows are the rows up to its end. -/
theorem upTo_rows (T : ℕ) (f : ℕ → EReal) (b : ℕ) : upTo f b + ∑ k : Fin T, f (b + k.val) = upTo f (b + T) := by
  unfold upTo
  rw [Fin.sum_univ_eq_sum_range (fun k => f (b + k)) T, Finset.sum_range_add f b T]

end Cert.Gate

namespace Cert.Reference25Ideal.Gate

open Cert.Reference25Ideal Cert.Reference25Ideal.Gen Cert.Gate
open Idealize.ShloMosaic Idealize.ShloMosaic.TcCoe Idealize.SL.Sem

/-! # What the reference's two results hold -/

variable (x : FVec Ideal S8320x1024 .f32) (g : FVec Ideal S1x1024 .f32) (d : FVec Ideal S8320x1024 .f32) (a : FVec Ideal S8320x1024 .bf16)
  (r : Fin 8320) (j : Fin 1024)

/-- A row, its gain and its gradient. -/
abbrev lx : Fin 1024 → EReal := line (R := 8320) (C := 1024) x r
abbrev lg : Fin 1024 → EReal := line (R := 1) (C := 1024) g 0
abbrev la : Fin 1024 → EReal := line (R := 8320) (C := 1024) a r

theorem v6_apply : (show EReal from Read.val_main_v6 (F := Ideal) x (ix2 r 0)) = spread (lx x r) := by
  rw [Read.val_main_v6_apply, Read.val_main_v4_apply, Read.val_main_v5_apply, Read.val_main_v2_apply, Read.val_main_v1_apply,
    Read.val_main_v3_apply, Read.val_main_cst_apply]
  show Ideal.div ((Ideal.ofBits .f32 0x00000000#32 : EReal) + _) _ + _ = _
  rw [Ideal.ofBits_zero .f32, zero_add]
  unfold spread
  refine congrArg (fun z : EReal => Ideal.div z (Ideal.ofBits .f32 0x44800000#32) + Ideal.ofBits .f32 0x358637BD#32) (Finset.sum_congr rfl fun k _ => ?_)
  have e : Read.idx_main_v1 (Read.idx_main_v2 (ix2 r 0)) k = ix2 r k := funext fun b => match b with
    | ⟨0, _⟩ => rfl
    | ⟨1, _⟩ => rfl
  rw [e]
  rfl

theorem v7_apply : (show EReal from Read.val_main_v7 (F := Ideal) x (ix2 r 0)) = scale (lx x r) := by
  unfold scale
  rw [← v6_apply]
  rfl

/-- The products whose sum is the gradient of the gain. -/
theorem v16_apply : (show EReal from Read.val_main_v16 (F := Ideal) x a (ix2 r j)) = dGain (lx x r) (la a r) j := by
  rw [Read.val_main_v16_apply, Read.val_main_v12_apply, Read.val_main_v11_apply]
  have e : Read.idx_main_v11 (ix2 r j) = ix2 r 0 := funext fun b => match b with
    | ⟨0, _⟩ => rfl
    | ⟨1, _⟩ => rfl
  rw [e]
  unfold dGain
  rw [← v7_apply]
  rfl

theorem v20_apply : (show EReal from Read.val_main_v20 (F := Ideal) g a (ix2 r j)) = la a r j * lg g j := by
  rw [Read.val_main_v20_apply, Read.val_main_v19_apply]
  have e : Read.idx_main_v19 (ix2 r j) = ix2 0 j := funext fun b => match b with
    | ⟨0, _⟩ => rfl
    | ⟨1, _⟩ => rfl
  rw [e]
  rfl

theorem v23_apply : (show EReal from Read.val_main_v23 (F := Ideal) x g a (ix2 r 0)) = ∑ k, lx x r k * (la a r k * lg g k) := by
  rw [Read.val_main_v23_apply, Read.val_main_v22_apply, Read.val_main_cst_4_apply]
  show (Ideal.ofBits .f32 0x00000000#32 : EReal) + _ = _
  rw [Ideal.ofBits_zero .f32, zero_add]
  refine Finset.sum_congr rfl fun k _ => ?_
  have e : Read.idx_main_v22 (Read.idx_main_v23 (ix2 r 0)) k = ix2 r k := funext fun b => match b with
    | ⟨0, _⟩ => Fin.ext (by show r.val * 1 + 0 = r.val; omega)
    | ⟨1, _⟩ => rfl
  rw [e, ← v20_apply]
  rfl

theorem v28_apply : (show EReal from Read.val_main_v28 (F := Ideal) x g a (ix2 r 0)) = pull (lx x r) (lg g) (la a r) := by
  unfold pull
  rw [← v23_apply, ← v7_apply, ← v6_apply]
  rfl

theorem v30_apply : (show EReal from Read.val_main_v30 (F := Ideal) x g a (ix2 r j)) = pull (lx x r) (lg g) (la a r) := by
  rw [Read.val_main_v30_apply, Read.val_main_v29_apply, Read.val_main_cst_6_apply]
  show (Ideal.ofBits .f32 0x00000000#32 : EReal) + _ = _
  rw [Ideal.ofBits_zero .f32, zero_add, Fin.sum_univ_one]
  have e : Read.idx_main_v29 (Read.idx_main_v30 (ix2 r j)) 0 = ix2 r 0 := funext fun b => match b with
    | ⟨0, _⟩ => rfl
    | ⟨1, _⟩ => rfl
  rw [e]
  exact v28_apply x g a r

/-- The first result is the gradient of the rows, -/
theorem v34_apply : (show EReal from Read.val_main_v34 (F := Ideal) x g a (ix2 r j)) = dNorm (lx x r) (lg g) (la a r) j := by
  rw [Read.val_main_v34_apply, Read.val_main_v32_apply, Read.val_main_v33_apply, Read.val_main_v31_apply, Read.val_main_v25_apply,
    Read.val_main_v24_apply]
  have e : Read.idx_main_v24 (ix2 r j) = ix2 r 0 := funext fun b => match b with
    | ⟨0, _⟩ => rfl
    | ⟨1, _⟩ => rfl
  rw [e]
  unfold dNorm
  rw [← v30_apply x g a r j, ← v7_apply, ← v20_apply]
  rfl

theorem v35_apply : (show EReal from Read.val_main_v35 (F := Ideal) x g d a (ix2 r j)) = dRow (lx x r) (lg g) (la a r) (line (R := 8320) (C := 1024) d r) j := by
  rw [Read.val_main_v35_apply]
  exact congrArg (fun z : EReal => (d (ix2 r j) : EReal) + z) (v34_apply x g a r j)

/-- and the second the sum over the rows of their parts of the gain's. -/
theorem v18_apply : (show EReal from Read.val_main_v18 (F := Ideal) x a (ix2 0 j)) = upTo (colOf (R := 8320) (C := 1024) (gains x a) j) 8320 := by
  rw [Read.val_main_v18_apply, Read.val_main_v17_apply, Read.val_main_cst_3_apply]
  show (Ideal.ofBits .f32 0x00000000#32 : EReal) + _ = _
  rw [Ideal.ofBits_zero .f32, zero_add]
  unfold upTo
  rw [← Fin.sum_univ_eq_sum_range (colOf (R := 8320) (C := 1024) (gains x a) j) 8320]
  refine Finset.sum_congr rfl fun k _ => ?_
  have e : Read.idx_main_v17 (Read.idx_main_v18 (ix2 0 j)) k = ix2 k j := funext fun b => match b with
    | ⟨0, _⟩ => rfl
    | ⟨1, _⟩ => Fin.ext (by show 0 * 1024 + j.val = j.val; omega)
  rw [e]
  exact (v16_apply x a k j).trans (colOf_at (R := 8320) (C := 1024) (gains x a) j k).symm

end Cert.Reference25Ideal.Gate

namespace Cert.Kernel25Ideal.Gate

open Cert.Kernel25Ideal Cert.Kernel25Ideal.Gen Cert.Gate
open Idealize.ShloMosaic Idealize.ShloMosaic.TcCoe Idealize.ShloMosaic.Tactic
open Idealize.ShloMosaic.Pipeline (Dat Cfg Window)

/-! # What the kernel's two results hold

The points go through the blocks of rows from the first to the last; the gain's gradient stays in its buffer, and each point adds its rows' part. -/

section Pay

variable (x : FVec Ideal S640x1024 .f32) (g : FVec Ideal S1x1024 .f32) (d : FVec Ideal S640x1024 .f32) (a : FVec Ideal S640x1024 .bf16)
  (i : Fin 640) (j : Fin 1024)

/-- A row of a block, its gain and its gradient. -/
abbrev bx : Fin 1024 → EReal := line (R := 640) (C := 1024) x i
abbrev bg : Fin 1024 → EReal := line (R := 1) (C := 1024) g 0
abbrev ba : Fin 1024 → EReal := line (R := 640) (C := 1024) a i

theorem pay3_apply : (show EReal from k0_pay3 (F := Ideal) x (ix2 i 0)) = spread (bx x i) := by
  unfold spread bx line
  pointwise [k0_pay3]

theorem pay4_apply : (show EReal from k0_pay4 (F := Ideal) x (ix2 i 0)) = scale (bx x i) := by
  unfold scale
  rw [← pay3_apply]
  pointwise [k0_pay4]

theorem pay7_apply : (show EReal from k0_pay7 (F := Ideal) g a (ix2 i j)) = ba a i j * bg g j := by
  unfold ba bg line
  pointwise [k0_pay7, k0_pay5]

/-- A block's part of the gain's gradient. -/
theorem pay6_apply : (show EReal from k0_pay6 (F := Ideal) x a (ix2 0 j)) = ∑ i : Fin 640, dGain (bx x i) (ba a i) j := by
  have e : (show EReal from k0_pay6 (F := Ideal) x a (ix2 0 j)) = ∑ i : Fin 640, (x (ix2 i j) : EReal) * k0_pay4 (F := Ideal) x (ix2 i 0) * a (ix2 i j) := by
    pointwise [k0_pay6, k0_pay5]
  refine e.trans (Finset.sum_congr rfl fun i _ => ?_)
  exact congrArg (fun z : EReal => (x (ix2 i j) : EReal) * z * a (ix2 i j)) (pay4_apply x i)

theorem pay8_apply : (show EReal from k0_pay8 (F := Ideal) x g a (ix2 i j)) = pull (bx x i) (bg g) (ba a i) := by
  have e : (show EReal from k0_pay8 (F := Ideal) x g a (ix2 i j)) = ∑ k : Fin 1, Ideal.div ((∑ k, (x (ix2 i k) : EReal) * k0_pay7 (F := Ideal) g a (ix2 i k))
      * (Ideal.ofBits .f32 0xBF000000#32 * Ideal.div (k0_pay4 (F := Ideal) x (ix2 i k)) (k0_pay3 (F := Ideal) x (ix2 i k)))) (Ideal.ofBits .f32 0x44800000#32) := by
    pointwise [k0_pay8]
  rw [e, Fin.sum_univ_one]
  unfold pull
  rw [← pay4_apply, ← pay3_apply]
  refine congrArg (fun z : EReal => Ideal.div (z * (Ideal.ofBits .f32 0xBF000000#32 * Ideal.div (k0_pay4 (F := Ideal) x (ix2 i 0)) (k0_pay3 (F := Ideal) x (ix2 i 0))))
    (Ideal.ofBits .f32 0x44800000#32)) (Finset.sum_congr rfl fun k _ => ?_)
  exact congrArg (fun z : EReal => (x (ix2 i k) : EReal) * z) (pay7_apply g a i k)

/-- The gradient of a block's rows. -/
theorem pay1_apply : (show EReal from k0_pay1 (F := Ideal) x (k0_pay8 (F := Ideal) x g a) (k0_pay9 (F := Ideal) x g d a) (ix2 i j))
    = dRow (bx x i) (bg g) (ba a i) (line (R := 640) (C := 1024) d i) j := by
  have e1 : (show EReal from k0_pay1 (F := Ideal) x (k0_pay8 (F := Ideal) x g a) (k0_pay9 (F := Ideal) x g d a) (ix2 i j))
      = k0_pay9 (F := Ideal) x g d a (ix2 i j) + k0_pay8 (F := Ideal) x g a (ix2 i j) * x (ix2 i j) := by
    pointwise [k0_pay1]
  have e9 : (show EReal from k0_pay9 (F := Ideal) x g d a (ix2 i j)) = (d (ix2 i j) : EReal) + k0_pay7 (F := Ideal) g a (ix2 i j) * k0_pay4 (F := Ideal) x (ix2 i 0)
      + x (ix2 i j) * k0_pay8 (F := Ideal) x g a (ix2 i j) := by
    pointwise [k0_pay9]
  unfold dRow dNorm
  rw [← pay8_apply x g a i j, ← pay4_apply x i, ← pay7_apply g a i j, ← add_assoc, ← add_assoc]
  exact e1.trans (congrArg (fun z : EReal => z + k0_pay8 (F := Ideal) x g a (ix2 i j) * x (ix2 i j)) e9)

/-- A later point adds its part to the result. -/
theorem pay2_apply (s w : FVec Ideal S1x1024 .f32) (y : S1x1024.Idx) : k0_pay2 (F := Ideal) s w y = (w y + s y : EReal) := by
  unfold k0_pay2
  rw [shapeCast_self]
  rfl

end Pay

variable (m : (ℓ : Loc nD τ sig) → Buf (Elt Ideal) ℓ)

/-- The rows, the gain, what comes by the other way, and the gradient of the normed rows. -/
abbrev X (c : Dev nD) : FVec Ideal S8320x1024 .f32 := m ((c : Thread nD τ).loc main_arg0)
abbrev N (c : Dev nD) : FVec Ideal S1x1024 .f32 := m ((c : Thread nD τ).loc main_arg1)
abbrev D (c : Dev nD) : FVec Ideal S8320x1024 .f32 := m ((c : Thread nD τ).loc main_arg2)
abbrev A (c : Dev nD) : FVec Ideal S8320x1024 .bf16 := m ((c : Thread nD τ).loc main_arg3)

theorem idx : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![0, 0] := (by decide +kernel : ∀ t : Fin grid0.N, _)

/-- The row of the matrix that a row of a point's block is. -/
def row (t : Fin cfg0.N) (i : Fin 640) : Fin 8320 := ⟨t.val * 640 + i.val, by have := lt_of_lt_of_eq t.isLt N_0; omega⟩

theorem emb4 (t : Fin cfg0.N) (i : Fin 640) (j : Fin 1024) : (win0_4.blk t).view.emb (ix2 i j) = (ix2 (row t i) j : S8320x1024.Idx) := by
  have := lt_of_lt_of_eq t.isLt N_0
  unfold row
  blk_ext [(idx t).2.2.2.2.1]

theorem emb5 (t : Fin cfg0.N) (j : Fin 1024) : (win0_5.blk t).view.emb (ix2 0 j) = (ix2 0 j : S1x1024.Idx) := by
  have := lt_of_lt_of_eq t.isLt N_0
  blk_ext [(idx t).2.2.2.2.2]

/-- The gradient of the rows, and the sum of the first `n` rows' parts of the gain's. -/
def G4 (c : Dev nD) : FVec Ideal S8320x1024 .f32 := fun y =>
  dRow (line (R := 8320) (C := 1024) (X m c) (y 0)) (line (R := 1) (C := 1024) (N m c) 0) (line (R := 8320) (C := 1024) (A m c) (y 0)) (line (R := 8320) (C := 1024) (D m c) (y 0)) (y 1)
def S (c : Dev nD) (j : Fin 1024) (n : ℕ) : EReal := upTo (colOf (R := 8320) (C := 1024) (gains (X m c) (A m c)) j) n
def G5 (c : Dev nD) : FVec Ideal S1x1024 .f32 := fun y => S m c (y 1) 8320

section Run

variable (c : Dev nD) (t : Fin cfg0.N)

/-- The lines of a point's blocks are those of the matrices. -/
theorem line0 (i : Fin 640) : bx (show FVec Ideal S640x1024 .f32 from iblk m c 0 t) i = line (R := 8320) (C := 1024) (X m c) (row t i) := funext fun k => by
  have := lt_of_lt_of_eq t.isLt N_0
  unfold row bx line
  blk_ext [iblk, V, (idx t).1]

theorem line1 : bg (show FVec Ideal S1x1024 .f32 from iblk m c 1 t) = line (R := 1) (C := 1024) (N m c) 0 := funext fun k => by
  have := lt_of_lt_of_eq t.isLt N_0
  unfold bg line
  blk_ext [iblk, V, (idx t).2.1]

theorem line2 (i : Fin 640) : line (R := 640) (C := 1024) (show FVec Ideal S640x1024 .f32 from iblk m c 2 t) i = line (R := 8320) (C := 1024) (D m c) (row t i) :=
  funext fun k => by
  have := lt_of_lt_of_eq t.isLt N_0
  unfold row line
  blk_ext [iblk, V, (idx t).2.2.1]

theorem line3 (i : Fin 640) : ba (show FVec Ideal S640x1024 .bf16 from iblk m c 3 t) i = line (R := 8320) (C := 1024) (A m c) (row t i) := funext fun k => by
  have := lt_of_lt_of_eq t.isLt N_0
  unfold row ba line
  blk_ext [iblk, V, (idx t).2.2.2.1]

/-- What a point computes of the rows' gradient, -/
theorem run1 (i : Fin 640) (j : Fin 1024) : (show EReal from k0_pay1 (F := Ideal) (iblk m c 0 t) (k0_pay8 (F := Ideal) (iblk m c 0 t) (iblk m c 1 t) (iblk m c 3 t))
    (k0_pay9 (F := Ideal) (iblk m c 0 t) (iblk m c 1 t) (iblk m c 2 t) (iblk m c 3 t)) (ix2 i j)) = G4 m c (ix2 (row t i) j) := by
  refine (pay1_apply _ _ _ _ i j).trans ?_
  rw [line0, line1, line2, line3]
  rfl

/-- and its part of the gain's, with those of the rows before. -/
theorem run6 (j : Fin 1024) : S m c j (t.val * 640) + (show EReal from k0_pay6 (F := Ideal) (iblk m c 0 t) (iblk m c 3 t) (ix2 0 j)) = S m c j (t.val * 640 + 640) := by
  refine Eq.trans ?_ (upTo_rows 640 (colOf (R := 8320) (C := 1024) (gains (X m c) (A m c)) j) (t.val * 640))
  refine congrArg₂ (· + ·) rfl ((pay6_apply _ _ j).trans (Finset.sum_congr rfl fun i _ => ?_))
  rw [line0, line3]
  exact (colOf_at (R := 8320) (C := 1024) (gains (X m c) (A m c)) j (row t i)).symm

end Run

/-- What a point leaves. -/
structure Left (c : Dev nD) (t : Fin cfg0.N) : Prop where
  summed : ∀ j : Fin 1024, (outsAt0 m c t.val t.isLt).2 (ix2 0 j) = S m c j (t.val * 640 + 640)
  gradient : ∀ (i : Fin 640) (j : Fin 1024), (outsAt0 m c t.val t.isLt).1 (ix2 i j) = G4 m c (ix2 (row t i) j)

theorem first (c : Dev nD) (t : Fin cfg0.N) (h : t.val = 0) : Left m c t := by
  refine ⟨fun j => ?_, fun i j => ?_⟩
  · have r6 := run6 m c t j
    rw [show S m c j (t.val * 640) = 0 from by rw [h, Nat.zero_mul]; unfold S upTo; exact Finset.sum_range_zero _, zero_add] at r6
    rw [outsAt0_A m c t (by omega) (by omega), ← r6]
    frame_out
  · rw [outsAt0_A m c t (by omega) (by omega), ← run1 m c t i j]
    frame_out

theorem next (c : Dev nD) (t : Fin cfg0.N) (h : t.val ≠ 0) (ih : Left m c ⟨t.val - 1, Nat.lt_of_le_of_lt (Nat.sub_le _ _) t.isLt⟩) : Left m c t := by
  have := lt_of_lt_of_eq t.isLt N_0
  refine ⟨fun j => ?_, fun i j => ?_⟩
  · have r6 := run6 m c t j
    rw [← (ih.summed j).trans (congrArg (S m c j) (show (t.val - 1) * 640 + 640 = t.val * 640 by omega))] at r6
    rw [outsAt0_B m c t (by omega) (by omega), ← r6]
    frame_out
    rw [pay2_apply]
  · rw [outsAt0_B m c t (by omega) (by omega), ← run1 m c t i j]
    frame_out

theorem left (c : Dev nD) : ∀ (n : ℕ) (h : n < cfg0.N), Left m c ⟨n, h⟩
  | 0, h => first m c ⟨0, h⟩ rfl
  | n + 1, h => next m c ⟨n + 1, h⟩ (Nat.succ_ne_zero n) (left c n (by omega))

theorem final4 (c : Dev nD) : (dats m 0 c).arrAt 4 cfg0.N = G4 m c := by
  refine (dats m 0 c).arrAt_eq_of_covers 4 (G4 m c) (by decide +kernel) fun t hf y => ?_
  rw [after0_4]
  blk_simp
  obtain ⟨i, j, rfl⟩ : ∃ (i : Fin 640) (j : Fin 1024), y = ix2 i j := ⟨y 0, y 1, eq_ix2 y⟩
  rw [emb4]
  exact (left m c t.val t.isLt).gradient i j

theorem final5 (c : Dev nD) : (dats m 0 c).arrAt 5 cfg0.N = G5 m c := by
  refine (dats m 0 c).arrAt_eq_of_covers 5 (G5 m c) (by decide +kernel) fun t hf y => ?_
  rw [after0_5]
  have h := (flush0_5 t).mp hf
  blk_simp
  obtain ⟨i, j, rfl⟩ : ∃ (i : Fin 1) (j : Fin 1024), y = ix2 i j := ⟨y 0, y 1, eq_ix2 y⟩
  obtain rfl : i = 0 := Subsingleton.elim _ _
  rw [emb5]
  have e := (left m c t.val t.isLt).summed j
  have := lt_of_lt_of_eq t.isLt N_0
  rw [show t.val * 640 + 640 = 8320 from by omega] at e
  exact e

end Cert.Kernel25Ideal.Gate

namespace Cert.Proof

open Idealize.ShloMosaic Idealize.ShloMosaic.TcCoe Idealize.SL.Sem

theorem norm_gradient : Cert.algebraic_Kernel25Ideal_Reference25Ideal (hKernel25Ideal := Kernel25Ideal.Gen.facts)
    (hReference25Ideal := Reference25Ideal.Gen.facts) := by
  intro m g m' g' _ hargs
  refine ⟨Kernel25Ideal.Gate.G4 m, Kernel25Ideal.Gate.G5 m, ?_, ?_⟩
  · exact (θ_run _ _ _).mono (fun r h c => ⟨((h c).1.trans (Kernel25Ideal.Gate.final4 m c)), ((h c).2.1.trans (Kernel25Ideal.Gate.final5 m c)), (h c).2.2⟩)
      (Kernel25Ideal.Value.run_blocks m g)
  · refine (θ_run _ _ _).mono (fun r h c => ⟨((h c).1.trans ?_), ((h c).2.1.trans ?_), (h c).2.2⟩) (Reference25Ideal.Value.run m' g')
    · rw [Reference25Ideal.Read.val_main_v35_eq, (hargs c).1, (hargs c).2.1, (hargs c).2.2.1, (hargs c).2.2.2]
      refine funext fun (y : Reference25Ideal.S8320x1024.Idx) => ?_
      obtain ⟨r, j, rfl⟩ : ∃ (r : Fin 8320) (j : Fin 1024), y = ix2 r j := ⟨y 0, y 1, eq_ix2 y⟩
      exact Reference25Ideal.Gate.v35_apply _ _ _ _ r j
    · rw [Reference25Ideal.Read.val_main_v18_eq, (hargs c).1, (hargs c).2.2.2]
      refine funext fun (y : Reference25Ideal.S1x1024.Idx) => ?_
      obtain ⟨i, j, rfl⟩ : ∃ (i : Fin 1) (j : Fin 1024), y = ix2 i j := ⟨y 0, y 1, eq_ix2 y⟩
      obtain rfl : i = 0 := Subsingleton.elim _ _
      exact Reference25Ideal.Gate.v18_apply _ _ j

end Cert.Proof
-- ==== Proof.Gate.Resid.lean ====
module

public import proofs.«01_k».proof.Proof.Gate.NormBwd
public import proofs.«01_k».proof.Proof.Gen.Kernel27Ideal.Value
public import proofs.«01_k».proof.Proof.Gen.Reference27Ideal.Read

@[expose] public section

set_option maxRecDepth 16384

noncomputable section

namespace Cert.Reference27Ideal.Gate

open Cert.Reference27Ideal Cert.Reference27Ideal.Gen
open Idealize.ShloMosaic Idealize.ShloMosaic.TcCoe Idealize.SL.Sem

/-! # The gradient of a residual sum with a normed row

The reference's two computed results are those of the first norm's, taken of other arrays. -/

variable (x : FVec Ideal S8320x1024 .bf16) (g : FVec Ideal S1x1024 .f32) (a : FVec Ideal S8320x1024 .f32)

theorem v17_eq : Read.val_main_v17 (F := Ideal) a = a := by
  unfold Read.val_main_v17
  exact shapeCast_self _ _

theorem v37_eq : Read.val_main_v37 (F := Ideal) x g a = Reference25Ideal.Read.val_main_v34 (F := Ideal) x g a := by
  unfold Read.val_main_v37 Read.val_main_v36 Read.val_main_v35 Read.val_main_v34 Read.val_main_v33 Read.val_main_v32 Read.val_main_v31 Read.val_main_v30
    Read.val_main_v28 Read.val_main_v27 Read.val_main_v25 Read.val_main_v24 Read.val_main_v23 Read.val_main_v22
  rw [v17_eq]
  rfl

theorem v20_eq : Read.val_main_v20 (F := Ideal) x a = Reference25Ideal.Read.val_main_v18 (F := Ideal) x a := by
  unfold Read.val_main_v20 Read.val_main_v19 Read.val_main_v18
  rw [v17_eq]
  rfl

end Cert.Reference27Ideal.Gate

namespace Cert.Kernel27Ideal.Gate

open Cert.Kernel27Ideal Cert.Kernel27Ideal.Gen Cert.Gate
open Idealize.ShloMosaic Idealize.ShloMosaic.TcCoe Idealize.ShloMosaic.Tactic
open Idealize.ShloMosaic.Pipeline (Dat Cfg Window)
open Cert.Kernel25Ideal.Gate (bx bg ba)

section Pay

variable (x : FVec Ideal S640x1024 .bf16) (g : FVec Ideal S1x1024 .f32) (a : FVec Ideal S640x1024 .f32) (i : Fin 640) (j : Fin 1024)

/-- The kernel's pieces are those of the first norm's gradient, too. -/
theorem pay7_eq : k0_pay7 (F := Ideal) x a = Kernel25Ideal.Gen.k0_pay6 (F := Ideal) x a := by
  unfold k0_pay7 k0_pay6
  rw [shapeCast_self]
  rfl

theorem pay8_apply : (show EReal from k0_pay8 (F := Ideal) x g a (ix2 i j)) = dNorm (bx x i) (bg g) (ba a i) j := by
  have e : (show EReal from k0_pay8 (F := Ideal) x g a (ix2 i j)) = Kernel25Ideal.Gen.k0_pay7 (F := Ideal) g a (ix2 i j) * k0_pay5 (F := Ideal) x (ix2 i 0)
      + (x (ix2 i j) : EReal) * Kernel25Ideal.Gen.k0_pay8 (F := Ideal) x g a (ix2 i j) + Kernel25Ideal.Gen.k0_pay8 (F := Ideal) x g a (ix2 i j) * x (ix2 i j) := by
    unfold k0_pay8 k0_pay6
    rw [shapeCast_self]
    pointwise [k0_pay3, k0_pay4, k0_pay5, Kernel25Ideal.Gen.k0_pay8, Kernel25Ideal.Gen.k0_pay7, Kernel25Ideal.Gen.k0_pay5, Kernel25Ideal.Gen.k0_pay4, Kernel25Ideal.Gen.k0_pay3]
  unfold dNorm
  rw [← Kernel25Ideal.Gate.pay8_apply x g a i j, ← Kernel25Ideal.Gate.pay4_apply x i, ← Kernel25Ideal.Gate.pay7_apply g a i j]
  exact e

end Pay

variable (m : (ℓ : Loc nD τ sig) → Buf (Elt Ideal) ℓ)

/-- The rows, the gain, and the sum's gradient. -/
abbrev X (c : Dev nD) : FVec Ideal S8320x1024 .bf16 := m ((c : Thread nD τ).loc main_arg1)
abbrev N (c : Dev nD) : FVec Ideal S1x1024 .f32 := m ((c : Thread nD τ).loc main_arg2)
abbrev A (c : Dev nD) : FVec Ideal S8320x1024 .f32 := m ((c : Thread nD τ).loc main_arg3)

theorem idx : ∀ t : Fin cfg0.N, win0_1.index t = ![t.val, 0] ∧ win0_2.index t = ![0, 0] ∧ win0_3.index t = ![t.val, 0] ∧ win0_4.index t = ![t.val, 0]
    ∧ win0_5.index t = ![t.val, 0] ∧ win0_6.index t = ![0, 0] := (by decide +kernel : ∀ t : Fin grid0.N, _)

/-- The row of the matrix that a row of a point's block is. -/
def row (t : Fin cfg0.N) (i : Fin 640) : Fin 8320 := ⟨t.val * 640 + i.val, by have := lt_of_lt_of_eq t.isLt N_0; omega⟩

section Run

variable (c : Dev nD) (t : Fin cfg0.N) (i : Fin 640) (j : Fin 1024)

theorem line1 : bx (show FVec Ideal S640x1024 .bf16 from iblk m c 1 t) i = line (R := 8320) (C := 1024) (X m c) (row t i) := funext fun k => by
  have := lt_of_lt_of_eq t.isLt N_0
  unfold row bx line
  blk_ext [iblk, V, (idx t).1]

theorem line2 : bg (show FVec Ideal S1x1024 .f32 from iblk m c 2 t) = line (R := 1) (C := 1024) (N m c) 0 := funext fun k => by
  have := lt_of_lt_of_eq t.isLt N_0
  unfold bg line
  blk_ext [iblk, V, (idx t).2.1]

theorem line3 : ba (show FVec Ideal S640x1024 .f32 from iblk m c 3 t) i = line (R := 8320) (C := 1024) (A m c) (row t i) := funext fun k => by
  have := lt_of_lt_of_eq t.isLt N_0
  unfold row ba line
  blk_ext [iblk, V, (idx t).2.2.1]

theorem emb4 : (win0_4.blk t).view.emb (ix2 i j) = (ix2 (row t i) j : S8320x1024.Idx) := by
  have := lt_of_lt_of_eq t.isLt N_0
  unfold row
  blk_ext [(idx t).2.2.2.1]

theorem emb5 : (win0_5.blk t).view.emb (ix2 i j) = (ix2 (row t i) j : S8320x1024.Idx) := by
  have := lt_of_lt_of_eq t.isLt N_0
  unfold row
  blk_ext [(idx t).2.2.2.2.1]

theorem emb6 : (win0_6.blk t).view.emb (ix2 0 j) = (ix2 0 j : S1x1024.Idx) := by
  have := lt_of_lt_of_eq t.isLt N_0
  blk_ext [(idx t).2.2.2.2.2]

/-- The gradient of the rows, and the sum of the first `n` rows' parts of the gain's. -/
def G5 : FVec Ideal S8320x1024 .bf16 := fun y =>
  dNorm (line (R := 8320) (C := 1024) (X m c) (y 0)) (line (R := 1) (C := 1024) (N m c) 0) (line (R := 8320) (C := 1024) (A m c) (y 0)) (y 1)
def S (n : ℕ) : EReal := upTo (colOf (R := 8320) (C := 1024) (gains (X m c) (A m c)) j) n
def G6 : FVec Ideal S1x1024 .f32 := fun y => S m c (y 1) 8320

theorem run8 : (show EReal from k0_pay8 (F := Ideal) (iblk m c 1 t) (iblk m c 2 t) (iblk m c 3 t) (ix2 i j)) = G5 m c (ix2 (row t i) j) := by
  refine (pay8_apply _ _ _ i j).trans ?_
  rw [line1, line2, line3]
  rfl

theorem run7 : S m c j (t.val * 640) + (show EReal from k0_pay7 (F := Ideal) (iblk m c 1 t) (iblk m c 3 t) (ix2 0 j)) = S m c j (t.val * 640 + 640) := by
  refine Eq.trans ?_ (upTo_rows 640 (colOf (R := 8320) (C := 1024) (gains (X m c) (A m c)) j) (t.val * 640))
  rw [pay7_eq]
  refine congrArg₂ (· + ·) rfl ((Kernel25Ideal.Gate.pay6_apply _ _ j).trans (Finset.sum_congr rfl fun i _ => ?_))
  rw [line1, line3]
  exact (colOf_at (R := 8320) (C := 1024) (gains (X m c) (A m c)) j (row t i)).symm

/-- What a point leaves of the rows' gradients, whichever point it is, -/
theorem rows : (outsAt0 m c t.val t.isLt).1 (ix2 i j) = A m c (ix2 (row t i) j) ∧ (outsAt0 m c t.val t.isLt).2.1 (ix2 i j) = G5 m c (ix2 (row t i) j) := by
  have := lt_of_lt_of_eq t.isLt N_0
  have e := congrFun (line3 m c t i) j
  rw [← run8 m c t i j]
  by_cases h : t.val = 0
  · rw [outsAt0_A m c t (by omega) (by omega)]
    exact ⟨Eq.trans (by frame_out; rfl) e, by frame_out; rfl⟩
  · rw [outsAt0_B m c t (by omega) (by omega)]
    exact ⟨Eq.trans (by frame_out; rfl) e, by frame_out; rfl⟩

end Run

/-- and of the gain's. -/
theorem left (c : Dev nD) (j : Fin 1024) : ∀ (n : ℕ) (h : n < cfg0.N), (outsAt0 m c n h).2.2 (ix2 0 j) = S m c j (n * 640 + 640)
  | 0, h => by
    have r7 := run7 m c ⟨0, h⟩ j
    rw [show S m c j ((⟨0, h⟩ : Fin cfg0.N).val * 640) = 0 from by rw [Nat.zero_mul]; unfold S upTo; exact Finset.sum_range_zero _, zero_add] at r7
    refine Eq.trans ?_ r7
    rw [outsAt0_A m c ⟨0, h⟩ rfl (Nat.not_succ_le_zero 0)]
    frame_out
  | n + 1, h => by
    have := lt_of_lt_of_eq h N_0
    have r7 := run7 m c ⟨n + 1, h⟩ j
    rw [show (⟨n + 1, h⟩ : Fin cfg0.N).val * 640 = n * 640 + 640 from Nat.succ_mul n 640, ← left c j n (by omega)] at r7
    refine Eq.trans ?_ (r7.trans (congrArg (fun b => S m c j (b + 640)) (Nat.succ_mul n 640).symm))
    rw [outsAt0_B m c ⟨n + 1, h⟩ (by show ¬(n + 1) % 13 = 0; omega) (by show 1 ≤ n + 1; omega)]
    frame_out
    exact Kernel25Ideal.Gate.pay2_apply _ _ _

theorem final4 (c : Dev nD) : (dats m 0 c).arrAt 4 cfg0.N = A m c := by
  refine (dats m 0 c).arrAt_eq_of_covers 4 (A m c) (by decide +kernel) fun t hf y => ?_
  rw [after0_4]
  blk_simp
  obtain ⟨i, j, rfl⟩ : ∃ (i : Fin 640) (j : Fin 1024), y = ix2 i j := ⟨y 0, y 1, eq_ix2 y⟩
  rw [emb4]
  exact (rows m c t i j).1

theorem final5 (c : Dev nD) : (dats m 0 c).arrAt 5 cfg0.N = G5 m c := by
  refine (dats m 0 c).arrAt_eq_of_covers 5 (G5 m c) (by decide +kernel) fun t hf y => ?_
  rw [after0_5]
  blk_simp
  obtain ⟨i, j, rfl⟩ : ∃ (i : Fin 640) (j : Fin 1024), y = ix2 i j := ⟨y 0, y 1, eq_ix2 y⟩
  rw [emb5]
  exact (rows m c t i j).2

theorem final6 (c : Dev nD) : (dats m 0 c).arrAt 6 cfg0.N = G6 m c := by
  refine (dats m 0 c).arrAt_eq_of_covers 6 (G6 m c) (by decide +kernel) fun t hf y => ?_
  rw [after0_6]
  have h := (flush0_6 t).mp hf
  blk_simp
  obtain ⟨i, j, rfl⟩ : ∃ (i : Fin 1) (j : Fin 1024), y = ix2 i j := ⟨y 0, y 1, eq_ix2 y⟩
  obtain rfl : i = 0 := Subsingleton.elim _ _
  rw [emb6]
  have e := left m c j t.val t.isLt
  have := lt_of_lt_of_eq t.isLt N_0
  rw [show t.val * 640 + 640 = 8320 from by omega] at e
  exact e

end Cert.Kernel27Ideal.Gate

namespace Cert.Proof

open Idealize.ShloMosaic Idealize.ShloMosaic.TcCoe Idealize.SL.Sem

theorem residual_gradient : Cert.algebraic_Kernel27Ideal_Reference27Ideal (hKernel27Ideal := Kernel27Ideal.Gen.facts)
    (hReference27Ideal := Reference27Ideal.Gen.facts) := by
  intro m g m' g' _ hargs
  refine ⟨Kernel27Ideal.Gate.A m, Kernel27Ideal.Gate.G5 m, Kernel27Ideal.Gate.G6 m, ?_, ?_⟩
  · exact (θ_run _ _ _).mono (fun r h c => ⟨(h c).1.trans (Kernel27Ideal.Gate.final4 m c), (h c).2.1.trans (Kernel27Ideal.Gate.final5 m c),
      (h c).2.2.1.trans (Kernel27Ideal.Gate.final6 m c), (h c).2.2.2⟩) (Kernel27Ideal.Value.run_blocks m g)
  · refine (θ_run _ _ _).mono (fun r h c => ⟨(h c).1.trans (hargs c).2.2.2, (h c).2.1.trans ?_, (h c).2.2.1.trans ?_, (h c).2.2.2⟩) (Reference27Ideal.Value.run m' g')
    · rw [Reference27Ideal.Read.val_main_v37_eq, (hargs c).2.1, (hargs c).2.2.1, (hargs c).2.2.2, Reference27Ideal.Gate.v37_eq]
      refine funext fun (y : Reference27Ideal.S8320x1024.Idx) => ?_
      obtain ⟨r, j, rfl⟩ : ∃ (r : Fin 8320) (j : Fin 1024), y = ix2 r j := ⟨y 0, y 1, eq_ix2 y⟩
      exact Reference25Ideal.Gate.v34_apply _ _ _ r j
    · refine (Reference27Ideal.Read.val_main_v20_eq _ _).trans ?_
      rw [(hargs c).2.1, (hargs c).2.2.2, Reference27Ideal.Gate.v20_eq]
      refine funext fun (y : Reference27Ideal.S1x1024.Idx) => ?_
      obtain ⟨i, j, rfl⟩ : ∃ (i : Fin 1) (j : Fin 1024), y = ix2 i j := ⟨y 0, y 1, eq_ix2 y⟩
      obtain rfl : i = 0 := Subsingleton.elim _ _
      exact Reference25Ideal.Gate.v18_apply _ _ j

end Cert.Proof
-- ==== Proof.Gate.Mix.lean ====
module

public import proofs.«01_k».proof.Proof.Gate.Resid
public import proofs.«01_k».proof.Proof.Gen.Kernel28Ideal.Value
public import proofs.«01_k».proof.Proof.Gen.Reference28Ideal.Read

@[expose] public section

set_option maxRecDepth 16384

noncomputable section

namespace Cert.Gate

open Idealize.ShloMosaic

/-! # The gradient of a residual sum with a normed row, and of the norm that follows -/

/-- A matrix of rows with the normed rows of another added. -/
def hsum (h x : (⟨2, ![8320, 1024]⟩ : Shape).Idx → EReal) (g : (⟨2, ![1, 1024]⟩ : Shape).Idx → EReal) : (⟨2, ![8320, 1024]⟩ : Shape).Idx → EReal :=
  fun y => h y + norms x g y

/-- The gradient of the rows under a norm, alone and with what comes by the other way. -/
def dNorms (x a : (⟨2, ![8320, 1024]⟩ : Shape).Idx → EReal) (g : (⟨2, ![1, 1024]⟩ : Shape).Idx → EReal) : (⟨2, ![8320, 1024]⟩ : Shape).Idx → EReal :=
  fun y => dNorm (line (R := 8320) (C := 1024) x (y 0)) (line (R := 1) (C := 1024) g 0) (line (R := 8320) (C := 1024) a (y 0)) (y 1)
def dRows (x a d : (⟨2, ![8320, 1024]⟩ : Shape).Idx → EReal) (g : (⟨2, ![1, 1024]⟩ : Shape).Idx → EReal) : (⟨2, ![8320, 1024]⟩ : Shape).Idx → EReal :=
  fun y => d y + dNorms x a g y

/-- The gradient of the gain, up to a row and in full. -/
def gainTo (x a : (⟨2, ![8320, 1024]⟩ : Shape).Idx → EReal) (j : Fin 1024) (n : ℕ) : EReal := upTo (colOf (R := 8320) (C := 1024) (gains x a) j) n
def gainOf (x a : (⟨2, ![8320, 1024]⟩ : Shape).Idx → EReal) : (⟨2, ![1, 1024]⟩ : Shape).Idx → EReal := fun y => gainTo x a (y 1) 8320

end Cert.Gate

namespace Cert.Reference28Ideal.Gate

open Cert.Reference28Ideal Cert.Reference28Ideal.Gen Cert.Gate
open Idealize.ShloMosaic Idealize.ShloMosaic.TcCoe Idealize.SL.Sem

variable (h : FVec Ideal S8320x1024 .f32) (x : FVec Ideal S8320x1024 .bf16) (p n : FVec Ideal S1x1024 .f32) (d : FVec Ideal S8320x1024 .f32)
  (b : FVec Ideal S8320x1024 .bf16)

/-- The sum that the second norm is taken of. -/
theorem v16_eq : Read.val_main_v16 (F := Ideal) h x p = hsum h x p := by
  unfold hsum
  rw [← Reference26Ideal.Gate.v12_eq]
  rfl

/-- The four results are those of the two gradients before, of other arrays. -/
theorem v52_eq : Read.val_main_v52 (F := Ideal) h x p n d b = dRows (hsum h x p) b d n := by
  refine Eq.trans (b := Reference25Ideal.Read.val_main_v35 (F := Ideal) (Read.val_main_v16 (F := Ideal) h x p) n d b) (funext fun (y : S8320x1024.Idx) => ?_) ?_
  · have e : (show EReal from Read.val_main_v52 (F := Ideal) h x p n d b y) = (d y : EReal)
        + Reference25Ideal.Read.val_main_v25 (F := Ideal) (Read.val_main_v16 (F := Ideal) h x p) n b y
        + Reference25Ideal.Read.val_main_v31 (F := Ideal) (Read.val_main_v16 (F := Ideal) h x p) n b y
        + Reference25Ideal.Read.val_main_v33 (F := Ideal) (Read.val_main_v16 (F := Ideal) h x p) n b y := rfl
    refine e.trans ?_
    rw [add_assoc, add_assoc, ← add_assoc (Reference25Ideal.Read.val_main_v25 (F := Ideal) _ n b y : EReal)]
    rfl
  · rw [v16_eq]
    refine funext fun (y : S8320x1024.Idx) => ?_
    obtain ⟨r, j, rfl⟩ : ∃ (r : Fin 8320) (j : Fin 1024), y = ix2 r j := ⟨y 0, y 1, eq_ix2 y⟩
    exact Reference25Ideal.Gate.v35_apply _ _ _ _ r j

theorem gain_eq (u a : FVec Ideal S8320x1024 .f32) : Reference25Ideal.Read.val_main_v18 (F := Ideal) u a = gainOf u a := by
  refine funext fun (y : S1x1024.Idx) => ?_
  obtain ⟨i, j, rfl⟩ : ∃ (i : Fin 1) (j : Fin 1024), y = ix2 i j := ⟨y 0, y 1, eq_ix2 y⟩
  obtain rfl : i = 0 := Subsingleton.elim _ _
  exact Reference25Ideal.Gate.v18_apply _ _ j

theorem v35_eq : Read.val_main_v35 (F := Ideal) h x p b = gainOf (hsum h x p) b := by
  rw [← v16_eq]
  exact Eq.trans rfl (gain_eq _ _)

theorem v56_eq : Read.val_main_v56 (F := Ideal) h x p n d b = gainOf x (dRows (hsum h x p) b d n) := by
  rw [← v52_eq]
  exact Eq.trans (Eq.trans rfl (Reference27Ideal.Gate.v20_eq x (Read.val_main_v52 (F := Ideal) h x p n d b))) (gain_eq _ _)

theorem v73_eq : Read.val_main_v73 (F := Ideal) h x p n d b = dNorms x (dRows (hsum h x p) b d n) p := by
  rw [← v52_eq]
  refine Eq.trans (Eq.trans rfl (Reference27Ideal.Gate.v37_eq x p (Read.val_main_v52 (F := Ideal) h x p n d b))) ?_
  refine funext fun (y : S8320x1024.Idx) => ?_
  obtain ⟨r, j, rfl⟩ : ∃ (r : Fin 8320) (j : Fin 1024), y = ix2 r j := ⟨y 0, y 1, eq_ix2 y⟩
  exact Reference25Ideal.Gate.v34_apply _ _ _ r j

end Cert.Reference28Ideal.Gate

namespace Cert.Kernel28Ideal.Gate

open Cert.Kernel28Ideal Cert.Kernel28Ideal.Gen Cert.Gate
open Idealize.ShloMosaic Idealize.ShloMosaic.TcCoe Idealize.ShloMosaic.Tactic
open Idealize.ShloMosaic.Pipeline (Dat Cfg Window)
open Cert.Kernel25Ideal.Gate (bx bg ba)

section Pay

variable (h : FVec Ideal S640x1024 .f32) (x : FVec Ideal S640x1024 .bf16) (p n : FVec Ideal S1x1024 .f32) (d : FVec Ideal S640x1024 .f32)
  (b : FVec Ideal S640x1024 .bf16) (i : Fin 640) (j : Fin 1024)

/-- A block's sums, and its gradient of them. -/
theorem pay8_apply : (show EReal from k0_pay8 (F := Ideal) h x p (ix2 i j)) = h (ix2 i j) + normed (bx x i) (bg p) j := by
  unfold normed scale spread bx bg line
  pointwise [k0_pay8, k0_pay7, k0_pay5, k0_pay4, k0_pay3]

abbrev up : FVec Ideal S640x1024 .f32 := k0_pay15 (F := Ideal) n (k0_pay8 (F := Ideal) h x p) (k0_pay10 (F := Ideal) h x p) (k0_pay11 (F := Ideal) h x p) d b

theorem up_eq : up h x p n d b = Kernel25Ideal.Gen.k0_pay1 (F := Ideal) (k0_pay8 (F := Ideal) h x p)
    (Kernel25Ideal.Gen.k0_pay8 (F := Ideal) (k0_pay8 (F := Ideal) h x p) n b) (Kernel25Ideal.Gen.k0_pay9 (F := Ideal) (k0_pay8 (F := Ideal) h x p) n d b) := rfl

/-- The rest are the pieces of the two gradients before. -/
theorem pay14_eq : k0_pay14 (F := Ideal) (k0_pay12 (F := Ideal) h x p) b = Kernel25Ideal.Gen.k0_pay6 (F := Ideal) (k0_pay8 (F := Ideal) h x p) b := rfl

theorem pay17_eq : k0_pay17 (F := Ideal) n (k0_pay7 (F := Ideal) x) (k0_pay8 (F := Ideal) h x p) (k0_pay10 (F := Ideal) h x p) (k0_pay11 (F := Ideal) h x p) d b
    = Kernel27Ideal.Gen.k0_pay7 (F := Ideal) x (up h x p n d b) := rfl

theorem pay18_eq : k0_pay18 (F := Ideal) (k0_pay3 (F := Ideal) x) p n (k0_pay5 (F := Ideal) x) (k0_pay6 (F := Ideal) x) (k0_pay8 (F := Ideal) h x p)
    (k0_pay10 (F := Ideal) h x p) (k0_pay11 (F := Ideal) h x p) d b = Kernel27Ideal.Gen.k0_pay8 (F := Ideal) x p (up h x p n d b) := rfl

end Pay

variable (m : (ℓ : Loc nD τ sig) → Buf (Elt Ideal) ℓ)

/-- The two terms, the two gains, and the gradients that come by the other way and through the second norm. -/
abbrev H (c : Dev nD) : FVec Ideal S8320x1024 .f32 := m ((c : Thread nD τ).loc main_arg0)
abbrev X (c : Dev nD) : FVec Ideal S8320x1024 .bf16 := m ((c : Thread nD τ).loc main_arg1)
abbrev P (c : Dev nD) : FVec Ideal S1x1024 .f32 := m ((c : Thread nD τ).loc main_arg2)
abbrev N (c : Dev nD) : FVec Ideal S1x1024 .f32 := m ((c : Thread nD τ).loc main_arg3)
abbrev D (c : Dev nD) : FVec Ideal S8320x1024 .f32 := m ((c : Thread nD τ).loc main_arg4)
abbrev B (c : Dev nD) : FVec Ideal S8320x1024 .bf16 := m ((c : Thread nD τ).loc main_arg5)

/-- The sum and the four results. -/
def U (c : Dev nD) : FVec Ideal S8320x1024 .f32 := hsum (H m c) (X m c) (P m c)
def G6 (c : Dev nD) : FVec Ideal S8320x1024 .f32 := dRows (U m c) (B m c) (D m c) (N m c)
def G7 (c : Dev nD) : FVec Ideal S8320x1024 .bf16 := dNorms (X m c) (G6 m c) (P m c)
def G8 (c : Dev nD) : FVec Ideal S1x1024 .f32 := gainOf (X m c) (G6 m c)
def G9 (c : Dev nD) : FVec Ideal S1x1024 .f32 := gainOf (U m c) (B m c)

theorem idx : ∀ t : Fin cfg0.N, (win0_0.index t = ![t.val, 0] ∧ win0_1.index t = ![t.val, 0] ∧ win0_2.index t = ![0, 0] ∧ win0_3.index t = ![0, 0]
    ∧ win0_4.index t = ![t.val, 0] ∧ win0_5.index t = ![t.val, 0]) ∧ win0_6.index t = ![t.val, 0] ∧ win0_7.index t = ![t.val, 0]
    ∧ win0_8.index t = ![0, 0] ∧ win0_9.index t = ![0, 0] := (by decide +kernel : ∀ t : Fin grid0.N, _)

/-- The row of the matrix that a row of a point's block is. -/
def row (t : Fin cfg0.N) (i : Fin 640) : Fin 8320 := ⟨t.val * 640 + i.val, by have := lt_of_lt_of_eq t.isLt N_0; omega⟩

section Run

variable (c : Dev nD) (t : Fin cfg0.N) (i : Fin 640) (j : Fin 1024)

theorem line0 : ba (show FVec Ideal S640x1024 .f32 from iblk m c 0 t) i = line (R := 8320) (C := 1024) (H m c) (row t i) := funext fun k => by
  have := lt_of_lt_of_eq t.isLt N_0
  unfold row ba line
  blk_ext [iblk, V, (idx t).1.1]

theorem line1 : bx (show FVec Ideal S640x1024 .bf16 from iblk m c 1 t) i = line (R := 8320) (C := 1024) (X m c) (row t i) := funext fun k => by
  have := lt_of_lt_of_eq t.isLt N_0
  unfold row bx line
  blk_ext [iblk, V, (idx t).1.2.1]

theorem line2 : bg (show FVec Ideal S1x1024 .f32 from iblk m c 2 t) = line (R := 1) (C := 1024) (P m c) 0 := funext fun k => by
  have := lt_of_lt_of_eq t.isLt N_0
  unfold bg line
  blk_ext [iblk, V, (idx t).1.2.2.1]

theorem line3 : bg (show FVec Ideal S1x1024 .f32 from iblk m c 3 t) = line (R := 1) (C := 1024) (N m c) 0 := funext fun k => by
  have := lt_of_lt_of_eq t.isLt N_0
  unfold bg line
  blk_ext [iblk, V, (idx t).1.2.2.2.1]

theorem line4 : ba (show FVec Ideal S640x1024 .f32 from iblk m c 4 t) i = line (R := 8320) (C := 1024) (D m c) (row t i) := funext fun k => by
  have := lt_of_lt_of_eq t.isLt N_0
  unfold row ba line
  blk_ext [iblk, V, (idx t).1.2.2.2.2.1]

theorem line5 : ba (show FVec Ideal S640x1024 .bf16 from iblk m c 5 t) i = line (R := 8320) (C := 1024) (B m c) (row t i) := funext fun k => by
  have := lt_of_lt_of_eq t.isLt N_0
  unfold row ba line
  blk_ext [iblk, V, (idx t).1.2.2.2.2.2]

theorem emb6 : (win0_6.blk t).view.emb (ix2 i j) = (ix2 (row t i) j : S8320x1024.Idx) := by
  have := lt_of_lt_of_eq t.isLt N_0
  unfold row
  blk_ext [(idx t).2.1]

theorem emb7 : (win0_7.blk t).view.emb (ix2 i j) = (ix2 (row t i) j : S8320x1024.Idx) := by
  have := lt_of_lt_of_eq t.isLt N_0
  unfold row
  blk_ext [(idx t).2.2.1]

theorem emb8 : (win0_8.blk t).view.emb (ix2 0 j) = (ix2 0 j : S1x1024.Idx) := by
  have := lt_of_lt_of_eq t.isLt N_0
  blk_ext [(idx t).2.2.2.1]

theorem emb9 : (win0_9.blk t).view.emb (ix2 0 j) = (ix2 0 j : S1x1024.Idx) := by
  have := lt_of_lt_of_eq t.isLt N_0
  blk_ext [(idx t).2.2.2.2]

/-- The point's block of the sum, and of its gradient. -/
abbrev ub : FVec Ideal S640x1024 .f32 := k0_pay8 (F := Ideal) (iblk m c 0 t) (iblk m c 1 t) (iblk m c 2 t)
abbrev gb : FVec Ideal S640x1024 .f32 := up (iblk m c 0 t) (iblk m c 1 t) (iblk m c 2 t) (iblk m c 3 t) (iblk m c 4 t) (iblk m c 5 t)

theorem lineU : bx (ub m c t) i = line (R := 8320) (C := 1024) (U m c) (row t i) := funext fun k => by
  refine (pay8_apply _ _ _ i k).trans ?_
  rw [line1, line2]
  exact congrArg (fun z : EReal => z + normed (line (R := 8320) (C := 1024) (X m c) (row t i)) (line (R := 1) (C := 1024) (P m c) 0) k) (congrFun (line0 m c t i) k)

theorem run6 : (show EReal from gb m c t (ix2 i j)) = G6 m c (ix2 (row t i) j) := by
  unfold gb
  rw [up_eq]
  refine (Kernel25Ideal.Gate.pay1_apply _ _ _ _ i j).trans ?_
  rw [lineU, line3, line5]
  exact congrArg (fun z => dRow _ _ _ z j) (line4 m c t i)

theorem lineG : ba (gb m c t) i = line (R := 8320) (C := 1024) (G6 m c) (row t i) := funext fun k => run6 m c t i k

theorem run7 : (show EReal from Kernel27Ideal.Gen.k0_pay8 (F := Ideal) (iblk m c 1 t) (iblk m c 2 t) (gb m c t) (ix2 i j)) = G7 m c (ix2 (row t i) j) := by
  refine (Kernel27Ideal.Gate.pay8_apply _ _ _ i j).trans ?_
  rw [line1, line2, lineG]
  rfl

theorem run8 : gainTo (X m c) (G6 m c) j (t.val * 640) + (show EReal from Kernel27Ideal.Gen.k0_pay7 (F := Ideal) (iblk m c 1 t) (gb m c t) (ix2 0 j))
    = gainTo (X m c) (G6 m c) j (t.val * 640 + 640) := by
  refine Eq.trans ?_ (upTo_rows 640 (colOf (R := 8320) (C := 1024) (gains (X m c) (G6 m c)) j) (t.val * 640))
  rw [Kernel27Ideal.Gate.pay7_eq]
  refine congrArg₂ (· + ·) rfl ((Kernel25Ideal.Gate.pay6_apply _ _ j).trans (Finset.sum_congr rfl fun i _ => ?_))
  rw [line1, lineG]
  exact (colOf_at (R := 8320) (C := 1024) (gains (X m c) (G6 m c)) j (row t i)).symm

theorem run9 : gainTo (U m c) (B m c) j (t.val * 640) + (show EReal from Kernel25Ideal.Gen.k0_pay6 (F := Ideal) (ub m c t) (iblk m c 5 t) (ix2 0 j))
    = gainTo (U m c) (B m c) j (t.val * 640 + 640) := by
  refine Eq.trans ?_ (upTo_rows 640 (colOf (R := 8320) (C := 1024) (gains (U m c) (B m c)) j) (t.val * 640))
  refine congrArg₂ (· + ·) rfl ((Kernel25Ideal.Gate.pay6_apply _ _ j).trans (Finset.sum_congr rfl fun i _ => ?_))
  rw [lineU, line5]
  exact (colOf_at (R := 8320) (C := 1024) (gains (U m c) (B m c)) j (row t i)).symm

/-- What a point leaves of the rows' gradients, whichever point it is, -/
theorem rows : (outsAt0 m c t.val t.isLt).1 (ix2 i j) = G6 m c (ix2 (row t i) j) ∧ (outsAt0 m c t.val t.isLt).2.1 (ix2 i j) = G7 m c (ix2 (row t i) j) := by
  have := lt_of_lt_of_eq t.isLt N_0
  rw [← run6 m c t i j, ← run7 m c t i j]
  by_cases h : t.val = 0
  · rw [outsAt0_A m c t (by omega) (by omega) (by omega) (by omega)]
    exact ⟨by frame_out, by frame_out; rfl⟩
  · rw [outsAt0_B m c t (by omega) (by omega) (by omega) (by omega)]
    exact ⟨by frame_out, by frame_out; rfl⟩

end Run

theorem gainTo_zero (x a : FVec Ideal S8320x1024 .f32) (j : Fin 1024) : gainTo x a j (0 * 640) = 0 := by
  rw [Nat.zero_mul]
  unfold gainTo upTo
  exact Finset.sum_range_zero _

/-- and of the gains'. -/
theorem left (c : Dev nD) (j : Fin 1024) : ∀ (n : ℕ) (h : n < cfg0.N), (outsAt0 m c n h).2.2.1 (ix2 0 j) = gainTo (X m c) (G6 m c) j (n * 640 + 640)
    ∧ (outsAt0 m c n h).2.2.2 (ix2 0 j) = gainTo (U m c) (B m c) j (n * 640 + 640)
  | 0, h => by
    have r8 := run8 m c ⟨0, h⟩ j
    have r9 := run9 m c ⟨0, h⟩ j
    rw [show gainTo (X m c) (G6 m c) j ((⟨0, h⟩ : Fin cfg0.N).val * 640) = 0 from gainTo_zero (X m c) (G6 m c) j, zero_add] at r8
    rw [show gainTo (U m c) (B m c) j ((⟨0, h⟩ : Fin cfg0.N).val * 640) = 0 from gainTo_zero (U m c) (B m c) j, zero_add] at r9
    rw [outsAt0_A m c ⟨0, h⟩ rfl (Nat.not_succ_le_zero 0) rfl (Nat.not_succ_le_zero 0)]
    exact ⟨Eq.trans (by frame_out; rfl) r8, Eq.trans (by frame_out; rfl) r9⟩
  | n + 1, h => by
    have := lt_of_lt_of_eq h N_0
    have r8 := run8 m c ⟨n + 1, h⟩ j
    have r9 := run9 m c ⟨n + 1, h⟩ j
    have l := left c j n (by omega)
    rw [show (⟨n + 1, h⟩ : Fin cfg0.N).val * 640 = n * 640 + 640 from Nat.succ_mul n 640] at r8 r9
    rw [← l.1] at r8
    rw [← l.2] at r9
    rw [outsAt0_B m c ⟨n + 1, h⟩ (by show ¬(n + 1) % 13 = 0; omega) (by show 1 ≤ n + 1; omega) (by show ¬(n + 1) % 13 = 0; omega) (by show 1 ≤ n + 1; omega),
      show (n + 1) * 640 = n * 640 + 640 from Nat.succ_mul n 640]
    exact ⟨Eq.trans (by frame_out; exact Kernel25Ideal.Gate.pay2_apply _ _ _) r8, Eq.trans (by frame_out; exact Kernel25Ideal.Gate.pay2_apply _ _ _) r9⟩

theorem final6 (c : Dev nD) : (dats m 0 c).arrAt 6 cfg0.N = G6 m c := by
  refine (dats m 0 c).arrAt_eq_of_covers 6 (G6 m c) (by decide +kernel) fun t hf y => ?_
  rw [after0_6]
  blk_simp
  obtain ⟨i, j, rfl⟩ : ∃ (i : Fin 640) (j : Fin 1024), y = ix2 i j := ⟨y 0, y 1, eq_ix2 y⟩
  rw [emb6]
  exact (rows m c t i j).1

theorem final7 (c : Dev nD) : (dats m 0 c).arrAt 7 cfg0.N = G7 m c := by
  refine (dats m 0 c).arrAt_eq_of_covers 7 (G7 m c) (by decide +kernel) fun t hf y => ?_
  rw [after0_7]
  blk_simp
  obtain ⟨i, j, rfl⟩ : ∃ (i : Fin 640) (j : Fin 1024), y = ix2 i j := ⟨y 0, y 1, eq_ix2 y⟩
  rw [emb7]
  exact (rows m c t i j).2

theorem final8 (c : Dev nD) : (dats m 0 c).arrAt 8 cfg0.N = G8 m c := by
  refine (dats m 0 c).arrAt_eq_of_covers 8 (G8 m c) (by decide +kernel) fun t hf y => ?_
  rw [after0_8]
  have h := (flush0_8 t).mp hf
  blk_simp
  obtain ⟨i, j, rfl⟩ : ∃ (i : Fin 1) (j : Fin 1024), y = ix2 i j := ⟨y 0, y 1, eq_ix2 y⟩
  obtain rfl : i = 0 := Subsingleton.elim _ _
  rw [emb8]
  have e := (left m c j t.val t.isLt).1
  have := lt_of_lt_of_eq t.isLt N_0
  rw [show t.val * 640 + 640 = 8320 from by omega] at e
  exact e

theorem final9 (c : Dev nD) : (dats m 0 c).arrAt 9 cfg0.N = G9 m c := by
  refine (dats m 0 c).arrAt_eq_of_covers 9 (G9 m c) (by decide +kernel) fun t hf y => ?_
  rw [after0_9]
  have h := (flush0_9 t).mp hf
  blk_simp
  obtain ⟨i, j, rfl⟩ : ∃ (i : Fin 1) (j : Fin 1024), y = ix2 i j := ⟨y 0, y 1, eq_ix2 y⟩
  obtain rfl : i = 0 := Subsingleton.elim _ _
  rw [emb9]
  have e := (left m c j t.val t.isLt).2
  have := lt_of_lt_of_eq t.isLt N_0
  rw [show t.val * 640 + 640 = 8320 from by omega] at e
  exact e

end Cert.Kernel28Ideal.Gate

namespace Cert.Proof

open Idealize.ShloMosaic Idealize.ShloMosaic.TcCoe Idealize.SL.Sem

theorem mix_gradient : Cert.algebraic_Kernel28Ideal_Reference28Ideal (hKernel28Ideal := Kernel28Ideal.Gen.facts)
    (hReference28Ideal := Reference28Ideal.Gen.facts) := by
  intro m g m' g' _ hargs
  refine ⟨Kernel28Ideal.Gate.G6 m, Kernel28Ideal.Gate.G7 m, Kernel28Ideal.Gate.G8 m, Kernel28Ideal.Gate.G9 m, ?_, ?_⟩
  · exact (θ_run _ _ _).mono (fun r h c => ⟨(h c).1.trans (Kernel28Ideal.Gate.final6 m c), (h c).2.1.trans (Kernel28Ideal.Gate.final7 m c),
      (h c).2.2.1.trans (Kernel28Ideal.Gate.final8 m c), (h c).2.2.2.1.trans (Kernel28Ideal.Gate.final9 m c), (h c).2.2.2.2⟩) (Kernel28Ideal.Value.run_blocks m g)
  · refine (θ_run _ _ _).mono (fun r h c => ?_) (Reference28Ideal.Value.run m' g')
    obtain ⟨e0, e1, e2, e3, e4, e5⟩ := hargs c
    refine ⟨(h c).1.trans ?_, (h c).2.1.trans ?_, (h c).2.2.1.trans ?_, (h c).2.2.2.1.trans ?_, (h c).2.2.2.2⟩
    · rw [Reference28Ideal.Read.val_main_v52_eq, e0, e1, e2, e3, e4, e5]
      exact Reference28Ideal.Gate.v52_eq _ _ _ _ _ _
    · rw [Reference28Ideal.Read.val_main_v73_eq, e0, e1, e2, e3, e4, e5]
      exact Reference28Ideal.Gate.v73_eq _ _ _ _ _ _
    · rw [Reference28Ideal.Read.val_main_v56_eq, e0, e1, e2, e3, e4, e5]
      exact Reference28Ideal.Gate.v56_eq _ _ _ _ _ _
    · refine (Reference28Ideal.Read.val_main_v35_eq _ _ _ _).trans ?_
      rw [e0, e1, e2, e5]
      exact Reference28Ideal.Gate.v35_eq _ _ _ _

end Cert.Proof
-- ==== Proof.Gate.MixFwd.lean ====
module

public import proofs.«01_k».proof.Proof.Gate.Mix
public import proofs.«01_k».proof.Proof.Gen.Kernel29Ideal.Value
public import proofs.«01_k».proof.Proof.Gen.Reference29Ideal.Read

@[expose] public section

set_option maxRecDepth 16384

noncomputable section

namespace Cert.Reference29Ideal.Gate

open Cert.Reference29Ideal Cert.Reference29Ideal.Gen Cert.Gate
open Idealize.ShloMosaic Idealize.ShloMosaic.TcCoe Idealize.SL.Sem

/-! # A residual sum with a normed row, and the norm that follows -/

variable (h : FVec Ideal S8320x1024 .f32) (x : FVec Ideal S8320x1024 .bf16) (p n : FVec Ideal S1x1024 .f32)

theorem v13_eq : Read.val_main_v13 (F := Ideal) h x p = hsum h x p := Eq.trans rfl (Reference28Ideal.Gate.v16_eq h x p)

theorem v26_eq : Read.val_main_v26 (F := Ideal) h x p n = norms (hsum h x p) n := by
  rw [← v13_eq, ← Reference26Ideal.Gate.v12_eq]
  rfl

theorem v27_eq : Read.val_main_v27 (F := Ideal) h x p n = turned (norms (hsum h x p) n) := by
  rw [← v13_eq, ← Reference26Ideal.Gate.v13_eq]
  rfl

end Cert.Reference29Ideal.Gate

namespace Cert.Kernel29Ideal.Gate

open Cert.Kernel29Ideal Cert.Kernel29Ideal.Gen Cert.Gate
open Idealize.ShloMosaic Idealize.ShloMosaic.TcCoe Idealize.ShloMosaic.Tactic
open Idealize.ShloMosaic.Pipeline (Dat Cfg Window)
open Cert.Kernel25Ideal.Gate (bx bg ba)

variable (m : (ℓ : Loc nD τ sig) → Buf (Elt Ideal) ℓ)

/-- The two terms and the two gains, -/
abbrev H (c : Dev nD) : FVec Ideal S8320x1024 .f32 := m ((c : Thread nD τ).loc main_arg0)
abbrev X (c : Dev nD) : FVec Ideal S8320x1024 .bf16 := m ((c : Thread nD τ).loc main_arg1)
abbrev P (c : Dev nD) : FVec Ideal S1x1024 .f32 := m ((c : Thread nD τ).loc main_arg2)
abbrev N (c : Dev nD) : FVec Ideal S1x1024 .f32 := m ((c : Thread nD τ).loc main_arg3)

/-- the sum, and its norm, also turned. -/
def G4 (c : Dev nD) : FVec Ideal S8320x1024 .f32 := hsum (H m c) (X m c) (P m c)
def G5 (c : Dev nD) : FVec Ideal S8320x1024 .bf16 := norms (G4 m c) (N m c)
def G6 (c : Dev nD) : FVec Ideal S1024x8320 .bf16 := turned (norms (G4 m c) (N m c))

theorem idx : ∀ t : Fin cfg0.N, (win0_0.index t = ![t.val, 0] ∧ win0_1.index t = ![t.val, 0] ∧ win0_2.index t = ![0, 0] ∧ win0_3.index t = ![0, 0])
    ∧ win0_4.index t = ![t.val, 0] ∧ win0_5.index t = ![t.val, 0] ∧ win0_6.index t = ![0, t.val] := (by decide +kernel : ∀ t : Fin grid0.N, _)

/-- The row of the matrix that a row of a point's block is. -/
def row (t : Fin cfg0.N) (i : Fin 640) : Fin 8320 := ⟨t.val * 640 + i.val, by have := lt_of_lt_of_eq t.isLt N_0; omega⟩

variable (c : Dev nD) (t : Fin cfg0.N) (i : Fin 640) (j : Fin 1024)

theorem line0 : (show FVec Ideal S640x1024 .f32 from iblk m c 0 t) (ix2 i j) = H m c (ix2 (row t i) j) := by
  have := lt_of_lt_of_eq t.isLt N_0
  unfold row
  blk_ext [iblk, V, (idx t).1.1]

theorem line1 : bx (show FVec Ideal S640x1024 .bf16 from iblk m c 1 t) i = line (R := 8320) (C := 1024) (X m c) (row t i) := funext fun k => by
  have := lt_of_lt_of_eq t.isLt N_0
  unfold row bx line
  blk_ext [iblk, V, (idx t).1.2.1]

theorem line2 : bg (show FVec Ideal S1x1024 .f32 from iblk m c 2 t) = line (R := 1) (C := 1024) (P m c) 0 := funext fun k => by
  have := lt_of_lt_of_eq t.isLt N_0
  unfold bg line
  blk_ext [iblk, V, (idx t).1.2.2.1]

theorem line3 : bg (show FVec Ideal S1x1024 .f32 from iblk m c 3 t) = line (R := 1) (C := 1024) (N m c) 0 := funext fun k => by
  have := lt_of_lt_of_eq t.isLt N_0
  unfold bg line
  blk_ext [iblk, V, (idx t).1.2.2.2]

theorem emb4 : (win0_4.blk t).view.emb (ix2 i j) = (ix2 (row t i) j : S8320x1024.Idx) := by
  have := lt_of_lt_of_eq t.isLt N_0
  unfold row
  blk_ext [(idx t).2.1]

theorem emb5 : (win0_5.blk t).view.emb (ix2 i j) = (ix2 (row t i) j : S8320x1024.Idx) := by
  have := lt_of_lt_of_eq t.isLt N_0
  unfold row
  blk_ext [(idx t).2.2.1]

theorem emb6 : (win0_6.blk t).view.emb (ix2 j i) = (ix2 j (row t i) : S1024x8320.Idx) := by
  have := lt_of_lt_of_eq t.isLt N_0
  unfold row
  blk_ext [(idx t).2.2.2]

/-- A point's block of the sum, -/
abbrev ub : FVec Ideal S640x1024 .f32 := Kernel28Ideal.Gen.k0_pay8 (F := Ideal) (iblk m c 0 t) (iblk m c 1 t) (iblk m c 2 t)

theorem run4 : (show EReal from ub m c t (ix2 i j)) = G4 m c (ix2 (row t i) j) := by
  refine (Kernel28Ideal.Gate.pay8_apply _ _ _ i j).trans ?_
  rw [line1, line2]
  exact congrArg (fun z : EReal => z + normed (line (R := 8320) (C := 1024) (X m c) (row t i)) (line (R := 1) (C := 1024) (P m c) 0) j) (line0 m c t i j)

/-- and of the norm. -/
theorem run5 : (show EReal from Kernel26Ideal.Gen.k0_pay1 (F := Ideal) (ub m c t) (iblk m c 3 t) (ix2 i j)) = G5 m c (ix2 (row t i) j) := by
  have e : bx (ub m c t) i = line (R := 8320) (C := 1024) (G4 m c) (row t i) := funext fun k => run4 m c t i k
  exact (Kernel26Ideal.Gate.pay1_apply _ _ i j).trans (congrArg₂ (fun x g => normed x g j) e (line3 m c t))

theorem final4 : (dats m 0 c).arrAt 4 cfg0.N = G4 m c := by
  refine (dats m 0 c).arrAt_eq_of_covers 4 (G4 m c) (by decide +kernel) fun t hf y => ?_
  rw [after0_4]
  blk_simp
  obtain ⟨i, j, rfl⟩ : ∃ (i : Fin 640) (j : Fin 1024), y = ix2 i j := ⟨y 0, y 1, eq_ix2 y⟩
  rw [emb4, ← run4]
  frame_out
  rfl

theorem final5 : (dats m 0 c).arrAt 5 cfg0.N = G5 m c := by
  refine (dats m 0 c).arrAt_eq_of_covers 5 (G5 m c) (by decide +kernel) fun t hf y => ?_
  rw [after0_5]
  blk_simp
  obtain ⟨i, j, rfl⟩ : ∃ (i : Fin 640) (j : Fin 1024), y = ix2 i j := ⟨y 0, y 1, eq_ix2 y⟩
  rw [emb5, ← run5]
  frame_out
  rfl

theorem final6 : (dats m 0 c).arrAt 6 cfg0.N = G6 m c := by
  refine (dats m 0 c).arrAt_eq_of_covers 6 (G6 m c) (by decide +kernel) fun t hf y => ?_
  rw [after0_6]
  blk_simp
  obtain ⟨j, i, rfl⟩ : ∃ (j : Fin 1024) (i : Fin 640), y = ix2 j i := ⟨y 0, y 1, eq_ix2 y⟩
  rw [emb6]
  refine Eq.trans ?_ ((Kernel26Ideal.Gate.pay3_apply (ub m c t) (iblk m c 3 t) i j).trans (run5 m c t i j))
  frame_out
  rfl

end Cert.Kernel29Ideal.Gate

namespace Cert.Proof

open Idealize.ShloMosaic Idealize.ShloMosaic.TcCoe Idealize.SL.Sem

theorem mix : Cert.algebraic_Kernel29Ideal_Reference29Ideal (hKernel29Ideal := Kernel29Ideal.Gen.facts)
    (hReference29Ideal := Reference29Ideal.Gen.facts) := by
  intro m g m' g' _ hargs
  refine ⟨Kernel29Ideal.Gate.G4 m, Kernel29Ideal.Gate.G5 m, Kernel29Ideal.Gate.G6 m, ?_, ?_⟩
  · exact (θ_run _ _ _).mono (fun r h c => ⟨(h c).1.trans (Kernel29Ideal.Gate.final4 m c), (h c).2.1.trans (Kernel29Ideal.Gate.final5 m c),
      (h c).2.2.1.trans (Kernel29Ideal.Gate.final6 m c), (h c).2.2.2⟩) (Kernel29Ideal.Value.run_blocks m g)
  · refine (θ_run _ _ _).mono (fun r h c => ?_) (Reference29Ideal.Value.run m' g')
    obtain ⟨e0, e1, e2, e3⟩ := hargs c
    refine ⟨(h c).1.trans ((Reference29Ideal.Read.val_main_v13_eq _ _ _).trans ?_), (h c).2.1.trans ((Reference29Ideal.Read.val_main_v26_eq _ _ _ _).trans ?_),
      (h c).2.2.1.trans ((Reference29Ideal.Read.val_main_v27_eq _ _ _ _).trans ?_), (h c).2.2.2⟩
    · rw [e0, e1, e2]
      exact Reference29Ideal.Gate.v13_eq _ _ _
    · rw [e0, e1, e2, e3]
      exact Reference29Ideal.Gate.v26_eq _ _ _ _
    · rw [e0, e1, e2, e3]
      exact Reference29Ideal.Gate.v27_eq _ _ _ _

end Cert.Proof
-- ==== Proof.Gate.ResidFwd.lean ====
module

public import proofs.«01_k».proof.Proof.Gate.MixFwd
public import proofs.«01_k».proof.Proof.Gen.Kernel30Ideal.Value
public import proofs.«01_k».proof.Proof.Gen.Reference30Ideal.Read

@[expose] public section

set_option maxRecDepth 16384

noncomputable section

namespace Cert.Kernel30Ideal.Gate

open Cert.Kernel30Ideal Cert.Kernel30Ideal.Gen Cert.Gate
open Idealize.ShloMosaic Idealize.ShloMosaic.TcCoe Idealize.ShloMosaic.Tactic
open Idealize.ShloMosaic.Pipeline (Dat Cfg Window)
open Cert.Kernel25Ideal.Gate (bx bg)

/-! # A residual sum with a normed row -/

variable (m : (ℓ : Loc nD τ sig) → Buf (Elt Ideal) ℓ)

/-- The two terms, the gain, and the sum. -/
abbrev H (c : Dev nD) : FVec Ideal S8320x1024 .f32 := m ((c : Thread nD τ).loc main_arg0)
abbrev X (c : Dev nD) : FVec Ideal S8320x1024 .bf16 := m ((c : Thread nD τ).loc main_arg1)
abbrev P (c : Dev nD) : FVec Ideal S1x1024 .f32 := m ((c : Thread nD τ).loc main_arg2)
def G3 (c : Dev nD) : FVec Ideal S8320x1024 .f32 := hsum (H m c) (X m c) (P m c)

theorem idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

/-- The row of the matrix that a row of a point's block is. -/
def row (t : Fin cfg0.N) (i : Fin 640) : Fin 8320 := ⟨t.val * 640 + i.val, by have := lt_of_lt_of_eq t.isLt N_0; omega⟩

variable (c : Dev nD) (t : Fin cfg0.N) (i : Fin 640) (j : Fin 1024)

theorem line0 : (show FVec Ideal S640x1024 .f32 from iblk m c 0 t) (ix2 i j) = H m c (ix2 (row t i) j) := by
  have := lt_of_lt_of_eq t.isLt N_0
  unfold row
  blk_ext [iblk, V, (idx t).1]

theorem line1 : bx (show FVec Ideal S640x1024 .bf16 from iblk m c 1 t) i = line (R := 8320) (C := 1024) (X m c) (row t i) := funext fun k => by
  have := lt_of_lt_of_eq t.isLt N_0
  unfold row bx line
  blk_ext [iblk, V, (idx t).2.1]

theorem line2 : bg (show FVec Ideal S1x1024 .f32 from iblk m c 2 t) = line (R := 1) (C := 1024) (P m c) 0 := funext fun k => by
  have := lt_of_lt_of_eq t.isLt N_0
  unfold bg line
  blk_ext [iblk, V, (idx t).2.2.1]

theorem emb3 : (win0_3.blk t).view.emb (ix2 i j) = (ix2 (row t i) j : S8320x1024.Idx) := by
  have := lt_of_lt_of_eq t.isLt N_0
  unfold row
  blk_ext [(idx t).2.2.2]

theorem final3 : (dats m 0 c).arrAt 3 cfg0.N = G3 m c := by
  refine (dats m 0 c).arrAt_eq_of_covers 3 (G3 m c) (by decide +kernel) fun t hf y => ?_
  rw [after0_3]
  blk_simp
  obtain ⟨i, j, rfl⟩ : ∃ (i : Fin 640) (j : Fin 1024), y = ix2 i j := ⟨y 0, y 1, eq_ix2 y⟩
  have e := Kernel28Ideal.Gate.pay8_apply (iblk m c 0 t) (iblk m c 1 t) (iblk m c 2 t) i j
  rw [line1, line2] at e
  rw [emb3]
  refine Eq.trans ?_ (e.trans (congrArg (fun z : EReal => z + normed (line (R := 8320) (C := 1024) (X m c) (row t i)) (line (R := 1) (C := 1024) (P m c) 0) j)
    (line0 m c t i j)))
  frame_out
  rfl

end Cert.Kernel30Ideal.Gate

namespace Cert.Proof

open Idealize.ShloMosaic Idealize.ShloMosaic.TcCoe Idealize.SL.Sem

theorem residual : Cert.algebraic_Kernel30Ideal_Reference30Ideal (hKernel30Ideal := Kernel30Ideal.Gen.facts)
    (hReference30Ideal := Reference30Ideal.Gen.facts) := by
  intro m g m' g' _ hargs
  refine ⟨Kernel30Ideal.Gate.G3 m, ?_, ?_⟩
  · exact (θ_run _ _ _).mono (fun r h c => ⟨(h c).1.trans (Kernel30Ideal.Gate.final3 m c), (h c).2⟩) (Kernel30Ideal.Value.run_blocks m g)
  · refine (θ_run _ _ _).mono (fun r h c => ⟨(h c).1.trans ((Reference30Ideal.Read.val_main_v13_eq _ _ _).trans ?_), (h c).2⟩) (Reference30Ideal.Value.run m' g')
    rw [(hargs c).1, (hargs c).2.1, (hargs c).2.2]
    exact Eq.trans rfl (Reference28Ideal.Gate.v16_eq _ _ _)

end Cert.Proof
-- ==== Proof.Gate.Act.lean ====
module

public import proofs.«01_k».proof.Proof.Gate.Geglu
public import proofs.«01_k».proof.Proof.Gate.ConvRef
public import proofs.«01_k».proof.Proof.Gen.Kernel24Ideal.Value
public import proofs.«01_k».proof.Proof.Gen.Reference24Ideal.Read
public import Idealize.ShloMosaic.Lib.Pipeline.ValueKit
public import Idealize.ShloMosaic.Lib.WritesUnit
public import Idealize.ShloMosaic.Lib.VecWindow

@[expose] public section

set_option maxRecDepth 16384

noncomputable section

namespace Cert.Gate

open Idealize.ShloMosaic

/-- The gated unit's output: the gate, bent, times the factor. -/
def act (x u : Ideal .f32) : Ideal .f32 := FloatOps.mulf (FloatOps.mulf x (half x)) u

/-- A row of the convolution: the row itself and the two rows before it, rows before the first being zero. -/
def blend (w0 w1 w2 : EReal) (q : ℕ → EReal) (r : ℕ) : EReal :=
  w2 * q r + w0 * (if r < 2 then 0 else q (r - 2)) + w1 * (if r < 1 then 0 else q (r - 1))

end Cert.Gate

namespace Cert.Kernel24Ideal.Act

open Cert.Kernel24Ideal Cert.Kernel24Ideal.Gen Cert.Gate
open Idealize.ShloMosaic Idealize.ShloMosaic.TcCoe Idealize.ShloMosaic.Tactic Idealize.SL.Sem

/-! # What one grid point leaves

The point puts the eight rows before its tile and the tile one after the other, and reads them back two rows and one row up. -/

section Run

variable {F : FTy → Type} [FloatOps F]

/-- The eight rows before a tile, and the tile. -/
def both (b : FVec F S8x512 .f32) (a : FVec F S1664x512 .f32) : FVec F S1672x512 .f32 := fun y =>
  if h : (y 0).val < 8 then b (ix2 ⟨(y 0).val, h⟩ (y 1))
  else a (ix2 ⟨(y 0).val - 8, by have h0 : (y 0).val < 1672 := (y 0).isLt; omega⟩ (y 1))

theorem both_before (b : FVec F S8x512 .f32) (a : FVec F S1664x512 .f32) (k : Fin 1672) (j : Fin 512) (h : k.val < 8) : both b a (ix2 k j) = b (ix2 ⟨k.val, h⟩ j) := dif_pos h

theorem both_in (b : FVec F S8x512 .f32) (a : FVec F S1664x512 .f32) (k : Fin 1672) (j : Fin 512) (h : ¬ k.val < 8) :
    both b a (ix2 k j) = a (ix2 ⟨k.val - 8, by omega⟩ j) := dif_neg h

/-- A tile's worth of rows from the row `s`. -/
def rows (s : ℕ) (E : FVec F S1672x512 .f32) : FVec F S1664x512 .f32 := fun y =>
  E (ix2 ⟨(s + (y 0).val) % 1672, Nat.mod_lt _ (by omega)⟩ (y 1))

theorem both_eq {sp : Space} (a : View sig .tc sp S1672x512 .f32) (f : BufTy.Contents (Elt F) a.ty) (u : FVec F S1664x512 .f32) (v : FVec F S8x512 .f32) :
    a.read (Elt F) (a.writes (Elt F) f [⟨Rect.unit (s := S1672x512) ![8, 0] S1664x512.size inb_S1672x512_S1664x512_8_0, u⟩, ⟨Rect.unit (s := S1672x512) ![0, 0] S8x512.size inb_S1672x512_S8x512_0_0, v⟩])
      = both v u := by
  funext y
  have hy : (y 0).val < 1672 := (y 0).isLt
  unfold both
  by_cases h : (y 0).val < 8
  · rw [dif_pos h]
    refine (View.read_writes_cons_rows_of_not_mem a f (W := 1664) inb_S1672x512_S1664x512_8_0 u _ y rfl rfl (Or.inl h)).trans ?_
    exact View.read_writes_cons_rows_of_mem a f inb_S1672x512_S8x512_0_0 v _ y (ix2 ⟨(y 0).val, h⟩ (y 1)) rfl (Nat.zero_add _).symm rfl
  · rw [dif_neg h]
    exact View.read_writes_cons_rows_of_mem a f inb_S1672x512_S1664x512_8_0 u _ y (ix2 ⟨(y 0).val - 8, by omega⟩ (y 1)) rfl (by show (y 0).val = 8 + ((y 0).val - 8); omega) rfl

theorem readAt_rows {sp : Space} (a : Memref sig .tc sp S1672x512 .f32) (f : BufTy.Contents (Elt F) a.view.ty)
    (s : ℕ) (inb : ∀ x, (![s, 0] : Fin 2 → ℕ) x + S1664x512.size x ≤ S1672x512.size x) :
    a.view.readAt (Elt F) (Rect.unit (s := S1672x512) ![s, 0] S1664x512.size inb).toLoadRect f = rows s (a.view.read (Elt F) f) := by
  funext y
  have hb : s + 1664 ≤ 1672 := inb 0
  have hy : (y 0).val < 1664 := (y 0).isLt
  refine congrArg (a.view.read (Elt F) f) (funext fun x => Fin.ext ?_)
  match x with
  | 0 => show s + 1 * (y 0).val = (s + (y 0).val) % 1672; omega
  | 1 => show 0 + 1 * (y 1).val = (y 1).val; omega

variable (c : Dev nD) (i : grid0.Coords) (arg2 : Memref sig .tc .vmem S1664x512 .bf16) (harg2 : arg2.IsWhole)
  (arg3 : Memref sig .tc .vmem S8x512 .bf16) (harg3 : arg3.IsWhole) (arg4 : Memref sig .tc .vmem S3x512 .f32) (harg4 : arg4.IsWhole)
  (arg5 : Memref sig .tc .vmem S1664x256 .bf16) (harg5 : arg5.IsWhole) (arg6 : Memref sig .tc .vmem S1664x512 .bf16) (harg6 : arg6.IsWhole)
  (arg7 : Memref sig .tc .vmem S256x1664 .bf16) (harg7 : arg7.IsWhole) (arg8 : Memref sig .tc .vmem S1672x512 .f32) (harg8 : arg8.IsWhole)
  (x0 : Vec F S1664x512 .bf16) (x1 : Vec F S8x512 .bf16) (x2 : Vec F S3x512 .f32)

/-- The rows a point works on. -/
abbrev seen : FVec F S1672x512 .f32 := both (k0_pay6 i x1) (k0_pay7 x0)

/-- The convolution's tile. -/
abbrev tile : FVec F S1664x512 .f32 := k0_pay8 x0 x2 (rows 6 (seen i x0 x1)) (rows 7 (seen i x0 x1))

/-- The gate's lanes of it, and their hyperbolic tangent. -/
abbrev gate : FVec F S1664x256 .f32 := k0_pay9 x0 x2 (rows 6 (seen i x0 x1)) (rows 7 (seen i x0 x1))
abbrev bent : FVec F S1664x256 .f32 := k0_pay10 x0 x2 (rows 6 (seen i x0 x1)) (rows 7 (seen i x0 x1))

theorem load0 : arg2.view.readAt (Elt F) (Rect.unit (s := S1664x512) ![0, 0] S1664x512.size inb_S1664x512_S1664x512_0_0).toLoadRect (harg2.unread x0) = x0 :=
  (View.readAt_full ..).trans (harg2.read_unread x0)

theorem load1 : arg3.view.readAt (Elt F) (Rect.unit (s := S8x512) ![0, 0] S8x512.size inb_S8x512_S8x512_0_0).toLoadRect (harg3.unread x1) = x1 :=
  (View.readAt_full ..).trans (harg3.read_unread x1)

theorem load2 : arg4.view.readAt (Elt F) (Rect.unit (s := S3x512) ![0, 0] S3x512.size inb_S3x512_S3x512_0_0).toLoadRect (harg4.unread x2) = x2 :=
  (View.readAt_full ..).trans (harg4.read_unread x2)

theorem two_up : kernelRun0_A.sl.v18 c i arg2 harg2 arg3 harg3 arg8 x0 x1 = rows 6 (seen i x0 x1) := by
  unfold kernelRun0_A.sl.v18
  refine (readAt_rows arg8 _ 6 _).trans ?_
  refine (congrArg (rows 6) (both_eq _ _ _ _)).trans ?_
  rw [load0, load1]

theorem one_up : kernelRun0_A.sl.v23 c i arg2 harg2 arg3 harg3 arg8 x0 x1 = rows 7 (seen i x0 x1) := by
  unfold kernelRun0_A.sl.v23
  refine (readAt_rows arg8 _ 7 _).trans ?_
  refine (congrArg (rows 7) (both_eq _ _ _ _)).trans ?_
  rw [load0, load1]

theorem out_3 : out0_A_3 (F := F) c i arg2 harg2 arg3 harg3 arg4 harg4 arg5 harg5 arg6 harg6 arg7 harg7 arg8 harg8 x0 x1 x2
    = k0_pay2 (tile i x0 x1 x2) (gate i x0 x1 x2) (bent i x0 x1 x2) k0_pay11 := by
  unfold out0_A_3 kernelRun0_A
  dsimp only
  refine (View.read_writes_full ..).trans ?_
  unfold kernelRun0_A.sl.r kernelRun0_A.sl.r_1 kernelRun0_A.sl.r_2
  dsimp only
  rw [two_up, one_up, load0, load2]

theorem out_4 : out0_A_4 (F := F) c i arg2 harg2 arg3 harg3 arg4 harg4 arg5 harg5 arg6 harg6 arg7 harg7 arg8 harg8 x0 x1 x2
    = k0_pay3 (tile i x0 x1 x2) := by
  unfold out0_A_4 kernelRun0_A
  dsimp only
  refine (View.read_writes_full ..).trans ?_
  unfold kernelRun0_A.sl.r
  dsimp only
  rw [two_up, one_up, load0, load2]

theorem out_5 : out0_A_5 (F := F) c i arg2 harg2 arg3 harg3 arg4 harg4 arg5 harg5 arg6 harg6 arg7 harg7 arg8 harg8 x0 x1 x2
    = k0_pay4 (tile i x0 x1 x2) (gate i x0 x1 x2) (bent i x0 x1 x2) k0_pay11 := by
  unfold out0_A_5 kernelRun0_A
  dsimp only
  refine (View.read_writes_full ..).trans ?_
  unfold kernelRun0_A.sl.r kernelRun0_A.sl.r_1 kernelRun0_A.sl.r_2
  dsimp only
  rw [two_up, one_up, load0, load2]

end Run

open Cert.Kernel17Ideal.Gate (lo hi)
open Cert.Reference17Ideal.Gate (gcol fcol acol)

/-! # The same, place by place -/

theorem pay7_apply (v : FVec Ideal S1664x512 .bf16) (y : S1664x512.Idx) : (show EReal from k0_pay7 (F := Ideal) v y) = v y := by
  unfold k0_pay7
  rw [shapeCast_self]
  rfl

theorem pay6_apply (i : grid0.Coords) (v : FVec Ideal S8x512 .bf16) (y : S8x512.Idx) :
    (show EReal from k0_pay6 (F := Ideal) i v y) = if (i 0).val = 0 then 0 else v y := by
  have h : (i 0).val < 5 := (i 0).isLt
  unfold k0_pay6
  rw [shapeCast_self]
  generalize (i 0).val = j at h
  interval_cases j
  · exact Ideal.ofBits_zero .f32
  · rfl
  · rfl
  · rfl
  · rfl

theorem pay8_apply (x : FVec Ideal S1664x512 .bf16) (w : FVec Ideal S3x512 .f32) (a b : FVec Ideal S1664x512 .f32) (n : Fin 1664) (j : Fin 512) :
    k0_pay8 (F := Ideal) x w a b (ix2 n j) = w (ix2 2 j) * x (ix2 n j) + w (ix2 0 j) * a (ix2 n j) + w (ix2 1 j) * b (ix2 n j) := by
  pointwise [k0_pay8, k0_pay5]

theorem pay9_apply (x : FVec Ideal S1664x512 .bf16) (w : FVec Ideal S3x512 .f32) (a b : FVec Ideal S1664x512 .f32) (n : Fin 1664) (j : Fin 256) :
    k0_pay9 (F := Ideal) x w a b (ix2 n j) = k0_pay8 (F := Ideal) x w a b (ix2 n (lo j)) := by
  unfold k0_pay9
  generalize k0_pay8 (F := Ideal) x w a b = u
  unfold lo
  pointwise

theorem pay10_apply (x : FVec Ideal S1664x512 .bf16) (w : FVec Ideal S3x512 .f32) (a b : FVec Ideal S1664x512 .f32) (n : Fin 1664) (j : Fin 256) :
    k0_pay10 (F := Ideal) x w a b (ix2 n j) = bend (k0_pay8 (F := Ideal) x w a b (ix2 n (lo j))) := by
  rw [← pay9_apply x w a b n j]
  rfl

theorem pay1_apply (x : FVec Ideal S1664x512 .bf16) (w : FVec Ideal S3x512 .f32) (a b : FVec Ideal S1664x512 .f32) (n : Fin 1664) (j : Fin 256) :
    k0_pay1 (F := Ideal) (k0_pay8 x w a b) (k0_pay9 x w a b) (k0_pay10 x w a b) k0_pay11 (ix2 n j)
      = act (k0_pay8 (F := Ideal) x w a b (ix2 n (lo j))) (k0_pay8 (F := Ideal) x w a b (ix2 n (hi j))) := by
  have hs : extractStridedSlice S1664x256 ![0, 256] (k0_pay8 (F := Ideal) x w a b) slices_S1664x512_o0_256_S1664x256 (ix2 n j) = k0_pay8 (F := Ideal) x w a b (ix2 n (hi j)) := by
    generalize k0_pay8 (F := Ideal) x w a b = u
    unfold hi
    pointwise
  unfold act half
  rw [← hs, ← pay10_apply x w a b n j, ← pay9_apply x w a b n j]
  rfl

theorem pay4_apply (u : FVec Ideal S1664x512 .f32) (g d e : FVec Ideal S1664x256 .f32) (n : Fin 1664) (j : Fin 256) :
    (show EReal from k0_pay4 (F := Ideal) u g d e (ix2 j n)) = k0_pay1 (F := Ideal) u g d e (ix2 n j) := by
  show transpose S256x1664 [1, 0] (k0_pay1 (F := Ideal) u g d e) transposes_S1664x256_p1_0_S256x1664 (ix2 j n) = _
  generalize k0_pay1 (F := Ideal) u g d e = p
  exact transpose_apply [1, 0] p transposes_S1664x256_p1_0_S256x1664 (ix2 j n) (ix2 n j) (fun b => match b with
    | ⟨0, _⟩ => rfl
    | ⟨1, _⟩ => rfl)

end Cert.Kernel24Ideal.Act

namespace Cert.Reference24Ideal.Gate

open Cert.Reference24Ideal Cert.Reference24Ideal.Gen Cert.Reference24Ideal.Read Cert.Gate
open Cert.Reference17Ideal.Gate (gcol fcol acol)
open Idealize.ShloMosaic Idealize.ShloMosaic.TcCoe Idealize.SL.Sem

variable (x0 : FVec Ideal S8320x5632 .bf16) (x1 : FVec Ideal S3x5632 .f32) (r : Fin 8320)

theorem weight0 (J : Fin 5632) : val_main_v7 (F := Ideal) x1 (ix2 r J) = x1 (ix2 0 J) := by
  rw [val_main_v7_apply, val_main_v6_apply, val_main_v4_apply, val_main_v3_apply]
  refine congrArg x1 (funext fun a => match a with
    | ⟨0, _⟩ => Fin.ext rfl
    | ⟨1, _⟩ => Fin.ext (Nat.mod_eq_of_lt J.isLt))

theorem weight1 (J : Fin 5632) : val_main_v15 (F := Ideal) x1 (ix2 r J) = x1 (ix2 1 J) := by
  rw [val_main_v15_apply, val_main_v14_apply, val_main_v12_apply, val_main_v11_apply]
  refine congrArg x1 (funext fun a => match a with
    | ⟨0, _⟩ => Fin.ext rfl
    | ⟨1, _⟩ => Fin.ext (Nat.mod_eq_of_lt J.isLt))

theorem weight2 (J : Fin 5632) : val_main_v22 (F := Ideal) x1 (ix2 r J) = x1 (ix2 2 J) := by
  rw [val_main_v22_apply, val_main_v21_apply, val_main_v19_apply, val_main_v18_apply]
  refine congrArg x1 (funext fun a => match a with
    | ⟨0, _⟩ => Fin.ext rfl
    | ⟨1, _⟩ => Fin.ext (Nat.mod_eq_of_lt J.isLt))

/-- The input's column. -/
abbrev X (J : Fin 5632) (n : ℕ) : EReal := colOf (R := 8320) (C := 5632) x0 J n

/-- The input with two rows of zeros before it. -/
theorem moved (n : Fin 8322) (J : Fin 5632) : (show EReal from val_main_v2 (F := Ideal) x0 (ix2 n J)) = if n.val < 2 then 0 else X x0 J (n.val - 2) := by
  refine (before (R := 8320) (N := 8322) (P := 2) (C := 5632) (val_main_v0 (F := Ideal) x0) (val_main_v1 (F := Ideal)) (fun y => ?_) concatenates_S2x5632_S8320x5632_S8322x5632_d0 n (by omega) J)
  rw [val_main_v1_apply]
  exact Ideal.ofBits_zero .f32

/-- The convolution. -/
theorem conv_apply (J : Fin 5632) : (show EReal from val_main_v24 (F := Ideal) x0 x1 (ix2 r J)) = blend (x1 (ix2 0 J)) (x1 (ix2 1 J)) (x1 (ix2 2 J)) (X x0 J) r.val := by
  have e5 : idx_main_v5 (ix2 r J) = ix2 ⟨r.val, by omega⟩ J := funext fun a => match a with
    | ⟨0, _⟩ => rfl
    | ⟨1, _⟩ => rfl
  have e13 : idx_main_v13 (ix2 r J) = ix2 ⟨1 + r.val, by omega⟩ J := funext fun a => match a with
    | ⟨0, _⟩ => rfl
    | ⟨1, _⟩ => rfl
  have e20 : idx_main_v20 (ix2 r J) = ix2 ⟨2 + r.val, by omega⟩ J := funext fun a => match a with
    | ⟨0, _⟩ => rfl
    | ⟨1, _⟩ => rfl
  have h5 : (show EReal from val_main_v5 (F := Ideal) x0 (ix2 r J)) = if r.val < 2 then 0 else X x0 J (r.val - 2) := by
    rw [val_main_v5_apply, e5]
    exact moved x0 _ J
  have h13 : (show EReal from val_main_v13 (F := Ideal) x0 (ix2 r J)) = if r.val < 1 then 0 else X x0 J (r.val - 1) := by
    rw [val_main_v13_apply, e13]
    refine (moved x0 _ J).trans ?_
    dsimp only
    rw [show 1 + r.val - 2 = r.val - 1 by omega]
    by_cases h : r.val < 1
    · rw [if_pos h, if_pos (by omega)]
    · rw [if_neg h, if_neg (by omega)]
  have h20 : (show EReal from val_main_v20 (F := Ideal) x0 (ix2 r J)) = X x0 J r.val := by
    rw [val_main_v20_apply, e20]
    refine (moved x0 _ J).trans ?_
    dsimp only
    rw [if_neg (by omega), show 2 + r.val - 2 = r.val by omega]
  have h9 : (show EReal from val_main_v9 (F := Ideal) (ix2 r J)) = 0 := by
    rw [val_main_v9_apply]
    exact Ideal.ofBits_zero .f32
  unfold blend
  rw [← h5, ← h13, ← h20, ← weight0 x1 r J, ← weight1 x1 r J, ← weight2 x1 r J]
  show (((show EReal from val_main_v9 (F := Ideal) (ix2 r J)) + val_main_v7 (F := Ideal) x1 (ix2 r J) * val_main_v5 (F := Ideal) x0 (ix2 r J))
      + val_main_v15 (F := Ideal) x1 (ix2 r J) * val_main_v13 (F := Ideal) x0 (ix2 r J) : EReal) + val_main_v22 (F := Ideal) x1 (ix2 r J) * val_main_v20 (F := Ideal) x0 (ix2 r J) = _
  rw [h9, zero_add, add_comm (_ + _) _, add_assoc]

variable (g : Fin 11) (j : Fin 256)

theorem gate_apply : val_main_v27 (F := Ideal) x0 x1 (ix3 r g j) = val_main_v24 (F := Ideal) x0 x1 (ix2 r (gcol g j)) := by
  rw [val_main_v27_apply, val_main_v26_apply, val_main_v25_apply]
  have e0 : idx_main_v27 (ix3 r g j) = ix4 r g 0 j := funext fun a => match a with
    | ⟨0, _⟩ => Fin.ext (by show ((r.val * 11 + g.val) * 256 + j.val) / 2816 = r.val; omega)
    | ⟨1, _⟩ => Fin.ext (by show ((r.val * 11 + g.val) * 256 + j.val) / 256 % 11 = g.val; omega)
    | ⟨2, _⟩ => rfl
    | ⟨3, _⟩ => Fin.ext (by show ((r.val * 11 + g.val) * 256 + j.val) % 256 = j.val; omega)
  have e1 : idx_main_v25 (idx_main_v26 (ix4 r g 0 j)) = ix2 r (gcol g j) := funext fun a => match a with
    | ⟨0, _⟩ => Fin.ext (by show (((r.val * 11 + g.val) * 2 + 0) * 256 + j.val) / 5632 = r.val; omega)
    | ⟨1, _⟩ => Fin.ext (by show (((r.val * 11 + g.val) * 2 + 0) * 256 + j.val) % 5632 = g.val * 512 + j.val; omega)
  rw [e0, e1]

theorem factor_apply : val_main_v29 (F := Ideal) x0 x1 (ix3 r g j) = val_main_v24 (F := Ideal) x0 x1 (ix2 r (fcol g j)) := by
  rw [val_main_v29_apply, val_main_v28_apply, val_main_v25_apply]
  have e0 : idx_main_v29 (ix3 r g j) = ix4 r g 0 j := funext fun a => match a with
    | ⟨0, _⟩ => Fin.ext (by show ((r.val * 11 + g.val) * 256 + j.val) / 2816 = r.val; omega)
    | ⟨1, _⟩ => Fin.ext (by show ((r.val * 11 + g.val) * 256 + j.val) / 256 % 11 = g.val; omega)
    | ⟨2, _⟩ => rfl
    | ⟨3, _⟩ => Fin.ext (by show ((r.val * 11 + g.val) * 256 + j.val) % 256 = j.val; omega)
  have e1 : idx_main_v25 (idx_main_v28 (ix4 r g 0 j)) = ix2 r (fcol g j) := funext fun a => match a with
    | ⟨0, _⟩ => Fin.ext (by show (((r.val * 11 + g.val) * 2 + 1) * 256 + j.val) / 5632 = r.val; omega)
    | ⟨1, _⟩ => Fin.ext (by show (((r.val * 11 + g.val) * 2 + 1) * 256 + j.val) % 5632 = g.val * 512 + 256 + j.val; omega)
  rw [e0, e1]

theorem bent_apply : val_main_v37 (F := Ideal) x0 x1 (ix3 r g j) = bend (val_main_v24 (F := Ideal) x0 x1 (ix2 r (gcol g j))) := by
  unfold bend
  rw [← gate_apply x0 x1 r g j]
  rw [val_main_v37_apply, val_main_v36_apply, val_main_v35_apply, val_main_cst_2_apply, val_main_v34_apply, val_main_v33_apply, val_main_v32_apply,
    val_main_cst_1_apply, val_main_v31_apply, val_main_v30_apply]
  generalize val_main_v27 (F := Ideal) x0 x1 (ix3 r g j) = x
  have e : FloatOps.mulf (F := Ideal) (φ := .f32) (FloatOps.mulf x x) x = FloatOps.mulf x (FloatOps.mulf x x) := mul_comm ((show EReal from x) * (show EReal from x)) (show EReal from x)
  rw [e]
  rfl

/-- The output of the gated unit, in the column of its group and lane. -/
theorem act_apply : (show EReal from val_main_v45 (F := Ideal) x0 x1 (ix2 r (acol g j)))
    = act (val_main_v24 (F := Ideal) x0 x1 (ix2 r (gcol g j))) (val_main_v24 (F := Ideal) x0 x1 (ix2 r (fcol g j))) := by
  have e : idx_main_v44 (ix2 r (acol g j)) = ix3 r g j := funext fun a => match a with
    | ⟨0, _⟩ => Fin.ext (by show (r.val * 2816 + (g.val * 256 + j.val)) / 2816 = r.val; omega)
    | ⟨1, _⟩ => Fin.ext (by show (r.val * 2816 + (g.val * 256 + j.val)) / 256 % 11 = g.val; omega)
    | ⟨2, _⟩ => Fin.ext (by show (r.val * 2816 + (g.val * 256 + j.val)) % 256 = j.val; omega)
  unfold act half
  rw [← bent_apply x0 x1 r g j, ← factor_apply x0 x1 r g j, ← gate_apply x0 x1 r g j]
  show (show EReal from val_main_v44 (F := Ideal) x0 x1 (ix2 r (acol g j))) = _
  rw [val_main_v44_apply, e]
  rfl

end Cert.Reference24Ideal.Gate

namespace Cert.Kernel24Ideal.Act

open Cert.Kernel24Ideal Cert.Kernel24Ideal.Gen Cert.Gate
open Cert.Reference24Ideal.Gate (X)
open Cert.Kernel17Ideal.Gate (lo hi)
open Cert.Reference17Ideal.Gate (gcol fcol acol)
open Idealize.ShloMosaic Idealize.ShloMosaic.TcCoe Idealize.ShloMosaic.Tactic
open Idealize.ShloMosaic.Pipeline (Dat Cfg Window)

variable (m : (ℓ : Loc nD τ sig) → Buf (Elt Ideal) ℓ)

/-- The input and the weights. -/
abbrev A0 (c : Dev nD) : FVec Ideal S8320x5632 .bf16 := m ((c : Thread nD τ).loc main_arg0)
abbrev A1 (c : Dev nD) : FVec Ideal S3x5632 .f32 := m ((c : Thread nD τ).loc main_arg1)

theorem idx0 : ∀ t : Fin cfg0.N, win0_0.index t = ![t.val / 11, t.val % 11] := (by decide +kernel : ∀ t : Fin grid0.N, _)
theorem idx1 : ∀ t : Fin cfg0.N, win0_1.index t = ![t.val / 11 * 208 - 1, t.val % 11] := (by decide +kernel : ∀ t : Fin grid0.N, _)
theorem idx2 : ∀ t : Fin cfg0.N, win0_2.index t = ![0, t.val % 11] := (by decide +kernel : ∀ t : Fin grid0.N, _)
theorem idx3 : ∀ t : Fin cfg0.N, win0_3.index t = ![t.val / 11, t.val % 11] := (by decide +kernel : ∀ t : Fin grid0.N, _)
theorem idx4 : ∀ t : Fin cfg0.N, win0_4.index t = ![t.val / 11, t.val % 11] := (by decide +kernel : ∀ t : Fin grid0.N, _)
theorem idx5 : ∀ t : Fin cfg0.N, win0_5.index t = ![t.val % 11, t.val / 11] := (by decide +kernel : ∀ t : Fin grid0.N, _)

theorem coord0 (t : Fin cfg0.N) : (grid0.coords t 0).val = t.val / 11 := (by decide +kernel : ∀ t : Fin grid0.N, (grid0.coords t 0).val = t.val / 11) t

/-- A point's rows, the eight rows before them, its columns and its group of columns. -/
def row (t : Fin cfg0.N) (n : Fin 1664) : Fin 8320 := ⟨t.val / 11 * 1664 + n.val, by have := lt_of_lt_of_eq t.isLt N_0; omega⟩
def prev (t : Fin cfg0.N) (n : Fin 8) : Fin 8320 := ⟨(t.val / 11 * 208 - 1) * 8 + n.val, by have := lt_of_lt_of_eq t.isLt N_0; omega⟩
def col (t : Fin cfg0.N) (j : Fin 512) : Fin 5632 := ⟨t.val % 11 * 512 + j.val, by omega⟩
def grp (t : Fin cfg0.N) : Fin 11 := ⟨t.val % 11, by omega⟩

theorem blk0 (c : Dev nD) (t : Fin cfg0.N) (n : Fin 1664) (j : Fin 512) : (show FVec Ideal S1664x512 .bf16 from iblk m c 0 t) (ix2 n j) = A0 m c (ix2 (row t n) (col t j)) := by
  have := lt_of_lt_of_eq t.isLt N_0
  unfold row col
  blk_ext [iblk, V, idx0 t]

theorem blk1 (c : Dev nD) (t : Fin cfg0.N) (n : Fin 8) (j : Fin 512) : (show FVec Ideal S8x512 .bf16 from iblk m c 1 t) (ix2 n j) = A0 m c (ix2 (prev t n) (col t j)) := by
  have := lt_of_lt_of_eq t.isLt N_0
  unfold prev col
  blk_ext [iblk, V, idx1 t]

theorem blk2 (c : Dev nD) (t : Fin cfg0.N) (a : Fin 3) (j : Fin 512) : (show FVec Ideal S3x512 .f32 from iblk m c 2 t) (ix2 a j) = A1 m c (ix2 a (col t j)) := by
  have := lt_of_lt_of_eq t.isLt N_0
  unfold col
  blk_ext [iblk, V, idx2 t]

theorem emb3 (t : Fin cfg0.N) (n : Fin 1664) (j : Fin 256) : (win0_3.blk t).view.emb (ix2 n j) = (ix2 (row t n) (acol (grp t) j) : S8320x2816.Idx) := by
  have := lt_of_lt_of_eq t.isLt N_0
  unfold row acol grp
  blk_ext [idx3 t]

theorem emb4 (t : Fin cfg0.N) (n : Fin 1664) (j : Fin 512) : (win0_4.blk t).view.emb (ix2 n j) = (ix2 (row t n) (col t j) : S8320x5632.Idx) := by
  have := lt_of_lt_of_eq t.isLt N_0
  unfold row col
  blk_ext [idx4 t]

theorem emb5 (t : Fin cfg0.N) (n : Fin 1664) (j : Fin 256) : (win0_5.blk t).view.emb (ix2 j n) = (ix2 (acol (grp t) j) (row t n) : S2816x8320.Idx) := by
  have := lt_of_lt_of_eq t.isLt N_0
  unfold row acol grp
  blk_ext [idx5 t]

theorem col_lo (t : Fin cfg0.N) (j : Fin 256) : col t (lo j) = gcol (grp t) j := rfl

theorem col_hi (t : Fin cfg0.N) (j : Fin 256) : col t (hi j) = fcol (grp t) j :=
  Fin.ext (by show t.val % 11 * 512 + (256 + j.val) = t.val % 11 * 512 + 256 + j.val; omega)

/-- A row above the tile's row, or in the tile, is the input's row, or zero before the first. -/
theorem seen_apply (c : Dev nD) (t : Fin cfg0.N) (x0 : FVec Ideal S1664x512 .bf16) (x1 : FVec Ideal S8x512 .bf16) (j : Fin 512)
    (h0 : ∀ n : Fin 1664, x0 (ix2 n j) = A0 m c (ix2 (row t n) (col t j))) (h1 : ∀ n : Fin 8, x1 (ix2 n j) = A0 m c (ix2 (prev t n) (col t j)))
    (n : Fin 1664) (s : ℕ) (hs : s ≤ 8) (hs1 : 1 ≤ s) :
    (show EReal from rows (F := Ideal) (8 - s) (seen (grid0.coords t) x0 x1) (ix2 n j))
      = if (row t n).val < s then 0 else X (A0 m c) (col t j) ((row t n).val - s) := by
  have := lt_of_lt_of_eq t.isLt N_0
  have hn := n.isLt
  have hm : (8 - s + n.val) % 1672 = 8 - s + n.val := Nat.mod_eq_of_lt (by omega)
  have hr : (row t n).val = t.val / 11 * 1664 + n.val := rfl
  have hlt : (row t n).val < 8320 := (row t n).isLt
  by_cases h : 8 - s + n.val < 8
  · refine (both_before (F := Ideal) _ _ ⟨(8 - s + n.val) % 1672, by omega⟩ j (by show (8 - s + n.val) % 1672 < 8; omega)).trans ?_
    refine (pay6_apply (grid0.coords t) x1 _).trans ?_
    rw [coord0 t]
    by_cases ht : t.val / 11 = 0
    · rw [if_pos ht, if_pos (by omega)]
    · rw [if_neg ht, if_neg (by omega)]
      refine (h1 ⟨(8 - s + n.val) % 1672, by omega⟩).trans ?_
      refine Eq.trans ?_ (colOf_of (R := 8320) (C := 5632) (A0 m c) (col t j) _ (by omega)).symm
      refine congrArg (fun r => A0 m c (ix2 r (col t j))) (Fin.ext ?_)
      show (t.val / 11 * 208 - 1) * 8 + (8 - s + n.val) % 1672 = (row t n).val - s
      omega
  · rw [if_neg (by omega)]
    refine (both_in (F := Ideal) _ _ ⟨(8 - s + n.val) % 1672, by omega⟩ j (by show ¬ (8 - s + n.val) % 1672 < 8; omega)).trans ?_
    refine (pay7_apply x0 _).trans ?_
    refine (h0 ⟨(8 - s + n.val) % 1672 - 8, by omega⟩).trans ?_
    refine Eq.trans ?_ (colOf_of (R := 8320) (C := 5632) (A0 m c) (col t j) _ (by omega)).symm
    refine congrArg (fun r => A0 m c (ix2 r (col t j))) (Fin.ext ?_)
    show t.val / 11 * 1664 + ((8 - s + n.val) % 1672 - 8) = (row t n).val - s
    omega

/-- The convolution, the gated unit's output and its transpose: the reference's own. -/
def G3 (c : Dev nD) : FVec Ideal S8320x2816 .bf16 := Reference24Ideal.Read.val_main_v45 (F := Ideal) (A0 m c) (A1 m c)
def G4 (c : Dev nD) : FVec Ideal S8320x5632 .bf16 := Reference24Ideal.Read.val_main_v46 (F := Ideal) (A0 m c) (A1 m c)
def G5 (c : Dev nD) : FVec Ideal S2816x8320 .bf16 := Reference24Ideal.Read.val_main_v47 (F := Ideal) (A0 m c) (A1 m c)

abbrev Y (c : Dev nD) : FVec Ideal S8320x5632 .f32 := Reference24Ideal.Read.val_main_v24 (F := Ideal) (A0 m c) (A1 m c)

theorem tile_apply (c : Dev nD) (t : Fin cfg0.N) (x0 : FVec Ideal S1664x512 .bf16) (x1 : FVec Ideal S8x512 .bf16) (x2 : FVec Ideal S3x512 .f32)
    (h0 : ∀ (n : Fin 1664) (j : Fin 512), x0 (ix2 n j) = A0 m c (ix2 (row t n) (col t j))) (h1 : ∀ (n : Fin 8) (j : Fin 512), x1 (ix2 n j) = A0 m c (ix2 (prev t n) (col t j)))
    (h2 : ∀ (a : Fin 3) (j : Fin 512), x2 (ix2 a j) = A1 m c (ix2 a (col t j))) (n : Fin 1664) (j : Fin 512) :
    (show EReal from tile (F := Ideal) (grid0.coords t) x0 x1 x2 (ix2 n j)) = Y m c (ix2 (row t n) (col t j)) := by
  refine (pay8_apply x0 x2 _ _ n j).trans ?_
  refine Eq.trans ?_ (Reference24Ideal.Gate.conv_apply (A0 m c) (A1 m c) (row t n) (col t j)).symm
  unfold blend
  rw [h2, h2, h2]
  refine congrArg₂ (· + ·) (congrArg₂ (· + ·) (congrArg _ ?_) (congrArg _ ?_)) (congrArg _ ?_)
  · exact (h0 n j).trans (colOf_at (R := 8320) (C := 5632) (A0 m c) (col t j) (row t n)).symm
  · exact seen_apply m c t x0 x1 j (fun n => h0 n j) (fun n => h1 n j) n 2 (by omega) (by omega)
  · exact seen_apply m c t x0 x1 j (fun n => h0 n j) (fun n => h1 n j) n 1 (by omega) (by omega)

theorem unit_apply (c : Dev nD) (t : Fin cfg0.N) (x0 : FVec Ideal S1664x512 .bf16) (x1 : FVec Ideal S8x512 .bf16) (x2 : FVec Ideal S3x512 .f32)
    (h0 : ∀ (n : Fin 1664) (j : Fin 512), x0 (ix2 n j) = A0 m c (ix2 (row t n) (col t j))) (h1 : ∀ (n : Fin 8) (j : Fin 512), x1 (ix2 n j) = A0 m c (ix2 (prev t n) (col t j)))
    (h2 : ∀ (a : Fin 3) (j : Fin 512), x2 (ix2 a j) = A1 m c (ix2 a (col t j))) (n : Fin 1664) (j : Fin 256) :
    (show EReal from k0_pay1 (F := Ideal) (tile (grid0.coords t) x0 x1 x2) (gate (grid0.coords t) x0 x1 x2) (bent (grid0.coords t) x0 x1 x2) k0_pay11 (ix2 n j))
      = G3 m c (ix2 (row t n) (acol (grp t) j)) := by
  refine (pay1_apply x0 x2 _ _ n j).trans ?_
  refine Eq.trans ?_ (Reference24Ideal.Gate.act_apply (A0 m c) (A1 m c) (row t n) (grp t) j).symm
  refine congrArg₂ act ?_ ?_
  · rw [← col_lo]
    exact tile_apply m c t x0 x1 x2 h0 h1 h2 n (lo j)
  · rw [← col_hi]
    exact tile_apply m c t x0 x1 x2 h0 h1 h2 n (hi j)

theorem final3 (c : Dev nD) : (dats m 0 c).arrAt 3 cfg0.N = G3 m c := by
  refine (dats m 0 c).arrAt_eq_of_covers 3 (G3 m c) (by decide +kernel) fun t hf y => ?_
  rw [after0_3]
  blk_simp
  obtain ⟨n, j, rfl⟩ : ∃ (n : Fin 1664) (j : Fin 256), y = ix2 n j := ⟨y 0, y 1, eq_ix2 y⟩
  rw [emb3]
  unfold outsAt0
  dsimp only
  rw [out_3]
  exact unit_apply m c t _ _ _ (blk0 m c t) (blk1 m c t) (blk2 m c t) n j

theorem final4 (c : Dev nD) : (dats m 0 c).arrAt 4 cfg0.N = G4 m c := by
  refine (dats m 0 c).arrAt_eq_of_covers 4 (G4 m c) (by decide +kernel) fun t hf y => ?_
  rw [after0_4]
  blk_simp
  obtain ⟨n, j, rfl⟩ : ∃ (n : Fin 1664) (j : Fin 512), y = ix2 n j := ⟨y 0, y 1, eq_ix2 y⟩
  rw [emb4]
  unfold outsAt0
  dsimp only
  rw [out_4]
  exact tile_apply m c t _ _ _ (blk0 m c t) (blk1 m c t) (blk2 m c t) n j

theorem final5 (c : Dev nD) : (dats m 0 c).arrAt 5 cfg0.N = G5 m c := by
  refine (dats m 0 c).arrAt_eq_of_covers 5 (G5 m c) (by decide +kernel) fun t hf y => ?_
  rw [after0_5]
  blk_simp
  obtain ⟨j, n, rfl⟩ : ∃ (j : Fin 256) (n : Fin 1664), y = ix2 j n := ⟨y 0, y 1, eq_ix2 y⟩
  rw [emb5]
  unfold outsAt0
  dsimp only
  rw [out_5]
  refine (pay4_apply _ _ _ _ n j).trans ?_
  refine (unit_apply m c t _ _ _ (blk0 m c t) (blk1 m c t) (blk2 m c t) n j).trans ?_
  unfold G3 G5
  rw [Reference24Ideal.Read.val_main_v47_apply]
  refine congrArg _ (funext fun a => match a with
    | ⟨0, _⟩ => rfl
    | ⟨1, _⟩ => rfl)

end Cert.Kernel24Ideal.Act

namespace Cert.Proof

open Idealize.ShloMosaic Idealize.ShloMosaic.TcCoe Idealize.SL.Sem

theorem activation : Cert.algebraic_Kernel24Ideal_Reference24Ideal (hKernel24Ideal := Kernel24Ideal.Gen.facts)
    (hReference24Ideal := Reference24Ideal.Gen.facts) := by
  intro m g m' g' _ hargs
  refine ⟨Kernel24Ideal.Act.G3 m, Kernel24Ideal.Act.G4 m, Kernel24Ideal.Act.G5 m, ?_, ?_⟩
  · exact (θ_run _ _ _).mono (fun r h c => ⟨((h c).1.trans (Kernel24Ideal.Act.final3 m c)), ((h c).2.1.trans (Kernel24Ideal.Act.final4 m c)),
      ((h c).2.2.1.trans (Kernel24Ideal.Act.final5 m c)), (h c).2.2.2⟩) (Kernel24Ideal.Value.run_blocks m g)
  · refine (θ_run _ _ _).mono (fun r h c => ⟨((h c).1.trans ?_), ((h c).2.1.trans ?_), ((h c).2.2.1.trans ?_), (h c).2.2.2⟩) (Reference24Ideal.Value.run m' g')
    · rw [Reference24Ideal.Read.val_main_v45_eq, (hargs c).1, (hargs c).2]
      rfl
    · rw [(hargs c).1, (hargs c).2]
      exact Reference24Ideal.Read.val_main_v46_eq _ _
    · rw [Reference24Ideal.Read.val_main_v47_eq, (hargs c).1, (hargs c).2]
      rfl

end Cert.Proof
-- ==== Proof.Fwd.Walk.lean ====
module

public import proofs.«01_k».proof.Proof.Attn.Tile
public import proofs.«01_k».proof.Proof.Gen.Kernel16Ideal.Loops

@[expose] public section

set_option maxRecDepth 16384

noncomputable section

namespace Cert.Kernel16Ideal.Fwd

open Cert.Kernel16Ideal Cert.Kernel16Ideal.Gen
open Cert.KernelIdeal.Attn (rowsAt rowOf)
open Idealize.ShloMosaic Idealize.ShloMosaic.TcCoe Idealize.ShloMosaic.Tactic

/-! # Where the loops of the attention's forward pass go, and what one grid point leaves -/

/-- The first loop visits the key blocks before the i-th. -/
theorem trips1 (i : grid0.Coords) : (k0_t1_loop i).trips = (i 1).val := by
  have h : (i 1).val < 13 := (i 1).isLt
  unfold k0_t1_loop
  generalize (i 1).val = j at h
  interval_cases j <;> decide

/-- The remainder loop never runs. -/
theorem trips2 (i : grid0.Coords) : (k0_t2_loop i).trips = 0 := by
  have h : (i 1).val < 13 := (i 1).isLt
  unfold k0_t2_loop
  generalize (i 1).val = j at h
  interval_cases j <;> decide

/-- The keys read in trip `k` are those of the block after it, -/
theorem off1 (i : grid0.Coords) (k : Fin (k0_t1_loop i).trips) : k0_off1 i k = ![640 * (k.val + 1), 0] := by
  have h : (i 1).val < 13 := (i 1).isLt
  have hk : k.val < (i 1).val := lt_of_lt_of_eq k.isLt (trips1 i)
  unfold k0_off1
  generalize k.val = kk at hk
  have hk' : kk < 13 := by omega
  interval_cases kk <;> decide

/-- the values those of its own block. -/
theorem off2 (i : grid0.Coords) (k : Fin (k0_t1_loop i).trips) : k0_off2 i k = ![640 * k.val, 0] := by
  have h : (i 1).val < 13 := (i 1).isLt
  have hk : k.val < (i 1).val := lt_of_lt_of_eq k.isLt (trips1 i)
  unfold k0_off2
  generalize k.val = kk at hk
  have hk' : kk < 13 := by omega
  interval_cases kk <;> decide

/-- The values of the diagonal block start at row 640 i. -/
theorem off5 (i : grid0.Coords) : k0_off5 i = ![640 * (i 1).val, 0] := by
  have h : (i 1).val < 13 := (i 1).isLt
  unfold k0_off5
  generalize (i 1).val = j at h
  interval_cases j <;> decide

variable {F : FTy → Type} [FloatOps F] [Named F]

/-- The maximum, the accumulator and the scores of the block to come. -/
abbrev St (F : FTy → Type) := FVec F S640x1 .f32 × FVec F S640x128 .f32 × FVec F S640x640 .f32

/-- The state before the first trip. -/
def start (q : FVec F S640x128 .bf16) (K : FVec F S8320x128 .bf16) : St F :=
  (k0_pay3, k0_pay4, k0_pay5 q (rowsAt K 0))

/-- One trip: block `b` is taken in, the scores of block `b + 1` are computed. -/
def trip (q : FVec F S640x128 .bf16) (K V : FVec F S8320x128 .bf16) (b : ℕ) (s : St F) : St F :=
  (k0_pay7 s.1 s.2.2, k0_pay8 s.1 s.2.1 s.2.2 (rowsAt V b), k0_pay6 q (rowsAt K (b + 1)))

/-- The state after `n` trips. -/
def trips (q : FVec F S640x128 .bf16) (K V : FVec F S8320x128 .bf16) (s : St F) : ℕ → St F
  | 0 => s
  | n + 1 => trip q K V n (trips q K V s n)

/-- The lanes' numbers. -/
def laneNo : IVec S640x128 32 := iota .tc S640x128 32 [1] iota_S640x128_d1_w32

/-- What the state `s` before the diagonal block leaves with the block's values `v`. -/
def close (s : St F) (v : FVec F S640x128 .bf16) : FVec F S640x128 .f32 :=
  k0_pay1 (k0_pay13 s.1 s.2.2) (k0_pay14 s.1 s.2.1 s.2.2 v) (k0_pay15 s.1 s.2.1 s.2.2 v) laneNo 64#32

/-- What point `j` leaves. -/
def point (q : FVec F S640x128 .bf16) (K V : FVec F S8320x128 .bf16) (j : ℕ) : FVec F S640x128 .f32 :=
  close (trips q K V (start q K) j) (rowsAt V j)

/-- A load of a row block reads those rows of what the buffer reads. -/
theorem readAt_rows {e : EltTy} {sp : Space} (a : Memref sig .tc sp S8320x128 e) (f : BufTy.Contents (Elt F) a.view.ty)
    {off : Fin 2 → ℕ} (b : ℕ) (h : off = ![640 * b, 0]) (inb : ∀ x, off x + S640x128.size x ≤ S8320x128.size x) :
    a.view.readAt (Elt F) (Rect.unit (s := S8320x128) off S640x128.size inb).toLoadRect f = rowsAt (a.view.read (Elt F) f) b := by
  subst h
  funext y
  have hb : 640 * b + 640 ≤ 8320 := inb 0
  have hy : (y 0).val < 640 := (y 0).isLt
  refine congrArg (a.view.read (Elt F) f) ?_
  funext x
  refine Fin.ext ?_
  match x with
  | 0 =>
    show 640 * b + 1 * (y 0).val = (640 * b + (y 0).val) % 8320
    omega
  | 1 =>
    show 0 + 1 * (y 1).val = (y 1).val
    omega

/-- The trip's run, read off. -/
theorem tripR_eq (𝒱 : Variants) (c : Dev nD) (bd : Option 𝒱.V) (i : grid0.Coords) (arg2 : Memref sig .tc .vmem S640x128 .bf16) (harg2 : arg2.IsWhole) (arg3 : Memref sig .tc .vmem S8320x128 .bf16) (harg3 : arg3.IsWhole) (arg4 : Memref sig .tc .vmem S8320x128 .bf16) (harg4 : arg4.IsWhole) (arg5 : Memref sig .tc .vmem S640x128 .f32) (harg5 : arg5.IsWhole) (v0 : Vec F S640x128 .bf16) (X3 : BufTy.Contents (Elt F) arg3.view.ty) (X4 : BufTy.Contents (Elt F) arg4.view.ty) (k : Fin (k0_t1_loop i).trips) (acc : St F) :
    tripR_k0_t1 (F := F) 𝒱 c bd i arg2 harg2 arg3 harg3 arg4 harg4 arg5 harg5 v0 X3 X4 k acc
      = trip v0 (arg3.view.read (Elt F) X3) (arg4.view.read (Elt F) X4) k.val acc := by
  unfold tripR_k0_t1 trip_k0_t1
  dsimp only [trip]
  rw [← readAt_rows arg3 X3 _ (off1 i k) (k0_off1_inb i k), ← readAt_rows arg4 X4 _ (off2 i k) (k0_off2_inb i k)]

/-- The generated loop state after `n` trips is `trips`. -/
theorem st_eq (𝒱 : Variants) (c : Dev nD) (bd : Option 𝒱.V) (i : grid0.Coords) (arg2 : Memref sig .tc .vmem S640x128 .bf16) (harg2 : arg2.IsWhole) (arg3 : Memref sig .tc .vmem S8320x128 .bf16) (harg3 : arg3.IsWhole) (arg4 : Memref sig .tc .vmem S8320x128 .bf16) (harg4 : arg4.IsWhole) (arg5 : Memref sig .tc .vmem S640x128 .f32) (harg5 : arg5.IsWhole) (v0 : Vec F S640x128 .bf16) (X3 : BufTy.Contents (Elt F) arg3.view.ty) (X4 : BufTy.Contents (Elt F) arg4.view.ty) (init : St F) (n : ℕ) (hn : n ≤ (k0_t1_loop i).trips) :
    st_k0_t1 (F := F) 𝒱 c bd i arg2 harg2 arg3 harg3 arg4 harg4 arg5 harg5 v0 X3 X4 init n
      = trips v0 (arg3.view.read (Elt F) X3) (arg4.view.read (Elt F) X4) init n := by
  induction n with
  | zero => rfl
  | succ n ih =>
    have e := st_k0_t1_succ (F := F) 𝒱 c bd i arg2 harg2 arg3 harg3 arg4 harg4 arg5 harg5 v0 X3 X4 init ⟨n, hn⟩
    dsimp only at e
    rw [e, tripR_eq, ih (by omega)]
    rfl

/-- The remainder loop leaves its state as it was. -/
theorem rest_eq (𝒱 : Variants) (c : Dev nD) (bd : Option 𝒱.V) (i : grid0.Coords) (arg2 : Memref sig .tc .vmem S640x128 .bf16) (harg2 : arg2.IsWhole) (arg3 : Memref sig .tc .vmem S8320x128 .bf16) (harg3 : arg3.IsWhole) (arg4 : Memref sig .tc .vmem S8320x128 .bf16) (harg4 : arg4.IsWhole) (arg5 : Memref sig .tc .vmem S640x128 .f32) (harg5 : arg5.IsWhole) (v0 : Vec F S640x128 .bf16) (X3 : BufTy.Contents (Elt F) arg3.view.ty) (X4 : BufTy.Contents (Elt F) arg4.view.ty) (init : St F) :
    st_k0_t2 (F := F) 𝒱 c bd i arg2 harg2 arg3 harg3 arg4 harg4 arg5 harg5 v0 X3 X4 init (Scf.trips (k0_t2_loop i).lb (k0_t2_loop i).ub (k0_t2_loop i).st) = init := by
  rw [show Scf.trips (k0_t2_loop i).lb (k0_t2_loop i).ub (k0_t2_loop i).st = 0 from trips2 i]; rfl

/-- After all its trips the first loop leaves the state before the diagonal block. -/
theorem loop_eq (𝒱 : Variants) (c : Dev nD) (bd : Option 𝒱.V) (i : grid0.Coords) (arg2 : Memref sig .tc .vmem S640x128 .bf16) (harg2 : arg2.IsWhole) (arg3 : Memref sig .tc .vmem S8320x128 .bf16) (harg3 : arg3.IsWhole) (arg4 : Memref sig .tc .vmem S8320x128 .bf16) (harg4 : arg4.IsWhole) (arg5 : Memref sig .tc .vmem S640x128 .f32) (harg5 : arg5.IsWhole) (v0 : Vec F S640x128 .bf16) (X3 : BufTy.Contents (Elt F) arg3.view.ty) (X4 : BufTy.Contents (Elt F) arg4.view.ty) (init : St F) :
    st_k0_t1 (F := F) 𝒱 c bd i arg2 harg2 arg3 harg3 arg4 harg4 arg5 harg5 v0 X3 X4 init (Scf.trips (k0_t1_loop i).lb (k0_t1_loop i).ub (k0_t1_loop i).st)
      = trips v0 (arg3.view.read (Elt F) X3) (arg4.view.read (Elt F) X4) init (i 1).val :=
  (st_eq 𝒱 c bd i arg2 harg2 arg3 harg3 arg4 harg4 arg5 harg5 v0 X3 X4 init _ le_rfl).trans (congrArg _ (trips1 i))

end Cert.Kernel16Ideal.Fwd
-- ==== Proof.Fwd.Point.lean ====
module

public import proofs.«01_k».proof.Proof.Fwd.Walk
public import proofs.«01_k».proof.Proof.Gen.Kernel16Ideal.Frame
public import Idealize.ShloMosaic.Lib.Pipeline.ValueKit

@[expose] public section

set_option maxRecDepth 16384

noncomputable section

namespace Cert.Kernel16Ideal.Fwd

open Cert.Kernel16Ideal Cert.Kernel16Ideal.Gen
open Idealize.ShloMosaic Idealize.ShloMosaic.TcCoe Idealize.ShloMosaic.Tactic Idealize.SL.Sem

variable {F : FTy → Type} [FloatOps F] [Named F]

/-- One grid point leaves what `point` says of the blocks it reads. -/
theorem out_eq (c : Dev nD) (i : grid0.Coords) (arg2 : Memref sig .tc .vmem S640x128 .bf16) (harg2 : arg2.IsWhole) (arg3 : Memref sig .tc .vmem S8320x128 .bf16) (harg3 : arg3.IsWhole) (arg4 : Memref sig .tc .vmem S8320x128 .bf16) (harg4 : arg4.IsWhole) (arg5 : Memref sig .tc .vmem S640x128 .f32) (harg5 : arg5.IsWhole)
    (x0 : Vec F S640x128 .bf16) (x1 x2 : Vec F S8320x128 .bf16) :
    out0_A_3 (F := F) c i arg2 harg2 arg3 harg3 arg4 harg4 arg5 harg5 x0 x1 x2 = point x0 x1 x2 (i 1).val := by
  have hq : arg2.view.readAt (Elt F) (Rect.unit (s := S640x128) ![0, 0] S640x128.size inb_S640x128_S640x128_0_0).toLoadRect (harg2.unread x0) = x0 :=
    (View.readAt_full ..).trans (harg2.read_unread x0)
  unfold out0_A_3 kernelRun0_A
  dsimp only
  unfold kernelRun0_A.sl.r kernelRun0_A.sl.r_1 kernelRun0_A.sl.r_2 kernelRun0_A.sl.v40
  rw [View.read_writes_full]
  rw [rest_eq, loop_eq]
  simp only [hq, harg3.read_unread, harg4.read_unread, readAt_rows arg3 _ 0 rfl, readAt_rows arg4 _ _ (off5 i)]
  rfl

variable (m : (ℓ : Loc nD τ sig) → Buf (Elt F) ℓ)

/-- What the grid leaves at point `t`. -/
theorem outs_eq (c : Dev nD) (t : Fin cfg0.N) :
    outsAt0 m c t = point (iblk m c 0 t) (iblk m c 1 t) (iblk m c 2 t) (t.val % 13) := by
  unfold outsAt0
  rw [out_eq]
  refine congrArg _ ?_
  exact (by decide +kernel : ∀ t : Fin grid0.N, ((grid0.coords t) 1).val = t.val % 13) t

end Cert.Kernel16Ideal.Fwd
-- ==== Proof.Fwd.Tile.lean ====
module

public import proofs.«01_k».proof.Proof.Fwd.Walk
public import proofs.«01_k».proof.Proof.Attn.Spec
public import Idealize.ShloMosaic.PureOps.IdealRules
public import Idealize.ShloMosaic.Lib.WordCmp

@[expose] public section

set_option maxRecDepth 16384

noncomputable section

namespace Cert.Kernel16Ideal.Fwd

open Cert.Kernel16Ideal Cert.Kernel16Ideal.Gen
open Cert.KernelIdeal.Attn (rowsAt rowOf rowOf_val)
open Idealize.ShloMosaic Idealize.ShloMosaic.TcCoe Idealize.ShloMosaic.Tactic
open Cert.Spec (coe_sum fold_max_real)

/-! # What one grid point of the attention's forward pass computes, over the extended reals -/

/-- The mask's constant stands for −∞. -/
theorem mask_eq : Named.named (F := Ideal) (φ := .f32) κ "mask" 0xF149F2CA#32 = (⊥ : EReal) :=
  (IdealRules.named_const.statement Kernel16Ideal.κ "mask" .f32 0xF149F2CA#32 ⊥ rfl).2.2

theorem negInf : Ideal.ofBits .f32 4286578688#32 = ⊥ := by
  simp [Ideal.ofBits, Ideal.ieee]

theorem pay3_at (r : Fin 640) : k0_pay3 (F := Ideal) (ix2 r 0) = ⊥ := by
  pointwise [k0_pay3, mask_eq]

theorem pay4_at (r : Fin 640) (l : Fin 128) : k0_pay4 (F := Ideal) (ix2 r l) = 0 := by
  pointwise [k0_pay4]

theorem pay5_at (q k : FVec Ideal S640x128 .bf16) (r c : Fin 640) :
    k0_pay5 (F := Ideal) q k (ix2 r c) = ∑ l : Fin 128, q (ix2 r l) * k (ix2 c l) := by
  pointwise [k0_pay5, k0_pay2]

theorem pay6_at (q k : FVec Ideal S640x128 .bf16) (r c : Fin 640) :
    k0_pay6 (F := Ideal) q k (ix2 r c) = ∑ l : Fin 128, q (ix2 r l) * k (ix2 c l) := by
  pointwise [k0_pay6, k0_pay2]

/-- The new maximum. -/
theorem pay7_at (m : FVec Ideal S640x1 .f32) (s : FVec Ideal S640x640 .f32) (r : Fin 640) :
    k0_pay7 (F := Ideal) m s (ix2 r 0) = max (m (ix2 r 0)) (Finset.fold max ⊥ (fun c => s (ix2 r c)) Finset.univ) := by
  pointwise [k0_pay7, negInf]

/-- The new accumulator. -/
theorem pay8_at (m : FVec Ideal S640x1 .f32) (a : FVec Ideal S640x128 .f32) (s : FVec Ideal S640x640 .f32) (v : FVec Ideal S640x128 .bf16) (r : Fin 640) (l : Fin 128) :
    k0_pay8 (F := Ideal) m a s v (ix2 r l) = Ideal.exp (m (ix2 r 0) - k0_pay7 (F := Ideal) m s (ix2 r 0)) * a (ix2 r l)
      + ∑ c : Fin 640, Ideal.exp (s (ix2 r c) - k0_pay7 (F := Ideal) m s (ix2 r 0)) * v (ix2 c l) := by
  pointwise [k0_pay8]

/-- The diagonal block masks the keys after the query. -/
theorem pay12_at (s : FVec Ideal S640x640 .f32) (r c : Fin 640) :
    k0_pay12 (F := Ideal) s (ix2 r c) = if c ≤ r then s (ix2 r c) else ⊥ := by
  pointwise [k0_pay12, mask_eq]
  word_cmp
  rfl

/-- The last block is taken in like the others, its scores masked. -/
theorem pay13_at (m : FVec Ideal S640x1 .f32) (s : FVec Ideal S640x640 .f32) (r : Fin 640) :
    k0_pay13 (F := Ideal) m s (ix2 r 0) = k0_pay7 (F := Ideal) m (k0_pay12 s) (ix2 r 0) := by
  pointwise [k0_pay13, k0_pay7]

theorem pay14_at (m : FVec Ideal S640x1 .f32) (a : FVec Ideal S640x128 .f32) (s : FVec Ideal S640x640 .f32) (v : FVec Ideal S640x128 .bf16) (r : Fin 640) (l : Fin 128) :
    k0_pay14 (F := Ideal) m a s v (ix2 r l) = k0_pay8 (F := Ideal) m a (k0_pay12 s) v (ix2 r l) := by
  pointwise [k0_pay14, k0_pay8, pay13_at]

theorem pay15_at (m : FVec Ideal S640x1 .f32) (a : FVec Ideal S640x128 .f32) (s : FVec Ideal S640x640 .f32) (v : FVec Ideal S640x128 .bf16) (r : Fin 640) :
    k0_pay15 (F := Ideal) m a s v (ix2 r 0) = k0_pay14 (F := Ideal) m a s v (ix2 r 64) := by
  pointwise [k0_pay15]

/-- What is stored: the quotient in the first 64 lanes, the log of the denominator in the others. -/
theorem pay1_at (m t : FVec Ideal S640x1 .f32) (a : FVec Ideal S640x128 .f32) (r : Fin 640) (l : Fin 128) :
    k0_pay1 (F := Ideal) m a t laneNo 64#32 (ix2 r l)
      = if l.val < 64 then Ideal.div (a (ix2 r l)) (t (ix2 r 0)) else m (ix2 r 0) + Ideal.log (t (ix2 r 0)) := by
  pointwise [k0_pay1, laneNo]
  word_cmp

end Cert.Kernel16Ideal.Fwd
-- ==== Proof.Fwd.Softmax.lean ====
module

public import proofs.«01_k».proof.Proof.Fwd.Tile

@[expose] public section

set_option maxRecDepth 16384

noncomputable section

namespace Cert.Kernel16Ideal.Fwd

open Cert.Kernel16Ideal Cert.Kernel16Ideal.Gen
open Cert.KernelIdeal.Attn (rowsAt rowOf rowOf_val)
open Idealize.ShloMosaic Idealize.ShloMosaic.TcCoe Idealize.ShloMosaic.Tactic
open Cert.Spec (coe_sum fold_max_real)

/-! # The softmax taken in block by block

A row carries its maximum `m` so far and the accumulator `a`: the sums `B` of exponentials of the scores times the
values, scaled by the exponential of minus the maximum. -/

/-- A row between blocks: before the first one the maximum is −∞ and the sums are zero. -/
def Held (m : EReal) (a : Fin 128 → EReal) (B : Fin 128 → ℝ) : Prop :=
  ∃ M : ℝ, (m = (M : EReal) ∨ (m = ⊥ ∧ ∀ l, B l = 0)) ∧ ∀ l, a l = ((B l * Real.exp (-M) : ℝ) : EReal)

/-- A row after a block: its maximum is a real number. -/
def Settled (m : EReal) (a : Fin 128 → EReal) (B : Fin 128 → ℝ) : Prop :=
  ∃ M : ℝ, m = (M : EReal) ∧ ∀ l, a l = ((B l * Real.exp (-M) : ℝ) : EReal)

theorem Settled.held {m : EReal} {a : Fin 128 → EReal} {B : Fin 128 → ℝ} (h : Settled m a B) : Held m a B :=
  h.imp fun _ h => ⟨Or.inl h.1, h.2⟩

/-- Rescaling the accumulator to the new maximum. -/
theorem rescale (m : EReal) (M M' B : ℝ) (h : m = (M : EReal) ∨ (m = ⊥ ∧ B = 0)) :
    Ideal.exp (m - (M' : EReal)) * ((B * Real.exp (-M) : ℝ) : EReal) = ((B * Real.exp (-M') : ℝ) : EReal) := by
  rcases h with rfl | ⟨rfl, rfl⟩
  · rw [← EReal.coe_sub, Ideal.exp_coe, ← EReal.coe_mul, mul_comm, mul_assoc, ← Real.exp_add]
    congr 3
    ring
  · rw [EReal.bot_sub, Ideal.exp_bot, zero_mul, zero_mul, EReal.coe_zero]

/-- One new key's term. -/
theorem fresh (p : Prop) [Decidable p] (s M' v : ℝ) :
    Ideal.exp ((if p then (s : EReal) else ⊥) - (M' : EReal)) * (v : EReal) = (((if p then Real.exp s else 0) * v * Real.exp (-M') : ℝ) : EReal) := by
  split
  · rw [← EReal.coe_sub, Ideal.exp_coe, ← EReal.coe_mul, sub_eq_add_neg, Real.exp_add]
    congr 1
    ring
  · rw [EReal.bot_sub, Ideal.exp_bot, zero_mul, zero_mul, zero_mul, EReal.coe_zero]

/-- A row takes in a block of 640 keys, at least one of which is not masked. -/
theorem absorb {m : EReal} {a : Fin 128 → EReal} {B : Fin 128 → ℝ} (h : Held m a B) (s : Fin 640 → EReal) (p : Fin 640 → Prop) [DecidablePred p]
    (S : Fin 640 → ℝ) (hs : ∀ c, s c = if p c then (S c : EReal) else ⊥) (c₀ : Fin 640) (h₀ : p c₀) (v : Fin 640 → Fin 128 → EReal) (w : Fin 640 → Fin 128 → ℝ)
    (hv : ∀ c l, v c l = (w c l : EReal)) (m' : EReal) (hm : m' = max m (Finset.fold max ⊥ s Finset.univ)) :
    Settled m' (fun l => Ideal.exp (m - m') * a l + ∑ c : Fin 640, Ideal.exp (s c - m') * v c l)
      (fun l => B l + ∑ c : Fin 640, (if p c then Real.exp (S c) else 0) * w c l) := by
  obtain ⟨M, hM, ha⟩ := h
  obtain ⟨T, hT⟩ := fold_max_real s (fun c => by rw [hs]; split; exact EReal.coe_ne_top _; exact bot_ne_top) c₀ (by rw [hs, if_pos h₀]; exact EReal.coe_ne_bot _)
  obtain ⟨M', hM'⟩ : ∃ M' : ℝ, m' = (M' : EReal) := by
    rw [hm, hT]
    rcases hM with hM | hM
    · exact ⟨max M T, by rw [hM]; exact (EReal.coe_strictMono.monotone.map_max (a := M) (b := T)).symm⟩
    · exact ⟨T, by rw [hM.1]; exact max_eq_right bot_le⟩
  refine ⟨M', hM', fun l => ?_⟩
  simp only [hM']
  rw [ha, rescale m M M' (B l) (hM.imp id fun hb => ⟨hb.1, hb.2 l⟩), add_mul, Finset.sum_mul, EReal.coe_add, ← coe_sum]
  refine congrArg _ (Finset.sum_congr rfl fun c _ => ?_)
  rw [hs, hv, fresh]

/-! ## A grid point -/

section
variable (q : FVec Ideal S640x128 .bf16) (K V : FVec Ideal S8320x128 .bf16) (S : Fin 640 → Fin 8320 → ℝ) (W : Fin 8320 → Fin 128 → ℝ)

/-- The scores and the values are real numbers. -/
structure Reals : Prop where
  score : ∀ r i, ∑ l : Fin 128, q (ix2 r l) * K (ix2 i l) = (S r i : EReal)
  value : ∀ i l, V (ix2 i l) = (W i l : EReal)

variable {q K V S W} (h : Reals q K V S W)
include h

/-- After `n` trips the blocks before the n-th are taken in, and the scores are those of the n-th. -/
theorem trips_at (n : ℕ) (r : Fin 640) :
    (∀ c, (trips (F := Ideal) q K V (start q K) n).2.2 (ix2 r c) = (S r (rowOf n c) : EReal))
      ∧ Held ((trips (F := Ideal) q K V (start q K) n).1 (ix2 r 0)) (fun l => (trips (F := Ideal) q K V (start q K) n).2.1 (ix2 r l))
          (fun l => ∑ b ∈ Finset.range n, ∑ c : Fin 640, Real.exp (S r (rowOf b c)) * W (rowOf b c) l) := by
  induction n with
  | zero =>
    refine ⟨fun c => ?_, 0, Or.inr ⟨pay3_at r, fun l => rfl⟩, fun l => ?_⟩
    · exact (pay5_at q (rowsAt K 0) r c).trans (h.score r (rowOf 0 c))
    · show k0_pay4 (F := Ideal) (ix2 r l) = (((∑ b ∈ Finset.range 0, _ : ℝ) * _ : ℝ) : EReal)
      rw [pay4_at, Finset.sum_range_zero, zero_mul, EReal.coe_zero]
  | succ n ih =>
    obtain ⟨ih1, ih2⟩ := ih
    refine ⟨fun c => (pay6_at q (rowsAt K (n + 1)) r c).trans (h.score r (rowOf (n + 1) c)), ?_⟩
    have key := absorb ih2 (fun c => (trips (F := Ideal) q K V (start q K) n).2.2 (ix2 r c)) (fun _ => True) (fun c => S r (rowOf n c))
      (fun c => by rw [if_pos trivial]; exact ih1 c) 0 trivial (fun c l => rowsAt V n (ix2 c l)) (fun c l => W (rowOf n c) l) (fun c l => h.value (rowOf n c) l)
      (k0_pay7 (F := Ideal) (trips (F := Ideal) q K V (start q K) n).1 (trips (F := Ideal) q K V (start q K) n).2.2 (ix2 r 0)) (pay7_at _ _ r)
    simp only [if_true] at key
    simp only [Finset.sum_range_succ]
    obtain ⟨M, h1, h2⟩ := key.held
    refine ⟨M, h1, fun l => ?_⟩
    refine (pay8_at _ _ _ _ r l).trans (h2 l)

/-- The sums over the keys up to row `i` of exponentials of the scores times the values. -/
def total (S : Fin 640 → Fin 8320 → ℝ) (W : Fin 8320 → Fin 128 → ℝ) (j : ℕ) (r : Fin 640) (l : Fin 128) : ℝ :=
  ∑ i : Fin 8320, (if i.val ≤ 640 * j + r.val then Real.exp (S r i) else 0) * W i l

omit h in
/-- The blocks before the j-th and the unmasked part of the j-th make the whole sum. -/
theorem total_eq {j : ℕ} (hj : j < 13) (r : Fin 640) (l : Fin 128) :
    (∑ b ∈ Finset.range j, ∑ c : Fin 640, Real.exp (S r (rowOf b c)) * W (rowOf b c) l)
      + ∑ c : Fin 640, (if c ≤ r then Real.exp (S r (rowOf j c)) else 0) * W (rowOf j c) l = total S W j r l := by
  let f : Fin 8320 → ℝ := fun i => (if i.val ≤ 640 * j + r.val then Real.exp (S r i) else 0) * W i l
  have e : total S W j r l = ∑ b ∈ Finset.range 13, ∑ c : Fin 640, f (rowOf b c) := by
    show ∑ i, f i = _
    rw [Fin.sum_univ_tiles 13 640 rfl f, Finset.sum_fin_eq_sum_range]
    refine Finset.sum_congr rfl fun b hb => ?_
    have hb := Finset.mem_range.mp hb
    rw [dif_pos hb]
    refine Finset.sum_congr rfl fun c _ => congrArg f (Fin.ext ?_)
    rw [rowOf_val hb]
    simp only
    omega
  rw [e, show 13 = (j + 1) + (12 - j) by omega, Finset.sum_range_add _ (j + 1) (12 - j), Finset.sum_range_succ, Finset.sum_eq_zero (s := Finset.range (12 - j)), add_zero]
  · refine congrArg₂ (· + ·) (Finset.sum_congr rfl fun b hb => Finset.sum_congr rfl fun c _ => ?_) (Finset.sum_congr rfl fun c _ => ?_)
    · have hb := Finset.mem_range.mp hb
      show _ = (if (rowOf b c).val ≤ 640 * j + r.val then _ else _) * _
      rw [if_pos (by rw [rowOf_val (by omega)]; omega)]
    · show _ = (if (rowOf j c).val ≤ 640 * j + r.val then _ else _) * _
      refine congrArg (· * _) (if_congr ?_ rfl rfl)
      rw [rowOf_val hj, Fin.le_def]
      omega
  · intro b hb
    have hb := Finset.mem_range.mp hb
    refine Finset.sum_eq_zero fun c _ => ?_
    show (if (rowOf (j + 1 + b) c).val ≤ 640 * j + r.val then _ else _) * _ = _
    rw [if_neg (by rw [rowOf_val (by omega)]; omega), zero_mul]

/-- A row of the diagonal block settles on the whole sums. -/
theorem settled {j : ℕ} (hj : j < 13) (r : Fin 640) :
    Settled (k0_pay13 (F := Ideal) (trips (F := Ideal) q K V (start q K) j).1 (trips (F := Ideal) q K V (start q K) j).2.2 (ix2 r 0))
      (fun l => k0_pay14 (F := Ideal) (trips (F := Ideal) q K V (start q K) j).1 (trips (F := Ideal) q K V (start q K) j).2.1 (trips (F := Ideal) q K V (start q K) j).2.2 (rowsAt V j) (ix2 r l))
      (total S W j r) := by
  obtain ⟨h1, h2⟩ := trips_at h j r
  have key := absorb h2 (fun c => k0_pay12 (F := Ideal) (trips (F := Ideal) q K V (start q K) j).2.2 (ix2 r c)) (fun c => c ≤ r) (fun c => S r (rowOf j c))
    (fun c => by rw [pay12_at, h1]) r le_rfl (fun c l => rowsAt V j (ix2 c l)) (fun c l => W (rowOf j c) l) (fun c l => h.value (rowOf j c) l)
    (k0_pay7 (F := Ideal) (trips (F := Ideal) q K V (start q K) j).1 (k0_pay12 (trips (F := Ideal) q K V (start q K) j).2.2) (ix2 r 0)) (pay7_at _ _ r)
  obtain ⟨M, e1, e2⟩ := key
  refine ⟨M, (pay13_at _ _ r).trans e1, fun l => ?_⟩
  refine ((pay14_at _ _ _ _ r l).trans (pay8_at _ _ _ _ r l)).trans ((e2 l).trans ?_)
  exact congrArg (fun x : ℝ => ((x * Real.exp (-M) : ℝ) : EReal)) (total_eq hj r l)

/-- What is stored in a row: in the first 64 lanes the weighted means of the values, in the others the log of the denominator. -/
theorem point_at {j : ℕ} (hj : j < 13) (r : Fin 640) (hpos : 0 < total S W j r 64) (l : Fin 128) :
    point (F := Ideal) q K V j (ix2 r l)
      = ((if l.val < 64 then total S W j r l / total S W j r 64 else Real.log (total S W j r 64) : ℝ) : EReal) := by
  obtain ⟨M, e1, e2⟩ := settled h hj r
  have hd : (0 : ℝ) < total S W j r 64 * Real.exp (-M) := mul_pos hpos (Real.exp_pos _)
  unfold point close
  rw [pay1_at, pay15_at]
  split
  · rw [show k0_pay14 (F := Ideal) _ _ _ _ (ix2 r l) = _ from e2 l, show k0_pay14 (F := Ideal) _ _ _ _ (ix2 r 64) = _ from e2 64,
      Ideal.div_coe hd.ne', ← EReal.coe_mul, ← div_eq_mul_one_div, mul_div_mul_right _ _ (Real.exp_pos _).ne']
  · rw [e1, show k0_pay14 (F := Ideal) _ _ _ _ (ix2 r 64) = _ from e2 64, Ideal.log_coe, if_neg hd.not_ge, ← EReal.coe_add,
      Real.log_mul hpos.ne' (Real.exp_pos _).ne', Real.log_exp]
    congr 1
    ring

end

end Cert.Kernel16Ideal.Fwd
-- ==== Proof.Fwd.Arrays.lean ====
module

public import proofs.«01_k».proof.Proof.Fwd.Point
public import proofs.«01_k».proof.Proof.Fwd.Softmax
public import proofs.«01_k».proof.Proof.Attn.Value
public import Idealize.ShloMosaic.Lib.Pipeline.ValueKit

@[expose] public section

set_option maxRecDepth 16384

noncomputable section

namespace Cert.Kernel16Ideal.Fwd

open Cert.Kernel16Ideal Cert.Kernel16Ideal.Gen
open Cert.KernelIdeal.Attn (rowOf rowOf_val lane headOf laneOf lane_head headOf_lane)
open Idealize.ShloMosaic Idealize.ShloMosaic.TcCoe Idealize.ShloMosaic.Tactic Idealize.SL.Sem
open Idealize.ShloMosaic.Pipeline (Dat Cfg Window)
open Cert.Spec (coe_sum)

/-! # What the forward pass's result array holds, over the extended reals -/

variable (m : (ℓ : Loc nD τ sig) → Buf (Elt Ideal) ℓ)

/-- The three operands as the call finds them. -/
abbrev Qa (c : Dev nD) : FVec Ideal S8320x2048 .bf16 := V m c main_v24
abbrev Ka (c : Dev nD) : FVec Ideal S8320x2048 .bf16 := V m c main_v41
abbrev Va (c : Dev nD) : FVec Ideal S8320x2048 .bf16 := V m c main_v49

theorem idx0 : ∀ t : Fin cfg0.N, win0_0.index t = ![t.val % 13, t.val / 13] := (by decide +kernel : ∀ t : Fin grid0.N, _)
theorem idx1 : ∀ t : Fin cfg0.N, win0_1.index t = ![0, t.val / 13] := (by decide +kernel : ∀ t : Fin grid0.N, _)
theorem idx2 : ∀ t : Fin cfg0.N, win0_2.index t = ![0, t.val / 13] := (by decide +kernel : ∀ t : Fin grid0.N, _)
theorem idx3 : ∀ t : Fin cfg0.N, win0_3.index t = ![t.val % 13, t.val / 13] := (by decide +kernel : ∀ t : Fin grid0.N, _)

/-- The head of a point. -/
def hd (t : Fin cfg0.N) : Fin 16 := ⟨t.val / 13, by have := lt_of_lt_of_eq t.isLt N_0; omega⟩

theorem blk0 (c : Dev nD) (t : Fin cfg0.N) (r : Fin 640) (l : Fin 128) :
    (show FVec Ideal S640x128 .bf16 from iblk m c 0 t) (ix2 r l) = Qa m c (ix2 (rowOf (t.val % 13) r) (lane (hd t) l)) := by
  have := lt_of_lt_of_eq t.isLt N_0
  unfold lane hd rowOf
  blk_ext [iblk, idx0 t]
theorem blk1 (c : Dev nD) (t : Fin cfg0.N) (i : Fin 8320) (l : Fin 128) :
    (show FVec Ideal S8320x128 .bf16 from iblk m c 1 t) (ix2 i l) = Ka m c (ix2 i (lane (hd t) l)) := by
  have := lt_of_lt_of_eq t.isLt N_0
  unfold lane hd
  blk_ext [iblk, idx1 t]
theorem blk2 (c : Dev nD) (t : Fin cfg0.N) (i : Fin 8320) (l : Fin 128) :
    (show FVec Ideal S8320x128 .bf16 from iblk m c 2 t) (ix2 i l) = Va m c (ix2 i (lane (hd t) l)) := by
  have := lt_of_lt_of_eq t.isLt N_0
  unfold lane hd
  blk_ext [iblk, idx2 t]

/-- The array's elements under the block of a point. -/
theorem emb3 (t : Fin cfg0.N) (r : Fin 640) (l : Fin 128) : (win0_3.blk t).view.emb (ix2 r l) = (ix2 (rowOf (t.val % 13) r) (lane (hd t) l) : S8320x2048.Idx) := by
  have := lt_of_lt_of_eq t.isLt N_0
  unfold lane hd rowOf
  blk_ext [idx3 t]

/-- Real operands: head by head a row of 128 numbers for every query, key and value. -/
structure Rows (c : Dev nD) (q k v : Fin 16 → Fin 8320 → Fin 128 → ℝ) : Prop where
  q : ∀ h i l, Qa m c (ix2 i (lane h l)) = (q h i l : EReal)
  k : ∀ h i l, Ka m c (ix2 i (lane h l)) = (k h i l : EReal)
  v : ∀ h i l, Va m c (ix2 i (lane h l)) = (v h i l : EReal)

/-- The sums over the keys up to row `i` of exponentials of the scores times the values. -/
def num (q k v : Fin 16 → Fin 8320 → Fin 128 → ℝ) (h : Fin 16) (i : Fin 8320) (l : Fin 128) : ℝ :=
  ∑ j : Fin 8320, (if j.val ≤ i.val then Real.exp (∑ x : Fin 128, q h i x * k h j x) else 0) * v h j l

/-- The array the launch leaves. -/
def out (q k v : Fin 16 → Fin 8320 → Fin 128 → ℝ) : FVec Ideal S8320x2048 .f32 := fun y =>
  ((if (laneOf (y 1)).val < 64 then num q k v (headOf (y 1)) (y 0) (laneOf (y 1)) / num q k v (headOf (y 1)) (y 0) 64
    else Real.log (num q k v (headOf (y 1)) (y 0) 64) : ℝ) : EReal)

theorem laneOf_lane (h : Fin 16) (l : Fin 128) : laneOf (lane h l) = l := Fin.ext (by show (128 * h.val + l.val) % 128 = l.val; omega)

theorem out_at (q k v : Fin 16 → Fin 8320 → Fin 128 → ℝ) (h : Fin 16) (i : Fin 8320) (l : Fin 128) :
    out q k v (ix2 i (lane h l)) = ((if l.val < 64 then num q k v h i l / num q k v h i 64 else Real.log (num q k v h i 64) : ℝ) : EReal) := by
  show ((if (laneOf (lane h l)).val < 64 then num q k v (headOf (lane h l)) i (laneOf (lane h l)) / num q k v (headOf (lane h l)) i 64
    else Real.log (num q k v (headOf (lane h l)) i 64) : ℝ) : EReal) = _
  rw [laneOf_lane, headOf_lane]

variable {m} {c : Dev nD} {q k v : Fin 16 → Fin 8320 → Fin 128 → ℝ} (hR : Rows m c q k v)
include hR

/-- A point's blocks are real. -/
theorem reals (t : Fin cfg0.N) : Reals (iblk m c 0 t) (iblk m c 1 t) (iblk m c 2 t)
    (fun r i => ∑ x : Fin 128, q (hd t) (rowOf (t.val % 13) r) x * k (hd t) i x) (fun i l => v (hd t) i l) where
  score r i := by
    rw [← coe_sum]
    refine Finset.sum_congr rfl fun l _ => ?_
    rw [EReal.coe_mul, ← hR.q, ← hR.k]
    exact congrArg₂ (· * ·) (blk0 m c t r l) (blk1 m c t i l)
  value i l := (blk2 m c t i l).trans (hR.v _ i l)

omit hR in
theorem total_num (t : Fin cfg0.N) (r : Fin 640) (l : Fin 128) :
    total (fun r i => ∑ x : Fin 128, q (hd t) (rowOf (t.val % 13) r) x * k (hd t) i x) (fun i l => v (hd t) i l) (t.val % 13) r l
      = num q k v (hd t) (rowOf (t.val % 13) r) l := by
  unfold total num
  rw [rowOf_val (Nat.mod_lt _ (by decide))]

/-- The result array. -/
theorem final (hpos : ∀ h i, 0 < num q k v h i 64) : (dats m 0 c).arrAt 3 cfg0.N = out q k v := by
  refine (dats m 0 c).arrAt_eq_of_covers 3 (out q k v) (by decide +kernel) fun t hf y => ?_
  rw [after0_3, outs_eq]
  blk_simp
  obtain ⟨r, l, rfl⟩ : ∃ (r : Fin 640) (l : Fin 128), y = ix2 r l := ⟨y 0, y 1, eq_ix2 y⟩
  rw [emb3, out_at, point_at (reals hR t) (Nat.mod_lt _ (by decide)) r (by rw [total_num]; exact hpos _ _), total_num, total_num]

end Cert.Kernel16Ideal.Fwd
-- ==== Proof.Fwd.Host.lean ====
module

public import proofs.«01_k».proof.Proof.Fwd.Arrays

@[expose] public section

set_option maxRecDepth 16384

noncomputable section

namespace Cert.Kernel16Ideal.Fwd

open Cert.Kernel16Ideal Cert.Kernel16Ideal.Gen Idealize.ShloMosaic Idealize.ShloMosaic.TcCoe Idealize.SL.Sem Idealize.ShloMosaic.StableHlo Idealize.ShloMosaic.Tactic
open Cert.Spec (Args col coe_sum)
open Cert.KernelIdeal.Attn (lane aug sum_aug ext ext_of pad_zero cat5 cat5_at cat11 cat11_at kRow vRow eighth one_real sub_real sub_sub_real neg_real neg_zero_real tok past ext_tok sum_rows sum_nine aug_main)
open Cert.KernelIdeal.Attn renaming main → headLane

/-! # The forward pass's operands, on finite arguments -/

/-- The arguments hold the real numbers of `A`. -/
structure Holds (A : Args) (V : Valuation τ sig (Elt Ideal)) : Prop where
  q : ∀ i y, (show FVec Ideal S8208x1024 .f32 from V (Proc.devRef .tc main_arg0)) (ix2 i y) = (A.q i y : EReal)
  k : ∀ i y, (show FVec Ideal S8208x1024 .f32 from V (Proc.devRef .tc main_arg1)) (ix2 i y) = (A.k i y : EReal)
  v : ∀ i y, (show FVec Ideal S8208x1024 .f32 from V (Proc.devRef .tc main_arg2)) (ix2 i y) = (A.v i y : EReal)
  c : ∀ i h, (show FVec Ideal S8208x16 .f32 from V (Proc.devRef .tc main_arg3)) (ix2 i h) = (A.c i h : EReal)

/-- The host lines that pad; `hostOps0_8` lays the operands out. -/
abbrev padOps : List (HloOp τ sig (Elt Ideal)) :=
  List.flatten [hostOps0, hostOps0_1, hostOps0_2, hostOps0_3, hostOps0_4, hostOps0_5, hostOps0_6, hostOps0_7]

/-- Eight pieces: the head's lanes, six columns, zeros. -/
def cat8 (a0 : FVec Ideal S8320x16x64 .f32) (a1 a2 a3 a4 a5 a6 : FVec Ideal S8320x16x1 .f32) (a7 : FVec Ideal S8320x16x58 .f32) :
    FVec Ideal S8320x2048 .bf16 :=
  truncf .bf16 (shapeCast S8320x2048 (concatenate S8320x16x128 2 [⟨S8320x16x64, a0⟩, ⟨S8320x16x1, a1⟩, ⟨S8320x16x1, a2⟩, ⟨S8320x16x1, a3⟩, ⟨S8320x16x1, a4⟩,
      ⟨S8320x16x1, a5⟩, ⟨S8320x16x1, a6⟩, ⟨S8320x16x58, a7⟩]
      concatenates_S8320x16x64_S8320x16x1_S8320x16x1_S8320x16x1_S8320x16x1_S8320x16x1_S8320x16x1_S8320x16x58_S8320x16x128_d2 : FVec Ideal S8320x16x128 .f32)
    shapeCasts_S8320x16x128_S8320x2048) bitsLt_bf16_f32

theorem cat8_at (a0 : FVec Ideal S8320x16x64 .f32) (a1 a2 a3 a4 a5 a6 : FVec Ideal S8320x16x1 .f32) (a7 : FVec Ideal S8320x16x58 .f32)
    (h : Fin 16) (i : Fin 8320) (f : Fin 64 → ℝ) (e : Fin 9 → ℝ) (h0 : ∀ d, a0 (ix3 i h d) = (f d : EReal))
    (h1 : a1 (ix3 i h 0) = (e 0 : EReal)) (h2 : a2 (ix3 i h 0) = (e 1 : EReal)) (h3 : a3 (ix3 i h 0) = (e 2 : EReal))
    (h4 : a4 (ix3 i h 0) = (e 3 : EReal)) (h5 : a5 (ix3 i h 0) = (e 4 : EReal)) (h6 : a6 (ix3 i h 0) = (e 5 : EReal))
    (h7 : ∀ x, a7 (ix3 i h x) = 0) (he : ∀ x : Fin 9, 6 ≤ x.val → e x = 0) (l : Fin 128) :
    cat8 a0 a1 a2 a3 a4 a5 a6 a7 (ix2 i (lane h l)) = (aug f e l : EReal) := by
  unfold cat8
  rw [KernelIdeal.Attn.flat_at]
  pointwise
  unfold aug
  by_cases hl : l.val < 64
  · rw [dif_pos hl, dif_pos hl]; exact h0 _
  · rw [dif_neg hl, dif_neg hl]
    by_cases hr : l.val - 64 < 6
    · rw [dif_pos (show l.val - 64 < 9 by omega)]
      obtain ⟨x, hx⟩ : ∃ x : Fin 6, l.val - 64 = x.val := ⟨⟨_, hr⟩, rfl⟩
      simp only [hx]
      fin_cases x <;> simp only [Nat.reduceSub, Nat.reduceLT, ↓reduceDIte]
      · exact h1
      · exact h2
      · exact h3
      · exact h4
      · exact h5
      · exact h6
    · rw [dif_neg (by omega), dif_neg (by omega), dif_neg (by omega), dif_neg (by omega), dif_neg (by omega), dif_neg (by omega), h7]
      split
      · rw [he _ (by simp only; omega), EReal.coe_zero]
      · exact EReal.coe_zero.symm

section Stages
variable (V : Valuation τ sig (Elt Ideal)) (A : Args)

/-- What the operands are laid out from. -/
structure HasPads (V : Valuation τ sig (Elt Ideal)) : Prop where
  q : ∀ i y, (show FVec Ideal S8320x1024 .f32 from V (Proc.devRef .tc main_v0)) (ix2 i y) = (ext (A.q · y) i : EReal)
  k : ∀ i y, (show FVec Ideal S8320x1024 .f32 from V (Proc.devRef .tc main_v1)) (ix2 i y) = (ext (A.k · y) i : EReal)
  v : ∀ i y, (show FVec Ideal S8320x1024 .f32 from V (Proc.devRef .tc main_v2)) (ix2 i y) = (ext (A.v · y) i : EReal)
  c : ∀ i h, (show FVec Ideal S8320x16 .f32 from V (Proc.devRef .tc main_v3)) (ix2 i h) = (ext (A.c · h) i : EReal)

theorem pads_at (hV : Holds A V) : HasPads A (after padOps V) where
  q i y := by after_reads_at; exact ext_of _ _ (fun i => hV.q i y) _ pad_zero i
  k i y := by after_reads_at; exact ext_of _ _ (fun i => hV.k i y) _ pad_zero i
  v i y := by after_reads_at; exact ext_of _ _ (fun i => hV.v i y) _ pad_zero i
  c i h := by after_reads_at; exact ext_of _ _ (fun i => hV.c i h) _ pad_zero i

/-- The rows of the queries: three pieces of the cumulative log-forget, then ones. -/
def qRow (A : Args) (h : Fin 16) (i : Fin 8320) : Fin 128 → ℝ :=
  aug (fun d => ext (A.q · (col h d)) i * (1 / 8)) ![ext (A.c · h) i, 0, 0, 1, 1, 1, 0, 0, 0]

theorem q_at (hV : HasPads A V) (h : Fin 16) (i : Fin 8320) (l : Fin 128) :
    (show FVec Ideal S8320x2048 .bf16 from after hostOps0_8 V (Proc.devRef .tc main_v24)) (ix2 i (lane h l)) = (qRow A h i l : EReal) := by
  have e : ∀ X : FVec Ideal S8320x2048 .bf16, X = cat8 (upto hostOps0_8 V 23 (Proc.devRef .tc main_v14)) (upto hostOps0_8 V 23 (Proc.devRef .tc main_v15)) (upto hostOps0_8 V 23 (Proc.devRef .tc main_v16))
        (upto hostOps0_8 V 23 (Proc.devRef .tc main_v17)) (upto hostOps0_8 V 23 (Proc.devRef .tc main_v18)) (upto hostOps0_8 V 23 (Proc.devRef .tc main_v19))
        (upto hostOps0_8 V 23 (Proc.devRef .tc main_v20)) (upto hostOps0_8 V 23 (Proc.devRef .tc main_v21)) → after hostOps0_8 V (Proc.devRef .tc main_v24) = X := by
    intro X hX
    after_reads_simp
    exact hX.symm
  refine (congrFun (e _ rfl) _).trans (cat8_at _ _ _ _ _ _ _ _ h i _ _ (fun d => ?_) ?_ ?_ ?_ ?_ ?_ ?_ (fun x => ?_) (fun x hx => ?_) l)
  · refine Eq.trans ?_ (EReal.coe_mul _ _).symm
    after_reads_at
    exact congrArg₂ (· * ·) (hV.q i _) eighth
  · after_reads_at; exact hV.c i h
  · after_reads_at; exact sub_real _ _ (hV.c i h)
  · after_reads_at; exact sub_sub_real _ _ (hV.c i h)
  · after_reads_at; exact one_real
  · after_reads_at; exact one_real
  · after_reads_at; exact one_real
  · after_reads_at
  · fin_cases x <;> first | rfl | exact absurd hx (by decide)

theorem k_at (hV : HasPads A V) (h : Fin 16) (i : Fin 8320) (l : Fin 128) :
    (show FVec Ideal S8320x2048 .bf16 from after hostOps0_8 V (Proc.devRef .tc main_v41)) (ix2 i (lane h l)) = (kRow A h i l : EReal) := by
  have e : ∀ X : FVec Ideal S8320x2048 .bf16, X = cat11 (upto hostOps0_8 V 47 (Proc.devRef .tc main_v28)) (upto hostOps0_8 V 47 (Proc.devRef .tc main_v29)) (upto hostOps0_8 V 47 (Proc.devRef .tc main_v30))
        (upto hostOps0_8 V 47 (Proc.devRef .tc main_v31)) (upto hostOps0_8 V 47 (Proc.devRef .tc main_v32)) (upto hostOps0_8 V 47 (Proc.devRef .tc main_v33))
        (upto hostOps0_8 V 47 (Proc.devRef .tc main_v34)) (upto hostOps0_8 V 47 (Proc.devRef .tc main_v35)) (upto hostOps0_8 V 47 (Proc.devRef .tc main_v36))
        (upto hostOps0_8 V 47 (Proc.devRef .tc main_v37)) (upto hostOps0_8 V 47 (Proc.devRef .tc main_v38)) → after hostOps0_8 V (Proc.devRef .tc main_v41) = X := by
    intro X hX
    after_reads_simp
    exact hX.symm
  refine (congrFun (e _ rfl) _).trans (cat11_at _ _ _ _ _ _ _ _ _ _ _ h i _ _ (fun d => ?_) ?_ ?_ ?_ ?_ ?_ ?_ ?_ ?_ ?_ (fun x => ?_) l)
  · after_reads_at; exact hV.k i _
  · after_reads_at; exact one_real
  · after_reads_at; exact one_real
  · after_reads_at; exact one_real
  · after_reads_at; exact neg_real _ _ (hV.c i h)
  · after_reads_at; exact neg_zero_real _ (sub_real _ _ (hV.c i h))
  · after_reads_at; exact neg_zero_real _ (sub_sub_real _ _ (hV.c i h))
  · after_reads_at; exact one_real
  · after_reads_at; exact one_real
  · after_reads_at; exact one_real
  · after_reads_at

theorem v_at (hV : HasPads A V) (h : Fin 16) (i : Fin 8320) (l : Fin 128) :
    (show FVec Ideal S8320x2048 .bf16 from after hostOps0_8 V (Proc.devRef .tc main_v49)) (ix2 i (lane h l)) = (vRow A h i l : EReal) := by
  have e : ∀ X : FVec Ideal S8320x2048 .bf16, X = cat5 (upto hostOps0_8 V 59 (Proc.devRef .tc main_v42)) (upto hostOps0_8 V 59 (Proc.devRef .tc main_v43)) (upto hostOps0_8 V 59 (Proc.devRef .tc main_v44))
        (upto hostOps0_8 V 59 (Proc.devRef .tc main_v45)) (upto hostOps0_8 V 59 (Proc.devRef .tc main_v46)) → after hostOps0_8 V (Proc.devRef .tc main_v49) = X := by
    intro X hX
    after_reads_simp
    exact hX.symm
  refine (congrFun (e _ rfl) _).trans (cat5_at _ _ _ _ _ h i _ _ (fun d => ?_) ?_ ?_ ?_ (fun x => ?_) (fun x hx => ?_) l)
  · after_reads_at; exact hV.v i _
  · after_reads_at; exact one_real
  · after_reads_at; exact one_real
  · after_reads_at; exact one_real
  · after_reads_at
  · fin_cases x <;> first | rfl | exact absurd hx (by decide)

end Stages

/-! ## The launch's operands -/

variable (m : (ℓ : Loc nD τ sig) → Buf (Elt Ideal) ℓ) (c : Dev nD) (A : Args)

/-- The contents the program is launched on. -/
abbrev launched : Valuation τ sig (Elt Ideal) := fun b => m (c, b)

theorem after_app (l₁ l₂ : List (HloOp τ sig (Elt Ideal))) (V : Valuation τ sig (Elt Ideal)) : after (l₁ ++ l₂) V = after l₂ (after l₁ V) := by
  induction l₁ generalizing V with
  | nil => rfl
  | cons op l ih => exact ih _

theorem V0_eq : V0 m c = after hostOps0_8 (after padOps (launched m c)) := by
  simp only [V0, List.flatten_cons, List.flatten_nil, List.append_nil, after_app, padOps]

/-- The operands' rows are real. -/
theorem rows (hA : Holds A (launched m c)) : Rows m c (qRow A) (kRow A) (vRow A) where
  q h i l := by
    unfold Qa V
    rw [V0_eq]
    exact q_at _ A (pads_at _ A hA) h i l
  k h i l := by
    unfold Ka V
    rw [V0_eq]
    exact k_at _ A (pads_at _ A hA) h i l
  v h i l := by
    unfold Va V
    rw [V0_eq]
    exact v_at _ A (pads_at _ A hA) h i l

/-! ## The sums over the padded rows -/

section Sums
variable (h : Fin 16)

theorem dot_qk (i j : Fin 8208) : ∑ l : Fin 128, qRow A h (tok i) l * kRow A h (tok j) l = Spec.s A h i j := by
  unfold kRow qRow
  rw [sum_aug, sum_nine, Spec.s, Finset.sum_mul]
  simp only [ext_tok]
  rw [show (∑ d : Fin 64, A.q i (col h d) * (1 / 8) * A.k j (col h d)) = ∑ d : Fin 64, A.q i (col h d) * A.k j (col h d) * (1 / 8)
    from Finset.sum_congr rfl fun d _ => by ring]
  generalize (∑ d : Fin 64, A.q i (col h d) * A.k j (col h d) * (1 / 8)) = x
  show x + (A.c i h * 1 + 0 * 1 + 0 * 1 + 1 * -A.c j h + 1 * 0 + 1 * 0 + 0 * 1 + 0 * 1 + 0 * 1) = _
  ring

theorem num_tok (i : Fin 8208) (l : Fin 128) :
    num (qRow A) (kRow A) (vRow A) h (tok i) l = ∑ j : Fin 8208, (if j.val ≤ i.val then Real.exp (Spec.s A h i j) else 0) * vRow A h (tok j) l := by
  unfold num
  rw [sum_rows _ (fun j => by rw [if_neg (by show ¬ (8208 + j.val ≤ i.val); omega), zero_mul])]
  simp only [dot_qk]
  rfl

theorem num_one (i : Fin 8208) : num (qRow A) (kRow A) (vRow A) h (tok i) 64 = Spec.Z A h i := by
  rw [num_tok, Spec.Z]
  exact Finset.sum_congr rfl fun j _ => mul_one _

theorem num_main (i : Fin 8208) (d : Fin 64) :
    num (qRow A) (kRow A) (vRow A) h (tok i) (headLane d) / num (qRow A) (kRow A) (vRow A) h (tok i) 64 = ∑ j : Fin 8208, Spec.p A h i j * A.v j (col h d) := by
  rw [num_one, num_tok, Finset.sum_div]
  refine Finset.sum_congr rfl fun j _ => ?_
  unfold vRow Spec.p
  rw [aug_main, ext_tok]
  split
  · rw [mul_div_right_comm]
  · rw [zero_mul, zero_div]

theorem num_pos (i : Fin 8320) : 0 < num (qRow A) (kRow A) (vRow A) h i 64 := by
  have h0 : ∀ j ∈ Finset.univ, (0 : ℝ) ≤ (if j.val ≤ i.val then Real.exp (∑ x : Fin 128, qRow A h i x * kRow A h j x) else 0) * vRow A h j 64 := fun j _ => by
    rw [show vRow A h j 64 = 1 from rfl, mul_one]
    split
    · exact (Real.exp_pos _).le
    · exact le_rfl
  unfold num
  refine lt_of_lt_of_le ?_ (Finset.single_le_sum h0 (Finset.mem_univ i))
  rw [if_pos le_rfl, show vRow A h i 64 = 1 from rfl, mul_one]
  exact Real.exp_pos _

end Sums

/-! ## The results -/

/-- What the lines after the launch read. -/
abbrev left : Valuation τ sig (Elt Ideal) := Pipeline.withArrays spec0 c (V0 m c) fun w => (dats m 0 c).arrAt w cfg0.N

theorem arrays_ne : ∀ w w' : Fin 4, w ≠ w' → Pipeline.arrRef spec0 w ≠ Pipeline.arrRef spec0 w' := by decide

theorem left_at (w : Fin 4) : left m c (Proc.devRef .tc (Pipeline.arrRef spec0 w)) = (dats m 0 c).arrAt w cfg0.N :=
  Pipeline.withArrays_arr_shared spec0 c (V0 m c) _ (fun w w' hne e => absurd e (arrays_ne w w' hne)) w

theorem left_out (hA : Holds A (launched m c)) : left m c (Proc.devRef .tc main_v50) = out (qRow A) (kRow A) (vRow A) :=
  (left_at m c 3).trans (final (rows m c A hA) (num_pos A))

section Tail
variable (V : Valuation τ sig (Elt Ideal))

theorem tail_o (i : Fin 8208) (y : Fin 1024) :
    (show FVec Ideal S8208x1024 .f32 from after hostOps1 V (Proc.devRef .tc main_v54)) (ix2 i y)
      = (show FVec Ideal S8320x2048 .f32 from V (Proc.devRef .tc main_v50)) (ix2 (tok i) (lane (Spec.hd y) (headLane (Spec.ld y)))) := by
  after_reads_at
  refine congrArg (fun z => (show FVec Ideal S8320x2048 .f32 from V (Proc.devRef .tc main_v50)) (ix2 (tok i) z)) (Fin.ext ?_)
  exact congrArg (· + y.val % 64) (mul_comm _ _)

theorem tail_lse (i : Fin 8208) (h : Fin 16) :
    (show FVec Ideal S8208x16 .f32 from after hostOps1 V (Proc.devRef .tc main_v56)) (ix2 i h)
      = (show FVec Ideal S8320x2048 .f32 from V (Proc.devRef .tc main_v50)) (ix2 (tok i) (lane h 64)) := by
  after_reads_at
  refine congrArg (fun z => (show FVec Ideal S8320x2048 .f32 from V (Proc.devRef .tc main_v50)) (ix2 (tok i) z)) (Fin.ext ?_)
  exact congrArg (· + 64) (mul_comm _ _)

end Tail

/-- The attention's output, -/
theorem res_o (hA : Holds A (launched m c)) (i : Fin 8208) (y : Fin 1024) :
    (show FVec Ideal S8208x1024 .f32 from after hostOps1 (left m c) (Proc.devRef .tc main_v54)) (ix2 i y)
      = ((∑ j : Fin 8208, Spec.p A (Spec.hd y) i j * A.v j (col (Spec.hd y) (Spec.ld y)) : ℝ) : EReal) := by
  refine (tail_o _ i y).trans ?_
  rw [left_out m c A hA]
  refine (out_at _ _ _ _ _ _).trans ?_
  rw [if_pos (show (headLane (Spec.ld y)).val < 64 from (Spec.ld y).isLt), num_main]

/-- and the log of the softmax's denominator. -/
theorem res_lse (hA : Holds A (launched m c)) (i : Fin 8208) (h : Fin 16) :
    (show FVec Ideal S8208x16 .f32 from after hostOps1 (left m c) (Proc.devRef .tc main_v56)) (ix2 i h) = (Real.log (Spec.Z A h i) : EReal) := by
  refine (tail_lse _ i h).trans ?_
  rw [left_out m c A hA]
  refine (out_at _ _ _ _ _ _).trans ?_
  rw [if_neg (by decide), num_one]

/-- Every execution ends with the results at what the last lines leave there. -/
theorem run_results (ρ : Dev nD → PrngReg) : θ_run (Kernel16Ideal.defs (F := Ideal)) (onTc (τ := τ) (Kernel16Ideal.main (F := Ideal))) ⟨m, fun _ => 0, ρ⟩ fun r =>
    ∀ c : Dev nD, r.2.mem ((c.tc : Thread nD τ).loc main_v54) = after hostOps1 (left m c) (Proc.devRef .tc main_v54)
      ∧ r.2.mem ((c.tc : Thread nD τ).loc main_v56) = after hostOps1 (left m c) (Proc.devRef .tc main_v56) :=
  (θ_run defs _ _).mono (fun _ h c =>
    ⟨(h c).2 main_v54 (Pipeline.mem_restRefs_of main_v54 (by decide) (by decide)), (h c).2 main_v56 (Pipeline.mem_restRefs_of main_v56 (by decide) (by decide))⟩)
    (run_main m ρ)

end Cert.Kernel16Ideal.Fwd
-- ==== Proof.Fwd.Reference.lean ====
module

public import proofs.«01_k».proof.Proof.Gen.Reference16Ideal.Read
public import proofs.«01_k».proof.Proof.Attn.Spec
public import Idealize.ShloMosaic.Lib.Quiescent
public import Idealize.ShloMosaic.Lib.WordCmp
public import Idealize.ShloMosaic.Lib.Pointwise
public import Idealize.ShloMosaic.Lib.IdealHost
public import Idealize.ShloMosaic.Lib.Tactic

@[expose] public section

set_option maxRecDepth 16384

noncomputable section

namespace Cert.Reference16Ideal.Fwd

open Cert.Reference16Ideal Cert.Reference16Ideal.Gen Cert.Reference16Ideal.Read Idealize.ShloMosaic Idealize.ShloMosaic.TcCoe Idealize.SL.Sem Idealize.ShloMosaic.Tactic
open Cert.Spec (Args col coe_sum)

/-! # What the forward pass's reference computes, on finite arguments -/

/-- The frame of the reference: the arguments unchanged, every counter at zero. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2.2, sem_eq_zero_of_no_sems (by decide) r.2⟩) (Value.run m ρ)

theorem eighth : Ideal.ofBits .f32 1040187392#32 = ((1 / 8 : ℝ) : EReal) := by
  simp [Ideal.ofBits, Ideal.ieee, -EReal.coe_mul]; norm_num

theorem negInf : Ideal.ofBits .f32 4286578688#32 = ⊥ := by
  simp [Ideal.ofBits, Ideal.ieee]

section Stages
variable (A : Args) (q k v : FVec Ideal S8208x1024 .f32) (c : FVec Ideal S8208x16 .f32)
  (hq : ∀ i y, q (ix2 i y) = (A.q i y : EReal)) (hk : ∀ i y, k (ix2 i y) = (A.k i y : EReal))
  (hv : ∀ i y, v (ix2 i y) = (A.v i y : EReal)) (hc : ∀ i h, c (ix2 i h) = (A.c i h : EReal))

theorem e0 (i : Fin 8208) (h : Fin 16) (d : Fin 64) : idx_main_v0 (ix3 i h d) = ix2 i (col h d) := funext fun a => match a with
  | ⟨0, _⟩ => Fin.ext (by show ((i.val * 16 + h.val) * 64 + d.val) / 1024 = i.val; omega)
  | ⟨1, _⟩ => Fin.ext (by show ((i.val * 16 + h.val) * 64 + d.val) % 1024 = h.val * 64 + d.val; omega)

theorem e7 (h : Fin 16) (i j : Fin 8208) : idx_main_v5 (idx_main_v6 (idx_main_v7 (ix3 h i j))) = ix2 i h := funext fun a => match a with
  | ⟨0, _⟩ => rfl
  | ⟨1, _⟩ => rfl
theorem e10 (h : Fin 16) (i j : Fin 8208) : idx_main_v5 (idx_main_v9 (idx_main_v10 (ix3 h i j))) = ix2 j h := funext fun a => match a with
  | ⟨0, _⟩ => rfl
  | ⟨1, _⟩ => rfl
theorem e21 (h : Fin 16) (i j : Fin 8208) : idx_main_v20 (idx_main_v21 (ix3 h i j)) = ix2 h i := funext fun a => match a with
  | ⟨0, _⟩ => rfl
  | ⟨1, _⟩ => rfl
theorem e26 (h : Fin 16) (i j : Fin 8208) : idx_main_v25 (idx_main_v26 (ix3 h i j)) = ix2 h i := funext fun a => match a with
  | ⟨0, _⟩ => rfl
  | ⟨1, _⟩ => rfl
theorem e24 (h : Fin 16) (i j : Fin 8208) : idx_main_v24 (ix2 h i) j = ix3 h i j := funext fun a => match a with
  | ⟨0, _⟩ => rfl
  | ⟨1, _⟩ => rfl
  | ⟨2, _⟩ => rfl
theorem e29 (h : Fin 16) (d : Fin 64) (i j : Fin 8208) : ridx_main_v29 (idx_main_v30 (ix3 i h d)) j = ix3 h i j := funext fun a => match a with
  | ⟨0, _⟩ => rfl
  | ⟨1, _⟩ => rfl
  | ⟨2, _⟩ => rfl
theorem e28 (h : Fin 16) (d : Fin 64) (i j : Fin 8208) : lidx_main_v29 (idx_main_v30 (ix3 i h d)) j = ix3 j h d := funext fun a => match a with
  | ⟨0, _⟩ => rfl
  | ⟨1, _⟩ => rfl
  | ⟨2, _⟩ => rfl
theorem e31 (i : Fin 8208) (y : Fin 1024) : idx_main_v31 (ix2 i y) = ix3 i (Spec.hd y) (Spec.ld y) := funext fun a => match a with
  | ⟨0, _⟩ => Fin.ext (by show (i.val * 1024 + y.val) / 1024 = i.val; omega)
  | ⟨1, _⟩ => Fin.ext (by show (i.val * 1024 + y.val) / 64 % 16 = y.val / 64; omega)
  | ⟨2, _⟩ => Fin.ext (by show (i.val * 1024 + y.val) % 64 = y.val % 64; omega)
theorem e34 (i : Fin 8208) (h : Fin 16) : idx_main_v34 (ix2 i h) = ix2 h i := funext fun a => match a with
  | ⟨0, _⟩ => rfl
  | ⟨1, _⟩ => rfl

include hq hk in
theorem dot_at (h : Fin 16) (i j : Fin 8208) :
    val_main_v2 (F := Ideal) q k (ix3 h i j) = ((∑ d : Fin 64, A.q i (col h d) * A.k j (col h d) : ℝ) : EReal) := by
  rw [val_main_v2_apply, ← coe_sum]
  refine Finset.sum_congr rfl fun d _ => ?_
  rw [val_main_v0_apply, val_main_v1_apply, EReal.coe_mul]
  exact congrArg₂ (· * ·) ((congrArg q (e0 i h d)).trans (hq _ _)) ((congrArg k (e0 j h d)).trans (hk _ _))

include hq hk hc in
theorem score_at (h : Fin 16) (i j : Fin 8208) : val_main_v11 (F := Ideal) q k c (ix3 h i j) = (Spec.s A h i j : EReal) := by
  rw [val_main_v11_apply, val_main_v8_apply, val_main_v4_apply, dot_at A q k hq hk, val_main_v3_apply, val_main_v7_apply, val_main_v6_apply, val_main_v5_apply,
    val_main_v10_apply, val_main_v9_apply, val_main_v5_apply, e7, e10, hc, hc, val_main_cst_apply]
  show (_ : EReal) * Ideal.ofBits .f32 1040187392#32 + (A.c i h : EReal) - (A.c j h : EReal) = _
  rw [eighth]
  rw [← EReal.coe_mul, ← EReal.coe_add, ← EReal.coe_sub]
  rfl

theorem mask_at (h : Fin 16) (i j : Fin 8208) : val_main_call0_v1 (F := Ideal) (ix3 h i j) = if j.val ≤ i.val then 1#1 else 0#1 := by
  rw [val_main_call0_v1_apply, val_main_v17_apply, val_main_v15_apply, val_main_v13_apply, val_main_v16_apply, val_main_v14_apply, val_main_v12_apply, val_main_v12_apply]
  show IntOp.cmpi .sle (BitVec.ofNat 32 j.val) (BitVec.ofNat 32 i.val) = _
  word_cmp
  by_cases hj : j.val ≤ i.val <;> simp [hj]

include hq hk hc in
/-- The masked scores. -/
theorem masked_at (h : Fin 16) (i j : Fin 8208) :
    val_main_v18 (F := Ideal) q k c (ix3 h i j) = if j.val ≤ i.val then (Spec.s A h i j : EReal) else ⊥ := by
  rw [val_main_v18_apply, mask_at, score_at A q k c hq hk hc, val_main_call0_v2_apply]
  by_cases hj : j.val ≤ i.val
  · rw [if_pos hj, if_pos hj]; rfl
  · rw [if_neg hj, if_neg hj]; exact negInf

theorem top_at (x : FVec Ideal S16x8208x8208 .f32) (h : Fin 16) (i : Fin 8208) :
    (Host.reduce FloatOps.maximumf x (constant S_ .f32 0xFF800000#32) reducesTo_S16x8208x8208_S16x8208_d2 h_S_ : FVec Ideal S16x8208 .f32) (ix2 h i)
      = Finset.fold max (Ideal.ofBits FTy.f32 4286578688#32) (fun j => x (ix3 h i j)) Finset.univ := by
  pointwise

include hq hk hc in
/-- The row maximum is real. -/
theorem top_real (h : Fin 16) (i : Fin 8208) : ∃ M : ℝ, val_main_v19 (F := Ideal) q k c (ix2 h i) = (M : EReal) := by
  have hs := masked_at A q k c hq hk hc
  obtain ⟨M, hM⟩ := Spec.fold_max_real (fun j => val_main_v18 (F := Ideal) q k c (ix3 h i j))
    (fun j => by rw [hs]; split; exact EReal.coe_ne_top _; exact bot_ne_top) i (by rw [hs, if_pos le_rfl]; exact EReal.coe_ne_bot _)
  refine ⟨M, (top_at _ h i).trans ?_⟩
  rw [negInf, hM]

theorem exp_shift (h : Fin 16) (i j : Fin 8208) (M : ℝ) :
    Ideal.exp ((if j.val ≤ i.val then (Spec.s A h i j : EReal) else ⊥) - (M : EReal)) = (Spec.e A h i j M : EReal) := by
  unfold Spec.e
  split
  · rw [← EReal.coe_sub, Ideal.exp_coe]
  · rw [EReal.bot_sub, Ideal.exp_bot, EReal.coe_zero]

theorem div_real (a b : ℝ) (hb : b ≠ 0) : Ideal.div (a : EReal) (b : EReal) = ((a / b : ℝ) : EReal) := by
  rw [Ideal.div_coe hb, ← EReal.coe_mul, mul_one_div]

variable (h : Fin 16) (i : Fin 8208) (M : ℝ) (hM : val_main_v19 (F := Ideal) q k c (ix2 h i) = (M : EReal))

include hq hk hc hM in
theorem exp_at (j : Fin 8208) : val_main_v23 (F := Ideal) q k c (ix3 h i j) = (Spec.e A h i j M : EReal) := by
  rw [val_main_v23_apply, val_main_v22_apply, masked_at A q k c hq hk hc, val_main_v21_apply, val_main_v20_apply, e21, hM]
  exact exp_shift A h i j M

include hq hk hc hM in
theorem tot_at : val_main_v24 (F := Ideal) q k c (ix2 h i) = (Spec.T A h i M : EReal) := by
  rw [val_main_v24_apply, Spec.T, ← coe_sum, val_main_cst_2_apply]
  refine (congrArg₂ (· + ·) (show (FloatOps.ofBits .f32 0x00000000#32 : Ideal .f32) = (0 : EReal) from Ideal.ofBits_zero .f32) (Finset.sum_congr rfl fun j _ => ?_)).trans (zero_add _)
  rw [e24]
  exact exp_at A q k c hq hk hc h i M hM j

include hq hk hc hM in
theorem weight_at (j : Fin 8208) : val_main_v27 (F := Ideal) q k c (ix3 h i j) = (Spec.p A h i j : EReal) := by
  rw [val_main_v27_apply, exp_at A q k c hq hk hc h i M hM, val_main_v26_apply, val_main_v25_apply, e26,
    tot_at A q k c hq hk hc h i M hM]
  show Ideal.div (Spec.e A h i j M : EReal) (Spec.T A h i M : EReal) = _
  rw [div_real _ _ (Spec.T_pos A h i _).ne', Spec.e_div_T]

end Stages

section Results
variable (A : Args) (q k v : FVec Ideal S8208x1024 .f32) (c : FVec Ideal S8208x16 .f32)
  (hq : ∀ i y, q (ix2 i y) = (A.q i y : EReal)) (hk : ∀ i y, k (ix2 i y) = (A.k i y : EReal))
  (hv : ∀ i y, v (ix2 i y) = (A.v i y : EReal)) (hc : ∀ i h, c (ix2 i h) = (A.c i h : EReal))
include hq hk hc

/-- The output is the mean of the values under the weights, -/
theorem res_o (hv : ∀ i y, v (ix2 i y) = (A.v i y : EReal)) (i : Fin 8208) (y : Fin 1024) :
    val_main_v31 (F := Ideal) q k v c (ix2 i y)
      = ((∑ j : Fin 8208, Spec.p A (Spec.hd y) i j * A.v j (col (Spec.hd y) (Spec.ld y)) : ℝ) : EReal) := by
  obtain ⟨M, hM⟩ := top_real A q k c hq hk hc (Spec.hd y) i
  rw [val_main_v31_apply, e31, val_main_v30_apply, val_main_v29_apply, ← coe_sum]
  refine Finset.sum_congr rfl fun j _ => ?_
  rw [e28, e29, val_main_v28_apply, weight_at A q k c hq hk hc (Spec.hd y) i M hM j, show idx_main_v28 (ix3 j (Spec.hd y) (Spec.ld y)) = _ from e0 _ _ _, hv,
    ← EReal.coe_mul, mul_comm]

/-- and the second result the log of their denominator. -/
theorem res_lse (i : Fin 8208) (h : Fin 16) : val_main_v34 (F := Ideal) q k c (ix2 i h) = (Real.log (Spec.Z A h i) : EReal) := by
  obtain ⟨M, hM⟩ := top_real A q k c hq hk hc h i
  rw [val_main_v34_apply, e34, val_main_v33_apply, hM, val_main_v32_apply, tot_at A q k c hq hk hc h i M hM]
  show (M : EReal) + Ideal.log (Spec.T A h i M : EReal) = _
  rw [Ideal.log_coe, if_neg (Spec.T_pos A h i M).not_ge, ← EReal.coe_add, Spec.shift_log]

end Results

end Cert.Reference16Ideal.Fwd
-- ==== Proof.Fwd.Finite.lean ====
module

public import proofs.«01_k».proof.Pre_finite_fwd
public import proofs.«01_k».proof.Proof.Gen.Pre_finite_fwd
public import proofs.«01_k».proof.Proof.Attn.Finite

@[expose] public section

set_option maxRecDepth 16384

noncomputable section

namespace Cert.Pre_finite_fwd

open Idealize.ShloMosaic Idealize.ShloMosaic.Tactic
open Cert.Spec (Args)
open Cert.Pre_finite (real_of_all both)

/-! # The forward pass's precondition read back -/

/-- The arguments as real numbers; the forward pass takes no cotangent. -/
def args (q k v : FVec Ideal S8208x1024 .f32) (c : FVec Ideal S8208x16 .f32) : Args where
  q i y := EReal.toReal (q (ix2 i y))
  k i y := EReal.toReal (k (ix2 i y))
  v i y := EReal.toReal (v (ix2 i y))
  c i h := EReal.toReal (c (ix2 i h))
  w _ _ := 0

theorem real_args (q k v : FVec Ideal S8208x1024 .f32) (c : FVec Ideal S8208x16 .f32)
    (h : fn (F := Ideal) q k v c = fun _ => 1#1) :
    (∀ i, q i = ((show EReal from q i).toReal : EReal)) ∧ (∀ i, k i = ((show EReal from k i).toReal : EReal)) ∧ (∀ i, v i = ((show EReal from v i).toReal : EReal))
      ∧ (∀ i, c i = ((show EReal from c i).toReal : EReal)) := by
  have h0 := congrFun h ix0
  dsimp only [fn, fn_part1] at h0
  obtain ⟨h1, hc⟩ := both _ _ h0
  obtain ⟨h2, hv⟩ := both _ _ h1
  obtain ⟨hq, hk⟩ := both _ _ h2
  exact ⟨real_of_all q _ _ hq, real_of_all k _ _ hk, real_of_all v _ _ hv, real_of_all c _ _ hc⟩

end Cert.Pre_finite_fwd
-- ==== Proof.lean ====
module

public import proofs.«01_k».proof.Defs
public import proofs.«01_k».proof.Proof.Bits.Run
public import proofs.«01_k».proof.Proof.Attn.Run
public import proofs.«01_k».proof.Proof.Ref.Value
public import proofs.«01_k».proof.Proof.Attn.Value
public import proofs.«01_k».proof.Proof.Attn.Finite
public import proofs.«01_k».proof.Proof.Prod.DWDown
public import proofs.«01_k».proof.Proof.Prod.DWUp
public import proofs.«01_k».proof.Proof.Prod.DAct
public import proofs.«01_k».proof.Proof.Prod.DB
public import proofs.«01_k».proof.Proof.Prod.DW
public import proofs.«01_k».proof.Proof.Prod.DA
public import proofs.«01_k».proof.Proof.Prod.DGo
public import proofs.«01_k».proof.Proof.Prod.DWOut
public import proofs.«01_k».proof.Proof.Prod.Up
public import proofs.«01_k».proof.Proof.Prod.Down
public import proofs.«01_k».proof.Proof.Prod.Proj
public import proofs.«01_k».proof.Proof.Prod.Out
public import proofs.«01_k».proof.Proof.Prod.DADelta
public import proofs.«01_k».proof.Proof.Prod.ProjDelta
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gate.Geglu
public import proofs.«01_k».proof.Proof.Gate.Cumsum
public import proofs.«01_k».proof.Proof.Gen.Kernel17.Frame
public import proofs.«01_k».proof.Proof.Gen.Kernel18.Frame
public import proofs.«01_k».proof.Proof.Gate.Conv
public import proofs.«01_k».proof.Proof.Prod.DW2
public import proofs.«01_k».proof.Proof.Gen.Kernel20.Frame
public import proofs.«01_k».proof.Proof.Prod.DA0
public import proofs.«01_k».proof.Proof.Gen.Kernel21.Frame
public import proofs.«01_k».proof.Proof.Prod.Fl
public import proofs.«01_k».proof.Proof.Gen.Kernel22.Frame
public import proofs.«01_k».proof.Proof.Gate.CumsumFwd
public import proofs.«01_k».proof.Proof.Gen.Kernel23.Frame
public import proofs.«01_k».proof.Proof.Gate.NormBwd
public import proofs.«01_k».proof.Proof.Gen.Kernel25.Frame
public import proofs.«01_k».proof.Proof.Gate.Norm
public import proofs.«01_k».proof.Proof.Gen.Kernel26.Frame
public import proofs.«01_k».proof.Proof.Gate.Resid
public import proofs.«01_k».proof.Proof.Gen.Kernel27.Frame
public import proofs.«01_k».proof.Proof.Gate.Mix
public import proofs.«01_k».proof.Proof.Gen.Kernel28.Frame
public import proofs.«01_k».proof.Proof.Gate.MixFwd
public import proofs.«01_k».proof.Proof.Gen.Kernel29.Frame
public import proofs.«01_k».proof.Proof.Gate.ResidFwd
public import proofs.«01_k».proof.Proof.Gen.Kernel30.Frame
public import proofs.«01_k».proof.Proof.Gate.Act
public import proofs.«01_k».proof.Proof.Gen.Kernel24.Frame
public import proofs.«01_k».proof.Proof.Gen.Kernel19.Frame
public import proofs.«01_k».proof.Proof.Fwd.Host
public import proofs.«01_k».proof.Proof.Fwd.Reference
public import proofs.«01_k».proof.Proof.Fwd.Finite
public import Idealize.ShloMosaic.Adequacy
public import Idealize.ShloMosaic.Init

@[expose] public section

set_option maxRecDepth 16384

noncomputable section

namespace Cert.Proof

open Idealize.ShloMosaic Idealize.SL.Sem Cert.Kernel

section Equal
variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)

/-- The real numbers the kernel's arguments hold on a core. -/
def numbers (c : Dev KernelIdeal.nD) : Cert.Spec.Args :=
  Pre_finite.args (m ((c.tc : Thread KernelIdeal.nD KernelIdeal.τ).loc KernelIdeal.main_arg0))
    (m ((c.tc : Thread KernelIdeal.nD KernelIdeal.τ).loc KernelIdeal.main_arg1))
    (m ((c.tc : Thread KernelIdeal.nD KernelIdeal.τ).loc KernelIdeal.main_arg2))
    (m ((c.tc : Thread KernelIdeal.nD KernelIdeal.τ).loc KernelIdeal.main_arg3))
    (m ((c.tc : Thread KernelIdeal.nD KernelIdeal.τ).loc KernelIdeal.main_arg4))

theorem kernel_holds (hpre : Cert.Pre_KernelIdeal_finite (hPre_finite := Pre_finite.Gen.facts) m) (c : Dev KernelIdeal.nD) :
    KernelIdeal.Attn.Holds (numbers m c) (KernelIdeal.Attn.launched m c) := by
  obtain ⟨hq, hk, hv, hc, hw⟩ := Pre_finite.real_args _ _ _ _ _ (hpre c)
  exact ⟨fun i y => hq (ix2 i y), fun i y => hk (ix2 i y), fun i y => hv (ix2 i y), fun i h => hc (ix2 i h), fun i y => hw (ix2 i y)⟩

theorem reference_holds (hpre : Cert.Pre_KernelIdeal_finite (hPre_finite := Pre_finite.Gen.facts) m) (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4)) :
    ReferenceIdeal.Attn.Holds (numbers m c) (ReferenceIdeal.Attn.σ0 m' c) := by
  obtain ⟨hq, hk, hv, hc, hw⟩ := Pre_finite.real_args _ _ _ _ _ (hpre c)
  exact ⟨fun i y => (congrFun h0 (ix2 i y)).trans (hq (ix2 i y)), fun i y => (congrFun h1 (ix2 i y)).trans (hk (ix2 i y)),
    fun i y => (congrFun h2 (ix2 i y)).trans (hv (ix2 i y)), fun i h => (congrFun h3 (ix2 i h)).trans (hc (ix2 i h)),
    fun i y => (congrFun h4 (ix2 i y)).trans (hw (ix2 i y))⟩

/-- Two matrices that hold the same real numbers are equal. -/
theorem same {a b : Nat} (x y : FVec Ideal ⟨2, ![a, b]⟩ .f32) (f : Fin a → Fin b → ℝ) (hx : ∀ i j, x (ix2 i j) = (f i j : EReal)) (hy : ∀ i j, y (ix2 i j) = (f i j : EReal)) : x = y :=
  funext fun z => by rw [eq_ix2 z]; exact (hx _ _).trans (hy _ _).symm

end Equal

/-- On finite arguments the kernel's four gradients are the reference's. -/
theorem algebraic : Cert.algebraic_KernelIdeal_ReferenceIdeal_pre_finite (hKernelIdeal := KernelIdeal.Gen.facts)
    (hReferenceIdeal := ReferenceIdeal.Gen.facts) (hPre_finite := Pre_finite.Gen.facts) := by
  intro m g m' g' hpre hargs
  have hK := kernel_holds m hpre
  have hR : ∀ c, ReferenceIdeal.Attn.Holds (numbers m c) (ReferenceIdeal.Attn.σ0 m' c) := fun c =>
    reference_holds m m' hpre c (hargs c).1 (hargs c).2.1 (hargs c).2.2.1 (hargs c).2.2.2.1 (hargs c).2.2.2.2
  have e_dq : ∀ c, (show FVec Ideal ⟨2, ![8208, 1024]⟩ .f32 from ReferenceIdeal.Attn.σ5 m' c (Proc.devRef .tc ReferenceIdeal.main_v86))
      = (show FVec Ideal ⟨2, ![8208, 1024]⟩ .f32 from StableHlo.after KernelIdeal.Gen.hostOps1 (KernelIdeal.Attn.left m c) (Proc.devRef .tc KernelIdeal.main_v135)) :=
    fun c => same _ _ _ (ReferenceIdeal.Attn.res_dq m' c _ (hR c)) (KernelIdeal.Attn.res_dq m c _ (hK c))
  have e_dk : ∀ c, (show FVec Ideal ⟨2, ![8208, 1024]⟩ .f32 from ReferenceIdeal.Attn.σ5 m' c (Proc.devRef .tc ReferenceIdeal.main_v85))
      = (show FVec Ideal ⟨2, ![8208, 1024]⟩ .f32 from StableHlo.after KernelIdeal.Gen.hostOps1 (KernelIdeal.Attn.left m c) (Proc.devRef .tc KernelIdeal.main_v137)) :=
    fun c => same _ _ _ (ReferenceIdeal.Attn.res_dk m' c _ (hR c)) (KernelIdeal.Attn.res_dk m c _ (hK c))
  have e_dv : ∀ c, (show FVec Ideal ⟨2, ![8208, 1024]⟩ .f32 from ReferenceIdeal.Attn.σ5 m' c (Proc.devRef .tc ReferenceIdeal.main_v56))
      = (show FVec Ideal ⟨2, ![8208, 1024]⟩ .f32 from StableHlo.after KernelIdeal.Gen.hostOps1 (KernelIdeal.Attn.left m c) (Proc.devRef .tc KernelIdeal.main_v139)) :=
    fun c => same _ _ _ (ReferenceIdeal.Attn.res_dv m' c _ (hR c)) (KernelIdeal.Attn.res_dv m c _ (hK c))
  have e_dc : ∀ c, (show FVec Ideal ⟨2, ![8208, 16]⟩ .f32 from ReferenceIdeal.Attn.σ5 m' c (Proc.devRef .tc ReferenceIdeal.main_v78))
      = (show FVec Ideal ⟨2, ![8208, 16]⟩ .f32 from StableHlo.after KernelIdeal.Gen.hostOps1 (KernelIdeal.Attn.left m c) (Proc.devRef .tc KernelIdeal.main_v131)) :=
    fun c => same _ _ _ (ReferenceIdeal.Attn.res_dc m' c _ (hR c)) (KernelIdeal.Attn.res_dc m c _ (hK c))
  refine ⟨fun c => StableHlo.after KernelIdeal.Gen.hostOps1 (KernelIdeal.Attn.left m c) (Proc.devRef .tc KernelIdeal.main_v135),
    fun c => StableHlo.after KernelIdeal.Gen.hostOps1 (KernelIdeal.Attn.left m c) (Proc.devRef .tc KernelIdeal.main_v137),
    fun c => StableHlo.after KernelIdeal.Gen.hostOps1 (KernelIdeal.Attn.left m c) (Proc.devRef .tc KernelIdeal.main_v139),
    fun c => StableHlo.after KernelIdeal.Gen.hostOps1 (KernelIdeal.Attn.left m c) (Proc.devRef .tc KernelIdeal.main_v131), ?_, ?_⟩
  · refine (θ_run _ _ _).mono (fun r h c => ?_) (θ_run_and (KernelIdeal.Attn.run_results m g) (KernelIdeal.Attn.frame m g))
    exact ⟨(h.1 c).1, (h.1 c).2.1, (h.1 c).2.2.1, (h.1 c).2.2.2, h.2.1 c⟩
  · refine (θ_run _ _ _).mono (fun r h c => ?_) (θ_run_and (ReferenceIdeal.Attn.run m' g') (ReferenceIdeal.Attn.frame m' g'))
    exact ⟨(h.1 c ReferenceIdeal.main_v86).trans (e_dq c),
      (h.1 c ReferenceIdeal.main_v85).trans (e_dk c),
      (h.1 c ReferenceIdeal.main_v56).trans (e_dv c),
      (h.1 c ReferenceIdeal.main_v78).trans (e_dc c), h.2.1 c⟩

section Forward
variable (m : (ℓ : Loc Kernel16Ideal.nD Kernel16Ideal.τ Kernel16Ideal.sig) → Buf (Elt Ideal) ℓ)

/-- The real numbers the forward pass's arguments hold on a core. -/
def numbersFwd (c : Dev Kernel16Ideal.nD) : Cert.Spec.Args :=
  Pre_finite_fwd.args (m ((c.tc : Thread Kernel16Ideal.nD Kernel16Ideal.τ).loc Kernel16Ideal.main_arg0))
    (m ((c.tc : Thread Kernel16Ideal.nD Kernel16Ideal.τ).loc Kernel16Ideal.main_arg1))
    (m ((c.tc : Thread Kernel16Ideal.nD Kernel16Ideal.τ).loc Kernel16Ideal.main_arg2))
    (m ((c.tc : Thread Kernel16Ideal.nD Kernel16Ideal.τ).loc Kernel16Ideal.main_arg3))

theorem forward_holds (hpre : Cert.Pre_Kernel16Ideal_finite_fwd (hPre_finite_fwd := Pre_finite_fwd.Gen.facts) m) (c : Dev Kernel16Ideal.nD) :
    Kernel16Ideal.Fwd.Holds (numbersFwd m c) (Kernel16Ideal.Fwd.launched m c) := by
  obtain ⟨hq, hk, hv, hc⟩ := Pre_finite_fwd.real_args _ _ _ _ (hpre c)
  exact ⟨fun i y => hq (ix2 i y), fun i y => hk (ix2 i y), fun i y => hv (ix2 i y), fun i h => hc (ix2 i h)⟩

end Forward

/-- On finite arguments the forward pass's output and log-sum-exp are the reference's. -/
theorem forward : Cert.algebraic_Kernel16Ideal_Reference16Ideal_pre_finite_fwd (hKernel16Ideal := Kernel16Ideal.Gen.facts)
    (hReference16Ideal := Reference16Ideal.Gen.facts) (hPre_finite_fwd := Pre_finite_fwd.Gen.facts) := by
  intro m g m' g' hpre hargs
  have hK := forward_holds m hpre
  have hR := fun c => Pre_finite_fwd.real_args _ _ _ _ (hpre c)
  have e_o : ∀ c, (show FVec Ideal ⟨2, ![8208, 1024]⟩ .f32 from Reference16Ideal.Value.res_main_v31 m' c)
      = (show FVec Ideal ⟨2, ![8208, 1024]⟩ .f32 from StableHlo.after Kernel16Ideal.Gen.hostOps1 (Kernel16Ideal.Fwd.left m c) (Proc.devRef .tc Kernel16Ideal.main_v54)) := fun c => by
    refine same _ _ _ (fun i y => ?_) (Kernel16Ideal.Fwd.res_o m c _ (hK c))
    rw [Reference16Ideal.Read.val_main_v31_eq, (hargs c).1, (hargs c).2.1, (hargs c).2.2.1, (hargs c).2.2.2]
    exact Reference16Ideal.Fwd.res_o (numbersFwd m c) _ _ _ _ (fun _ _ => (hR c).1 _) (fun _ _ => (hR c).2.1 _) (fun _ _ => (hR c).2.2.2 _) (fun _ _ => (hR c).2.2.1 _) i y
  have e_lse : ∀ c, (show FVec Ideal ⟨2, ![8208, 16]⟩ .f32 from Reference16Ideal.Value.res_main_v34 m' c)
      = (show FVec Ideal ⟨2, ![8208, 16]⟩ .f32 from StableHlo.after Kernel16Ideal.Gen.hostOps1 (Kernel16Ideal.Fwd.left m c) (Proc.devRef .tc Kernel16Ideal.main_v56)) := fun c => by
    refine same _ _ _ (fun i h => ?_) (Kernel16Ideal.Fwd.res_lse m c _ (hK c))
    rw [Reference16Ideal.Read.val_main_v34_eq, (hargs c).1, (hargs c).2.1, (hargs c).2.2.2]
    exact Reference16Ideal.Fwd.res_lse (numbersFwd m c) _ _ _ (fun _ _ => (hR c).1 _) (fun _ _ => (hR c).2.1 _) (fun _ _ => (hR c).2.2.2 _) i h
  refine ⟨fun c => StableHlo.after Kernel16Ideal.Gen.hostOps1 (Kernel16Ideal.Fwd.left m c) (Proc.devRef .tc Kernel16Ideal.main_v54),
    fun c => StableHlo.after Kernel16Ideal.Gen.hostOps1 (Kernel16Ideal.Fwd.left m c) (Proc.devRef .tc Kernel16Ideal.main_v56), ?_, ?_⟩
  · refine (θ_run _ _ _).mono (fun r h c => ?_) (θ_run_and (Kernel16Ideal.Fwd.run_results m g) (Kernel16Ideal.Gen.frame m g))
    exact ⟨(h.1 c).1, (h.1 c).2, h.2.1 c⟩
  · refine (θ_run _ _ _).mono (fun r h c => ?_) (Reference16Ideal.Value.run m' g')
    exact ⟨(h c).1.trans (e_o c), (h c).2.1.trans (e_lse c), (h c).2.2⟩

/-- For each program the three frames, the kernel over the extended reals as the kernel, and the equality of the results. -/
theorem claim : Cert.Claim := ⟨Kernel.Gen.facts, KernelIdeal.Gen.facts, ReferenceIdeal.Gen.facts,
  Kernel2.Gen.facts, Kernel2Ideal.Gen.facts, Reference2Ideal.Gen.facts,
  Kernel3.Gen.facts, Kernel3Ideal.Gen.facts, Reference3Ideal.Gen.facts,
  Kernel4.Gen.facts, Kernel4Ideal.Gen.facts, Reference4Ideal.Gen.facts,
  Kernel5.Gen.facts, Kernel5Ideal.Gen.facts, Reference5Ideal.Gen.facts,
  Kernel6.Gen.facts, Kernel6Ideal.Gen.facts, Reference6Ideal.Gen.facts,
  Kernel7.Gen.facts, Kernel7Ideal.Gen.facts, Reference7Ideal.Gen.facts,
  Kernel8.Gen.facts, Kernel8Ideal.Gen.facts, Reference8Ideal.Gen.facts,
  Kernel9.Gen.facts, Kernel9Ideal.Gen.facts, Reference9Ideal.Gen.facts,
  Kernel10.Gen.facts, Kernel10Ideal.Gen.facts, Reference10Ideal.Gen.facts,
  Kernel11.Gen.facts, Kernel11Ideal.Gen.facts, Reference11Ideal.Gen.facts,
  Kernel12.Gen.facts, Kernel12Ideal.Gen.facts, Reference12Ideal.Gen.facts,
  Kernel13.Gen.facts, Kernel13Ideal.Gen.facts, Reference13Ideal.Gen.facts,
  Kernel14.Gen.facts, Kernel14Ideal.Gen.facts, Reference14Ideal.Gen.facts,
  Kernel15.Gen.facts, Kernel15Ideal.Gen.facts, Reference15Ideal.Gen.facts,
  Kernel16.Gen.facts, Kernel16Ideal.Gen.facts, Reference16Ideal.Gen.facts,
  Kernel17.Gen.facts, Kernel17Ideal.Gen.facts, Reference17Ideal.Gen.facts,
  Kernel18.Gen.facts, Kernel18Ideal.Gen.facts, Reference18Ideal.Gen.facts,
  Kernel19.Gen.facts, Kernel19Ideal.Gen.facts, Reference19Ideal.Gen.facts,
  Kernel20.Gen.facts, Kernel20Ideal.Gen.facts, Reference20Ideal.Gen.facts,
  Kernel21.Gen.facts, Kernel21Ideal.Gen.facts, Reference21Ideal.Gen.facts,
  Kernel22.Gen.facts, Kernel22Ideal.Gen.facts, Reference22Ideal.Gen.facts,
  Kernel23.Gen.facts, Kernel23Ideal.Gen.facts, Reference23Ideal.Gen.facts,
  Kernel24.Gen.facts, Kernel24Ideal.Gen.facts, Reference24Ideal.Gen.facts,
  Kernel25.Gen.facts, Kernel25Ideal.Gen.facts, Reference25Ideal.Gen.facts,
  Kernel26.Gen.facts, Kernel26Ideal.Gen.facts, Reference26Ideal.Gen.facts,
  Kernel27.Gen.facts, Kernel27Ideal.Gen.facts, Reference27Ideal.Gen.facts,
  Kernel28.Gen.facts, Kernel28Ideal.Gen.facts, Reference28Ideal.Gen.facts,
  Kernel29.Gen.facts, Kernel29Ideal.Gen.facts, Reference29Ideal.Gen.facts,
  Kernel30.Gen.facts, Kernel30Ideal.Gen.facts, Reference30Ideal.Gen.facts,
  Pre_finite.Gen.facts, Pre_finite_fwd.Gen.facts,
  fun m ρ _ => Kernel.Attn.frame m ρ,
  fun m ρ _ => KernelIdeal.Attn.frame m ρ,
  fun m ρ _ => KernelIdeal.Attn.frame m ρ,
  fun m ρ _ => ReferenceIdeal.Attn.frame m ρ,
  fun m ρ _ => ReferenceIdeal.Attn.frame m ρ,
  fun m ρ _ => Kernel2.Gen.frame m ρ, fun m ρ _ => Kernel2Ideal.Gen.frame m ρ,
  fun m ρ _ => (θ_run _ _ _).mono (fun r h => ⟨fun c => (h c).2, sem_eq_zero_of_no_sems (by decide) r.2⟩) (Reference2Ideal.Value.run m ρ),
  fun m ρ _ => Kernel3.Gen.frame m ρ, fun m ρ _ => Kernel3Ideal.Gen.frame m ρ,
  fun m ρ _ => (θ_run _ _ _).mono (fun r h => ⟨fun c => (h c).2, sem_eq_zero_of_no_sems (by decide) r.2⟩) (Reference3Ideal.Value.run m ρ),
  fun m ρ _ => Kernel4.Gen.frame m ρ, fun m ρ _ => Kernel4Ideal.Gen.frame m ρ,
  fun m ρ _ => (θ_run _ _ _).mono (fun r h => ⟨fun c => (h c).2, sem_eq_zero_of_no_sems (by decide) r.2⟩) (Reference4Ideal.Value.run m ρ),
  fun m ρ _ => Kernel5.Gen.frame m ρ, fun m ρ _ => Kernel5Ideal.Gen.frame m ρ,
  fun m ρ _ => (θ_run _ _ _).mono (fun r h => ⟨fun c => (h c).2, sem_eq_zero_of_no_sems (by decide) r.2⟩) (Reference5Ideal.Value.run m ρ),
  fun m ρ _ => Kernel6.Gen.frame m ρ, fun m ρ _ => Kernel6Ideal.Gen.frame m ρ,
  fun m ρ _ => (θ_run _ _ _).mono (fun r h => ⟨fun c => (h c).2, sem_eq_zero_of_no_sems (by decide) r.2⟩) (Reference6Ideal.Value.run m ρ),
  fun m ρ _ => Kernel7.Gen.frame m ρ, fun m ρ _ => Kernel7Ideal.Gen.frame m ρ,
  fun m ρ _ => (θ_run _ _ _).mono (fun r h => ⟨fun c => (h c).2, sem_eq_zero_of_no_sems (by decide) r.2⟩) (Reference7Ideal.Value.run m ρ),
  fun m ρ _ => Kernel8.Gen.frame m ρ, fun m ρ _ => Kernel8Ideal.Gen.frame m ρ,
  fun m ρ _ => (θ_run _ _ _).mono (fun r h => ⟨fun c => (h c).2, sem_eq_zero_of_no_sems (by decide) r.2⟩) (Reference8Ideal.Value.run m ρ),
  fun m ρ _ => Kernel9.Gen.frame m ρ, fun m ρ _ => Kernel9Ideal.Gen.frame m ρ,
  fun m ρ _ => (θ_run _ _ _).mono (fun r h => ⟨fun c => (h c).2, sem_eq_zero_of_no_sems (by decide) r.2⟩) (Reference9Ideal.Value.run m ρ),
  fun m ρ _ => Kernel10.Gen.frame m ρ, fun m ρ _ => Kernel10Ideal.Gen.frame m ρ,
  fun m ρ _ => (θ_run _ _ _).mono (fun r h => ⟨fun c => (h c).2, sem_eq_zero_of_no_sems (by decide) r.2⟩) (Reference10Ideal.Value.run m ρ),
  fun m ρ _ => Kernel11.Gen.frame m ρ, fun m ρ _ => Kernel11Ideal.Gen.frame m ρ,
  fun m ρ _ => (θ_run _ _ _).mono (fun r h => ⟨fun c => (h c).2, sem_eq_zero_of_no_sems (by decide) r.2⟩) (Reference11Ideal.Value.run m ρ),
  fun m ρ _ => Kernel12.Gen.frame m ρ, fun m ρ _ => Kernel12Ideal.Gen.frame m ρ,
  fun m ρ _ => (θ_run _ _ _).mono (fun r h => ⟨fun c => (h c).2, sem_eq_zero_of_no_sems (by decide) r.2⟩) (Reference12Ideal.Value.run m ρ),
  fun m ρ _ => Kernel13.Gen.frame m ρ, fun m ρ _ => Kernel13Ideal.Gen.frame m ρ,
  fun m ρ _ => (θ_run _ _ _).mono (fun r h => ⟨fun c => (h c).2, sem_eq_zero_of_no_sems (by decide) r.2⟩) (Reference13Ideal.Value.run m ρ),
  fun m ρ _ => Kernel14.Gen.frame m ρ, fun m ρ _ => Kernel14Ideal.Gen.frame m ρ,
  fun m ρ _ => (θ_run _ _ _).mono (fun r h => ⟨fun c => (h c).2, sem_eq_zero_of_no_sems (by decide) r.2⟩) (Reference14Ideal.Value.run m ρ),
  fun m ρ _ => Kernel15.Gen.frame m ρ, fun m ρ _ => Kernel15Ideal.Gen.frame m ρ,
  fun m ρ _ => (θ_run _ _ _).mono (fun r h => ⟨fun c => (h c).2, sem_eq_zero_of_no_sems (by decide) r.2⟩) (Reference15Ideal.Value.run m ρ),
  fun m ρ _ => Kernel16.Gen.frame m ρ,
  fun m ρ _ => Kernel16Ideal.Gen.frame m ρ,
  fun m ρ _ => Kernel16Ideal.Gen.frame m ρ,
  fun m ρ _ => Reference16Ideal.Fwd.frame m ρ,
  fun m ρ _ => Reference16Ideal.Fwd.frame m ρ,
  fun m ρ _ => Kernel17.Gen.frame m ρ, fun m ρ _ => Kernel17Ideal.Gen.frame m ρ,
  fun m ρ _ => (θ_run _ _ _).mono (fun r h => ⟨fun c => (h c).2, sem_eq_zero_of_no_sems (by decide) r.2⟩) (Reference17Ideal.Value.run m ρ),
  fun m ρ _ => Kernel18.Gen.frame m ρ, fun m ρ _ => Kernel18Ideal.Gen.frame m ρ,
  fun m ρ _ => (θ_run _ _ _).mono (fun r h => ⟨fun c => (h c).2.2, sem_eq_zero_of_no_sems (by decide) r.2⟩) (Reference18Ideal.Value.run m ρ),
  fun m ρ _ => Kernel19.Gen.frame m ρ, fun m ρ _ => Kernel19Ideal.Gen.frame m ρ,
  fun m ρ _ => (θ_run _ _ _).mono (fun r h => ⟨fun c => (h c).2.2, sem_eq_zero_of_no_sems (by decide) r.2⟩) (Reference19Ideal.Value.run m ρ),
  fun m ρ _ => Kernel20.Gen.frame m ρ, fun m ρ _ => Kernel20Ideal.Gen.frame m ρ,
  fun m ρ _ => (θ_run _ _ _).mono (fun r h => ⟨fun c => (h c).2, sem_eq_zero_of_no_sems (by decide) r.2⟩) (Reference20Ideal.Value.run m ρ),
  fun m ρ _ => Kernel21.Gen.frame m ρ, fun m ρ _ => Kernel21Ideal.Gen.frame m ρ,
  fun m ρ _ => (θ_run _ _ _).mono (fun r h => ⟨fun c => (h c).2, sem_eq_zero_of_no_sems (by decide) r.2⟩) (Reference21Ideal.Value.run m ρ),
  fun m ρ _ => Kernel22.Gen.frame m ρ, fun m ρ _ => Kernel22Ideal.Gen.frame m ρ,
  fun m ρ _ => (θ_run _ _ _).mono (fun r h => ⟨fun c => (h c).2, sem_eq_zero_of_no_sems (by decide) r.2⟩) (Reference22Ideal.Value.run m ρ),
  fun m ρ _ => Kernel23.Gen.frame m ρ, fun m ρ _ => Kernel23Ideal.Gen.frame m ρ,
  fun m ρ _ => (θ_run _ _ _).mono (fun r h => ⟨fun c => (h c).2, sem_eq_zero_of_no_sems (by decide) r.2⟩) (Reference23Ideal.Value.run m ρ),
  fun m ρ _ => Kernel24.Gen.frame m ρ, fun m ρ _ => Kernel24Ideal.Gen.frame m ρ,
  fun m ρ _ => (θ_run _ _ _).mono (fun r h => ⟨fun c => (h c).2.2.2, sem_eq_zero_of_no_sems (by decide) r.2⟩) (Reference24Ideal.Value.run m ρ),
  fun m ρ _ => Kernel25.Gen.frame m ρ, fun m ρ _ => Kernel25Ideal.Gen.frame m ρ,
  fun m ρ _ => (θ_run _ _ _).mono (fun r h => ⟨fun c => (h c).2.2, sem_eq_zero_of_no_sems (by decide) r.2⟩) (Reference25Ideal.Value.run m ρ),
  fun m ρ _ => Kernel26.Gen.frame m ρ, fun m ρ _ => Kernel26Ideal.Gen.frame m ρ,
  fun m ρ _ => (θ_run _ _ _).mono (fun r h => ⟨fun c => (h c).2.2, sem_eq_zero_of_no_sems (by decide) r.2⟩) (Reference26Ideal.Value.run m ρ),
  fun m ρ _ => Kernel27.Gen.frame m ρ, fun m ρ _ => Kernel27Ideal.Gen.frame m ρ,
  fun m ρ _ => (θ_run _ _ _).mono (fun r h => ⟨fun c => (h c).2.2.2, sem_eq_zero_of_no_sems (by decide) r.2⟩) (Reference27Ideal.Value.run m ρ),
  fun m ρ _ => Kernel28.Gen.frame m ρ, fun m ρ _ => Kernel28Ideal.Gen.frame m ρ,
  fun m ρ _ => (θ_run _ _ _).mono (fun r h => ⟨fun c => (h c).2.2.2.2, sem_eq_zero_of_no_sems (by decide) r.2⟩) (Reference28Ideal.Value.run m ρ),
  fun m ρ _ => Kernel29.Gen.frame m ρ, fun m ρ _ => Kernel29Ideal.Gen.frame m ρ,
  fun m ρ _ => (θ_run _ _ _).mono (fun r h => ⟨fun c => (h c).2.2.2, sem_eq_zero_of_no_sems (by decide) r.2⟩) (Reference29Ideal.Value.run m ρ),
  fun m ρ _ => Kernel30.Gen.frame m ρ, fun m ρ _ => Kernel30Ideal.Gen.frame m ρ,
  fun m ρ _ => (θ_run _ _ _).mono (fun r h => ⟨fun c => (h c).2, sem_eq_zero_of_no_sems (by decide) r.2⟩) (Reference30Ideal.Value.run m ρ),
  IdealRules.named_const.statement KernelIdeal.κ "mask" .f32 0xF149F2CA#32 ⊥ rfl,
  algebraic,
  trivial, dwdown,
  trivial, dwup,
  trivial, dact,
  trivial, db,
  trivial, dw,
  trivial, da,
  trivial, dgo,
  trivial, dwout,
  trivial, up,
  trivial, down,
  trivial, proj,
  trivial, out,
  trivial, da_delta,
  trivial, proj_delta,
  IdealRules.named_const.statement Kernel16Ideal.κ "mask" .f32 0xF149F2CA#32 ⊥ rfl,
  forward,
  trivial, geglu,
  trivial, sums,
  trivial, convolution,
  trivial, dw2,
  trivial, da0,
  trivial, fl,
  trivial, running_sums,
  trivial, activation,
  trivial, norm_gradient,
  trivial, norm,
  trivial, residual_gradient,
  trivial, mix_gradient,
  trivial, mix,
  trivial, residual⟩

end Cert.Proof

end
